-- ==== Defs.lean ====
def Pre_Kernel (m : (ℓ : Loc Cert.Kernel.nD Cert.Kernel.τ Cert.Kernel.sig) → Buf (Elt Bits) ℓ) : Prop :=
  True

def Pre_Reference (m : (ℓ : Loc Cert.Reference.nD Cert.Reference.τ Cert.Reference.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14))
      ∧ r.2.sem = fun _ => 0)

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)) →
    ∃ (v0 : (c : Dev Cert.Kernel.nD) → Buf (Elt Bits) ((c.tc : Thread Cert.Kernel.nD Cert.Kernel.τ).loc Cert.Kernel.main_v0_0)) (v1 : (c : Dev Cert.Kernel.nD) → Buf (Elt Bits) ((c.tc : Thread Cert.Kernel.nD Cert.Kernel.τ).loc Cert.Kernel.main_v0_1)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0_0) = v0 c
          ∧ r.2.mem ((c.tc : Thread Cert.Kernel.nD Cert.Kernel.τ).loc Cert.Kernel.main_v0_1) = v1 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v0_0) = v0 c
          ∧ r.2.mem ((c.tc : Thread Cert.Reference.nD Cert.Reference.τ).loc Cert.Reference.main_v0_1) = v1 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v13)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v63) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v25) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)) →
    ∃ (v0 : (c : Dev Cert.Kernel4Ideal.nD) → Buf (Elt Ideal) ((c.tc : Thread Cert.Kernel4Ideal.nD Cert.Kernel4Ideal.τ).loc Cert.Kernel4Ideal.main_v68_0)) (v1 : (c : Dev Cert.Kernel4Ideal.nD) → Buf (Elt Ideal) ((c.tc : Thread Cert.Kernel4Ideal.nD Cert.Kernel4Ideal.τ).loc Cert.Kernel4Ideal.main_v68_1)) (v2 : (c : Dev Cert.Kernel4Ideal.nD) → Buf (Elt Ideal) ((c.tc : Thread Cert.Kernel4Ideal.nD Cert.Kernel4Ideal.τ).loc Cert.Kernel4Ideal.main_v68_2)) (v3 : (c : Dev Cert.Kernel4Ideal.nD) → Buf (Elt Ideal) ((c.tc : Thread Cert.Kernel4Ideal.nD Cert.Kernel4Ideal.τ).loc Cert.Kernel4Ideal.main_v68_3)) (v4 : (c : Dev Cert.Kernel4Ideal.nD) → Buf (Elt Ideal) ((c.tc : Thread Cert.Kernel4Ideal.nD Cert.Kernel4Ideal.τ).loc Cert.Kernel4Ideal.main_v68_4)) (v5 : (c : Dev Cert.Kernel4Ideal.nD) → Buf (Elt Ideal) ((c.tc : Thread Cert.Kernel4Ideal.nD Cert.Kernel4Ideal.τ).loc Cert.Kernel4Ideal.main_v68_5)) (v6 : (c : Dev Cert.Kernel4Ideal.nD) → Buf (Elt Ideal) ((c.tc : Thread Cert.Kernel4Ideal.nD Cert.Kernel4Ideal.τ).loc Cert.Kernel4Ideal.main_v68_6)) (v7 : (c : Dev Cert.Kernel4Ideal.nD) → Buf (Elt Ideal) ((c.tc : Thread Cert.Kernel4Ideal.nD Cert.Kernel4Ideal.τ).loc Cert.Kernel4Ideal.main_v68_7)) (v8 : (c : Dev Cert.Kernel4Ideal.nD) → Buf (Elt Ideal) ((c.tc : Thread Cert.Kernel4Ideal.nD Cert.Kernel4Ideal.τ).loc Cert.Kernel4Ideal.main_v68_8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v68_0) = v0 c
          ∧ r.2.mem ((c.tc : Thread Cert.Kernel4Ideal.nD Cert.Kernel4Ideal.τ).loc Cert.Kernel4Ideal.main_v68_1) = v1 c
          ∧ r.2.mem ((c.tc : Thread Cert.Kernel4Ideal.nD Cert.Kernel4Ideal.τ).loc Cert.Kernel4Ideal.main_v68_2) = v2 c
          ∧ r.2.mem ((c.tc : Thread Cert.Kernel4Ideal.nD Cert.Kernel4Ideal.τ).loc Cert.Kernel4Ideal.main_v68_3) = v3 c
          ∧ r.2.mem ((c.tc : Thread Cert.Kernel4Ideal.nD Cert.Kernel4Ideal.τ).loc Cert.Kernel4Ideal.main_v68_4) = v4 c
          ∧ r.2.mem ((c.tc : Thread Cert.Kernel4Ideal.nD Cert.Kernel4Ideal.τ).loc Cert.Kernel4Ideal.main_v68_5) = v5 c
          ∧ r.2.mem ((c.tc : Thread Cert.Kernel4Ideal.nD Cert.Kernel4Ideal.τ).loc Cert.Kernel4Ideal.main_v68_6) = v6 c
          ∧ r.2.mem ((c.tc : Thread Cert.Kernel4Ideal.nD Cert.Kernel4Ideal.τ).loc Cert.Kernel4Ideal.main_v68_7) = v7 c
          ∧ r.2.mem ((c.tc : Thread Cert.Kernel4Ideal.nD Cert.Kernel4Ideal.τ).loc Cert.Kernel4Ideal.main_v68_8) = v8 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v209) = v0 c
          ∧ r.2.mem ((c.tc : Thread Cert.Reference4Ideal.nD Cert.Reference4Ideal.τ).loc Cert.Reference4Ideal.main_v210) = v1 c
          ∧ r.2.mem ((c.tc : Thread Cert.Reference4Ideal.nD Cert.Reference4Ideal.τ).loc Cert.Reference4Ideal.main_v211) = v2 c
          ∧ r.2.mem ((c.tc : Thread Cert.Reference4Ideal.nD Cert.Reference4Ideal.τ).loc Cert.Reference4Ideal.main_v212) = v3 c
          ∧ r.2.mem ((c.tc : Thread Cert.Reference4Ideal.nD Cert.Reference4Ideal.τ).loc Cert.Reference4Ideal.main_v213) = v4 c
          ∧ r.2.mem ((c.tc : Thread Cert.Reference4Ideal.nD Cert.Reference4Ideal.τ).loc Cert.Reference4Ideal.main_v214) = v5 c
          ∧ r.2.mem ((c.tc : Thread Cert.Reference4Ideal.nD Cert.Reference4Ideal.τ).loc Cert.Reference4Ideal.main_v215) = v6 c
          ∧ r.2.mem ((c.tc : Thread Cert.Reference4Ideal.nD Cert.Reference4Ideal.τ).loc Cert.Reference4Ideal.main_v190) = v7 c
          ∧ r.2.mem ((c.tc : Thread Cert.Reference4Ideal.nD Cert.Reference4Ideal.τ).loc Cert.Reference4Ideal.main_v202) = v8 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14))

def Claim : Prop :=
  ∃ (hKernel : Cert.Kernel.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_Reference (hReference := hReference)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ bitexact_Kernel_Reference (hKernel := hKernel) (hReference := hReference)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S128x7168 : Shape := ⟨2, ![128, 7168]⟩
abbrev S128x2048 : Shape := ⟨2, ![128, 2048]⟩
abbrev S4x256x256 : Shape := ⟨3, ![4, 256, 256]⟩
abbrev S128x1024 : Shape := ⟨2, ![128, 1024]⟩
abbrev S1x4x256x256 : Shape := ⟨4, ![1, 4, 256, 256]⟩
abbrev S8x6x128x256 : Shape := ⟨4, ![8, 6, 128, 256]⟩
abbrev S32x128 : Shape := ⟨2, ![32, 128]⟩
abbrev S64x256 : Shape := ⟨2, ![64, 256]⟩
abbrev S256x256 : Shape := ⟨2, ![256, 256]⟩
abbrev S128x128 : Shape := ⟨2, ![128, 128]⟩
abbrev S1x256 : Shape := ⟨2, ![1, 256]⟩
abbrev S128x256 : Shape := ⟨2, ![128, 256]⟩
abbrev S64x128 : Shape := ⟨2, ![64, 128]⟩
abbrev S1x1x32x128 : Shape := ⟨4, ![1, 1, 32, 128]⟩
abbrev S1x1x128x256 : Shape := ⟨4, ![1, 1, 128, 256]⟩
abbrev S1x256x256 : Shape := ⟨3, ![1, 256, 256]⟩

abbrev nBuf : Space → Nat
  | .hbm => 5
  | .vmem => 7
  | .smem => 0
  | _ => 0

abbrev bufTy : (tb : Table) → Fin (tcTables nBuf tb) → BufTy
  | .hbm, ⟨0, _⟩ => ⟨S128x7168, .bf16⟩
  | .hbm, ⟨1, _⟩ => ⟨S128x2048, .bf16⟩
  | .hbm, ⟨2, _⟩ => ⟨S4x256x256, .f32⟩
  | .hbm, ⟨3, _⟩ => ⟨S128x1024, .bf16⟩
  | .hbm, ⟨4, _⟩ => ⟨S1x4x256x256, .f32⟩
  | .local _ .vmem, ⟨0, _⟩ => ⟨S128x7168, .bf16⟩
  | .local _ .vmem, ⟨1, _⟩ => ⟨S128x2048, .bf16⟩
  | .local _ .vmem, ⟨2, _⟩ => ⟨S4x256x256, .f32⟩
  | .local _ .vmem, ⟨3, _⟩ => ⟨S128x1024, .bf16⟩
  | .local _ .vmem, ⟨4, _⟩ => ⟨S1x4x256x256, .f32⟩
  | .local _ .vmem, ⟨5, _⟩ => ⟨S4x256x256, .f32⟩
  | .local _ .vmem, ⟨6, _⟩ => ⟨S8x6x128x256, .i32⟩
  | _, _ => ⟨S128x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [BitOps F]

abbrev grid0 : Pipeline.Grid := ⟨2, ![1, 1], ![false, false]⟩

def k0_cond3 (i : grid0.Coords) : BitVec 1 :=
  let arg1 : BitVec 32 := BitVec.ofNat 32 (i 1).val
  let c0_i32_2698 : BitVec 32 := 0#32
  let v4673 : BitVec 1 := Scalar.cmpi .eq arg1 c0_i32_2698
  let v4674 : BitVec 32 := Scalar.extui v4673
  let c0_i32_2699 : BitVec 32 := 0#32
  let v4675 : BitVec 1 := Scalar.cmpi .ne v4674 c0_i32_2699
  v4675

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .vmem S128x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S128x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S4x256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x4x256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]
-- ==== Reference.lean ====
abbrev S128x7168 : Shape := ⟨2, ![128, 7168]⟩
abbrev S128x2048 : Shape := ⟨2, ![128, 2048]⟩
abbrev S4x256x256 : Shape := ⟨3, ![4, 256, 256]⟩
abbrev S128x1024 : Shape := ⟨2, ![128, 1024]⟩
abbrev S1x4x256x256 : Shape := ⟨4, ![1, 4, 256, 256]⟩
abbrev S64x256 : Shape := ⟨2, ![64, 256]⟩
abbrev S256x256 : Shape := ⟨2, ![256, 256]⟩
abbrev S128x128 : Shape := ⟨2, ![128, 128]⟩
abbrev S1x256x256 : Shape := ⟨3, ![1, 256, 256]⟩
abbrev S1x256 : Shape := ⟨2, ![1, 256]⟩
abbrev S128x256 : Shape := ⟨2, ![128, 256]⟩
abbrev S1x1x256x256 : Shape := ⟨4, ![1, 1, 256, 256]⟩

abbrev nBuf : Space → Nat
  | .hbm => 5
  | .vmem => 5
  | .smem => 0
  | _ => 0

abbrev bufTy : (tb : Table) → Fin (tcTables nBuf tb) → BufTy
  | .hbm, ⟨0, _⟩ => ⟨S128x7168, .bf16⟩
  | .hbm, ⟨1, _⟩ => ⟨S128x2048, .bf16⟩
  | .hbm, ⟨2, _⟩ => ⟨S4x256x256, .f32⟩
  | .hbm, ⟨3, _⟩ => ⟨S128x1024, .bf16⟩
  | .hbm, ⟨4, _⟩ => ⟨S1x4x256x256, .f32⟩
  | .local _ .vmem, ⟨0, _⟩ => ⟨S128x7168, .bf16⟩
  | .local _ .vmem, ⟨1, _⟩ => ⟨S128x2048, .bf16⟩
  | .local _ .vmem, ⟨2, _⟩ => ⟨S4x256x256, .f32⟩
  | .local _ .vmem, ⟨3, _⟩ => ⟨S128x1024, .bf16⟩
  | .local _ .vmem, ⟨4, _⟩ => ⟨S1x4x256x256, .f32⟩
  | _, _ => ⟨S128x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S128x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x4x256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Kernel2.lean ====
abbrev S32768x1024 : Shape := ⟨2, ![32768, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S1024x5632 : Shape := ⟨2, ![1024, 5632]⟩
abbrev S2816x1024 : Shape := ⟨2, ![2816, 1024]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 26
  | .vmem => 19
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S32768x1024, .bf16⟩
  | .hbm, ⟨3, _⟩ => ⟨S32768x1024, .bf16⟩
  | .hbm, ⟨4, _⟩ => ⟨S32768x1024, .bf16⟩
  | .hbm, ⟨5, _⟩ => ⟨S1x1024x1024, .f32⟩
  | .hbm, ⟨6, _⟩ => ⟨S1x1024x1024, .f32⟩
  | .hbm, ⟨7, _⟩ => ⟨S1x1024x1024, .f32⟩
  | .hbm, ⟨8, _⟩ => ⟨S1x1024, .f32⟩
  | .hbm, ⟨9, _⟩ => ⟨S1x1024x5632, .f32⟩
  | .hbm, ⟨10, _⟩ => ⟨S1x2816x1024, .f32⟩
  | .hbm, ⟨11, _⟩ => ⟨S1024, .f32⟩
  | .hbm, ⟨12, _⟩ => ⟨S1024x5632, .f32⟩
  | .hbm, ⟨13, _⟩ => ⟨S1024x5632, .bf16⟩
  | .hbm, ⟨14, _⟩ => ⟨S2816x1024, .f32⟩
  | .hbm, ⟨15, _⟩ => ⟨S2816x1024, .bf16⟩
  | .hbm, ⟨16, _⟩ => ⟨S1024x1024, .f32⟩
  | .hbm, ⟨17, _⟩ => ⟨S1024x1024, .bf16⟩
  | .hbm, ⟨18, _⟩ => ⟨S1024x1024, .f32⟩
  | .hbm, ⟨19, _⟩ => ⟨S1024x1024, .bf16⟩
  | .hbm, ⟨20, _⟩ => ⟨S1024x1024, .f32⟩
  | .hbm, ⟨21, _⟩ => ⟨S1024x1024, .bf16⟩
  | .hbm, ⟨22, _⟩ => ⟨S1024, .f32⟩
  | .hbm, ⟨23, _⟩ => ⟨S1x1024, .f32⟩
  | .hbm, ⟨24, _⟩ => ⟨S1x1024, .f32⟩
  | .hbm, ⟨25, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x5632, .bf16⟩
  | .local _ .vmem, ⟨15, _⟩ => ⟨S2816x1024, .bf16⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x5632 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference2Ideal.lean ====
abbrev S32768x1024 : Shape := ⟨2, ![32768, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S_ : Shape := ⟨0, ![]⟩
abbrev S1024x1024 : Shape := ⟨2, ![1024, 1024]⟩
abbrev S32768 : Shape := ⟨1, ![32768]⟩
abbrev S32768x1 : Shape := ⟨2, ![32768, 1]⟩
abbrev S1024x5632 : Shape := ⟨2, ![1024, 5632]⟩
abbrev S2816x1024 : Shape := ⟨2, ![2816, 1024]⟩
abbrev S32768x5632 : Shape := ⟨2, ![32768, 5632]⟩
abbrev S32768x2816 : Shape := ⟨2, ![32768, 2816]⟩

abbrev nBuf : Space → Nat
  | .hbm => 95
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S32768x1024, .bf16⟩
  | .hbm, ⟨3, _⟩ => ⟨S32768x1024, .bf16⟩
  | .hbm, ⟨4, _⟩ => ⟨S32768x1024, .bf16⟩
  | .hbm, ⟨5, _⟩ => ⟨S1x1024x1024, .f32⟩
  | .hbm, ⟨6, _⟩ => ⟨S1x1024x1024, .f32⟩
  | .hbm, ⟨7, _⟩ => ⟨S1x1024x1024, .f32⟩
  | .hbm, ⟨8, _⟩ => ⟨S1x1024, .f32⟩
  | .hbm, ⟨9, _⟩ => ⟨S1x1024x5632, .f32⟩
  | .hbm, ⟨10, _⟩ => ⟨S1x2816x1024, .f32⟩
  | .hbm, ⟨11, _⟩ => ⟨S1024, .f32⟩
  | .hbm, ⟨12, _⟩ => ⟨S32768x1024, .f32⟩
  | .hbm, ⟨13, _⟩ => ⟨S32768x1024, .f32⟩
  | .hbm, ⟨14, _⟩ => ⟨S32768x1024, .f32⟩
  | .hbm, ⟨15, _⟩ => ⟨S32768x1024, .f32⟩
  | .hbm, ⟨16, _⟩ => ⟨S32768x1024, .f32⟩
  | .hbm, ⟨17, _⟩ => ⟨S32768x1024, .f32⟩
  | .hbm, ⟨18, _⟩ => ⟨S_, .f32⟩
  | .hbm, ⟨19, _⟩ => ⟨S32768x1024, .f32⟩
  | .hbm, ⟨20, _⟩ => ⟨S32768x1024, .f32⟩
  | .hbm, ⟨21, _⟩ => ⟨S_, .f32⟩
  | .hbm, ⟨22, _⟩ => ⟨S32768x1024, .f32⟩
  | .hbm, ⟨23, _⟩ => ⟨S32768x1024, .f32⟩
  | .hbm, ⟨24, _⟩ => ⟨S1024x1024, .f32⟩
  | .hbm, ⟨25, _⟩ => ⟨S32768x1024, .f32⟩
  | .hbm, ⟨26, _⟩ => ⟨S32768x1024, .f32⟩
  | .hbm, ⟨27, _⟩ => ⟨S32768x1024, .f32⟩
  | .hbm, ⟨28, _⟩ => ⟨S32768x1024, .f32⟩
  | .hbm, ⟨29, _⟩ => ⟨S_, .f32⟩
  | .hbm, ⟨30, _⟩ => ⟨S32768x1024, .f32⟩
  | .hbm, ⟨31, _⟩ => ⟨S32768x1024, .f32⟩
  | .hbm, ⟨32, _⟩ => ⟨S_, .f32⟩
  | .hbm, ⟨33, _⟩ => ⟨S32768x1024, .f32⟩
  | .hbm, ⟨34, _⟩ => ⟨S32768x1024, .f32⟩
  | .hbm, ⟨35, _⟩ => ⟨S1024x1024, .f32⟩
  | .hbm, ⟨36, _⟩ => ⟨S32768x1024, .f32⟩
  | .hbm, ⟨37, _⟩ => ⟨S32768x1024, .f32⟩
  | .hbm, ⟨38, _⟩ => ⟨S32768x1024, .f32⟩
  | .hbm, ⟨39, _⟩ => ⟨S1024x1024, .f32⟩
  | .hbm, ⟨40, _⟩ => ⟨S32768x1024, .f32⟩
  | .hbm, ⟨41, _⟩ => ⟨S32768x1024, .f32⟩
  | .hbm, ⟨42, _⟩ => ⟨S1024, .f32⟩
  | .hbm, ⟨43, _⟩ => ⟨S32768x1024, .f32⟩
  | .hbm, ⟨44, _⟩ => ⟨S_, .f32⟩
  | .hbm, ⟨45, _⟩ => ⟨S32768, .f32⟩
  | .hbm, ⟨46, _⟩ => ⟨S32768x1, .f32⟩
  | .hbm, ⟨47, _⟩ => ⟨S_, .f32⟩
  | .hbm, ⟨48, _⟩ => ⟨S32768x1, .f32⟩
  | .hbm, ⟨49, _⟩ => ⟨S32768x1, .f32⟩
  | .hbm, ⟨50, _⟩ => ⟨S_, .f32⟩
  | .hbm, ⟨51, _⟩ => ⟨S32768x1, .f32⟩
  | .hbm, ⟨52, _⟩ => ⟨S32768x1, .f32⟩
  | .hbm, ⟨53, _⟩ => ⟨S32768x1, .f32⟩
  | .hbm, ⟨54, _⟩ => ⟨S32768x1024, .f32⟩
  | .hbm, ⟨55, _⟩ => ⟨S32768x1024, .f32⟩
  | .hbm, ⟨56, _⟩ => ⟨S1x1024, .f32⟩
  | .hbm, ⟨57, _⟩ => ⟨S32768x1024, .f32⟩
  | .hbm, ⟨58, _⟩ => ⟨S32768x1024, .f32⟩
  | .hbm, ⟨59, _⟩ => ⟨S1024x5632, .f32⟩
  | .hbm, ⟨60, _⟩ => ⟨S2816x1024, .f32⟩
  | .hbm, ⟨61, _⟩ => ⟨S32768x5632, .f32⟩
  | .hbm, ⟨62, _⟩ => ⟨S32768x2816, .f32⟩
  | .hbm, ⟨63, _⟩ => ⟨S32768x2816, .f32⟩
  | .hbm, ⟨64, _⟩ => ⟨S32768x2816, .f32⟩
  | .hbm, ⟨65, _⟩ => ⟨S32768x2816, .f32⟩
  | .hbm, ⟨66, _⟩ => ⟨S_, .f32⟩
  | .hbm, ⟨67, _⟩ => ⟨S32768x2816, .f32⟩
  | .hbm, ⟨68, _⟩ => ⟨S32768x2816, .f32⟩
  | .hbm, ⟨69, _⟩ => ⟨S_, .f32⟩
  | .hbm, ⟨70, _⟩ => ⟨S32768x2816, .f32⟩
  | .hbm, ⟨71, _⟩ => ⟨S32768x2816, .f32⟩
  | .hbm, ⟨72, _⟩ => ⟨S32768x2816, .f32⟩
  | .hbm, ⟨73, _⟩ => ⟨S32768x2816, .f32⟩
  | .hbm, ⟨74, _⟩ => ⟨S32768x1024, .f32⟩
  | .hbm, ⟨75, _⟩ => ⟨S_, .f32⟩
  | .hbm, ⟨76, _⟩ => ⟨S32768x1024, .f32⟩
  | .hbm, ⟨77, _⟩ => ⟨S32768x1024, .f32⟩
  | .hbm, ⟨78, _⟩ => ⟨S32768x1024, .f32⟩
  | .hbm, ⟨79, _⟩ => ⟨S32768x1024, .f32⟩
  | .hbm, ⟨80, _⟩ => ⟨S_, .f32⟩
  | .hbm, ⟨81, _⟩ => ⟨S32768, .f32⟩
  | .hbm, ⟨82, _⟩ => ⟨S32768x1, .f32⟩
  | .hbm, ⟨83, _⟩ => ⟨S_, .f32⟩
  | .hbm, ⟨84, _⟩ => ⟨S32768x1, .f32⟩
  | .hbm, ⟨85, _⟩ => ⟨S32768x1, .f32⟩
  | .hbm, ⟨86, _⟩ => ⟨S_, .f32⟩
  | .hbm, ⟨87, _⟩ => ⟨S32768x1, .f32⟩
  | .hbm, ⟨88, _⟩ => ⟨S32768x1, .f32⟩
  | .hbm, ⟨89, _⟩ => ⟨S32768x1, .f32⟩
  | .hbm, ⟨90, _⟩ => ⟨S32768x1024, .f32⟩
  | .hbm, ⟨91, _⟩ => ⟨S32768x1024, .f32⟩
  | .hbm, ⟨92, _⟩ => ⟨S1x1024, .f32⟩
  | .hbm, ⟨93, _⟩ => ⟨S32768x1024, .f32⟩
  | .hbm, ⟨94, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_3 : Ref sig .tc := ⟨.hbm, 44, rfl⟩
abbrev main_v28 : Ref sig .tc := ⟨.hbm, 45, rfl⟩
abbrev main_v29 : Ref sig .tc := ⟨.hbm, 46, rfl⟩
abbrev main_cst_4 : Ref sig .tc := ⟨.hbm, 47, rfl⟩
abbrev main_v30 : Ref sig .tc := ⟨.hbm, 48, rfl⟩
abbrev main_v31 : Ref sig .tc := ⟨.hbm, 49, rfl⟩
abbrev main_cst_5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_call0_v0 : Ref sig .tc := ⟨.hbm, 64, rfl⟩
abbrev main_call0_v1 : Ref sig .tc := ⟨.hbm, 65, rfl⟩
abbrev main_call0_cst : Ref sig .tc := ⟨.hbm, 66, rfl⟩
abbrev main_call0_v2 : Ref sig .tc := ⟨.hbm, 67, rfl⟩
abbrev main_call0_v3 : Ref sig .tc := ⟨.hbm, 68, rfl⟩
abbrev main_call0_cst_0 : Ref sig .tc := ⟨.hbm, 69, rfl⟩
abbrev main_call0_v4 : Ref sig .tc := ⟨.hbm, 70, rfl⟩
abbrev main_call0_v5 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_6 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_7 : Ref sig .tc := ⟨.hbm, 80, rfl⟩
abbrev main_v52 : Ref sig .tc := ⟨.hbm, 81, rfl⟩
abbrev main_v53 : Ref sig .tc := ⟨.hbm, 82, rfl⟩
abbrev main_cst_8 : Ref sig .tc := ⟨.hbm, 83, rfl⟩
abbrev main_v54 : Ref sig .tc := ⟨.hbm, 84, rfl⟩
abbrev main_v55 : Ref sig .tc := ⟨.hbm, 85, rfl⟩
abbrev main_cst_9 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩

abbrev nD : Nat := 1
abbrev τ : Topo := Topo.v7x

variable {F : FTy → Type} [FloatOps F]
-- ==== Kernel3.lean ====
abbrev S16x2048x1024 : Shape := ⟨3, ![16, 2048, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024x5632 : Shape := ⟨2, ![1024, 5632]⟩
abbrev S2816x1024 : Shape := ⟨2, ![2816, 1024]⟩
abbrev S1024 : Shape := ⟨1, ![1024]⟩
abbrev S32768x1024 : Shape := ⟨2, ![32768, 1024]⟩
abbrev S512x1024 : Shape := ⟨2, ![512, 1024]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 12
  | .vmem => 7
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S1024x5632, .f32⟩
  | .hbm, ⟨5, _⟩ => ⟨S1024x5632, .bf16⟩
  | .hbm, ⟨6, _⟩ => ⟨S2816x1024, .f32⟩
  | .hbm, ⟨7, _⟩ => ⟨S2816x1024, .bf16⟩
  | .hbm, ⟨8, _⟩ => ⟨S1024, .f32⟩
  | .hbm, ⟨9, _⟩ => ⟨S1x1024, .f32⟩
  | .hbm, ⟨10, _⟩ => ⟨S32768x1024, .f32⟩
  | .hbm, ⟨11, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S512x1024, .f32⟩
  | .local _ .vmem, ⟨6, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S16x2048x1024 : Shape := ⟨3, ![16, 2048, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S32768x1024 : Shape := ⟨2, ![32768, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1024x5632 : Shape := ⟨2, ![1024, 5632]⟩
abbrev S2816x1024 : Shape := ⟨2, ![2816, 1024]⟩
abbrev S32768x5632 : Shape := ⟨2, ![32768, 5632]⟩
abbrev S32768x2816 : Shape := ⟨2, ![32768, 2816]⟩

abbrev nBuf : Space → Nat
  | .hbm => 42
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S32768x1024, .f32⟩
  | .hbm, ⟨5, _⟩ => ⟨S1024, .f32⟩
  | .hbm, ⟨6, _⟩ => ⟨S32768x1024, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x1024, .f32⟩
  | .hbm, ⟨18, _⟩ => ⟨S32768x1024, .f32⟩
  | .hbm, ⟨19, _⟩ => ⟨S1x1024, .f32⟩
  | .hbm, ⟨20, _⟩ => ⟨S32768x1024, .f32⟩
  | .hbm, ⟨21, _⟩ => ⟨S32768x1024, .f32⟩
  | .hbm, ⟨22, _⟩ => ⟨S1024x5632, .f32⟩
  | .hbm, ⟨23, _⟩ => ⟨S2816x1024, .f32⟩
  | .hbm, ⟨24, _⟩ => ⟨S32768x5632, .f32⟩
  | .hbm, ⟨25, _⟩ => ⟨S32768x2816, .f32⟩
  | .hbm, ⟨26, _⟩ => ⟨S32768x2816, .f32⟩
  | .hbm, ⟨27, _⟩ => ⟨S32768x2816, .f32⟩
  | .hbm, ⟨28, _⟩ => ⟨S32768x2816, .f32⟩
  | .hbm, ⟨29, _⟩ => ⟨S_, .f32⟩
  | .hbm, ⟨30, _⟩ => ⟨S32768x2816, .f32⟩
  | .hbm, ⟨31, _⟩ => ⟨S32768x2816, .f32⟩
  | .hbm, ⟨32, _⟩ => ⟨S_, .f32⟩
  | .hbm, ⟨33, _⟩ => ⟨S32768x2816, .f32⟩
  | .hbm, ⟨34, _⟩ => ⟨S32768x2816, .f32⟩
  | .hbm, ⟨35, _⟩ => ⟨S32768x2816, .f32⟩
  | .hbm, ⟨36, _⟩ => ⟨S32768x2816, .f32⟩
  | .hbm, ⟨37, _⟩ => ⟨S32768x1024, .f32⟩
  | .hbm, ⟨38, _⟩ => ⟨S_, .f32⟩
  | .hbm, ⟨39, _⟩ => ⟨S32768x1024, .f32⟩
  | .hbm, ⟨40, _⟩ => ⟨S32768x1024, .f32⟩
  | .hbm, ⟨41, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩

abbrev nD : Nat := 1
abbrev τ : Topo := Topo.v7x

variable {F : FTy → Type} [FloatOps F]
-- ==== Kernel4.lean ====
abbrev S32768x1024 : Shape := ⟨2, ![32768, 1024]⟩
abbrev S1x1024 : Shape := ⟨2, ![1, 1024]⟩
abbrev S1x1024x6688 : Shape := ⟨3, ![1, 1024, 6688]⟩
abbrev S1x3360 : Shape := ⟨2, ![1, 3360]⟩
abbrev S1x64x1024 : Shape := ⟨3, ![1, 64, 1024]⟩
abbrev S1x160x1024 : Shape := ⟨3, ![1, 160, 1024]⟩
abbrev S1x16x64 : Shape := ⟨3, ![1, 16, 64]⟩
abbrev S8x3456 : Shape := ⟨2, ![8, 3456]⟩
abbrev S1024x6688 : Shape := ⟨2, ![1024, 6688]⟩
abbrev S1024x1024 : Shape := ⟨2, ![1024, 1024]⟩
abbrev S1024x256 : Shape := ⟨2, ![1024, 256]⟩
abbrev S1024x3360 : Shape := ⟨2, ![1024, 3360]⟩
abbrev S_ : Shape := ⟨0, ![]⟩
abbrev S1024x3456 : Shape := ⟨2, ![1024, 3456]⟩
abbrev S1024x2048 : Shape := ⟨2, ![1024, 2048]⟩
abbrev S128x2048 : Shape := ⟨2, ![128, 2048]⟩
abbrev S64x1024 : Shape := ⟨2, ![64, 1024]⟩
abbrev S1 : Shape := ⟨1, ![1]⟩
abbrev S2 : Shape := ⟨1, ![2]⟩
abbrev S160x1024 : Shape := ⟨2, ![160, 1024]⟩
abbrev S256x1024 : Shape := ⟨2, ![256, 1024]⟩
abbrev S3360 : Shape := ⟨1, ![3360]⟩
abbrev S3456 : Shape := ⟨1, ![3456]⟩
abbrev S1x3456 : Shape := ⟨2, ![1, 3456]⟩
abbrev S1024 : Shape := ⟨1, ![1024]⟩
abbrev S16x64 : Shape := ⟨2, ![16, 64]⟩
abbrev S8x1024 : Shape := ⟨2, ![8, 1024]⟩
abbrev S2048 : Shape := ⟨1, ![2048]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S32768x128 : Shape := ⟨2, ![32768, 128]⟩
abbrev S32768x7168 : Shape := ⟨2, ![32768, 7168]⟩
abbrev S32768x2048 : Shape := ⟨2, ![32768, 2048]⟩
abbrev S256x128 : Shape := ⟨2, ![256, 128]⟩
abbrev S256x7168 : Shape := ⟨2, ![256, 7168]⟩
abbrev S256x2048 : Shape := ⟨2, ![256, 2048]⟩
abbrev S256 : Shape := ⟨1, ![256]⟩
abbrev S256x1 : Shape := ⟨2, ![256, 1]⟩
abbrev S256x256 : Shape := ⟨2, ![256, 256]⟩
abbrev S1024x384 : Shape := ⟨2, ![1024, 384]⟩
abbrev S256x384 : Shape := ⟨2, ![256, 384]⟩
abbrev S248x1024 : Shape := ⟨2, ![248, 1024]⟩
abbrev S8x384 : Shape := ⟨2, ![8, 384]⟩
abbrev S1x384 : Shape := ⟨2, ![1, 384]⟩
abbrev S248x384 : Shape := ⟨2, ![248, 384]⟩

abbrev nBuf : Space → Nat
  | .hbm => 108
  | .vmem => 37
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1x1024x6688, .f32⟩
  | .hbm, ⟨3, _⟩ => ⟨S1x3360, .f32⟩
  | .hbm, ⟨4, _⟩ => ⟨S1x1024, .f32⟩
  | .hbm, ⟨5, _⟩ => ⟨S1x64x1024, .f32⟩
  | .hbm, ⟨6, _⟩ => ⟨S1x1024, .f32⟩
  | .hbm, ⟨7, _⟩ => ⟨S1x64x1024, .f32⟩
  | .hbm, ⟨8, _⟩ => ⟨S1x160x1024, .f32⟩
  | .hbm, ⟨9, _⟩ => ⟨S1x1024, .f32⟩
  | .hbm, ⟨10, _⟩ => ⟨S1x1024, .f32⟩
  | .hbm, ⟨11, _⟩ => ⟨S1x16x64, .f32⟩
  | .hbm, ⟨12, _⟩ => ⟨S1x1024, .f32⟩
  | .hbm, ⟨13, _⟩ => ⟨S1x1024, .f32⟩
  | .hbm, ⟨14, _⟩ => ⟨S8x3456, .f32⟩
  | .hbm, ⟨15, _⟩ => ⟨S1024x6688, .f32⟩
  | .hbm, ⟨16, _⟩ => ⟨S1024x1024, .f32⟩
  | .hbm, ⟨17, _⟩ => ⟨S1024x1024, .bf16⟩
  | .hbm, ⟨18, _⟩ => ⟨S1024x256, .f32⟩
  | .hbm, ⟨19, _⟩ => ⟨S1024x256, .bf16⟩
  | .hbm, ⟨20, _⟩ => ⟨S1024x3360, .f32⟩
  | .hbm, ⟨21, _⟩ => ⟨S_, .i32⟩
  | .hbm, ⟨22, _⟩ => ⟨S_, .f32⟩
  | .hbm, ⟨23, _⟩ => ⟨S1024x3456, .f32⟩
  | .hbm, ⟨24, _⟩ => ⟨S1024x3456, .bf16⟩
  | .hbm, ⟨25, _⟩ => ⟨S1024x2048, .f32⟩
  | .hbm, ⟨26, _⟩ => ⟨S1024x2048, .bf16⟩
  | .hbm, ⟨27, _⟩ => ⟨S_, .f32⟩
  | .hbm, ⟨28, _⟩ => ⟨S128x2048, .f32⟩
  | .hbm, ⟨29, _⟩ => ⟨S64x1024, .f32⟩
  | .hbm, ⟨30, _⟩ => ⟨S_, .i32⟩
  | .hbm, ⟨31, _⟩ => ⟨S1, .i32⟩
  | .hbm, ⟨32, _⟩ => ⟨S_, .i32⟩
  | .hbm, ⟨33, _⟩ => ⟨S1, .i32⟩
  | .hbm, ⟨34, _⟩ => ⟨S2, .i32⟩
  | .hbm, ⟨35, _⟩ => ⟨S128x2048, .f32⟩
  | .hbm, ⟨36, _⟩ => ⟨S64x1024, .f32⟩
  | .hbm, ⟨37, _⟩ => ⟨S_, .i32⟩
  | .hbm, ⟨38, _⟩ => ⟨S1, .i32⟩
  | .hbm, ⟨39, _⟩ => ⟨S_, .i32⟩
  | .hbm, ⟨40, _⟩ => ⟨S1, .i32⟩
  | .hbm, ⟨41, _⟩ => ⟨S2, .i32⟩
  | .hbm, ⟨42, _⟩ => ⟨S128x2048, .f32⟩
  | .hbm, ⟨43, _⟩ => ⟨S128x2048, .bf16⟩
  | .hbm, ⟨44, _⟩ => ⟨S160x1024, .f32⟩
  | .hbm, ⟨45, _⟩ => ⟨S_, .i32⟩
  | .hbm, ⟨46, _⟩ => ⟨S_, .f32⟩
  | .hbm, ⟨47, _⟩ => ⟨S256x1024, .f32⟩
  | .hbm, ⟨48, _⟩ => ⟨S256x1024, .bf16⟩
  | .hbm, ⟨49, _⟩ => ⟨S3360, .f32⟩
  | .hbm, ⟨50, _⟩ => ⟨S_, .i32⟩
  | .hbm, ⟨51, _⟩ => ⟨S_, .f32⟩
  | .hbm, ⟨52, _⟩ => ⟨S3456, .f32⟩
  | .hbm, ⟨53, _⟩ => ⟨S1x3456, .f32⟩
  | .hbm, ⟨54, _⟩ => ⟨S1024, .f32⟩
  | .hbm, ⟨55, _⟩ => ⟨S1024, .f32⟩
  | .hbm, ⟨56, _⟩ => ⟨S1024, .f32⟩
  | .hbm, ⟨57, _⟩ => ⟨S1024, .f32⟩
  | .hbm, ⟨58, _⟩ => ⟨S16x64, .f32⟩
  | .hbm, ⟨59, _⟩ => ⟨S1024, .f32⟩
  | .hbm, ⟨60, _⟩ => ⟨S1024, .f32⟩
  | .hbm, ⟨61, _⟩ => ⟨S1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S1x1024, .f32⟩
  | .hbm, ⟨66, _⟩ => ⟨S1x1024, .f32⟩
  | .hbm, ⟨67, _⟩ => ⟨S1x1024, .f32⟩
  | .hbm, ⟨68, _⟩ => ⟨S1x1024, .f32⟩
  | .hbm, ⟨69, _⟩ => ⟨S1x1024, .f32⟩
  | .hbm, ⟨70, _⟩ => ⟨S1x1024, .f32⟩
  | .hbm, ⟨71, _⟩ => ⟨S1x1024, .f32⟩
  | .hbm, ⟨72, _⟩ => ⟨S8x1024, .f32⟩
  | .hbm, ⟨73, _⟩ => ⟨S1024, .f32⟩
  | .hbm, ⟨74, _⟩ => ⟨S1x1024, .f32⟩
  | .hbm, ⟨75, _⟩ => ⟨S2048, .i32⟩
  | .hbm, ⟨76, _⟩ => ⟨S_, .i32⟩
  | .hbm, ⟨77, _⟩ => ⟨S2048, .i32⟩
  | .hbm, ⟨78, _⟩ => ⟨S2048, .i32⟩
  | .hbm, ⟨79, _⟩ => ⟨S32, .f32⟩
  | .hbm, ⟨80, _⟩ => ⟨S32, .f32⟩
  | .hbm, ⟨81, _⟩ => ⟨S_, .f32⟩
  | .hbm, ⟨82, _⟩ => ⟨S32, .f32⟩
  | .hbm, ⟨83, _⟩ => ⟨S32, .f32⟩
  | .hbm, ⟨84, _⟩ => ⟨S_, .f32⟩
  | .hbm, ⟨85, _⟩ => ⟨S32, .f32⟩
  | .hbm, ⟨86, _⟩ => ⟨S32, .f32⟩
  | .hbm, ⟨87, _⟩ => ⟨S2048, .f32⟩
  | .hbm, ⟨88, _⟩ => ⟨S2048x1, .f32⟩
  | .hbm, ⟨89, _⟩ => ⟨S1x32, .f32⟩
  | .hbm, ⟨90, _⟩ => ⟨S2048x32, .f32⟩
  | .hbm, ⟨91, _⟩ => ⟨S2048x32, .f32⟩
  | .hbm, ⟨92, _⟩ => ⟨S2048x32, .f32⟩
  | .hbm, ⟨93, _⟩ => ⟨S2048x32, .f32⟩
  | .hbm, ⟨94, _⟩ => ⟨S2048x32, .f32⟩
  | .hbm, ⟨95, _⟩ => ⟨S2048x128, .f32⟩
  | .hbm, ⟨96, _⟩ => ⟨S2048x32, .f32⟩
  | .hbm, ⟨97, _⟩ => ⟨S2048x128, .f32⟩
  | .hbm, ⟨98, _⟩ => ⟨S32768x1024, .bf16⟩
  | .hbm, ⟨99, _⟩ => ⟨S32768x128, .bf16⟩
  | .hbm, ⟨100, _⟩ => ⟨S32768x128, .bf16⟩
  | .hbm, ⟨101, _⟩ => ⟨S32768x128, .bf16⟩
  | .hbm, ⟨102, _⟩ => ⟨S32768x128, .bf16⟩
  | .hbm, ⟨103, _⟩ => ⟨S32768x1024, .bf16⟩
  | .hbm, ⟨104, _⟩ => ⟨S32768x1024, .bf16⟩
  | .hbm, ⟨105, _⟩ => ⟨S32768x7168, .bf16⟩
  | .hbm, ⟨106, _⟩ => ⟨S32768x2048, .bf16⟩
  | .hbm, ⟨107, _⟩ => ⟨S1024x3456, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S1024x1024, .bf16⟩
  | .local _ .vmem, ⟨8, _⟩ => ⟨S1024x256, .bf16⟩
  | .local _ .vmem, ⟨9, _⟩ => ⟨S1024x3456, .bf16⟩
  | .local _ .vmem, ⟨10, _⟩ => ⟨S1024x2048, .bf16⟩
  | .local _ .vmem, ⟨11, _⟩ => ⟨S8x3456, .f32⟩
  | .local _ .vmem, ⟨12, _⟩ => ⟨S1x3456, .f32⟩
  | .local _ .vmem, ⟨13, _⟩ => ⟨S8x1024, .f32⟩
  | .local _ .vmem, ⟨14, _⟩ => ⟨S128x2048, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x128, .bf16⟩
  | .local _ .vmem, ⟨19, _⟩ => ⟨S256x128, .bf16⟩
  | .local _ .vmem, ⟨20, _⟩ => ⟨S256x128, .bf16⟩
  | .local _ .vmem, ⟨21, _⟩ => ⟨S256x128, .bf16⟩
  | .local _ .vmem, ⟨22, _⟩ => ⟨S256x128, .bf16⟩
  | .local _ .vmem, ⟨23, _⟩ => ⟨S256x128, .bf16⟩
  | .local _ .vmem, ⟨24, _⟩ => ⟨S256x128, .bf16⟩
  | .local _ .vmem, ⟨25, _⟩ => ⟨S256x128, .bf16⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | .local _ .vmem, ⟨29, _⟩ => ⟨S256x1024, .bf16⟩
  | .local _ .vmem, ⟨30, _⟩ => ⟨S256x7168, .bf16⟩
  | .local _ .vmem, ⟨31, _⟩ => ⟨S256x7168, .bf16⟩
  | .local _ .vmem, ⟨32, _⟩ => ⟨S256x2048, .bf16⟩
  | .local _ .vmem, ⟨33, _⟩ => ⟨S256x2048, .bf16⟩
  | .local _ .vmem, ⟨34, _⟩ => ⟨S8x3456, .f32⟩
  | .local _ .vmem, ⟨35, _⟩ => ⟨S8x3456, .f32⟩
  | .local _ .vmem, ⟨36, _⟩ => ⟨S8x3456, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_c : Ref sig .tc := ⟨.hbm, 21, rfl⟩
abbrev main_call0_v0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst : Ref sig .tc := ⟨.hbm, 27, rfl⟩
abbrev main_v10 : Ref sig .tc := ⟨.hbm, 28, rfl⟩
abbrev main_v11 : Ref sig .tc := ⟨.hbm, 29, rfl⟩
abbrev main_c_0 : Ref sig .tc := ⟨.hbm, 30, rfl⟩
abbrev main_v12 : Ref sig .tc := ⟨.hbm, 31, rfl⟩
abbrev main_c_1 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_c_2 : Ref sig .tc := ⟨.hbm, 37, rfl⟩
abbrev main_v17 : Ref sig .tc := ⟨.hbm, 38, rfl⟩
abbrev main_c_3 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c_4 : Ref sig .tc := ⟨.hbm, 45, rfl⟩
abbrev main_call1_v0 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_c_5 : Ref sig .tc := ⟨.hbm, 50, rfl⟩
abbrev main_call2_v0 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_6 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_c_7 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_8 : Ref sig .tc := ⟨.hbm, 81, rfl⟩
abbrev main_v53 : Ref sig .tc := ⟨.hbm, 82, rfl⟩
abbrev main_v54 : Ref sig .tc := ⟨.hbm, 83, rfl⟩
abbrev main_cst_9 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68_0 : Ref sig .tc := ⟨.hbm, 98, rfl⟩
abbrev main_v68_1 : Ref sig .tc := ⟨.hbm, 99, rfl⟩
abbrev main_v68_2 : Ref sig .tc := ⟨.hbm, 100, rfl⟩
abbrev main_v68_3 : Ref sig .tc := ⟨.hbm, 101, rfl⟩
abbrev main_v68_4 : Ref sig .tc := ⟨.hbm, 102, rfl⟩
abbrev main_v68_5 : Ref sig .tc := ⟨.hbm, 103, rfl⟩
abbrev main_v68_6 : Ref sig .tc := ⟨.hbm, 104, rfl⟩
abbrev main_v68_7 : Ref sig .tc := ⟨.hbm, 105, rfl⟩
abbrev main_v68_8 : Ref sig .tc := ⟨.hbm, 106, rfl⟩
abbrev main_v68_9 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_stg21_0 : Ref sig .tc := ⟨.vmem, 32, rfl⟩
abbrev cc0_stg21_1 : Ref sig .tc := ⟨.vmem, 33, rfl⟩
abbrev cc0_stg22_0 : Ref sig .tc := ⟨.vmem, 34, rfl⟩
abbrev cc0_stg22_1 : Ref sig .tc := ⟨.vmem, 35, rfl⟩
abbrev cc0_scratch0 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31
abbrev cc0_sem21_0 : DmaSem sig := 32
abbrev cc0_sem21_1 : DmaSem sig := 33
abbrev cc0_sem22_0 : DmaSem sig := 34
abbrev cc0_sem22_1 : DmaSem sig := 35

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x3456 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x3456 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x3456 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x7168 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x2048 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S8x3456 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== Reference4Ideal.lean ====
abbrev S32768x1024 : Shape := ⟨2, ![32768, 1024]⟩
abbrev S1x1024 : Shape := ⟨2, ![1, 1024]⟩
abbrev S1x1024x6688 : Shape := ⟨3, ![1, 1024, 6688]⟩
abbrev S1x3360 : Shape := ⟨2, ![1, 3360]⟩
abbrev S1x64x1024 : Shape := ⟨3, ![1, 64, 1024]⟩
abbrev S1x160x1024 : Shape := ⟨3, ![1, 160, 1024]⟩
abbrev S1x16x64 : Shape := ⟨3, ![1, 16, 64]⟩
abbrev S8x3456 : Shape := ⟨2, ![8, 3456]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1024x6688 : Shape := ⟨2, ![1024, 6688]⟩
abbrev S32768x6688 : Shape := ⟨2, ![32768, 6688]⟩
abbrev S32768x128 : Shape := ⟨2, ![32768, 128]⟩
abbrev S32768x3360 : Shape := ⟨2, ![32768, 3360]⟩
abbrev S2048 : Shape := ⟨1, ![2048]⟩
abbrev S16x2048x16x64 : Shape := ⟨4, ![16, 2048, 16, 64]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S16x2048x16x32 : Shape := ⟨4, ![16, 2048, 16, 32]⟩
abbrev S16x2048x2x64 : Shape := ⟨4, ![16, 2048, 2, 64]⟩
abbrev S16x2048x2x32 : Shape := ⟨4, ![16, 2048, 2, 32]⟩
abbrev S16x2048x3360 : Shape := ⟨3, ![16, 2048, 3360]⟩
abbrev S3360 : Shape := ⟨1, ![3360]⟩
abbrev S16x1x3360 : Shape := ⟨3, ![16, 1, 3360]⟩
abbrev S16x2047x3360 : Shape := ⟨3, ![16, 2047, 3360]⟩
abbrev S1x1x3360 : Shape := ⟨3, ![1, 1, 3360]⟩
abbrev S32768x64 : Shape := ⟨2, ![32768, 64]⟩
abbrev S32768x160 : Shape := ⟨2, ![32768, 160]⟩
abbrev S64x1024 : Shape := ⟨2, ![64, 1024]⟩
abbrev S160x1024 : Shape := ⟨2, ![160, 1024]⟩
abbrev S32768x16x64 : Shape := ⟨3, ![32768, 16, 64]⟩
abbrev S32768x16 : Shape := ⟨2, ![32768, 16]⟩
abbrev S32768x16x1 : Shape := ⟨3, ![32768, 16, 1]⟩
abbrev S16x64 : Shape := ⟨2, ![16, 64]⟩
abbrev S32768x7168 : Shape := ⟨2, ![32768, 7168]⟩
abbrev S32768x2048 : Shape := ⟨2, ![32768, 2048]⟩

abbrev nBuf : Space → Nat
  | .hbm => 252
  | .vmem => 0
  | .smem => 0
  | _ => 0

abbrev hbmTy0_0 (i : Nat) : BufTy := match i % 128 with
  | 0 => ⟨S32768x1024, .f32⟩
  | 1 => ⟨S1x1024, .f32⟩
  | 2 => ⟨S1x1024x6688, .f32⟩
  | 3 => ⟨S1x3360, .f32⟩
  | 4 => ⟨S1x1024, .f32⟩
  | 5 => ⟨S1x64x1024, .f32⟩
  | 6 => ⟨S1x1024, .f32⟩
  | 7 => ⟨S1x64x1024, .f32⟩
  | 8 => ⟨S1x160x1024, .f32⟩
  | 9 => ⟨S1x1024, .f32⟩
  | 10 => ⟨S1x1024, .f32⟩
  | 11 => ⟨S1x16x64, .f32⟩
  | 12 => ⟨S1x1024, .f32⟩
  | 13 => ⟨S1x1024, .f32⟩
  | 14 => ⟨S8x3456, .f32⟩
  | 15 => ⟨S1024, .f32⟩
  | 16 => ⟨S32768x1024, .f32⟩
  | 17 => ⟨S_, .f32⟩
  | 18 => ⟨S32768, .f32⟩
  | 19 => ⟨S32768x1, .f32⟩
  | 20 => ⟨S_, .f32⟩
  | 21 => ⟨S32768x1, .f32⟩
  | 22 => ⟨S32768x1, .f32⟩
  | 23 => ⟨S_, .f32⟩
  | 24 => ⟨S32768x1, .f32⟩
  | 25 => ⟨S32768x1, .f32⟩
  | 26 => ⟨S32768x1, .f32⟩
  | 27 => ⟨S32768x1024, .f32⟩
  | 28 => ⟨S32768x1024, .f32⟩
  | 29 => ⟨S1x1024, .f32⟩
  | 30 => ⟨S32768x1024, .f32⟩
  | 31 => ⟨S32768x1024, .f32⟩
  | 32 => ⟨S1024x6688, .f32⟩
  | 33 => ⟨S32768x6688, .f32⟩
  | 34 => ⟨S32768x1024, .f32⟩
  | 35 => ⟨S32768x128, .f32⟩
  | 36 => ⟨S32768x128, .f32⟩
  | 37 => ⟨S32768x3360, .f32⟩
  | 38 => ⟨S32768x1024, .f32⟩
  | 39 => ⟨S32768x1024, .f32⟩
  | 40 => ⟨S2048, .i32⟩
  | 41 => ⟨S_, .i32⟩
  | 42 => ⟨S2048, .i32⟩
  | 43 => ⟨S2048, .i32⟩
  | 44 => ⟨S16x2048x16x64, .f32⟩
  | 45 => ⟨S32, .f32⟩
  | 46 => ⟨S32, .f32⟩
  | 47 => ⟨S_, .f32⟩
  | 48 => ⟨S32, .f32⟩
  | 49 => ⟨S32, .f32⟩
  | 50 => ⟨S_, .f32⟩
  | 51 => ⟨S32, .f32⟩
  | 52 => ⟨S32, .f32⟩
  | 53 => ⟨S2048, .f32⟩
  | 54 => ⟨S2048x1, .f32⟩
  | 55 => ⟨S1x32, .f32⟩
  | 56 => ⟨S2048x32, .f32⟩
  | 57 => ⟨S2048x32, .f32⟩
  | 58 => ⟨S2048x32, .f32⟩
  | 59 => ⟨S2048x32, .f32⟩
  | 60 => ⟨S1x2048x1x32, .f32⟩
  | 61 => ⟨S2048x32, .f32⟩
  | 62 => ⟨S1x2048x1x32, .f32⟩
  | 63 => ⟨S16x2048x16x32, .f32⟩
  | 64 => ⟨S16x2048x16x32, .f32⟩
  | 65 => ⟨S16x2048x16x32, .f32⟩
  | 66 => ⟨S16x2048x16x32, .f32⟩
  | 67 => ⟨S16x2048x16x32, .f32⟩
  | 68 => ⟨S16x2048x16x32, .f32⟩
  | 69 => ⟨S16x2048x16x32, .f32⟩
  | 70 => ⟨S16x2048x16x32, .f32⟩
  | 71 => ⟨S16x2048x16x32, .f32⟩
  | 72 => ⟨S16x2048x16x32, .f32⟩
  | 73 => ⟨S16x2048x16x32, .f32⟩
  | 74 => ⟨S16x2048x16x32, .f32⟩
  | 75 => ⟨S16x2048x16x64, .f32⟩
  | 76 => ⟨S_, .f32⟩
  | 77 => ⟨S16x2048x16x64, .f32⟩
  | 78 => ⟨S16x2048x16x64, .f32⟩
  | 79 => ⟨S32768x1024, .f32⟩
  | 80 => ⟨S16x2048x2x64, .f32⟩
  | 81 => ⟨S32, .f32⟩
  | 82 => ⟨S32, .f32⟩
  | 83 => ⟨S_, .f32⟩
  | 84 => ⟨S32, .f32⟩
  | 85 => ⟨S32, .f32⟩
  | 86 => ⟨S_, .f32⟩
  | 87 => ⟨S32, .f32⟩
  | 88 => ⟨S32, .f32⟩
  | 89 => ⟨S2048, .f32⟩
  | 90 => ⟨S2048x1, .f32⟩
  | 91 => ⟨S1x32, .f32⟩
  | 92 => ⟨S2048x32, .f32⟩
  | 93 => ⟨S2048x32, .f32⟩
  | 94 => ⟨S2048x32, .f32⟩
  | 95 => ⟨S2048x32, .f32⟩
  | 96 => ⟨S1x2048x1x32, .f32⟩
  | 97 => ⟨S2048x32, .f32⟩
  | 98 => ⟨S1x2048x1x32, .f32⟩
  | 99 => ⟨S16x2048x2x32, .f32⟩
  | 100 => ⟨S16x2048x2x32, .f32⟩
  | 101 => ⟨S16x2048x2x32, .f32⟩
  | 102 => ⟨S16x2048x2x32, .f32⟩
  | 103 => ⟨S16x2048x2x32, .f32⟩
  | 104 => ⟨S16x2048x2x32, .f32⟩
  | 105 => ⟨S16x2048x2x32, .f32⟩
  | 106 => ⟨S16x2048x2x32, .f32⟩
  | 107 => ⟨S16x2048x2x32, .f32⟩
  | 108 => ⟨S16x2048x2x32, .f32⟩
  | 109 => ⟨S16x2048x2x32, .f32⟩
  | 110 => ⟨S16x2048x2x32, .f32⟩
  | 111 => ⟨S16x2048x2x64, .f32⟩
  | 112 => ⟨S32768x128, .f32⟩
  | 113 => ⟨S16x2048x3360, .f32⟩
  | 114 => ⟨S1x3360, .f32⟩
  | 115 => ⟨S3360, .f32⟩
  | 116 => ⟨S16x1x3360, .f32⟩
  | 117 => ⟨S16x2047x3360, .f32⟩
  | 118 => ⟨S16x2048x3360, .f32⟩
  | 119 => ⟨S16x2048x3360, .f32⟩
  | 120 => ⟨S3360, .f32⟩
  | 121 => ⟨S1x1x3360, .f32⟩
  | 122 => ⟨S16x2048x3360, .f32⟩
  | 123 => ⟨S16x2048x3360, .f32⟩
  | 124 => ⟨S16x2048x3360, .f32⟩
  | 125 => ⟨S32768x3360, .f32⟩
  | 126 => ⟨S32768x1024, .f32⟩
  | 127 => ⟨S32768x1024, .f32⟩
  | _ => ⟨S32768x1024, .f32⟩

abbrev hbmTy0_1 (i : Nat) : BufTy := match i % 128 with
  | 0 => ⟨S32768x1024, .f32⟩
  | 1 => ⟨S32768x64, .f32⟩
  | 2 => ⟨S32768x64, .f32⟩
  | 3 => ⟨S32768x160, .f32⟩
  | 4 => ⟨S1024, .f32⟩
  | 5 => ⟨S32768x64, .f32⟩
  | 6 => ⟨S64x1024, .f32⟩
  | 7 => ⟨S32768x1024, .f32⟩
  | 8 => ⟨S1x1024, .f32⟩
  | 9 => ⟨S32768x1024, .f32⟩
  | 10 => ⟨S32768x1024, .f32⟩
  | 11 => ⟨S32768x1024, .f32⟩
  | 12 => ⟨S32768x1024, .f32⟩
  | 13 => ⟨S_, .f32⟩
  | 14 => ⟨S32768x1024, .f32⟩
  | 15 => ⟨S32768x1024, .f32⟩
  | 16 => ⟨S_, .f32⟩
  | 17 => ⟨S32768x1024, .f32⟩
  | 18 => ⟨S32768x1024, .f32⟩
  | 19 => ⟨S_, .f32⟩
  | 20 => ⟨S32768x1024, .f32⟩
  | 21 => ⟨S32768x1024, .f32⟩
  | 22 => ⟨S1024, .f32⟩
  | 23 => ⟨S64x1024, .f32⟩
  | 24 => ⟨S32768x1024, .f32⟩
  | 25 => ⟨S1x1024, .f32⟩
  | 26 => ⟨S32768x1024, .f32⟩
  | 27 => ⟨S32768x1024, .f32⟩
  | 28 => ⟨S32768x1024, .f32⟩
  | 29 => ⟨S32768x1024, .f32⟩
  | 30 => ⟨S_, .f32⟩
  | 31 => ⟨S32768x1024, .f32⟩
  | 32 => ⟨S32768x1024, .f32⟩
  | 33 => ⟨S_, .f32⟩
  | 34 => ⟨S32768x1024, .f32⟩
  | 35 => ⟨S32768x1024, .f32⟩
  | 36 => ⟨S32768x160, .f32⟩
  | 37 => ⟨S32768x160, .f32⟩
  | 38 => ⟨S_, .f32⟩
  | 39 => ⟨S32768x160, .f32⟩
  | 40 => ⟨S32768x160, .f32⟩
  | 41 => ⟨S_, .f32⟩
  | 42 => ⟨S32768x160, .f32⟩
  | 43 => ⟨S32768x160, .f32⟩
  | 44 => ⟨S160x1024, .f32⟩
  | 45 => ⟨S32768x1024, .f32⟩
  | 46 => ⟨S1024, .f32⟩
  | 47 => ⟨S1x1024, .f32⟩
  | 48 => ⟨S32768x1024, .f32⟩
  | 49 => ⟨S32768x1024, .f32⟩
  | 50 => ⟨S32768x16x64, .f32⟩
  | 51 => ⟨S32768x16x64, .f32⟩
  | 52 => ⟨S_, .f32⟩
  | 53 => ⟨S32768x16, .f32⟩
  | 54 => ⟨S32768x16x1, .f32⟩
  | 55 => ⟨S_, .f32⟩
  | 56 => ⟨S32768x16x1, .f32⟩
  | 57 => ⟨S32768x16x1, .f32⟩
  | 58 => ⟨S32768x16x1, .f32⟩
  | 59 => ⟨S32768x16x64, .f32⟩
  | 60 => ⟨S32768x16x64, .f32⟩
  | 61 => ⟨S32768x1024, .f32⟩
  | 62 => ⟨S_, .f32⟩
  | 63 => ⟨S32768x1024, .f32⟩
  | 64 => ⟨S32768x1024, .f32⟩
  | 65 => ⟨S1024, .f32⟩
  | 66 => ⟨S1x1024, .f32⟩
  | 67 => ⟨S32768x1024, .f32⟩
  | 68 => ⟨S32768x1024, .f32⟩
  | 69 => ⟨S_, .f32⟩
  | 70 => ⟨S32768x1024, .f32⟩
  | 71 => ⟨S32768x1024, .f32⟩
  | 72 => ⟨S32768x1024, .f32⟩
  | 73 => ⟨S32768x16x64, .f32⟩
  | 74 => ⟨S32768x16x64, .f32⟩
  | 75 => ⟨S32768x16x64, .f32⟩
  | 76 => ⟨S16x64, .f32⟩
  | 77 => ⟨S1x16x64, .f32⟩
  | 78 => ⟨S32768x16x64, .f32⟩
  | 79 => ⟨S32768x16x64, .f32⟩
  | 80 => ⟨S_, .f32⟩
  | 81 => ⟨S32768x16, .f32⟩
  | 82 => ⟨S32768x16x1, .f32⟩
  | 83 => ⟨S32768x16x64, .f32⟩
  | 84 => ⟨S32768x16x64, .f32⟩
  | 85 => ⟨S32768x16x64, .f32⟩
  | 86 => ⟨S32768x1024, .f32⟩
  | 87 => ⟨S32768x1024, .bf16⟩
  | 88 => ⟨S32768x1024, .f32⟩
  | 89 => ⟨S32768x1024, .f32⟩
  | 90 => ⟨S32768x1024, .f32⟩
  | 91 => ⟨S32768x1024, .f32⟩
  | 92 => ⟨S32768x1024, .bf16⟩
  | 93 => ⟨S32768x1024, .bf16⟩
  | 94 => ⟨S32768x1024, .bf16⟩
  | 95 => ⟨S32768x1024, .bf16⟩
  | 96 => ⟨S32768x1024, .bf16⟩
  | 97 => ⟨S32768x1024, .bf16⟩
  | 98 => ⟨S32768x7168, .bf16⟩
  | 99 => ⟨S1024, .f32⟩
  | 100 => ⟨S1x1024, .f32⟩
  | 101 => ⟨S32768x1024, .f32⟩
  | 102 => ⟨S32768x1024, .f32⟩
  | 103 => ⟨S1024, .f32⟩
  | 104 => ⟨S1x1024, .f32⟩
  | 105 => ⟨S32768x1024, .f32⟩
  | 106 => ⟨S32768x1024, .f32⟩
  | 107 => ⟨S32768x1024, .f32⟩
  | 108 => ⟨S32768x1024, .bf16⟩
  | 109 => ⟨S32768x1024, .bf16⟩
  | 110 => ⟨S32768x2048, .bf16⟩
  | 111 => ⟨S32768x64, .f32⟩
  | 112 => ⟨S32768x64, .f32⟩
  | 113 => ⟨S32768x128, .f32⟩
  | 114 => ⟨S32768x64, .f32⟩
  | 115 => ⟨S32768x64, .f32⟩
  | 116 => ⟨S32768x128, .f32⟩
  | 117 => ⟨S32768x1024, .bf16⟩
  | 118 => ⟨S32768x128, .bf16⟩
  | 119 => ⟨S32768x128, .bf16⟩
  | 120 => ⟨S32768x128, .bf16⟩
  | 121 => ⟨S32768x128, .bf16⟩
  | 122 => ⟨S32768x1024, .bf16⟩
  | 123 => ⟨S32768x1024, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_cst : Ref sig .tc := ⟨.hbm, 17, rfl⟩
abbrev main_v2 : Ref sig .tc := ⟨.hbm, 18, rfl⟩
abbrev main_v3 : Ref sig .tc := ⟨.hbm, 19, rfl⟩
abbrev main_cst_0 : Ref sig .tc := ⟨.hbm, 20, rfl⟩
abbrev main_v4 : Ref sig .tc := ⟨.hbm, 21, rfl⟩
abbrev main_v5 : Ref sig .tc := ⟨.hbm, 22, rfl⟩
abbrev main_cst_1 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_2 : Ref sig .tc := ⟨.hbm, 47, rfl⟩
abbrev main_v28 : Ref sig .tc := ⟨.hbm, 48, rfl⟩
abbrev main_v29 : Ref sig .tc := ⟨.hbm, 49, rfl⟩
abbrev main_cst_3 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_4 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_5 : Ref sig .tc := ⟨.hbm, 83, rfl⟩
abbrev main_v61 : Ref sig .tc := ⟨.hbm, 84, rfl⟩
abbrev main_v62 : Ref sig .tc := ⟨.hbm, 85, rfl⟩
abbrev main_cst_6 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_cst_7 : Ref sig .tc := ⟨.hbm, 141, rfl⟩
abbrev main_v117 : Ref sig .tc := ⟨.hbm, 142, rfl⟩
abbrev main_v118 : Ref sig .tc := ⟨.hbm, 143, rfl⟩
abbrev main_cst_8 : Ref sig .tc := ⟨.hbm, 144, rfl⟩
abbrev main_v119 : Ref sig .tc := ⟨.hbm, 145, rfl⟩
abbrev main_v120 : Ref sig .tc := ⟨.hbm, 146, rfl⟩
abbrev main_cst_9 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_cst_10 : Ref sig .tc := ⟨.hbm, 158, rfl⟩
abbrev main_v131 : Ref sig .tc := ⟨.hbm, 159, rfl⟩
abbrev main_v132 : Ref sig .tc := ⟨.hbm, 160, rfl⟩
abbrev main_cst_11 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_cst_12 : Ref sig .tc := ⟨.hbm, 166, rfl⟩
abbrev main_v137 : Ref sig .tc := ⟨.hbm, 167, rfl⟩
abbrev main_v138 : Ref sig .tc := ⟨.hbm, 168, rfl⟩
abbrev main_cst_13 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_cst_14 : Ref sig .tc := ⟨.hbm, 180, rfl⟩
abbrev main_v149 : Ref sig .tc := ⟨.hbm, 181, rfl⟩
abbrev main_v150 : Ref sig .tc := ⟨.hbm, 182, rfl⟩
abbrev main_cst_15 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_cst_16 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_cst_17 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_cst_18 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_v179 : Ref sig .tc := ⟨.hbm, 215, rfl⟩
abbrev main_v180 : Ref sig .tc := ⟨.hbm, 216, rfl⟩
abbrev main_v181 : Ref sig .tc := ⟨.hbm, 217, rfl⟩
abbrev main_v182 : Ref sig .tc := ⟨.hbm, 218, rfl⟩
abbrev main_v183 : Ref sig .tc := ⟨.hbm, 219, rfl⟩
abbrev main_v184 : Ref sig .tc := ⟨.hbm, 220, rfl⟩
abbrev main_v185 : Ref sig .tc := ⟨.hbm, 221, rfl⟩
abbrev main_v186 : Ref sig .tc := ⟨.hbm, 222, rfl⟩
abbrev main_v187 : Ref sig .tc := ⟨.hbm, 223, rfl⟩
abbrev main_v188 : Ref sig .tc := ⟨.hbm, 224, rfl⟩
abbrev main_v189 : Ref sig .tc := ⟨.hbm, 225, rfl⟩
abbrev main_v190 : Ref sig .tc := ⟨.hbm, 226, rfl⟩
abbrev main_v191 : Ref sig .tc := ⟨.hbm, 227, rfl⟩
abbrev main_v192 : Ref sig .tc := ⟨.hbm, 228, rfl⟩
abbrev main_v193 : Ref sig .tc := ⟨.hbm, 229, rfl⟩
abbrev main_v194 : Ref sig .tc := ⟨.hbm, 230, rfl⟩
abbrev main_v195 : Ref sig .tc := ⟨.hbm, 231, rfl⟩
abbrev main_v196 : Ref sig .tc := ⟨.hbm, 232, rfl⟩
abbrev main_v197 : Ref sig .tc := ⟨.hbm, 233, rfl⟩
abbrev main_v198 : Ref sig .tc := ⟨.hbm, 234, rfl⟩
abbrev main_v199 : Ref sig .tc := ⟨.hbm, 235, rfl⟩
abbrev main_v200 : Ref sig .tc := ⟨.hbm, 236, rfl⟩
abbrev main_v201 : Ref sig .tc := ⟨.hbm, 237, rfl⟩
abbrev main_v202 : Ref sig .tc := ⟨.hbm, 238, rfl⟩
abbrev main_v203 : Ref sig .tc := ⟨.hbm, 239, rfl⟩
abbrev main_v204 : Ref sig .tc := ⟨.hbm, 240, rfl⟩
abbrev main_v205 : Ref sig .tc := ⟨.hbm, 241, rfl⟩
abbrev main_v206 : Ref sig .tc := ⟨.hbm, 242, rfl⟩
abbrev main_v207 : Ref sig .tc := ⟨.hbm, 243, rfl⟩
abbrev main_v208 : Ref sig .tc := ⟨.hbm, 244, rfl⟩
abbrev main_v209 : Ref sig .tc := ⟨.hbm, 245, rfl⟩
abbrev main_v210 : Ref sig .tc := ⟨.hbm, 246, rfl⟩
abbrev main_v211 : Ref sig .tc := ⟨.hbm, 247, rfl⟩
abbrev main_v212 : Ref sig .tc := ⟨.hbm, 248, rfl⟩
abbrev main_v213 : Ref sig .tc := ⟨.hbm, 249, rfl⟩
abbrev main_v214 : Ref sig .tc := ⟨.hbm, 250, rfl⟩
abbrev main_v215 : Ref sig .tc := ⟨.hbm, 251, rfl⟩

abbrev nD : Nat := 1
abbrev τ : Topo := Topo.v7x

variable {F : FTy → Type} [FloatOps F]
-- ==== Proof.Heads.lean ====
module

public import proofs.«01_k».proof.Proof.Gen.Kernel.Value
public import Idealize.ShloMosaic.Lib.Bf16Pair
public import Idealize.ShloMosaic.Lib.ValueIdxCore
public import Idealize.ShloMosaic.Lib.Pipeline.Value
public import Idealize.ShloMosaic.Lib.Pipeline.ValueKit.Geometry

/-!
Four masked stores of packed words and the load after them, read as one value: the block diagonal of the heads.

A group holds four heads of width 64. The kernel packs the 64 rows of a `64 x 256` matrix in pairs into words, and
stores for each head the 32 rows of words at that head's place under a mask of that head's lanes, into a buffer that
is zero off the blocks and stays so (`Good`). What a load reads after the four stores is the words of the matrix
whose block of head `h` is the head's columns of the `64 x 256` matrix (`bd`).
-/

@[expose] public noncomputable section

open Idealize.ShloMosaic Idealize.ShloMosaic.ValueIdx Cert.Kernel Cert.Kernel.Gen

namespace Cert.Heads

/-- The lanes' and the rows' heads agree. -/
abbrev sameHead : IVec S256x256 1 := kernelRun0_A.sl.r

/-- The head of each row. -/
def rowHead : IVec S256x256 32 :=
  let v31 := iota Kind.tc S256x256 32 [0] (by decide)
  let v33 := divsi v31 (broadcast S256x256 64#32)
  let v40 := subi (extui 32 (cmpi CmpIPredicate.sgt v31 (broadcast S256x256 0#32)) (by decide))
    (extui 32 (cmpi CmpIPredicate.slt v31 (broadcast S256x256 0#32)) (by decide))
  let v46 := broadcast S256x256 (Scalar.subi (Scalar.extui (Scalar.cmpi CmpIPredicate.sgt 64#32 0#32))
    (Scalar.extui (Scalar.cmpi CmpIPredicate.slt 64#32 0#32)))
  select (andi (cmpi CmpIPredicate.ne v40 v46)
    (cmpi CmpIPredicate.ne (remsi v31 (broadcast S256x256 64#32)) (broadcast S256x256 0#32)))
    (subi v33 (broadcast S256x256 1#32)) v33

/-- The head of each lane. -/
def colHead : IVec S256x256 32 :=
  let v31 := iota Kind.tc S256x256 32 [1] (by decide)
  let v33 := divsi v31 (broadcast S256x256 64#32)
  let v40 := subi (extui 32 (cmpi CmpIPredicate.sgt v31 (broadcast S256x256 0#32)) (by decide))
    (extui 32 (cmpi CmpIPredicate.slt v31 (broadcast S256x256 0#32)) (by decide))
  let v46 := broadcast S256x256 (Scalar.subi (Scalar.extui (Scalar.cmpi CmpIPredicate.sgt 64#32 0#32))
    (Scalar.extui (Scalar.cmpi CmpIPredicate.slt 64#32 0#32)))
  select (andi (cmpi CmpIPredicate.ne v40 v46)
    (cmpi CmpIPredicate.ne (remsi v31 (broadcast S256x256 64#32)) (broadcast S256x256 0#32)))
    (subi v33 (broadcast S256x256 1#32)) v33

theorem sameHead_eq : sameHead = cmpi CmpIPredicate.eq rowHead colHead := rfl

theorem rowHead_row : ∀ a : Fin 256, rowHead (ix2 a (0 : Fin 256)) = BitVec.ofNat 32 (a.val / 64) := by
  decide +kernel

theorem colHead_col : ∀ a : Fin 256, colHead (ix2 (0 : Fin 256) a) = BitVec.ofNat 32 (a.val / 64) := by
  decide +kernel

theorem rowHead_apply (i : S256x256.Idx) : rowHead i = BitVec.ofNat 32 ((i 0).val / 64) :=
  (show rowHead i = rowHead (ix2 (i 0) (0 : Fin 256)) from rfl).trans (rowHead_row (i 0))

theorem colHead_apply (i : S256x256.Idx) : colHead i = BitVec.ofNat 32 ((i 1).val / 64) :=
  (show colHead i = colHead (ix2 (0 : Fin 256) (i 1)) from rfl).trans (colHead_col (i 1))

theorem sameHead_apply (i : S256x256.Idx) :
    sameHead i = if (i 0).val / 64 = (i 1).val / 64 then 1#1 else 0#1 := by
  rw [sameHead_eq]
  show Scalar.cmpi CmpIPredicate.eq (rowHead i) (colHead i) = _
  rw [rowHead_apply, colHead_apply]
  have h0 := (i 0).isLt
  have h1 := (i 1).isLt
  have h0' : (i 0).val < 256 := h0
  have h1' : (i 1).val < 256 := h1
  have key : ∀ a b : Fin 4, Scalar.cmpi CmpIPredicate.eq (BitVec.ofNat 32 a.val) (BitVec.ofNat 32 b.val)
      = if a.val = b.val then 1#1 else 0#1 := by decide
  exact key ⟨(i 0).val / 64, by omega⟩ ⟨(i 1).val / 64, by omega⟩

theorem concatenates4 : Shape.Concatenates [S64x256, S64x256, S64x256, S64x256] S256x256 (0 : Fin 2) := by decide

/-- The block diagonal of the heads of a `64 x 256` matrix. -/
def bd (y : FVec Bits S64x256 .bf16) : FVec Bits S256x256 .bf16 :=
  select sameHead
    (concatenate S256x256 (0 : Fin 2) [⟨S64x256, y⟩, ⟨S64x256, y⟩, ⟨S64x256, y⟩, ⟨S64x256, y⟩] concatenates4)
    (broadcast S256x256 (Scalar.ofBits (F := Bits) .bf16 0#16))

theorem concat_apply (y : FVec Bits S64x256 .bf16) (a b : Fin 256) :
    concatenate S256x256 (0 : Fin 2) [⟨S64x256, y⟩, ⟨S64x256, y⟩, ⟨S64x256, y⟩, ⟨S64x256, y⟩] concatenates4 (ix2 a b)
      = y (ix2 ⟨a.val % 64, by omega⟩ b) := by
  have ha := a.isLt
  have hk : a.val / 64 < 4 := by omega
  refine concatenate_apply_piece (0 : Fin S256x256.rank)
    [⟨S64x256, y⟩, ⟨S64x256, y⟩, ⟨S64x256, y⟩, ⟨S64x256, y⟩] concatenates4 (ix2 a b) (a.val / 64) hk S64x256 y ?_ rfl
    (64 * (a.val / 64)) ?_ (ix2 ⟨a.val % 64, by omega⟩ b) ?_ ?_
  · rcases (show a.val / 64 = 0 ∨ a.val / 64 = 1 ∨ a.val / 64 = 2 ∨ a.val / 64 = 3 by omega) with e | e | e | e <;>
      simp [e]
  · rcases (show a.val / 64 = 0 ∨ a.val / 64 = 1 ∨ a.val / 64 = 2 ∨ a.val / 64 = 3 by omega) with e | e | e | e <;>
      simp [e]
  · intro c hc
    match c, hc with
    | ⟨0, _⟩, hc => exact absurd rfl hc
    | ⟨1, _⟩, _ => rfl
  · show 64 * (a.val / 64) + a.val % 64 = a.val
    omega

theorem bd_apply (y : FVec Bits S64x256 .bf16) (a b : Fin 256) :
    bd y (ix2 a b) = if a.val / 64 = b.val / 64 then y (ix2 ⟨a.val % 64, by omega⟩ b) else (0#16 : BitVec 16) := by
  unfold bd
  rw [select_apply, sameHead_apply, concat_apply]
  show Scalar.select (if a.val / 64 = b.val / 64 then 1#1 else 0#1) _ _ = _
  split
  · rfl
  · rfl

/-- The packed words of a block of 128 lanes, as one masked store writes them. -/
def part0 (y : FVec Bits S64x256 .bf16) : S1x1x32x128.Idx → BitVec 32 :=
  shapeCast S1x1x32x128 (bitcast S32x128 32 (bitcastToInt (extractStridedSlice S64x128 ![0, 0] y (by decide))) (by decide)) (by decide)

def part1 (y : FVec Bits S64x256 .bf16) : S1x1x32x128.Idx → BitVec 32 :=
  shapeCast S1x1x32x128 (bitcast S32x128 32 (bitcastToInt (extractStridedSlice S64x128 ![0, 128] y (by decide))) (by decide)) (by decide)

/-- The packed words of the block diagonal, as one load reads them. -/
def words (y : FVec Bits S64x256 .bf16) : S1x1x128x256.Idx → BitVec 32 :=
  shapeCast S1x1x128x256 (bitcast S128x256 32 (bitcastToInt (bd y)) (by decide)) (by decide)

/-- The `64 x 256` matrix's word at row pair `p` and lane `q`. -/
def wd (y : FVec Bits S64x256 .bf16) (p : Fin 32) (q : Fin 256) : BitVec 32 :=
  (show BitVec 16 from y (ix2 (⟨2 * p.val + 1, by omega⟩ : Fin 64) q))
    ++ (show BitVec 16 from y (ix2 (⟨2 * p.val, by omega⟩ : Fin 64) q))

theorem part0_apply (y : FVec Bits S64x256 .bf16) (p : Fin 32) (q : Fin 128) :
    part0 y (ix4 (0 : Fin 1) (0 : Fin 1) p q) = wd y p ⟨q.val, by omega⟩ := by
  unfold part0
  rw [shapeCast_apply _ _ _ (ix2 p q) (by
    rw [Shape.rowMajor_val_two, Shape.rowMajor_val_four]; simp), IdealRules.bf16_pair.words_bits]
  unfold wd rowsOfParity
  refine congrArg₂ (fun a b : BitVec 16 => a ++ b) ?_ ?_
  · exact extractStridedSlice_apply _ _ _ _ _ (fun a => by
      match a with
      | ⟨0, _⟩ => simp
      | ⟨1, _⟩ => simp)
  · exact extractStridedSlice_apply _ _ _ _ _ (fun a => by
      match a with
      | ⟨0, _⟩ => simp
      | ⟨1, _⟩ => simp)

theorem part1_apply (y : FVec Bits S64x256 .bf16) (p : Fin 32) (q : Fin 128) :
    part1 y (ix4 (0 : Fin 1) (0 : Fin 1) p q) = wd y p ⟨128 + q.val, by omega⟩ := by
  unfold part1
  rw [shapeCast_apply _ _ _ (ix2 p q) (by
    rw [Shape.rowMajor_val_two, Shape.rowMajor_val_four]; simp), IdealRules.bf16_pair.words_bits]
  unfold wd rowsOfParity
  refine congrArg₂ (fun a b : BitVec 16 => a ++ b) ?_ ?_
  · exact extractStridedSlice_apply _ _ _ _ _ (fun a => by
      match a with
      | ⟨0, _⟩ => simp
      | ⟨1, _⟩ => simp)
  · exact extractStridedSlice_apply _ _ _ _ _ (fun a => by
      match a with
      | ⟨0, _⟩ => simp
      | ⟨1, _⟩ => simp)

theorem words_apply (y : FVec Bits S64x256 .bf16) (p : Fin 128) (q : Fin 256) :
    words y (ix4 (0 : Fin 1) (0 : Fin 1) p q)
      = if p.val / 32 = q.val / 64 then wd y ⟨p.val % 32, by omega⟩ q else 0#32 := by
  unfold words
  rw [shapeCast_apply _ _ _ (ix2 p q) (by
    rw [Shape.rowMajor_val_two, Shape.rowMajor_val_four]; simp), IdealRules.bf16_pair.words_bits]
  have e1 : rowsOfParity 1 S128x256 (bd y) (by decide) (ix2 p q) = bd y (ix2 (⟨2 * p.val + 1, by omega⟩ : Fin 256) q) := by
    unfold rowsOfParity
    refine congrArg (bd y) (funext fun a => ?_)
    match a with
    | ⟨0, _⟩ => rfl
    | ⟨1, _⟩ => rfl
  have e0 : rowsOfParity 0 S128x256 (bd y) (by decide) (ix2 p q) = bd y (ix2 (⟨2 * p.val, by omega⟩ : Fin 256) q) := by
    unfold rowsOfParity
    refine congrArg (bd y) (funext fun a => ?_)
    match a with
    | ⟨0, _⟩ => rfl
    | ⟨1, _⟩ => rfl
  show @HAppend.hAppend (BitVec 16) (BitVec 16) (BitVec 32) _ (rowsOfParity 1 S128x256 (bd y) _ (ix2 p q)) (rowsOfParity 0 S128x256 (bd y) _ (ix2 p q)) = _
  rw [e1, e0, bd_apply, bd_apply]
  by_cases h : p.val / 32 = q.val / 64
  · rw [if_pos h, if_pos (show (2 * p.val + 1) / 64 = q.val / 64 by omega),
      if_pos (show (2 * p.val) / 64 = q.val / 64 by omega)]
    unfold wd
    have a1 : (⟨(2 * p.val + 1) % 64, by omega⟩ : Fin 64) = ⟨2 * (p.val % 32) + 1, by omega⟩ := Fin.ext (by simp only []; omega)
    have a0 : (⟨(2 * p.val) % 64, by omega⟩ : Fin 64) = ⟨2 * (p.val % 32), by omega⟩ := Fin.ext (by simp only []; omega)
    exact congrArg₂ (fun (a b : Fin 64) => (show BitVec 16 from y (ix2 a q)) ++ (show BitVec 16 from y (ix2 b q))) a1 a0
  · rw [if_neg h, if_neg (show ¬ (2 * p.val + 1) / 64 = q.val / 64 by omega),
      if_neg (show ¬ (2 * p.val) / 64 = q.val / 64 by omega)]
    rfl

/-- The words of the block diagonal read back as rows are the block diagonal. -/
theorem unwords (y : FVec Bits S64x256 .bf16) (h1 h2) :
    bitcastToFloat .bf16 (bitcast S256x256 16 (shapeCast S128x256 (words y) h1) h2) = bd y := by
  unfold words
  rw [shapeCast_shapeCast, IdealRules.bf16_pair.words_bits, IdealRules.bf16_pair.rows_bits _ _,
    interleaveRows_rowsOfParity]
  decide

/-- The buffer of words. -/
abbrev Buf := Memref Cert.Kernel.sig Kind.tc Space.vmem S8x6x128x256 .i32

/-- The contents are zero off the heads' blocks. -/
def Good (v : Buf) (f : v.view.ty.Contents (Elt Bits)) : Prop :=
  ∀ (a : Fin 8) (b : Fin 6) (p : Fin 128) (q : Fin 256), p.val / 32 ≠ q.val / 64 →
    v.view.read (Elt Bits) f (ix4 a b p q) = (0#32 : BitVec 32)

theorem unit_emb (o0 o1 o2 o3 n2 n3 : Nat) (inb) (p : Fin n2) (q : Fin n3) (a : Fin 8) (b : Fin 6) (P : Fin 128)
    (Q : Fin 256) (ha : a.val = o0) (hb : b.val = o1) (hP : P.val = o2 + p.val) (hQ : Q.val = o3 + q.val) :
    (Rect.unit (s := S8x6x128x256) ![o0, o1, o2, o3] ![1, 1, n2, n3] inb).emb (ix4 (0 : Fin 1) (0 : Fin 1) p q)
      = ix4 a b P Q := by
  funext x
  apply Fin.ext
  rw [ValueKit.rect_emb_unit_val]
  match x with
  | ⟨0, _⟩ => simp [ha]
  | ⟨1, _⟩ => simp [hb]
  | ⟨2, _⟩ => simp [hP]
  | ⟨3, _⟩ => simp [hQ]

/-- One masked store, read at an index: the head's words on its block, the old contents elsewhere. -/
theorem store_read (v : Buf) (f : v.view.ty.Contents (Elt Bits)) (h o0 o1 o2 o3 : Nat) (hh : h < 4)
    (h2 : o2 = 32 * h) (h3 : o3 = 128 * (h / 2)) (inb) (w : S1x1x32x128.Idx → BitVec 32) (M : Finset S1x1x32x128.Idx)
    (hM : ∀ (p : Fin 32) (q : Fin 128), ix4 (0 : Fin 1) (0 : Fin 1) p q ∈ M ↔ q.val / 64 = h % 2)
    (a : Fin 8) (b : Fin 6) (p : Fin 128) (q : Fin 256) :
    v.view.read (Elt Bits) ((v.access (Rect.unit ![o0, o1, o2, o3] S1x1x32x128.size inb)).write (Elt Bits) f w M)
        (ix4 a b p q)
      = if a.val = o0 ∧ b.val = o1 ∧ p.val / 32 = h ∧ q.val / 64 = h
        then w (ix4 (0 : Fin 1) (0 : Fin 1) (⟨p.val % 32, by omega⟩ : Fin 32) (⟨q.val % 128, by omega⟩ : Fin 128))
        else v.view.read (Elt Bits) f (ix4 a b p q) := by
  have hq := q.isLt
  by_cases c : a.val = o0 ∧ b.val = o1 ∧ p.val / 32 = h ∧ q.val / 64 = h
  · rw [if_pos c]
    obtain ⟨ca, cb, cp, cq⟩ := c
    have e : (Rect.unit (s := S8x6x128x256) ![o0, o1, o2, o3] S1x1x32x128.size inb).emb
        (ix4 (0 : Fin 1) (0 : Fin 1) (⟨p.val % 32, by omega⟩ : Fin 32) (⟨q.val % 128, by omega⟩ : Fin 128))
        = ix4 a b p q := unit_emb o0 o1 o2 o3 32 128 inb (⟨p.val % 32, by omega⟩ : Fin 32) (⟨q.val % 128, by omega⟩ : Fin 128) a b p q
      ca cb (by simp only []; omega) (by simp only []; omega)
    refine (congrArg (fun z => v.view.read (Elt Bits)
      ((v.access (Rect.unit ![o0, o1, o2, o3] S1x1x32x128.size inb)).write (Elt Bits) f w M) z) e.symm).trans ?_
    have hm : ix4 (0 : Fin 1) (0 : Fin 1) (⟨p.val % 32, by omega⟩ : Fin 32) (⟨q.val % 128, by omega⟩ : Fin 128) ∈ M :=
      (hM _ _).2 (show q.val % 128 / 64 = h % 2 by omega)
    exact View.read_slice_write_emb (v := v.view) (Val := Elt Bits) (Rect.unit ![o0, o1, o2, o3] S1x1x32x128.size inb) f w hm
  · rw [if_neg c]
    have hn : ix4 a b p q ∉ M.map (Rect.unit (s := S8x6x128x256) ![o0, o1, o2, o3] S1x1x32x128.size inb).emb := by
     intro hm
     obtain ⟨x, hx, ex⟩ := Finset.mem_map.1 hm
     obtain ⟨x0, x1, x2, x3, rfl⟩ : ∃ x0 x1 x2 x3, x = ix4 x0 x1 x2 x3 := ⟨x 0, x 1, x 2, x 3, eq_ix4 x⟩
     have hx2 : x2.val < 32 := x2.isLt
     have hx3 : x3.val < 128 := x3.isLt
     have hx0 : x0.val < 1 := x0.isLt
     have hx1 : x1.val < 1 := x1.isLt
     have z0 : x0 = (0 : Fin 1) := Fin.ext (by simp only [Fin.val_zero]; omega)
     have z1 : x1 = (0 : Fin 1) := Fin.ext (by simp only [Fin.val_zero]; omega)
     subst z0 z1
     have m := (hM _ _).1 hx
     have e0 : _ = a.val := congrArg Fin.val (congrFun ex 0)
     have e1 : _ = b.val := congrArg Fin.val (congrFun ex 1)
     have e2 : _ = p.val := congrArg Fin.val (congrFun ex 2)
     have e3 : _ = q.val := congrArg Fin.val (congrFun ex 3)
     rw [ValueKit.rect_emb_unit_val] at e0 e1 e2 e3
     have f0 : o0 + 0 = a.val := e0
     have f1 : o1 + 0 = b.val := e1
     have f2 : o2 + x2.val = p.val := e2
     have f3 : o3 + x3.val = q.val := e3
     clear e0 e1 e2 e3 ex
     exact c ⟨by omega, by omega, by omega, by omega⟩
    exact View.read_slice_write_of_not_mem (v := v.view) (Val := Elt Bits) (Rect.unit ![o0, o1, o2, o3] S1x1x32x128.size inb) f w M hn

/-- The four masked stores of a block diagonal, and what a load of the block reads after them. -/
theorem bd4 (v : Buf) (f : v.view.ty.Contents (Elt Bits)) (hf : Good v f) (o0 o1 : Nat) (y : FVec Bits S64x256 .bf16)
    (i0 i1 i2 i3 il) (w0 w1 w2 w3 : S1x1x32x128.Idx → BitVec 32) (M0 M1 M2 M3 : Finset S1x1x32x128.Idx)
    (e0 : w0 = part0 y) (e1 : w1 = part0 y) (e2 : w2 = part1 y) (e3 : w3 = part1 y)
    (m0 : ∀ (p : Fin 32) (q : Fin 128), ix4 (0 : Fin 1) (0 : Fin 1) p q ∈ M0 ↔ q.val / 64 = 0)
    (m1 : ∀ (p : Fin 32) (q : Fin 128), ix4 (0 : Fin 1) (0 : Fin 1) p q ∈ M1 ↔ q.val / 64 = 1)
    (m2 : ∀ (p : Fin 32) (q : Fin 128), ix4 (0 : Fin 1) (0 : Fin 1) p q ∈ M2 ↔ q.val / 64 = 0)
    (m3 : ∀ (p : Fin 32) (q : Fin 128), ix4 (0 : Fin 1) (0 : Fin 1) p q ∈ M3 ↔ q.val / 64 = 1) :
    Good v ((v.access (Rect.unit ![o0, o1, 96, 128] S1x1x32x128.size i3)).write (Elt Bits)
        ((v.access (Rect.unit ![o0, o1, 64, 128] S1x1x32x128.size i2)).write (Elt Bits)
          ((v.access (Rect.unit ![o0, o1, 32, 0] S1x1x32x128.size i1)).write (Elt Bits)
            ((v.access (Rect.unit ![o0, o1, 0, 0] S1x1x32x128.size i0)).write (Elt Bits) f w0 M0) w1 M1) w2 M2) w3 M3)
    ∧ View.readAt (Elt Bits) v.view (Rect.unit (s := S8x6x128x256) ![o0, o1, 0, 0] S1x1x128x256.size il).toLoadRect
        ((v.access (Rect.unit ![o0, o1, 96, 128] S1x1x32x128.size i3)).write (Elt Bits)
        ((v.access (Rect.unit ![o0, o1, 64, 128] S1x1x32x128.size i2)).write (Elt Bits)
          ((v.access (Rect.unit ![o0, o1, 32, 0] S1x1x32x128.size i1)).write (Elt Bits)
            ((v.access (Rect.unit ![o0, o1, 0, 0] S1x1x32x128.size i0)).write (Elt Bits) f w0 M0) w1 M1) w2 M2) w3 M3)
      = words y := by
  subst e0 e1 e2 e3
  have main : ∀ (a : Fin 8) (b : Fin 6) (p : Fin 128) (q : Fin 256), _ := fun a b p q =>
    (store_read v _ 3 o0 o1 96 128 (by decide) rfl rfl i3 (part1 y) M3 m3 a b p q).trans <|
      congrArg (fun z => if a.val = o0 ∧ b.val = o1 ∧ p.val / 32 = 3 ∧ q.val / 64 = 3 then
          part1 y (ix4 (0 : Fin 1) (0 : Fin 1) (⟨p.val % 32, by omega⟩ : Fin 32) (⟨q.val % 128, by omega⟩ : Fin 128)) else z) <|
    (store_read v _ 2 o0 o1 64 128 (by decide) rfl rfl i2 (part1 y) M2 m2 a b p q).trans <|
      congrArg (fun z => if a.val = o0 ∧ b.val = o1 ∧ p.val / 32 = 2 ∧ q.val / 64 = 2 then
          part1 y (ix4 (0 : Fin 1) (0 : Fin 1) (⟨p.val % 32, by omega⟩ : Fin 32) (⟨q.val % 128, by omega⟩ : Fin 128)) else z) <|
    (store_read v _ 1 o0 o1 32 0 (by decide) rfl rfl i1 (part0 y) M1 m1 a b p q).trans <|
      congrArg (fun z => if a.val = o0 ∧ b.val = o1 ∧ p.val / 32 = 1 ∧ q.val / 64 = 1 then
          part0 y (ix4 (0 : Fin 1) (0 : Fin 1) (⟨p.val % 32, by omega⟩ : Fin 32) (⟨q.val % 128, by omega⟩ : Fin 128)) else z) <|
    (store_read v f 0 o0 o1 0 0 (by decide) rfl rfl i0 (part0 y) M0 m0 a b p q)
  refine ⟨fun a b p q hne => ?_, ?_⟩
  · rw [main, if_neg (by omega), if_neg (by omega), if_neg (by omega), if_neg (by omega)]
    exact hf a b p q hne
  · funext x
    obtain ⟨x0, x1, p, q, rfl⟩ : ∃ x0 x1 p q, x = ix4 x0 x1 p q := ⟨x 0, x 1, x 2, x 3, eq_ix4 x⟩
    have hx0 : x0.val < 1 := x0.isLt
    have hx1 : x1.val < 1 := x1.isLt
    have z0 : x0 = (0 : Fin 1) := Fin.ext (by simp only [Fin.val_zero]; omega)
    have z1 : x1 = (0 : Fin 1) := Fin.ext (by simp only [Fin.val_zero]; omega)
    subst z0 z1
    have hp : p.val < 128 := p.isLt
    have hq : q.val < 256 := q.isLt
    have k0 : o0 + 1 ≤ 8 := il 0
    have k1 : o1 + 1 ≤ 6 := il 1
    rw [View.readAt_eq_ld]
    show View.read (Elt Bits) v.view _ ((Rect.unit (s := S8x6x128x256) ![o0, o1, 0, 0] S1x1x128x256.size il).emb (ix4 (0 : Fin 1) (0 : Fin 1) p q)) = _
    rw [show (Rect.unit (s := S8x6x128x256) ![o0, o1, 0, 0] S1x1x128x256.size il).emb (ix4 (0 : Fin 1) (0 : Fin 1) p q)
      = ix4 (⟨o0, by omega⟩ : Fin 8) (⟨o1, by omega⟩ : Fin 6) p q from
        unit_emb o0 o1 0 0 128 256 il p q _ _ p q rfl rfl (by omega) (by omega), main]
    refine Eq.trans ?_ (words_apply y p q).symm
    by_cases c : p.val / 32 = q.val / 64
    · rw [if_pos c]
      rcases (show p.val / 32 = 0 ∨ p.val / 32 = 1 ∨ p.val / 32 = 2 ∨ p.val / 32 = 3 by omega) with e | e | e | e
      · rw [if_neg (by omega), if_neg (by omega), if_neg (by omega), if_pos ⟨rfl, rfl, e, by omega⟩, part0_apply]
        exact congrArg (wd y _) (Fin.ext (by simp only []; omega))
      · rw [if_neg (by omega), if_neg (by omega), if_pos ⟨rfl, rfl, e, by omega⟩, part0_apply]
        exact congrArg (wd y _) (Fin.ext (by simp only []; omega))
      · rw [if_neg (by omega), if_pos ⟨rfl, rfl, e, by omega⟩, part1_apply]
        exact congrArg (wd y _) (Fin.ext (by simp only []; omega))
      · rw [if_pos ⟨rfl, rfl, e, by omega⟩, part1_apply]
        exact congrArg (wd y _) (Fin.ext (by simp only []; omega))
    · rw [if_neg c, if_neg (by omega), if_neg (by omega), if_neg (by omega), if_neg (by omega)]
      exact hf _ _ p q c

/-- The lanes below 64 of a block of 128. -/
theorem mem_lt (c) (p : Fin 32) (q : Fin 128) :
    ix4 (0 : Fin 1) (0 : Fin 1) p q
        ∈ IVec.on (shapeCast S1x1x32x128 (cmpi CmpIPredicate.slt kernelRun0_A.sl.v8 kernelRun0_A.sl.v9) c)
      ↔ q.val / 64 = 0 := by
  have key : ∀ q : Fin 128, cmpi CmpIPredicate.slt kernelRun0_A.sl.v8 kernelRun0_A.sl.v9 (ix2 (0 : Fin 32) q) = 1
      ↔ q.val / 64 = 0 := by
    decide +kernel
  rw [Finset.mem_filter]
  rw [shapeCast_apply _ _ _ (ix2 p q) (by rw [Shape.rowMajor_val_two, Shape.rowMajor_val_four]; simp)]
  have hz : ∀ o, cmpi o kernelRun0_A.sl.v8 kernelRun0_A.sl.v9 (ix2 p q) = cmpi o kernelRun0_A.sl.v8 kernelRun0_A.sl.v9 (ix2 (0 : Fin 32) q) :=
    fun _ => rfl
  rw [hz]
  exact ⟨fun h => (key q).1 h.2, fun h => ⟨Finset.mem_univ _, (key q).2 h⟩⟩

theorem mem_ge (c) (p : Fin 32) (q : Fin 128) :
    ix4 (0 : Fin 1) (0 : Fin 1) p q
        ∈ IVec.on (shapeCast S1x1x32x128 (cmpi CmpIPredicate.sge kernelRun0_A.sl.v8 kernelRun0_A.sl.v9) c)
      ↔ q.val / 64 = 1 := by
  have key : ∀ q : Fin 128, cmpi CmpIPredicate.sge kernelRun0_A.sl.v8 kernelRun0_A.sl.v9 (ix2 (0 : Fin 32) q) = 1
      ↔ q.val / 64 = 1 := by
    decide +kernel
  rw [Finset.mem_filter]
  rw [shapeCast_apply _ _ _ (ix2 p q) (by rw [Shape.rowMajor_val_two, Shape.rowMajor_val_four]; simp)]
  have hz : ∀ o, cmpi o kernelRun0_A.sl.v8 kernelRun0_A.sl.v9 (ix2 p q) = cmpi o kernelRun0_A.sl.v8 kernelRun0_A.sl.v9 (ix2 (0 : Fin 32) q) :=
    fun _ => rfl
  rw [hz]
  exact ⟨fun h => (key q).1 h.2, fun h => ⟨Finset.mem_univ _, (key q).2 h⟩⟩

/-- The zero fill is zero off the blocks. -/
theorem good_zero (v : Buf) : Good v (v.view.writes (Elt Bits) v.view.junk kernelRun0_A.sl.HS1_1) := by
  intro a b p q _
  have e : v.view.read (Elt Bits) (v.view.writes (Elt Bits) v.view.junk kernelRun0_A.sl.HS1_1) = fun _ => (0#32 : BitVec 32) := by
    unfold kernelRun0_A.sl.HS1_1
    rw [View.read_writes_junk_eq_canon, View.canon_unit_zero (show ![0, 0, 0, 0] = fun _ => 0 from by decide)]
    rfl
  rw [e]

end Cert.Heads
-- ==== Proof.Mirror.lean ====
module

public import proofs.«01_k».proof.Proof.Heads

/-!
The values of the kernel's run as functions of its arguments alone, one definition for each: a load of a block
diagonal is `bd` of the matrix stored, a load of an argument is the argument's block, and a state read back is the
state stored. `qpayN` is the run's value `k0_payN` with the word's load, or the state's cast, taken out.
-/

@[expose] public noncomputable section

open Idealize.ShloMosaic Cert.Kernel Cert.Kernel.Gen Cert.Kernel.Gen.kernelRun0_A Cert.Heads

namespace Cert.Mirror

theorem castcast {α : Type} (s : S256x256.Idx → α) (h h') :
    shapeCast S256x256 (shapeCast S1x256x256 s h) h' = s := shapeCast_shapeCast s h h'

def qpay163 (v413 : FVec Bits S128x256 FTy.bf16) (v445 : FVec Bits S256x256 .bf16) :=
  have v447 := v445;
  have cst_113 := constant (F := Bits) S128x256 FTy.f32 0#32;
  have v448 := matmul dot_S128x256_S256x256_S128x256_1_1_0_0_n_n none v413 v447 cst_113;
  v448
theorem qpay163_eq (v413 : FVec Bits S128x256 FTy.bf16) (v445 : FVec Bits S64x256 .bf16) :
    k0_pay163 (F := Bits) v413 (words v445) = qpay163 v413 (bd v445) := by
  simp only [k0_pay163, qpay163, unwords, castcast]

def qpay173 (v414 : FVec Bits S128x256 FTy.bf16) (v473 : FVec Bits S256x256 .bf16) :=
  have v475 := v473;
  have cst_133 := constant (F := Bits) S128x256 FTy.f32 0#32;
  have v476 := matmul dot_S128x256_S256x256_S128x256_1_1_0_0_n_n none v414 v475 cst_133;
  v476
theorem qpay173_eq (v414 : FVec Bits S128x256 FTy.bf16) (v473 : FVec Bits S64x256 .bf16) :
    k0_pay173 (F := Bits) v414 (words v473) = qpay173 v414 (bd v473) := by
  simp only [k0_pay173, qpay173, unwords, castcast]

def qpay182 (v415 : FVec Bits S128x256 FTy.bf16) (v501 : FVec Bits S256x256 .bf16) :=
  have v503 := v501;
  have cst_153 := constant (F := Bits) S128x256 FTy.f32 0#32;
  have v504 := matmul dot_S128x256_S256x256_S128x256_1_1_0_0_n_n none v415 v503 cst_153;
  v504
theorem qpay182_eq (v415 : FVec Bits S128x256 FTy.bf16) (v501 : FVec Bits S64x256 .bf16) :
    k0_pay182 (F := Bits) v415 (words v501) = qpay182 v415 (bd v501) := by
  simp only [k0_pay182, qpay182, unwords, castcast]

def qpay192 (v416 : FVec Bits S128x256 FTy.bf16) (v529 : FVec Bits S256x256 .bf16) :=
  have v531 := v529;
  have cst_173 := constant (F := Bits) S128x256 FTy.f32 0#32;
  have v532 := matmul dot_S128x256_S256x256_S128x256_1_1_0_0_n_n none v416 v531 cst_173;
  v532
theorem qpay192_eq (v416 : FVec Bits S128x256 FTy.bf16) (v529 : FVec Bits S64x256 .bf16) :
    k0_pay192 (F := Bits) v416 (words v529) = qpay192 v416 (bd v529) := by
  simp only [k0_pay192, qpay192, unwords, castcast]

def qpay202 (v417 : FVec Bits S128x256 FTy.bf16) (v557 : FVec Bits S256x256 .bf16) :=
  have v559 := v557;
  have cst_193 := constant (F := Bits) S128x256 FTy.f32 0#32;
  have v560 := matmul dot_S128x256_S256x256_S128x256_1_1_0_0_n_n none v417 v559 cst_193;
  v560
theorem qpay202_eq (v417 : FVec Bits S128x256 FTy.bf16) (v557 : FVec Bits S64x256 .bf16) :
    k0_pay202 (F := Bits) v417 (words v557) = qpay202 v417 (bd v557) := by
  simp only [k0_pay202, qpay202, unwords, castcast]

def qpay211 (v418 : FVec Bits S128x256 FTy.bf16) (v585 : FVec Bits S256x256 .bf16) :=
  have v587 := v585;
  have cst_213 := constant (F := Bits) S128x256 FTy.f32 0#32;
  have v588 := matmul dot_S128x256_S256x256_S128x256_1_1_0_0_n_n none v418 v587 cst_213;
  v588
theorem qpay211_eq (v418 : FVec Bits S128x256 FTy.bf16) (v585 : FVec Bits S64x256 .bf16) :
    k0_pay211 (F := Bits) v418 (words v585) = qpay211 v418 (bd v585) := by
  simp only [k0_pay211, qpay211, unwords, castcast]

def qpay221 (v419 : FVec Bits S128x256 FTy.bf16) (v613 : FVec Bits S256x256 .bf16) :=
  have v615 := v613;
  have cst_233 := constant (F := Bits) S128x256 FTy.f32 0#32;
  have v616 := matmul dot_S128x256_S256x256_S128x256_1_1_0_0_n_n none v419 v615 cst_233;
  v616
theorem qpay221_eq (v419 : FVec Bits S128x256 FTy.bf16) (v613 : FVec Bits S64x256 .bf16) :
    k0_pay221 (F := Bits) v419 (words v613) = qpay221 v419 (bd v613) := by
  simp only [k0_pay221, qpay221, unwords, castcast]

def qpay230 (v420 : FVec Bits S128x256 FTy.bf16) (v641 : FVec Bits S256x256 .bf16) :=
  have v643 := v641;
  have cst_253 := constant (F := Bits) S128x256 FTy.f32 0#32;
  have v644 := matmul dot_S128x256_S256x256_S128x256_1_1_0_0_n_n none v420 v643 cst_253;
  v644
theorem qpay230_eq (v420 : FVec Bits S128x256 FTy.bf16) (v641 : FVec Bits S64x256 .bf16) :
    k0_pay230 (F := Bits) v420 (words v641) = qpay230 v420 (bd v641) := by
  simp only [k0_pay230, qpay230, unwords, castcast]

def qpay239 (v669 : FVec Bits S256x256 .bf16) :=
  have v671 := v669;
  v671
theorem qpay239_eq (v669 : FVec Bits S64x256 .bf16) :
    k0_pay239 (F := Bits) (words v669) = qpay239 (bd v669) := by
  simp only [k0_pay239, qpay239, unwords, castcast]

def qpay249 (v414 : FVec Bits S128x256 FTy.bf16) (v697 : FVec Bits S256x256 .bf16) :=
  have v699 := v697;
  have cst_295 := constant (F := Bits) S128x256 FTy.f32 0#32;
  have v700 := matmul dot_S128x256_S256x256_S128x256_1_1_0_0_n_n none v414 v699 cst_295;
  v700
theorem qpay249_eq (v414 : FVec Bits S128x256 FTy.bf16) (v697 : FVec Bits S64x256 .bf16) :
    k0_pay249 (F := Bits) v414 (words v697) = qpay249 v414 (bd v697) := by
  simp only [k0_pay249, qpay249, unwords, castcast]

def qpay259 (v415 : FVec Bits S128x256 FTy.bf16) (v725 : FVec Bits S256x256 .bf16) :=
  have v727 := v725;
  have cst_316 := constant (F := Bits) S128x256 FTy.f32 0#32;
  have v728 := matmul dot_S128x256_S256x256_S128x256_1_1_0_0_n_n none v415 v727 cst_316;
  v728
theorem qpay259_eq (v415 : FVec Bits S128x256 FTy.bf16) (v725 : FVec Bits S64x256 .bf16) :
    k0_pay259 (F := Bits) v415 (words v725) = qpay259 v415 (bd v725) := by
  simp only [k0_pay259, qpay259, unwords, castcast]

def qpay269 (v416 : FVec Bits S128x256 FTy.bf16) (v753 : FVec Bits S256x256 .bf16) :=
  have v755 := v753;
  have cst_337 := constant (F := Bits) S128x256 FTy.f32 0#32;
  have v756 := matmul dot_S128x256_S256x256_S128x256_1_1_0_0_n_n none v416 v755 cst_337;
  v756
theorem qpay269_eq (v416 : FVec Bits S128x256 FTy.bf16) (v753 : FVec Bits S64x256 .bf16) :
    k0_pay269 (F := Bits) v416 (words v753) = qpay269 v416 (bd v753) := by
  simp only [k0_pay269, qpay269, unwords, castcast]

def qpay278 (v417 : FVec Bits S128x256 FTy.bf16) (v781 : FVec Bits S256x256 .bf16) :=
  have v783 := v781;
  have cst_358 := constant (F := Bits) S128x256 FTy.f32 0#32;
  have v784 := matmul dot_S128x256_S256x256_S128x256_1_1_0_0_n_n none v417 v783 cst_358;
  v784
theorem qpay278_eq (v417 : FVec Bits S128x256 FTy.bf16) (v781 : FVec Bits S64x256 .bf16) :
    k0_pay278 (F := Bits) v417 (words v781) = qpay278 v417 (bd v781) := by
  simp only [k0_pay278, qpay278, unwords, castcast]

def qpay288 (v418 : FVec Bits S128x256 FTy.bf16) (v809 : FVec Bits S256x256 .bf16) :=
  have v811 := v809;
  have cst_379 := constant (F := Bits) S128x256 FTy.f32 0#32;
  have v812 := matmul dot_S128x256_S256x256_S128x256_1_1_0_0_n_n none v418 v811 cst_379;
  v812
theorem qpay288_eq (v418 : FVec Bits S128x256 FTy.bf16) (v809 : FVec Bits S64x256 .bf16) :
    k0_pay288 (F := Bits) v418 (words v809) = qpay288 v418 (bd v809) := by
  simp only [k0_pay288, qpay288, unwords, castcast]

def qpay298 (v419 : FVec Bits S128x256 FTy.bf16) (v837 : FVec Bits S256x256 .bf16) :=
  have v839 := v837;
  have cst_400 := constant (F := Bits) S128x256 FTy.f32 0#32;
  have v840 := matmul dot_S128x256_S256x256_S128x256_1_1_0_0_n_n none v419 v839 cst_400;
  v840
theorem qpay298_eq (v419 : FVec Bits S128x256 FTy.bf16) (v837 : FVec Bits S64x256 .bf16) :
    k0_pay298 (F := Bits) v419 (words v837) = qpay298 v419 (bd v837) := by
  simp only [k0_pay298, qpay298, unwords, castcast]

def qpay308 (v420 : FVec Bits S128x256 FTy.bf16) (v865 : FVec Bits S256x256 .bf16) :=
  have v867 := v865;
  have cst_421 := constant (F := Bits) S128x256 FTy.f32 0#32;
  have v868 := matmul dot_S128x256_S256x256_S128x256_1_1_0_0_n_n none v420 v867 cst_421;
  v868
theorem qpay308_eq (v420 : FVec Bits S128x256 FTy.bf16) (v865 : FVec Bits S64x256 .bf16) :
    k0_pay308 (F := Bits) v420 (words v865) = qpay308 v420 (bd v865) := by
  simp only [k0_pay308, qpay308, unwords, castcast]

def qpay363 (v1007 : FVec Bits S128x256 FTy.bf16) (v1032 : FVec Bits S256x256 .bf16) :=
  have v1034 := v1032;
  have cst_486 := constant (F := Bits) S128x256 FTy.f32 0#32;
  have v1035 := matmul dot_S128x256_S256x256_S128x256_1_0_0_1_n_n none v1007 v1034 cst_486;
  v1035
theorem qpay363_eq (v1007 : FVec Bits S128x256 FTy.bf16) (v1032 : FVec Bits S64x256 .bf16) :
    k0_pay363 (F := Bits) v1007 (words v1032) = qpay363 v1007 (bd v1032) := by
  simp only [k0_pay363, qpay363, unwords, castcast]

def qpay373 (v1036 : FVec Bits S128x256 FTy.bf16) (v1061 : FVec Bits S256x256 .bf16) :=
  have v1063 := v1061;
  have cst_507 := constant (F := Bits) S128x256 FTy.f32 0#32;
  have v1064 := matmul dot_S128x256_S256x256_S128x256_1_0_0_1_n_n none v1036 v1063 cst_507;
  v1064
theorem qpay373_eq (v1036 : FVec Bits S128x256 FTy.bf16) (v1061 : FVec Bits S64x256 .bf16) :
    k0_pay373 (F := Bits) v1036 (words v1061) = qpay373 v1036 (bd v1061) := by
  simp only [k0_pay373, qpay373, unwords, castcast]

def qpay382 (v938 : FVec Bits S64x256 FTy.bf16) (v970 : FVec Bits S64x256 FTy.bf16) (v1090 : FVec Bits S256x256 .bf16) :=
  have v1065 := concatenate S128x256 0 [⟨S64x256, v938⟩, ⟨S64x256, v970⟩] concatenates_S64x256_S64x256_S128x256_d0;
  have v1092 := v1090;
  have cst_528 := constant (F := Bits) S128x256 FTy.f32 0#32;
  have v1093 := matmul dot_S128x256_S256x256_S128x256_1_0_0_1_n_n none v1065 v1092 cst_528;
  v1093
theorem qpay382_eq (v938 : FVec Bits S64x256 FTy.bf16) (v970 : FVec Bits S64x256 FTy.bf16) (v1090 : FVec Bits S64x256 .bf16) :
    k0_pay382 (F := Bits) v938 v970 (words v1090) = qpay382 v938 v970 (bd v1090) := by
  simp only [k0_pay382, qpay382, unwords, castcast]

def qpay391 (v942 : FVec Bits S64x256 FTy.bf16) (v974 : FVec Bits S64x256 FTy.bf16) (v1119 : FVec Bits S256x256 .bf16) :=
  have v1094 := concatenate S128x256 0 [⟨S64x256, v942⟩, ⟨S64x256, v974⟩] concatenates_S64x256_S64x256_S128x256_d0;
  have v1121 := v1119;
  have cst_549 := constant (F := Bits) S128x256 FTy.f32 0#32;
  have v1122 := matmul dot_S128x256_S256x256_S128x256_1_0_0_1_n_n none v1094 v1121 cst_549;
  v1122
theorem qpay391_eq (v942 : FVec Bits S64x256 FTy.bf16) (v974 : FVec Bits S64x256 FTy.bf16) (v1119 : FVec Bits S64x256 .bf16) :
    k0_pay391 (F := Bits) v942 v974 (words v1119) = qpay391 v942 v974 (bd v1119) := by
  simp only [k0_pay391, qpay391, unwords, castcast]

def qpay402 (v1123 : FVec Bits S128x256 FTy.bf16) (v1148 : FVec Bits S256x256 .bf16) :=
  have v1150 := v1148;
  have cst_570 := constant (F := Bits) S128x256 FTy.f32 0#32;
  have v1151 := matmul dot_S128x256_S256x256_S128x256_1_0_0_1_n_n none v1123 v1150 cst_570;
  v1151
theorem qpay402_eq (v1123 : FVec Bits S128x256 FTy.bf16) (v1148 : FVec Bits S64x256 .bf16) :
    k0_pay402 (F := Bits) v1123 (words v1148) = qpay402 v1123 (bd v1148) := by
  simp only [k0_pay402, qpay402, unwords, castcast]

def qpay412 (v1152 : FVec Bits S128x256 FTy.bf16) (v1177 : FVec Bits S256x256 .bf16) :=
  have v1179 := v1177;
  have cst_591 := constant (F := Bits) S128x256 FTy.f32 0#32;
  have v1180 := matmul dot_S128x256_S256x256_S128x256_1_0_0_1_n_n none v1152 v1179 cst_591;
  v1180
theorem qpay412_eq (v1152 : FVec Bits S128x256 FTy.bf16) (v1177 : FVec Bits S64x256 .bf16) :
    k0_pay412 (F := Bits) v1152 (words v1177) = qpay412 v1152 (bd v1177) := by
  simp only [k0_pay412, qpay412, unwords, castcast]

def qpay423 (v1181 : FVec Bits S128x256 FTy.bf16) (v1206 : FVec Bits S256x256 .bf16) :=
  have v1208 := v1206;
  have cst_612 := constant (F := Bits) S128x256 FTy.f32 0#32;
  have v1209 := matmul dot_S128x256_S256x256_S128x256_1_0_0_1_n_n none v1181 v1208 cst_612;
  v1209
theorem qpay423_eq (v1181 : FVec Bits S128x256 FTy.bf16) (v1206 : FVec Bits S64x256 .bf16) :
    k0_pay423 (F := Bits) v1181 (words v1206) = qpay423 v1181 (bd v1206) := by
  simp only [k0_pay423, qpay423, unwords, castcast]

def qpay434 (v1210 : FVec Bits S128x256 FTy.bf16) (v1235 : FVec Bits S256x256 .bf16) :=
  have v1237 := v1235;
  have cst_633 := constant (F := Bits) S128x256 FTy.f32 0#32;
  have v1238 := matmul dot_S128x256_S256x256_S128x256_1_0_0_1_n_n none v1210 v1237 cst_633;
  v1238
theorem qpay434_eq (v1210 : FVec Bits S128x256 FTy.bf16) (v1235 : FVec Bits S64x256 .bf16) :
    k0_pay434 (F := Bits) v1210 (words v1235) = qpay434 v1210 (bd v1235) := by
  simp only [k0_pay434, qpay434, unwords, castcast]

def qpay442 (v1210 : FVec Bits S128x256 FTy.bf16) (v1235 : FVec Bits S256x256 .bf16) :=
  have v1246 := extractStridedSlice S64x256 ![0, 0] (qpay434 v1210 v1235) slices_S128x256_o0_0_S64x256;
  v1246
theorem qpay442_eq (v1210 : FVec Bits S128x256 FTy.bf16) (v1235 : FVec Bits S64x256 .bf16) :
    k0_pay442 (F := Bits) v1210 (words v1235) = qpay442 v1210 (bd v1235) := by
  simp only [k0_pay442, qpay442, unwords, castcast, k0_pay434, qpay434] <;> simp only [castcast, unwords]

def qpay450 (v1210 : FVec Bits S128x256 FTy.bf16) (v1235 : FVec Bits S256x256 .bf16) :=
  have v1254 := extractStridedSlice S64x256 ![64, 0] (qpay434 v1210 v1235) slices_S128x256_o64_0_S64x256;
  v1254
theorem qpay450_eq (v1210 : FVec Bits S128x256 FTy.bf16) (v1235 : FVec Bits S64x256 .bf16) :
    k0_pay450 (F := Bits) v1210 (words v1235) = qpay450 v1210 (bd v1235) := by
  simp only [k0_pay450, qpay450, unwords, castcast, k0_pay434, qpay434] <;> simp only [castcast, unwords]

def qpay520 (v1697 : FVec Bits S256x256 .bf16) :=
  have v1699 := v1697;
  v1699
theorem qpay520_eq (v1697 : FVec Bits S64x256 .bf16) :
    k0_pay520 (F := Bits) (words v1697) = qpay520 (bd v1697) := by
  simp only [k0_pay520, qpay520, unwords, castcast]

def qpay530 (v1666 : FVec Bits S64x256 FTy.bf16) (v1726 : FVec Bits S256x256 .bf16) :=
  have v1728 := v1726;
  have cst_815 := constant (F := Bits) S64x256 FTy.f32 0#32;
  have v1729 := matmul dot_S64x256_S256x256_S64x256_1_0_0_1_n_n none v1666 v1728 cst_815;
  have v1730 := truncf FTy.bf16 v1729 bitsLt_bf16_f32;
  v1730
theorem qpay530_eq (v1666 : FVec Bits S64x256 FTy.bf16) (v1726 : FVec Bits S64x256 .bf16) :
    k0_pay530 (F := Bits) v1666 (words v1726) = qpay530 v1666 (bd v1726) := by
  simp only [k0_pay530, qpay530, unwords, castcast]

def qpay540 (v1667 : FVec Bits S64x256 FTy.bf16) (v1755 : FVec Bits S256x256 .bf16) :=
  have v1757 := v1755;
  have cst_836 := constant (F := Bits) S64x256 FTy.f32 0#32;
  have v1758 := matmul dot_S64x256_S256x256_S64x256_1_0_0_1_n_n none v1667 v1757 cst_836;
  have v1759 := truncf FTy.bf16 v1758 bitsLt_bf16_f32;
  v1759
theorem qpay540_eq (v1667 : FVec Bits S64x256 FTy.bf16) (v1755 : FVec Bits S64x256 .bf16) :
    k0_pay540 (F := Bits) v1667 (words v1755) = qpay540 v1667 (bd v1755) := by
  simp only [k0_pay540, qpay540, unwords, castcast]

def qpay549 (v1668 : FVec Bits S64x256 FTy.bf16) (v1784 : FVec Bits S256x256 .bf16) :=
  have v1786 := v1784;
  have cst_857 := constant (F := Bits) S64x256 FTy.f32 0#32;
  have v1787 := matmul dot_S64x256_S256x256_S64x256_1_0_0_1_n_n none v1668 v1786 cst_857;
  have v1788 := truncf FTy.bf16 v1787 bitsLt_bf16_f32;
  v1788
theorem qpay549_eq (v1668 : FVec Bits S64x256 FTy.bf16) (v1784 : FVec Bits S64x256 .bf16) :
    k0_pay549 (F := Bits) v1668 (words v1784) = qpay549 v1668 (bd v1784) := by
  simp only [k0_pay549, qpay549, unwords, castcast]

def qpay559 (v1669 : FVec Bits S64x256 FTy.bf16) (v1813 : FVec Bits S256x256 .bf16) :=
  have v1815 := v1813;
  have cst_878 := constant (F := Bits) S64x256 FTy.f32 0#32;
  have v1816 := matmul dot_S64x256_S256x256_S64x256_1_0_0_1_n_n none v1669 v1815 cst_878;
  have v1817 := truncf FTy.bf16 v1816 bitsLt_bf16_f32;
  v1817
theorem qpay559_eq (v1669 : FVec Bits S64x256 FTy.bf16) (v1813 : FVec Bits S64x256 .bf16) :
    k0_pay559 (F := Bits) v1669 (words v1813) = qpay559 v1669 (bd v1813) := by
  simp only [k0_pay559, qpay559, unwords, castcast]

def qpay568 (v1670 : FVec Bits S64x256 FTy.bf16) (v1842 : FVec Bits S256x256 .bf16) :=
  have v1844 := v1842;
  have cst_899 := constant (F := Bits) S64x256 FTy.f32 0#32;
  have v1845 := matmul dot_S64x256_S256x256_S64x256_1_0_0_1_n_n none v1670 v1844 cst_899;
  have v1846 := truncf FTy.bf16 v1845 bitsLt_bf16_f32;
  v1846
theorem qpay568_eq (v1670 : FVec Bits S64x256 FTy.bf16) (v1842 : FVec Bits S64x256 .bf16) :
    k0_pay568 (F := Bits) v1670 (words v1842) = qpay568 v1670 (bd v1842) := by
  simp only [k0_pay568, qpay568, unwords, castcast]

def qpay578 (v1671 : FVec Bits S64x256 FTy.bf16) (v1871 : FVec Bits S256x256 .bf16) :=
  have v1873 := v1871;
  have cst_920 := constant (F := Bits) S64x256 FTy.f32 0#32;
  have v1874 := matmul dot_S64x256_S256x256_S64x256_1_0_0_1_n_n none v1671 v1873 cst_920;
  have v1875 := truncf FTy.bf16 v1874 bitsLt_bf16_f32;
  v1875
theorem qpay578_eq (v1671 : FVec Bits S64x256 FTy.bf16) (v1871 : FVec Bits S64x256 .bf16) :
    k0_pay578 (F := Bits) v1671 (words v1871) = qpay578 v1671 (bd v1871) := by
  simp only [k0_pay578, qpay578, unwords, castcast]

def qpay587 (v1672 : FVec Bits S64x256 FTy.bf16) (v1900 : FVec Bits S256x256 .bf16) :=
  have v1902 := v1900;
  have cst_941 := constant (F := Bits) S64x256 FTy.f32 0#32;
  have v1903 := matmul dot_S64x256_S256x256_S64x256_1_0_0_1_n_n none v1672 v1902 cst_941;
  have v1904 := truncf FTy.bf16 v1903 bitsLt_bf16_f32;
  v1904
theorem qpay587_eq (v1672 : FVec Bits S64x256 FTy.bf16) (v1900 : FVec Bits S64x256 .bf16) :
    k0_pay587 (F := Bits) v1672 (words v1900) = qpay587 v1672 (bd v1900) := by
  simp only [k0_pay587, qpay587, unwords, castcast]

def qpay597 (v1406 : FVec Bits S64x256 FTy.f32) (v1701 : FVec Bits S64x256 FTy.bf16) (v1929 : FVec Bits S256x256 .bf16) :=
  have v1931 := v1929;
  have cst_962 := constant (F := Bits) S64x256 FTy.f32 0#32;
  have v1932 := matmul dot_S64x256_S256x256_S64x256_1_0_0_1_n_n none v1701 v1931 cst_962;
  have v1933 := addf v1406 v1932;
  v1933
theorem qpay597_eq (v1406 : FVec Bits S64x256 FTy.f32) (v1701 : FVec Bits S64x256 FTy.bf16) (v1929 : FVec Bits S64x256 .bf16) :
    k0_pay597 (F := Bits) v1406 v1701 (words v1929) = qpay597 v1406 v1701 (bd v1929) := by
  simp only [k0_pay597, qpay597, unwords, castcast]

def qpay606 (v1426 : FVec Bits S64x256 FTy.f32) (v1730 : FVec Bits S64x256 FTy.bf16) (v1958 : FVec Bits S256x256 .bf16) :=
  have v1960 := v1958;
  have cst_983 := constant (F := Bits) S64x256 FTy.f32 0#32;
  have v1961 := matmul dot_S64x256_S256x256_S64x256_1_0_0_1_n_n none v1730 v1960 cst_983;
  have v1962 := addf v1426 v1961;
  v1962
theorem qpay606_eq (v1426 : FVec Bits S64x256 FTy.f32) (v1730 : FVec Bits S64x256 FTy.bf16) (v1958 : FVec Bits S64x256 .bf16) :
    k0_pay606 (F := Bits) v1426 v1730 (words v1958) = qpay606 v1426 v1730 (bd v1958) := by
  simp only [k0_pay606, qpay606, unwords, castcast]

def qpay615 (v1987 : FVec Bits S256x256 .bf16) :=
  have v1989 := v1987;
  v1989
theorem qpay615_eq (v1987 : FVec Bits S64x256 .bf16) :
    k0_pay615 (F := Bits) (words v1987) = qpay615 (bd v1987) := by
  simp only [k0_pay615, qpay615, unwords, castcast]

def qpay625 (v1466 : FVec Bits S64x256 FTy.f32) (v1788 : FVec Bits S64x256 FTy.bf16) (v2016 : FVec Bits S256x256 .bf16) :=
  have v2018 := v2016;
  have cst_1025 := constant (F := Bits) S64x256 FTy.f32 0#32;
  have v2019 := matmul dot_S64x256_S256x256_S64x256_1_0_0_1_n_n none v1788 v2018 cst_1025;
  have v2020 := addf v1466 v2019;
  v2020
theorem qpay625_eq (v1466 : FVec Bits S64x256 FTy.f32) (v1788 : FVec Bits S64x256 FTy.bf16) (v2016 : FVec Bits S64x256 .bf16) :
    k0_pay625 (F := Bits) v1466 v1788 (words v2016) = qpay625 v1466 v1788 (bd v2016) := by
  simp only [k0_pay625, qpay625, unwords, castcast]

def qpay635 (v1486 : FVec Bits S64x256 FTy.f32) (v1817 : FVec Bits S64x256 FTy.bf16) (v2045 : FVec Bits S256x256 .bf16) :=
  have v2047 := v2045;
  have cst_1046 := constant (F := Bits) S64x256 FTy.f32 0#32;
  have v2048 := matmul dot_S64x256_S256x256_S64x256_1_0_0_1_n_n none v1817 v2047 cst_1046;
  have v2049 := addf v1486 v2048;
  v2049
theorem qpay635_eq (v1486 : FVec Bits S64x256 FTy.f32) (v1817 : FVec Bits S64x256 FTy.bf16) (v2045 : FVec Bits S64x256 .bf16) :
    k0_pay635 (F := Bits) v1486 v1817 (words v2045) = qpay635 v1486 v1817 (bd v2045) := by
  simp only [k0_pay635, qpay635, unwords, castcast]

def qpay644 (v1506 : FVec Bits S64x256 FTy.f32) (v1846 : FVec Bits S64x256 FTy.bf16) (v2074 : FVec Bits S256x256 .bf16) :=
  have v2076 := v2074;
  have cst_1067 := constant (F := Bits) S64x256 FTy.f32 0#32;
  have v2077 := matmul dot_S64x256_S256x256_S64x256_1_0_0_1_n_n none v1846 v2076 cst_1067;
  have v2078 := addf v1506 v2077;
  v2078
theorem qpay644_eq (v1506 : FVec Bits S64x256 FTy.f32) (v1846 : FVec Bits S64x256 FTy.bf16) (v2074 : FVec Bits S64x256 .bf16) :
    k0_pay644 (F := Bits) v1506 v1846 (words v2074) = qpay644 v1506 v1846 (bd v2074) := by
  simp only [k0_pay644, qpay644, unwords, castcast]

def qpay654 (v1526 : FVec Bits S64x256 FTy.f32) (v1875 : FVec Bits S64x256 FTy.bf16) (v2103 : FVec Bits S256x256 .bf16) :=
  have v2105 := v2103;
  have cst_1088 := constant (F := Bits) S64x256 FTy.f32 0#32;
  have v2106 := matmul dot_S64x256_S256x256_S64x256_1_0_0_1_n_n none v1875 v2105 cst_1088;
  have v2107 := addf v1526 v2106;
  v2107
theorem qpay654_eq (v1526 : FVec Bits S64x256 FTy.f32) (v1875 : FVec Bits S64x256 FTy.bf16) (v2103 : FVec Bits S64x256 .bf16) :
    k0_pay654 (F := Bits) v1526 v1875 (words v2103) = qpay654 v1526 v1875 (bd v2103) := by
  simp only [k0_pay654, qpay654, unwords, castcast]

def qpay663 (v1546 : FVec Bits S64x256 FTy.f32) (v1904 : FVec Bits S64x256 FTy.bf16) (v2132 : FVec Bits S256x256 .bf16) :=
  have v2134 := v2132;
  have cst_1109 := constant (F := Bits) S64x256 FTy.f32 0#32;
  have v2135 := matmul dot_S64x256_S256x256_S64x256_1_0_0_1_n_n none v1904 v2134 cst_1109;
  have v2136 := addf v1546 v2135;
  v2136
theorem qpay663_eq (v1546 : FVec Bits S64x256 FTy.f32) (v1904 : FVec Bits S64x256 FTy.bf16) (v2132 : FVec Bits S64x256 .bf16) :
    k0_pay663 (F := Bits) v1546 v1904 (words v2132) = qpay663 v1546 v1904 (bd v2132) := by
  simp only [k0_pay663, qpay663, unwords, castcast]

def qpay693 (v2255 : FVec Bits S64x256 FTy.bf16) (v2287 : FVec Bits S256x256 .bf16) :=
  have v2289 := v2287;
  have cst_1166 := constant (F := Bits) S64x256 FTy.f32 0#32;
  have v2290 := matmul dot_S64x256_S256x256_S64x256_1_0_0_1_n_n none v2255 v2289 cst_1166;
  have v2291 := truncf FTy.bf16 v2290 bitsLt_bf16_f32;
  v2291
theorem qpay693_eq (v2255 : FVec Bits S64x256 FTy.bf16) (v2287 : FVec Bits S64x256 .bf16) :
    k0_pay693 (F := Bits) v2255 (words v2287) = qpay693 v2255 (bd v2287) := by
  simp only [k0_pay693, qpay693, unwords, castcast]

def qpay703 (v2256 : FVec Bits S64x256 FTy.bf16) (v2317 : FVec Bits S256x256 .bf16) :=
  have v2318 := v2317;
  have cst_1187 := constant (F := Bits) S64x256 FTy.f32 0#32;
  have v2319 := matmul dot_S64x256_S256x256_S64x256_1_0_0_1_n_n none v2256 v2318 cst_1187;
  have v2320 := truncf FTy.bf16 v2319 bitsLt_bf16_f32;
  v2320
theorem qpay703_eq (v2256 : FVec Bits S64x256 FTy.bf16) (v2317 : FVec Bits S64x256 .bf16) :
    k0_pay703 (F := Bits) v2256 (shapeCast S128x256 (words v2317) shapeCasts_S1x1x128x256_S128x256) = qpay703 v2256 (bd v2317) := by
  simp only [k0_pay703, qpay703, unwords, castcast]

def qpay712 (v2257 : FVec Bits S64x256 FTy.bf16) (v2345 : FVec Bits S256x256 .bf16) :=
  have v2347 := v2345;
  have cst_1208 := constant (F := Bits) S64x256 FTy.f32 0#32;
  have v2348 := matmul dot_S64x256_S256x256_S64x256_1_0_0_1_n_n none v2257 v2347 cst_1208;
  have v2349 := truncf FTy.bf16 v2348 bitsLt_bf16_f32;
  v2349
theorem qpay712_eq (v2257 : FVec Bits S64x256 FTy.bf16) (v2345 : FVec Bits S64x256 .bf16) :
    k0_pay712 (F := Bits) v2257 (words v2345) = qpay712 v2257 (bd v2345) := by
  simp only [k0_pay712, qpay712, unwords, castcast]

def qpay722 (v2258 : FVec Bits S64x256 FTy.bf16) (v2374 : FVec Bits S256x256 .bf16) :=
  have v2376 := v2374;
  have cst_1229 := constant (F := Bits) S64x256 FTy.f32 0#32;
  have v2377 := matmul dot_S64x256_S256x256_S64x256_1_0_0_1_n_n none v2258 v2376 cst_1229;
  have v2378 := truncf FTy.bf16 v2377 bitsLt_bf16_f32;
  v2378
theorem qpay722_eq (v2258 : FVec Bits S64x256 FTy.bf16) (v2374 : FVec Bits S64x256 .bf16) :
    k0_pay722 (F := Bits) v2258 (words v2374) = qpay722 v2258 (bd v2374) := by
  simp only [k0_pay722, qpay722, unwords, castcast]

def qpay732 (v2259 : FVec Bits S64x256 FTy.bf16) (v2403 : FVec Bits S256x256 .bf16) :=
  have v2405 := v2403;
  have cst_1250 := constant (F := Bits) S64x256 FTy.f32 0#32;
  have v2406 := matmul dot_S64x256_S256x256_S64x256_1_0_0_1_n_n none v2259 v2405 cst_1250;
  have v2407 := truncf FTy.bf16 v2406 bitsLt_bf16_f32;
  v2407
theorem qpay732_eq (v2259 : FVec Bits S64x256 FTy.bf16) (v2403 : FVec Bits S64x256 .bf16) :
    k0_pay732 (F := Bits) v2259 (words v2403) = qpay732 v2259 (bd v2403) := by
  simp only [k0_pay732, qpay732, unwords, castcast]

def qpay742 (v2260 : FVec Bits S64x256 FTy.bf16) (v2432 : FVec Bits S256x256 .bf16) :=
  have v2434 := v2432;
  have cst_1271 := constant (F := Bits) S64x256 FTy.f32 0#32;
  have v2435 := matmul dot_S64x256_S256x256_S64x256_1_0_0_1_n_n none v2260 v2434 cst_1271;
  have v2436 := truncf FTy.bf16 v2435 bitsLt_bf16_f32;
  v2436
theorem qpay742_eq (v2260 : FVec Bits S64x256 FTy.bf16) (v2432 : FVec Bits S64x256 .bf16) :
    k0_pay742 (F := Bits) v2260 (words v2432) = qpay742 v2260 (bd v2432) := by
  simp only [k0_pay742, qpay742, unwords, castcast]

def qpay751 (v2261 : FVec Bits S64x256 FTy.bf16) (v2461 : FVec Bits S256x256 .bf16) :=
  have v2463 := v2461;
  have cst_1292 := constant (F := Bits) S64x256 FTy.f32 0#32;
  have v2464 := matmul dot_S64x256_S256x256_S64x256_1_0_0_1_n_n none v2261 v2463 cst_1292;
  have v2465 := truncf FTy.bf16 v2464 bitsLt_bf16_f32;
  v2465
theorem qpay751_eq (v2261 : FVec Bits S64x256 FTy.bf16) (v2461 : FVec Bits S64x256 .bf16) :
    k0_pay751 (F := Bits) v2261 (words v2461) = qpay751 v2261 (bd v2461) := by
  simp only [k0_pay751, qpay751, unwords, castcast]

def qpay761 (v2262 : FVec Bits S64x256 FTy.bf16) (v2490 : FVec Bits S256x256 .bf16) :=
  have v2492 := v2490;
  have cst_1313 := constant (F := Bits) S64x256 FTy.f32 0#32;
  have v2493 := matmul dot_S64x256_S256x256_S64x256_1_0_0_1_n_n none v2262 v2492 cst_1313;
  have v2494 := truncf FTy.bf16 v2493 bitsLt_bf16_f32;
  v2494
theorem qpay761_eq (v2262 : FVec Bits S64x256 FTy.bf16) (v2490 : FVec Bits S64x256 .bf16) :
    k0_pay761 (F := Bits) v2262 (words v2490) = qpay761 v2262 (bd v2490) := by
  simp only [k0_pay761, qpay761, unwords, castcast]

def qpay770 (v1933 : FVec Bits S64x256 FTy.f32) (v2291 : FVec Bits S64x256 FTy.bf16) (v2519 : FVec Bits S256x256 .bf16) :=
  have v2521 := v2519;
  have cst_1334 := constant (F := Bits) S64x256 FTy.f32 0#32;
  have v2522 := matmul dot_S64x256_S256x256_S64x256_1_0_0_1_n_n none v2291 v2521 cst_1334;
  have v2523 := addf v1933 v2522;
  v2523
theorem qpay770_eq (v1933 : FVec Bits S64x256 FTy.f32) (v2291 : FVec Bits S64x256 FTy.bf16) (v2519 : FVec Bits S64x256 .bf16) :
    k0_pay770 (F := Bits) v1933 v2291 (words v2519) = qpay770 v1933 v2291 (bd v2519) := by
  simp only [k0_pay770, qpay770, unwords, castcast]

def qpay780 (v1962 : FVec Bits S64x256 FTy.f32) (v2320 : FVec Bits S64x256 FTy.bf16) (v2548 : FVec Bits S256x256 .bf16) :=
  have v2550 := v2548;
  have cst_1355 := constant (F := Bits) S64x256 FTy.f32 0#32;
  have v2551 := matmul dot_S64x256_S256x256_S64x256_1_0_0_1_n_n none v2320 v2550 cst_1355;
  have v2552 := addf v1962 v2551;
  v2552
theorem qpay780_eq (v1962 : FVec Bits S64x256 FTy.f32) (v2320 : FVec Bits S64x256 FTy.bf16) (v2548 : FVec Bits S64x256 .bf16) :
    k0_pay780 (F := Bits) v1962 v2320 (words v2548) = qpay780 v1962 v2320 (bd v2548) := by
  simp only [k0_pay780, qpay780, unwords, castcast]

def qpay789 (v1991 : FVec Bits S64x256 FTy.f32) (v2349 : FVec Bits S64x256 FTy.bf16) (v2577 : FVec Bits S256x256 .bf16) :=
  have v2579 := v2577;
  have cst_1376 := constant (F := Bits) S64x256 FTy.f32 0#32;
  have v2580 := matmul dot_S64x256_S256x256_S64x256_1_0_0_1_n_n none v2349 v2579 cst_1376;
  have v2581 := addf v1991 v2580;
  v2581
theorem qpay789_eq (v1991 : FVec Bits S64x256 FTy.f32) (v2349 : FVec Bits S64x256 FTy.bf16) (v2577 : FVec Bits S64x256 .bf16) :
    k0_pay789 (F := Bits) v1991 v2349 (words v2577) = qpay789 v1991 v2349 (bd v2577) := by
  simp only [k0_pay789, qpay789, unwords, castcast]

def qpay799 (v2020 : FVec Bits S64x256 FTy.f32) (v2378 : FVec Bits S64x256 FTy.bf16) (v2607 : FVec Bits S256x256 .bf16) :=
  have v2608 := v2607;
  have cst_1397 := constant (F := Bits) S64x256 FTy.f32 0#32;
  have v2609 := matmul dot_S64x256_S256x256_S64x256_1_0_0_1_n_n none v2378 v2608 cst_1397;
  have v2610 := addf v2020 v2609;
  v2610
theorem qpay799_eq (v2020 : FVec Bits S64x256 FTy.f32) (v2378 : FVec Bits S64x256 FTy.bf16) (v2607 : FVec Bits S64x256 .bf16) :
    k0_pay799 (F := Bits) v2020 v2378 (shapeCast S128x256 (words v2607) shapeCasts_S1x1x128x256_S128x256) = qpay799 v2020 v2378 (bd v2607) := by
  simp only [k0_pay799, qpay799, unwords, castcast]

def qpay808 (v2049 : FVec Bits S64x256 FTy.f32) (v2407 : FVec Bits S64x256 FTy.bf16) (v2635 : FVec Bits S256x256 .bf16) :=
  have v2637 := v2635;
  have cst_1418 := constant (F := Bits) S64x256 FTy.f32 0#32;
  have v2638 := matmul dot_S64x256_S256x256_S64x256_1_0_0_1_n_n none v2407 v2637 cst_1418;
  have v2639 := addf v2049 v2638;
  v2639
theorem qpay808_eq (v2049 : FVec Bits S64x256 FTy.f32) (v2407 : FVec Bits S64x256 FTy.bf16) (v2635 : FVec Bits S64x256 .bf16) :
    k0_pay808 (F := Bits) v2049 v2407 (words v2635) = qpay808 v2049 v2407 (bd v2635) := by
  simp only [k0_pay808, qpay808, unwords, castcast]

def qpay818 (v2078 : FVec Bits S64x256 FTy.f32) (v2436 : FVec Bits S64x256 FTy.bf16) (v2664 : FVec Bits S256x256 .bf16) :=
  have v2666 := v2664;
  have cst_1439 := constant (F := Bits) S64x256 FTy.f32 0#32;
  have v2667 := matmul dot_S64x256_S256x256_S64x256_1_0_0_1_n_n none v2436 v2666 cst_1439;
  have v2668 := addf v2078 v2667;
  v2668
theorem qpay818_eq (v2078 : FVec Bits S64x256 FTy.f32) (v2436 : FVec Bits S64x256 FTy.bf16) (v2664 : FVec Bits S64x256 .bf16) :
    k0_pay818 (F := Bits) v2078 v2436 (words v2664) = qpay818 v2078 v2436 (bd v2664) := by
  simp only [k0_pay818, qpay818, unwords, castcast]

def qpay828 (v2107 : FVec Bits S64x256 FTy.f32) (v2465 : FVec Bits S64x256 FTy.bf16) (v2693 : FVec Bits S256x256 .bf16) :=
  have v2695 := v2693;
  have cst_1460 := constant (F := Bits) S64x256 FTy.f32 0#32;
  have v2696 := matmul dot_S64x256_S256x256_S64x256_1_0_0_1_n_n none v2465 v2695 cst_1460;
  have v2697 := addf v2107 v2696;
  v2697
theorem qpay828_eq (v2107 : FVec Bits S64x256 FTy.f32) (v2465 : FVec Bits S64x256 FTy.bf16) (v2693 : FVec Bits S64x256 .bf16) :
    k0_pay828 (F := Bits) v2107 v2465 (words v2693) = qpay828 v2107 v2465 (bd v2693) := by
  simp only [k0_pay828, qpay828, unwords, castcast]

def qpay838 (v2136 : FVec Bits S64x256 FTy.f32) (v2494 : FVec Bits S64x256 FTy.bf16) (v2722 : FVec Bits S256x256 .bf16) :=
  have v2724 := v2722;
  have cst_1481 := constant (F := Bits) S64x256 FTy.f32 0#32;
  have v2725 := matmul dot_S64x256_S256x256_S64x256_1_0_0_1_n_n none v2494 v2724 cst_1481;
  have v2726 := addf v2136 v2725;
  v2726
theorem qpay838_eq (v2136 : FVec Bits S64x256 FTy.f32) (v2494 : FVec Bits S64x256 FTy.bf16) (v2722 : FVec Bits S64x256 .bf16) :
    k0_pay838 (F := Bits) v2136 v2494 (words v2722) = qpay838 v2136 v2494 (bd v2722) := by
  simp only [k0_pay838, qpay838, unwords, castcast]

def qpay872 (v2845 : FVec Bits S64x256 FTy.bf16) (v2877 : FVec Bits S256x256 .bf16) :=
  have v2879 := v2877;
  have cst_1538 := constant (F := Bits) S64x256 FTy.f32 0#32;
  have v2880 := matmul dot_S64x256_S256x256_S64x256_1_0_0_1_n_n none v2845 v2879 cst_1538;
  have v2881 := truncf FTy.bf16 v2880 bitsLt_bf16_f32;
  v2881
theorem qpay872_eq (v2845 : FVec Bits S64x256 FTy.bf16) (v2877 : FVec Bits S64x256 .bf16) :
    k0_pay872 (F := Bits) v2845 (words v2877) = qpay872 v2845 (bd v2877) := by
  simp only [k0_pay872, qpay872, unwords, castcast]

def qpay881 (v2846 : FVec Bits S64x256 FTy.bf16) (v2906 : FVec Bits S256x256 .bf16) :=
  have v2908 := v2906;
  have cst_1559 := constant (F := Bits) S64x256 FTy.f32 0#32;
  have v2909 := matmul dot_S64x256_S256x256_S64x256_1_0_0_1_n_n none v2846 v2908 cst_1559;
  have v2910 := truncf FTy.bf16 v2909 bitsLt_bf16_f32;
  v2910
theorem qpay881_eq (v2846 : FVec Bits S64x256 FTy.bf16) (v2906 : FVec Bits S64x256 .bf16) :
    k0_pay881 (F := Bits) v2846 (words v2906) = qpay881 v2846 (bd v2906) := by
  simp only [k0_pay881, qpay881, unwords, castcast]

def qpay890 (v2847 : FVec Bits S64x256 FTy.bf16) (v2935 : FVec Bits S256x256 .bf16) :=
  have v2937 := v2935;
  have cst_1580 := constant (F := Bits) S64x256 FTy.f32 0#32;
  have v2938 := matmul dot_S64x256_S256x256_S64x256_1_0_0_1_n_n none v2847 v2937 cst_1580;
  have v2939 := truncf FTy.bf16 v2938 bitsLt_bf16_f32;
  v2939
theorem qpay890_eq (v2847 : FVec Bits S64x256 FTy.bf16) (v2935 : FVec Bits S64x256 .bf16) :
    k0_pay890 (F := Bits) v2847 (words v2935) = qpay890 v2847 (bd v2935) := by
  simp only [k0_pay890, qpay890, unwords, castcast]

def qpay899 (v2848 : FVec Bits S64x256 FTy.bf16) (v2964 : FVec Bits S256x256 .bf16) :=
  have v2966 := v2964;
  have cst_1601 := constant (F := Bits) S64x256 FTy.f32 0#32;
  have v2967 := matmul dot_S64x256_S256x256_S64x256_1_0_0_1_n_n none v2848 v2966 cst_1601;
  have v2968 := truncf FTy.bf16 v2967 bitsLt_bf16_f32;
  v2968
theorem qpay899_eq (v2848 : FVec Bits S64x256 FTy.bf16) (v2964 : FVec Bits S64x256 .bf16) :
    k0_pay899 (F := Bits) v2848 (words v2964) = qpay899 v2848 (bd v2964) := by
  simp only [k0_pay899, qpay899, unwords, castcast]

def qpay909 (v2849 : FVec Bits S64x256 FTy.bf16) (v2993 : FVec Bits S256x256 .bf16) :=
  have v2995 := v2993;
  have cst_1622 := constant (F := Bits) S64x256 FTy.f32 0#32;
  have v2996 := matmul dot_S64x256_S256x256_S64x256_1_0_0_1_n_n none v2849 v2995 cst_1622;
  have v2997 := truncf FTy.bf16 v2996 bitsLt_bf16_f32;
  v2997
theorem qpay909_eq (v2849 : FVec Bits S64x256 FTy.bf16) (v2993 : FVec Bits S64x256 .bf16) :
    k0_pay909 (F := Bits) v2849 (words v2993) = qpay909 v2849 (bd v2993) := by
  simp only [k0_pay909, qpay909, unwords, castcast]

def qpay919 (v2850 : FVec Bits S64x256 FTy.bf16) (v3022 : FVec Bits S256x256 .bf16) :=
  have v3024 := v3022;
  have cst_1643 := constant (F := Bits) S64x256 FTy.f32 0#32;
  have v3025 := matmul dot_S64x256_S256x256_S64x256_1_0_0_1_n_n none v2850 v3024 cst_1643;
  have v3026 := truncf FTy.bf16 v3025 bitsLt_bf16_f32;
  v3026
theorem qpay919_eq (v2850 : FVec Bits S64x256 FTy.bf16) (v3022 : FVec Bits S64x256 .bf16) :
    k0_pay919 (F := Bits) v2850 (words v3022) = qpay919 v2850 (bd v3022) := by
  simp only [k0_pay919, qpay919, unwords, castcast]

def qpay929 (v2851 : FVec Bits S64x256 FTy.bf16) (v3051 : FVec Bits S256x256 .bf16) :=
  have v3053 := v3051;
  have cst_1664 := constant (F := Bits) S64x256 FTy.f32 0#32;
  have v3054 := matmul dot_S64x256_S256x256_S64x256_1_0_0_1_n_n none v2851 v3053 cst_1664;
  have v3055 := truncf FTy.bf16 v3054 bitsLt_bf16_f32;
  v3055
theorem qpay929_eq (v2851 : FVec Bits S64x256 FTy.bf16) (v3051 : FVec Bits S64x256 .bf16) :
    k0_pay929 (F := Bits) v2851 (words v3051) = qpay929 v2851 (bd v3051) := by
  simp only [k0_pay929, qpay929, unwords, castcast]

def qpay939 (v2852 : FVec Bits S64x256 FTy.bf16) (v3080 : FVec Bits S256x256 .bf16) :=
  have v3082 := v3080;
  have cst_1685 := constant (F := Bits) S64x256 FTy.f32 0#32;
  have v3083 := matmul dot_S64x256_S256x256_S64x256_1_0_0_1_n_n none v2852 v3082 cst_1685;
  have v3084 := truncf FTy.bf16 v3083 bitsLt_bf16_f32;
  v3084
theorem qpay939_eq (v2852 : FVec Bits S64x256 FTy.bf16) (v3080 : FVec Bits S64x256 .bf16) :
    k0_pay939 (F := Bits) v2852 (words v3080) = qpay939 v2852 (bd v3080) := by
  simp only [k0_pay939, qpay939, unwords, castcast]

def qpay949 (v2523 : FVec Bits S64x256 FTy.f32) (v2881 : FVec Bits S64x256 FTy.bf16) (v3109 : FVec Bits S256x256 .bf16) :=
  have v3111 := v3109;
  have cst_1706 := constant (F := Bits) S64x256 FTy.f32 0#32;
  have v3112 := matmul dot_S64x256_S256x256_S64x256_1_0_0_1_n_n none v2881 v3111 cst_1706;
  have v3113 := addf v2523 v3112;
  v3113
theorem qpay949_eq (v2523 : FVec Bits S64x256 FTy.f32) (v2881 : FVec Bits S64x256 FTy.bf16) (v3109 : FVec Bits S64x256 .bf16) :
    k0_pay949 (F := Bits) v2523 v2881 (words v3109) = qpay949 v2523 v2881 (bd v3109) := by
  simp only [k0_pay949, qpay949, unwords, castcast]

def qpay958 (v2552 : FVec Bits S64x256 FTy.f32) (v2910 : FVec Bits S64x256 FTy.bf16) (v3138 : FVec Bits S256x256 .bf16) :=
  have v3140 := v3138;
  have cst_1727 := constant (F := Bits) S64x256 FTy.f32 0#32;
  have v3141 := matmul dot_S64x256_S256x256_S64x256_1_0_0_1_n_n none v2910 v3140 cst_1727;
  have v3142 := addf v2552 v3141;
  v3142
theorem qpay958_eq (v2552 : FVec Bits S64x256 FTy.f32) (v2910 : FVec Bits S64x256 FTy.bf16) (v3138 : FVec Bits S64x256 .bf16) :
    k0_pay958 (F := Bits) v2552 v2910 (words v3138) = qpay958 v2552 v2910 (bd v3138) := by
  simp only [k0_pay958, qpay958, unwords, castcast]

def qpay968 (v2581 : FVec Bits S64x256 FTy.f32) (v2939 : FVec Bits S64x256 FTy.bf16) (v3167 : FVec Bits S256x256 .bf16) :=
  have v3169 := v3167;
  have cst_1748 := constant (F := Bits) S64x256 FTy.f32 0#32;
  have v3170 := matmul dot_S64x256_S256x256_S64x256_1_0_0_1_n_n none v2939 v3169 cst_1748;
  have v3171 := addf v2581 v3170;
  v3171
theorem qpay968_eq (v2581 : FVec Bits S64x256 FTy.f32) (v2939 : FVec Bits S64x256 FTy.bf16) (v3167 : FVec Bits S64x256 .bf16) :
    k0_pay968 (F := Bits) v2581 v2939 (words v3167) = qpay968 v2581 v2939 (bd v3167) := by
  simp only [k0_pay968, qpay968, unwords, castcast]

def qpay977 (v2610 : FVec Bits S64x256 FTy.f32) (v2968 : FVec Bits S64x256 FTy.bf16) (v3196 : FVec Bits S256x256 .bf16) :=
  have v3198 := v3196;
  have cst_1769 := constant (F := Bits) S64x256 FTy.f32 0#32;
  have v3199 := matmul dot_S64x256_S256x256_S64x256_1_0_0_1_n_n none v2968 v3198 cst_1769;
  have v3200 := addf v2610 v3199;
  v3200
theorem qpay977_eq (v2610 : FVec Bits S64x256 FTy.f32) (v2968 : FVec Bits S64x256 FTy.bf16) (v3196 : FVec Bits S64x256 .bf16) :
    k0_pay977 (F := Bits) v2610 v2968 (words v3196) = qpay977 v2610 v2968 (bd v3196) := by
  simp only [k0_pay977, qpay977, unwords, castcast]

def qpay986 (v2639 : FVec Bits S64x256 FTy.f32) (v2997 : FVec Bits S64x256 FTy.bf16) (v3225 : FVec Bits S256x256 .bf16) :=
  have v3227 := v3225;
  have cst_1790 := constant (F := Bits) S64x256 FTy.f32 0#32;
  have v3228 := matmul dot_S64x256_S256x256_S64x256_1_0_0_1_n_n none v2997 v3227 cst_1790;
  have v3229 := addf v2639 v3228;
  v3229
theorem qpay986_eq (v2639 : FVec Bits S64x256 FTy.f32) (v2997 : FVec Bits S64x256 FTy.bf16) (v3225 : FVec Bits S64x256 .bf16) :
    k0_pay986 (F := Bits) v2639 v2997 (words v3225) = qpay986 v2639 v2997 (bd v3225) := by
  simp only [k0_pay986, qpay986, unwords, castcast]

def qpay995 (v2668 : FVec Bits S64x256 FTy.f32) (v3026 : FVec Bits S64x256 FTy.bf16) (v3254 : FVec Bits S256x256 .bf16) :=
  have v3256 := v3254;
  have cst_1811 := constant (F := Bits) S64x256 FTy.f32 0#32;
  have v3257 := matmul dot_S64x256_S256x256_S64x256_1_0_0_1_n_n none v3026 v3256 cst_1811;
  have v3258 := addf v2668 v3257;
  v3258
theorem qpay995_eq (v2668 : FVec Bits S64x256 FTy.f32) (v3026 : FVec Bits S64x256 FTy.bf16) (v3254 : FVec Bits S64x256 .bf16) :
    k0_pay995 (F := Bits) v2668 v3026 (words v3254) = qpay995 v2668 v3026 (bd v3254) := by
  simp only [k0_pay995, qpay995, unwords, castcast]

def qpay1005 (v2697 : FVec Bits S64x256 FTy.f32) (v3055 : FVec Bits S64x256 FTy.bf16) (v3283 : FVec Bits S256x256 .bf16) :=
  have v3285 := v3283;
  have cst_1832 := constant (F := Bits) S64x256 FTy.f32 0#32;
  have v3286 := matmul dot_S64x256_S256x256_S64x256_1_0_0_1_n_n none v3055 v3285 cst_1832;
  have v3287 := addf v2697 v3286;
  v3287
theorem qpay1005_eq (v2697 : FVec Bits S64x256 FTy.f32) (v3055 : FVec Bits S64x256 FTy.bf16) (v3283 : FVec Bits S64x256 .bf16) :
    k0_pay1005 (F := Bits) v2697 v3055 (words v3283) = qpay1005 v2697 v3055 (bd v3283) := by
  simp only [k0_pay1005, qpay1005, unwords, castcast]

def qpay1015 (v2726 : FVec Bits S64x256 FTy.f32) (v3084 : FVec Bits S64x256 FTy.bf16) (v3312 : FVec Bits S256x256 .bf16) :=
  have v3314 := v3312;
  have cst_1853 := constant (F := Bits) S64x256 FTy.f32 0#32;
  have v3315 := matmul dot_S64x256_S256x256_S64x256_1_0_0_1_n_n none v3084 v3314 cst_1853;
  have v3316 := addf v2726 v3315;
  v3316
theorem qpay1015_eq (v2726 : FVec Bits S64x256 FTy.f32) (v3084 : FVec Bits S64x256 FTy.bf16) (v3312 : FVec Bits S64x256 .bf16) :
    k0_pay1015 (F := Bits) v2726 v3084 (words v3312) = qpay1015 v2726 v3084 (bd v3312) := by
  simp only [k0_pay1015, qpay1015, unwords, castcast]

def qpay1048 (v3435 : FVec Bits S64x256 FTy.bf16) (v3467 : FVec Bits S256x256 .bf16) :=
  have v3469 := v3467;
  have cst_1910 := constant (F := Bits) S64x256 FTy.f32 0#32;
  have v3470 := matmul dot_S64x256_S256x256_S64x256_1_0_0_1_n_n none v3435 v3469 cst_1910;
  have v3471 := truncf FTy.bf16 v3470 bitsLt_bf16_f32;
  v3471
theorem qpay1048_eq (v3435 : FVec Bits S64x256 FTy.bf16) (v3467 : FVec Bits S64x256 .bf16) :
    k0_pay1048 (F := Bits) v3435 (words v3467) = qpay1048 v3435 (bd v3467) := by
  simp only [k0_pay1048, qpay1048, unwords, castcast]

def qpay1058 (v3436 : FVec Bits S64x256 FTy.bf16) (v3496 : FVec Bits S256x256 .bf16) :=
  have v3498 := v3496;
  have cst_1931 := constant (F := Bits) S64x256 FTy.f32 0#32;
  have v3499 := matmul dot_S64x256_S256x256_S64x256_1_0_0_1_n_n none v3436 v3498 cst_1931;
  have v3500 := truncf FTy.bf16 v3499 bitsLt_bf16_f32;
  v3500
theorem qpay1058_eq (v3436 : FVec Bits S64x256 FTy.bf16) (v3496 : FVec Bits S64x256 .bf16) :
    k0_pay1058 (F := Bits) v3436 (words v3496) = qpay1058 v3436 (bd v3496) := by
  simp only [k0_pay1058, qpay1058, unwords, castcast]

def qpay1067 (v3437 : FVec Bits S64x256 FTy.bf16) (v3525 : FVec Bits S256x256 .bf16) :=
  have v3527 := v3525;
  have cst_1952 := constant (F := Bits) S64x256 FTy.f32 0#32;
  have v3528 := matmul dot_S64x256_S256x256_S64x256_1_0_0_1_n_n none v3437 v3527 cst_1952;
  have v3529 := truncf FTy.bf16 v3528 bitsLt_bf16_f32;
  v3529
theorem qpay1067_eq (v3437 : FVec Bits S64x256 FTy.bf16) (v3525 : FVec Bits S64x256 .bf16) :
    k0_pay1067 (F := Bits) v3437 (words v3525) = qpay1067 v3437 (bd v3525) := by
  simp only [k0_pay1067, qpay1067, unwords, castcast]

def qpay1076 (v3438 : FVec Bits S64x256 FTy.bf16) (v3554 : FVec Bits S256x256 .bf16) :=
  have v3556 := v3554;
  have cst_1973 := constant (F := Bits) S64x256 FTy.f32 0#32;
  have v3557 := matmul dot_S64x256_S256x256_S64x256_1_0_0_1_n_n none v3438 v3556 cst_1973;
  have v3558 := truncf FTy.bf16 v3557 bitsLt_bf16_f32;
  v3558
theorem qpay1076_eq (v3438 : FVec Bits S64x256 FTy.bf16) (v3554 : FVec Bits S64x256 .bf16) :
    k0_pay1076 (F := Bits) v3438 (words v3554) = qpay1076 v3438 (bd v3554) := by
  simp only [k0_pay1076, qpay1076, unwords, castcast]

def qpay1085 (v3439 : FVec Bits S64x256 FTy.bf16) (v3583 : FVec Bits S256x256 .bf16) :=
  have v3585 := v3583;
  have cst_1994 := constant (F := Bits) S64x256 FTy.f32 0#32;
  have v3586 := matmul dot_S64x256_S256x256_S64x256_1_0_0_1_n_n none v3439 v3585 cst_1994;
  have v3587 := truncf FTy.bf16 v3586 bitsLt_bf16_f32;
  v3587
theorem qpay1085_eq (v3439 : FVec Bits S64x256 FTy.bf16) (v3583 : FVec Bits S64x256 .bf16) :
    k0_pay1085 (F := Bits) v3439 (words v3583) = qpay1085 v3439 (bd v3583) := by
  simp only [k0_pay1085, qpay1085, unwords, castcast]

def qpay1094 (v3440 : FVec Bits S64x256 FTy.bf16) (v3612 : FVec Bits S256x256 .bf16) :=
  have v3614 := v3612;
  have cst_2015 := constant (F := Bits) S64x256 FTy.f32 0#32;
  have v3615 := matmul dot_S64x256_S256x256_S64x256_1_0_0_1_n_n none v3440 v3614 cst_2015;
  have v3616 := truncf FTy.bf16 v3615 bitsLt_bf16_f32;
  v3616
theorem qpay1094_eq (v3440 : FVec Bits S64x256 FTy.bf16) (v3612 : FVec Bits S64x256 .bf16) :
    k0_pay1094 (F := Bits) v3440 (words v3612) = qpay1094 v3440 (bd v3612) := by
  simp only [k0_pay1094, qpay1094, unwords, castcast]

def qpay1104 (v3441 : FVec Bits S64x256 FTy.bf16) (v3641 : FVec Bits S256x256 .bf16) :=
  have v3643 := v3641;
  have cst_2036 := constant (F := Bits) S64x256 FTy.f32 0#32;
  have v3644 := matmul dot_S64x256_S256x256_S64x256_1_0_0_1_n_n none v3441 v3643 cst_2036;
  have v3645 := truncf FTy.bf16 v3644 bitsLt_bf16_f32;
  v3645
theorem qpay1104_eq (v3441 : FVec Bits S64x256 FTy.bf16) (v3641 : FVec Bits S64x256 .bf16) :
    k0_pay1104 (F := Bits) v3441 (words v3641) = qpay1104 v3441 (bd v3641) := by
  simp only [k0_pay1104, qpay1104, unwords, castcast]

def qpay1114 (v3442 : FVec Bits S64x256 FTy.bf16) (v3670 : FVec Bits S256x256 .bf16) :=
  have v3672 := v3670;
  have cst_2057 := constant (F := Bits) S64x256 FTy.f32 0#32;
  have v3673 := matmul dot_S64x256_S256x256_S64x256_1_0_0_1_n_n none v3442 v3672 cst_2057;
  have v3674 := truncf FTy.bf16 v3673 bitsLt_bf16_f32;
  v3674
theorem qpay1114_eq (v3442 : FVec Bits S64x256 FTy.bf16) (v3670 : FVec Bits S64x256 .bf16) :
    k0_pay1114 (F := Bits) v3442 (words v3670) = qpay1114 v3442 (bd v3670) := by
  simp only [k0_pay1114, qpay1114, unwords, castcast]

def qpay1124 (v3113 : FVec Bits S64x256 FTy.f32) (v3471 : FVec Bits S64x256 FTy.bf16) (v3699 : FVec Bits S256x256 .bf16) :=
  have v3701 := v3699;
  have cst_2078 := constant (F := Bits) S64x256 FTy.f32 0#32;
  have v3702 := matmul dot_S64x256_S256x256_S64x256_1_0_0_1_n_n none v3471 v3701 cst_2078;
  have v3703 := addf v3113 v3702;
  v3703
theorem qpay1124_eq (v3113 : FVec Bits S64x256 FTy.f32) (v3471 : FVec Bits S64x256 FTy.bf16) (v3699 : FVec Bits S64x256 .bf16) :
    k0_pay1124 (F := Bits) v3113 v3471 (words v3699) = qpay1124 v3113 v3471 (bd v3699) := by
  simp only [k0_pay1124, qpay1124, unwords, castcast]

def qpay1134 (v3142 : FVec Bits S64x256 FTy.f32) (v3500 : FVec Bits S64x256 FTy.bf16) (v3728 : FVec Bits S256x256 .bf16) :=
  have v3730 := v3728;
  have cst_2099 := constant (F := Bits) S64x256 FTy.f32 0#32;
  have v3731 := matmul dot_S64x256_S256x256_S64x256_1_0_0_1_n_n none v3500 v3730 cst_2099;
  have v3732 := addf v3142 v3731;
  v3732
theorem qpay1134_eq (v3142 : FVec Bits S64x256 FTy.f32) (v3500 : FVec Bits S64x256 FTy.bf16) (v3728 : FVec Bits S64x256 .bf16) :
    k0_pay1134 (F := Bits) v3142 v3500 (words v3728) = qpay1134 v3142 v3500 (bd v3728) := by
  simp only [k0_pay1134, qpay1134, unwords, castcast]

def qpay1144 (v3171 : FVec Bits S64x256 FTy.f32) (v3529 : FVec Bits S64x256 FTy.bf16) (v3757 : FVec Bits S256x256 .bf16) :=
  have v3759 := v3757;
  have cst_2120 := constant (F := Bits) S64x256 FTy.f32 0#32;
  have v3760 := matmul dot_S64x256_S256x256_S64x256_1_0_0_1_n_n none v3529 v3759 cst_2120;
  have v3761 := addf v3171 v3760;
  v3761
theorem qpay1144_eq (v3171 : FVec Bits S64x256 FTy.f32) (v3529 : FVec Bits S64x256 FTy.bf16) (v3757 : FVec Bits S64x256 .bf16) :
    k0_pay1144 (F := Bits) v3171 v3529 (words v3757) = qpay1144 v3171 v3529 (bd v3757) := by
  simp only [k0_pay1144, qpay1144, unwords, castcast]

def qpay1154 (v3200 : FVec Bits S64x256 FTy.f32) (v3558 : FVec Bits S64x256 FTy.bf16) (v3786 : FVec Bits S256x256 .bf16) :=
  have v3788 := v3786;
  have cst_2141 := constant (F := Bits) S64x256 FTy.f32 0#32;
  have v3789 := matmul dot_S64x256_S256x256_S64x256_1_0_0_1_n_n none v3558 v3788 cst_2141;
  have v3790 := addf v3200 v3789;
  v3790
theorem qpay1154_eq (v3200 : FVec Bits S64x256 FTy.f32) (v3558 : FVec Bits S64x256 FTy.bf16) (v3786 : FVec Bits S64x256 .bf16) :
    k0_pay1154 (F := Bits) v3200 v3558 (words v3786) = qpay1154 v3200 v3558 (bd v3786) := by
  simp only [k0_pay1154, qpay1154, unwords, castcast]

def qpay1163 (v3229 : FVec Bits S64x256 FTy.f32) (v3587 : FVec Bits S64x256 FTy.bf16) (v3815 : FVec Bits S256x256 .bf16) :=
  have v3817 := v3815;
  have cst_2162 := constant (F := Bits) S64x256 FTy.f32 0#32;
  have v3818 := matmul dot_S64x256_S256x256_S64x256_1_0_0_1_n_n none v3587 v3817 cst_2162;
  have v3819 := addf v3229 v3818;
  v3819
theorem qpay1163_eq (v3229 : FVec Bits S64x256 FTy.f32) (v3587 : FVec Bits S64x256 FTy.bf16) (v3815 : FVec Bits S64x256 .bf16) :
    k0_pay1163 (F := Bits) v3229 v3587 (words v3815) = qpay1163 v3229 v3587 (bd v3815) := by
  simp only [k0_pay1163, qpay1163, unwords, castcast]

def qpay1172 (v3258 : FVec Bits S64x256 FTy.f32) (v3616 : FVec Bits S64x256 FTy.bf16) (v3844 : FVec Bits S256x256 .bf16) :=
  have v3846 := v3844;
  have cst_2183 := constant (F := Bits) S64x256 FTy.f32 0#32;
  have v3847 := matmul dot_S64x256_S256x256_S64x256_1_0_0_1_n_n none v3616 v3846 cst_2183;
  have v3848 := addf v3258 v3847;
  v3848
theorem qpay1172_eq (v3258 : FVec Bits S64x256 FTy.f32) (v3616 : FVec Bits S64x256 FTy.bf16) (v3844 : FVec Bits S64x256 .bf16) :
    k0_pay1172 (F := Bits) v3258 v3616 (words v3844) = qpay1172 v3258 v3616 (bd v3844) := by
  simp only [k0_pay1172, qpay1172, unwords, castcast]

def qpay1181 (v3287 : FVec Bits S64x256 FTy.f32) (v3645 : FVec Bits S64x256 FTy.bf16) (v3873 : FVec Bits S256x256 .bf16) :=
  have v3875 := v3873;
  have cst_2204 := constant (F := Bits) S64x256 FTy.f32 0#32;
  have v3876 := matmul dot_S64x256_S256x256_S64x256_1_0_0_1_n_n none v3645 v3875 cst_2204;
  have v3877 := addf v3287 v3876;
  v3877
theorem qpay1181_eq (v3287 : FVec Bits S64x256 FTy.f32) (v3645 : FVec Bits S64x256 FTy.bf16) (v3873 : FVec Bits S64x256 .bf16) :
    k0_pay1181 (F := Bits) v3287 v3645 (words v3873) = qpay1181 v3287 v3645 (bd v3873) := by
  simp only [k0_pay1181, qpay1181, unwords, castcast]

def qpay1190 (v3316 : FVec Bits S64x256 FTy.f32) (v3674 : FVec Bits S64x256 FTy.bf16) (v3902 : FVec Bits S256x256 .bf16) :=
  have v3904 := v3902;
  have cst_2225 := constant (F := Bits) S64x256 FTy.f32 0#32;
  have v3905 := matmul dot_S64x256_S256x256_S64x256_1_0_0_1_n_n none v3674 v3904 cst_2225;
  have v3906 := addf v3316 v3905;
  v3906
theorem qpay1190_eq (v3316 : FVec Bits S64x256 FTy.f32) (v3674 : FVec Bits S64x256 FTy.bf16) (v3902 : FVec Bits S64x256 .bf16) :
    k0_pay1190 (F := Bits) v3316 v3674 (words v3902) = qpay1190 v3316 v3674 (bd v3902) := by
  simp only [k0_pay1190, qpay1190, unwords, castcast]

def qpay1224 (v3907 : FVec Bits S64x256 FTy.bf16) (v3975 : FVec Bits S256x256 .bf16) :=
  have v3977 := v3975;
  have cst_2262 := constant (F := Bits) S64x256 FTy.f32 0#32;
  have v3978 := matmul dot_S64x256_S256x256_S64x256_1_0_0_1_n_n none v3907 v3977 cst_2262;
  have v3979 := truncf FTy.bf16 v3978 bitsLt_bf16_f32;
  v3979
theorem qpay1224_eq (v3907 : FVec Bits S64x256 FTy.bf16) (v3975 : FVec Bits S64x256 .bf16) :
    k0_pay1224 (F := Bits) v3907 (words v3975) = qpay1224 v3907 (bd v3975) := by
  simp only [k0_pay1224, qpay1224, unwords, castcast]

def qpay1234 (v3908 : FVec Bits S64x256 FTy.bf16) (v4004 : FVec Bits S256x256 .bf16) :=
  have v4006 := v4004;
  have cst_2283 := constant (F := Bits) S64x256 FTy.f32 0#32;
  have v4007 := matmul dot_S64x256_S256x256_S64x256_1_0_0_1_n_n none v3908 v4006 cst_2283;
  have v4008 := truncf FTy.bf16 v4007 bitsLt_bf16_f32;
  v4008
theorem qpay1234_eq (v3908 : FVec Bits S64x256 FTy.bf16) (v4004 : FVec Bits S64x256 .bf16) :
    k0_pay1234 (F := Bits) v3908 (words v4004) = qpay1234 v3908 (bd v4004) := by
  simp only [k0_pay1234, qpay1234, unwords, castcast]

def qpay1244 (v3909 : FVec Bits S64x256 FTy.bf16) (v4033 : FVec Bits S256x256 .bf16) :=
  have v4035 := v4033;
  have cst_2304 := constant (F := Bits) S64x256 FTy.f32 0#32;
  have v4036 := matmul dot_S64x256_S256x256_S64x256_1_0_0_1_n_n none v3909 v4035 cst_2304;
  have v4037 := truncf FTy.bf16 v4036 bitsLt_bf16_f32;
  v4037
theorem qpay1244_eq (v3909 : FVec Bits S64x256 FTy.bf16) (v4033 : FVec Bits S64x256 .bf16) :
    k0_pay1244 (F := Bits) v3909 (words v4033) = qpay1244 v3909 (bd v4033) := by
  simp only [k0_pay1244, qpay1244, unwords, castcast]

def qpay1254 (v3910 : FVec Bits S64x256 FTy.bf16) (v4062 : FVec Bits S256x256 .bf16) :=
  have v4064 := v4062;
  have cst_2325 := constant (F := Bits) S64x256 FTy.f32 0#32;
  have v4065 := matmul dot_S64x256_S256x256_S64x256_1_0_0_1_n_n none v3910 v4064 cst_2325;
  have v4066 := truncf FTy.bf16 v4065 bitsLt_bf16_f32;
  v4066
theorem qpay1254_eq (v3910 : FVec Bits S64x256 FTy.bf16) (v4062 : FVec Bits S64x256 .bf16) :
    k0_pay1254 (F := Bits) v3910 (words v4062) = qpay1254 v3910 (bd v4062) := by
  simp only [k0_pay1254, qpay1254, unwords, castcast]

def qpay1265 (v898 : FVec Bits S64x256 FTy.bf16) (v4068 : FVec Bits S64x256 FTy.f32) (v4093 : FVec Bits S256x256 .bf16) :=
  have v4095 := v4093;
  have cst_2346 := constant (F := Bits) S64x256 FTy.f32 0#32;
  have v4096 := matmul dot_S64x256_S256x256_S64x256_1_0_0_1_n_n none v898 v4095 cst_2346;
  have v4097 := addf v4068 v4096;
  v4097
theorem qpay1265_eq (v898 : FVec Bits S64x256 FTy.bf16) (v4068 : FVec Bits S64x256 FTy.f32) (v4093 : FVec Bits S64x256 .bf16) :
    k0_pay1265 (F := Bits) v898 v4068 (words v4093) = qpay1265 v898 v4068 (bd v4093) := by
  simp only [k0_pay1265, qpay1265, unwords, castcast]

def qpay1275 (v902 : FVec Bits S64x256 FTy.bf16) (v4099 : FVec Bits S64x256 FTy.f32) (v4124 : FVec Bits S256x256 .bf16) :=
  have v4126 := v4124;
  have cst_2367 := constant (F := Bits) S64x256 FTy.f32 0#32;
  have v4127 := matmul dot_S64x256_S256x256_S64x256_1_0_0_1_n_n none v902 v4126 cst_2367;
  have v4128 := addf v4099 v4127;
  v4128
theorem qpay1275_eq (v902 : FVec Bits S64x256 FTy.bf16) (v4099 : FVec Bits S64x256 FTy.f32) (v4124 : FVec Bits S64x256 .bf16) :
    k0_pay1275 (F := Bits) v902 v4099 (words v4124) = qpay1275 v902 v4099 (bd v4124) := by
  simp only [k0_pay1275, qpay1275, unwords, castcast]

def qpay1286 (v906 : FVec Bits S64x256 FTy.bf16) (v4130 : FVec Bits S64x256 FTy.f32) (v4155 : FVec Bits S256x256 .bf16) :=
  have v4157 := v4155;
  have cst_2388 := constant (F := Bits) S64x256 FTy.f32 0#32;
  have v4158 := matmul dot_S64x256_S256x256_S64x256_1_0_0_1_n_n none v906 v4157 cst_2388;
  have v4159 := addf v4130 v4158;
  v4159
theorem qpay1286_eq (v906 : FVec Bits S64x256 FTy.bf16) (v4130 : FVec Bits S64x256 FTy.f32) (v4155 : FVec Bits S64x256 .bf16) :
    k0_pay1286 (F := Bits) v906 v4130 (words v4155) = qpay1286 v906 v4130 (bd v4155) := by
  simp only [k0_pay1286, qpay1286, unwords, castcast]

def qpay1297 (v910 : FVec Bits S64x256 FTy.bf16) (v4161 : FVec Bits S64x256 FTy.f32) (v4186 : FVec Bits S256x256 .bf16) :=
  have v4188 := v4186;
  have cst_2409 := constant (F := Bits) S64x256 FTy.f32 0#32;
  have v4189 := matmul dot_S64x256_S256x256_S64x256_1_0_0_1_n_n none v910 v4188 cst_2409;
  have v4190 := addf v4161 v4189;
  v4190
theorem qpay1297_eq (v910 : FVec Bits S64x256 FTy.bf16) (v4161 : FVec Bits S64x256 FTy.f32) (v4186 : FVec Bits S64x256 .bf16) :
    k0_pay1297 (F := Bits) v910 v4161 (words v4186) = qpay1297 v910 v4161 (bd v4186) := by
  simp only [k0_pay1297, qpay1297, unwords, castcast]

def qpay1312 (v4298 : FVec Bits S256x256 .f32) :=
  have v4299 := v4298;
  v4299
theorem qpay1312_eq (v4298 : FVec Bits S256x256 .f32) :
    k0_pay1312 (F := Bits) (shapeCast S1x256x256 v4298 shapeCasts_S256x256_S1x256x256) = qpay1312 v4298 := by
  simp only [k0_pay1312, qpay1312, unwords, castcast]

def qpay1313 (v4300 : FVec Bits S256x256 .f32) :=
  have v4301 := v4300;
  v4301
theorem qpay1313_eq (v4300 : FVec Bits S256x256 .f32) :
    k0_pay1313 (F := Bits) (shapeCast S1x256x256 v4300 shapeCasts_S256x256_S1x256x256) = qpay1313 v4300 := by
  simp only [k0_pay1313, qpay1313, unwords, castcast]

def qpay1314 (v4302 : FVec Bits S256x256 .f32) :=
  have v4303 := v4302;
  v4303
theorem qpay1314_eq (v4302 : FVec Bits S256x256 .f32) :
    k0_pay1314 (F := Bits) (shapeCast S1x256x256 v4302 shapeCasts_S256x256_S1x256x256) = qpay1314 v4302 := by
  simp only [k0_pay1314, qpay1314, unwords, castcast]

def qpay1315 (v4304 : FVec Bits S256x256 .f32) :=
  have v4305 := v4304;
  v4305
theorem qpay1315_eq (v4304 : FVec Bits S256x256 .f32) :
    k0_pay1315 (F := Bits) (shapeCast S1x256x256 v4304 shapeCasts_S256x256_S1x256x256) = qpay1315 v4304 := by
  simp only [k0_pay1315, qpay1315, unwords, castcast]

def qpay1316 (v3919 : FVec Bits S128x256 FTy.bf16) (v4298 : FVec Bits S256x256 .f32) :=
  have v4306 := truncf FTy.bf16 (qpay1312 v4298) bitsLt_bf16_f32;
  have cst_2474 := constant (F := Bits) S128x256 FTy.f32 0#32;
  have v4307 := matmul dot_S128x256_S256x256_S128x256_1_1_0_0_n_n none v3919 v4306 cst_2474;
  v4307
theorem qpay1316_eq (v3919 : FVec Bits S128x256 FTy.bf16) (v4298 : FVec Bits S256x256 .f32) :
    k0_pay1316 (F := Bits) v3919 (shapeCast S1x256x256 v4298 shapeCasts_S256x256_S1x256x256) = qpay1316 v3919 v4298 := by
  simp only [k0_pay1316, qpay1316, unwords, castcast, k0_pay1312, qpay1312] <;> simp only [castcast, unwords]

def qpay1317 (v3920 : FVec Bits S128x256 FTy.bf16) (v4300 : FVec Bits S256x256 .f32) :=
  have v4308 := truncf FTy.bf16 (qpay1313 v4300) bitsLt_bf16_f32;
  have cst_2475 := constant (F := Bits) S128x256 FTy.f32 0#32;
  have v4309 := matmul dot_S128x256_S256x256_S128x256_1_1_0_0_n_n none v3920 v4308 cst_2475;
  v4309
theorem qpay1317_eq (v3920 : FVec Bits S128x256 FTy.bf16) (v4300 : FVec Bits S256x256 .f32) :
    k0_pay1317 (F := Bits) v3920 (shapeCast S1x256x256 v4300 shapeCasts_S256x256_S1x256x256) = qpay1317 v3920 v4300 := by
  simp only [k0_pay1317, qpay1317, unwords, castcast, k0_pay1313, qpay1313] <;> simp only [castcast, unwords]

def qpay1318 (v3921 : FVec Bits S128x256 FTy.bf16) (v4302 : FVec Bits S256x256 .f32) :=
  have v4310 := truncf FTy.bf16 (qpay1314 v4302) bitsLt_bf16_f32;
  have cst_2476 := constant (F := Bits) S128x256 FTy.f32 0#32;
  have v4311 := matmul dot_S128x256_S256x256_S128x256_1_1_0_0_n_n none v3921 v4310 cst_2476;
  v4311
theorem qpay1318_eq (v3921 : FVec Bits S128x256 FTy.bf16) (v4302 : FVec Bits S256x256 .f32) :
    k0_pay1318 (F := Bits) v3921 (shapeCast S1x256x256 v4302 shapeCasts_S256x256_S1x256x256) = qpay1318 v3921 v4302 := by
  simp only [k0_pay1318, qpay1318, unwords, castcast, k0_pay1314, qpay1314] <;> simp only [castcast, unwords]

def qpay1319 (v3922 : FVec Bits S128x256 FTy.bf16) (v4304 : FVec Bits S256x256 .f32) :=
  have v4312 := truncf FTy.bf16 (qpay1315 v4304) bitsLt_bf16_f32;
  have cst_2477 := constant (F := Bits) S128x256 FTy.f32 0#32;
  have v4313 := matmul dot_S128x256_S256x256_S128x256_1_1_0_0_n_n none v3922 v4312 cst_2477;
  v4313
theorem qpay1319_eq (v3922 : FVec Bits S128x256 FTy.bf16) (v4304 : FVec Bits S256x256 .f32) :
    k0_pay1319 (F := Bits) v3922 (shapeCast S1x256x256 v4304 shapeCasts_S256x256_S1x256x256) = qpay1319 v3922 v4304 := by
  simp only [k0_pay1319, qpay1319, unwords, castcast, k0_pay1315, qpay1315] <;> simp only [castcast, unwords]

def qpay1320 (v1243 : FVec Bits S64x256 FTy.f32) (v3919 : FVec Bits S128x256 FTy.bf16) (v4298 : FVec Bits S256x256 .f32) :=
  have v4314 := extractStridedSlice S64x256 ![0, 0] (qpay1316 v3919 v4298) slices_S128x256_o0_0_S64x256;
  have v4315 := addf v4314 v1243;
  have v4316 := truncf FTy.bf16 v4315 bitsLt_bf16_f32;
  v4316
theorem qpay1320_eq (v1243 : FVec Bits S64x256 FTy.f32) (v3919 : FVec Bits S128x256 FTy.bf16) (v4298 : FVec Bits S256x256 .f32) :
    k0_pay1320 (F := Bits) v1243 v3919 (shapeCast S1x256x256 v4298 shapeCasts_S256x256_S1x256x256) = qpay1320 v1243 v3919 v4298 := by
  simp only [k0_pay1320, qpay1320, unwords, castcast, k0_pay1316, qpay1316, k0_pay1312, qpay1312] <;> simp only [castcast, unwords]

def qpay1321 (v1244 : FVec Bits S64x256 FTy.f32) (v3920 : FVec Bits S128x256 FTy.bf16) (v4300 : FVec Bits S256x256 .f32) :=
  have v4317 := extractStridedSlice S64x256 ![0, 0] (qpay1317 v3920 v4300) slices_S128x256_o0_0_S64x256;
  have v4318 := addf v4317 v1244;
  have v4319 := truncf FTy.bf16 v4318 bitsLt_bf16_f32;
  v4319
theorem qpay1321_eq (v1244 : FVec Bits S64x256 FTy.f32) (v3920 : FVec Bits S128x256 FTy.bf16) (v4300 : FVec Bits S256x256 .f32) :
    k0_pay1321 (F := Bits) v1244 v3920 (shapeCast S1x256x256 v4300 shapeCasts_S256x256_S1x256x256) = qpay1321 v1244 v3920 v4300 := by
  simp only [k0_pay1321, qpay1321, unwords, castcast, k0_pay1317, qpay1317, k0_pay1313, qpay1313] <;> simp only [castcast, unwords]

def qpay1322 (v1245 : FVec Bits S64x256 FTy.f32) (v3921 : FVec Bits S128x256 FTy.bf16) (v4302 : FVec Bits S256x256 .f32) :=
  have v4320 := extractStridedSlice S64x256 ![0, 0] (qpay1318 v3921 v4302) slices_S128x256_o0_0_S64x256;
  have v4321 := addf v4320 v1245;
  have v4322 := truncf FTy.bf16 v4321 bitsLt_bf16_f32;
  v4322
theorem qpay1322_eq (v1245 : FVec Bits S64x256 FTy.f32) (v3921 : FVec Bits S128x256 FTy.bf16) (v4302 : FVec Bits S256x256 .f32) :
    k0_pay1322 (F := Bits) v1245 v3921 (shapeCast S1x256x256 v4302 shapeCasts_S256x256_S1x256x256) = qpay1322 v1245 v3921 v4302 := by
  simp only [k0_pay1322, qpay1322, unwords, castcast, k0_pay1318, qpay1318, k0_pay1314, qpay1314] <;> simp only [castcast, unwords]

def qpay1323 (v1246 : FVec Bits S64x256 FTy.f32) (v3922 : FVec Bits S128x256 FTy.bf16) (v4304 : FVec Bits S256x256 .f32) :=
  have v4323 := extractStridedSlice S64x256 ![0, 0] (qpay1319 v3922 v4304) slices_S128x256_o0_0_S64x256;
  have v4324 := addf v4323 v1246;
  have v4325 := truncf FTy.bf16 v4324 bitsLt_bf16_f32;
  v4325
theorem qpay1323_eq (v1246 : FVec Bits S64x256 FTy.f32) (v3922 : FVec Bits S128x256 FTy.bf16) (v4304 : FVec Bits S256x256 .f32) :
    k0_pay1323 (F := Bits) v1246 v3922 (shapeCast S1x256x256 v4304 shapeCasts_S256x256_S1x256x256) = qpay1323 v1246 v3922 v4304 := by
  simp only [k0_pay1323, qpay1323, unwords, castcast, k0_pay1319, qpay1319, k0_pay1315, qpay1315] <;> simp only [castcast, unwords]

def qpay1326 (v1243 : FVec Bits S64x256 FTy.f32) (v3919 : FVec Bits S128x256 FTy.bf16) (v4298 : FVec Bits S256x256 .f32) :=
  have v4332 := extractStridedSlice S64x128 ![0, 0] (qpay1320 v1243 v3919 v4298) slices_S64x256_o0_0_S64x128;
  have v4333 := bitcast S32x128 32 (bitcastToInt v4332) bitcasts_S64x128_w16_S32x128_w32;
  v4333
theorem qpay1326_eq (v1243 : FVec Bits S64x256 FTy.f32) (v3919 : FVec Bits S128x256 FTy.bf16) (v4298 : FVec Bits S256x256 .f32) :
    k0_pay1326 (F := Bits) v1243 v3919 (shapeCast S1x256x256 v4298 shapeCasts_S256x256_S1x256x256) = qpay1326 v1243 v3919 v4298 := by
  simp only [k0_pay1326, qpay1326, unwords, castcast, k0_pay1320, qpay1320, k0_pay1316, qpay1316, k0_pay1312, qpay1312] <;> simp only [castcast, unwords]

def qpay1333 (v3911 : FVec Bits S64x256 FTy.bf16) (v4350 : FVec Bits S256x256 .bf16) :=
  have v4352 := v4350;
  have cst_2498 := constant (F := Bits) S64x256 FTy.f32 0#32;
  have v4353 := matmul dot_S64x256_S256x256_S64x256_1_0_0_1_n_n none v3911 v4352 cst_2498;
  have v4354 := truncf FTy.bf16 v4353 bitsLt_bf16_f32;
  v4354
theorem qpay1333_eq (v3911 : FVec Bits S64x256 FTy.bf16) (v4350 : FVec Bits S64x256 .bf16) :
    k0_pay1333 (F := Bits) v3911 (words v4350) = qpay1333 v3911 (bd v4350) := by
  simp only [k0_pay1333, qpay1333, unwords, castcast]

def qpay1342 (v3912 : FVec Bits S64x256 FTy.bf16) (v4379 : FVec Bits S256x256 .bf16) :=
  have v4381 := v4379;
  have cst_2519 := constant (F := Bits) S64x256 FTy.f32 0#32;
  have v4382 := matmul dot_S64x256_S256x256_S64x256_1_0_0_1_n_n none v3912 v4381 cst_2519;
  have v4383 := truncf FTy.bf16 v4382 bitsLt_bf16_f32;
  v4383
theorem qpay1342_eq (v3912 : FVec Bits S64x256 FTy.bf16) (v4379 : FVec Bits S64x256 .bf16) :
    k0_pay1342 (F := Bits) v3912 (words v4379) = qpay1342 v3912 (bd v4379) := by
  simp only [k0_pay1342, qpay1342, unwords, castcast]

def qpay1352 (v3913 : FVec Bits S64x256 FTy.bf16) (v4408 : FVec Bits S256x256 .bf16) :=
  have v4410 := v4408;
  have cst_2540 := constant (F := Bits) S64x256 FTy.f32 0#32;
  have v4411 := matmul dot_S64x256_S256x256_S64x256_1_0_0_1_n_n none v3913 v4410 cst_2540;
  have v4412 := truncf FTy.bf16 v4411 bitsLt_bf16_f32;
  v4412
theorem qpay1352_eq (v3913 : FVec Bits S64x256 FTy.bf16) (v4408 : FVec Bits S64x256 .bf16) :
    k0_pay1352 (F := Bits) v3913 (words v4408) = qpay1352 v3913 (bd v4408) := by
  simp only [k0_pay1352, qpay1352, unwords, castcast]

def qpay1361 (v3914 : FVec Bits S64x256 FTy.bf16) (v4437 : FVec Bits S256x256 .bf16) :=
  have v4439 := v4437;
  have cst_2561 := constant (F := Bits) S64x256 FTy.f32 0#32;
  have v4440 := matmul dot_S64x256_S256x256_S64x256_1_0_0_1_n_n none v3914 v4439 cst_2561;
  have v4441 := truncf FTy.bf16 v4440 bitsLt_bf16_f32;
  v4441
theorem qpay1361_eq (v3914 : FVec Bits S64x256 FTy.bf16) (v4437 : FVec Bits S64x256 .bf16) :
    k0_pay1361 (F := Bits) v3914 (words v4437) = qpay1361 v3914 (bd v4437) := by
  simp only [k0_pay1361, qpay1361, unwords, castcast]

def qpay1372 (v914 : FVec Bits S64x256 FTy.bf16) (v4443 : FVec Bits S64x256 FTy.f32) (v4468 : FVec Bits S256x256 .bf16) :=
  have v4470 := v4468;
  have cst_2582 := constant (F := Bits) S64x256 FTy.f32 0#32;
  have v4471 := matmul dot_S64x256_S256x256_S64x256_1_0_0_1_n_n none v914 v4470 cst_2582;
  have v4472 := addf v4443 v4471;
  v4472
theorem qpay1372_eq (v914 : FVec Bits S64x256 FTy.bf16) (v4443 : FVec Bits S64x256 FTy.f32) (v4468 : FVec Bits S64x256 .bf16) :
    k0_pay1372 (F := Bits) v914 v4443 (words v4468) = qpay1372 v914 v4443 (bd v4468) := by
  simp only [k0_pay1372, qpay1372, unwords, castcast]

def qpay1383 (v918 : FVec Bits S64x256 FTy.bf16) (v4474 : FVec Bits S64x256 FTy.f32) (v4499 : FVec Bits S256x256 .bf16) :=
  have v4501 := v4499;
  have cst_2603 := constant (F := Bits) S64x256 FTy.f32 0#32;
  have v4502 := matmul dot_S64x256_S256x256_S64x256_1_0_0_1_n_n none v918 v4501 cst_2603;
  have v4503 := addf v4474 v4502;
  v4503
theorem qpay1383_eq (v918 : FVec Bits S64x256 FTy.bf16) (v4474 : FVec Bits S64x256 FTy.f32) (v4499 : FVec Bits S64x256 .bf16) :
    k0_pay1383 (F := Bits) v918 v4474 (words v4499) = qpay1383 v918 v4474 (bd v4499) := by
  simp only [k0_pay1383, qpay1383, unwords, castcast]

def qpay1393 (v922 : FVec Bits S64x256 FTy.bf16) (v4505 : FVec Bits S64x256 FTy.f32) (v4530 : FVec Bits S256x256 .bf16) :=
  have v4532 := v4530;
  have cst_2624 := constant (F := Bits) S64x256 FTy.f32 0#32;
  have v4533 := matmul dot_S64x256_S256x256_S64x256_1_0_0_1_n_n none v922 v4532 cst_2624;
  have v4534 := addf v4505 v4533;
  v4534
theorem qpay1393_eq (v922 : FVec Bits S64x256 FTy.bf16) (v4505 : FVec Bits S64x256 FTy.f32) (v4530 : FVec Bits S64x256 .bf16) :
    k0_pay1393 (F := Bits) v922 v4505 (words v4530) = qpay1393 v922 v4505 (bd v4530) := by
  simp only [k0_pay1393, qpay1393, unwords, castcast]

def qpay1403 (v926 : FVec Bits S64x256 FTy.bf16) (v4536 : FVec Bits S64x256 FTy.f32) (v4561 : FVec Bits S256x256 .bf16) :=
  have v4563 := v4561;
  have cst_2645 := constant (F := Bits) S64x256 FTy.f32 0#32;
  have v4564 := matmul dot_S64x256_S256x256_S64x256_1_0_0_1_n_n none v926 v4563 cst_2645;
  have v4565 := addf v4536 v4564;
  v4565
theorem qpay1403_eq (v926 : FVec Bits S64x256 FTy.bf16) (v4536 : FVec Bits S64x256 FTy.f32) (v4561 : FVec Bits S64x256 .bf16) :
    k0_pay1403 (F := Bits) v926 v4536 (words v4561) = qpay1403 v926 v4536 (bd v4561) := by
  simp only [k0_pay1403, qpay1403, unwords, castcast]

def qpay1303s (v81 : IVec S256x256 1) (v224 : FVec Bits S1x256 FTy.f32) (v3930 : FVec Bits S256x256 FTy.f32) (v4198 : FVec Bits S256x256 FTy.f32) :=
  have v4223 := broadcastTo S256x256 v224 broadcasts_S1x256_S256x256;
  have v4224 := mulf v3930 v4223;
  have cst_2426 := FloatOps.ofBits (F := Bits) FTy.f32 0#32;
  have v4225 := broadcast S256x256 cst_2426;
  have v4226 := select v81 v4198 v4225;
  have v4227 := addf v4224 v4226;
  v4227
theorem qpay1303s_eq (v81 : IVec S256x256 1) (v224 : FVec Bits S1x256 FTy.f32) (v3930 : FVec Bits S256x256 FTy.f32) (v4198 : FVec Bits S256x256 FTy.f32) :
    k0_pay1303 (F := Bits) v81 v224 v3930 v4198 = shapeCast S1x256x256 (qpay1303s v81 v224 v3930 v4198) shapeCasts_S256x256_S1x256x256 := rfl

def qpay1302s (v4219 : FVec Bits S256x256 FTy.f32) :=
  v4219
theorem qpay1302s_eq (v4219 : FVec Bits S256x256 FTy.f32) :
    k0_pay1302 (F := Bits) v4219 = shapeCast S1x256x256 (qpay1302s v4219) shapeCasts_S256x256_S1x256x256 := rfl

def qpay1300s (v81 : IVec S256x256 1) (v222 : FVec Bits S1x256 FTy.f32) (v992 : Vec Bits S64x256 EltTy.bf16) (v1000 : FVec Bits S128x256 FTy.bf16) (v3926 : FVec Bits S256x256 FTy.f32) (v4008 : FVec Bits S64x256 FTy.bf16) :=
  have v4193 := concatenate S128x256 0 [⟨S64x256, v4008⟩, ⟨S64x256, v992⟩] concatenates_S64x256_S64x256_S128x256_d0;
  have cst_2411 := constant (F := Bits) S256x256 FTy.f32 0#32;
  have v4194 := matmul dot_S128x256_S128x256_S256x256_0_0_1_1_n_n none v4193 v1000 cst_2411;
  have v4207 := broadcastTo S256x256 v222 broadcasts_S1x256_S256x256;
  have v4208 := mulf v3926 v4207;
  have cst_2418 := FloatOps.ofBits (F := Bits) FTy.f32 0#32;
  have v4209 := broadcast S256x256 cst_2418;
  have v4210 := select v81 v4194 v4209;
  have v4211 := addf v4208 v4210;
  v4211
theorem qpay1300s_eq (v81 : IVec S256x256 1) (v222 : FVec Bits S1x256 FTy.f32) (v992 : Vec Bits S64x256 EltTy.bf16) (v1000 : FVec Bits S128x256 FTy.bf16) (v3926 : FVec Bits S256x256 FTy.f32) (v4008 : FVec Bits S64x256 FTy.bf16) :
    k0_pay1300 (F := Bits) v81 v222 v992 v1000 v3926 v4008 = shapeCast S1x256x256 (qpay1300s v81 v222 v992 v1000 v3926 v4008) shapeCasts_S256x256_S1x256x256 := rfl

def qpay1299s (v81 : IVec S256x256 1) (v221 : FVec Bits S1x256 FTy.f32) (v991 : Vec Bits S64x256 EltTy.bf16) (v999 : FVec Bits S128x256 FTy.bf16) (v3924 : FVec Bits S256x256 FTy.f32) (v3979 : FVec Bits S64x256 FTy.bf16) :=
  have v4191 := concatenate S128x256 0 [⟨S64x256, v3979⟩, ⟨S64x256, v991⟩] concatenates_S64x256_S64x256_S128x256_d0;
  have cst_2410 := constant (F := Bits) S256x256 FTy.f32 0#32;
  have v4192 := matmul dot_S128x256_S128x256_S256x256_0_0_1_1_n_n none v4191 v999 cst_2410;
  have v4199 := broadcastTo S256x256 v221 broadcasts_S1x256_S256x256;
  have v4200 := mulf v3924 v4199;
  have cst_2414 := FloatOps.ofBits (F := Bits) FTy.f32 0#32;
  have v4201 := broadcast S256x256 cst_2414;
  have v4202 := select v81 v4192 v4201;
  have v4203 := addf v4200 v4202;
  v4203
theorem qpay1299s_eq (v81 : IVec S256x256 1) (v221 : FVec Bits S1x256 FTy.f32) (v991 : Vec Bits S64x256 EltTy.bf16) (v999 : FVec Bits S128x256 FTy.bf16) (v3924 : FVec Bits S256x256 FTy.f32) (v3979 : FVec Bits S64x256 FTy.bf16) :
    k0_pay1299 (F := Bits) v81 v221 v991 v999 v3924 v3979 = shapeCast S1x256x256 (qpay1299s v81 v221 v991 v999 v3924 v3979) shapeCasts_S256x256_S1x256x256 := rfl

def qpay1410s (v81 : IVec S256x256 1) (v4573 : FVec Bits S256x256 FTy.f32) (v4599 : FVec Bits S256x256 FTy.f32) (v4600 : FVec Bits S256x256 FTy.f32) :=
  have v4601 := select v81 v4573 v4600;
  have v4602 := addf v4599 v4601;
  v4602
theorem qpay1410s_eq (v81 : IVec S256x256 1) (v4573 : FVec Bits S256x256 FTy.f32) (v4599 : FVec Bits S256x256 FTy.f32) (v4600 : FVec Bits S256x256 FTy.f32) :
    k0_pay1410 (F := Bits) v81 v4573 v4599 v4600 = shapeCast S1x256x256 (qpay1410s v81 v4573 v4599 v4600) shapeCasts_S256x256_S1x256x256 := rfl

def qpay1407s (v81 : IVec S256x256 1) (v227 : FVec Bits S1x256 FTy.f32) (v997 : Vec Bits S64x256 EltTy.bf16) (v1005 : FVec Bits S128x256 FTy.bf16) (v4303 : FVec Bits S256x256 FTy.f32) (v4412 : FVec Bits S64x256 FTy.bf16) :=
  have v4570 := concatenate S128x256 0 [⟨S64x256, v4412⟩, ⟨S64x256, v997⟩] concatenates_S64x256_S64x256_S128x256_d0;
  have cst_2648 := constant (F := Bits) S256x256 FTy.f32 0#32;
  have v4571 := matmul dot_S128x256_S128x256_S256x256_0_0_1_1_n_n none v4570 v1005 cst_2648;
  have v4590 := broadcastTo S256x256 v227 broadcasts_S1x256_S256x256;
  have v4591 := mulf v4303 v4590;
  have cst_2658 := FloatOps.ofBits (F := Bits) FTy.f32 0#32;
  have v4592 := broadcast S256x256 cst_2658;
  have v4593 := select v81 v4571 v4592;
  have v4594 := addf v4591 v4593;
  v4594
theorem qpay1407s_eq (v81 : IVec S256x256 1) (v227 : FVec Bits S1x256 FTy.f32) (v997 : Vec Bits S64x256 EltTy.bf16) (v1005 : FVec Bits S128x256 FTy.bf16) (v4303 : FVec Bits S256x256 FTy.f32) (v4412 : FVec Bits S64x256 FTy.bf16) :
    k0_pay1407 (F := Bits) v81 v227 v997 v1005 v4303 v4412 = shapeCast S1x256x256 (qpay1407s v81 v227 v997 v1005 v4303 v4412) shapeCasts_S256x256_S1x256x256 := rfl

def qpay1406s (v81 : IVec S256x256 1) (v226 : FVec Bits S1x256 FTy.f32) (v996 : Vec Bits S64x256 EltTy.bf16) (v1004 : FVec Bits S128x256 FTy.bf16) (v4301 : FVec Bits S256x256 FTy.f32) (v4383 : FVec Bits S64x256 FTy.bf16) :=
  have v4568 := concatenate S128x256 0 [⟨S64x256, v4383⟩, ⟨S64x256, v996⟩] concatenates_S64x256_S64x256_S128x256_d0;
  have cst_2647 := constant (F := Bits) S256x256 FTy.f32 0#32;
  have v4569 := matmul dot_S128x256_S128x256_S256x256_0_0_1_1_n_n none v4568 v1004 cst_2647;
  have v4582 := broadcastTo S256x256 v226 broadcasts_S1x256_S256x256;
  have v4583 := mulf v4301 v4582;
  have cst_2654 := FloatOps.ofBits (F := Bits) FTy.f32 0#32;
  have v4584 := broadcast S256x256 cst_2654;
  have v4585 := select v81 v4569 v4584;
  have v4586 := addf v4583 v4585;
  v4586
theorem qpay1406s_eq (v81 : IVec S256x256 1) (v226 : FVec Bits S1x256 FTy.f32) (v996 : Vec Bits S64x256 EltTy.bf16) (v1004 : FVec Bits S128x256 FTy.bf16) (v4301 : FVec Bits S256x256 FTy.f32) (v4383 : FVec Bits S64x256 FTy.bf16) :
    k0_pay1406 (F := Bits) v81 v226 v996 v1004 v4301 v4383 = shapeCast S1x256x256 (qpay1406s v81 v226 v996 v1004 v4301 v4383) shapeCasts_S256x256_S1x256x256 := rfl

def qpay1405s (v81 : IVec S256x256 1) (v225 : FVec Bits S1x256 FTy.f32) (v995 : Vec Bits S64x256 EltTy.bf16) (v1003 : FVec Bits S128x256 FTy.bf16) (v4299 : FVec Bits S256x256 FTy.f32) (v4354 : FVec Bits S64x256 FTy.bf16) :=
  have v4566 := concatenate S128x256 0 [⟨S64x256, v4354⟩, ⟨S64x256, v995⟩] concatenates_S64x256_S64x256_S128x256_d0;
  have cst_2646 := constant (F := Bits) S256x256 FTy.f32 0#32;
  have v4567 := matmul dot_S128x256_S128x256_S256x256_0_0_1_1_n_n none v4566 v1003 cst_2646;
  have v4574 := broadcastTo S256x256 v225 broadcasts_S1x256_S256x256;
  have v4575 := mulf v4299 v4574;
  have cst_2650 := FloatOps.ofBits (F := Bits) FTy.f32 0#32;
  have v4576 := broadcast S256x256 cst_2650;
  have v4577 := select v81 v4567 v4576;
  have v4578 := addf v4575 v4577;
  v4578
theorem qpay1405s_eq (v81 : IVec S256x256 1) (v225 : FVec Bits S1x256 FTy.f32) (v995 : Vec Bits S64x256 EltTy.bf16) (v1003 : FVec Bits S128x256 FTy.bf16) (v4299 : FVec Bits S256x256 FTy.f32) (v4354 : FVec Bits S64x256 FTy.bf16) :
    k0_pay1405 (F := Bits) v81 v225 v995 v1003 v4299 v4354 = shapeCast S1x256x256 (qpay1405s v81 v225 v995 v1003 v4299 v4354) shapeCasts_S256x256_S1x256x256 := rfl

def qpay1324 (v1243 : FVec Bits S64x256 FTy.f32) (v3919 : FVec Bits S128x256 FTy.bf16) (v4298 : FVec Bits S256x256 .f32) :=
  have v4326 := extractStridedSlice S64x128 ![0, 0] (qpay1320 v1243 v3919 v4298) slices_S64x256_o0_0_S64x128;
  have v4327 := bitcast S32x128 32 (bitcastToInt v4326) bitcasts_S64x128_w16_S32x128_w32;
  have v4330 := shapeCast S1x1x32x128 v4327 shapeCasts_S32x128_S1x1x32x128;
  v4330
theorem qpay1324_eq (v1243 : FVec Bits S64x256 FTy.f32) (v3919 : FVec Bits S128x256 FTy.bf16) (v4298 : FVec Bits S256x256 .f32) :
    k0_pay1324 (F := Bits) v1243 v3919 (shapeCast S1x256x256 v4298 shapeCasts_S256x256_S1x256x256) = qpay1324 v1243 v3919 v4298 := by
  simp only [k0_pay1324, qpay1324, unwords, castcast, k0_pay1320, qpay1320, k0_pay1316, qpay1316, k0_pay1312, qpay1312] <;> simp only [castcast, unwords]

def q_r_10 (x0 : Vec Bits S128x7168 .bf16) :=
  k0_pay27 (F := Bits) (View.ld x0 (Rect.unit ![0, 5120] S128x1024.size inb_S128x7168_S128x1024_0_5120)) (View.ld x0 (Rect.unit ![0, 6144] S128x1024.size inb_S128x7168_S128x1024_0_6144))
def q_r_8 (x0 : Vec Bits S128x7168 .bf16) :=
  k0_pay25 (F := Bits) k0_pay12 sl.v111 (divsi sl.v85 sl.v88) (andi sl.v127 sl.v131) sl.v134 (View.ld x0 (Rect.unit ![0, 5120] S128x1024.size inb_S128x7168_S128x1024_0_5120)) (View.ld x0 (Rect.unit ![0, 6144] S128x1024.size inb_S128x7168_S128x1024_0_6144))
def q_r_32 (x0 : Vec Bits S128x7168 .bf16) :=
  k0_pay49 (F := Bits) (q_r_8 x0)
def q_r_68 (x0 : Vec Bits S128x7168 .bf16) :=
  k0_pay89 (F := Bits) (View.ld x0 (Rect.unit ![64, 4608] S64x256.size inb_S128x7168_S64x256_64_4608))
def q_r_100 (x0 : Vec Bits S128x7168 .bf16) :=
  k0_pay121 (F := Bits) (q_r_32 x0) (q_r_68 x0)
def q_r_9 (x0 : Vec Bits S128x7168 .bf16) :=
  k0_pay26 (F := Bits) k0_pay12 sl.v111 (divsi sl.v85 sl.v88) (andi sl.v127 sl.v131) sl.v134 (View.ld x0 (Rect.unit ![0, 5120] S128x1024.size inb_S128x7168_S128x1024_0_5120)) (View.ld x0 (Rect.unit ![0, 6144] S128x1024.size inb_S128x7168_S128x1024_0_6144))
def q_r_33 (x0 : Vec Bits S128x7168 .bf16) :=
  k0_pay50 (F := Bits) (q_r_9 x0)
def q_r_69 (x0 : Vec Bits S128x7168 .bf16) :=
  k0_pay90 (F := Bits) (View.ld x0 (Rect.unit ![64, 4864] S64x256.size inb_S128x7168_S64x256_64_4864))
def q_r_101 (x0 : Vec Bits S128x7168 .bf16) :=
  k0_pay122 (F := Bits) (q_r_33 x0) (q_r_69 x0)
def q_r_26 (x0 : Vec Bits S128x7168 .bf16) :=
  k0_pay43 (F := Bits) k0_pay12 sl.v111 (divsi sl.v85 sl.v88) (andi sl.v127 sl.v131) sl.v134 (View.ld x0 (Rect.unit ![0, 5120] S128x1024.size inb_S128x7168_S128x1024_0_5120)) (View.ld x0 (Rect.unit ![0, 6144] S128x1024.size inb_S128x7168_S128x1024_0_6144))
def q_r_70 (x0 : Vec Bits S128x7168 .bf16) :=
  k0_pay91 (F := Bits) (View.ld x0 (Rect.unit ![0, 1024] S64x256.size inb_S128x7168_S64x256_0_1024))
def q_r_102 (x0 : Vec Bits S128x7168 .bf16) :=
  k0_pay123 (F := Bits) (q_r_26 x0) (q_r_70 x0)
def q_r_27 (x0 : Vec Bits S128x7168 .bf16) :=
  k0_pay44 (F := Bits) k0_pay12 sl.v111 (divsi sl.v85 sl.v88) (andi sl.v127 sl.v131) sl.v134 (View.ld x0 (Rect.unit ![0, 5120] S128x1024.size inb_S128x7168_S128x1024_0_5120)) (View.ld x0 (Rect.unit ![0, 6144] S128x1024.size inb_S128x7168_S128x1024_0_6144))
def q_r_71 (x0 : Vec Bits S128x7168 .bf16) :=
  k0_pay92 (F := Bits) (View.ld x0 (Rect.unit ![0, 1280] S64x256.size inb_S128x7168_S64x256_0_1280))
def q_r_103 (x0 : Vec Bits S128x7168 .bf16) :=
  k0_pay124 (F := Bits) (q_r_27 x0) (q_r_71 x0)
def q_r_28 (x0 : Vec Bits S128x7168 .bf16) :=
  k0_pay45 (F := Bits) k0_pay12 sl.v111 (divsi sl.v85 sl.v88) (andi sl.v127 sl.v131) sl.v134 (View.ld x0 (Rect.unit ![0, 5120] S128x1024.size inb_S128x7168_S128x1024_0_5120)) (View.ld x0 (Rect.unit ![0, 6144] S128x1024.size inb_S128x7168_S128x1024_0_6144))
def q_r_72 (x0 : Vec Bits S128x7168 .bf16) :=
  k0_pay93 (F := Bits) (View.ld x0 (Rect.unit ![0, 1536] S64x256.size inb_S128x7168_S64x256_0_1536))
def q_r_104 (x0 : Vec Bits S128x7168 .bf16) :=
  k0_pay125 (F := Bits) (q_r_28 x0) (q_r_72 x0)
def q_r_29 (x0 : Vec Bits S128x7168 .bf16) :=
  k0_pay46 (F := Bits) k0_pay12 sl.v111 (divsi sl.v85 sl.v88) (andi sl.v127 sl.v131) sl.v134 (View.ld x0 (Rect.unit ![0, 5120] S128x1024.size inb_S128x7168_S128x1024_0_5120)) (View.ld x0 (Rect.unit ![0, 6144] S128x1024.size inb_S128x7168_S128x1024_0_6144))
def q_r_73 (x0 : Vec Bits S128x7168 .bf16) :=
  k0_pay94 (F := Bits) (View.ld x0 (Rect.unit ![0, 1792] S64x256.size inb_S128x7168_S64x256_0_1792))
def q_r_105 (x0 : Vec Bits S128x7168 .bf16) :=
  k0_pay126 (F := Bits) (q_r_29 x0) (q_r_73 x0)
def q_r_6 (x0 : Vec Bits S128x7168 .bf16) :=
  k0_pay23 (F := Bits) k0_pay12 sl.v111 (divsi sl.v85 sl.v88) (andi sl.v127 sl.v131) sl.v134 (View.ld x0 (Rect.unit ![0, 5120] S128x1024.size inb_S128x7168_S128x1024_0_5120)) (View.ld x0 (Rect.unit ![0, 6144] S128x1024.size inb_S128x7168_S128x1024_0_6144))
def q_r_30 (x0 : Vec Bits S128x7168 .bf16) :=
  k0_pay47 (F := Bits) (q_r_6 x0)
def q_r_74 (x0 : Vec Bits S128x7168 .bf16) :=
  k0_pay95 (F := Bits) (View.ld x0 (Rect.unit ![64, 1024] S64x256.size inb_S128x7168_S64x256_64_1024))
def q_r_106 (x0 : Vec Bits S128x7168 .bf16) :=
  k0_pay127 (F := Bits) (q_r_30 x0) (q_r_74 x0)
def q_r_7 (x0 : Vec Bits S128x7168 .bf16) :=
  k0_pay24 (F := Bits) k0_pay12 sl.v111 (divsi sl.v85 sl.v88) (andi sl.v127 sl.v131) sl.v134 (View.ld x0 (Rect.unit ![0, 5120] S128x1024.size inb_S128x7168_S128x1024_0_5120)) (View.ld x0 (Rect.unit ![0, 6144] S128x1024.size inb_S128x7168_S128x1024_0_6144))
def q_r_31 (x0 : Vec Bits S128x7168 .bf16) :=
  k0_pay48 (F := Bits) (q_r_7 x0)
def q_r_75 (x0 : Vec Bits S128x7168 .bf16) :=
  k0_pay96 (F := Bits) (View.ld x0 (Rect.unit ![64, 1280] S64x256.size inb_S128x7168_S64x256_64_1280))
def q_r_107 (x0 : Vec Bits S128x7168 .bf16) :=
  k0_pay128 (F := Bits) (q_r_31 x0) (q_r_75 x0)
def q_r_76 (x0 : Vec Bits S128x7168 .bf16) :=
  k0_pay97 (F := Bits) (View.ld x0 (Rect.unit ![64, 1536] S64x256.size inb_S128x7168_S64x256_64_1536))
def q_r_108 (x0 : Vec Bits S128x7168 .bf16) :=
  k0_pay129 (F := Bits) (q_r_32 x0) (q_r_76 x0)
def q_r_77 (x0 : Vec Bits S128x7168 .bf16) :=
  k0_pay98 (F := Bits) (View.ld x0 (Rect.unit ![64, 1792] S64x256.size inb_S128x7168_S64x256_64_1792))
def q_r_109 (x0 : Vec Bits S128x7168 .bf16) :=
  k0_pay130 (F := Bits) (q_r_33 x0) (q_r_77 x0)
def q_r_11 (x0 : Vec Bits S128x7168 .bf16) :=
  k0_pay28 (F := Bits) (View.ld x0 (Rect.unit ![0, 5120] S128x1024.size inb_S128x7168_S128x1024_0_5120)) (View.ld x0 (Rect.unit ![0, 6144] S128x1024.size inb_S128x7168_S128x1024_0_6144))
def q_r_2 (x0 : Vec Bits S128x7168 .bf16) :=
  k0_pay19 (F := Bits) k0_pay12 sl.v111 (divsi sl.v85 sl.v88) (andi sl.v127 sl.v131) sl.v134 (View.ld x0 (Rect.unit ![0, 5120] S128x1024.size inb_S128x7168_S128x1024_0_5120)) (View.ld x0 (Rect.unit ![0, 6144] S128x1024.size inb_S128x7168_S128x1024_0_6144))
def q_r_54 (x0 : Vec Bits S128x7168 .bf16) :=
  k0_pay75 (F := Bits) (q_r_2 x0)
def q_r_62 (x0 : Vec Bits S128x7168 .bf16) :=
  k0_pay83 (F := Bits) (View.ld x0 (Rect.unit ![0, 4096] S64x256.size inb_S128x7168_S64x256_0_4096))
def q_r_110 (x0 : Vec Bits S128x7168 .bf16) :=
  k0_pay131 (F := Bits) (q_r_54 x0) (q_r_62 x0)
def q_r_3 (x0 : Vec Bits S128x7168 .bf16) :=
  k0_pay20 (F := Bits) k0_pay12 sl.v111 (divsi sl.v85 sl.v88) (andi sl.v127 sl.v131) sl.v134 (View.ld x0 (Rect.unit ![0, 5120] S128x1024.size inb_S128x7168_S128x1024_0_5120)) (View.ld x0 (Rect.unit ![0, 6144] S128x1024.size inb_S128x7168_S128x1024_0_6144))
def q_r_55 (x0 : Vec Bits S128x7168 .bf16) :=
  k0_pay76 (F := Bits) (q_r_3 x0)
def q_r_63 (x0 : Vec Bits S128x7168 .bf16) :=
  k0_pay84 (F := Bits) (View.ld x0 (Rect.unit ![0, 4352] S64x256.size inb_S128x7168_S64x256_0_4352))
def q_r_111 (x0 : Vec Bits S128x7168 .bf16) :=
  k0_pay132 (F := Bits) (q_r_55 x0) (q_r_63 x0)
def q_r_4 (x0 : Vec Bits S128x7168 .bf16) :=
  k0_pay21 (F := Bits) k0_pay12 sl.v111 (divsi sl.v85 sl.v88) (andi sl.v127 sl.v131) sl.v134 (View.ld x0 (Rect.unit ![0, 5120] S128x1024.size inb_S128x7168_S128x1024_0_5120)) (View.ld x0 (Rect.unit ![0, 6144] S128x1024.size inb_S128x7168_S128x1024_0_6144))
def q_r_56 (x0 : Vec Bits S128x7168 .bf16) :=
  k0_pay77 (F := Bits) (q_r_4 x0)
def q_r_64 (x0 : Vec Bits S128x7168 .bf16) :=
  k0_pay85 (F := Bits) (View.ld x0 (Rect.unit ![0, 4608] S64x256.size inb_S128x7168_S64x256_0_4608))
def q_r_112 (x0 : Vec Bits S128x7168 .bf16) :=
  k0_pay133 (F := Bits) (q_r_56 x0) (q_r_64 x0)
def q_r_5 (x0 : Vec Bits S128x7168 .bf16) :=
  k0_pay22 (F := Bits) k0_pay12 sl.v111 (divsi sl.v85 sl.v88) (andi sl.v127 sl.v131) sl.v134 (View.ld x0 (Rect.unit ![0, 5120] S128x1024.size inb_S128x7168_S128x1024_0_5120)) (View.ld x0 (Rect.unit ![0, 6144] S128x1024.size inb_S128x7168_S128x1024_0_6144))
def q_r_57 (x0 : Vec Bits S128x7168 .bf16) :=
  k0_pay78 (F := Bits) (q_r_5 x0)
def q_r_65 (x0 : Vec Bits S128x7168 .bf16) :=
  k0_pay86 (F := Bits) (View.ld x0 (Rect.unit ![0, 4864] S64x256.size inb_S128x7168_S64x256_0_4864))
def q_r_113 (x0 : Vec Bits S128x7168 .bf16) :=
  k0_pay134 (F := Bits) (q_r_57 x0) (q_r_65 x0)
def q_r_42 (x0 : Vec Bits S128x7168 .bf16) :=
  k0_pay63 (F := Bits) (q_r_6 x0)
def q_r_58 (x0 : Vec Bits S128x7168 .bf16) :=
  k0_pay79 (F := Bits) (q_r_6 x0) (q_r_42 x0)
def q_r_66 (x0 : Vec Bits S128x7168 .bf16) :=
  k0_pay87 (F := Bits) (View.ld x0 (Rect.unit ![64, 4096] S64x256.size inb_S128x7168_S64x256_64_4096))
def q_r_114 (x0 : Vec Bits S128x7168 .bf16) :=
  k0_pay135 (F := Bits) (q_r_58 x0) (q_r_66 x0)
def q_r_43 (x0 : Vec Bits S128x7168 .bf16) :=
  k0_pay64 (F := Bits) (q_r_7 x0)
def q_r_59 (x0 : Vec Bits S128x7168 .bf16) :=
  k0_pay80 (F := Bits) (q_r_7 x0) (q_r_43 x0)
def q_r_67 (x0 : Vec Bits S128x7168 .bf16) :=
  k0_pay88 (F := Bits) (View.ld x0 (Rect.unit ![64, 4352] S64x256.size inb_S128x7168_S64x256_64_4352))
def q_r_115 (x0 : Vec Bits S128x7168 .bf16) :=
  k0_pay136 (F := Bits) (q_r_59 x0) (q_r_67 x0)
def q_r_44 (x0 : Vec Bits S128x7168 .bf16) :=
  k0_pay65 (F := Bits) (q_r_8 x0)
def q_r_60 (x0 : Vec Bits S128x7168 .bf16) :=
  k0_pay81 (F := Bits) (q_r_8 x0) (q_r_44 x0)
def q_r_116 (x0 : Vec Bits S128x7168 .bf16) :=
  k0_pay137 (F := Bits) (q_r_60 x0) (q_r_68 x0)
def q_r_45 (x0 : Vec Bits S128x7168 .bf16) :=
  k0_pay66 (F := Bits) (q_r_9 x0)
def q_r_61 (x0 : Vec Bits S128x7168 .bf16) :=
  k0_pay82 (F := Bits) (q_r_9 x0) (q_r_45 x0)
def q_r_117 (x0 : Vec Bits S128x7168 .bf16) :=
  k0_pay138 (F := Bits) (q_r_61 x0) (q_r_69 x0)
def q_r_118 (x0 : Vec Bits S128x7168 .bf16) :=
  k0_pay139 (F := Bits) (q_r_54 x0) (q_r_70 x0)
def q_r_119 (x0 : Vec Bits S128x7168 .bf16) :=
  k0_pay140 (F := Bits) (q_r_55 x0) (q_r_71 x0)
def q_r_12 (x0 : Vec Bits S128x7168 .bf16) :=
  k0_pay29 (F := Bits) (View.ld x0 (Rect.unit ![0, 5120] S128x1024.size inb_S128x7168_S128x1024_0_5120)) (View.ld x0 (Rect.unit ![0, 6144] S128x1024.size inb_S128x7168_S128x1024_0_6144))
def q_r_120 (x0 : Vec Bits S128x7168 .bf16) :=
  k0_pay141 (F := Bits) (q_r_56 x0) (q_r_72 x0)
def q_r_121 (x0 : Vec Bits S128x7168 .bf16) :=
  k0_pay142 (F := Bits) (q_r_57 x0) (q_r_73 x0)
def q_r_122 (x0 : Vec Bits S128x7168 .bf16) :=
  k0_pay143 (F := Bits) (q_r_58 x0) (q_r_74 x0)
def q_r_123 (x0 : Vec Bits S128x7168 .bf16) :=
  k0_pay144 (F := Bits) (q_r_59 x0) (q_r_75 x0)
def q_r_124 (x0 : Vec Bits S128x7168 .bf16) :=
  k0_pay145 (F := Bits) (q_r_60 x0) (q_r_76 x0)
def q_r_125 (x0 : Vec Bits S128x7168 .bf16) :=
  k0_pay146 (F := Bits) (q_r_61 x0) (q_r_77 x0)
def q_r_18 (x0 : Vec Bits S128x7168 .bf16) :=
  k0_pay35 (F := Bits) k0_pay12 sl.v111 (divsi sl.v85 sl.v88) (andi sl.v127 sl.v131) sl.v134 (View.ld x0 (Rect.unit ![0, 5120] S128x1024.size inb_S128x7168_S128x1024_0_5120)) (View.ld x0 (Rect.unit ![0, 6144] S128x1024.size inb_S128x7168_S128x1024_0_6144))
def q_r_78 (x0 : Vec Bits S128x7168 .bf16) :=
  k0_pay99 (F := Bits) (q_r_18 x0) (View.ld x0 (Rect.unit ![0, 0] S64x256.size inb_S128x7168_S64x256_0_0))
def q_r_34 (x0 : Vec Bits S128x7168 .bf16) :=
  k0_pay51 (F := Bits) (q_r_2 x0) (q_r_10 x0)
def q_r_86 (x0 : Vec Bits S128x7168 .bf16) :=
  k0_pay107 (F := Bits) (q_r_34 x0) (View.ld x0 (Rect.unit ![0, 3072] S64x256.size inb_S128x7168_S64x256_0_3072))
def q_r_126 (x0 : Vec Bits S128x7168 .bf16) :=
  k0_pay147 (F := Bits) (q_r_78 x0) (q_r_86 x0)
def q_r_19 (x0 : Vec Bits S128x7168 .bf16) :=
  k0_pay36 (F := Bits) k0_pay12 sl.v111 (divsi sl.v85 sl.v88) (andi sl.v127 sl.v131) sl.v134 (View.ld x0 (Rect.unit ![0, 5120] S128x1024.size inb_S128x7168_S128x1024_0_5120)) (View.ld x0 (Rect.unit ![0, 6144] S128x1024.size inb_S128x7168_S128x1024_0_6144))
def q_r_79 (x0 : Vec Bits S128x7168 .bf16) :=
  k0_pay100 (F := Bits) (q_r_19 x0) (View.ld x0 (Rect.unit ![0, 256] S64x256.size inb_S128x7168_S64x256_0_256))
def q_r_35 (x0 : Vec Bits S128x7168 .bf16) :=
  k0_pay52 (F := Bits) (q_r_3 x0) (q_r_11 x0)
def q_r_87 (x0 : Vec Bits S128x7168 .bf16) :=
  k0_pay108 (F := Bits) (q_r_35 x0) (View.ld x0 (Rect.unit ![0, 3328] S64x256.size inb_S128x7168_S64x256_0_3328))
def q_r_127 (x0 : Vec Bits S128x7168 .bf16) :=
  k0_pay148 (F := Bits) (q_r_79 x0) (q_r_87 x0)
def q_r_20 (x0 : Vec Bits S128x7168 .bf16) :=
  k0_pay37 (F := Bits) k0_pay12 sl.v111 (divsi sl.v85 sl.v88) (andi sl.v127 sl.v131) sl.v134 (View.ld x0 (Rect.unit ![0, 5120] S128x1024.size inb_S128x7168_S128x1024_0_5120)) (View.ld x0 (Rect.unit ![0, 6144] S128x1024.size inb_S128x7168_S128x1024_0_6144))
def q_r_80 (x0 : Vec Bits S128x7168 .bf16) :=
  k0_pay101 (F := Bits) (q_r_20 x0) (View.ld x0 (Rect.unit ![0, 512] S64x256.size inb_S128x7168_S64x256_0_512))
def q_r_36 (x0 : Vec Bits S128x7168 .bf16) :=
  k0_pay53 (F := Bits) (q_r_4 x0) (q_r_12 x0)
def q_r_88 (x0 : Vec Bits S128x7168 .bf16) :=
  k0_pay109 (F := Bits) (q_r_36 x0) (View.ld x0 (Rect.unit ![0, 3584] S64x256.size inb_S128x7168_S64x256_0_3584))
def q_r_128 (x0 : Vec Bits S128x7168 .bf16) :=
  k0_pay149 (F := Bits) (q_r_80 x0) (q_r_88 x0)
def q_r_21 (x0 : Vec Bits S128x7168 .bf16) :=
  k0_pay38 (F := Bits) k0_pay12 sl.v111 (divsi sl.v85 sl.v88) (andi sl.v127 sl.v131) sl.v134 (View.ld x0 (Rect.unit ![0, 5120] S128x1024.size inb_S128x7168_S128x1024_0_5120)) (View.ld x0 (Rect.unit ![0, 6144] S128x1024.size inb_S128x7168_S128x1024_0_6144))
def q_r_81 (x0 : Vec Bits S128x7168 .bf16) :=
  k0_pay102 (F := Bits) (q_r_21 x0) (View.ld x0 (Rect.unit ![0, 768] S64x256.size inb_S128x7168_S64x256_0_768))
def q_r_13 (x0 : Vec Bits S128x7168 .bf16) :=
  k0_pay30 (F := Bits) (View.ld x0 (Rect.unit ![0, 5120] S128x1024.size inb_S128x7168_S128x1024_0_5120)) (View.ld x0 (Rect.unit ![0, 6144] S128x1024.size inb_S128x7168_S128x1024_0_6144))
def q_r_37 (x0 : Vec Bits S128x7168 .bf16) :=
  k0_pay54 (F := Bits) (q_r_5 x0) (q_r_13 x0)
def q_r_89 (x0 : Vec Bits S128x7168 .bf16) :=
  k0_pay110 (F := Bits) (q_r_37 x0) (View.ld x0 (Rect.unit ![0, 3840] S64x256.size inb_S128x7168_S64x256_0_3840))
def q_r_129 (x0 : Vec Bits S128x7168 .bf16) :=
  k0_pay150 (F := Bits) (q_r_81 x0) (q_r_89 x0)
def q_r_22 (x0 : Vec Bits S128x7168 .bf16) :=
  k0_pay39 (F := Bits) k0_pay12 sl.v111 (divsi sl.v85 sl.v88) (andi sl.v127 sl.v131) sl.v134 (View.ld x0 (Rect.unit ![0, 5120] S128x1024.size inb_S128x7168_S128x1024_0_5120)) (View.ld x0 (Rect.unit ![0, 6144] S128x1024.size inb_S128x7168_S128x1024_0_6144))
def q_r_82 (x0 : Vec Bits S128x7168 .bf16) :=
  k0_pay103 (F := Bits) (q_r_22 x0) (View.ld x0 (Rect.unit ![64, 0] S64x256.size inb_S128x7168_S64x256_64_0))
def q_r_14 (x0 : Vec Bits S128x7168 .bf16) :=
  k0_pay31 (F := Bits) (View.ld x0 (Rect.unit ![0, 5120] S128x1024.size inb_S128x7168_S128x1024_0_5120)) (View.ld x0 (Rect.unit ![0, 6144] S128x1024.size inb_S128x7168_S128x1024_0_6144))
def q_r_38 (x0 : Vec Bits S128x7168 .bf16) :=
  k0_pay55 (F := Bits) (q_r_6 x0) (q_r_14 x0)
def q_r_90 (x0 : Vec Bits S128x7168 .bf16) :=
  k0_pay111 (F := Bits) (q_r_38 x0) (View.ld x0 (Rect.unit ![64, 3072] S64x256.size inb_S128x7168_S64x256_64_3072))
def q_r_130 (x0 : Vec Bits S128x7168 .bf16) :=
  k0_pay151 (F := Bits) (q_r_82 x0) (q_r_90 x0)
def q_r_23 (x0 : Vec Bits S128x7168 .bf16) :=
  k0_pay40 (F := Bits) k0_pay12 sl.v111 (divsi sl.v85 sl.v88) (andi sl.v127 sl.v131) sl.v134 (View.ld x0 (Rect.unit ![0, 5120] S128x1024.size inb_S128x7168_S128x1024_0_5120)) (View.ld x0 (Rect.unit ![0, 6144] S128x1024.size inb_S128x7168_S128x1024_0_6144))
def q_r_83 (x0 : Vec Bits S128x7168 .bf16) :=
  k0_pay104 (F := Bits) (q_r_23 x0) (View.ld x0 (Rect.unit ![64, 256] S64x256.size inb_S128x7168_S64x256_64_256))
def q_r_15 (x0 : Vec Bits S128x7168 .bf16) :=
  k0_pay32 (F := Bits) (View.ld x0 (Rect.unit ![0, 5120] S128x1024.size inb_S128x7168_S128x1024_0_5120)) (View.ld x0 (Rect.unit ![0, 6144] S128x1024.size inb_S128x7168_S128x1024_0_6144))
def q_r_39 (x0 : Vec Bits S128x7168 .bf16) :=
  k0_pay56 (F := Bits) (q_r_7 x0) (q_r_15 x0)
def q_r_91 (x0 : Vec Bits S128x7168 .bf16) :=
  k0_pay112 (F := Bits) (q_r_39 x0) (View.ld x0 (Rect.unit ![64, 3328] S64x256.size inb_S128x7168_S64x256_64_3328))
def q_r_131 (x0 : Vec Bits S128x7168 .bf16) :=
  k0_pay152 (F := Bits) (q_r_83 x0) (q_r_91 x0)
def q_r_24 (x0 : Vec Bits S128x7168 .bf16) :=
  k0_pay41 (F := Bits) k0_pay12 sl.v111 (divsi sl.v85 sl.v88) (andi sl.v127 sl.v131) sl.v134 (View.ld x0 (Rect.unit ![0, 5120] S128x1024.size inb_S128x7168_S128x1024_0_5120)) (View.ld x0 (Rect.unit ![0, 6144] S128x1024.size inb_S128x7168_S128x1024_0_6144))
def q_r_84 (x0 : Vec Bits S128x7168 .bf16) :=
  k0_pay105 (F := Bits) (q_r_24 x0) (View.ld x0 (Rect.unit ![64, 512] S64x256.size inb_S128x7168_S64x256_64_512))
def q_r_16 (x0 : Vec Bits S128x7168 .bf16) :=
  k0_pay33 (F := Bits) (View.ld x0 (Rect.unit ![0, 5120] S128x1024.size inb_S128x7168_S128x1024_0_5120)) (View.ld x0 (Rect.unit ![0, 6144] S128x1024.size inb_S128x7168_S128x1024_0_6144))
def q_r_40 (x0 : Vec Bits S128x7168 .bf16) :=
  k0_pay57 (F := Bits) (q_r_8 x0) (q_r_16 x0)
def q_r_92 (x0 : Vec Bits S128x7168 .bf16) :=
  k0_pay113 (F := Bits) (q_r_40 x0) (View.ld x0 (Rect.unit ![64, 3584] S64x256.size inb_S128x7168_S64x256_64_3584))
def q_r_132 (x0 : Vec Bits S128x7168 .bf16) :=
  k0_pay153 (F := Bits) (q_r_84 x0) (q_r_92 x0)
def q_r_25 (x0 : Vec Bits S128x7168 .bf16) :=
  k0_pay42 (F := Bits) k0_pay12 sl.v111 (divsi sl.v85 sl.v88) (andi sl.v127 sl.v131) sl.v134 (View.ld x0 (Rect.unit ![0, 5120] S128x1024.size inb_S128x7168_S128x1024_0_5120)) (View.ld x0 (Rect.unit ![0, 6144] S128x1024.size inb_S128x7168_S128x1024_0_6144))
def q_r_85 (x0 : Vec Bits S128x7168 .bf16) :=
  k0_pay106 (F := Bits) (q_r_25 x0) (View.ld x0 (Rect.unit ![64, 768] S64x256.size inb_S128x7168_S64x256_64_768))
def q_r_17 (x0 : Vec Bits S128x7168 .bf16) :=
  k0_pay34 (F := Bits) (View.ld x0 (Rect.unit ![0, 5120] S128x1024.size inb_S128x7168_S128x1024_0_5120)) (View.ld x0 (Rect.unit ![0, 6144] S128x1024.size inb_S128x7168_S128x1024_0_6144))
def q_r_41 (x0 : Vec Bits S128x7168 .bf16) :=
  k0_pay58 (F := Bits) (q_r_9 x0) (q_r_17 x0)
def q_r_93 (x0 : Vec Bits S128x7168 .bf16) :=
  k0_pay114 (F := Bits) (q_r_41 x0) (View.ld x0 (Rect.unit ![64, 3840] S64x256.size inb_S128x7168_S64x256_64_3840))
def q_r_133 (x0 : Vec Bits S128x7168 .bf16) :=
  k0_pay154 (F := Bits) (q_r_85 x0) (q_r_93 x0)
def q_r_94 (x0 : Vec Bits S128x7168 .bf16) :=
  k0_pay115 (F := Bits) (q_r_26 x0) (q_r_62 x0)
def q_r_134 (x0 : Vec Bits S128x7168 .bf16) :=
  qpay163 (q_r_126 x0) (bd (q_r_94 x0))
def q_r_95 (x0 : Vec Bits S128x7168 .bf16) :=
  k0_pay116 (F := Bits) (q_r_27 x0) (q_r_63 x0)
def q_r_135 (x0 : Vec Bits S128x7168 .bf16) :=
  k0_pay164 (F := Bits) (q_r_95 x0)
def q_r_136 (x0 : Vec Bits S128x7168 .bf16) :=
  qpay173 (q_r_127 x0) (bd (q_r_95 x0))
def q_r_96 (x0 : Vec Bits S128x7168 .bf16) :=
  k0_pay117 (F := Bits) (q_r_28 x0) (q_r_64 x0)
def q_r_137 (x0 : Vec Bits S128x7168 .bf16) :=
  k0_pay174 (F := Bits) (q_r_96 x0)
def q_r_138 (x0 : Vec Bits S128x7168 .bf16) :=
  qpay182 (q_r_128 x0) (bd (q_r_96 x0))
def q_r_97 (x0 : Vec Bits S128x7168 .bf16) :=
  k0_pay118 (F := Bits) (q_r_29 x0) (q_r_65 x0)
def q_r_139 (x0 : Vec Bits S128x7168 .bf16) :=
  k0_pay185 (F := Bits) (q_r_97 x0)
def q_r_140 (x0 : Vec Bits S128x7168 .bf16) :=
  qpay192 (q_r_129 x0) (bd (q_r_97 x0))
def q_r_98 (x0 : Vec Bits S128x7168 .bf16) :=
  k0_pay119 (F := Bits) (q_r_30 x0) (q_r_66 x0)
def q_r_141 (x0 : Vec Bits S128x7168 .bf16) :=
  k0_pay197 (F := Bits) (q_r_98 x0)
def q_r_142 (x0 : Vec Bits S128x7168 .bf16) :=
  qpay202 (q_r_130 x0) (bd (q_r_98 x0))
def q_r_99 (x0 : Vec Bits S128x7168 .bf16) :=
  k0_pay120 (F := Bits) (q_r_31 x0) (q_r_67 x0)
def q_r_143 (x0 : Vec Bits S128x7168 .bf16) :=
  k0_pay207 (F := Bits) (q_r_99 x0)
def q_r_144 (x0 : Vec Bits S128x7168 .bf16) :=
  qpay211 (q_r_131 x0) (bd (q_r_99 x0))
def q_r_145 (x0 : Vec Bits S128x7168 .bf16) :=
  k0_pay218 (F := Bits) (q_r_100 x0)
def q_r_146 (x0 : Vec Bits S128x7168 .bf16) :=
  qpay221 (q_r_132 x0) (bd (q_r_100 x0))
def q_r_147 (x0 : Vec Bits S128x7168 .bf16) :=
  qpay230 (q_r_133 x0) (bd (q_r_101 x0))
def q_r_148 (x0 : Vec Bits S128x7168 .bf16) :=
  qpay239 (bd (q_r_102 x0))
def q_r_149 (x0 : Vec Bits S128x7168 .bf16) :=
  k0_pay240 (F := Bits) (q_r_126 x0) (q_r_148 x0) (sl.cst_274 (F := Bits))
def q_r_150 (x0 : Vec Bits S128x7168 .bf16) :=
  qpay249 (q_r_127 x0) (bd (q_r_103 x0))
def q_r_151 (x0 : Vec Bits S128x7168 .bf16) :=
  k0_pay250 (F := Bits) (q_r_104 x0)
def q_r_152 (x0 : Vec Bits S128x7168 .bf16) :=
  qpay259 (q_r_128 x0) (bd (q_r_104 x0))
def q_r_153 (x0 : Vec Bits S128x7168 .bf16) :=
  k0_pay262 (F := Bits) (q_r_105 x0)
def q_r_154 (x0 : Vec Bits S128x7168 .bf16) :=
  qpay269 (q_r_129 x0) (bd (q_r_105 x0))
def q_r_155 (x0 : Vec Bits S128x7168 .bf16) :=
  k0_pay272 (F := Bits) (q_r_106 x0)
def q_r_156 (x0 : Vec Bits S128x7168 .bf16) :=
  qpay278 (q_r_130 x0) (bd (q_r_106 x0))
def q_r_157 (x0 : Vec Bits S128x7168 .bf16) :=
  k0_pay283 (F := Bits) (q_r_107 x0)
def q_r_158 (x0 : Vec Bits S128x7168 .bf16) :=
  qpay288 (q_r_131 x0) (bd (q_r_107 x0))
def q_r_159 (x0 : Vec Bits S128x7168 .bf16) :=
  k0_pay295 (F := Bits) (q_r_108 x0)
def q_r_160 (x0 : Vec Bits S128x7168 .bf16) :=
  qpay298 (q_r_132 x0) (bd (q_r_108 x0))
def q_r_161 (x0 : Vec Bits S128x7168 .bf16) :=
  k0_pay305 (F := Bits) (q_r_109 x0)
def q_r_162 (x0 : Vec Bits S128x7168 .bf16) :=
  qpay308 (q_r_133 x0) (bd (q_r_109 x0))
def q_r_163 (x0 : Vec Bits S128x7168 .bf16) :=
  k0_pay311 (F := Bits) sl.v13 sl.v30 (q_r_134 x0)
def q_r_164 (x0 : Vec Bits S128x7168 .bf16) :=
  k0_pay312 (F := Bits) sl.v13 sl.v30 (q_r_136 x0)
def q_r_165 (x0 : Vec Bits S128x7168 .bf16) :=
  k0_pay313 (F := Bits) sl.v13 sl.v30 (q_r_138 x0)
def q_r_166 (x0 : Vec Bits S128x7168 .bf16) :=
  k0_pay314 (F := Bits) sl.v13 sl.v30 (q_r_140 x0)
def q_r_167 (x0 : Vec Bits S128x7168 .bf16) :=
  k0_pay315 (F := Bits) sl.v13 sl.v30 (q_r_142 x0)
def q_r_168 (x0 : Vec Bits S128x7168 .bf16) :=
  k0_pay316 (F := Bits) sl.v13 sl.v30 (q_r_144 x0)
def q_r_169 (x0 : Vec Bits S128x7168 .bf16) :=
  k0_pay317 (F := Bits) sl.v13 sl.v30 (q_r_146 x0)
def q_r_170 (x0 : Vec Bits S128x7168 .bf16) :=
  k0_pay318 (F := Bits) sl.v13 sl.v30 (q_r_147 x0)
def q_r_171 (x0 : Vec Bits S128x7168 .bf16) :=
  k0_pay319 (F := Bits) sl.v13 sl.v30 (q_r_134 x0)
def q_r_172 (x0 : Vec Bits S128x7168 .bf16) :=
  k0_pay320 (F := Bits) sl.v13 sl.v30 (q_r_136 x0)
def q_r_173 (x0 : Vec Bits S128x7168 .bf16) :=
  k0_pay321 (F := Bits) sl.v13 sl.v30 (q_r_138 x0)
def q_r_174 (x0 : Vec Bits S128x7168 .bf16) :=
  k0_pay322 (F := Bits) (q_r_173 x0)
def q_r_175 (x0 : Vec Bits S128x7168 .bf16) :=
  k0_pay323 (F := Bits) (q_r_140 x0) (k0_pay310 sl.v13 sl.v30)
def q_r_176 (x0 : Vec Bits S128x7168 .bf16) :=
  k0_pay324 (F := Bits) (q_r_142 x0) (k0_pay310 sl.v13 sl.v30)
def q_r_177 (x0 : Vec Bits S128x7168 .bf16) :=
  k0_pay325 (F := Bits) (q_r_144 x0) (k0_pay310 sl.v13 sl.v30)
def q_r_178 (x0 : Vec Bits S128x7168 .bf16) :=
  k0_pay326 (F := Bits) (q_r_146 x0) (k0_pay310 sl.v13 sl.v30)
def q_r_179 (x0 : Vec Bits S128x7168 .bf16) :=
  k0_pay327 (F := Bits) (q_r_147 x0) (k0_pay310 sl.v13 sl.v30)
def q_r_180 (x0 : Vec Bits S128x7168 .bf16) :=
  k0_pay328 (F := Bits) (q_r_149 x0) (k0_pay309 sl.v13 sl.v30)
def q_r_181 (x0 : Vec Bits S128x7168 .bf16) :=
  k0_pay329 (F := Bits) (q_r_150 x0) (k0_pay309 sl.v13 sl.v30)
def q_r_182 (x0 : Vec Bits S128x7168 .bf16) :=
  k0_pay330 (F := Bits) (q_r_152 x0) (k0_pay309 sl.v13 sl.v30)
def q_r_183 (x0 : Vec Bits S128x7168 .bf16) :=
  k0_pay331 (F := Bits) (q_r_154 x0) (k0_pay309 sl.v13 sl.v30)
def q_r_184 (x0 : Vec Bits S128x7168 .bf16) :=
  k0_pay332 (F := Bits) (q_r_156 x0) (k0_pay309 sl.v13 sl.v30)
def q_r_185 (x0 : Vec Bits S128x7168 .bf16) :=
  k0_pay333 (F := Bits) (q_r_158 x0) (k0_pay309 sl.v13 sl.v30)
def q_r_186 (x0 : Vec Bits S128x7168 .bf16) :=
  k0_pay334 (F := Bits) (q_r_160 x0) (k0_pay309 sl.v13 sl.v30)
def q_r_187 (x0 : Vec Bits S128x7168 .bf16) :=
  k0_pay335 (F := Bits) (q_r_186 x0)
def q_r_188 (x0 : Vec Bits S128x7168 .bf16) :=
  k0_pay336 (F := Bits) (q_r_162 x0) (k0_pay309 sl.v13 sl.v30)
def q_r_189 (x0 : Vec Bits S128x7168 .bf16) :=
  k0_pay337 (F := Bits) (q_r_149 x0) (k0_pay310 sl.v13 sl.v30)
def q_r_190 (x0 : Vec Bits S128x7168 .bf16) :=
  k0_pay338 (F := Bits) (q_r_150 x0) (k0_pay310 sl.v13 sl.v30)
def q_r_191 (x0 : Vec Bits S128x7168 .bf16) :=
  k0_pay339 (F := Bits) (q_r_152 x0) (k0_pay310 sl.v13 sl.v30)
def q_r_192 (x0 : Vec Bits S128x7168 .bf16) :=
  k0_pay340 (F := Bits) (q_r_154 x0) (k0_pay310 sl.v13 sl.v30)
def q_r_193 (x0 : Vec Bits S128x7168 .bf16) :=
  k0_pay341 (F := Bits) (q_r_156 x0) (k0_pay310 sl.v13 sl.v30)
def q_r_194 (x0 : Vec Bits S128x7168 .bf16) :=
  k0_pay342 (F := Bits) (q_r_158 x0) (k0_pay310 sl.v13 sl.v30)
def q_r_195 (x0 : Vec Bits S128x7168 .bf16) :=
  k0_pay343 (F := Bits) (q_r_160 x0) (k0_pay310 sl.v13 sl.v30)
def q_r_196 (x0 : Vec Bits S128x7168 .bf16) :=
  k0_pay344 (F := Bits) (q_r_162 x0) (k0_pay310 sl.v13 sl.v30)
def q_r_197 (x0 : Vec Bits S128x7168 .bf16) :=
  View.ld x0 (Rect.unit ![0, 2048] S64x256.size inb_S128x7168_S64x256_0_2048)
def q_r_198 (x0 : Vec Bits S128x7168 .bf16) :=
  View.ld x0 (Rect.unit ![0, 2304] S64x256.size inb_S128x7168_S64x256_0_2304)
def q_r_199 (x0 : Vec Bits S128x7168 .bf16) :=
  View.ld x0 (Rect.unit ![0, 2560] S64x256.size inb_S128x7168_S64x256_0_2560)
def q_r_200 (x0 : Vec Bits S128x7168 .bf16) :=
  View.ld x0 (Rect.unit ![0, 2816] S64x256.size inb_S128x7168_S64x256_0_2816)
def q_r_201 (x0 : Vec Bits S128x7168 .bf16) :=
  View.ld x0 (Rect.unit ![64, 2048] S64x256.size inb_S128x7168_S64x256_64_2048)
def q_r_202 (x0 : Vec Bits S128x7168 .bf16) :=
  View.ld x0 (Rect.unit ![64, 2304] S64x256.size inb_S128x7168_S64x256_64_2304)
def q_r_203 (x0 : Vec Bits S128x7168 .bf16) :=
  View.ld x0 (Rect.unit ![64, 2560] S64x256.size inb_S128x7168_S64x256_64_2560)
def q_r_204 (x0 : Vec Bits S128x7168 .bf16) :=
  View.ld x0 (Rect.unit ![64, 2816] S64x256.size inb_S128x7168_S64x256_64_2816)
def q_r_205 (x0 : Vec Bits S128x7168 .bf16) :=
  k0_pay345 (F := Bits) (q_r_110 x0) (q_r_118 x0)
def q_r_206 (x0 : Vec Bits S128x7168 .bf16) :=
  k0_pay346 (F := Bits) (q_r_111 x0) (q_r_119 x0)
def q_r_207 (x0 : Vec Bits S128x7168 .bf16) :=
  k0_pay347 (F := Bits) (q_r_112 x0) (q_r_120 x0)
def q_r_208 (x0 : Vec Bits S128x7168 .bf16) :=
  k0_pay348 (F := Bits) (q_r_113 x0) (q_r_121 x0)
def q_r_209 (x0 : Vec Bits S128x7168 .bf16) :=
  k0_pay349 (F := Bits) (q_r_114 x0) (q_r_122 x0)
def q_r_210 (x0 : Vec Bits S128x7168 .bf16) :=
  k0_pay350 (F := Bits) (q_r_115 x0) (q_r_123 x0)
def q_r_211 (x0 : Vec Bits S128x7168 .bf16) :=
  k0_pay351 (F := Bits) (q_r_116 x0) (q_r_124 x0)
def q_r_212 (x0 : Vec Bits S128x7168 .bf16) :=
  k0_pay352 (F := Bits) (q_r_117 x0) (q_r_125 x0)
def q_r_213 (x0 : Vec Bits S128x7168 .bf16) :=
  k0_pay353 (F := Bits) (q_r_180 x0) (q_r_189 x0)
def q_r_214 (x0 : Vec Bits S128x7168 .bf16) :=
  k0_pay360 (F := Bits) (q_r_197 x0)
def q_r_215 (x0 : Vec Bits S128x7168 .bf16) :=
  qpay363 (q_r_213 x0) (bd (q_r_197 x0))
def q_r_216 (x0 : Vec Bits S128x7168 .bf16) :=
  k0_pay364 (F := Bits) (q_r_181 x0) (q_r_190 x0)
def q_r_217 (x0 : Vec Bits S128x7168 .bf16) :=
  qpay373 (q_r_216 x0) (bd (q_r_198 x0))
def q_r_218 (x0 : Vec Bits S128x7168 .bf16) :=
  qpay382 (q_r_182 x0) (q_r_191 x0) (bd (q_r_199 x0))
def q_r_219 (x0 : Vec Bits S128x7168 .bf16) :=
  qpay391 (q_r_183 x0) (q_r_192 x0) (bd (q_r_200 x0))
def q_r_220 (x0 : Vec Bits S128x7168 .bf16) :=
  k0_pay392 (F := Bits) (q_r_184 x0) (q_r_193 x0)
def q_r_221 (x0 : Vec Bits S128x7168 .bf16) :=
  k0_pay393 (F := Bits) (q_r_201 x0)
def q_r_222 (x0 : Vec Bits S128x7168 .bf16) :=
  qpay402 (q_r_220 x0) (bd (q_r_201 x0))
def q_r_223 (x0 : Vec Bits S128x7168 .bf16) :=
  k0_pay403 (F := Bits) (q_r_185 x0) (q_r_194 x0)
def q_r_224 (x0 : Vec Bits S128x7168 .bf16) :=
  qpay412 (q_r_223 x0) (bd (q_r_202 x0))
def q_r_225 (x0 : Vec Bits S128x7168 .bf16) :=
  k0_pay413 (F := Bits) (q_r_187 x0) (q_r_195 x0)
def q_r_226 (x0 : Vec Bits S128x7168 .bf16) :=
  k0_pay416 (F := Bits) (q_r_203 x0)
def q_r_227 (x0 : Vec Bits S128x7168 .bf16) :=
  qpay423 (q_r_225 x0) (bd (q_r_203 x0))
def q_r_228 (x0 : Vec Bits S128x7168 .bf16) :=
  k0_pay424 (F := Bits) (q_r_188 x0) (q_r_196 x0)
def q_r_229 (x0 : Vec Bits S128x7168 .bf16) :=
  k0_pay429 (F := Bits) (q_r_204 x0)
def q_r_230 (x0 : Vec Bits S128x7168 .bf16) :=
  k0_pay435 (F := Bits) (q_r_215 x0)
def q_r_231 (x0 : Vec Bits S128x7168 .bf16) :=
  k0_pay436 (F := Bits) (q_r_217 x0)
def q_r_232 (x0 : Vec Bits S128x7168 .bf16) :=
  k0_pay437 (F := Bits) (q_r_218 x0)
def q_r_233 (x0 : Vec Bits S128x7168 .bf16) :=
  k0_pay438 (F := Bits) (q_r_219 x0)
def q_r_234 (x0 : Vec Bits S128x7168 .bf16) :=
  k0_pay439 (F := Bits) (q_r_222 x0)
def q_r_235 (x0 : Vec Bits S128x7168 .bf16) :=
  k0_pay440 (F := Bits) (q_r_224 x0)
def q_r_236 (x0 : Vec Bits S128x7168 .bf16) :=
  k0_pay441 (F := Bits) (q_r_227 x0)
def q_r_237 (x0 : Vec Bits S128x7168 .bf16) :=
  qpay442 (q_r_228 x0) (bd (q_r_204 x0))
def q_r_238 (x0 : Vec Bits S128x7168 .bf16) :=
  k0_pay443 (F := Bits) (q_r_215 x0)
def q_r_239 (x0 : Vec Bits S128x7168 .bf16) :=
  k0_pay444 (F := Bits) (q_r_217 x0)
def q_r_240 (x0 : Vec Bits S128x7168 .bf16) :=
  k0_pay445 (F := Bits) (q_r_218 x0)
def q_r_241 (x0 : Vec Bits S128x7168 .bf16) :=
  k0_pay446 (F := Bits) (q_r_219 x0)
def q_r_242 (x0 : Vec Bits S128x7168 .bf16) :=
  k0_pay447 (F := Bits) (q_r_222 x0)
def q_r_243 (x0 : Vec Bits S128x7168 .bf16) :=
  k0_pay448 (F := Bits) (q_r_224 x0)
def q_r_244 (x0 : Vec Bits S128x7168 .bf16) :=
  k0_pay449 (F := Bits) (q_r_227 x0)
def q_r_245 (x0 : Vec Bits S128x7168 .bf16) :=
  qpay450 (q_r_228 x0) (bd (q_r_204 x0))
def q_r_249 (x0 : Vec Bits S128x7168 .bf16) :=
  k0_pay467 (F := Bits) (q_r_163 x0)
def q_r_250 (x0 : Vec Bits S128x7168 .bf16) :=
  k0_pay468 (F := Bits) (q_r_163 x0)
def q_r_251 (x0 : Vec Bits S128x7168 .bf16) :=
  k0_pay470 (F := Bits) (q_r_163 x0) sl.r_246 sl.r_247 sl.r_248 (k0_pay465 (F := Bits) sl.v13 sl.v30) (q_r_249 x0) (q_r_250 x0) (k0_pay469 (F := Bits))
def q_r_252 (x0 : Vec Bits S128x7168 .bf16) :=
  k0_pay471 (F := Bits) (q_r_164 x0) sl.r_246 sl.r_247 sl.r_248 (k0_pay465 (F := Bits) sl.v13 sl.v30)
def q_r_253 (x0 : Vec Bits S128x7168 .bf16) :=
  k0_pay473 (F := Bits) (q_r_165 x0)
def q_r_254 (x0 : Vec Bits S128x7168 .bf16) :=
  k0_pay474 (F := Bits) (q_r_165 x0)
def q_r_255 (x0 : Vec Bits S128x7168 .bf16) :=
  k0_pay475 (F := Bits) (q_r_165 x0) sl.r_246 (k0_pay465 (F := Bits) sl.v13 sl.v30)
def q_r_256 (x0 : Vec Bits S128x7168 .bf16) :=
  k0_pay477 (F := Bits) sl.r_247 sl.r_248 (q_r_253 x0) (q_r_254 x0) (q_r_255 x0) (k0_pay476 (F := Bits))
def q_r_257 (x0 : Vec Bits S128x7168 .bf16) :=
  k0_pay478 (F := Bits) (q_r_166 x0) sl.r_246 sl.r_247 sl.r_248 (k0_pay465 (F := Bits) sl.v13 sl.v30)
def q_r_258 (x0 : Vec Bits S128x7168 .bf16) :=
  k0_pay481 (F := Bits) (q_r_167 x0)
def q_r_259 (x0 : Vec Bits S128x7168 .bf16) :=
  k0_pay482 (F := Bits) (q_r_167 x0) sl.r_246 sl.r_247 (k0_pay465 (F := Bits) sl.v13 sl.v30)
def q_r_260 (x0 : Vec Bits S128x7168 .bf16) :=
  k0_pay484 (F := Bits) sl.r_248 (q_r_258 x0) (q_r_259 x0) (k0_pay483 (F := Bits))
def q_r_261 (x0 : Vec Bits S128x7168 .bf16) :=
  k0_pay485 (F := Bits) (q_r_168 x0) sl.r_246 sl.r_247 sl.r_248 (k0_pay465 (F := Bits) sl.v13 sl.v30)
def q_r_262 (x0 : Vec Bits S128x7168 .bf16) :=
  k0_pay486 (F := Bits) (q_r_169 x0) sl.r_246 sl.r_247 sl.r_248 (k0_pay465 (F := Bits) sl.v13 sl.v30)
def q_r_263 (x0 : Vec Bits S128x7168 .bf16) :=
  k0_pay487 (F := Bits) (q_r_170 x0)
def q_r_264 (x0 : Vec Bits S128x7168 .bf16) :=
  k0_pay488 (F := Bits) (q_r_170 x0) sl.r_246 sl.r_247 sl.r_248 (k0_pay465 (F := Bits) sl.v13 sl.v30) (q_r_263 x0)
def q_r_265 (x0 : Vec Bits S128x7168 .bf16) :=
  k0_pay495 (F := Bits) sl.v13 (q_r_163 x0) (cmpi CmpIPredicate.eq sl.v1586 sl.v1301) sl.v1334 (4#32) (divsi sl.v13 sl.v1268) sl.v1291
def q_r_266 (x0 : Vec Bits S128x7168 .bf16) :=
  k0_pay496 (F := Bits) sl.v13 (q_r_164 x0) (cmpi CmpIPredicate.eq sl.v1586 sl.v1301) sl.v1334 (4#32) (divsi sl.v13 sl.v1268) sl.v1291
def q_r_267 (x0 : Vec Bits S128x7168 .bf16) :=
  k0_pay497 (F := Bits) sl.v13 (q_r_165 x0) (cmpi CmpIPredicate.eq sl.v1586 sl.v1301) sl.v1334 (4#32) (divsi sl.v13 sl.v1268) sl.v1291
def q_r_268 (x0 : Vec Bits S128x7168 .bf16) :=
  k0_pay498 (F := Bits) sl.v13 (q_r_166 x0) (cmpi CmpIPredicate.eq sl.v1586 sl.v1301) sl.v1334 (4#32) (divsi sl.v13 sl.v1268) sl.v1291
def q_r_269 (x0 : Vec Bits S128x7168 .bf16) :=
  k0_pay499 (F := Bits) sl.v13 (q_r_167 x0) (cmpi CmpIPredicate.eq sl.v1586 sl.v1301) sl.v1334 (4#32) (divsi sl.v13 sl.v1268) sl.v1291
def q_r_270 (x0 : Vec Bits S128x7168 .bf16) :=
  k0_pay500 (F := Bits) sl.v13 (q_r_168 x0) (cmpi CmpIPredicate.eq sl.v1586 sl.v1301) sl.v1334 (4#32) (divsi sl.v13 sl.v1268) sl.v1291
def q_r_271 (x0 : Vec Bits S128x7168 .bf16) :=
  k0_pay501 (F := Bits) sl.v13 (q_r_169 x0) (cmpi CmpIPredicate.eq sl.v1586 sl.v1301) sl.v1334 (4#32) (divsi sl.v13 sl.v1268) sl.v1291
def q_r_272 (x0 : Vec Bits S128x7168 .bf16) :=
  k0_pay502 (F := Bits) sl.v13 (q_r_170 x0) (cmpi CmpIPredicate.eq sl.v1586 sl.v1301) sl.v1334 (4#32) (divsi sl.v13 sl.v1268) sl.v1291
def q_r_273 (x0 : Vec Bits S128x7168 .bf16) :=
  k0_pay503 (F := Bits) (q_r_272 x0)
def q_r_274 (x0 : Vec Bits S128x7168 .bf16) :=
  k0_pay504 (F := Bits) (q_r_251 x0)
def q_r_275 (x0 : Vec Bits S128x7168 .bf16) :=
  k0_pay505 (F := Bits) (q_r_252 x0)
def q_r_276 (x0 : Vec Bits S128x7168 .bf16) :=
  k0_pay506 (F := Bits) (q_r_256 x0)
def q_r_277 (x0 : Vec Bits S128x7168 .bf16) :=
  k0_pay507 (F := Bits) (q_r_257 x0)
def q_r_278 (x0 : Vec Bits S128x7168 .bf16) :=
  k0_pay508 (F := Bits) (q_r_260 x0)
def q_r_279 (x0 : Vec Bits S128x7168 .bf16) :=
  k0_pay509 (F := Bits) (q_r_261 x0)
def q_r_280 (x0 : Vec Bits S128x7168 .bf16) :=
  k0_pay510 (F := Bits) (q_r_262 x0)
def q_r_281 (x0 : Vec Bits S128x7168 .bf16) :=
  k0_pay511 (F := Bits) (q_r_264 x0)
def q_r_282 (x0 : Vec Bits S128x7168 .bf16) :=
  qpay520 (bd (q_r_265 x0))
def q_r_283 (x0 : Vec Bits S128x7168 .bf16) :=
  k0_pay521 (F := Bits) (q_r_274 x0) (q_r_282 x0)
def q_r_284 (x0 : Vec Bits S128x7168 .bf16) :=
  qpay530 (q_r_275 x0) (bd (q_r_266 x0))
def q_r_285 (x0 : Vec Bits S128x7168 .bf16) :=
  k0_pay531 (F := Bits) (q_r_267 x0)
def q_r_286 (x0 : Vec Bits S128x7168 .bf16) :=
  qpay540 (q_r_276 x0) (bd (q_r_267 x0))
def q_r_287 (x0 : Vec Bits S128x7168 .bf16) :=
  k0_pay541 (F := Bits) (q_r_268 x0)
def q_r_288 (x0 : Vec Bits S128x7168 .bf16) :=
  qpay549 (q_r_277 x0) (bd (q_r_268 x0))
def q_r_289 (x0 : Vec Bits S128x7168 .bf16) :=
  k0_pay552 (F := Bits) (q_r_269 x0)
def q_r_290 (x0 : Vec Bits S128x7168 .bf16) :=
  qpay559 (q_r_278 x0) (bd (q_r_269 x0))
def q_r_291 (x0 : Vec Bits S128x7168 .bf16) :=
  k0_pay562 (F := Bits) (q_r_270 x0)
def q_r_292 (x0 : Vec Bits S128x7168 .bf16) :=
  qpay568 (q_r_279 x0) (bd (q_r_270 x0))
def q_r_293 (x0 : Vec Bits S128x7168 .bf16) :=
  k0_pay573 (F := Bits) (q_r_271 x0)
def q_r_294 (x0 : Vec Bits S128x7168 .bf16) :=
  qpay578 (q_r_280 x0) (bd (q_r_271 x0))
def q_r_295 (x0 : Vec Bits S128x7168 .bf16) :=
  qpay587 (q_r_281 x0) (bd (q_r_273 x0))
def q_r_296 (x0 : Vec Bits S128x7168 .bf16) :=
  k0_pay594 (F := Bits) (q_r_274 x0)
def q_r_297 (x0 : Vec Bits S128x7168 .bf16) :=
  qpay597 (q_r_251 x0) (q_r_283 x0) (bd (q_r_274 x0))
def q_r_298 (x0 : Vec Bits S128x7168 .bf16) :=
  qpay606 (q_r_252 x0) (q_r_284 x0) (bd (q_r_275 x0))
def q_r_299 (x0 : Vec Bits S128x7168 .bf16) :=
  qpay615 (bd (q_r_276 x0))
def q_r_300 (x0 : Vec Bits S128x7168 .bf16) :=
  k0_pay616 (F := Bits) (q_r_256 x0) (q_r_286 x0) (q_r_299 x0)
def q_r_301 (x0 : Vec Bits S128x7168 .bf16) :=
  qpay625 (q_r_257 x0) (q_r_288 x0) (bd (q_r_277 x0))
def q_r_302 (x0 : Vec Bits S128x7168 .bf16) :=
  k0_pay626 (F := Bits) (q_r_278 x0)
def q_r_303 (x0 : Vec Bits S128x7168 .bf16) :=
  qpay635 (q_r_260 x0) (q_r_290 x0) (bd (q_r_278 x0))
def q_r_304 (x0 : Vec Bits S128x7168 .bf16) :=
  k0_pay636 (F := Bits) (q_r_279 x0)
def q_r_305 (x0 : Vec Bits S128x7168 .bf16) :=
  qpay644 (q_r_261 x0) (q_r_292 x0) (bd (q_r_279 x0))
def q_r_306 (x0 : Vec Bits S128x7168 .bf16) :=
  k0_pay647 (F := Bits) (q_r_280 x0)
def q_r_307 (x0 : Vec Bits S128x7168 .bf16) :=
  qpay654 (q_r_262 x0) (q_r_294 x0) (bd (q_r_280 x0))
def q_r_308 (x0 : Vec Bits S128x7168 .bf16) :=
  k0_pay657 (F := Bits) (q_r_281 x0)
def q_r_309 (x0 : Vec Bits S128x7168 .bf16) :=
  qpay663 (q_r_264 x0) (q_r_295 x0) (bd (q_r_281 x0))
def q_r_311 (x0 : Vec Bits S128x7168 .bf16) :=
  k0_pay669 (F := Bits) sl.v13 (q_r_163 x0) (cmpi CmpIPredicate.eq sl.v2176 sl.v1301) sl.v2202
def q_r_312 (x0 : Vec Bits S128x7168 .bf16) :=
  k0_pay670 (F := Bits) sl.v13 (q_r_164 x0) (cmpi CmpIPredicate.eq sl.v2176 sl.v1301) sl.v2202
def q_r_313 (x0 : Vec Bits S128x7168 .bf16) :=
  k0_pay671 (F := Bits) sl.v13 (q_r_165 x0) (cmpi CmpIPredicate.eq sl.v2176 sl.v1301) sl.v2202
def q_r_314 (x0 : Vec Bits S128x7168 .bf16) :=
  k0_pay672 (F := Bits) sl.v13 (q_r_166 x0) (cmpi CmpIPredicate.eq sl.v2176 sl.v1301) sl.v2202
def q_r_315 (x0 : Vec Bits S128x7168 .bf16) :=
  k0_pay673 (F := Bits) sl.v13 (q_r_167 x0) (cmpi CmpIPredicate.eq sl.v2176 sl.v1301) sl.v2202
def q_r_316 (x0 : Vec Bits S128x7168 .bf16) :=
  k0_pay674 (F := Bits) sl.v13 (q_r_168 x0) (cmpi CmpIPredicate.eq sl.v2176 sl.v1301) sl.v2202
def q_r_317 (x0 : Vec Bits S128x7168 .bf16) :=
  k0_pay675 (F := Bits) (q_r_169 x0) sl.r_310
def q_r_318 (x0 : Vec Bits S128x7168 .bf16) :=
  k0_pay676 (F := Bits) (q_r_170 x0) sl.r_310
def q_r_319 (x0 : Vec Bits S128x7168 .bf16) :=
  k0_pay677 (F := Bits) (q_r_297 x0)
def q_r_320 (x0 : Vec Bits S128x7168 .bf16) :=
  k0_pay678 (F := Bits) (q_r_298 x0)
def q_r_321 (x0 : Vec Bits S128x7168 .bf16) :=
  k0_pay679 (F := Bits) (q_r_300 x0)
def q_r_322 (x0 : Vec Bits S128x7168 .bf16) :=
  k0_pay680 (F := Bits) (q_r_301 x0)
def q_r_323 (x0 : Vec Bits S128x7168 .bf16) :=
  k0_pay681 (F := Bits) (q_r_303 x0)
def q_r_324 (x0 : Vec Bits S128x7168 .bf16) :=
  k0_pay682 (F := Bits) (q_r_305 x0)
def q_r_325 (x0 : Vec Bits S128x7168 .bf16) :=
  k0_pay683 (F := Bits) (q_r_307 x0)
def q_r_326 (x0 : Vec Bits S128x7168 .bf16) :=
  k0_pay684 (F := Bits) (q_r_309 x0)
def q_r_327 (x0 : Vec Bits S128x7168 .bf16) :=
  qpay693 (q_r_319 x0) (bd (q_r_311 x0))
def q_r_329 (x0 : Vec Bits S128x7168 .bf16) :=
  qpay703 (q_r_320 x0) (bd (q_r_312 x0))
def q_r_330 (x0 : Vec Bits S128x7168 .bf16) :=
  qpay712 (q_r_321 x0) (bd (q_r_313 x0))
def q_r_331 (x0 : Vec Bits S128x7168 .bf16) :=
  k0_pay713 (F := Bits) (q_r_314 x0)
def q_r_332 (x0 : Vec Bits S128x7168 .bf16) :=
  qpay722 (q_r_322 x0) (bd (q_r_314 x0))
def q_r_333 (x0 : Vec Bits S128x7168 .bf16) :=
  k0_pay723 (F := Bits) (q_r_315 x0)
def q_r_334 (x0 : Vec Bits S128x7168 .bf16) :=
  qpay732 (q_r_323 x0) (bd (q_r_315 x0))
def q_r_335 (x0 : Vec Bits S128x7168 .bf16) :=
  k0_pay735 (F := Bits) (q_r_316 x0)
def q_r_336 (x0 : Vec Bits S128x7168 .bf16) :=
  qpay742 (q_r_324 x0) (bd (q_r_316 x0))
def q_r_337 (x0 : Vec Bits S128x7168 .bf16) :=
  k0_pay745 (F := Bits) (q_r_317 x0)
def q_r_338 (x0 : Vec Bits S128x7168 .bf16) :=
  qpay751 (q_r_325 x0) (bd (q_r_317 x0))
def q_r_339 (x0 : Vec Bits S128x7168 .bf16) :=
  k0_pay756 (F := Bits) (q_r_318 x0)
def q_r_340 (x0 : Vec Bits S128x7168 .bf16) :=
  qpay761 (q_r_326 x0) (bd (q_r_318 x0))
def q_r_341 (x0 : Vec Bits S128x7168 .bf16) :=
  k0_pay766 (F := Bits) (q_r_319 x0)
def q_r_342 (x0 : Vec Bits S128x7168 .bf16) :=
  qpay770 (q_r_297 x0) (q_r_327 x0) (bd (q_r_319 x0))
def q_r_343 (x0 : Vec Bits S128x7168 .bf16) :=
  k0_pay777 (F := Bits) (q_r_320 x0)
def q_r_344 (x0 : Vec Bits S128x7168 .bf16) :=
  qpay780 (q_r_298 x0) (q_r_329 x0) (bd (q_r_320 x0))
def q_r_345 (x0 : Vec Bits S128x7168 .bf16) :=
  qpay789 (q_r_300 x0) (q_r_330 x0) (bd (q_r_321 x0))
def q_r_347 (x0 : Vec Bits S128x7168 .bf16) :=
  qpay799 (q_r_301 x0) (q_r_332 x0) (bd (q_r_322 x0))
def q_r_348 (x0 : Vec Bits S128x7168 .bf16) :=
  qpay808 (q_r_303 x0) (q_r_334 x0) (bd (q_r_323 x0))
def q_r_349 (x0 : Vec Bits S128x7168 .bf16) :=
  k0_pay809 (F := Bits) (q_r_324 x0)
def q_r_350 (x0 : Vec Bits S128x7168 .bf16) :=
  qpay818 (q_r_305 x0) (q_r_336 x0) (bd (q_r_324 x0))
def q_r_351 (x0 : Vec Bits S128x7168 .bf16) :=
  k0_pay819 (F := Bits) (q_r_325 x0)
def q_r_352 (x0 : Vec Bits S128x7168 .bf16) :=
  qpay828 (q_r_307 x0) (q_r_338 x0) (bd (q_r_325 x0))
def q_r_353 (x0 : Vec Bits S128x7168 .bf16) :=
  k0_pay831 (F := Bits) (q_r_326 x0)
def q_r_354 (x0 : Vec Bits S128x7168 .bf16) :=
  qpay838 (q_r_309 x0) (q_r_340 x0) (bd (q_r_326 x0))
def q_r_356 (x0 : Vec Bits S128x7168 .bf16) :=
  k0_pay847 (F := Bits) sl.v13 (q_r_163 x0) (cmpi CmpIPredicate.eq sl.v2766 sl.v1301) (divsi sl.v30 sl.v2743) sl.v1326 (remsi sl.v30 sl.v2743) 0#32
def q_r_357 (x0 : Vec Bits S128x7168 .bf16) :=
  k0_pay848 (F := Bits) sl.v13 (q_r_164 x0) (cmpi CmpIPredicate.eq sl.v2766 sl.v1301) (divsi sl.v30 sl.v2743) sl.v1326 (remsi sl.v30 sl.v2743) 0#32
def q_r_358 (x0 : Vec Bits S128x7168 .bf16) :=
  k0_pay849 (F := Bits) sl.v13 (q_r_165 x0) (cmpi CmpIPredicate.eq sl.v2766 sl.v1301) (divsi sl.v30 sl.v2743) sl.v1326 (remsi sl.v30 sl.v2743) 0#32
def q_r_359 (x0 : Vec Bits S128x7168 .bf16) :=
  k0_pay850 (F := Bits) sl.v13 (q_r_166 x0) (cmpi CmpIPredicate.eq sl.v2766 sl.v1301) (divsi sl.v30 sl.v2743) sl.v1326 (remsi sl.v30 sl.v2743) 0#32
def q_r_360 (x0 : Vec Bits S128x7168 .bf16) :=
  k0_pay851 (F := Bits) (q_r_167 x0) sl.r_355 (sl.cst_1514 (F := Bits))
def q_r_361 (x0 : Vec Bits S128x7168 .bf16) :=
  k0_pay852 (F := Bits) (q_r_168 x0) sl.r_355
def q_r_362 (x0 : Vec Bits S128x7168 .bf16) :=
  k0_pay853 (F := Bits) (q_r_169 x0) sl.r_355
def q_r_363 (x0 : Vec Bits S128x7168 .bf16) :=
  k0_pay854 (F := Bits) (q_r_170 x0) sl.r_355
def q_r_364 (x0 : Vec Bits S128x7168 .bf16) :=
  k0_pay855 (F := Bits) (q_r_342 x0)
def q_r_365 (x0 : Vec Bits S128x7168 .bf16) :=
  k0_pay856 (F := Bits) (q_r_344 x0)
def q_r_366 (x0 : Vec Bits S128x7168 .bf16) :=
  k0_pay857 (F := Bits) (q_r_345 x0)
def q_r_367 (x0 : Vec Bits S128x7168 .bf16) :=
  k0_pay858 (F := Bits) (q_r_347 x0)
def q_r_368 (x0 : Vec Bits S128x7168 .bf16) :=
  k0_pay859 (F := Bits) (q_r_348 x0)
def q_r_369 (x0 : Vec Bits S128x7168 .bf16) :=
  k0_pay860 (F := Bits) (q_r_350 x0)
def q_r_370 (x0 : Vec Bits S128x7168 .bf16) :=
  k0_pay861 (F := Bits) (q_r_352 x0)
def q_r_371 (x0 : Vec Bits S128x7168 .bf16) :=
  k0_pay862 (F := Bits) (q_r_354 x0)
def q_r_372 (x0 : Vec Bits S128x7168 .bf16) :=
  k0_pay869 (F := Bits) (q_r_356 x0)
def q_r_373 (x0 : Vec Bits S128x7168 .bf16) :=
  qpay872 (q_r_364 x0) (bd (q_r_356 x0))
def q_r_374 (x0 : Vec Bits S128x7168 .bf16) :=
  k0_pay879 (F := Bits) (q_r_357 x0)
def q_r_375 (x0 : Vec Bits S128x7168 .bf16) :=
  qpay881 (q_r_365 x0) (bd (q_r_357 x0))
def q_r_377 (x0 : Vec Bits S128x7168 .bf16) :=
  qpay890 (q_r_366 x0) (bd (q_r_358 x0))
def q_r_378 (x0 : Vec Bits S128x7168 .bf16) :=
  qpay899 (q_r_367 x0) (bd (q_r_359 x0))
def q_r_379 (x0 : Vec Bits S128x7168 .bf16) :=
  k0_pay900 (F := Bits) (q_r_360 x0)
def q_r_380 (x0 : Vec Bits S128x7168 .bf16) :=
  qpay909 (q_r_368 x0) (bd (q_r_360 x0))
def q_r_381 (x0 : Vec Bits S128x7168 .bf16) :=
  k0_pay910 (F := Bits) (q_r_361 x0)
def q_r_383 (x0 : Vec Bits S128x7168 .bf16) :=
  qpay919 (q_r_369 x0) (bd (q_r_361 x0))
def q_r_384 (x0 : Vec Bits S128x7168 .bf16) :=
  k0_pay922 (F := Bits) (q_r_362 x0)
def q_r_385 (x0 : Vec Bits S128x7168 .bf16) :=
  qpay929 (q_r_370 x0) (bd (q_r_362 x0))
def q_r_386 (x0 : Vec Bits S128x7168 .bf16) :=
  k0_pay932 (F := Bits) (q_r_363 x0)
def q_r_387 (x0 : Vec Bits S128x7168 .bf16) :=
  qpay939 (q_r_371 x0) (bd (q_r_363 x0))
def q_r_388 (x0 : Vec Bits S128x7168 .bf16) :=
  k0_pay944 (F := Bits) (q_r_364 x0)
def q_r_389 (x0 : Vec Bits S128x7168 .bf16) :=
  qpay949 (q_r_342 x0) (q_r_373 x0) (bd (q_r_364 x0))
def q_r_390 (x0 : Vec Bits S128x7168 .bf16) :=
  k0_pay954 (F := Bits) (q_r_365 x0)
def q_r_391 (x0 : Vec Bits S128x7168 .bf16) :=
  qpay958 (q_r_344 x0) (q_r_375 x0) (bd (q_r_365 x0))
def q_r_392 (x0 : Vec Bits S128x7168 .bf16) :=
  k0_pay965 (F := Bits) (q_r_366 x0)
def q_r_393 (x0 : Vec Bits S128x7168 .bf16) :=
  qpay968 (q_r_345 x0) (q_r_377 x0) (bd (q_r_366 x0))
def q_r_394 (x0 : Vec Bits S128x7168 .bf16) :=
  k0_pay975 (F := Bits) (q_r_367 x0)
def q_r_395 (x0 : Vec Bits S128x7168 .bf16) :=
  qpay977 (q_r_347 x0) (q_r_378 x0) (bd (q_r_367 x0))
def q_r_397 (x0 : Vec Bits S128x7168 .bf16) :=
  qpay986 (q_r_348 x0) (q_r_380 x0) (bd (q_r_368 x0))
def q_r_398 (x0 : Vec Bits S128x7168 .bf16) :=
  qpay995 (q_r_350 x0) (q_r_383 x0) (bd (q_r_369 x0))
def q_r_399 (x0 : Vec Bits S128x7168 .bf16) :=
  k0_pay996 (F := Bits) (q_r_370 x0)
def q_r_400 (x0 : Vec Bits S128x7168 .bf16) :=
  qpay1005 (q_r_352 x0) (q_r_385 x0) (bd (q_r_370 x0))
def q_r_401 (x0 : Vec Bits S128x7168 .bf16) :=
  k0_pay1006 (F := Bits) (q_r_371 x0)
def q_r_403 (x0 : Vec Bits S128x7168 .bf16) :=
  qpay1015 (q_r_354 x0) (q_r_387 x0) (bd (q_r_371 x0))
def q_r_405 (x0 : Vec Bits S128x7168 .bf16) :=
  k0_pay1022 (F := Bits) sl.v13 sl.v30 (q_r_163 x0) (cmpi CmpIPredicate.eq sl.v3356 sl.v1301) (32#32) (divsi sl.v30 sl.v3333) (subi sl.v1315 sl.v1318) 1#32 0#1
def q_r_406 (x0 : Vec Bits S128x7168 .bf16) :=
  k0_pay1023 (F := Bits) sl.v13 sl.v30 (q_r_164 x0) (cmpi CmpIPredicate.eq sl.v3356 sl.v1301) (32#32) (divsi sl.v30 sl.v3333) (subi sl.v1315 sl.v1318) 1#32 0#1
def q_r_407 (x0 : Vec Bits S128x7168 .bf16) :=
  k0_pay1025 (F := Bits) (q_r_165 x0) sl.r_404 (k0_pay1024 (F := Bits))
def q_r_408 (x0 : Vec Bits S128x7168 .bf16) :=
  k0_pay1026 (F := Bits) (q_r_166 x0) sl.r_404
def q_r_409 (x0 : Vec Bits S128x7168 .bf16) :=
  k0_pay1027 (F := Bits) (q_r_167 x0) sl.r_404
def q_r_410 (x0 : Vec Bits S128x7168 .bf16) :=
  k0_pay1028 (F := Bits) (q_r_168 x0) sl.r_404
def q_r_411 (x0 : Vec Bits S128x7168 .bf16) :=
  k0_pay1029 (F := Bits) (q_r_169 x0) sl.r_404
def q_r_412 (x0 : Vec Bits S128x7168 .bf16) :=
  k0_pay1030 (F := Bits) (q_r_170 x0) sl.r_404
def q_r_413 (x0 : Vec Bits S128x7168 .bf16) :=
  k0_pay1031 (F := Bits) (q_r_389 x0)
def q_r_414 (x0 : Vec Bits S128x7168 .bf16) :=
  k0_pay1032 (F := Bits) (q_r_391 x0)
def q_r_415 (x0 : Vec Bits S128x7168 .bf16) :=
  k0_pay1033 (F := Bits) (q_r_393 x0)
def q_r_416 (x0 : Vec Bits S128x7168 .bf16) :=
  k0_pay1034 (F := Bits) (q_r_395 x0)
def q_r_417 (x0 : Vec Bits S128x7168 .bf16) :=
  k0_pay1035 (F := Bits) (q_r_397 x0)
def q_r_418 (x0 : Vec Bits S128x7168 .bf16) :=
  k0_pay1036 (F := Bits) (q_r_398 x0)
def q_r_419 (x0 : Vec Bits S128x7168 .bf16) :=
  k0_pay1037 (F := Bits) (q_r_400 x0)
def q_r_420 (x0 : Vec Bits S128x7168 .bf16) :=
  k0_pay1038 (F := Bits) (q_r_403 x0)
def q_r_421 (x0 : Vec Bits S128x7168 .bf16) :=
  k0_pay1043 (F := Bits) (q_r_405 x0)
def q_r_422 (x0 : Vec Bits S128x7168 .bf16) :=
  qpay1048 (q_r_413 x0) (bd (q_r_405 x0))
def q_r_423 (x0 : Vec Bits S128x7168 .bf16) :=
  k0_pay1055 (F := Bits) (q_r_406 x0)
def q_r_424 (x0 : Vec Bits S128x7168 .bf16) :=
  qpay1058 (q_r_414 x0) (bd (q_r_406 x0))
def q_r_425 (x0 : Vec Bits S128x7168 .bf16) :=
  k0_pay1065 (F := Bits) (q_r_407 x0)
def q_r_426 (x0 : Vec Bits S128x7168 .bf16) :=
  qpay1067 (q_r_415 x0) (bd (q_r_407 x0))
def q_r_427 (x0 : Vec Bits S128x7168 .bf16) :=
  qpay1076 (q_r_416 x0) (bd (q_r_408 x0))
def q_r_428 (x0 : Vec Bits S128x7168 .bf16) :=
  qpay1085 (q_r_417 x0) (bd (q_r_409 x0))
def q_r_429 (x0 : Vec Bits S128x7168 .bf16) :=
  qpay1094 (q_r_418 x0) (bd (q_r_410 x0))
def q_r_430 (x0 : Vec Bits S128x7168 .bf16) :=
  k0_pay1095 (F := Bits) (q_r_411 x0)
def q_r_431 (x0 : Vec Bits S128x7168 .bf16) :=
  qpay1104 (q_r_419 x0) (bd (q_r_411 x0))
def q_r_432 (x0 : Vec Bits S128x7168 .bf16) :=
  k0_pay1107 (F := Bits) (q_r_412 x0)
def q_r_433 (x0 : Vec Bits S128x7168 .bf16) :=
  qpay1114 (q_r_420 x0) (bd (q_r_412 x0))
def q_r_434 (x0 : Vec Bits S128x7168 .bf16) :=
  k0_pay1117 (F := Bits) (q_r_413 x0)
def q_r_436 (x0 : Vec Bits S128x7168 .bf16) :=
  qpay1124 (q_r_389 x0) (q_r_422 x0) (bd (q_r_413 x0))
def q_r_437 (x0 : Vec Bits S128x7168 .bf16) :=
  k0_pay1129 (F := Bits) (q_r_414 x0)
def q_r_438 (x0 : Vec Bits S128x7168 .bf16) :=
  qpay1134 (q_r_391 x0) (q_r_424 x0) (bd (q_r_414 x0))
def q_r_439 (x0 : Vec Bits S128x7168 .bf16) :=
  k0_pay1139 (F := Bits) (q_r_415 x0)
def q_r_440 (x0 : Vec Bits S128x7168 .bf16) :=
  qpay1144 (q_r_393 x0) (q_r_426 x0) (bd (q_r_415 x0))
def q_r_441 (x0 : Vec Bits S128x7168 .bf16) :=
  k0_pay1151 (F := Bits) (q_r_416 x0)
def q_r_442 (x0 : Vec Bits S128x7168 .bf16) :=
  qpay1154 (q_r_395 x0) (q_r_427 x0) (bd (q_r_416 x0))
def q_r_443 (x0 : Vec Bits S128x7168 .bf16) :=
  k0_pay1161 (F := Bits) (q_r_417 x0)
def q_r_444 (x0 : Vec Bits S128x7168 .bf16) :=
  qpay1163 (q_r_397 x0) (q_r_428 x0) (bd (q_r_417 x0))
def q_r_445 (x0 : Vec Bits S128x7168 .bf16) :=
  qpay1172 (q_r_398 x0) (q_r_429 x0) (bd (q_r_418 x0))
def q_r_446 (x0 : Vec Bits S128x7168 .bf16) :=
  qpay1181 (q_r_400 x0) (q_r_431 x0) (bd (q_r_419 x0))
def q_r_447 (x0 : Vec Bits S128x7168 .bf16) :=
  qpay1190 (q_r_403 x0) (q_r_433 x0) (bd (q_r_420 x0))
def q_r_448 (x0 : Vec Bits S128x7168 .bf16) :=
  k0_pay1191 (F := Bits) (q_r_436 x0)
def q_r_449 (x0 : Vec Bits S128x7168 .bf16) :=
  k0_pay1192 (F := Bits) (q_r_438 x0)
def q_r_450 (x0 : Vec Bits S128x7168 .bf16) :=
  k0_pay1193 (F := Bits) (q_r_440 x0)
def q_r_451 (x0 : Vec Bits S128x7168 .bf16) :=
  k0_pay1194 (F := Bits) (q_r_442 x0)
def q_r_452 (x0 : Vec Bits S128x7168 .bf16) :=
  k0_pay1195 (F := Bits) (q_r_444 x0)
def q_r_453 (x0 : Vec Bits S128x7168 .bf16) :=
  k0_pay1196 (F := Bits) (q_r_445 x0)
def q_r_454 (x0 : Vec Bits S128x7168 .bf16) :=
  k0_pay1197 (F := Bits) (q_r_446 x0)
def q_r_455 (x0 : Vec Bits S128x7168 .bf16) :=
  k0_pay1198 (F := Bits) (q_r_447 x0)
def q_r_456 (x0 : Vec Bits S128x7168 .bf16) :=
  k0_pay1199 (F := Bits) (q_r_82 x0) (q_r_90 x0)
def q_r_457 (x0 : Vec Bits S128x7168 .bf16) :=
  k0_pay1200 (F := Bits) (q_r_83 x0) (q_r_91 x0)
def q_r_458 (x0 : Vec Bits S128x7168 .bf16) :=
  k0_pay1201 (F := Bits) (q_r_84 x0) (q_r_92 x0)
def q_r_459 (x0 : Vec Bits S128x7168 .bf16) :=
  k0_pay1202 (F := Bits) (q_r_85 x0) (q_r_93 x0)
def q_r_46 (x0 : Vec Bits S128x7168 .bf16) :=
  k0_pay67 (F := Bits) (q_r_2 x0)
def q_v3923 (x2 : Vec Bits S4x256x256 .f32) :=
  View.ld x2 (Rect.unit ![0, 0, 0] S1x256x256.size inb_S4x256x256_S1x256x256_0_0_0)
def q_r_460 (x2 : Vec Bits S4x256x256 .f32) :=
  k0_pay1203 (F := Bits) (q_v3923 x2)
def q_v3925 (x2 : Vec Bits S4x256x256 .f32) :=
  View.ld x2 (Rect.unit ![1, 0, 0] S1x256x256.size inb_S4x256x256_S1x256x256_1_0_0)
def q_r_461 (x2 : Vec Bits S4x256x256 .f32) :=
  k0_pay1204 (F := Bits) (q_v3925 x2)
def q_v3927 (x2 : Vec Bits S4x256x256 .f32) :=
  View.ld x2 (Rect.unit ![2, 0, 0] S1x256x256.size inb_S4x256x256_S1x256x256_2_0_0)
def q_r_462 (x2 : Vec Bits S4x256x256 .f32) :=
  k0_pay1205 (F := Bits) (q_v3927 x2)
def q_v3929 (x2 : Vec Bits S4x256x256 .f32) :=
  View.ld x2 (Rect.unit ![3, 0, 0] S1x256x256.size inb_S4x256x256_S1x256x256_3_0_0)
def q_r_463 (x2 : Vec Bits S4x256x256 .f32) :=
  k0_pay1206 (F := Bits) (q_v3929 x2)
def q_r_464 (x0 : Vec Bits S128x7168 .bf16) (x2 : Vec Bits S4x256x256 .f32) :=
  k0_pay1207 (F := Bits) (q_r_78 x0) (q_r_86 x0) (q_v3923 x2)
def q_r_465 (x0 : Vec Bits S128x7168 .bf16) (x2 : Vec Bits S4x256x256 .f32) :=
  k0_pay1208 (F := Bits) (q_r_79 x0) (q_r_87 x0) (q_v3925 x2)
def q_r_466 (x0 : Vec Bits S128x7168 .bf16) (x2 : Vec Bits S4x256x256 .f32) :=
  k0_pay1209 (F := Bits) (q_r_80 x0) (q_r_88 x0) (q_v3927 x2)
def q_r_467 (x0 : Vec Bits S128x7168 .bf16) (x2 : Vec Bits S4x256x256 .f32) :=
  k0_pay1210 (F := Bits) (q_r_81 x0) (q_r_89 x0) (q_v3929 x2)
def q_r_468 (x0 : Vec Bits S128x7168 .bf16) (x2 : Vec Bits S4x256x256 .f32) :=
  k0_pay1211 (F := Bits) (q_r_78 x0) (q_r_86 x0) (q_r_230 x0) (q_v3923 x2)
def q_r_469 (x0 : Vec Bits S128x7168 .bf16) (x2 : Vec Bits S4x256x256 .f32) :=
  k0_pay1212 (F := Bits) (q_r_79 x0) (q_r_87 x0) (q_r_231 x0) (q_v3925 x2)
def q_r_47 (x0 : Vec Bits S128x7168 .bf16) :=
  k0_pay68 (F := Bits) (q_r_3 x0)
def q_r_470 (x0 : Vec Bits S128x7168 .bf16) (x2 : Vec Bits S4x256x256 .f32) :=
  k0_pay1213 (F := Bits) (q_r_80 x0) (q_r_88 x0) (q_r_232 x0) (q_v3927 x2)
def q_r_471 (x0 : Vec Bits S128x7168 .bf16) (x2 : Vec Bits S4x256x256 .f32) :=
  k0_pay1214 (F := Bits) (q_r_81 x0) (q_r_89 x0) (q_r_233 x0) (q_v3929 x2)
def q_r_472 (x0 : Vec Bits S128x7168 .bf16) (x2 : Vec Bits S4x256x256 .f32) :=
  k0_pay1215 (F := Bits) (q_r_78 x0) (q_r_86 x0) (q_r_230 x0) (q_v3923 x2)
def q_r_473 (x0 : Vec Bits S128x7168 .bf16) (x2 : Vec Bits S4x256x256 .f32) :=
  qpay1224 (q_r_448 x0) (bd (q_r_468 x0 x2))
def q_r_474 (x0 : Vec Bits S128x7168 .bf16) (x2 : Vec Bits S4x256x256 .f32) :=
  k0_pay1227 (F := Bits) (q_r_469 x0 x2)
def q_r_475 (x0 : Vec Bits S128x7168 .bf16) (x2 : Vec Bits S4x256x256 .f32) :=
  qpay1234 (q_r_449 x0) (bd (q_r_469 x0 x2))
def q_r_476 (x0 : Vec Bits S128x7168 .bf16) (x2 : Vec Bits S4x256x256 .f32) :=
  k0_pay1237 (F := Bits) (q_r_470 x0 x2)
def q_r_478 (x0 : Vec Bits S128x7168 .bf16) (x2 : Vec Bits S4x256x256 .f32) :=
  qpay1244 (q_r_450 x0) (bd (q_r_470 x0 x2))
def q_r_479 (x0 : Vec Bits S128x7168 .bf16) (x2 : Vec Bits S4x256x256 .f32) :=
  k0_pay1249 (F := Bits) (q_r_471 x0 x2)
def q_r_48 (x0 : Vec Bits S128x7168 .bf16) :=
  k0_pay69 (F := Bits) (q_r_4 x0)
def q_r_480 (x0 : Vec Bits S128x7168 .bf16) (x2 : Vec Bits S4x256x256 .f32) :=
  qpay1254 (q_r_451 x0) (bd (q_r_471 x0 x2))
def q_r_481 (x0 : Vec Bits S128x7168 .bf16) (x2 : Vec Bits S4x256x256 .f32) :=
  k0_pay1255 (F := Bits) (q_r_238 x0) (q_r_464 x0 x2)
def q_r_482 (x0 : Vec Bits S128x7168 .bf16) (x2 : Vec Bits S4x256x256 .f32) :=
  k0_pay1260 (F := Bits) (q_r_473 x0 x2)
def q_r_483 (x0 : Vec Bits S128x7168 .bf16) (x2 : Vec Bits S4x256x256 .f32) :=
  qpay1265 (q_r_171 x0) (q_r_481 x0 x2) (bd (q_r_473 x0 x2))
def q_r_484 (x0 : Vec Bits S128x7168 .bf16) (x2 : Vec Bits S4x256x256 .f32) :=
  k0_pay1266 (F := Bits) (q_r_239 x0) (q_r_465 x0 x2)
def q_r_485 (x0 : Vec Bits S128x7168 .bf16) (x2 : Vec Bits S4x256x256 .f32) :=
  k0_pay1271 (F := Bits) (q_r_475 x0 x2)
def q_r_486 (x0 : Vec Bits S128x7168 .bf16) (x2 : Vec Bits S4x256x256 .f32) :=
  qpay1275 (q_r_172 x0) (q_r_484 x0 x2) (bd (q_r_475 x0 x2))
def q_r_487 (x0 : Vec Bits S128x7168 .bf16) (x2 : Vec Bits S4x256x256 .f32) :=
  k0_pay1276 (F := Bits) (q_r_240 x0) (q_r_466 x0 x2)
def q_r_488 (x0 : Vec Bits S128x7168 .bf16) (x2 : Vec Bits S4x256x256 .f32) :=
  k0_pay1283 (F := Bits) (q_r_478 x0 x2)
def q_r_489 (x0 : Vec Bits S128x7168 .bf16) (x2 : Vec Bits S4x256x256 .f32) :=
  qpay1286 (q_r_174 x0) (q_r_487 x0 x2) (bd (q_r_478 x0 x2))
def q_r_49 (x0 : Vec Bits S128x7168 .bf16) :=
  k0_pay70 (F := Bits) (q_r_5 x0)
def q_r_490 (x0 : Vec Bits S128x7168 .bf16) (x2 : Vec Bits S4x256x256 .f32) :=
  k0_pay1287 (F := Bits) (q_r_241 x0) (q_r_467 x0 x2)
def q_r_491 (x0 : Vec Bits S128x7168 .bf16) (x2 : Vec Bits S4x256x256 .f32) :=
  k0_pay1294 (F := Bits) (q_r_480 x0 x2)
def q_r_493 (x0 : Vec Bits S128x7168 .bf16) (x2 : Vec Bits S4x256x256 .f32) :=
  qpay1297 (q_r_175 x0) (q_r_490 x0 x2) (bd (q_r_480 x0 x2))
def q_r_494 (x0 : Vec Bits S128x7168 .bf16) (x2 : Vec Bits S4x256x256 .f32) :=
  k0_pay1298 (F := Bits) (q_r_200 x0) (q_r_208 x0) (q_r_480 x0 x2)
def q_r_495 (x0 : Vec Bits S128x7168 .bf16) (x2 : Vec Bits S4x256x256 .f32) :=
  k0_pay1301 (F := Bits) sl.r (q_r_48 x0) (q_r_199 x0) (q_r_207 x0) (q_r_462 x2) (q_r_478 x0 x2)
def q_r_496 (x0 : Vec Bits S128x7168 .bf16) (x2 : Vec Bits S4x256x256 .f32) :=
  k0_pay1304 (F := Bits) (sl.r_1 (F := Bits)) (q_r_483 x0 x2) (q_r_486 x0 x2) (q_r_489 x0 x2) (q_r_493 x0 x2)
def q_r_497 (x0 : Vec Bits S128x7168 .bf16) (x2 : Vec Bits S4x256x256 .f32) :=
  k0_pay1305 (F := Bits) (sl.r_1 (F := Bits)) (q_r_483 x0 x2) (q_r_486 x0 x2) (q_r_489 x0 x2) (q_r_493 x0 x2)
def q_r_498 (x0 : Vec Bits S128x7168 .bf16) (x2 : Vec Bits S4x256x256 .f32) :=
  k0_pay1307 (F := Bits) (sl.r_1 (F := Bits)) (q_r_483 x0 x2) (q_r_486 x0 x2) (q_r_489 x0 x2) (q_r_493 x0 x2)
def q_r_499 (x0 : Vec Bits S128x7168 .bf16) (x2 : Vec Bits S4x256x256 .f32) :=
  k0_pay1308 (F := Bits) (sl.r_1 (F := Bits)) (q_r_483 x0 x2) (q_r_486 x0 x2) (q_r_489 x0 x2) (q_r_493 x0 x2)
def q_r_50 (x0 : Vec Bits S128x7168 .bf16) :=
  k0_pay71 (F := Bits) (q_r_6 x0)
def q_r_500 (x0 : Vec Bits S128x7168 .bf16) (x1 : Vec Bits S128x2048 .bf16) (x2 : Vec Bits S4x256x256 .f32) :=
  k0_pay1311 (F := Bits) (q_r_496 x0 x2) (q_r_497 x0 x2) (View.ld x1 (Rect.unit ![0, 768] S64x256.size inb_S128x2048_S64x256_0_768)) (View.ld x1 (Rect.unit ![0, 1792] S64x256.size inb_S128x2048_S64x256_0_1792))
def q_v4298 (x0 : Vec Bits S128x7168 .bf16) (x2 : Vec Bits S4x256x256 .f32) :=
  qpay1299s sl.r (q_r_46 x0) (q_r_197 x0) (q_r_205 x0) (q_r_460 x2) (q_r_473 x0 x2)
def q_r_501 (x0 : Vec Bits S128x7168 .bf16) (x2 : Vec Bits S4x256x256 .f32) :=
  qpay1312 (q_v4298 x0 x2)
def q_v4300 (x0 : Vec Bits S128x7168 .bf16) (x2 : Vec Bits S4x256x256 .f32) :=
  qpay1300s sl.r (q_r_47 x0) (q_r_198 x0) (q_r_206 x0) (q_r_461 x2) (q_r_475 x0 x2)
def q_r_502 (x0 : Vec Bits S128x7168 .bf16) (x2 : Vec Bits S4x256x256 .f32) :=
  qpay1313 (q_v4300 x0 x2)
def q_v4302 (x0 : Vec Bits S128x7168 .bf16) (x2 : Vec Bits S4x256x256 .f32) :=
  qpay1302s (q_r_495 x0 x2)
def q_r_503 (x0 : Vec Bits S128x7168 .bf16) (x2 : Vec Bits S4x256x256 .f32) :=
  qpay1314 (q_v4302 x0 x2)
def q_v4304 (x0 : Vec Bits S128x7168 .bf16) (x2 : Vec Bits S4x256x256 .f32) :=
  qpay1303s sl.r (q_r_49 x0) (q_r_463 x2) (q_r_494 x0 x2)
def q_r_504 (x0 : Vec Bits S128x7168 .bf16) (x2 : Vec Bits S4x256x256 .f32) :=
  qpay1315 (q_v4304 x0 x2)
def q_r_505 (x0 : Vec Bits S128x7168 .bf16) (x2 : Vec Bits S4x256x256 .f32) :=
  qpay1316 (q_r_456 x0) (q_v4298 x0 x2)
def q_r_506 (x0 : Vec Bits S128x7168 .bf16) (x2 : Vec Bits S4x256x256 .f32) :=
  qpay1317 (q_r_457 x0) (q_v4300 x0 x2)
def q_r_507 (x0 : Vec Bits S128x7168 .bf16) (x2 : Vec Bits S4x256x256 .f32) :=
  qpay1318 (q_r_458 x0) (q_v4302 x0 x2)
def q_r_508 (x0 : Vec Bits S128x7168 .bf16) (x2 : Vec Bits S4x256x256 .f32) :=
  qpay1319 (q_r_459 x0) (q_v4304 x0 x2)
def q_r_509 (x0 : Vec Bits S128x7168 .bf16) (x2 : Vec Bits S4x256x256 .f32) :=
  qpay1320 (q_r_234 x0) (q_r_456 x0) (q_v4298 x0 x2)
def q_r_51 (x0 : Vec Bits S128x7168 .bf16) :=
  k0_pay72 (F := Bits) (q_r_7 x0)
def q_r_510 (x0 : Vec Bits S128x7168 .bf16) (x2 : Vec Bits S4x256x256 .f32) :=
  qpay1321 (q_r_235 x0) (q_r_457 x0) (q_v4300 x0 x2)
def q_r_511 (x0 : Vec Bits S128x7168 .bf16) (x2 : Vec Bits S4x256x256 .f32) :=
  qpay1322 (q_r_236 x0) (q_r_458 x0) (q_v4302 x0 x2)
def q_r_512 (x0 : Vec Bits S128x7168 .bf16) (x2 : Vec Bits S4x256x256 .f32) :=
  qpay1323 (q_r_237 x0) (q_r_459 x0) (q_v4304 x0 x2)
def q_r_513 (x0 : Vec Bits S128x7168 .bf16) (x2 : Vec Bits S4x256x256 .f32) :=
  qpay1326 (q_r_234 x0) (q_r_456 x0) (q_v4298 x0 x2)
def q_r_514 (x0 : Vec Bits S128x7168 .bf16) (x2 : Vec Bits S4x256x256 .f32) :=
  qpay1333 (q_r_452 x0) (bd (q_r_509 x0 x2))
def q_r_515 (x0 : Vec Bits S128x7168 .bf16) (x2 : Vec Bits S4x256x256 .f32) :=
  k0_pay1336 (F := Bits) (q_r_510 x0 x2)
def q_r_516 (x0 : Vec Bits S128x7168 .bf16) (x2 : Vec Bits S4x256x256 .f32) :=
  qpay1342 (q_r_453 x0) (bd (q_r_510 x0 x2))
def q_r_517 (x0 : Vec Bits S128x7168 .bf16) (x2 : Vec Bits S4x256x256 .f32) :=
  k0_pay1347 (F := Bits) (q_r_511 x0 x2)
def q_r_518 (x0 : Vec Bits S128x7168 .bf16) (x2 : Vec Bits S4x256x256 .f32) :=
  qpay1352 (q_r_454 x0) (bd (q_r_511 x0 x2))
def q_r_519 (x0 : Vec Bits S128x7168 .bf16) (x2 : Vec Bits S4x256x256 .f32) :=
  qpay1361 (q_r_455 x0) (bd (q_r_512 x0 x2))
def q_r_52 (x0 : Vec Bits S128x7168 .bf16) :=
  k0_pay73 (F := Bits) (q_r_8 x0)
def q_r_520 (x0 : Vec Bits S128x7168 .bf16) (x2 : Vec Bits S4x256x256 .f32) :=
  k0_pay1362 (F := Bits) (q_r_242 x0) (q_r_505 x0 x2)
def q_r_521 (x0 : Vec Bits S128x7168 .bf16) (x2 : Vec Bits S4x256x256 .f32) :=
  k0_pay1369 (F := Bits) (q_r_514 x0 x2)
def q_r_522 (x0 : Vec Bits S128x7168 .bf16) (x2 : Vec Bits S4x256x256 .f32) :=
  qpay1372 (q_r_176 x0) (q_r_520 x0 x2) (bd (q_r_514 x0 x2))
def q_r_523 (x0 : Vec Bits S128x7168 .bf16) (x2 : Vec Bits S4x256x256 .f32) :=
  k0_pay1373 (F := Bits) (q_r_243 x0) (q_r_506 x0 x2)
def q_r_524 (x0 : Vec Bits S128x7168 .bf16) (x2 : Vec Bits S4x256x256 .f32) :=
  k0_pay1380 (F := Bits) (q_r_516 x0 x2)
def q_r_525 (x0 : Vec Bits S128x7168 .bf16) (x2 : Vec Bits S4x256x256 .f32) :=
  qpay1383 (q_r_177 x0) (q_r_523 x0 x2) (bd (q_r_516 x0 x2))
def q_r_526 (x0 : Vec Bits S128x7168 .bf16) (x2 : Vec Bits S4x256x256 .f32) :=
  k0_pay1384 (F := Bits) (q_r_244 x0) (q_r_507 x0 x2)
def q_r_527 (x0 : Vec Bits S128x7168 .bf16) (x2 : Vec Bits S4x256x256 .f32) :=
  qpay1393 (q_r_178 x0) (q_r_526 x0 x2) (bd (q_r_518 x0 x2))
def q_r_528 (x0 : Vec Bits S128x7168 .bf16) (x2 : Vec Bits S4x256x256 .f32) :=
  k0_pay1394 (F := Bits) (q_r_245 x0) (q_r_508 x0 x2)
def q_r_53 (x0 : Vec Bits S128x7168 .bf16) :=
  k0_pay74 (F := Bits) (q_r_9 x0)
def q_r_530 (x0 : Vec Bits S128x7168 .bf16) (x2 : Vec Bits S4x256x256 .f32) :=
  qpay1403 (q_r_179 x0) (q_r_528 x0 x2) (bd (q_r_519 x0 x2))
def q_r_531 (x0 : Vec Bits S128x7168 .bf16) (x2 : Vec Bits S4x256x256 .f32) :=
  k0_pay1404 (F := Bits) (q_r_204 x0) (q_r_212 x0) (q_r_519 x0 x2)
def q_r_532 (x0 : Vec Bits S128x7168 .bf16) (x2 : Vec Bits S4x256x256 .f32) :=
  k0_pay1408 (F := Bits) (q_r_53 x0) (q_r_504 x0 x2)
def q_r_533 (x0 : Vec Bits S128x7168 .bf16) (x2 : Vec Bits S4x256x256 .f32) :=
  k0_pay1411 (F := Bits) (sl.r_1 (F := Bits)) (q_r_522 x0 x2) (q_r_525 x0 x2) (q_r_527 x0 x2) (q_r_530 x0 x2)
def q_r_534 (x0 : Vec Bits S128x7168 .bf16) (x2 : Vec Bits S4x256x256 .f32) :=
  k0_pay1412 (F := Bits) (sl.r_1 (F := Bits)) (q_r_522 x0 x2) (q_r_525 x0 x2) (q_r_527 x0 x2) (q_r_530 x0 x2)
def q_r_535 (x0 : Vec Bits S128x7168 .bf16) (x1 : Vec Bits S128x2048 .bf16) (x2 : Vec Bits S4x256x256 .f32) :=
  k0_pay1414 (F := Bits) (sl.r_1 (F := Bits)) (q_r_522 x0 x2) (q_r_525 x0 x2) (q_r_527 x0 x2) (q_r_530 x0 x2) (View.ld x1 (Rect.unit ![64, 256] S64x256.size inb_S128x2048_S64x256_64_256))
def q_r_536 (x0 : Vec Bits S128x7168 .bf16) (x1 : Vec Bits S128x2048 .bf16) (x2 : Vec Bits S4x256x256 .f32) :=
  k0_pay1417 (F := Bits) (q_r_533 x0 x2) (q_r_534 x0 x2) (View.ld x1 (Rect.unit ![64, 768] S64x256.size inb_S128x2048_S64x256_64_768)) (View.ld x1 (Rect.unit ![64, 1792] S64x256.size inb_S128x2048_S64x256_64_1792))
def q_sf0 (x0 : Vec Bits S128x7168 .bf16) (x2 : Vec Bits S4x256x256 .f32) :=
  qpay1405s sl.r (q_r_50 x0) (q_r_201 x0) (q_r_209 x0) (q_r_501 x0 x2) (q_r_514 x0 x2)
def q_sf1 (x0 : Vec Bits S128x7168 .bf16) (x2 : Vec Bits S4x256x256 .f32) :=
  qpay1406s sl.r (q_r_51 x0) (q_r_202 x0) (q_r_210 x0) (q_r_502 x0 x2) (q_r_516 x0 x2)
def q_sf2 (x0 : Vec Bits S128x7168 .bf16) (x2 : Vec Bits S4x256x256 .f32) :=
  qpay1407s sl.r (q_r_52 x0) (q_r_203 x0) (q_r_211 x0) (q_r_503 x0 x2) (q_r_518 x0 x2)
def q_sf3 (x0 : Vec Bits S128x7168 .bf16) (x2 : Vec Bits S4x256x256 .f32) :=
  qpay1410s sl.r (q_r_531 x0 x2) (q_r_532 x0 x2) (k0_pay1409 (F := Bits))

end Cert.Mirror
-- ==== Proof.Run1.lean ====
module

public import proofs.«01_k».proof.Proof.Mirror

/-!
The values of the kernel's run are the mirrors: one equation for each value, each from those before it, and one
for each block diagonal stored and loaded.
-/

@[expose] public noncomputable section

open Idealize.ShloMosaic Cert.Kernel Cert.Kernel.Gen Cert.Kernel.Gen.kernelRun0_A Cert.Heads

namespace Cert.Mirror

/-- A load of a block of an argument's buffer. -/
theorem rd {s : Shape} {e : EltTy} (m : Memref Cert.Kernel.sig Kind.tc Space.vmem s e) (h : m.IsWhole)
    (x : Vec Bits s e) (r : Rect s) :
    View.readAt (Elt Bits) m.view r.toLoadRect (h.unread x) = View.ld x r := by
  rw [View.readAt_eq_ld, h.read_unread]

/-- The state's buffer after it is filled holds the state given. -/
theorem v4679_eq (c : Dev nD) (arg4 : Memref Cert.Kernel.sig Kind.tc Space.vmem S4x256x256 .f32) (harg4 : arg4.IsWhole)
    (x2 : Vec Bits S4x256x256 .f32) : sl.v4679 c arg4 harg4 x2 = x2 := by
  unfold sl.v4679
  rw [rd, View.ld_unit_zero (show ![0, 0, 0] = fun _ => 0 from by decide), shapeCast_self]

/-- A state's block read before any is stored again. -/
theorem first_state (c : Dev nD) (arg4 : Memref Cert.Kernel.sig Kind.tc Space.vmem S4x256x256 .f32) (harg4 : arg4.IsWhole)
    (arg7 : Memref Cert.Kernel.sig Kind.tc Space.vmem S4x256x256 .f32)
    (x2 : Vec Bits S4x256x256 .f32) (r : Rect S4x256x256) :
    arg7.view.readCov (sl.HS0_1 c arg4 harg4 x2) r.toLoadRect = View.ld x2 r := by
  unfold sl.HS0_1
  rw [View.readCov_eq_canon', View.canon_unit_zero (show ![0, 0, 0] = fun _ => 0 from by decide), v4679_eq]

/-- Blocks of different groups are disjoint. -/
theorem groups_disjoint (g h : Nat) (ne : g ≠ h) (i j) :
    Disjoint (Rect.unit (s := S4x256x256) ![g, 0, 0] S1x256x256.size i).set
      (Rect.unit (s := S4x256x256) ![h, 0, 0] S1x256x256.size j).toLoadRect.set := by
  exact Rect.unit_disjoint (0 : Fin 3) (show g + 1 ≤ h ∨ h + 1 ≤ g by omega)

/-- A group's block read past the store of another group's. -/
theorem read_other (v : View Cert.Kernel.sig Kind.tc Space.vmem S4x256x256 .f32) (g h : Nat) (ne : h ≠ g)
    {i : ∀ a, ![h, 0, 0] a + S1x256x256.size a ≤ S4x256x256.size a}
    {j : ∀ a, ![g, 0, 0] a + S1x256x256.size a ≤ S4x256x256.size a} (w : FVec Bits S1x256x256 .f32)
    (L : List (View.Piece (Elt Bits) S4x256x256 .f32)) :
    v.readCov (⟨Rect.unit (s := S4x256x256) ![h, 0, 0] S1x256x256.size i, w⟩ :: L)
      (Rect.unit (s := S4x256x256) ![g, 0, 0] S1x256x256.size j).toLoadRect =
      v.readCov L (Rect.unit (s := S4x256x256) ![g, 0, 0] S1x256x256.size j).toLoadRect :=
  View.readCov_cons_of_disjoint _ _ _ _ (groups_disjoint h g ne i j)

variable (c : Dev nD) (arg2 : Memref Cert.Kernel.sig Kind.tc Space.vmem S128x7168 .bf16) (harg2 : arg2.IsWhole)
  (arg3 : Memref Cert.Kernel.sig Kind.tc Space.vmem S128x2048 .bf16) (harg3 : arg3.IsWhole)
  (arg4 : Memref Cert.Kernel.sig Kind.tc Space.vmem S4x256x256 .f32) (harg4 : arg4.IsWhole)
  (arg7 : Memref Cert.Kernel.sig Kind.tc Space.vmem S4x256x256 .f32)
  (arg8 : Memref Cert.Kernel.sig Kind.tc Space.vmem S8x6x128x256 .i32)
  (x0 : Vec Bits S128x7168 .bf16) (x1 : Vec Bits S128x2048 .bf16) (x2 : Vec Bits S4x256x256 .f32)

theorem e_r_10 : sl.r_10 c arg2 harg2 x0 =
    q_r_10 x0 := by
  simp only [sl.r_10, rd, q_r_10]

theorem e_r_8 : sl.r_8 c arg2 harg2 x0 =
    q_r_8 x0 := by
  simp only [sl.r_8, rd, q_r_8]

theorem e_r_32 : sl.r_32 c arg2 harg2 x0 =
    q_r_32 x0 := by
  simp only [sl.r_32, e_r_8, q_r_32]

theorem e_r_68 : sl.r_68 c arg2 harg2 x0 =
    q_r_68 x0 := by
  simp only [sl.r_68, rd, q_r_68]

theorem e_r_100 : sl.r_100 c arg2 harg2 x0 =
    q_r_100 x0 := by
  simp only [sl.r_100, e_r_32, e_r_68, q_r_100]

theorem e_r_9 : sl.r_9 c arg2 harg2 x0 =
    q_r_9 x0 := by
  simp only [sl.r_9, rd, q_r_9]

theorem e_r_33 : sl.r_33 c arg2 harg2 x0 =
    q_r_33 x0 := by
  simp only [sl.r_33, e_r_9, q_r_33]

theorem e_r_69 : sl.r_69 c arg2 harg2 x0 =
    q_r_69 x0 := by
  simp only [sl.r_69, rd, q_r_69]

theorem e_r_101 : sl.r_101 c arg2 harg2 x0 =
    q_r_101 x0 := by
  simp only [sl.r_101, e_r_33, e_r_69, q_r_101]

theorem e_r_26 : sl.r_26 c arg2 harg2 x0 =
    q_r_26 x0 := by
  simp only [sl.r_26, rd, q_r_26]

theorem e_r_70 : sl.r_70 c arg2 harg2 x0 =
    q_r_70 x0 := by
  simp only [sl.r_70, rd, q_r_70]

theorem e_r_102 : sl.r_102 c arg2 harg2 x0 =
    q_r_102 x0 := by
  simp only [sl.r_102, e_r_26, e_r_70, q_r_102]

theorem e_r_27 : sl.r_27 c arg2 harg2 x0 =
    q_r_27 x0 := by
  simp only [sl.r_27, rd, q_r_27]

theorem e_r_71 : sl.r_71 c arg2 harg2 x0 =
    q_r_71 x0 := by
  simp only [sl.r_71, rd, q_r_71]

theorem e_r_103 : sl.r_103 c arg2 harg2 x0 =
    q_r_103 x0 := by
  simp only [sl.r_103, e_r_27, e_r_71, q_r_103]

theorem e_r_28 : sl.r_28 c arg2 harg2 x0 =
    q_r_28 x0 := by
  simp only [sl.r_28, rd, q_r_28]

theorem e_r_72 : sl.r_72 c arg2 harg2 x0 =
    q_r_72 x0 := by
  simp only [sl.r_72, rd, q_r_72]

theorem e_r_104 : sl.r_104 c arg2 harg2 x0 =
    q_r_104 x0 := by
  simp only [sl.r_104, e_r_28, e_r_72, q_r_104]

theorem e_r_29 : sl.r_29 c arg2 harg2 x0 =
    q_r_29 x0 := by
  simp only [sl.r_29, rd, q_r_29]

theorem e_r_73 : sl.r_73 c arg2 harg2 x0 =
    q_r_73 x0 := by
  simp only [sl.r_73, rd, q_r_73]

theorem e_r_105 : sl.r_105 c arg2 harg2 x0 =
    q_r_105 x0 := by
  simp only [sl.r_105, e_r_29, e_r_73, q_r_105]

theorem e_r_6 : sl.r_6 c arg2 harg2 x0 =
    q_r_6 x0 := by
  simp only [sl.r_6, rd, q_r_6]

theorem e_r_30 : sl.r_30 c arg2 harg2 x0 =
    q_r_30 x0 := by
  simp only [sl.r_30, e_r_6, q_r_30]

theorem e_r_74 : sl.r_74 c arg2 harg2 x0 =
    q_r_74 x0 := by
  simp only [sl.r_74, rd, q_r_74]

theorem e_r_106 : sl.r_106 c arg2 harg2 x0 =
    q_r_106 x0 := by
  simp only [sl.r_106, e_r_30, e_r_74, q_r_106]

theorem e_r_7 : sl.r_7 c arg2 harg2 x0 =
    q_r_7 x0 := by
  simp only [sl.r_7, rd, q_r_7]

theorem e_r_31 : sl.r_31 c arg2 harg2 x0 =
    q_r_31 x0 := by
  simp only [sl.r_31, e_r_7, q_r_31]

theorem e_r_75 : sl.r_75 c arg2 harg2 x0 =
    q_r_75 x0 := by
  simp only [sl.r_75, rd, q_r_75]

theorem e_r_107 : sl.r_107 c arg2 harg2 x0 =
    q_r_107 x0 := by
  simp only [sl.r_107, e_r_31, e_r_75, q_r_107]

theorem e_r_76 : sl.r_76 c arg2 harg2 x0 =
    q_r_76 x0 := by
  simp only [sl.r_76, rd, q_r_76]

theorem e_r_108 : sl.r_108 c arg2 harg2 x0 =
    q_r_108 x0 := by
  simp only [sl.r_108, e_r_32, e_r_76, q_r_108]

theorem e_r_77 : sl.r_77 c arg2 harg2 x0 =
    q_r_77 x0 := by
  simp only [sl.r_77, rd, q_r_77]

theorem e_r_109 : sl.r_109 c arg2 harg2 x0 =
    q_r_109 x0 := by
  simp only [sl.r_109, e_r_33, e_r_77, q_r_109]

theorem e_r_11 : sl.r_11 c arg2 harg2 x0 =
    q_r_11 x0 := by
  simp only [sl.r_11, rd, q_r_11]

theorem e_r_2 : sl.r_2 c arg2 harg2 x0 =
    q_r_2 x0 := by
  simp only [sl.r_2, rd, q_r_2]

theorem e_r_54 : sl.r_54 c arg2 harg2 x0 =
    q_r_54 x0 := by
  simp only [sl.r_54, e_r_2, q_r_54]

theorem e_r_62 : sl.r_62 c arg2 harg2 x0 =
    q_r_62 x0 := by
  simp only [sl.r_62, rd, q_r_62]

theorem e_r_110 : sl.r_110 c arg2 harg2 x0 =
    q_r_110 x0 := by
  simp only [sl.r_110, e_r_54, e_r_62, q_r_110]

theorem e_r_3 : sl.r_3 c arg2 harg2 x0 =
    q_r_3 x0 := by
  simp only [sl.r_3, rd, q_r_3]

theorem e_r_55 : sl.r_55 c arg2 harg2 x0 =
    q_r_55 x0 := by
  simp only [sl.r_55, e_r_3, q_r_55]

theorem e_r_63 : sl.r_63 c arg2 harg2 x0 =
    q_r_63 x0 := by
  simp only [sl.r_63, rd, q_r_63]

theorem e_r_111 : sl.r_111 c arg2 harg2 x0 =
    q_r_111 x0 := by
  simp only [sl.r_111, e_r_55, e_r_63, q_r_111]

theorem e_r_4 : sl.r_4 c arg2 harg2 x0 =
    q_r_4 x0 := by
  simp only [sl.r_4, rd, q_r_4]

theorem e_r_56 : sl.r_56 c arg2 harg2 x0 =
    q_r_56 x0 := by
  simp only [sl.r_56, e_r_4, q_r_56]

theorem e_r_64 : sl.r_64 c arg2 harg2 x0 =
    q_r_64 x0 := by
  simp only [sl.r_64, rd, q_r_64]

theorem e_r_112 : sl.r_112 c arg2 harg2 x0 =
    q_r_112 x0 := by
  simp only [sl.r_112, e_r_56, e_r_64, q_r_112]

theorem e_r_5 : sl.r_5 c arg2 harg2 x0 =
    q_r_5 x0 := by
  simp only [sl.r_5, rd, q_r_5]

theorem e_r_57 : sl.r_57 c arg2 harg2 x0 =
    q_r_57 x0 := by
  simp only [sl.r_57, e_r_5, q_r_57]

theorem e_r_65 : sl.r_65 c arg2 harg2 x0 =
    q_r_65 x0 := by
  simp only [sl.r_65, rd, q_r_65]

theorem e_r_113 : sl.r_113 c arg2 harg2 x0 =
    q_r_113 x0 := by
  simp only [sl.r_113, e_r_57, e_r_65, q_r_113]

theorem e_r_42 : sl.r_42 c arg2 harg2 x0 =
    q_r_42 x0 := by
  simp only [sl.r_42, e_r_6, q_r_42]

theorem e_r_58 : sl.r_58 c arg2 harg2 x0 =
    q_r_58 x0 := by
  simp only [sl.r_58, e_r_42, e_r_6, q_r_58]

theorem e_r_66 : sl.r_66 c arg2 harg2 x0 =
    q_r_66 x0 := by
  simp only [sl.r_66, rd, q_r_66]

theorem e_r_114 : sl.r_114 c arg2 harg2 x0 =
    q_r_114 x0 := by
  simp only [sl.r_114, e_r_58, e_r_66, q_r_114]

theorem e_r_43 : sl.r_43 c arg2 harg2 x0 =
    q_r_43 x0 := by
  simp only [sl.r_43, e_r_7, q_r_43]

theorem e_r_59 : sl.r_59 c arg2 harg2 x0 =
    q_r_59 x0 := by
  simp only [sl.r_59, e_r_43, e_r_7, q_r_59]

theorem e_r_67 : sl.r_67 c arg2 harg2 x0 =
    q_r_67 x0 := by
  simp only [sl.r_67, rd, q_r_67]

theorem e_r_115 : sl.r_115 c arg2 harg2 x0 =
    q_r_115 x0 := by
  simp only [sl.r_115, e_r_59, e_r_67, q_r_115]

theorem e_r_44 : sl.r_44 c arg2 harg2 x0 =
    q_r_44 x0 := by
  simp only [sl.r_44, e_r_8, q_r_44]

theorem e_r_60 : sl.r_60 c arg2 harg2 x0 =
    q_r_60 x0 := by
  simp only [sl.r_60, e_r_44, e_r_8, q_r_60]

theorem e_r_116 : sl.r_116 c arg2 harg2 x0 =
    q_r_116 x0 := by
  simp only [sl.r_116, e_r_60, e_r_68, q_r_116]

theorem e_r_45 : sl.r_45 c arg2 harg2 x0 =
    q_r_45 x0 := by
  simp only [sl.r_45, e_r_9, q_r_45]

theorem e_r_61 : sl.r_61 c arg2 harg2 x0 =
    q_r_61 x0 := by
  simp only [sl.r_61, e_r_45, e_r_9, q_r_61]

theorem e_r_117 : sl.r_117 c arg2 harg2 x0 =
    q_r_117 x0 := by
  simp only [sl.r_117, e_r_61, e_r_69, q_r_117]

theorem e_r_118 : sl.r_118 c arg2 harg2 x0 =
    q_r_118 x0 := by
  simp only [sl.r_118, e_r_54, e_r_70, q_r_118]

theorem e_r_119 : sl.r_119 c arg2 harg2 x0 =
    q_r_119 x0 := by
  simp only [sl.r_119, e_r_55, e_r_71, q_r_119]

theorem e_r_12 : sl.r_12 c arg2 harg2 x0 =
    q_r_12 x0 := by
  simp only [sl.r_12, rd, q_r_12]

theorem e_r_120 : sl.r_120 c arg2 harg2 x0 =
    q_r_120 x0 := by
  simp only [sl.r_120, e_r_56, e_r_72, q_r_120]

theorem e_r_121 : sl.r_121 c arg2 harg2 x0 =
    q_r_121 x0 := by
  simp only [sl.r_121, e_r_57, e_r_73, q_r_121]

theorem e_r_122 : sl.r_122 c arg2 harg2 x0 =
    q_r_122 x0 := by
  simp only [sl.r_122, e_r_58, e_r_74, q_r_122]

theorem e_r_123 : sl.r_123 c arg2 harg2 x0 =
    q_r_123 x0 := by
  simp only [sl.r_123, e_r_59, e_r_75, q_r_123]

theorem e_r_124 : sl.r_124 c arg2 harg2 x0 =
    q_r_124 x0 := by
  simp only [sl.r_124, e_r_60, e_r_76, q_r_124]

theorem e_r_125 : sl.r_125 c arg2 harg2 x0 =
    q_r_125 x0 := by
  simp only [sl.r_125, e_r_61, e_r_77, q_r_125]

theorem e_r_18 : sl.r_18 c arg2 harg2 x0 =
    q_r_18 x0 := by
  simp only [sl.r_18, rd, q_r_18]

theorem e_r_78 : sl.r_78 c arg2 harg2 x0 =
    q_r_78 x0 := by
  simp only [sl.r_78, rd, e_r_18, q_r_78]

theorem e_r_34 : sl.r_34 c arg2 harg2 x0 =
    q_r_34 x0 := by
  simp only [sl.r_34, e_r_10, e_r_2, q_r_34]

theorem e_r_86 : sl.r_86 c arg2 harg2 x0 =
    q_r_86 x0 := by
  simp only [sl.r_86, rd, e_r_34, q_r_86]

theorem e_r_126 : sl.r_126 c arg2 harg2 x0 =
    q_r_126 x0 := by
  simp only [sl.r_126, e_r_78, e_r_86, q_r_126]

theorem e_r_19 : sl.r_19 c arg2 harg2 x0 =
    q_r_19 x0 := by
  simp only [sl.r_19, rd, q_r_19]

theorem e_r_79 : sl.r_79 c arg2 harg2 x0 =
    q_r_79 x0 := by
  simp only [sl.r_79, rd, e_r_19, q_r_79]

theorem e_r_35 : sl.r_35 c arg2 harg2 x0 =
    q_r_35 x0 := by
  simp only [sl.r_35, e_r_11, e_r_3, q_r_35]

theorem e_r_87 : sl.r_87 c arg2 harg2 x0 =
    q_r_87 x0 := by
  simp only [sl.r_87, rd, e_r_35, q_r_87]

theorem e_r_127 : sl.r_127 c arg2 harg2 x0 =
    q_r_127 x0 := by
  simp only [sl.r_127, e_r_79, e_r_87, q_r_127]

theorem e_r_20 : sl.r_20 c arg2 harg2 x0 =
    q_r_20 x0 := by
  simp only [sl.r_20, rd, q_r_20]

theorem e_r_80 : sl.r_80 c arg2 harg2 x0 =
    q_r_80 x0 := by
  simp only [sl.r_80, rd, e_r_20, q_r_80]

theorem e_r_36 : sl.r_36 c arg2 harg2 x0 =
    q_r_36 x0 := by
  simp only [sl.r_36, e_r_12, e_r_4, q_r_36]

theorem e_r_88 : sl.r_88 c arg2 harg2 x0 =
    q_r_88 x0 := by
  simp only [sl.r_88, rd, e_r_36, q_r_88]

theorem e_r_128 : sl.r_128 c arg2 harg2 x0 =
    q_r_128 x0 := by
  simp only [sl.r_128, e_r_80, e_r_88, q_r_128]

theorem e_r_21 : sl.r_21 c arg2 harg2 x0 =
    q_r_21 x0 := by
  simp only [sl.r_21, rd, q_r_21]

theorem e_r_81 : sl.r_81 c arg2 harg2 x0 =
    q_r_81 x0 := by
  simp only [sl.r_81, rd, e_r_21, q_r_81]

theorem e_r_13 : sl.r_13 c arg2 harg2 x0 =
    q_r_13 x0 := by
  simp only [sl.r_13, rd, q_r_13]

theorem e_r_37 : sl.r_37 c arg2 harg2 x0 =
    q_r_37 x0 := by
  simp only [sl.r_37, e_r_13, e_r_5, q_r_37]

theorem e_r_89 : sl.r_89 c arg2 harg2 x0 =
    q_r_89 x0 := by
  simp only [sl.r_89, rd, e_r_37, q_r_89]

theorem e_r_129 : sl.r_129 c arg2 harg2 x0 =
    q_r_129 x0 := by
  simp only [sl.r_129, e_r_81, e_r_89, q_r_129]

theorem e_r_22 : sl.r_22 c arg2 harg2 x0 =
    q_r_22 x0 := by
  simp only [sl.r_22, rd, q_r_22]

theorem e_r_82 : sl.r_82 c arg2 harg2 x0 =
    q_r_82 x0 := by
  simp only [sl.r_82, rd, e_r_22, q_r_82]

theorem e_r_14 : sl.r_14 c arg2 harg2 x0 =
    q_r_14 x0 := by
  simp only [sl.r_14, rd, q_r_14]

theorem e_r_38 : sl.r_38 c arg2 harg2 x0 =
    q_r_38 x0 := by
  simp only [sl.r_38, e_r_14, e_r_6, q_r_38]

theorem e_r_90 : sl.r_90 c arg2 harg2 x0 =
    q_r_90 x0 := by
  simp only [sl.r_90, rd, e_r_38, q_r_90]

theorem e_r_130 : sl.r_130 c arg2 harg2 x0 =
    q_r_130 x0 := by
  simp only [sl.r_130, e_r_82, e_r_90, q_r_130]

theorem e_r_23 : sl.r_23 c arg2 harg2 x0 =
    q_r_23 x0 := by
  simp only [sl.r_23, rd, q_r_23]

theorem e_r_83 : sl.r_83 c arg2 harg2 x0 =
    q_r_83 x0 := by
  simp only [sl.r_83, rd, e_r_23, q_r_83]

theorem e_r_15 : sl.r_15 c arg2 harg2 x0 =
    q_r_15 x0 := by
  simp only [sl.r_15, rd, q_r_15]

theorem e_r_39 : sl.r_39 c arg2 harg2 x0 =
    q_r_39 x0 := by
  simp only [sl.r_39, e_r_15, e_r_7, q_r_39]

theorem e_r_91 : sl.r_91 c arg2 harg2 x0 =
    q_r_91 x0 := by
  simp only [sl.r_91, rd, e_r_39, q_r_91]

theorem e_r_131 : sl.r_131 c arg2 harg2 x0 =
    q_r_131 x0 := by
  simp only [sl.r_131, e_r_83, e_r_91, q_r_131]

theorem e_r_24 : sl.r_24 c arg2 harg2 x0 =
    q_r_24 x0 := by
  simp only [sl.r_24, rd, q_r_24]

theorem e_r_84 : sl.r_84 c arg2 harg2 x0 =
    q_r_84 x0 := by
  simp only [sl.r_84, rd, e_r_24, q_r_84]

theorem e_r_16 : sl.r_16 c arg2 harg2 x0 =
    q_r_16 x0 := by
  simp only [sl.r_16, rd, q_r_16]

theorem e_r_40 : sl.r_40 c arg2 harg2 x0 =
    q_r_40 x0 := by
  simp only [sl.r_40, e_r_16, e_r_8, q_r_40]

theorem e_r_92 : sl.r_92 c arg2 harg2 x0 =
    q_r_92 x0 := by
  simp only [sl.r_92, rd, e_r_40, q_r_92]

theorem e_r_132 : sl.r_132 c arg2 harg2 x0 =
    q_r_132 x0 := by
  simp only [sl.r_132, e_r_84, e_r_92, q_r_132]

theorem e_r_25 : sl.r_25 c arg2 harg2 x0 =
    q_r_25 x0 := by
  simp only [sl.r_25, rd, q_r_25]

theorem e_r_85 : sl.r_85 c arg2 harg2 x0 =
    q_r_85 x0 := by
  simp only [sl.r_85, rd, e_r_25, q_r_85]

theorem e_r_17 : sl.r_17 c arg2 harg2 x0 =
    q_r_17 x0 := by
  simp only [sl.r_17, rd, q_r_17]

theorem e_r_41 : sl.r_41 c arg2 harg2 x0 =
    q_r_41 x0 := by
  simp only [sl.r_41, e_r_17, e_r_9, q_r_41]

theorem e_r_93 : sl.r_93 c arg2 harg2 x0 =
    q_r_93 x0 := by
  simp only [sl.r_93, rd, e_r_41, q_r_93]

theorem e_r_133 : sl.r_133 c arg2 harg2 x0 =
    q_r_133 x0 := by
  simp only [sl.r_133, e_r_85, e_r_93, q_r_133]

theorem e_r_94 : sl.r_94 c arg2 harg2 x0 =
    q_r_94 x0 := by
  simp only [sl.r_94, e_r_26, e_r_62, q_r_94]

theorem s_1 : Good arg8 (sl.HS1_w4 c arg2 harg2 arg8 x0) ∧
    View.readAt (Elt Bits) arg8.view (Rect.unit (s := S8x6x128x256) ![0, 0, 0, 0] S1x1x128x256.size inb_S8x6x128x256_S1x1x128x256_0_0_0_0).toLoadRect
      (sl.HS1_w4 c arg2 harg2 arg8 x0) = words (q_r_94 x0) := by
  unfold sl.HS1_w4 sl.HS1_w3 sl.HS1_w2 sl.HS1_w1
  exact bd4 arg8 _ (good_zero arg8) 0 0 (q_r_94 x0) _ _ _ _ _ _ _ _ _ _ _ _ _
    (by first | (simp only [e_r_94] <;> rfl))
    (by first | (simp only [e_r_94] <;> rfl))
    (by first | (simp only [e_r_94] <;> rfl))
    (by first | (simp only [e_r_94] <;> rfl))
    (mem_lt _) (mem_ge _) (mem_lt _) (mem_ge _)

theorem e_r_134 : sl.r_134 c arg2 harg2 arg8 x0 =
    q_r_134 x0 := by
  unfold sl.r_134
  rw [(s_1 c arg2 harg2 arg8 x0).2]
  simp only [e_r_126, e_r_94, qpay163_eq, q_r_134]

theorem e_r_95 : sl.r_95 c arg2 harg2 x0 =
    q_r_95 x0 := by
  simp only [sl.r_95, e_r_27, e_r_63, q_r_95]

theorem e_r_135 : sl.r_135 c arg2 harg2 x0 =
    q_r_135 x0 := by
  simp only [sl.r_135, e_r_95, q_r_135]

theorem s_2 : Good arg8 (sl.HS1_w8 c arg2 harg2 arg8 x0) ∧
    View.readAt (Elt Bits) arg8.view (Rect.unit (s := S8x6x128x256) ![1, 0, 0, 0] S1x1x128x256.size inb_S8x6x128x256_S1x1x128x256_1_0_0_0).toLoadRect
      (sl.HS1_w8 c arg2 harg2 arg8 x0) = words (q_r_95 x0) := by
  unfold sl.HS1_w8 sl.HS1_w7 sl.HS1_w6 sl.HS1_w5
  exact bd4 arg8 _ (s_1 c arg2 harg2 arg8 x0).1 1 0 (q_r_95 x0) _ _ _ _ _ _ _ _ _ _ _ _ _
    (by first | (simp only [e_r_135] <;> rfl))
    (by first | (simp only [e_r_95] <;> rfl))
    (by first | (simp only [e_r_95] <;> rfl))
    (by first | (simp only [e_r_95] <;> rfl))
    (mem_lt _) (mem_ge _) (mem_lt _) (mem_ge _)

theorem e_r_136 : sl.r_136 c arg2 harg2 arg8 x0 =
    q_r_136 x0 := by
  unfold sl.r_136
  rw [(s_2 c arg2 harg2 arg8 x0).2]
  simp only [e_r_127, e_r_95, qpay173_eq, q_r_136]

theorem e_r_96 : sl.r_96 c arg2 harg2 x0 =
    q_r_96 x0 := by
  simp only [sl.r_96, e_r_28, e_r_64, q_r_96]

theorem e_r_137 : sl.r_137 c arg2 harg2 x0 =
    q_r_137 x0 := by
  simp only [sl.r_137, e_r_96, q_r_137]

theorem s_3 : Good arg8 (sl.HS1_w12 c arg2 harg2 arg8 x0) ∧
    View.readAt (Elt Bits) arg8.view (Rect.unit (s := S8x6x128x256) ![2, 0, 0, 0] S1x1x128x256.size inb_S8x6x128x256_S1x1x128x256_2_0_0_0).toLoadRect
      (sl.HS1_w12 c arg2 harg2 arg8 x0) = words (q_r_96 x0) := by
  unfold sl.HS1_w12 sl.HS1_w11 sl.HS1_w10 sl.HS1_w9
  exact bd4 arg8 _ (s_2 c arg2 harg2 arg8 x0).1 2 0 (q_r_96 x0) _ _ _ _ _ _ _ _ _ _ _ _ _
    (by first | (simp only [e_r_137] <;> rfl))
    (by first | (simp only [e_r_96] <;> rfl))
    (by first | (simp only [e_r_96] <;> rfl))
    (by first | (simp only [e_r_96] <;> rfl))
    (mem_lt _) (mem_ge _) (mem_lt _) (mem_ge _)

theorem e_r_138 : sl.r_138 c arg2 harg2 arg8 x0 =
    q_r_138 x0 := by
  unfold sl.r_138
  rw [(s_3 c arg2 harg2 arg8 x0).2]
  simp only [e_r_128, e_r_96, qpay182_eq, q_r_138]

theorem e_r_97 : sl.r_97 c arg2 harg2 x0 =
    q_r_97 x0 := by
  simp only [sl.r_97, e_r_29, e_r_65, q_r_97]

theorem e_r_139 : sl.r_139 c arg2 harg2 x0 =
    q_r_139 x0 := by
  simp only [sl.r_139, e_r_97, q_r_139]

theorem s_4 : Good arg8 (sl.HS1_w16 c arg2 harg2 arg8 x0) ∧
    View.readAt (Elt Bits) arg8.view (Rect.unit (s := S8x6x128x256) ![3, 0, 0, 0] S1x1x128x256.size inb_S8x6x128x256_S1x1x128x256_3_0_0_0).toLoadRect
      (sl.HS1_w16 c arg2 harg2 arg8 x0) = words (q_r_97 x0) := by
  unfold sl.HS1_w16 sl.HS1_w15 sl.HS1_w14 sl.HS1_w13
  exact bd4 arg8 _ (s_3 c arg2 harg2 arg8 x0).1 3 0 (q_r_97 x0) _ _ _ _ _ _ _ _ _ _ _ _ _
    (by first | (simp only [e_r_97] <;> rfl))
    (by first | (simp only [e_r_139] <;> rfl))
    (by first | (simp only [e_r_97] <;> rfl))
    (by first | (simp only [e_r_97] <;> rfl))
    (mem_lt _) (mem_ge _) (mem_lt _) (mem_ge _)

theorem e_r_140 : sl.r_140 c arg2 harg2 arg8 x0 =
    q_r_140 x0 := by
  unfold sl.r_140
  rw [(s_4 c arg2 harg2 arg8 x0).2]
  simp only [e_r_129, e_r_97, qpay192_eq, q_r_140]

theorem e_r_98 : sl.r_98 c arg2 harg2 x0 =
    q_r_98 x0 := by
  simp only [sl.r_98, e_r_30, e_r_66, q_r_98]

theorem e_r_141 : sl.r_141 c arg2 harg2 x0 =
    q_r_141 x0 := by
  simp only [sl.r_141, e_r_98, q_r_141]

theorem s_5 : Good arg8 (sl.HS1_w20 c arg2 harg2 arg8 x0) ∧
    View.readAt (Elt Bits) arg8.view (Rect.unit (s := S8x6x128x256) ![4, 0, 0, 0] S1x1x128x256.size inb_S8x6x128x256_S1x1x128x256_4_0_0_0).toLoadRect
      (sl.HS1_w20 c arg2 harg2 arg8 x0) = words (q_r_98 x0) := by
  unfold sl.HS1_w20 sl.HS1_w19 sl.HS1_w18 sl.HS1_w17
  exact bd4 arg8 _ (s_4 c arg2 harg2 arg8 x0).1 4 0 (q_r_98 x0) _ _ _ _ _ _ _ _ _ _ _ _ _
    (by first | (simp only [e_r_98] <;> rfl))
    (by first | (simp only [e_r_98] <;> rfl))
    (by first | (simp only [e_r_141] <;> rfl))
    (by first | (simp only [e_r_98] <;> rfl))
    (mem_lt _) (mem_ge _) (mem_lt _) (mem_ge _)

theorem e_r_142 : sl.r_142 c arg2 harg2 arg8 x0 =
    q_r_142 x0 := by
  unfold sl.r_142
  rw [(s_5 c arg2 harg2 arg8 x0).2]
  simp only [e_r_130, e_r_98, qpay202_eq, q_r_142]

theorem e_r_99 : sl.r_99 c arg2 harg2 x0 =
    q_r_99 x0 := by
  simp only [sl.r_99, e_r_31, e_r_67, q_r_99]

theorem e_r_143 : sl.r_143 c arg2 harg2 x0 =
    q_r_143 x0 := by
  simp only [sl.r_143, e_r_99, q_r_143]

theorem s_6 : Good arg8 (sl.HS1_w24 c arg2 harg2 arg8 x0) ∧
    View.readAt (Elt Bits) arg8.view (Rect.unit (s := S8x6x128x256) ![5, 0, 0, 0] S1x1x128x256.size inb_S8x6x128x256_S1x1x128x256_5_0_0_0).toLoadRect
      (sl.HS1_w24 c arg2 harg2 arg8 x0) = words (q_r_99 x0) := by
  unfold sl.HS1_w24 sl.HS1_w23 sl.HS1_w22 sl.HS1_w21
  exact bd4 arg8 _ (s_5 c arg2 harg2 arg8 x0).1 5 0 (q_r_99 x0) _ _ _ _ _ _ _ _ _ _ _ _ _
    (by first | (simp only [e_r_99] <;> rfl))
    (by first | (simp only [e_r_99] <;> rfl))
    (by first | (simp only [e_r_143] <;> rfl))
    (by first | (simp only [e_r_99] <;> rfl))
    (mem_lt _) (mem_ge _) (mem_lt _) (mem_ge _)

theorem e_r_144 : sl.r_144 c arg2 harg2 arg8 x0 =
    q_r_144 x0 := by
  unfold sl.r_144
  rw [(s_6 c arg2 harg2 arg8 x0).2]
  simp only [e_r_131, e_r_99, qpay211_eq, q_r_144]

theorem e_r_145 : sl.r_145 c arg2 harg2 x0 =
    q_r_145 x0 := by
  simp only [sl.r_145, e_r_100, q_r_145]

theorem s_7 : Good arg8 (sl.HS1_w28 c arg2 harg2 arg8 x0) ∧
    View.readAt (Elt Bits) arg8.view (Rect.unit (s := S8x6x128x256) ![6, 0, 0, 0] S1x1x128x256.size inb_S8x6x128x256_S1x1x128x256_6_0_0_0).toLoadRect
      (sl.HS1_w28 c arg2 harg2 arg8 x0) = words (q_r_100 x0) := by
  unfold sl.HS1_w28 sl.HS1_w27 sl.HS1_w26 sl.HS1_w25
  exact bd4 arg8 _ (s_6 c arg2 harg2 arg8 x0).1 6 0 (q_r_100 x0) _ _ _ _ _ _ _ _ _ _ _ _ _
    (by first | (simp only [e_r_100] <;> rfl))
    (by first | (simp only [e_r_100] <;> rfl))
    (by first | (simp only [e_r_100] <;> rfl))
    (by first | (simp only [e_r_145] <;> rfl))
    (mem_lt _) (mem_ge _) (mem_lt _) (mem_ge _)

theorem e_r_146 : sl.r_146 c arg2 harg2 arg8 x0 =
    q_r_146 x0 := by
  unfold sl.r_146
  rw [(s_7 c arg2 harg2 arg8 x0).2]
  simp only [e_r_100, e_r_132, qpay221_eq, q_r_146]

theorem s_8 : Good arg8 (sl.HS1_w32 c arg2 harg2 arg8 x0) ∧
    View.readAt (Elt Bits) arg8.view (Rect.unit (s := S8x6x128x256) ![7, 0, 0, 0] S1x1x128x256.size inb_S8x6x128x256_S1x1x128x256_7_0_0_0).toLoadRect
      (sl.HS1_w32 c arg2 harg2 arg8 x0) = words (q_r_101 x0) := by
  unfold sl.HS1_w32 sl.HS1_w31 sl.HS1_w30 sl.HS1_w29
  exact bd4 arg8 _ (s_7 c arg2 harg2 arg8 x0).1 7 0 (q_r_101 x0) _ _ _ _ _ _ _ _ _ _ _ _ _
    (by first | (simp only [e_r_101] <;> rfl))
    (by first | (simp only [e_r_101] <;> rfl))
    (by first | (simp only [e_r_101] <;> rfl))
    (by first | (simp only [e_r_101] <;> rfl))
    (mem_lt _) (mem_ge _) (mem_lt _) (mem_ge _)

theorem e_r_147 : sl.r_147 c arg2 harg2 arg8 x0 =
    q_r_147 x0 := by
  unfold sl.r_147
  rw [(s_8 c arg2 harg2 arg8 x0).2]
  simp only [e_r_101, e_r_133, qpay230_eq, q_r_147]

theorem s_9 : Good arg8 (sl.HS1_w36 c arg2 harg2 arg8 x0) ∧
    View.readAt (Elt Bits) arg8.view (Rect.unit (s := S8x6x128x256) ![0, 1, 0, 0] S1x1x128x256.size inb_S8x6x128x256_S1x1x128x256_0_1_0_0).toLoadRect
      (sl.HS1_w36 c arg2 harg2 arg8 x0) = words (q_r_102 x0) := by
  unfold sl.HS1_w36 sl.HS1_w35 sl.HS1_w34 sl.HS1_w33
  exact bd4 arg8 _ (s_8 c arg2 harg2 arg8 x0).1 0 1 (q_r_102 x0) _ _ _ _ _ _ _ _ _ _ _ _ _
    (by first | (simp only [e_r_102] <;> rfl))
    (by first | (simp only [e_r_102] <;> rfl))
    (by first | (simp only [e_r_102] <;> rfl))
    (by first | (simp only [e_r_102] <;> rfl))
    (mem_lt _) (mem_ge _) (mem_lt _) (mem_ge _)

theorem e_r_148 : sl.r_148 c arg2 harg2 arg8 x0 =
    q_r_148 x0 := by
  unfold sl.r_148
  rw [(s_9 c arg2 harg2 arg8 x0).2]
  simp only [e_r_102, qpay239_eq, q_r_148]

theorem e_r_149 : sl.r_149 c arg2 harg2 arg8 x0 =
    q_r_149 x0 := by
  simp only [sl.r_149, e_r_126, e_r_148, q_r_149]

theorem s_10 : Good arg8 (sl.HS1_w40 c arg2 harg2 arg8 x0) ∧
    View.readAt (Elt Bits) arg8.view (Rect.unit (s := S8x6x128x256) ![1, 1, 0, 0] S1x1x128x256.size inb_S8x6x128x256_S1x1x128x256_1_1_0_0).toLoadRect
      (sl.HS1_w40 c arg2 harg2 arg8 x0) = words (q_r_103 x0) := by
  unfold sl.HS1_w40 sl.HS1_w39 sl.HS1_w38 sl.HS1_w37
  exact bd4 arg8 _ (s_9 c arg2 harg2 arg8 x0).1 1 1 (q_r_103 x0) _ _ _ _ _ _ _ _ _ _ _ _ _
    (by first | (simp only [e_r_103] <;> rfl))
    (by first | (simp only [e_r_103] <;> rfl))
    (by first | (simp only [e_r_103] <;> rfl))
    (by first | (simp only [e_r_103] <;> rfl))
    (mem_lt _) (mem_ge _) (mem_lt _) (mem_ge _)

theorem e_r_150 : sl.r_150 c arg2 harg2 arg8 x0 =
    q_r_150 x0 := by
  unfold sl.r_150
  rw [(s_10 c arg2 harg2 arg8 x0).2]
  simp only [e_r_103, e_r_127, qpay249_eq, q_r_150]

theorem e_r_151 : sl.r_151 c arg2 harg2 x0 =
    q_r_151 x0 := by
  simp only [sl.r_151, e_r_104, q_r_151]

theorem s_11 : Good arg8 (sl.HS1_w44 c arg2 harg2 arg8 x0) ∧
    View.readAt (Elt Bits) arg8.view (Rect.unit (s := S8x6x128x256) ![2, 1, 0, 0] S1x1x128x256.size inb_S8x6x128x256_S1x1x128x256_2_1_0_0).toLoadRect
      (sl.HS1_w44 c arg2 harg2 arg8 x0) = words (q_r_104 x0) := by
  unfold sl.HS1_w44 sl.HS1_w43 sl.HS1_w42 sl.HS1_w41
  exact bd4 arg8 _ (s_10 c arg2 harg2 arg8 x0).1 2 1 (q_r_104 x0) _ _ _ _ _ _ _ _ _ _ _ _ _
    (by first | (simp only [e_r_151] <;> rfl))
    (by first | (simp only [e_r_104] <;> rfl))
    (by first | (simp only [e_r_104] <;> rfl))
    (by first | (simp only [e_r_104] <;> rfl))
    (mem_lt _) (mem_ge _) (mem_lt _) (mem_ge _)

theorem e_r_152 : sl.r_152 c arg2 harg2 arg8 x0 =
    q_r_152 x0 := by
  unfold sl.r_152
  rw [(s_11 c arg2 harg2 arg8 x0).2]
  simp only [e_r_104, e_r_128, qpay259_eq, q_r_152]

theorem e_r_153 : sl.r_153 c arg2 harg2 x0 =
    q_r_153 x0 := by
  simp only [sl.r_153, e_r_105, q_r_153]

theorem s_12 : Good arg8 (sl.HS1_w48 c arg2 harg2 arg8 x0) ∧
    View.readAt (Elt Bits) arg8.view (Rect.unit (s := S8x6x128x256) ![3, 1, 0, 0] S1x1x128x256.size inb_S8x6x128x256_S1x1x128x256_3_1_0_0).toLoadRect
      (sl.HS1_w48 c arg2 harg2 arg8 x0) = words (q_r_105 x0) := by
  unfold sl.HS1_w48 sl.HS1_w47 sl.HS1_w46 sl.HS1_w45
  exact bd4 arg8 _ (s_11 c arg2 harg2 arg8 x0).1 3 1 (q_r_105 x0) _ _ _ _ _ _ _ _ _ _ _ _ _
    (by first | (simp only [e_r_105] <;> rfl))
    (by first | (simp only [e_r_153] <;> rfl))
    (by first | (simp only [e_r_105] <;> rfl))
    (by first | (simp only [e_r_105] <;> rfl))
    (mem_lt _) (mem_ge _) (mem_lt _) (mem_ge _)

theorem e_r_154 : sl.r_154 c arg2 harg2 arg8 x0 =
    q_r_154 x0 := by
  unfold sl.r_154
  rw [(s_12 c arg2 harg2 arg8 x0).2]
  simp only [e_r_105, e_r_129, qpay269_eq, q_r_154]

theorem e_r_155 : sl.r_155 c arg2 harg2 x0 =
    q_r_155 x0 := by
  simp only [sl.r_155, e_r_106, q_r_155]

theorem s_13 : Good arg8 (sl.HS1_w52 c arg2 harg2 arg8 x0) ∧
    View.readAt (Elt Bits) arg8.view (Rect.unit (s := S8x6x128x256) ![4, 1, 0, 0] S1x1x128x256.size inb_S8x6x128x256_S1x1x128x256_4_1_0_0).toLoadRect
      (sl.HS1_w52 c arg2 harg2 arg8 x0) = words (q_r_106 x0) := by
  unfold sl.HS1_w52 sl.HS1_w51 sl.HS1_w50 sl.HS1_w49
  exact bd4 arg8 _ (s_12 c arg2 harg2 arg8 x0).1 4 1 (q_r_106 x0) _ _ _ _ _ _ _ _ _ _ _ _ _
    (by first | (simp only [e_r_106] <;> rfl))
    (by first | (simp only [e_r_155] <;> rfl))
    (by first | (simp only [e_r_106] <;> rfl))
    (by first | (simp only [e_r_106] <;> rfl))
    (mem_lt _) (mem_ge _) (mem_lt _) (mem_ge _)

theorem e_r_156 : sl.r_156 c arg2 harg2 arg8 x0 =
    q_r_156 x0 := by
  unfold sl.r_156
  rw [(s_13 c arg2 harg2 arg8 x0).2]
  simp only [e_r_106, e_r_130, qpay278_eq, q_r_156]

theorem e_r_157 : sl.r_157 c arg2 harg2 x0 =
    q_r_157 x0 := by
  simp only [sl.r_157, e_r_107, q_r_157]

theorem s_14 : Good arg8 (sl.HS1_w56 c arg2 harg2 arg8 x0) ∧
    View.readAt (Elt Bits) arg8.view (Rect.unit (s := S8x6x128x256) ![5, 1, 0, 0] S1x1x128x256.size inb_S8x6x128x256_S1x1x128x256_5_1_0_0).toLoadRect
      (sl.HS1_w56 c arg2 harg2 arg8 x0) = words (q_r_107 x0) := by
  unfold sl.HS1_w56 sl.HS1_w55 sl.HS1_w54 sl.HS1_w53
  exact bd4 arg8 _ (s_13 c arg2 harg2 arg8 x0).1 5 1 (q_r_107 x0) _ _ _ _ _ _ _ _ _ _ _ _ _
    (by first | (simp only [e_r_107] <;> rfl))
    (by first | (simp only [e_r_107] <;> rfl))
    (by first | (simp only [e_r_157] <;> rfl))
    (by first | (simp only [e_r_107] <;> rfl))
    (mem_lt _) (mem_ge _) (mem_lt _) (mem_ge _)

theorem e_r_158 : sl.r_158 c arg2 harg2 arg8 x0 =
    q_r_158 x0 := by
  unfold sl.r_158
  rw [(s_14 c arg2 harg2 arg8 x0).2]
  simp only [e_r_107, e_r_131, qpay288_eq, q_r_158]

theorem e_r_159 : sl.r_159 c arg2 harg2 x0 =
    q_r_159 x0 := by
  simp only [sl.r_159, e_r_108, q_r_159]

theorem s_15 : Good arg8 (sl.HS1_w60 c arg2 harg2 arg8 x0) ∧
    View.readAt (Elt Bits) arg8.view (Rect.unit (s := S8x6x128x256) ![6, 1, 0, 0] S1x1x128x256.size inb_S8x6x128x256_S1x1x128x256_6_1_0_0).toLoadRect
      (sl.HS1_w60 c arg2 harg2 arg8 x0) = words (q_r_108 x0) := by
  unfold sl.HS1_w60 sl.HS1_w59 sl.HS1_w58 sl.HS1_w57
  exact bd4 arg8 _ (s_14 c arg2 harg2 arg8 x0).1 6 1 (q_r_108 x0) _ _ _ _ _ _ _ _ _ _ _ _ _
    (by first | (simp only [e_r_108] <;> rfl))
    (by first | (simp only [e_r_108] <;> rfl))
    (by first | (simp only [e_r_108] <;> rfl))
    (by first | (simp only [e_r_159] <;> rfl))
    (mem_lt _) (mem_ge _) (mem_lt _) (mem_ge _)

theorem e_r_160 : sl.r_160 c arg2 harg2 arg8 x0 =
    q_r_160 x0 := by
  unfold sl.r_160
  rw [(s_15 c arg2 harg2 arg8 x0).2]
  simp only [e_r_108, e_r_132, qpay298_eq, q_r_160]

theorem e_r_161 : sl.r_161 c arg2 harg2 x0 =
    q_r_161 x0 := by
  simp only [sl.r_161, e_r_109, q_r_161]

theorem s_16 : Good arg8 (sl.HS1_w64 c arg2 harg2 arg8 x0) ∧
    View.readAt (Elt Bits) arg8.view (Rect.unit (s := S8x6x128x256) ![7, 1, 0, 0] S1x1x128x256.size inb_S8x6x128x256_S1x1x128x256_7_1_0_0).toLoadRect
      (sl.HS1_w64 c arg2 harg2 arg8 x0) = words (q_r_109 x0) := by
  unfold sl.HS1_w64 sl.HS1_w63 sl.HS1_w62 sl.HS1_w61
  exact bd4 arg8 _ (s_15 c arg2 harg2 arg8 x0).1 7 1 (q_r_109 x0) _ _ _ _ _ _ _ _ _ _ _ _ _
    (by first | (simp only [e_r_109] <;> rfl))
    (by first | (simp only [e_r_109] <;> rfl))
    (by first | (simp only [e_r_109] <;> rfl))
    (by first | (simp only [e_r_161] <;> rfl))
    (mem_lt _) (mem_ge _) (mem_lt _) (mem_ge _)

theorem e_r_162 : sl.r_162 c arg2 harg2 arg8 x0 =
    q_r_162 x0 := by
  unfold sl.r_162
  rw [(s_16 c arg2 harg2 arg8 x0).2]
  simp only [e_r_109, e_r_133, qpay308_eq, q_r_162]

theorem e_r_163 : sl.r_163 c arg2 harg2 arg8 x0 =
    q_r_163 x0 := by
  simp only [sl.r_163, e_r_134, q_r_163]

theorem e_r_164 : sl.r_164 c arg2 harg2 arg8 x0 =
    q_r_164 x0 := by
  simp only [sl.r_164, e_r_136, q_r_164]

theorem e_r_165 : sl.r_165 c arg2 harg2 arg8 x0 =
    q_r_165 x0 := by
  simp only [sl.r_165, e_r_138, q_r_165]

theorem e_r_166 : sl.r_166 c arg2 harg2 arg8 x0 =
    q_r_166 x0 := by
  simp only [sl.r_166, e_r_140, q_r_166]

theorem e_r_167 : sl.r_167 c arg2 harg2 arg8 x0 =
    q_r_167 x0 := by
  simp only [sl.r_167, e_r_142, q_r_167]

theorem e_r_168 : sl.r_168 c arg2 harg2 arg8 x0 =
    q_r_168 x0 := by
  simp only [sl.r_168, e_r_144, q_r_168]

theorem e_r_169 : sl.r_169 c arg2 harg2 arg8 x0 =
    q_r_169 x0 := by
  simp only [sl.r_169, e_r_146, q_r_169]

theorem e_r_170 : sl.r_170 c arg2 harg2 arg8 x0 =
    q_r_170 x0 := by
  simp only [sl.r_170, e_r_147, q_r_170]

theorem e_r_171 : sl.r_171 c arg2 harg2 arg8 x0 =
    q_r_171 x0 := by
  simp only [sl.r_171, e_r_134, q_r_171]

theorem e_r_172 : sl.r_172 c arg2 harg2 arg8 x0 =
    q_r_172 x0 := by
  simp only [sl.r_172, e_r_136, q_r_172]

theorem e_r_173 : sl.r_173 c arg2 harg2 arg8 x0 =
    q_r_173 x0 := by
  simp only [sl.r_173, e_r_138, q_r_173]

theorem e_r_174 : sl.r_174 c arg2 harg2 arg8 x0 =
    q_r_174 x0 := by
  simp only [sl.r_174, e_r_173, q_r_174]

theorem e_r_175 : sl.r_175 c arg2 harg2 arg8 x0 =
    q_r_175 x0 := by
  simp only [sl.r_175, e_r_140, q_r_175]

theorem e_r_176 : sl.r_176 c arg2 harg2 arg8 x0 =
    q_r_176 x0 := by
  simp only [sl.r_176, e_r_142, q_r_176]

theorem e_r_177 : sl.r_177 c arg2 harg2 arg8 x0 =
    q_r_177 x0 := by
  simp only [sl.r_177, e_r_144, q_r_177]

theorem e_r_178 : sl.r_178 c arg2 harg2 arg8 x0 =
    q_r_178 x0 := by
  simp only [sl.r_178, e_r_146, q_r_178]

theorem e_r_179 : sl.r_179 c arg2 harg2 arg8 x0 =
    q_r_179 x0 := by
  simp only [sl.r_179, e_r_147, q_r_179]

theorem e_r_180 : sl.r_180 c arg2 harg2 arg8 x0 =
    q_r_180 x0 := by
  simp only [sl.r_180, e_r_149, q_r_180]

theorem e_r_181 : sl.r_181 c arg2 harg2 arg8 x0 =
    q_r_181 x0 := by
  simp only [sl.r_181, e_r_150, q_r_181]

theorem e_r_182 : sl.r_182 c arg2 harg2 arg8 x0 =
    q_r_182 x0 := by
  simp only [sl.r_182, e_r_152, q_r_182]

theorem e_r_183 : sl.r_183 c arg2 harg2 arg8 x0 =
    q_r_183 x0 := by
  simp only [sl.r_183, e_r_154, q_r_183]

theorem e_r_184 : sl.r_184 c arg2 harg2 arg8 x0 =
    q_r_184 x0 := by
  simp only [sl.r_184, e_r_156, q_r_184]

theorem e_r_185 : sl.r_185 c arg2 harg2 arg8 x0 =
    q_r_185 x0 := by
  simp only [sl.r_185, e_r_158, q_r_185]

theorem e_r_186 : sl.r_186 c arg2 harg2 arg8 x0 =
    q_r_186 x0 := by
  simp only [sl.r_186, e_r_160, q_r_186]

theorem e_r_187 : sl.r_187 c arg2 harg2 arg8 x0 =
    q_r_187 x0 := by
  simp only [sl.r_187, e_r_186, q_r_187]

theorem e_r_188 : sl.r_188 c arg2 harg2 arg8 x0 =
    q_r_188 x0 := by
  simp only [sl.r_188, e_r_162, q_r_188]

theorem e_r_189 : sl.r_189 c arg2 harg2 arg8 x0 =
    q_r_189 x0 := by
  simp only [sl.r_189, e_r_149, q_r_189]

theorem e_r_190 : sl.r_190 c arg2 harg2 arg8 x0 =
    q_r_190 x0 := by
  simp only [sl.r_190, e_r_150, q_r_190]

theorem e_r_191 : sl.r_191 c arg2 harg2 arg8 x0 =
    q_r_191 x0 := by
  simp only [sl.r_191, e_r_152, q_r_191]

theorem e_r_192 : sl.r_192 c arg2 harg2 arg8 x0 =
    q_r_192 x0 := by
  simp only [sl.r_192, e_r_154, q_r_192]

theorem e_r_193 : sl.r_193 c arg2 harg2 arg8 x0 =
    q_r_193 x0 := by
  simp only [sl.r_193, e_r_156, q_r_193]

theorem e_r_194 : sl.r_194 c arg2 harg2 arg8 x0 =
    q_r_194 x0 := by
  simp only [sl.r_194, e_r_158, q_r_194]

theorem e_r_195 : sl.r_195 c arg2 harg2 arg8 x0 =
    q_r_195 x0 := by
  simp only [sl.r_195, e_r_160, q_r_195]

theorem e_r_196 : sl.r_196 c arg2 harg2 arg8 x0 =
    q_r_196 x0 := by
  simp only [sl.r_196, e_r_162, q_r_196]

theorem e_r_197 : sl.r_197 c arg2 harg2 x0 =
    q_r_197 x0 := by
  simp only [sl.r_197, rd, q_r_197]

theorem e_r_198 : sl.r_198 c arg2 harg2 x0 =
    q_r_198 x0 := by
  simp only [sl.r_198, rd, q_r_198]

theorem e_r_199 : sl.r_199 c arg2 harg2 x0 =
    q_r_199 x0 := by
  simp only [sl.r_199, rd, q_r_199]

theorem e_r_200 : sl.r_200 c arg2 harg2 x0 =
    q_r_200 x0 := by
  simp only [sl.r_200, rd, q_r_200]

theorem e_r_201 : sl.r_201 c arg2 harg2 x0 =
    q_r_201 x0 := by
  simp only [sl.r_201, rd, q_r_201]

theorem e_r_202 : sl.r_202 c arg2 harg2 x0 =
    q_r_202 x0 := by
  simp only [sl.r_202, rd, q_r_202]

theorem e_r_203 : sl.r_203 c arg2 harg2 x0 =
    q_r_203 x0 := by
  simp only [sl.r_203, rd, q_r_203]

theorem e_r_204 : sl.r_204 c arg2 harg2 x0 =
    q_r_204 x0 := by
  simp only [sl.r_204, rd, q_r_204]

theorem e_r_205 : sl.r_205 c arg2 harg2 x0 =
    q_r_205 x0 := by
  simp only [sl.r_205, e_r_110, e_r_118, q_r_205]

theorem e_r_206 : sl.r_206 c arg2 harg2 x0 =
    q_r_206 x0 := by
  simp only [sl.r_206, e_r_111, e_r_119, q_r_206]

theorem e_r_207 : sl.r_207 c arg2 harg2 x0 =
    q_r_207 x0 := by
  simp only [sl.r_207, e_r_112, e_r_120, q_r_207]

theorem e_r_208 : sl.r_208 c arg2 harg2 x0 =
    q_r_208 x0 := by
  simp only [sl.r_208, e_r_113, e_r_121, q_r_208]

theorem e_r_209 : sl.r_209 c arg2 harg2 x0 =
    q_r_209 x0 := by
  simp only [sl.r_209, e_r_114, e_r_122, q_r_209]

theorem e_r_210 : sl.r_210 c arg2 harg2 x0 =
    q_r_210 x0 := by
  simp only [sl.r_210, e_r_115, e_r_123, q_r_210]

theorem e_r_211 : sl.r_211 c arg2 harg2 x0 =
    q_r_211 x0 := by
  simp only [sl.r_211, e_r_116, e_r_124, q_r_211]

theorem e_r_212 : sl.r_212 c arg2 harg2 x0 =
    q_r_212 x0 := by
  simp only [sl.r_212, e_r_117, e_r_125, q_r_212]

theorem e_r_213 : sl.r_213 c arg2 harg2 arg8 x0 =
    q_r_213 x0 := by
  simp only [sl.r_213, e_r_180, e_r_189, q_r_213]

theorem e_r_214 : sl.r_214 c arg2 harg2 x0 =
    q_r_214 x0 := by
  simp only [sl.r_214, e_r_197, q_r_214]

theorem s_17 : Good arg8 (sl.HS1_w68 c arg2 harg2 arg8 x0) ∧
    View.readAt (Elt Bits) arg8.view (Rect.unit (s := S8x6x128x256) ![0, 4, 0, 0] S1x1x128x256.size inb_S8x6x128x256_S1x1x128x256_0_4_0_0).toLoadRect
      (sl.HS1_w68 c arg2 harg2 arg8 x0) = words (q_r_197 x0) := by
  unfold sl.HS1_w68 sl.HS1_w67 sl.HS1_w66 sl.HS1_w65
  exact bd4 arg8 _ (s_16 c arg2 harg2 arg8 x0).1 0 4 (q_r_197 x0) _ _ _ _ _ _ _ _ _ _ _ _ _
    (by first | (simp only [e_r_197] <;> rfl))
    (by first | (simp only [e_r_197] <;> rfl))
    (by first | (simp only [e_r_197] <;> rfl))
    (by first | (simp only [e_r_214] <;> rfl))
    (mem_lt _) (mem_ge _) (mem_lt _) (mem_ge _)

theorem e_r_215 : sl.r_215 c arg2 harg2 arg8 x0 =
    q_r_215 x0 := by
  unfold sl.r_215
  rw [(s_17 c arg2 harg2 arg8 x0).2]
  simp only [e_r_197, e_r_213, qpay363_eq, q_r_215]

theorem e_r_216 : sl.r_216 c arg2 harg2 arg8 x0 =
    q_r_216 x0 := by
  simp only [sl.r_216, e_r_181, e_r_190, q_r_216]

theorem s_18 : Good arg8 (sl.HS1_w72 c arg2 harg2 arg8 x0) ∧
    View.readAt (Elt Bits) arg8.view (Rect.unit (s := S8x6x128x256) ![1, 4, 0, 0] S1x1x128x256.size inb_S8x6x128x256_S1x1x128x256_1_4_0_0).toLoadRect
      (sl.HS1_w72 c arg2 harg2 arg8 x0) = words (q_r_198 x0) := by
  unfold sl.HS1_w72 sl.HS1_w71 sl.HS1_w70 sl.HS1_w69
  exact bd4 arg8 _ (s_17 c arg2 harg2 arg8 x0).1 1 4 (q_r_198 x0) _ _ _ _ _ _ _ _ _ _ _ _ _
    (by first | (simp only [e_r_198] <;> rfl))
    (by first | (simp only [e_r_198] <;> rfl))
    (by first | (simp only [e_r_198] <;> rfl))
    (by first | (simp only [e_r_198] <;> rfl))
    (mem_lt _) (mem_ge _) (mem_lt _) (mem_ge _)

theorem e_r_217 : sl.r_217 c arg2 harg2 arg8 x0 =
    q_r_217 x0 := by
  unfold sl.r_217
  rw [(s_18 c arg2 harg2 arg8 x0).2]
  simp only [e_r_198, e_r_216, qpay373_eq, q_r_217]

theorem s_19 : Good arg8 (sl.HS1_w76 c arg2 harg2 arg8 x0) ∧
    View.readAt (Elt Bits) arg8.view (Rect.unit (s := S8x6x128x256) ![2, 4, 0, 0] S1x1x128x256.size inb_S8x6x128x256_S1x1x128x256_2_4_0_0).toLoadRect
      (sl.HS1_w76 c arg2 harg2 arg8 x0) = words (q_r_199 x0) := by
  unfold sl.HS1_w76 sl.HS1_w75 sl.HS1_w74 sl.HS1_w73
  exact bd4 arg8 _ (s_18 c arg2 harg2 arg8 x0).1 2 4 (q_r_199 x0) _ _ _ _ _ _ _ _ _ _ _ _ _
    (by first | (simp only [e_r_199] <;> rfl))
    (by first | (simp only [e_r_199] <;> rfl))
    (by first | (simp only [e_r_199] <;> rfl))
    (by first | (simp only [e_r_199] <;> rfl))
    (mem_lt _) (mem_ge _) (mem_lt _) (mem_ge _)

theorem e_r_218 : sl.r_218 c arg2 harg2 arg8 x0 =
    q_r_218 x0 := by
  unfold sl.r_218
  rw [(s_19 c arg2 harg2 arg8 x0).2]
  simp only [e_r_182, e_r_191, e_r_199, qpay382_eq, q_r_218]

theorem s_20 : Good arg8 (sl.HS1_w80 c arg2 harg2 arg8 x0) ∧
    View.readAt (Elt Bits) arg8.view (Rect.unit (s := S8x6x128x256) ![3, 4, 0, 0] S1x1x128x256.size inb_S8x6x128x256_S1x1x128x256_3_4_0_0).toLoadRect
      (sl.HS1_w80 c arg2 harg2 arg8 x0) = words (q_r_200 x0) := by
  unfold sl.HS1_w80 sl.HS1_w79 sl.HS1_w78 sl.HS1_w77
  exact bd4 arg8 _ (s_19 c arg2 harg2 arg8 x0).1 3 4 (q_r_200 x0) _ _ _ _ _ _ _ _ _ _ _ _ _
    (by first | (simp only [e_r_200] <;> rfl))
    (by first | (simp only [e_r_200] <;> rfl))
    (by first | (simp only [e_r_200] <;> rfl))
    (by first | (simp only [e_r_200] <;> rfl))
    (mem_lt _) (mem_ge _) (mem_lt _) (mem_ge _)

theorem e_r_219 : sl.r_219 c arg2 harg2 arg8 x0 =
    q_r_219 x0 := by
  unfold sl.r_219
  rw [(s_20 c arg2 harg2 arg8 x0).2]
  simp only [e_r_183, e_r_192, e_r_200, qpay391_eq, q_r_219]

theorem e_r_220 : sl.r_220 c arg2 harg2 arg8 x0 =
    q_r_220 x0 := by
  simp only [sl.r_220, e_r_184, e_r_193, q_r_220]

theorem e_r_221 : sl.r_221 c arg2 harg2 x0 =
    q_r_221 x0 := by
  simp only [sl.r_221, e_r_201, q_r_221]

theorem s_21 : Good arg8 (sl.HS1_w84 c arg2 harg2 arg8 x0) ∧
    View.readAt (Elt Bits) arg8.view (Rect.unit (s := S8x6x128x256) ![4, 4, 0, 0] S1x1x128x256.size inb_S8x6x128x256_S1x1x128x256_4_4_0_0).toLoadRect
      (sl.HS1_w84 c arg2 harg2 arg8 x0) = words (q_r_201 x0) := by
  unfold sl.HS1_w84 sl.HS1_w83 sl.HS1_w82 sl.HS1_w81
  exact bd4 arg8 _ (s_20 c arg2 harg2 arg8 x0).1 4 4 (q_r_201 x0) _ _ _ _ _ _ _ _ _ _ _ _ _
    (by first | (simp only [e_r_221] <;> rfl))
    (by first | (simp only [e_r_201] <;> rfl))
    (by first | (simp only [e_r_201] <;> rfl))
    (by first | (simp only [e_r_201] <;> rfl))
    (mem_lt _) (mem_ge _) (mem_lt _) (mem_ge _)

theorem e_r_222 : sl.r_222 c arg2 harg2 arg8 x0 =
    q_r_222 x0 := by
  unfold sl.r_222
  rw [(s_21 c arg2 harg2 arg8 x0).2]
  simp only [e_r_201, e_r_220, qpay402_eq, q_r_222]

theorem e_r_223 : sl.r_223 c arg2 harg2 arg8 x0 =
    q_r_223 x0 := by
  simp only [sl.r_223, e_r_185, e_r_194, q_r_223]

theorem s_22 : Good arg8 (sl.HS1_w88 c arg2 harg2 arg8 x0) ∧
    View.readAt (Elt Bits) arg8.view (Rect.unit (s := S8x6x128x256) ![5, 4, 0, 0] S1x1x128x256.size inb_S8x6x128x256_S1x1x128x256_5_4_0_0).toLoadRect
      (sl.HS1_w88 c arg2 harg2 arg8 x0) = words (q_r_202 x0) := by
  unfold sl.HS1_w88 sl.HS1_w87 sl.HS1_w86 sl.HS1_w85
  exact bd4 arg8 _ (s_21 c arg2 harg2 arg8 x0).1 5 4 (q_r_202 x0) _ _ _ _ _ _ _ _ _ _ _ _ _
    (by first | (simp only [e_r_202] <;> rfl))
    (by first | (simp only [e_r_202] <;> rfl))
    (by first | (simp only [e_r_202] <;> rfl))
    (by first | (simp only [e_r_202] <;> rfl))
    (mem_lt _) (mem_ge _) (mem_lt _) (mem_ge _)

theorem e_r_224 : sl.r_224 c arg2 harg2 arg8 x0 =
    q_r_224 x0 := by
  unfold sl.r_224
  rw [(s_22 c arg2 harg2 arg8 x0).2]
  simp only [e_r_202, e_r_223, qpay412_eq, q_r_224]

theorem e_r_225 : sl.r_225 c arg2 harg2 arg8 x0 =
    q_r_225 x0 := by
  simp only [sl.r_225, e_r_187, e_r_195, q_r_225]

theorem e_r_226 : sl.r_226 c arg2 harg2 x0 =
    q_r_226 x0 := by
  simp only [sl.r_226, e_r_203, q_r_226]

theorem s_23 : Good arg8 (sl.HS1_w92 c arg2 harg2 arg8 x0) ∧
    View.readAt (Elt Bits) arg8.view (Rect.unit (s := S8x6x128x256) ![6, 4, 0, 0] S1x1x128x256.size inb_S8x6x128x256_S1x1x128x256_6_4_0_0).toLoadRect
      (sl.HS1_w92 c arg2 harg2 arg8 x0) = words (q_r_203 x0) := by
  unfold sl.HS1_w92 sl.HS1_w91 sl.HS1_w90 sl.HS1_w89
  exact bd4 arg8 _ (s_22 c arg2 harg2 arg8 x0).1 6 4 (q_r_203 x0) _ _ _ _ _ _ _ _ _ _ _ _ _
    (by first | (simp only [e_r_203] <;> rfl))
    (by first | (simp only [e_r_226] <;> rfl))
    (by first | (simp only [e_r_203] <;> rfl))
    (by first | (simp only [e_r_203] <;> rfl))
    (mem_lt _) (mem_ge _) (mem_lt _) (mem_ge _)

theorem e_r_227 : sl.r_227 c arg2 harg2 arg8 x0 =
    q_r_227 x0 := by
  unfold sl.r_227
  rw [(s_23 c arg2 harg2 arg8 x0).2]
  simp only [e_r_203, e_r_225, qpay423_eq, q_r_227]

theorem e_r_228 : sl.r_228 c arg2 harg2 arg8 x0 =
    q_r_228 x0 := by
  simp only [sl.r_228, e_r_188, e_r_196, q_r_228]

theorem e_r_229 : sl.r_229 c arg2 harg2 x0 =
    q_r_229 x0 := by
  simp only [sl.r_229, e_r_204, q_r_229]

theorem e_r_230 : sl.r_230 c arg2 harg2 arg8 x0 =
    q_r_230 x0 := by
  simp only [sl.r_230, e_r_215, q_r_230]

theorem e_r_231 : sl.r_231 c arg2 harg2 arg8 x0 =
    q_r_231 x0 := by
  simp only [sl.r_231, e_r_217, q_r_231]

theorem e_r_232 : sl.r_232 c arg2 harg2 arg8 x0 =
    q_r_232 x0 := by
  simp only [sl.r_232, e_r_218, q_r_232]

theorem e_r_233 : sl.r_233 c arg2 harg2 arg8 x0 =
    q_r_233 x0 := by
  simp only [sl.r_233, e_r_219, q_r_233]

theorem e_r_234 : sl.r_234 c arg2 harg2 arg8 x0 =
    q_r_234 x0 := by
  simp only [sl.r_234, e_r_222, q_r_234]

theorem e_r_235 : sl.r_235 c arg2 harg2 arg8 x0 =
    q_r_235 x0 := by
  simp only [sl.r_235, e_r_224, q_r_235]

theorem e_r_236 : sl.r_236 c arg2 harg2 arg8 x0 =
    q_r_236 x0 := by
  simp only [sl.r_236, e_r_227, q_r_236]

theorem s_24 : Good arg8 (sl.HS1_w96 c arg2 harg2 arg8 x0) ∧
    View.readAt (Elt Bits) arg8.view (Rect.unit (s := S8x6x128x256) ![7, 4, 0, 0] S1x1x128x256.size inb_S8x6x128x256_S1x1x128x256_7_4_0_0).toLoadRect
      (sl.HS1_w96 c arg2 harg2 arg8 x0) = words (q_r_204 x0) := by
  unfold sl.HS1_w96 sl.HS1_w95 sl.HS1_w94 sl.HS1_w93
  exact bd4 arg8 _ (s_23 c arg2 harg2 arg8 x0).1 7 4 (q_r_204 x0) _ _ _ _ _ _ _ _ _ _ _ _ _
    (by first | (simp only [e_r_204] <;> rfl))
    (by first | (simp only [e_r_204] <;> rfl))
    (by first | (simp only [e_r_229] <;> rfl))
    (by first | (simp only [e_r_204] <;> rfl))
    (mem_lt _) (mem_ge _) (mem_lt _) (mem_ge _)

theorem e_r_237 : sl.r_237 c arg2 harg2 arg8 x0 =
    q_r_237 x0 := by
  unfold sl.r_237
  rw [(s_24 c arg2 harg2 arg8 x0).2]
  simp only [e_r_204, e_r_228, qpay442_eq, q_r_237]

theorem e_r_238 : sl.r_238 c arg2 harg2 arg8 x0 =
    q_r_238 x0 := by
  simp only [sl.r_238, e_r_215, q_r_238]

theorem e_r_239 : sl.r_239 c arg2 harg2 arg8 x0 =
    q_r_239 x0 := by
  simp only [sl.r_239, e_r_217, q_r_239]

theorem e_r_240 : sl.r_240 c arg2 harg2 arg8 x0 =
    q_r_240 x0 := by
  simp only [sl.r_240, e_r_218, q_r_240]

theorem e_r_241 : sl.r_241 c arg2 harg2 arg8 x0 =
    q_r_241 x0 := by
  simp only [sl.r_241, e_r_219, q_r_241]

theorem e_r_242 : sl.r_242 c arg2 harg2 arg8 x0 =
    q_r_242 x0 := by
  simp only [sl.r_242, e_r_222, q_r_242]

theorem e_r_243 : sl.r_243 c arg2 harg2 arg8 x0 =
    q_r_243 x0 := by
  simp only [sl.r_243, e_r_224, q_r_243]

theorem e_r_244 : sl.r_244 c arg2 harg2 arg8 x0 =
    q_r_244 x0 := by
  simp only [sl.r_244, e_r_227, q_r_244]

theorem e_r_245 : sl.r_245 c arg2 harg2 arg8 x0 =
    q_r_245 x0 := by
  unfold sl.r_245
  rw [(s_24 c arg2 harg2 arg8 x0).2]
  simp only [e_r_204, e_r_228, qpay450_eq, q_r_245]

theorem e_r_249 : sl.r_249 c arg2 harg2 arg8 x0 =
    q_r_249 x0 := by
  simp only [sl.r_249, e_r_163, q_r_249]

theorem e_r_250 : sl.r_250 c arg2 harg2 arg8 x0 =
    q_r_250 x0 := by
  simp only [sl.r_250, e_r_163, q_r_250]

theorem e_r_251 : sl.r_251 c arg2 harg2 arg8 x0 =
    q_r_251 x0 := by
  simp only [sl.r_251, e_r_163, e_r_249, e_r_250, q_r_251]

theorem e_r_252 : sl.r_252 c arg2 harg2 arg8 x0 =
    q_r_252 x0 := by
  simp only [sl.r_252, e_r_164, q_r_252]

theorem e_r_253 : sl.r_253 c arg2 harg2 arg8 x0 =
    q_r_253 x0 := by
  simp only [sl.r_253, e_r_165, q_r_253]

theorem e_r_254 : sl.r_254 c arg2 harg2 arg8 x0 =
    q_r_254 x0 := by
  simp only [sl.r_254, e_r_165, q_r_254]

theorem e_r_255 : sl.r_255 c arg2 harg2 arg8 x0 =
    q_r_255 x0 := by
  simp only [sl.r_255, e_r_165, q_r_255]

theorem e_r_256 : sl.r_256 c arg2 harg2 arg8 x0 =
    q_r_256 x0 := by
  simp only [sl.r_256, e_r_253, e_r_254, e_r_255, q_r_256]

theorem e_r_257 : sl.r_257 c arg2 harg2 arg8 x0 =
    q_r_257 x0 := by
  simp only [sl.r_257, e_r_166, q_r_257]

theorem e_r_258 : sl.r_258 c arg2 harg2 arg8 x0 =
    q_r_258 x0 := by
  simp only [sl.r_258, e_r_167, q_r_258]

theorem e_r_259 : sl.r_259 c arg2 harg2 arg8 x0 =
    q_r_259 x0 := by
  simp only [sl.r_259, e_r_167, q_r_259]

theorem e_r_260 : sl.r_260 c arg2 harg2 arg8 x0 =
    q_r_260 x0 := by
  simp only [sl.r_260, e_r_258, e_r_259, q_r_260]

theorem e_r_261 : sl.r_261 c arg2 harg2 arg8 x0 =
    q_r_261 x0 := by
  simp only [sl.r_261, e_r_168, q_r_261]

theorem e_r_262 : sl.r_262 c arg2 harg2 arg8 x0 =
    q_r_262 x0 := by
  simp only [sl.r_262, e_r_169, q_r_262]

theorem e_r_263 : sl.r_263 c arg2 harg2 arg8 x0 =
    q_r_263 x0 := by
  simp only [sl.r_263, e_r_170, q_r_263]

theorem e_r_264 : sl.r_264 c arg2 harg2 arg8 x0 =
    q_r_264 x0 := by
  simp only [sl.r_264, e_r_170, e_r_263, q_r_264]

theorem e_r_265 : sl.r_265 c arg2 harg2 arg8 x0 =
    q_r_265 x0 := by
  simp only [sl.r_265, e_r_163, q_r_265]

theorem e_r_266 : sl.r_266 c arg2 harg2 arg8 x0 =
    q_r_266 x0 := by
  simp only [sl.r_266, e_r_164, q_r_266]

theorem e_r_267 : sl.r_267 c arg2 harg2 arg8 x0 =
    q_r_267 x0 := by
  simp only [sl.r_267, e_r_165, q_r_267]

theorem e_r_268 : sl.r_268 c arg2 harg2 arg8 x0 =
    q_r_268 x0 := by
  simp only [sl.r_268, e_r_166, q_r_268]

theorem e_r_269 : sl.r_269 c arg2 harg2 arg8 x0 =
    q_r_269 x0 := by
  simp only [sl.r_269, e_r_167, q_r_269]

theorem e_r_270 : sl.r_270 c arg2 harg2 arg8 x0 =
    q_r_270 x0 := by
  simp only [sl.r_270, e_r_168, q_r_270]

theorem e_r_271 : sl.r_271 c arg2 harg2 arg8 x0 =
    q_r_271 x0 := by
  simp only [sl.r_271, e_r_169, q_r_271]

theorem e_r_272 : sl.r_272 c arg2 harg2 arg8 x0 =
    q_r_272 x0 := by
  simp only [sl.r_272, e_r_170, q_r_272]

theorem e_r_273 : sl.r_273 c arg2 harg2 arg8 x0 =
    q_r_273 x0 := by
  simp only [sl.r_273, e_r_272, q_r_273]

theorem e_r_274 : sl.r_274 c arg2 harg2 arg8 x0 =
    q_r_274 x0 := by
  simp only [sl.r_274, e_r_251, q_r_274]

theorem e_r_275 : sl.r_275 c arg2 harg2 arg8 x0 =
    q_r_275 x0 := by
  simp only [sl.r_275, e_r_252, q_r_275]

theorem e_r_276 : sl.r_276 c arg2 harg2 arg8 x0 =
    q_r_276 x0 := by
  simp only [sl.r_276, e_r_256, q_r_276]

theorem e_r_277 : sl.r_277 c arg2 harg2 arg8 x0 =
    q_r_277 x0 := by
  simp only [sl.r_277, e_r_257, q_r_277]

theorem e_r_278 : sl.r_278 c arg2 harg2 arg8 x0 =
    q_r_278 x0 := by
  simp only [sl.r_278, e_r_260, q_r_278]

theorem e_r_279 : sl.r_279 c arg2 harg2 arg8 x0 =
    q_r_279 x0 := by
  simp only [sl.r_279, e_r_261, q_r_279]

theorem e_r_280 : sl.r_280 c arg2 harg2 arg8 x0 =
    q_r_280 x0 := by
  simp only [sl.r_280, e_r_262, q_r_280]

theorem e_r_281 : sl.r_281 c arg2 harg2 arg8 x0 =
    q_r_281 x0 := by
  simp only [sl.r_281, e_r_264, q_r_281]

theorem s_25 : Good arg8 (sl.HS1_w100 c arg2 harg2 arg8 x0) ∧
    View.readAt (Elt Bits) arg8.view (Rect.unit (s := S8x6x128x256) ![0, 2, 0, 0] S1x1x128x256.size inb_S8x6x128x256_S1x1x128x256_0_2_0_0).toLoadRect
      (sl.HS1_w100 c arg2 harg2 arg8 x0) = words (q_r_265 x0) := by
  unfold sl.HS1_w100 sl.HS1_w99 sl.HS1_w98 sl.HS1_w97
  exact bd4 arg8 _ (s_24 c arg2 harg2 arg8 x0).1 0 2 (q_r_265 x0) _ _ _ _ _ _ _ _ _ _ _ _ _
    (by first | (simp only [e_r_265] <;> rfl))
    (by first | (simp only [e_r_265] <;> rfl))
    (by first | (simp only [e_r_265] <;> rfl))
    (by first | (simp only [e_r_265] <;> rfl))
    (mem_lt _) (mem_ge _) (mem_lt _) (mem_ge _)

theorem e_r_282 : sl.r_282 c arg2 harg2 arg8 x0 =
    q_r_282 x0 := by
  unfold sl.r_282
  rw [(s_25 c arg2 harg2 arg8 x0).2]
  simp only [e_r_265, qpay520_eq, q_r_282]

theorem e_r_283 : sl.r_283 c arg2 harg2 arg8 x0 =
    q_r_283 x0 := by
  simp only [sl.r_283, e_r_274, e_r_282, q_r_283]

theorem s_26 : Good arg8 (sl.HS1_w104 c arg2 harg2 arg8 x0) ∧
    View.readAt (Elt Bits) arg8.view (Rect.unit (s := S8x6x128x256) ![1, 2, 0, 0] S1x1x128x256.size inb_S8x6x128x256_S1x1x128x256_1_2_0_0).toLoadRect
      (sl.HS1_w104 c arg2 harg2 arg8 x0) = words (q_r_266 x0) := by
  unfold sl.HS1_w104 sl.HS1_w103 sl.HS1_w102 sl.HS1_w101
  exact bd4 arg8 _ (s_25 c arg2 harg2 arg8 x0).1 1 2 (q_r_266 x0) _ _ _ _ _ _ _ _ _ _ _ _ _
    (by first | (simp only [e_r_266] <;> rfl))
    (by first | (simp only [e_r_266] <;> rfl))
    (by first | (simp only [e_r_266] <;> rfl))
    (by first | (simp only [e_r_266] <;> rfl))
    (mem_lt _) (mem_ge _) (mem_lt _) (mem_ge _)

theorem e_r_284 : sl.r_284 c arg2 harg2 arg8 x0 =
    q_r_284 x0 := by
  unfold sl.r_284
  rw [(s_26 c arg2 harg2 arg8 x0).2]
  simp only [e_r_266, e_r_275, qpay530_eq, q_r_284]

theorem e_r_285 : sl.r_285 c arg2 harg2 arg8 x0 =
    q_r_285 x0 := by
  simp only [sl.r_285, e_r_267, q_r_285]

theorem s_27 : Good arg8 (sl.HS1_w108 c arg2 harg2 arg8 x0) ∧
    View.readAt (Elt Bits) arg8.view (Rect.unit (s := S8x6x128x256) ![2, 2, 0, 0] S1x1x128x256.size inb_S8x6x128x256_S1x1x128x256_2_2_0_0).toLoadRect
      (sl.HS1_w108 c arg2 harg2 arg8 x0) = words (q_r_267 x0) := by
  unfold sl.HS1_w108 sl.HS1_w107 sl.HS1_w106 sl.HS1_w105
  exact bd4 arg8 _ (s_26 c arg2 harg2 arg8 x0).1 2 2 (q_r_267 x0) _ _ _ _ _ _ _ _ _ _ _ _ _
    (by first | (simp only [e_r_285] <;> rfl))
    (by first | (simp only [e_r_267] <;> rfl))
    (by first | (simp only [e_r_267] <;> rfl))
    (by first | (simp only [e_r_267] <;> rfl))
    (mem_lt _) (mem_ge _) (mem_lt _) (mem_ge _)

theorem e_r_286 : sl.r_286 c arg2 harg2 arg8 x0 =
    q_r_286 x0 := by
  unfold sl.r_286
  rw [(s_27 c arg2 harg2 arg8 x0).2]
  simp only [e_r_267, e_r_276, qpay540_eq, q_r_286]

theorem e_r_287 : sl.r_287 c arg2 harg2 arg8 x0 =
    q_r_287 x0 := by
  simp only [sl.r_287, e_r_268, q_r_287]

theorem s_28 : Good arg8 (sl.HS1_w112 c arg2 harg2 arg8 x0) ∧
    View.readAt (Elt Bits) arg8.view (Rect.unit (s := S8x6x128x256) ![3, 2, 0, 0] S1x1x128x256.size inb_S8x6x128x256_S1x1x128x256_3_2_0_0).toLoadRect
      (sl.HS1_w112 c arg2 harg2 arg8 x0) = words (q_r_268 x0) := by
  unfold sl.HS1_w112 sl.HS1_w111 sl.HS1_w110 sl.HS1_w109
  exact bd4 arg8 _ (s_27 c arg2 harg2 arg8 x0).1 3 2 (q_r_268 x0) _ _ _ _ _ _ _ _ _ _ _ _ _
    (by first | (simp only [e_r_287] <;> rfl))
    (by first | (simp only [e_r_268] <;> rfl))
    (by first | (simp only [e_r_268] <;> rfl))
    (by first | (simp only [e_r_268] <;> rfl))
    (mem_lt _) (mem_ge _) (mem_lt _) (mem_ge _)

theorem e_r_288 : sl.r_288 c arg2 harg2 arg8 x0 =
    q_r_288 x0 := by
  unfold sl.r_288
  rw [(s_28 c arg2 harg2 arg8 x0).2]
  simp only [e_r_268, e_r_277, qpay549_eq, q_r_288]

theorem e_r_289 : sl.r_289 c arg2 harg2 arg8 x0 =
    q_r_289 x0 := by
  simp only [sl.r_289, e_r_269, q_r_289]

theorem s_29 : Good arg8 (sl.HS1_w116 c arg2 harg2 arg8 x0) ∧
    View.readAt (Elt Bits) arg8.view (Rect.unit (s := S8x6x128x256) ![4, 2, 0, 0] S1x1x128x256.size inb_S8x6x128x256_S1x1x128x256_4_2_0_0).toLoadRect
      (sl.HS1_w116 c arg2 harg2 arg8 x0) = words (q_r_269 x0) := by
  unfold sl.HS1_w116 sl.HS1_w115 sl.HS1_w114 sl.HS1_w113
  exact bd4 arg8 _ (s_28 c arg2 harg2 arg8 x0).1 4 2 (q_r_269 x0) _ _ _ _ _ _ _ _ _ _ _ _ _
    (by first | (simp only [e_r_269] <;> rfl))
    (by first | (simp only [e_r_289] <;> rfl))
    (by first | (simp only [e_r_269] <;> rfl))
    (by first | (simp only [e_r_269] <;> rfl))
    (mem_lt _) (mem_ge _) (mem_lt _) (mem_ge _)

theorem e_r_290 : sl.r_290 c arg2 harg2 arg8 x0 =
    q_r_290 x0 := by
  unfold sl.r_290
  rw [(s_29 c arg2 harg2 arg8 x0).2]
  simp only [e_r_269, e_r_278, qpay559_eq, q_r_290]

theorem e_r_291 : sl.r_291 c arg2 harg2 arg8 x0 =
    q_r_291 x0 := by
  simp only [sl.r_291, e_r_270, q_r_291]

theorem s_30 : Good arg8 (sl.HS1_w120 c arg2 harg2 arg8 x0) ∧
    View.readAt (Elt Bits) arg8.view (Rect.unit (s := S8x6x128x256) ![5, 2, 0, 0] S1x1x128x256.size inb_S8x6x128x256_S1x1x128x256_5_2_0_0).toLoadRect
      (sl.HS1_w120 c arg2 harg2 arg8 x0) = words (q_r_270 x0) := by
  unfold sl.HS1_w120 sl.HS1_w119 sl.HS1_w118 sl.HS1_w117
  exact bd4 arg8 _ (s_29 c arg2 harg2 arg8 x0).1 5 2 (q_r_270 x0) _ _ _ _ _ _ _ _ _ _ _ _ _
    (by first | (simp only [e_r_270] <;> rfl))
    (by first | (simp only [e_r_291] <;> rfl))
    (by first | (simp only [e_r_270] <;> rfl))
    (by first | (simp only [e_r_270] <;> rfl))
    (mem_lt _) (mem_ge _) (mem_lt _) (mem_ge _)

theorem e_r_292 : sl.r_292 c arg2 harg2 arg8 x0 =
    q_r_292 x0 := by
  unfold sl.r_292
  rw [(s_30 c arg2 harg2 arg8 x0).2]
  simp only [e_r_270, e_r_279, qpay568_eq, q_r_292]

theorem e_r_293 : sl.r_293 c arg2 harg2 arg8 x0 =
    q_r_293 x0 := by
  simp only [sl.r_293, e_r_271, q_r_293]

theorem s_31 : Good arg8 (sl.HS1_w124 c arg2 harg2 arg8 x0) ∧
    View.readAt (Elt Bits) arg8.view (Rect.unit (s := S8x6x128x256) ![6, 2, 0, 0] S1x1x128x256.size inb_S8x6x128x256_S1x1x128x256_6_2_0_0).toLoadRect
      (sl.HS1_w124 c arg2 harg2 arg8 x0) = words (q_r_271 x0) := by
  unfold sl.HS1_w124 sl.HS1_w123 sl.HS1_w122 sl.HS1_w121
  exact bd4 arg8 _ (s_30 c arg2 harg2 arg8 x0).1 6 2 (q_r_271 x0) _ _ _ _ _ _ _ _ _ _ _ _ _
    (by first | (simp only [e_r_271] <;> rfl))
    (by first | (simp only [e_r_271] <;> rfl))
    (by first | (simp only [e_r_293] <;> rfl))
    (by first | (simp only [e_r_271] <;> rfl))
    (mem_lt _) (mem_ge _) (mem_lt _) (mem_ge _)

theorem e_r_294 : sl.r_294 c arg2 harg2 arg8 x0 =
    q_r_294 x0 := by
  unfold sl.r_294
  rw [(s_31 c arg2 harg2 arg8 x0).2]
  simp only [e_r_271, e_r_280, qpay578_eq, q_r_294]

theorem s_32 : Good arg8 (sl.HS1_w128 c arg2 harg2 arg8 x0) ∧
    View.readAt (Elt Bits) arg8.view (Rect.unit (s := S8x6x128x256) ![7, 2, 0, 0] S1x1x128x256.size inb_S8x6x128x256_S1x1x128x256_7_2_0_0).toLoadRect
      (sl.HS1_w128 c arg2 harg2 arg8 x0) = words (q_r_273 x0) := by
  unfold sl.HS1_w128 sl.HS1_w127 sl.HS1_w126 sl.HS1_w125
  exact bd4 arg8 _ (s_31 c arg2 harg2 arg8 x0).1 7 2 (q_r_273 x0) _ _ _ _ _ _ _ _ _ _ _ _ _
    (by first | (simp only [e_r_273] <;> rfl))
    (by first | (simp only [e_r_273] <;> rfl))
    (by first | (simp only [e_r_273] <;> rfl))
    (by first | (simp only [e_r_273] <;> rfl))
    (mem_lt _) (mem_ge _) (mem_lt _) (mem_ge _)

theorem e_r_295 : sl.r_295 c arg2 harg2 arg8 x0 =
    q_r_295 x0 := by
  unfold sl.r_295
  rw [(s_32 c arg2 harg2 arg8 x0).2]
  simp only [e_r_273, e_r_281, qpay587_eq, q_r_295]

theorem e_r_296 : sl.r_296 c arg2 harg2 arg8 x0 =
    q_r_296 x0 := by
  simp only [sl.r_296, e_r_274, q_r_296]

theorem s_33 : Good arg8 (sl.HS1_w132 c arg2 harg2 arg8 x0) ∧
    View.readAt (Elt Bits) arg8.view (Rect.unit (s := S8x6x128x256) ![0, 3, 0, 0] S1x1x128x256.size inb_S8x6x128x256_S1x1x128x256_0_3_0_0).toLoadRect
      (sl.HS1_w132 c arg2 harg2 arg8 x0) = words (q_r_274 x0) := by
  unfold sl.HS1_w132 sl.HS1_w131 sl.HS1_w130 sl.HS1_w129
  exact bd4 arg8 _ (s_32 c arg2 harg2 arg8 x0).1 0 3 (q_r_274 x0) _ _ _ _ _ _ _ _ _ _ _ _ _
    (by first | (simp only [e_r_274] <;> rfl))
    (by first | (simp only [e_r_274] <;> rfl))
    (by first | (simp only [e_r_274] <;> rfl))
    (by first | (simp only [e_r_296] <;> rfl))
    (mem_lt _) (mem_ge _) (mem_lt _) (mem_ge _)

theorem e_r_297 : sl.r_297 c arg2 harg2 arg8 x0 =
    q_r_297 x0 := by
  unfold sl.r_297
  rw [(s_33 c arg2 harg2 arg8 x0).2]
  simp only [e_r_251, e_r_274, e_r_283, qpay597_eq, q_r_297]

theorem s_34 : Good arg8 (sl.HS1_w136 c arg2 harg2 arg8 x0) ∧
    View.readAt (Elt Bits) arg8.view (Rect.unit (s := S8x6x128x256) ![1, 3, 0, 0] S1x1x128x256.size inb_S8x6x128x256_S1x1x128x256_1_3_0_0).toLoadRect
      (sl.HS1_w136 c arg2 harg2 arg8 x0) = words (q_r_275 x0) := by
  unfold sl.HS1_w136 sl.HS1_w135 sl.HS1_w134 sl.HS1_w133
  exact bd4 arg8 _ (s_33 c arg2 harg2 arg8 x0).1 1 3 (q_r_275 x0) _ _ _ _ _ _ _ _ _ _ _ _ _
    (by first | (simp only [e_r_275] <;> rfl))
    (by first | (simp only [e_r_275] <;> rfl))
    (by first | (simp only [e_r_275] <;> rfl))
    (by first | (simp only [e_r_275] <;> rfl))
    (mem_lt _) (mem_ge _) (mem_lt _) (mem_ge _)

theorem e_r_298 : sl.r_298 c arg2 harg2 arg8 x0 =
    q_r_298 x0 := by
  unfold sl.r_298
  rw [(s_34 c arg2 harg2 arg8 x0).2]
  simp only [e_r_252, e_r_275, e_r_284, qpay606_eq, q_r_298]

theorem s_35 : Good arg8 (sl.HS1_w140 c arg2 harg2 arg8 x0) ∧
    View.readAt (Elt Bits) arg8.view (Rect.unit (s := S8x6x128x256) ![2, 3, 0, 0] S1x1x128x256.size inb_S8x6x128x256_S1x1x128x256_2_3_0_0).toLoadRect
      (sl.HS1_w140 c arg2 harg2 arg8 x0) = words (q_r_276 x0) := by
  unfold sl.HS1_w140 sl.HS1_w139 sl.HS1_w138 sl.HS1_w137
  exact bd4 arg8 _ (s_34 c arg2 harg2 arg8 x0).1 2 3 (q_r_276 x0) _ _ _ _ _ _ _ _ _ _ _ _ _
    (by first | (simp only [e_r_276] <;> rfl))
    (by first | (simp only [e_r_276] <;> rfl))
    (by first | (simp only [e_r_276] <;> rfl))
    (by first | (simp only [e_r_276] <;> rfl))
    (mem_lt _) (mem_ge _) (mem_lt _) (mem_ge _)

theorem e_r_299 : sl.r_299 c arg2 harg2 arg8 x0 =
    q_r_299 x0 := by
  unfold sl.r_299
  rw [(s_35 c arg2 harg2 arg8 x0).2]
  simp only [e_r_276, qpay615_eq, q_r_299]

theorem e_r_300 : sl.r_300 c arg2 harg2 arg8 x0 =
    q_r_300 x0 := by
  simp only [sl.r_300, e_r_256, e_r_286, e_r_299, q_r_300]

theorem s_36 : Good arg8 (sl.HS1_w144 c arg2 harg2 arg8 x0) ∧
    View.readAt (Elt Bits) arg8.view (Rect.unit (s := S8x6x128x256) ![3, 3, 0, 0] S1x1x128x256.size inb_S8x6x128x256_S1x1x128x256_3_3_0_0).toLoadRect
      (sl.HS1_w144 c arg2 harg2 arg8 x0) = words (q_r_277 x0) := by
  unfold sl.HS1_w144 sl.HS1_w143 sl.HS1_w142 sl.HS1_w141
  exact bd4 arg8 _ (s_35 c arg2 harg2 arg8 x0).1 3 3 (q_r_277 x0) _ _ _ _ _ _ _ _ _ _ _ _ _
    (by first | (simp only [e_r_277] <;> rfl))
    (by first | (simp only [e_r_277] <;> rfl))
    (by first | (simp only [e_r_277] <;> rfl))
    (by first | (simp only [e_r_277] <;> rfl))
    (mem_lt _) (mem_ge _) (mem_lt _) (mem_ge _)

theorem e_r_301 : sl.r_301 c arg2 harg2 arg8 x0 =
    q_r_301 x0 := by
  unfold sl.r_301
  rw [(s_36 c arg2 harg2 arg8 x0).2]
  simp only [e_r_257, e_r_277, e_r_288, qpay625_eq, q_r_301]

theorem e_r_302 : sl.r_302 c arg2 harg2 arg8 x0 =
    q_r_302 x0 := by
  simp only [sl.r_302, e_r_278, q_r_302]

theorem s_37 : Good arg8 (sl.HS1_w148 c arg2 harg2 arg8 x0) ∧
    View.readAt (Elt Bits) arg8.view (Rect.unit (s := S8x6x128x256) ![4, 3, 0, 0] S1x1x128x256.size inb_S8x6x128x256_S1x1x128x256_4_3_0_0).toLoadRect
      (sl.HS1_w148 c arg2 harg2 arg8 x0) = words (q_r_278 x0) := by
  unfold sl.HS1_w148 sl.HS1_w147 sl.HS1_w146 sl.HS1_w145
  exact bd4 arg8 _ (s_36 c arg2 harg2 arg8 x0).1 4 3 (q_r_278 x0) _ _ _ _ _ _ _ _ _ _ _ _ _
    (by first | (simp only [e_r_302] <;> rfl))
    (by first | (simp only [e_r_278] <;> rfl))
    (by first | (simp only [e_r_278] <;> rfl))
    (by first | (simp only [e_r_278] <;> rfl))
    (mem_lt _) (mem_ge _) (mem_lt _) (mem_ge _)

theorem e_r_303 : sl.r_303 c arg2 harg2 arg8 x0 =
    q_r_303 x0 := by
  unfold sl.r_303
  rw [(s_37 c arg2 harg2 arg8 x0).2]
  simp only [e_r_260, e_r_278, e_r_290, qpay635_eq, q_r_303]

theorem e_r_304 : sl.r_304 c arg2 harg2 arg8 x0 =
    q_r_304 x0 := by
  simp only [sl.r_304, e_r_279, q_r_304]

theorem s_38 : Good arg8 (sl.HS1_w152 c arg2 harg2 arg8 x0) ∧
    View.readAt (Elt Bits) arg8.view (Rect.unit (s := S8x6x128x256) ![5, 3, 0, 0] S1x1x128x256.size inb_S8x6x128x256_S1x1x128x256_5_3_0_0).toLoadRect
      (sl.HS1_w152 c arg2 harg2 arg8 x0) = words (q_r_279 x0) := by
  unfold sl.HS1_w152 sl.HS1_w151 sl.HS1_w150 sl.HS1_w149
  exact bd4 arg8 _ (s_37 c arg2 harg2 arg8 x0).1 5 3 (q_r_279 x0) _ _ _ _ _ _ _ _ _ _ _ _ _
    (by first | (simp only [e_r_304] <;> rfl))
    (by first | (simp only [e_r_279] <;> rfl))
    (by first | (simp only [e_r_279] <;> rfl))
    (by first | (simp only [e_r_279] <;> rfl))
    (mem_lt _) (mem_ge _) (mem_lt _) (mem_ge _)

theorem e_r_305 : sl.r_305 c arg2 harg2 arg8 x0 =
    q_r_305 x0 := by
  unfold sl.r_305
  rw [(s_38 c arg2 harg2 arg8 x0).2]
  simp only [e_r_261, e_r_279, e_r_292, qpay644_eq, q_r_305]

theorem e_r_306 : sl.r_306 c arg2 harg2 arg8 x0 =
    q_r_306 x0 := by
  simp only [sl.r_306, e_r_280, q_r_306]

theorem s_39 : Good arg8 (sl.HS1_w156 c arg2 harg2 arg8 x0) ∧
    View.readAt (Elt Bits) arg8.view (Rect.unit (s := S8x6x128x256) ![6, 3, 0, 0] S1x1x128x256.size inb_S8x6x128x256_S1x1x128x256_6_3_0_0).toLoadRect
      (sl.HS1_w156 c arg2 harg2 arg8 x0) = words (q_r_280 x0) := by
  unfold sl.HS1_w156 sl.HS1_w155 sl.HS1_w154 sl.HS1_w153
  exact bd4 arg8 _ (s_38 c arg2 harg2 arg8 x0).1 6 3 (q_r_280 x0) _ _ _ _ _ _ _ _ _ _ _ _ _
    (by first | (simp only [e_r_280] <;> rfl))
    (by first | (simp only [e_r_306] <;> rfl))
    (by first | (simp only [e_r_280] <;> rfl))
    (by first | (simp only [e_r_280] <;> rfl))
    (mem_lt _) (mem_ge _) (mem_lt _) (mem_ge _)

theorem e_r_307 : sl.r_307 c arg2 harg2 arg8 x0 =
    q_r_307 x0 := by
  unfold sl.r_307
  rw [(s_39 c arg2 harg2 arg8 x0).2]
  simp only [e_r_262, e_r_280, e_r_294, qpay654_eq, q_r_307]

theorem e_r_308 : sl.r_308 c arg2 harg2 arg8 x0 =
    q_r_308 x0 := by
  simp only [sl.r_308, e_r_281, q_r_308]

theorem s_40 : Good arg8 (sl.HS1_w160 c arg2 harg2 arg8 x0) ∧
    View.readAt (Elt Bits) arg8.view (Rect.unit (s := S8x6x128x256) ![7, 3, 0, 0] S1x1x128x256.size inb_S8x6x128x256_S1x1x128x256_7_3_0_0).toLoadRect
      (sl.HS1_w160 c arg2 harg2 arg8 x0) = words (q_r_281 x0) := by
  unfold sl.HS1_w160 sl.HS1_w159 sl.HS1_w158 sl.HS1_w157
  exact bd4 arg8 _ (s_39 c arg2 harg2 arg8 x0).1 7 3 (q_r_281 x0) _ _ _ _ _ _ _ _ _ _ _ _ _
    (by first | (simp only [e_r_281] <;> rfl))
    (by first | (simp only [e_r_308] <;> rfl))
    (by first | (simp only [e_r_281] <;> rfl))
    (by first | (simp only [e_r_281] <;> rfl))
    (mem_lt _) (mem_ge _) (mem_lt _) (mem_ge _)

theorem e_r_309 : sl.r_309 c arg2 harg2 arg8 x0 =
    q_r_309 x0 := by
  unfold sl.r_309
  rw [(s_40 c arg2 harg2 arg8 x0).2]
  simp only [e_r_264, e_r_281, e_r_295, qpay663_eq, q_r_309]

theorem e_r_311 : sl.r_311 c arg2 harg2 arg8 x0 =
    q_r_311 x0 := by
  simp only [sl.r_311, e_r_163, q_r_311]

theorem e_r_312 : sl.r_312 c arg2 harg2 arg8 x0 =
    q_r_312 x0 := by
  simp only [sl.r_312, e_r_164, q_r_312]

theorem e_r_313 : sl.r_313 c arg2 harg2 arg8 x0 =
    q_r_313 x0 := by
  simp only [sl.r_313, e_r_165, q_r_313]

theorem e_r_314 : sl.r_314 c arg2 harg2 arg8 x0 =
    q_r_314 x0 := by
  simp only [sl.r_314, e_r_166, q_r_314]

theorem e_r_315 : sl.r_315 c arg2 harg2 arg8 x0 =
    q_r_315 x0 := by
  simp only [sl.r_315, e_r_167, q_r_315]

theorem e_r_316 : sl.r_316 c arg2 harg2 arg8 x0 =
    q_r_316 x0 := by
  simp only [sl.r_316, e_r_168, q_r_316]

theorem e_r_317 : sl.r_317 c arg2 harg2 arg8 x0 =
    q_r_317 x0 := by
  simp only [sl.r_317, e_r_169, q_r_317]

theorem e_r_318 : sl.r_318 c arg2 harg2 arg8 x0 =
    q_r_318 x0 := by
  simp only [sl.r_318, e_r_170, q_r_318]

theorem e_r_319 : sl.r_319 c arg2 harg2 arg8 x0 =
    q_r_319 x0 := by
  simp only [sl.r_319, e_r_297, q_r_319]

theorem e_r_320 : sl.r_320 c arg2 harg2 arg8 x0 =
    q_r_320 x0 := by
  simp only [sl.r_320, e_r_298, q_r_320]

theorem e_r_321 : sl.r_321 c arg2 harg2 arg8 x0 =
    q_r_321 x0 := by
  simp only [sl.r_321, e_r_300, q_r_321]

theorem e_r_322 : sl.r_322 c arg2 harg2 arg8 x0 =
    q_r_322 x0 := by
  simp only [sl.r_322, e_r_301, q_r_322]

theorem e_r_323 : sl.r_323 c arg2 harg2 arg8 x0 =
    q_r_323 x0 := by
  simp only [sl.r_323, e_r_303, q_r_323]

theorem e_r_324 : sl.r_324 c arg2 harg2 arg8 x0 =
    q_r_324 x0 := by
  simp only [sl.r_324, e_r_305, q_r_324]

theorem e_r_325 : sl.r_325 c arg2 harg2 arg8 x0 =
    q_r_325 x0 := by
  simp only [sl.r_325, e_r_307, q_r_325]

theorem e_r_326 : sl.r_326 c arg2 harg2 arg8 x0 =
    q_r_326 x0 := by
  simp only [sl.r_326, e_r_309, q_r_326]

theorem s_41 : Good arg8 (sl.HS1_w164 c arg2 harg2 arg8 x0) ∧
    View.readAt (Elt Bits) arg8.view (Rect.unit (s := S8x6x128x256) ![0, 2, 0, 0] S1x1x128x256.size inb_S8x6x128x256_S1x1x128x256_0_2_0_0).toLoadRect
      (sl.HS1_w164 c arg2 harg2 arg8 x0) = words (q_r_311 x0) := by
  unfold sl.HS1_w164 sl.HS1_w163 sl.HS1_w162 sl.HS1_w161
  exact bd4 arg8 _ (s_40 c arg2 harg2 arg8 x0).1 0 2 (q_r_311 x0) _ _ _ _ _ _ _ _ _ _ _ _ _
    (by first | (simp only [e_r_311] <;> rfl))
    (by first | (simp only [e_r_311] <;> rfl))
    (by first | (simp only [e_r_311] <;> rfl))
    (by first | (simp only [e_r_311] <;> rfl))
    (mem_lt _) (mem_ge _) (mem_lt _) (mem_ge _)

theorem e_r_327 : sl.r_327 c arg2 harg2 arg8 x0 =
    q_r_327 x0 := by
  unfold sl.r_327
  rw [(s_41 c arg2 harg2 arg8 x0).2]
  simp only [e_r_311, e_r_319, qpay693_eq, q_r_327]

theorem s_42 : Good arg8 (sl.HS1_w168 c arg2 harg2 arg8 x0) ∧
    View.readAt (Elt Bits) arg8.view (Rect.unit (s := S8x6x128x256) ![1, 2, 0, 0] S1x1x128x256.size inb_S8x6x128x256_S1x1x128x256_1_2_0_0).toLoadRect
      (sl.HS1_w168 c arg2 harg2 arg8 x0) = words (q_r_312 x0) := by
  unfold sl.HS1_w168 sl.HS1_w167 sl.HS1_w166 sl.HS1_w165
  exact bd4 arg8 _ (s_41 c arg2 harg2 arg8 x0).1 1 2 (q_r_312 x0) _ _ _ _ _ _ _ _ _ _ _ _ _
    (by first | (simp only [e_r_312] <;> rfl))
    (by first | (simp only [e_r_312] <;> rfl))
    (by first | (simp only [e_r_312] <;> rfl))
    (by first | (simp only [e_r_312] <;> rfl))
    (mem_lt _) (mem_ge _) (mem_lt _) (mem_ge _)

theorem e_r_328 : sl.r_328 c arg2 harg2 arg8 x0 =
    shapeCast S128x256 (words (q_r_312 x0)) shapeCasts_S1x1x128x256_S128x256 := by
  unfold sl.r_328
  rw [(s_42 c arg2 harg2 arg8 x0).2]
  simp only [e_r_312, k0_pay702]

theorem e_r_329 : sl.r_329 c arg2 harg2 arg8 x0 =
    q_r_329 x0 := by
  unfold sl.r_329
  simp only [e_r_312, e_r_320, e_r_328, qpay703_eq, q_r_329]

theorem s_43 : Good arg8 (sl.HS1_w172 c arg2 harg2 arg8 x0) ∧
    View.readAt (Elt Bits) arg8.view (Rect.unit (s := S8x6x128x256) ![2, 2, 0, 0] S1x1x128x256.size inb_S8x6x128x256_S1x1x128x256_2_2_0_0).toLoadRect
      (sl.HS1_w172 c arg2 harg2 arg8 x0) = words (q_r_313 x0) := by
  unfold sl.HS1_w172 sl.HS1_w171 sl.HS1_w170 sl.HS1_w169
  exact bd4 arg8 _ (s_42 c arg2 harg2 arg8 x0).1 2 2 (q_r_313 x0) _ _ _ _ _ _ _ _ _ _ _ _ _
    (by first | (simp only [e_r_313] <;> rfl))
    (by first | (simp only [e_r_313] <;> rfl))
    (by first | (simp only [e_r_313] <;> rfl))
    (by first | (simp only [e_r_313] <;> rfl))
    (mem_lt _) (mem_ge _) (mem_lt _) (mem_ge _)

theorem e_r_330 : sl.r_330 c arg2 harg2 arg8 x0 =
    q_r_330 x0 := by
  unfold sl.r_330
  rw [(s_43 c arg2 harg2 arg8 x0).2]
  simp only [e_r_313, e_r_321, qpay712_eq, q_r_330]

theorem e_r_331 : sl.r_331 c arg2 harg2 arg8 x0 =
    q_r_331 x0 := by
  simp only [sl.r_331, e_r_314, q_r_331]

theorem s_44 : Good arg8 (sl.HS1_w176 c arg2 harg2 arg8 x0) ∧
    View.readAt (Elt Bits) arg8.view (Rect.unit (s := S8x6x128x256) ![3, 2, 0, 0] S1x1x128x256.size inb_S8x6x128x256_S1x1x128x256_3_2_0_0).toLoadRect
      (sl.HS1_w176 c arg2 harg2 arg8 x0) = words (q_r_314 x0) := by
  unfold sl.HS1_w176 sl.HS1_w175 sl.HS1_w174 sl.HS1_w173
  exact bd4 arg8 _ (s_43 c arg2 harg2 arg8 x0).1 3 2 (q_r_314 x0) _ _ _ _ _ _ _ _ _ _ _ _ _
    (by first | (simp only [e_r_331] <;> rfl))
    (by first | (simp only [e_r_314] <;> rfl))
    (by first | (simp only [e_r_314] <;> rfl))
    (by first | (simp only [e_r_314] <;> rfl))
    (mem_lt _) (mem_ge _) (mem_lt _) (mem_ge _)

theorem e_r_332 : sl.r_332 c arg2 harg2 arg8 x0 =
    q_r_332 x0 := by
  unfold sl.r_332
  rw [(s_44 c arg2 harg2 arg8 x0).2]
  simp only [e_r_314, e_r_322, qpay722_eq, q_r_332]

theorem e_r_333 : sl.r_333 c arg2 harg2 arg8 x0 =
    q_r_333 x0 := by
  simp only [sl.r_333, e_r_315, q_r_333]

theorem s_45 : Good arg8 (sl.HS1_w180 c arg2 harg2 arg8 x0) ∧
    View.readAt (Elt Bits) arg8.view (Rect.unit (s := S8x6x128x256) ![4, 2, 0, 0] S1x1x128x256.size inb_S8x6x128x256_S1x1x128x256_4_2_0_0).toLoadRect
      (sl.HS1_w180 c arg2 harg2 arg8 x0) = words (q_r_315 x0) := by
  unfold sl.HS1_w180 sl.HS1_w179 sl.HS1_w178 sl.HS1_w177
  exact bd4 arg8 _ (s_44 c arg2 harg2 arg8 x0).1 4 2 (q_r_315 x0) _ _ _ _ _ _ _ _ _ _ _ _ _
    (by first | (simp only [e_r_333] <;> rfl))
    (by first | (simp only [e_r_315] <;> rfl))
    (by first | (simp only [e_r_315] <;> rfl))
    (by first | (simp only [e_r_315] <;> rfl))
    (mem_lt _) (mem_ge _) (mem_lt _) (mem_ge _)

theorem e_r_334 : sl.r_334 c arg2 harg2 arg8 x0 =
    q_r_334 x0 := by
  unfold sl.r_334
  rw [(s_45 c arg2 harg2 arg8 x0).2]
  simp only [e_r_315, e_r_323, qpay732_eq, q_r_334]

theorem e_r_335 : sl.r_335 c arg2 harg2 arg8 x0 =
    q_r_335 x0 := by
  simp only [sl.r_335, e_r_316, q_r_335]

theorem s_46 : Good arg8 (sl.HS1_w184 c arg2 harg2 arg8 x0) ∧
    View.readAt (Elt Bits) arg8.view (Rect.unit (s := S8x6x128x256) ![5, 2, 0, 0] S1x1x128x256.size inb_S8x6x128x256_S1x1x128x256_5_2_0_0).toLoadRect
      (sl.HS1_w184 c arg2 harg2 arg8 x0) = words (q_r_316 x0) := by
  unfold sl.HS1_w184 sl.HS1_w183 sl.HS1_w182 sl.HS1_w181
  exact bd4 arg8 _ (s_45 c arg2 harg2 arg8 x0).1 5 2 (q_r_316 x0) _ _ _ _ _ _ _ _ _ _ _ _ _
    (by first | (simp only [e_r_316] <;> rfl))
    (by first | (simp only [e_r_335] <;> rfl))
    (by first | (simp only [e_r_316] <;> rfl))
    (by first | (simp only [e_r_316] <;> rfl))
    (mem_lt _) (mem_ge _) (mem_lt _) (mem_ge _)

theorem e_r_336 : sl.r_336 c arg2 harg2 arg8 x0 =
    q_r_336 x0 := by
  unfold sl.r_336
  rw [(s_46 c arg2 harg2 arg8 x0).2]
  simp only [e_r_316, e_r_324, qpay742_eq, q_r_336]

theorem e_r_337 : sl.r_337 c arg2 harg2 arg8 x0 =
    q_r_337 x0 := by
  simp only [sl.r_337, e_r_317, q_r_337]

theorem s_47 : Good arg8 (sl.HS1_w188 c arg2 harg2 arg8 x0) ∧
    View.readAt (Elt Bits) arg8.view (Rect.unit (s := S8x6x128x256) ![6, 2, 0, 0] S1x1x128x256.size inb_S8x6x128x256_S1x1x128x256_6_2_0_0).toLoadRect
      (sl.HS1_w188 c arg2 harg2 arg8 x0) = words (q_r_317 x0) := by
  unfold sl.HS1_w188 sl.HS1_w187 sl.HS1_w186 sl.HS1_w185
  exact bd4 arg8 _ (s_46 c arg2 harg2 arg8 x0).1 6 2 (q_r_317 x0) _ _ _ _ _ _ _ _ _ _ _ _ _
    (by first | (simp only [e_r_317] <;> rfl))
    (by first | (simp only [e_r_337] <;> rfl))
    (by first | (simp only [e_r_317] <;> rfl))
    (by first | (simp only [e_r_317] <;> rfl))
    (mem_lt _) (mem_ge _) (mem_lt _) (mem_ge _)

theorem e_r_338 : sl.r_338 c arg2 harg2 arg8 x0 =
    q_r_338 x0 := by
  unfold sl.r_338
  rw [(s_47 c arg2 harg2 arg8 x0).2]
  simp only [e_r_317, e_r_325, qpay751_eq, q_r_338]

theorem e_r_339 : sl.r_339 c arg2 harg2 arg8 x0 =
    q_r_339 x0 := by
  simp only [sl.r_339, e_r_318, q_r_339]

theorem s_48 : Good arg8 (sl.HS1_w192 c arg2 harg2 arg8 x0) ∧
    View.readAt (Elt Bits) arg8.view (Rect.unit (s := S8x6x128x256) ![7, 2, 0, 0] S1x1x128x256.size inb_S8x6x128x256_S1x1x128x256_7_2_0_0).toLoadRect
      (sl.HS1_w192 c arg2 harg2 arg8 x0) = words (q_r_318 x0) := by
  unfold sl.HS1_w192 sl.HS1_w191 sl.HS1_w190 sl.HS1_w189
  exact bd4 arg8 _ (s_47 c arg2 harg2 arg8 x0).1 7 2 (q_r_318 x0) _ _ _ _ _ _ _ _ _ _ _ _ _
    (by first | (simp only [e_r_318] <;> rfl))
    (by first | (simp only [e_r_318] <;> rfl))
    (by first | (simp only [e_r_339] <;> rfl))
    (by first | (simp only [e_r_318] <;> rfl))
    (mem_lt _) (mem_ge _) (mem_lt _) (mem_ge _)

theorem e_r_340 : sl.r_340 c arg2 harg2 arg8 x0 =
    q_r_340 x0 := by
  unfold sl.r_340
  rw [(s_48 c arg2 harg2 arg8 x0).2]
  simp only [e_r_318, e_r_326, qpay761_eq, q_r_340]

theorem e_r_341 : sl.r_341 c arg2 harg2 arg8 x0 =
    q_r_341 x0 := by
  simp only [sl.r_341, e_r_319, q_r_341]

theorem s_49 : Good arg8 (sl.HS1_w196 c arg2 harg2 arg8 x0) ∧
    View.readAt (Elt Bits) arg8.view (Rect.unit (s := S8x6x128x256) ![0, 3, 0, 0] S1x1x128x256.size inb_S8x6x128x256_S1x1x128x256_0_3_0_0).toLoadRect
      (sl.HS1_w196 c arg2 harg2 arg8 x0) = words (q_r_319 x0) := by
  unfold sl.HS1_w196 sl.HS1_w195 sl.HS1_w194 sl.HS1_w193
  exact bd4 arg8 _ (s_48 c arg2 harg2 arg8 x0).1 0 3 (q_r_319 x0) _ _ _ _ _ _ _ _ _ _ _ _ _
    (by first | (simp only [e_r_319] <;> rfl))
    (by first | (simp only [e_r_319] <;> rfl))
    (by first | (simp only [e_r_341] <;> rfl))
    (by first | (simp only [e_r_319] <;> rfl))
    (mem_lt _) (mem_ge _) (mem_lt _) (mem_ge _)

theorem e_r_342 : sl.r_342 c arg2 harg2 arg8 x0 =
    q_r_342 x0 := by
  unfold sl.r_342
  rw [(s_49 c arg2 harg2 arg8 x0).2]
  simp only [e_r_297, e_r_319, e_r_327, qpay770_eq, q_r_342]

theorem e_r_343 : sl.r_343 c arg2 harg2 arg8 x0 =
    q_r_343 x0 := by
  simp only [sl.r_343, e_r_320, q_r_343]

theorem s_50 : Good arg8 (sl.HS1_w200 c arg2 harg2 arg8 x0) ∧
    View.readAt (Elt Bits) arg8.view (Rect.unit (s := S8x6x128x256) ![1, 3, 0, 0] S1x1x128x256.size inb_S8x6x128x256_S1x1x128x256_1_3_0_0).toLoadRect
      (sl.HS1_w200 c arg2 harg2 arg8 x0) = words (q_r_320 x0) := by
  unfold sl.HS1_w200 sl.HS1_w199 sl.HS1_w198 sl.HS1_w197
  exact bd4 arg8 _ (s_49 c arg2 harg2 arg8 x0).1 1 3 (q_r_320 x0) _ _ _ _ _ _ _ _ _ _ _ _ _
    (by first | (simp only [e_r_320] <;> rfl))
    (by first | (simp only [e_r_320] <;> rfl))
    (by first | (simp only [e_r_320] <;> rfl))
    (by first | (simp only [e_r_343] <;> rfl))
    (mem_lt _) (mem_ge _) (mem_lt _) (mem_ge _)

theorem e_r_344 : sl.r_344 c arg2 harg2 arg8 x0 =
    q_r_344 x0 := by
  unfold sl.r_344
  rw [(s_50 c arg2 harg2 arg8 x0).2]
  simp only [e_r_298, e_r_320, e_r_329, qpay780_eq, q_r_344]

theorem s_51 : Good arg8 (sl.HS1_w204 c arg2 harg2 arg8 x0) ∧
    View.readAt (Elt Bits) arg8.view (Rect.unit (s := S8x6x128x256) ![2, 3, 0, 0] S1x1x128x256.size inb_S8x6x128x256_S1x1x128x256_2_3_0_0).toLoadRect
      (sl.HS1_w204 c arg2 harg2 arg8 x0) = words (q_r_321 x0) := by
  unfold sl.HS1_w204 sl.HS1_w203 sl.HS1_w202 sl.HS1_w201
  exact bd4 arg8 _ (s_50 c arg2 harg2 arg8 x0).1 2 3 (q_r_321 x0) _ _ _ _ _ _ _ _ _ _ _ _ _
    (by first | (simp only [e_r_321] <;> rfl))
    (by first | (simp only [e_r_321] <;> rfl))
    (by first | (simp only [e_r_321] <;> rfl))
    (by first | (simp only [e_r_321] <;> rfl))
    (mem_lt _) (mem_ge _) (mem_lt _) (mem_ge _)

theorem e_r_345 : sl.r_345 c arg2 harg2 arg8 x0 =
    q_r_345 x0 := by
  unfold sl.r_345
  rw [(s_51 c arg2 harg2 arg8 x0).2]
  simp only [e_r_300, e_r_321, e_r_330, qpay789_eq, q_r_345]

theorem s_52 : Good arg8 (sl.HS1_w208 c arg2 harg2 arg8 x0) ∧
    View.readAt (Elt Bits) arg8.view (Rect.unit (s := S8x6x128x256) ![3, 3, 0, 0] S1x1x128x256.size inb_S8x6x128x256_S1x1x128x256_3_3_0_0).toLoadRect
      (sl.HS1_w208 c arg2 harg2 arg8 x0) = words (q_r_322 x0) := by
  unfold sl.HS1_w208 sl.HS1_w207 sl.HS1_w206 sl.HS1_w205
  exact bd4 arg8 _ (s_51 c arg2 harg2 arg8 x0).1 3 3 (q_r_322 x0) _ _ _ _ _ _ _ _ _ _ _ _ _
    (by first | (simp only [e_r_322] <;> rfl))
    (by first | (simp only [e_r_322] <;> rfl))
    (by first | (simp only [e_r_322] <;> rfl))
    (by first | (simp only [e_r_322] <;> rfl))
    (mem_lt _) (mem_ge _) (mem_lt _) (mem_ge _)

theorem e_r_346 : sl.r_346 c arg2 harg2 arg8 x0 =
    shapeCast S128x256 (words (q_r_322 x0)) shapeCasts_S1x1x128x256_S128x256 := by
  unfold sl.r_346
  rw [(s_52 c arg2 harg2 arg8 x0).2]
  simp only [e_r_322, k0_pay798]

theorem e_r_347 : sl.r_347 c arg2 harg2 arg8 x0 =
    q_r_347 x0 := by
  unfold sl.r_347
  simp only [e_r_301, e_r_322, e_r_332, e_r_346, qpay799_eq, q_r_347]

theorem s_53 : Good arg8 (sl.HS1_w212 c arg2 harg2 arg8 x0) ∧
    View.readAt (Elt Bits) arg8.view (Rect.unit (s := S8x6x128x256) ![4, 3, 0, 0] S1x1x128x256.size inb_S8x6x128x256_S1x1x128x256_4_3_0_0).toLoadRect
      (sl.HS1_w212 c arg2 harg2 arg8 x0) = words (q_r_323 x0) := by
  unfold sl.HS1_w212 sl.HS1_w211 sl.HS1_w210 sl.HS1_w209
  exact bd4 arg8 _ (s_52 c arg2 harg2 arg8 x0).1 4 3 (q_r_323 x0) _ _ _ _ _ _ _ _ _ _ _ _ _
    (by first | (simp only [e_r_323] <;> rfl))
    (by first | (simp only [e_r_323] <;> rfl))
    (by first | (simp only [e_r_323] <;> rfl))
    (by first | (simp only [e_r_323] <;> rfl))
    (mem_lt _) (mem_ge _) (mem_lt _) (mem_ge _)

theorem e_r_348 : sl.r_348 c arg2 harg2 arg8 x0 =
    q_r_348 x0 := by
  unfold sl.r_348
  rw [(s_53 c arg2 harg2 arg8 x0).2]
  simp only [e_r_303, e_r_323, e_r_334, qpay808_eq, q_r_348]

theorem e_r_349 : sl.r_349 c arg2 harg2 arg8 x0 =
    q_r_349 x0 := by
  simp only [sl.r_349, e_r_324, q_r_349]

theorem s_54 : Good arg8 (sl.HS1_w216 c arg2 harg2 arg8 x0) ∧
    View.readAt (Elt Bits) arg8.view (Rect.unit (s := S8x6x128x256) ![5, 3, 0, 0] S1x1x128x256.size inb_S8x6x128x256_S1x1x128x256_5_3_0_0).toLoadRect
      (sl.HS1_w216 c arg2 harg2 arg8 x0) = words (q_r_324 x0) := by
  unfold sl.HS1_w216 sl.HS1_w215 sl.HS1_w214 sl.HS1_w213
  exact bd4 arg8 _ (s_53 c arg2 harg2 arg8 x0).1 5 3 (q_r_324 x0) _ _ _ _ _ _ _ _ _ _ _ _ _
    (by first | (simp only [e_r_349] <;> rfl))
    (by first | (simp only [e_r_324] <;> rfl))
    (by first | (simp only [e_r_324] <;> rfl))
    (by first | (simp only [e_r_324] <;> rfl))
    (mem_lt _) (mem_ge _) (mem_lt _) (mem_ge _)

theorem e_r_350 : sl.r_350 c arg2 harg2 arg8 x0 =
    q_r_350 x0 := by
  unfold sl.r_350
  rw [(s_54 c arg2 harg2 arg8 x0).2]
  simp only [e_r_305, e_r_324, e_r_336, qpay818_eq, q_r_350]

theorem e_r_351 : sl.r_351 c arg2 harg2 arg8 x0 =
    q_r_351 x0 := by
  simp only [sl.r_351, e_r_325, q_r_351]

theorem s_55 : Good arg8 (sl.HS1_w220 c arg2 harg2 arg8 x0) ∧
    View.readAt (Elt Bits) arg8.view (Rect.unit (s := S8x6x128x256) ![6, 3, 0, 0] S1x1x128x256.size inb_S8x6x128x256_S1x1x128x256_6_3_0_0).toLoadRect
      (sl.HS1_w220 c arg2 harg2 arg8 x0) = words (q_r_325 x0) := by
  unfold sl.HS1_w220 sl.HS1_w219 sl.HS1_w218 sl.HS1_w217
  exact bd4 arg8 _ (s_54 c arg2 harg2 arg8 x0).1 6 3 (q_r_325 x0) _ _ _ _ _ _ _ _ _ _ _ _ _
    (by first | (simp only [e_r_351] <;> rfl))
    (by first | (simp only [e_r_325] <;> rfl))
    (by first | (simp only [e_r_325] <;> rfl))
    (by first | (simp only [e_r_325] <;> rfl))
    (mem_lt _) (mem_ge _) (mem_lt _) (mem_ge _)

theorem e_r_352 : sl.r_352 c arg2 harg2 arg8 x0 =
    q_r_352 x0 := by
  unfold sl.r_352
  rw [(s_55 c arg2 harg2 arg8 x0).2]
  simp only [e_r_307, e_r_325, e_r_338, qpay828_eq, q_r_352]

theorem e_r_353 : sl.r_353 c arg2 harg2 arg8 x0 =
    q_r_353 x0 := by
  simp only [sl.r_353, e_r_326, q_r_353]

theorem s_56 : Good arg8 (sl.HS1_w224 c arg2 harg2 arg8 x0) ∧
    View.readAt (Elt Bits) arg8.view (Rect.unit (s := S8x6x128x256) ![7, 3, 0, 0] S1x1x128x256.size inb_S8x6x128x256_S1x1x128x256_7_3_0_0).toLoadRect
      (sl.HS1_w224 c arg2 harg2 arg8 x0) = words (q_r_326 x0) := by
  unfold sl.HS1_w224 sl.HS1_w223 sl.HS1_w222 sl.HS1_w221
  exact bd4 arg8 _ (s_55 c arg2 harg2 arg8 x0).1 7 3 (q_r_326 x0) _ _ _ _ _ _ _ _ _ _ _ _ _
    (by first | (simp only [e_r_326] <;> rfl))
    (by first | (simp only [e_r_353] <;> rfl))
    (by first | (simp only [e_r_326] <;> rfl))
    (by first | (simp only [e_r_326] <;> rfl))
    (mem_lt _) (mem_ge _) (mem_lt _) (mem_ge _)

theorem e_r_354 : sl.r_354 c arg2 harg2 arg8 x0 =
    q_r_354 x0 := by
  unfold sl.r_354
  rw [(s_56 c arg2 harg2 arg8 x0).2]
  simp only [e_r_309, e_r_326, e_r_340, qpay838_eq, q_r_354]

theorem e_r_356 : sl.r_356 c arg2 harg2 arg8 x0 =
    q_r_356 x0 := by
  simp only [sl.r_356, e_r_163, q_r_356]

theorem e_r_357 : sl.r_357 c arg2 harg2 arg8 x0 =
    q_r_357 x0 := by
  simp only [sl.r_357, e_r_164, q_r_357]

theorem e_r_358 : sl.r_358 c arg2 harg2 arg8 x0 =
    q_r_358 x0 := by
  simp only [sl.r_358, e_r_165, q_r_358]

theorem e_r_359 : sl.r_359 c arg2 harg2 arg8 x0 =
    q_r_359 x0 := by
  simp only [sl.r_359, e_r_166, q_r_359]

theorem e_r_360 : sl.r_360 c arg2 harg2 arg8 x0 =
    q_r_360 x0 := by
  simp only [sl.r_360, e_r_167, q_r_360]

theorem e_r_361 : sl.r_361 c arg2 harg2 arg8 x0 =
    q_r_361 x0 := by
  simp only [sl.r_361, e_r_168, q_r_361]

theorem e_r_362 : sl.r_362 c arg2 harg2 arg8 x0 =
    q_r_362 x0 := by
  simp only [sl.r_362, e_r_169, q_r_362]

theorem e_r_363 : sl.r_363 c arg2 harg2 arg8 x0 =
    q_r_363 x0 := by
  simp only [sl.r_363, e_r_170, q_r_363]

theorem e_r_364 : sl.r_364 c arg2 harg2 arg8 x0 =
    q_r_364 x0 := by
  simp only [sl.r_364, e_r_342, q_r_364]

theorem e_r_365 : sl.r_365 c arg2 harg2 arg8 x0 =
    q_r_365 x0 := by
  simp only [sl.r_365, e_r_344, q_r_365]

theorem e_r_366 : sl.r_366 c arg2 harg2 arg8 x0 =
    q_r_366 x0 := by
  simp only [sl.r_366, e_r_345, q_r_366]

theorem e_r_367 : sl.r_367 c arg2 harg2 arg8 x0 =
    q_r_367 x0 := by
  simp only [sl.r_367, e_r_347, q_r_367]

theorem e_r_368 : sl.r_368 c arg2 harg2 arg8 x0 =
    q_r_368 x0 := by
  simp only [sl.r_368, e_r_348, q_r_368]

theorem e_r_369 : sl.r_369 c arg2 harg2 arg8 x0 =
    q_r_369 x0 := by
  simp only [sl.r_369, e_r_350, q_r_369]

theorem e_r_370 : sl.r_370 c arg2 harg2 arg8 x0 =
    q_r_370 x0 := by
  simp only [sl.r_370, e_r_352, q_r_370]

theorem e_r_371 : sl.r_371 c arg2 harg2 arg8 x0 =
    q_r_371 x0 := by
  simp only [sl.r_371, e_r_354, q_r_371]

theorem e_r_372 : sl.r_372 c arg2 harg2 arg8 x0 =
    q_r_372 x0 := by
  simp only [sl.r_372, e_r_356, q_r_372]

theorem s_57 : Good arg8 (sl.HS1_w228 c arg2 harg2 arg8 x0) ∧
    View.readAt (Elt Bits) arg8.view (Rect.unit (s := S8x6x128x256) ![0, 2, 0, 0] S1x1x128x256.size inb_S8x6x128x256_S1x1x128x256_0_2_0_0).toLoadRect
      (sl.HS1_w228 c arg2 harg2 arg8 x0) = words (q_r_356 x0) := by
  unfold sl.HS1_w228 sl.HS1_w227 sl.HS1_w226 sl.HS1_w225
  exact bd4 arg8 _ (s_56 c arg2 harg2 arg8 x0).1 0 2 (q_r_356 x0) _ _ _ _ _ _ _ _ _ _ _ _ _
    (by first | (simp only [e_r_356] <;> rfl))
    (by first | (simp only [e_r_356] <;> rfl))
    (by first | (simp only [e_r_356] <;> rfl))
    (by first | (simp only [e_r_372] <;> rfl))
    (mem_lt _) (mem_ge _) (mem_lt _) (mem_ge _)

theorem e_r_373 : sl.r_373 c arg2 harg2 arg8 x0 =
    q_r_373 x0 := by
  unfold sl.r_373
  rw [(s_57 c arg2 harg2 arg8 x0).2]
  simp only [e_r_356, e_r_364, qpay872_eq, q_r_373]

theorem e_r_374 : sl.r_374 c arg2 harg2 arg8 x0 =
    q_r_374 x0 := by
  simp only [sl.r_374, e_r_357, q_r_374]

theorem s_58 : Good arg8 (sl.HS1_w232 c arg2 harg2 arg8 x0) ∧
    View.readAt (Elt Bits) arg8.view (Rect.unit (s := S8x6x128x256) ![1, 2, 0, 0] S1x1x128x256.size inb_S8x6x128x256_S1x1x128x256_1_2_0_0).toLoadRect
      (sl.HS1_w232 c arg2 harg2 arg8 x0) = words (q_r_357 x0) := by
  unfold sl.HS1_w232 sl.HS1_w231 sl.HS1_w230 sl.HS1_w229
  exact bd4 arg8 _ (s_57 c arg2 harg2 arg8 x0).1 1 2 (q_r_357 x0) _ _ _ _ _ _ _ _ _ _ _ _ _
    (by first | (simp only [e_r_357] <;> rfl))
    (by first | (simp only [e_r_357] <;> rfl))
    (by first | (simp only [e_r_357] <;> rfl))
    (by first | (simp only [e_r_374] <;> rfl))
    (mem_lt _) (mem_ge _) (mem_lt _) (mem_ge _)

theorem e_r_375 : sl.r_375 c arg2 harg2 arg8 x0 =
    q_r_375 x0 := by
  unfold sl.r_375
  rw [(s_58 c arg2 harg2 arg8 x0).2]
  simp only [e_r_357, e_r_365, qpay881_eq, q_r_375]

theorem s_59 : Good arg8 (sl.HS1_w236 c arg2 harg2 arg8 x0) ∧
    View.readAt (Elt Bits) arg8.view (Rect.unit (s := S8x6x128x256) ![2, 2, 0, 0] S1x1x128x256.size inb_S8x6x128x256_S1x1x128x256_2_2_0_0).toLoadRect
      (sl.HS1_w236 c arg2 harg2 arg8 x0) = words (q_r_358 x0) := by
  unfold sl.HS1_w236 sl.HS1_w235 sl.HS1_w234 sl.HS1_w233
  exact bd4 arg8 _ (s_58 c arg2 harg2 arg8 x0).1 2 2 (q_r_358 x0) _ _ _ _ _ _ _ _ _ _ _ _ _
    (by first | (simp only [e_r_358] <;> rfl))
    (by first | (simp only [e_r_358] <;> rfl))
    (by first | (simp only [e_r_358] <;> rfl))
    (by first | (simp only [e_r_358] <;> rfl))
    (mem_lt _) (mem_ge _) (mem_lt _) (mem_ge _)

theorem e_r_376 : sl.r_376 c arg2 harg2 arg8 x0 =
    words (q_r_358 x0) := by
  unfold sl.r_376
  rw [(s_59 c arg2 harg2 arg8 x0).2]

theorem e_r_377 : sl.r_377 c arg2 harg2 arg8 x0 =
    q_r_377 x0 := by
  unfold sl.r_377
  simp only [e_r_358, e_r_366, e_r_376, qpay890_eq, q_r_377]

theorem s_60 : Good arg8 (sl.HS1_w240 c arg2 harg2 arg8 x0) ∧
    View.readAt (Elt Bits) arg8.view (Rect.unit (s := S8x6x128x256) ![3, 2, 0, 0] S1x1x128x256.size inb_S8x6x128x256_S1x1x128x256_3_2_0_0).toLoadRect
      (sl.HS1_w240 c arg2 harg2 arg8 x0) = words (q_r_359 x0) := by
  unfold sl.HS1_w240 sl.HS1_w239 sl.HS1_w238 sl.HS1_w237
  exact bd4 arg8 _ (s_59 c arg2 harg2 arg8 x0).1 3 2 (q_r_359 x0) _ _ _ _ _ _ _ _ _ _ _ _ _
    (by first | (simp only [e_r_359] <;> rfl))
    (by first | (simp only [e_r_359] <;> rfl))
    (by first | (simp only [e_r_359] <;> rfl))
    (by first | (simp only [e_r_359] <;> rfl))
    (mem_lt _) (mem_ge _) (mem_lt _) (mem_ge _)

theorem e_r_378 : sl.r_378 c arg2 harg2 arg8 x0 =
    q_r_378 x0 := by
  unfold sl.r_378
  rw [(s_60 c arg2 harg2 arg8 x0).2]
  simp only [e_r_359, e_r_367, qpay899_eq, q_r_378]

theorem e_r_379 : sl.r_379 c arg2 harg2 arg8 x0 =
    q_r_379 x0 := by
  simp only [sl.r_379, e_r_360, q_r_379]

theorem s_61 : Good arg8 (sl.HS1_w244 c arg2 harg2 arg8 x0) ∧
    View.readAt (Elt Bits) arg8.view (Rect.unit (s := S8x6x128x256) ![4, 2, 0, 0] S1x1x128x256.size inb_S8x6x128x256_S1x1x128x256_4_2_0_0).toLoadRect
      (sl.HS1_w244 c arg2 harg2 arg8 x0) = words (q_r_360 x0) := by
  unfold sl.HS1_w244 sl.HS1_w243 sl.HS1_w242 sl.HS1_w241
  exact bd4 arg8 _ (s_60 c arg2 harg2 arg8 x0).1 4 2 (q_r_360 x0) _ _ _ _ _ _ _ _ _ _ _ _ _
    (by first | (simp only [e_r_379] <;> rfl))
    (by first | (simp only [e_r_360] <;> rfl))
    (by first | (simp only [e_r_360] <;> rfl))
    (by first | (simp only [e_r_360] <;> rfl))
    (mem_lt _) (mem_ge _) (mem_lt _) (mem_ge _)

theorem e_r_380 : sl.r_380 c arg2 harg2 arg8 x0 =
    q_r_380 x0 := by
  unfold sl.r_380
  rw [(s_61 c arg2 harg2 arg8 x0).2]
  simp only [e_r_360, e_r_368, qpay909_eq, q_r_380]

theorem e_r_381 : sl.r_381 c arg2 harg2 arg8 x0 =
    q_r_381 x0 := by
  simp only [sl.r_381, e_r_361, q_r_381]

theorem s_62 : Good arg8 (sl.HS1_w248 c arg2 harg2 arg8 x0) ∧
    View.readAt (Elt Bits) arg8.view (Rect.unit (s := S8x6x128x256) ![5, 2, 0, 0] S1x1x128x256.size inb_S8x6x128x256_S1x1x128x256_5_2_0_0).toLoadRect
      (sl.HS1_w248 c arg2 harg2 arg8 x0) = words (q_r_361 x0) := by
  unfold sl.HS1_w248 sl.HS1_w247 sl.HS1_w246 sl.HS1_w245
  exact bd4 arg8 _ (s_61 c arg2 harg2 arg8 x0).1 5 2 (q_r_361 x0) _ _ _ _ _ _ _ _ _ _ _ _ _
    (by first | (simp only [e_r_381] <;> rfl))
    (by first | (simp only [e_r_361] <;> rfl))
    (by first | (simp only [e_r_361] <;> rfl))
    (by first | (simp only [e_r_361] <;> rfl))
    (mem_lt _) (mem_ge _) (mem_lt _) (mem_ge _)

theorem e_r_383 : sl.r_383 c arg2 harg2 arg8 x0 =
    q_r_383 x0 := by
  unfold sl.r_383
  rw [(s_62 c arg2 harg2 arg8 x0).2]
  simp only [e_r_361, e_r_369, qpay919_eq, q_r_383]

theorem e_r_384 : sl.r_384 c arg2 harg2 arg8 x0 =
    q_r_384 x0 := by
  simp only [sl.r_384, e_r_362, q_r_384]

theorem s_63 : Good arg8 (sl.HS1_w252 c arg2 harg2 arg8 x0) ∧
    View.readAt (Elt Bits) arg8.view (Rect.unit (s := S8x6x128x256) ![6, 2, 0, 0] S1x1x128x256.size inb_S8x6x128x256_S1x1x128x256_6_2_0_0).toLoadRect
      (sl.HS1_w252 c arg2 harg2 arg8 x0) = words (q_r_362 x0) := by
  unfold sl.HS1_w252 sl.HS1_w251 sl.HS1_w250 sl.HS1_w249
  exact bd4 arg8 _ (s_62 c arg2 harg2 arg8 x0).1 6 2 (q_r_362 x0) _ _ _ _ _ _ _ _ _ _ _ _ _
    (by first | (simp only [e_r_362] <;> rfl))
    (by first | (simp only [e_r_384] <;> rfl))
    (by first | (simp only [e_r_362] <;> rfl))
    (by first | (simp only [e_r_362] <;> rfl))
    (mem_lt _) (mem_ge _) (mem_lt _) (mem_ge _)

theorem e_r_385 : sl.r_385 c arg2 harg2 arg8 x0 =
    q_r_385 x0 := by
  unfold sl.r_385
  rw [(s_63 c arg2 harg2 arg8 x0).2]
  simp only [e_r_362, e_r_370, qpay929_eq, q_r_385]

theorem e_r_386 : sl.r_386 c arg2 harg2 arg8 x0 =
    q_r_386 x0 := by
  simp only [sl.r_386, e_r_363, q_r_386]

theorem s_64 : Good arg8 (sl.HS1_w256 c arg2 harg2 arg8 x0) ∧
    View.readAt (Elt Bits) arg8.view (Rect.unit (s := S8x6x128x256) ![7, 2, 0, 0] S1x1x128x256.size inb_S8x6x128x256_S1x1x128x256_7_2_0_0).toLoadRect
      (sl.HS1_w256 c arg2 harg2 arg8 x0) = words (q_r_363 x0) := by
  unfold sl.HS1_w256 sl.HS1_w255 sl.HS1_w254 sl.HS1_w253
  exact bd4 arg8 _ (s_63 c arg2 harg2 arg8 x0).1 7 2 (q_r_363 x0) _ _ _ _ _ _ _ _ _ _ _ _ _
    (by first | (simp only [e_r_363] <;> rfl))
    (by first | (simp only [e_r_386] <;> rfl))
    (by first | (simp only [e_r_363] <;> rfl))
    (by first | (simp only [e_r_363] <;> rfl))
    (mem_lt _) (mem_ge _) (mem_lt _) (mem_ge _)

theorem e_r_387 : sl.r_387 c arg2 harg2 arg8 x0 =
    q_r_387 x0 := by
  unfold sl.r_387
  rw [(s_64 c arg2 harg2 arg8 x0).2]
  simp only [e_r_363, e_r_371, qpay939_eq, q_r_387]

theorem e_r_388 : sl.r_388 c arg2 harg2 arg8 x0 =
    q_r_388 x0 := by
  simp only [sl.r_388, e_r_364, q_r_388]

theorem s_65 : Good arg8 (sl.HS1_w260 c arg2 harg2 arg8 x0) ∧
    View.readAt (Elt Bits) arg8.view (Rect.unit (s := S8x6x128x256) ![0, 3, 0, 0] S1x1x128x256.size inb_S8x6x128x256_S1x1x128x256_0_3_0_0).toLoadRect
      (sl.HS1_w260 c arg2 harg2 arg8 x0) = words (q_r_364 x0) := by
  unfold sl.HS1_w260 sl.HS1_w259 sl.HS1_w258 sl.HS1_w257
  exact bd4 arg8 _ (s_64 c arg2 harg2 arg8 x0).1 0 3 (q_r_364 x0) _ _ _ _ _ _ _ _ _ _ _ _ _
    (by first | (simp only [e_r_364] <;> rfl))
    (by first | (simp only [e_r_364] <;> rfl))
    (by first | (simp only [e_r_388] <;> rfl))
    (by first | (simp only [e_r_364] <;> rfl))
    (mem_lt _) (mem_ge _) (mem_lt _) (mem_ge _)

theorem e_r_389 : sl.r_389 c arg2 harg2 arg8 x0 =
    q_r_389 x0 := by
  unfold sl.r_389
  rw [(s_65 c arg2 harg2 arg8 x0).2]
  simp only [e_r_342, e_r_364, e_r_373, qpay949_eq, q_r_389]

theorem e_r_390 : sl.r_390 c arg2 harg2 arg8 x0 =
    q_r_390 x0 := by
  simp only [sl.r_390, e_r_365, q_r_390]

theorem s_66 : Good arg8 (sl.HS1_w264 c arg2 harg2 arg8 x0) ∧
    View.readAt (Elt Bits) arg8.view (Rect.unit (s := S8x6x128x256) ![1, 3, 0, 0] S1x1x128x256.size inb_S8x6x128x256_S1x1x128x256_1_3_0_0).toLoadRect
      (sl.HS1_w264 c arg2 harg2 arg8 x0) = words (q_r_365 x0) := by
  unfold sl.HS1_w264 sl.HS1_w263 sl.HS1_w262 sl.HS1_w261
  exact bd4 arg8 _ (s_65 c arg2 harg2 arg8 x0).1 1 3 (q_r_365 x0) _ _ _ _ _ _ _ _ _ _ _ _ _
    (by first | (simp only [e_r_365] <;> rfl))
    (by first | (simp only [e_r_365] <;> rfl))
    (by first | (simp only [e_r_390] <;> rfl))
    (by first | (simp only [e_r_365] <;> rfl))
    (mem_lt _) (mem_ge _) (mem_lt _) (mem_ge _)

theorem e_r_391 : sl.r_391 c arg2 harg2 arg8 x0 =
    q_r_391 x0 := by
  unfold sl.r_391
  rw [(s_66 c arg2 harg2 arg8 x0).2]
  simp only [e_r_344, e_r_365, e_r_375, qpay958_eq, q_r_391]

theorem e_r_392 : sl.r_392 c arg2 harg2 arg8 x0 =
    q_r_392 x0 := by
  simp only [sl.r_392, e_r_366, q_r_392]

theorem s_67 : Good arg8 (sl.HS1_w268 c arg2 harg2 arg8 x0) ∧
    View.readAt (Elt Bits) arg8.view (Rect.unit (s := S8x6x128x256) ![2, 3, 0, 0] S1x1x128x256.size inb_S8x6x128x256_S1x1x128x256_2_3_0_0).toLoadRect
      (sl.HS1_w268 c arg2 harg2 arg8 x0) = words (q_r_366 x0) := by
  unfold sl.HS1_w268 sl.HS1_w267 sl.HS1_w266 sl.HS1_w265
  exact bd4 arg8 _ (s_66 c arg2 harg2 arg8 x0).1 2 3 (q_r_366 x0) _ _ _ _ _ _ _ _ _ _ _ _ _
    (by first | (simp only [e_r_366] <;> rfl))
    (by first | (simp only [e_r_366] <;> rfl))
    (by first | (simp only [e_r_366] <;> rfl))
    (by first | (simp only [e_r_392] <;> rfl))
    (mem_lt _) (mem_ge _) (mem_lt _) (mem_ge _)

theorem e_r_393 : sl.r_393 c arg2 harg2 arg8 x0 =
    q_r_393 x0 := by
  unfold sl.r_393
  rw [(s_67 c arg2 harg2 arg8 x0).2]
  simp only [e_r_345, e_r_366, e_r_377, qpay968_eq, q_r_393]

theorem e_r_394 : sl.r_394 c arg2 harg2 arg8 x0 =
    q_r_394 x0 := by
  simp only [sl.r_394, e_r_367, q_r_394]

theorem s_68 : Good arg8 (sl.HS1_w272 c arg2 harg2 arg8 x0) ∧
    View.readAt (Elt Bits) arg8.view (Rect.unit (s := S8x6x128x256) ![3, 3, 0, 0] S1x1x128x256.size inb_S8x6x128x256_S1x1x128x256_3_3_0_0).toLoadRect
      (sl.HS1_w272 c arg2 harg2 arg8 x0) = words (q_r_367 x0) := by
  unfold sl.HS1_w272 sl.HS1_w271 sl.HS1_w270 sl.HS1_w269
  exact bd4 arg8 _ (s_67 c arg2 harg2 arg8 x0).1 3 3 (q_r_367 x0) _ _ _ _ _ _ _ _ _ _ _ _ _
    (by first | (simp only [e_r_367] <;> rfl))
    (by first | (simp only [e_r_367] <;> rfl))
    (by first | (simp only [e_r_367] <;> rfl))
    (by first | (simp only [e_r_394] <;> rfl))
    (mem_lt _) (mem_ge _) (mem_lt _) (mem_ge _)

theorem e_r_395 : sl.r_395 c arg2 harg2 arg8 x0 =
    q_r_395 x0 := by
  unfold sl.r_395
  rw [(s_68 c arg2 harg2 arg8 x0).2]
  simp only [e_r_347, e_r_367, e_r_378, qpay977_eq, q_r_395]

theorem s_69 : Good arg8 (sl.HS1_w276 c arg2 harg2 arg8 x0) ∧
    View.readAt (Elt Bits) arg8.view (Rect.unit (s := S8x6x128x256) ![4, 3, 0, 0] S1x1x128x256.size inb_S8x6x128x256_S1x1x128x256_4_3_0_0).toLoadRect
      (sl.HS1_w276 c arg2 harg2 arg8 x0) = words (q_r_368 x0) := by
  unfold sl.HS1_w276 sl.HS1_w275 sl.HS1_w274 sl.HS1_w273
  exact bd4 arg8 _ (s_68 c arg2 harg2 arg8 x0).1 4 3 (q_r_368 x0) _ _ _ _ _ _ _ _ _ _ _ _ _
    (by first | (simp only [e_r_368] <;> rfl))
    (by first | (simp only [e_r_368] <;> rfl))
    (by first | (simp only [e_r_368] <;> rfl))
    (by first | (simp only [e_r_368] <;> rfl))
    (mem_lt _) (mem_ge _) (mem_lt _) (mem_ge _)

theorem e_r_396 : sl.r_396 c arg2 harg2 arg8 x0 =
    words (q_r_368 x0) := by
  unfold sl.r_396
  rw [(s_69 c arg2 harg2 arg8 x0).2]

theorem e_r_397 : sl.r_397 c arg2 harg2 arg8 x0 =
    q_r_397 x0 := by
  unfold sl.r_397
  simp only [e_r_348, e_r_368, e_r_380, e_r_396, qpay986_eq, q_r_397]

theorem s_70 : Good arg8 (sl.HS1_w280 c arg2 harg2 arg8 x0) ∧
    View.readAt (Elt Bits) arg8.view (Rect.unit (s := S8x6x128x256) ![5, 3, 0, 0] S1x1x128x256.size inb_S8x6x128x256_S1x1x128x256_5_3_0_0).toLoadRect
      (sl.HS1_w280 c arg2 harg2 arg8 x0) = words (q_r_369 x0) := by
  unfold sl.HS1_w280 sl.HS1_w279 sl.HS1_w278 sl.HS1_w277
  exact bd4 arg8 _ (s_69 c arg2 harg2 arg8 x0).1 5 3 (q_r_369 x0) _ _ _ _ _ _ _ _ _ _ _ _ _
    (by first | (simp only [e_r_369] <;> rfl))
    (by first | (simp only [e_r_369] <;> rfl))
    (by first | (simp only [e_r_369] <;> rfl))
    (by first | (simp only [e_r_369] <;> rfl))
    (mem_lt _) (mem_ge _) (mem_lt _) (mem_ge _)

theorem e_r_398 : sl.r_398 c arg2 harg2 arg8 x0 =
    q_r_398 x0 := by
  unfold sl.r_398
  rw [(s_70 c arg2 harg2 arg8 x0).2]
  simp only [e_r_350, e_r_369, e_r_383, qpay995_eq, q_r_398]

theorem e_r_399 : sl.r_399 c arg2 harg2 arg8 x0 =
    q_r_399 x0 := by
  simp only [sl.r_399, e_r_370, q_r_399]

theorem s_71 : Good arg8 (sl.HS1_w284 c arg2 harg2 arg8 x0) ∧
    View.readAt (Elt Bits) arg8.view (Rect.unit (s := S8x6x128x256) ![6, 3, 0, 0] S1x1x128x256.size inb_S8x6x128x256_S1x1x128x256_6_3_0_0).toLoadRect
      (sl.HS1_w284 c arg2 harg2 arg8 x0) = words (q_r_370 x0) := by
  unfold sl.HS1_w284 sl.HS1_w283 sl.HS1_w282 sl.HS1_w281
  exact bd4 arg8 _ (s_70 c arg2 harg2 arg8 x0).1 6 3 (q_r_370 x0) _ _ _ _ _ _ _ _ _ _ _ _ _
    (by first | (simp only [e_r_399] <;> rfl))
    (by first | (simp only [e_r_370] <;> rfl))
    (by first | (simp only [e_r_370] <;> rfl))
    (by first | (simp only [e_r_370] <;> rfl))
    (mem_lt _) (mem_ge _) (mem_lt _) (mem_ge _)

theorem e_r_400 : sl.r_400 c arg2 harg2 arg8 x0 =
    q_r_400 x0 := by
  unfold sl.r_400
  rw [(s_71 c arg2 harg2 arg8 x0).2]
  simp only [e_r_352, e_r_370, e_r_385, qpay1005_eq, q_r_400]

theorem e_r_401 : sl.r_401 c arg2 harg2 arg8 x0 =
    q_r_401 x0 := by
  simp only [sl.r_401, e_r_371, q_r_401]

theorem s_72 : Good arg8 (sl.HS1_w288 c arg2 harg2 arg8 x0) ∧
    View.readAt (Elt Bits) arg8.view (Rect.unit (s := S8x6x128x256) ![7, 3, 0, 0] S1x1x128x256.size inb_S8x6x128x256_S1x1x128x256_7_3_0_0).toLoadRect
      (sl.HS1_w288 c arg2 harg2 arg8 x0) = words (q_r_371 x0) := by
  unfold sl.HS1_w288 sl.HS1_w287 sl.HS1_w286 sl.HS1_w285
  exact bd4 arg8 _ (s_71 c arg2 harg2 arg8 x0).1 7 3 (q_r_371 x0) _ _ _ _ _ _ _ _ _ _ _ _ _
    (by first | (simp only [e_r_401] <;> rfl))
    (by first | (simp only [e_r_371] <;> rfl))
    (by first | (simp only [e_r_371] <;> rfl))
    (by first | (simp only [e_r_371] <;> rfl))
    (mem_lt _) (mem_ge _) (mem_lt _) (mem_ge _)

theorem e_r_403 : sl.r_403 c arg2 harg2 arg8 x0 =
    q_r_403 x0 := by
  unfold sl.r_403
  rw [(s_72 c arg2 harg2 arg8 x0).2]
  simp only [e_r_354, e_r_371, e_r_387, qpay1015_eq, q_r_403]

theorem e_r_405 : sl.r_405 c arg2 harg2 arg8 x0 =
    q_r_405 x0 := by
  simp only [sl.r_405, e_r_163, q_r_405]

theorem e_r_406 : sl.r_406 c arg2 harg2 arg8 x0 =
    q_r_406 x0 := by
  simp only [sl.r_406, e_r_164, q_r_406]

theorem e_r_407 : sl.r_407 c arg2 harg2 arg8 x0 =
    q_r_407 x0 := by
  simp only [sl.r_407, e_r_165, q_r_407]

theorem e_r_408 : sl.r_408 c arg2 harg2 arg8 x0 =
    q_r_408 x0 := by
  simp only [sl.r_408, e_r_166, q_r_408]

theorem e_r_409 : sl.r_409 c arg2 harg2 arg8 x0 =
    q_r_409 x0 := by
  simp only [sl.r_409, e_r_167, q_r_409]

theorem e_r_410 : sl.r_410 c arg2 harg2 arg8 x0 =
    q_r_410 x0 := by
  simp only [sl.r_410, e_r_168, q_r_410]

theorem e_r_411 : sl.r_411 c arg2 harg2 arg8 x0 =
    q_r_411 x0 := by
  simp only [sl.r_411, e_r_169, q_r_411]

theorem e_r_412 : sl.r_412 c arg2 harg2 arg8 x0 =
    q_r_412 x0 := by
  simp only [sl.r_412, e_r_170, q_r_412]

theorem e_r_413 : sl.r_413 c arg2 harg2 arg8 x0 =
    q_r_413 x0 := by
  simp only [sl.r_413, e_r_389, q_r_413]

theorem e_r_414 : sl.r_414 c arg2 harg2 arg8 x0 =
    q_r_414 x0 := by
  simp only [sl.r_414, e_r_391, q_r_414]

theorem e_r_415 : sl.r_415 c arg2 harg2 arg8 x0 =
    q_r_415 x0 := by
  simp only [sl.r_415, e_r_393, q_r_415]

theorem e_r_416 : sl.r_416 c arg2 harg2 arg8 x0 =
    q_r_416 x0 := by
  simp only [sl.r_416, e_r_395, q_r_416]

theorem e_r_417 : sl.r_417 c arg2 harg2 arg8 x0 =
    q_r_417 x0 := by
  simp only [sl.r_417, e_r_397, q_r_417]

theorem e_r_418 : sl.r_418 c arg2 harg2 arg8 x0 =
    q_r_418 x0 := by
  simp only [sl.r_418, e_r_398, q_r_418]

theorem e_r_419 : sl.r_419 c arg2 harg2 arg8 x0 =
    q_r_419 x0 := by
  simp only [sl.r_419, e_r_400, q_r_419]

theorem e_r_420 : sl.r_420 c arg2 harg2 arg8 x0 =
    q_r_420 x0 := by
  simp only [sl.r_420, e_r_403, q_r_420]

theorem e_r_421 : sl.r_421 c arg2 harg2 arg8 x0 =
    q_r_421 x0 := by
  simp only [sl.r_421, e_r_405, q_r_421]

theorem s_73 : Good arg8 (sl.HS1_w292 c arg2 harg2 arg8 x0) ∧
    View.readAt (Elt Bits) arg8.view (Rect.unit (s := S8x6x128x256) ![0, 2, 0, 0] S1x1x128x256.size inb_S8x6x128x256_S1x1x128x256_0_2_0_0).toLoadRect
      (sl.HS1_w292 c arg2 harg2 arg8 x0) = words (q_r_405 x0) := by
  unfold sl.HS1_w292 sl.HS1_w291 sl.HS1_w290 sl.HS1_w289
  exact bd4 arg8 _ (s_72 c arg2 harg2 arg8 x0).1 0 2 (q_r_405 x0) _ _ _ _ _ _ _ _ _ _ _ _ _
    (by first | (simp only [e_r_405] <;> rfl))
    (by first | (simp only [e_r_405] <;> rfl))
    (by first | (simp only [e_r_421] <;> rfl))
    (by first | (simp only [e_r_405] <;> rfl))
    (mem_lt _) (mem_ge _) (mem_lt _) (mem_ge _)

theorem e_r_422 : sl.r_422 c arg2 harg2 arg8 x0 =
    q_r_422 x0 := by
  unfold sl.r_422
  rw [(s_73 c arg2 harg2 arg8 x0).2]
  simp only [e_r_405, e_r_413, qpay1048_eq, q_r_422]

theorem e_r_423 : sl.r_423 c arg2 harg2 arg8 x0 =
    q_r_423 x0 := by
  simp only [sl.r_423, e_r_406, q_r_423]

theorem s_74 : Good arg8 (sl.HS1_w296 c arg2 harg2 arg8 x0) ∧
    View.readAt (Elt Bits) arg8.view (Rect.unit (s := S8x6x128x256) ![1, 2, 0, 0] S1x1x128x256.size inb_S8x6x128x256_S1x1x128x256_1_2_0_0).toLoadRect
      (sl.HS1_w296 c arg2 harg2 arg8 x0) = words (q_r_406 x0) := by
  unfold sl.HS1_w296 sl.HS1_w295 sl.HS1_w294 sl.HS1_w293
  exact bd4 arg8 _ (s_73 c arg2 harg2 arg8 x0).1 1 2 (q_r_406 x0) _ _ _ _ _ _ _ _ _ _ _ _ _
    (by first | (simp only [e_r_406] <;> rfl))
    (by first | (simp only [e_r_406] <;> rfl))
    (by first | (simp only [e_r_406] <;> rfl))
    (by first | (simp only [e_r_423] <;> rfl))
    (mem_lt _) (mem_ge _) (mem_lt _) (mem_ge _)

theorem e_r_424 : sl.r_424 c arg2 harg2 arg8 x0 =
    q_r_424 x0 := by
  unfold sl.r_424
  rw [(s_74 c arg2 harg2 arg8 x0).2]
  simp only [e_r_406, e_r_414, qpay1058_eq, q_r_424]

theorem e_r_425 : sl.r_425 c arg2 harg2 arg8 x0 =
    q_r_425 x0 := by
  simp only [sl.r_425, e_r_407, q_r_425]

theorem s_75 : Good arg8 (sl.HS1_w300 c arg2 harg2 arg8 x0) ∧
    View.readAt (Elt Bits) arg8.view (Rect.unit (s := S8x6x128x256) ![2, 2, 0, 0] S1x1x128x256.size inb_S8x6x128x256_S1x1x128x256_2_2_0_0).toLoadRect
      (sl.HS1_w300 c arg2 harg2 arg8 x0) = words (q_r_407 x0) := by
  unfold sl.HS1_w300 sl.HS1_w299 sl.HS1_w298 sl.HS1_w297
  exact bd4 arg8 _ (s_74 c arg2 harg2 arg8 x0).1 2 2 (q_r_407 x0) _ _ _ _ _ _ _ _ _ _ _ _ _
    (by first | (simp only [e_r_407] <;> rfl))
    (by first | (simp only [e_r_407] <;> rfl))
    (by first | (simp only [e_r_407] <;> rfl))
    (by first | (simp only [e_r_425] <;> rfl))
    (mem_lt _) (mem_ge _) (mem_lt _) (mem_ge _)

theorem e_r_426 : sl.r_426 c arg2 harg2 arg8 x0 =
    q_r_426 x0 := by
  unfold sl.r_426
  rw [(s_75 c arg2 harg2 arg8 x0).2]
  simp only [e_r_407, e_r_415, qpay1067_eq, q_r_426]

theorem s_76 : Good arg8 (sl.HS1_w304 c arg2 harg2 arg8 x0) ∧
    View.readAt (Elt Bits) arg8.view (Rect.unit (s := S8x6x128x256) ![3, 2, 0, 0] S1x1x128x256.size inb_S8x6x128x256_S1x1x128x256_3_2_0_0).toLoadRect
      (sl.HS1_w304 c arg2 harg2 arg8 x0) = words (q_r_408 x0) := by
  unfold sl.HS1_w304 sl.HS1_w303 sl.HS1_w302 sl.HS1_w301
  exact bd4 arg8 _ (s_75 c arg2 harg2 arg8 x0).1 3 2 (q_r_408 x0) _ _ _ _ _ _ _ _ _ _ _ _ _
    (by first | (simp only [e_r_408] <;> rfl))
    (by first | (simp only [e_r_408] <;> rfl))
    (by first | (simp only [e_r_408] <;> rfl))
    (by first | (simp only [e_r_408] <;> rfl))
    (mem_lt _) (mem_ge _) (mem_lt _) (mem_ge _)

theorem e_r_427 : sl.r_427 c arg2 harg2 arg8 x0 =
    q_r_427 x0 := by
  unfold sl.r_427
  rw [(s_76 c arg2 harg2 arg8 x0).2]
  simp only [e_r_408, e_r_416, qpay1076_eq, q_r_427]

theorem s_77 : Good arg8 (sl.HS1_w308 c arg2 harg2 arg8 x0) ∧
    View.readAt (Elt Bits) arg8.view (Rect.unit (s := S8x6x128x256) ![4, 2, 0, 0] S1x1x128x256.size inb_S8x6x128x256_S1x1x128x256_4_2_0_0).toLoadRect
      (sl.HS1_w308 c arg2 harg2 arg8 x0) = words (q_r_409 x0) := by
  unfold sl.HS1_w308 sl.HS1_w307 sl.HS1_w306 sl.HS1_w305
  exact bd4 arg8 _ (s_76 c arg2 harg2 arg8 x0).1 4 2 (q_r_409 x0) _ _ _ _ _ _ _ _ _ _ _ _ _
    (by first | (simp only [e_r_409] <;> rfl))
    (by first | (simp only [e_r_409] <;> rfl))
    (by first | (simp only [e_r_409] <;> rfl))
    (by first | (simp only [e_r_409] <;> rfl))
    (mem_lt _) (mem_ge _) (mem_lt _) (mem_ge _)

theorem e_r_428 : sl.r_428 c arg2 harg2 arg8 x0 =
    q_r_428 x0 := by
  unfold sl.r_428
  rw [(s_77 c arg2 harg2 arg8 x0).2]
  simp only [e_r_409, e_r_417, qpay1085_eq, q_r_428]

theorem s_78 : Good arg8 (sl.HS1_w312 c arg2 harg2 arg8 x0) ∧
    View.readAt (Elt Bits) arg8.view (Rect.unit (s := S8x6x128x256) ![5, 2, 0, 0] S1x1x128x256.size inb_S8x6x128x256_S1x1x128x256_5_2_0_0).toLoadRect
      (sl.HS1_w312 c arg2 harg2 arg8 x0) = words (q_r_410 x0) := by
  unfold sl.HS1_w312 sl.HS1_w311 sl.HS1_w310 sl.HS1_w309
  exact bd4 arg8 _ (s_77 c arg2 harg2 arg8 x0).1 5 2 (q_r_410 x0) _ _ _ _ _ _ _ _ _ _ _ _ _
    (by first | (simp only [e_r_410] <;> rfl))
    (by first | (simp only [e_r_410] <;> rfl))
    (by first | (simp only [e_r_410] <;> rfl))
    (by first | (simp only [e_r_410] <;> rfl))
    (mem_lt _) (mem_ge _) (mem_lt _) (mem_ge _)

theorem e_r_429 : sl.r_429 c arg2 harg2 arg8 x0 =
    q_r_429 x0 := by
  unfold sl.r_429
  rw [(s_78 c arg2 harg2 arg8 x0).2]
  simp only [e_r_410, e_r_418, qpay1094_eq, q_r_429]

theorem e_r_430 : sl.r_430 c arg2 harg2 arg8 x0 =
    q_r_430 x0 := by
  simp only [sl.r_430, e_r_411, q_r_430]

theorem s_79 : Good arg8 (sl.HS1_w316 c arg2 harg2 arg8 x0) ∧
    View.readAt (Elt Bits) arg8.view (Rect.unit (s := S8x6x128x256) ![6, 2, 0, 0] S1x1x128x256.size inb_S8x6x128x256_S1x1x128x256_6_2_0_0).toLoadRect
      (sl.HS1_w316 c arg2 harg2 arg8 x0) = words (q_r_411 x0) := by
  unfold sl.HS1_w316 sl.HS1_w315 sl.HS1_w314 sl.HS1_w313
  exact bd4 arg8 _ (s_78 c arg2 harg2 arg8 x0).1 6 2 (q_r_411 x0) _ _ _ _ _ _ _ _ _ _ _ _ _
    (by first | (simp only [e_r_430] <;> rfl))
    (by first | (simp only [e_r_411] <;> rfl))
    (by first | (simp only [e_r_411] <;> rfl))
    (by first | (simp only [e_r_411] <;> rfl))
    (mem_lt _) (mem_ge _) (mem_lt _) (mem_ge _)

theorem e_r_431 : sl.r_431 c arg2 harg2 arg8 x0 =
    q_r_431 x0 := by
  unfold sl.r_431
  rw [(s_79 c arg2 harg2 arg8 x0).2]
  simp only [e_r_411, e_r_419, qpay1104_eq, q_r_431]

theorem e_r_432 : sl.r_432 c arg2 harg2 arg8 x0 =
    q_r_432 x0 := by
  simp only [sl.r_432, e_r_412, q_r_432]

theorem s_80 : Good arg8 (sl.HS1_w320 c arg2 harg2 arg8 x0) ∧
    View.readAt (Elt Bits) arg8.view (Rect.unit (s := S8x6x128x256) ![7, 2, 0, 0] S1x1x128x256.size inb_S8x6x128x256_S1x1x128x256_7_2_0_0).toLoadRect
      (sl.HS1_w320 c arg2 harg2 arg8 x0) = words (q_r_412 x0) := by
  unfold sl.HS1_w320 sl.HS1_w319 sl.HS1_w318 sl.HS1_w317
  exact bd4 arg8 _ (s_79 c arg2 harg2 arg8 x0).1 7 2 (q_r_412 x0) _ _ _ _ _ _ _ _ _ _ _ _ _
    (by first | (simp only [e_r_412] <;> rfl))
    (by first | (simp only [e_r_432] <;> rfl))
    (by first | (simp only [e_r_412] <;> rfl))
    (by first | (simp only [e_r_412] <;> rfl))
    (mem_lt _) (mem_ge _) (mem_lt _) (mem_ge _)

theorem e_r_433 : sl.r_433 c arg2 harg2 arg8 x0 =
    q_r_433 x0 := by
  unfold sl.r_433
  rw [(s_80 c arg2 harg2 arg8 x0).2]
  simp only [e_r_412, e_r_420, qpay1114_eq, q_r_433]

theorem e_r_434 : sl.r_434 c arg2 harg2 arg8 x0 =
    q_r_434 x0 := by
  simp only [sl.r_434, e_r_413, q_r_434]

theorem s_81 : Good arg8 (sl.HS1_w324 c arg2 harg2 arg8 x0) ∧
    View.readAt (Elt Bits) arg8.view (Rect.unit (s := S8x6x128x256) ![0, 3, 0, 0] S1x1x128x256.size inb_S8x6x128x256_S1x1x128x256_0_3_0_0).toLoadRect
      (sl.HS1_w324 c arg2 harg2 arg8 x0) = words (q_r_413 x0) := by
  unfold sl.HS1_w324 sl.HS1_w323 sl.HS1_w322 sl.HS1_w321
  exact bd4 arg8 _ (s_80 c arg2 harg2 arg8 x0).1 0 3 (q_r_413 x0) _ _ _ _ _ _ _ _ _ _ _ _ _
    (by first | (simp only [e_r_413] <;> rfl))
    (by first | (simp only [e_r_434] <;> rfl))
    (by first | (simp only [e_r_413] <;> rfl))
    (by first | (simp only [e_r_413] <;> rfl))
    (mem_lt _) (mem_ge _) (mem_lt _) (mem_ge _)

theorem e_r_436 : sl.r_436 c arg2 harg2 arg8 x0 =
    q_r_436 x0 := by
  unfold sl.r_436
  rw [(s_81 c arg2 harg2 arg8 x0).2]
  simp only [e_r_389, e_r_413, e_r_422, qpay1124_eq, q_r_436]

theorem e_r_437 : sl.r_437 c arg2 harg2 arg8 x0 =
    q_r_437 x0 := by
  simp only [sl.r_437, e_r_414, q_r_437]

theorem s_82 : Good arg8 (sl.HS1_w328 c arg2 harg2 arg8 x0) ∧
    View.readAt (Elt Bits) arg8.view (Rect.unit (s := S8x6x128x256) ![1, 3, 0, 0] S1x1x128x256.size inb_S8x6x128x256_S1x1x128x256_1_3_0_0).toLoadRect
      (sl.HS1_w328 c arg2 harg2 arg8 x0) = words (q_r_414 x0) := by
  unfold sl.HS1_w328 sl.HS1_w327 sl.HS1_w326 sl.HS1_w325
  exact bd4 arg8 _ (s_81 c arg2 harg2 arg8 x0).1 1 3 (q_r_414 x0) _ _ _ _ _ _ _ _ _ _ _ _ _
    (by first | (simp only [e_r_414] <;> rfl))
    (by first | (simp only [e_r_414] <;> rfl))
    (by first | (simp only [e_r_437] <;> rfl))
    (by first | (simp only [e_r_414] <;> rfl))
    (mem_lt _) (mem_ge _) (mem_lt _) (mem_ge _)

theorem e_r_438 : sl.r_438 c arg2 harg2 arg8 x0 =
    q_r_438 x0 := by
  unfold sl.r_438
  rw [(s_82 c arg2 harg2 arg8 x0).2]
  simp only [e_r_391, e_r_414, e_r_424, qpay1134_eq, q_r_438]

theorem e_r_439 : sl.r_439 c arg2 harg2 arg8 x0 =
    q_r_439 x0 := by
  simp only [sl.r_439, e_r_415, q_r_439]

theorem s_83 : Good arg8 (sl.HS1_w332 c arg2 harg2 arg8 x0) ∧
    View.readAt (Elt Bits) arg8.view (Rect.unit (s := S8x6x128x256) ![2, 3, 0, 0] S1x1x128x256.size inb_S8x6x128x256_S1x1x128x256_2_3_0_0).toLoadRect
      (sl.HS1_w332 c arg2 harg2 arg8 x0) = words (q_r_415 x0) := by
  unfold sl.HS1_w332 sl.HS1_w331 sl.HS1_w330 sl.HS1_w329
  exact bd4 arg8 _ (s_82 c arg2 harg2 arg8 x0).1 2 3 (q_r_415 x0) _ _ _ _ _ _ _ _ _ _ _ _ _
    (by first | (simp only [e_r_415] <;> rfl))
    (by first | (simp only [e_r_415] <;> rfl))
    (by first | (simp only [e_r_439] <;> rfl))
    (by first | (simp only [e_r_415] <;> rfl))
    (mem_lt _) (mem_ge _) (mem_lt _) (mem_ge _)

theorem e_r_440 : sl.r_440 c arg2 harg2 arg8 x0 =
    q_r_440 x0 := by
  unfold sl.r_440
  rw [(s_83 c arg2 harg2 arg8 x0).2]
  simp only [e_r_393, e_r_415, e_r_426, qpay1144_eq, q_r_440]

theorem e_r_441 : sl.r_441 c arg2 harg2 arg8 x0 =
    q_r_441 x0 := by
  simp only [sl.r_441, e_r_416, q_r_441]

theorem s_84 : Good arg8 (sl.HS1_w336 c arg2 harg2 arg8 x0) ∧
    View.readAt (Elt Bits) arg8.view (Rect.unit (s := S8x6x128x256) ![3, 3, 0, 0] S1x1x128x256.size inb_S8x6x128x256_S1x1x128x256_3_3_0_0).toLoadRect
      (sl.HS1_w336 c arg2 harg2 arg8 x0) = words (q_r_416 x0) := by
  unfold sl.HS1_w336 sl.HS1_w335 sl.HS1_w334 sl.HS1_w333
  exact bd4 arg8 _ (s_83 c arg2 harg2 arg8 x0).1 3 3 (q_r_416 x0) _ _ _ _ _ _ _ _ _ _ _ _ _
    (by first | (simp only [e_r_416] <;> rfl))
    (by first | (simp only [e_r_416] <;> rfl))
    (by first | (simp only [e_r_416] <;> rfl))
    (by first | (simp only [e_r_441] <;> rfl))
    (mem_lt _) (mem_ge _) (mem_lt _) (mem_ge _)

theorem e_r_442 : sl.r_442 c arg2 harg2 arg8 x0 =
    q_r_442 x0 := by
  unfold sl.r_442
  rw [(s_84 c arg2 harg2 arg8 x0).2]
  simp only [e_r_395, e_r_416, e_r_427, qpay1154_eq, q_r_442]

theorem e_r_443 : sl.r_443 c arg2 harg2 arg8 x0 =
    q_r_443 x0 := by
  simp only [sl.r_443, e_r_417, q_r_443]

theorem s_85 : Good arg8 (sl.HS1_w340 c arg2 harg2 arg8 x0) ∧
    View.readAt (Elt Bits) arg8.view (Rect.unit (s := S8x6x128x256) ![4, 3, 0, 0] S1x1x128x256.size inb_S8x6x128x256_S1x1x128x256_4_3_0_0).toLoadRect
      (sl.HS1_w340 c arg2 harg2 arg8 x0) = words (q_r_417 x0) := by
  unfold sl.HS1_w340 sl.HS1_w339 sl.HS1_w338 sl.HS1_w337
  exact bd4 arg8 _ (s_84 c arg2 harg2 arg8 x0).1 4 3 (q_r_417 x0) _ _ _ _ _ _ _ _ _ _ _ _ _
    (by first | (simp only [e_r_417] <;> rfl))
    (by first | (simp only [e_r_417] <;> rfl))
    (by first | (simp only [e_r_417] <;> rfl))
    (by first | (simp only [e_r_443] <;> rfl))
    (mem_lt _) (mem_ge _) (mem_lt _) (mem_ge _)

theorem e_r_444 : sl.r_444 c arg2 harg2 arg8 x0 =
    q_r_444 x0 := by
  unfold sl.r_444
  rw [(s_85 c arg2 harg2 arg8 x0).2]
  simp only [e_r_397, e_r_417, e_r_428, qpay1163_eq, q_r_444]

theorem s_86 : Good arg8 (sl.HS1_w344 c arg2 harg2 arg8 x0) ∧
    View.readAt (Elt Bits) arg8.view (Rect.unit (s := S8x6x128x256) ![5, 3, 0, 0] S1x1x128x256.size inb_S8x6x128x256_S1x1x128x256_5_3_0_0).toLoadRect
      (sl.HS1_w344 c arg2 harg2 arg8 x0) = words (q_r_418 x0) := by
  unfold sl.HS1_w344 sl.HS1_w343 sl.HS1_w342 sl.HS1_w341
  exact bd4 arg8 _ (s_85 c arg2 harg2 arg8 x0).1 5 3 (q_r_418 x0) _ _ _ _ _ _ _ _ _ _ _ _ _
    (by first | (simp only [e_r_418] <;> rfl))
    (by first | (simp only [e_r_418] <;> rfl))
    (by first | (simp only [e_r_418] <;> rfl))
    (by first | (simp only [e_r_418] <;> rfl))
    (mem_lt _) (mem_ge _) (mem_lt _) (mem_ge _)

theorem e_r_445 : sl.r_445 c arg2 harg2 arg8 x0 =
    q_r_445 x0 := by
  unfold sl.r_445
  rw [(s_86 c arg2 harg2 arg8 x0).2]
  simp only [e_r_398, e_r_418, e_r_429, qpay1172_eq, q_r_445]

theorem s_87 : Good arg8 (sl.HS1_w348 c arg2 harg2 arg8 x0) ∧
    View.readAt (Elt Bits) arg8.view (Rect.unit (s := S8x6x128x256) ![6, 3, 0, 0] S1x1x128x256.size inb_S8x6x128x256_S1x1x128x256_6_3_0_0).toLoadRect
      (sl.HS1_w348 c arg2 harg2 arg8 x0) = words (q_r_419 x0) := by
  unfold sl.HS1_w348 sl.HS1_w347 sl.HS1_w346 sl.HS1_w345
  exact bd4 arg8 _ (s_86 c arg2 harg2 arg8 x0).1 6 3 (q_r_419 x0) _ _ _ _ _ _ _ _ _ _ _ _ _
    (by first | (simp only [e_r_419] <;> rfl))
    (by first | (simp only [e_r_419] <;> rfl))
    (by first | (simp only [e_r_419] <;> rfl))
    (by first | (simp only [e_r_419] <;> rfl))
    (mem_lt _) (mem_ge _) (mem_lt _) (mem_ge _)

theorem e_r_446 : sl.r_446 c arg2 harg2 arg8 x0 =
    q_r_446 x0 := by
  unfold sl.r_446
  rw [(s_87 c arg2 harg2 arg8 x0).2]
  simp only [e_r_400, e_r_419, e_r_431, qpay1181_eq, q_r_446]

theorem s_88 : Good arg8 (sl.HS1_w352 c arg2 harg2 arg8 x0) ∧
    View.readAt (Elt Bits) arg8.view (Rect.unit (s := S8x6x128x256) ![7, 3, 0, 0] S1x1x128x256.size inb_S8x6x128x256_S1x1x128x256_7_3_0_0).toLoadRect
      (sl.HS1_w352 c arg2 harg2 arg8 x0) = words (q_r_420 x0) := by
  unfold sl.HS1_w352 sl.HS1_w351 sl.HS1_w350 sl.HS1_w349
  exact bd4 arg8 _ (s_87 c arg2 harg2 arg8 x0).1 7 3 (q_r_420 x0) _ _ _ _ _ _ _ _ _ _ _ _ _
    (by first | (simp only [e_r_420] <;> rfl))
    (by first | (simp only [e_r_420] <;> rfl))
    (by first | (simp only [e_r_420] <;> rfl))
    (by first | (simp only [e_r_420] <;> rfl))
    (mem_lt _) (mem_ge _) (mem_lt _) (mem_ge _)

theorem e_r_447 : sl.r_447 c arg2 harg2 arg8 x0 =
    q_r_447 x0 := by
  unfold sl.r_447
  rw [(s_88 c arg2 harg2 arg8 x0).2]
  simp only [e_r_403, e_r_420, e_r_433, qpay1190_eq, q_r_447]

theorem e_r_448 : sl.r_448 c arg2 harg2 arg8 x0 =
    q_r_448 x0 := by
  simp only [sl.r_448, e_r_436, q_r_448]

theorem e_r_449 : sl.r_449 c arg2 harg2 arg8 x0 =
    q_r_449 x0 := by
  simp only [sl.r_449, e_r_438, q_r_449]

theorem e_r_450 : sl.r_450 c arg2 harg2 arg8 x0 =
    q_r_450 x0 := by
  simp only [sl.r_450, e_r_440, q_r_450]

theorem e_r_451 : sl.r_451 c arg2 harg2 arg8 x0 =
    q_r_451 x0 := by
  simp only [sl.r_451, e_r_442, q_r_451]

theorem e_r_452 : sl.r_452 c arg2 harg2 arg8 x0 =
    q_r_452 x0 := by
  simp only [sl.r_452, e_r_444, q_r_452]

theorem e_r_453 : sl.r_453 c arg2 harg2 arg8 x0 =
    q_r_453 x0 := by
  simp only [sl.r_453, e_r_445, q_r_453]

theorem e_r_454 : sl.r_454 c arg2 harg2 arg8 x0 =
    q_r_454 x0 := by
  simp only [sl.r_454, e_r_446, q_r_454]

theorem e_r_455 : sl.r_455 c arg2 harg2 arg8 x0 =
    q_r_455 x0 := by
  simp only [sl.r_455, e_r_447, q_r_455]

theorem e_r_456 : sl.r_456 c arg2 harg2 x0 =
    q_r_456 x0 := by
  simp only [sl.r_456, e_r_82, e_r_90, q_r_456]

theorem e_r_457 : sl.r_457 c arg2 harg2 x0 =
    q_r_457 x0 := by
  simp only [sl.r_457, e_r_83, e_r_91, q_r_457]

theorem e_r_458 : sl.r_458 c arg2 harg2 x0 =
    q_r_458 x0 := by
  simp only [sl.r_458, e_r_84, e_r_92, q_r_458]

theorem e_r_459 : sl.r_459 c arg2 harg2 x0 =
    q_r_459 x0 := by
  simp only [sl.r_459, e_r_85, e_r_93, q_r_459]

theorem e_r_46 : sl.r_46 c arg2 harg2 x0 =
    q_r_46 x0 := by
  simp only [sl.r_46, e_r_2, q_r_46]

theorem e_v3923 : sl.v3923 c arg4 harg4 arg7 x2 = q_v3923 x2 := first_state c arg4 harg4 arg7 x2 _

theorem e_r_460 : sl.r_460 c arg4 harg4 arg7 x2 =
    q_r_460 x2 := by
  simp only [sl.r_460, e_v3923, q_r_460]

theorem e_v3925 : sl.v3925 c arg4 harg4 arg7 x2 = q_v3925 x2 := first_state c arg4 harg4 arg7 x2 _

theorem e_r_461 : sl.r_461 c arg4 harg4 arg7 x2 =
    q_r_461 x2 := by
  simp only [sl.r_461, e_v3925, q_r_461]

theorem e_v3927 : sl.v3927 c arg4 harg4 arg7 x2 = q_v3927 x2 := first_state c arg4 harg4 arg7 x2 _

theorem e_r_462 : sl.r_462 c arg4 harg4 arg7 x2 =
    q_r_462 x2 := by
  simp only [sl.r_462, e_v3927, q_r_462]

theorem e_v3929 : sl.v3929 c arg4 harg4 arg7 x2 = q_v3929 x2 := first_state c arg4 harg4 arg7 x2 _

theorem e_r_463 : sl.r_463 c arg4 harg4 arg7 x2 =
    q_r_463 x2 := by
  simp only [sl.r_463, e_v3929, q_r_463]

theorem e_r_464 : sl.r_464 c arg2 harg2 arg4 harg4 arg7 x0 x2 =
    q_r_464 x0 x2 := by
  simp only [sl.r_464, e_r_78, e_r_86, e_v3923, q_r_464]

theorem e_r_465 : sl.r_465 c arg2 harg2 arg4 harg4 arg7 x0 x2 =
    q_r_465 x0 x2 := by
  simp only [sl.r_465, e_r_79, e_r_87, e_v3925, q_r_465]

theorem e_r_466 : sl.r_466 c arg2 harg2 arg4 harg4 arg7 x0 x2 =
    q_r_466 x0 x2 := by
  simp only [sl.r_466, e_r_80, e_r_88, e_v3927, q_r_466]

theorem e_r_467 : sl.r_467 c arg2 harg2 arg4 harg4 arg7 x0 x2 =
    q_r_467 x0 x2 := by
  simp only [sl.r_467, e_r_81, e_r_89, e_v3929, q_r_467]

theorem e_r_468 : sl.r_468 c arg2 harg2 arg4 harg4 arg7 arg8 x0 x2 =
    q_r_468 x0 x2 := by
  simp only [sl.r_468, e_r_230, e_r_78, e_r_86, e_v3923, q_r_468]

theorem e_r_469 : sl.r_469 c arg2 harg2 arg4 harg4 arg7 arg8 x0 x2 =
    q_r_469 x0 x2 := by
  simp only [sl.r_469, e_r_231, e_r_79, e_r_87, e_v3925, q_r_469]

theorem e_r_47 : sl.r_47 c arg2 harg2 x0 =
    q_r_47 x0 := by
  simp only [sl.r_47, e_r_3, q_r_47]

theorem e_r_470 : sl.r_470 c arg2 harg2 arg4 harg4 arg7 arg8 x0 x2 =
    q_r_470 x0 x2 := by
  simp only [sl.r_470, e_r_232, e_r_80, e_r_88, e_v3927, q_r_470]

theorem e_r_471 : sl.r_471 c arg2 harg2 arg4 harg4 arg7 arg8 x0 x2 =
    q_r_471 x0 x2 := by
  simp only [sl.r_471, e_r_233, e_r_81, e_r_89, e_v3929, q_r_471]

theorem e_r_472 : sl.r_472 c arg2 harg2 arg4 harg4 arg7 arg8 x0 x2 =
    q_r_472 x0 x2 := by
  simp only [sl.r_472, e_r_230, e_r_78, e_r_86, e_v3923, q_r_472]

theorem s_89 : Good arg8 (sl.HS1_w356 c arg2 harg2 arg4 harg4 arg7 arg8 x0 x2) ∧
    View.readAt (Elt Bits) arg8.view (Rect.unit (s := S8x6x128x256) ![0, 2, 0, 0] S1x1x128x256.size inb_S8x6x128x256_S1x1x128x256_0_2_0_0).toLoadRect
      (sl.HS1_w356 c arg2 harg2 arg4 harg4 arg7 arg8 x0 x2) = words (q_r_468 x0 x2) := by
  unfold sl.HS1_w356 sl.HS1_w355 sl.HS1_w354 sl.HS1_w353
  exact bd4 arg8 _ (s_88 c arg2 harg2 arg8 x0).1 0 2 (q_r_468 x0 x2) _ _ _ _ _ _ _ _ _ _ _ _ _
    (by first | (simp only [e_r_472] <;> rfl))
    (by first | (simp only [e_r_468] <;> rfl))
    (by first | (simp only [e_r_468] <;> rfl))
    (by first | (simp only [e_r_468] <;> rfl))
    (mem_lt _) (mem_ge _) (mem_lt _) (mem_ge _)

theorem e_r_473 : sl.r_473 c arg2 harg2 arg4 harg4 arg7 arg8 x0 x2 =
    q_r_473 x0 x2 := by
  unfold sl.r_473
  rw [(s_89 c arg2 harg2 arg4 harg4 arg7 arg8 x0 x2).2]
  simp only [e_r_448, e_r_468, qpay1224_eq, q_r_473]

theorem e_r_474 : sl.r_474 c arg2 harg2 arg4 harg4 arg7 arg8 x0 x2 =
    q_r_474 x0 x2 := by
  simp only [sl.r_474, e_r_469, q_r_474]

theorem s_90 : Good arg8 (sl.HS1_w360 c arg2 harg2 arg4 harg4 arg7 arg8 x0 x2) ∧
    View.readAt (Elt Bits) arg8.view (Rect.unit (s := S8x6x128x256) ![1, 2, 0, 0] S1x1x128x256.size inb_S8x6x128x256_S1x1x128x256_1_2_0_0).toLoadRect
      (sl.HS1_w360 c arg2 harg2 arg4 harg4 arg7 arg8 x0 x2) = words (q_r_469 x0 x2) := by
  unfold sl.HS1_w360 sl.HS1_w359 sl.HS1_w358 sl.HS1_w357
  exact bd4 arg8 _ (s_89 c arg2 harg2 arg4 harg4 arg7 arg8 x0 x2).1 1 2 (q_r_469 x0 x2) _ _ _ _ _ _ _ _ _ _ _ _ _
    (by first | (simp only [e_r_469] <;> rfl))
    (by first | (simp only [e_r_474] <;> rfl))
    (by first | (simp only [e_r_469] <;> rfl))
    (by first | (simp only [e_r_469] <;> rfl))
    (mem_lt _) (mem_ge _) (mem_lt _) (mem_ge _)

theorem e_r_475 : sl.r_475 c arg2 harg2 arg4 harg4 arg7 arg8 x0 x2 =
    q_r_475 x0 x2 := by
  unfold sl.r_475
  rw [(s_90 c arg2 harg2 arg4 harg4 arg7 arg8 x0 x2).2]
  simp only [e_r_449, e_r_469, qpay1234_eq, q_r_475]

theorem e_r_476 : sl.r_476 c arg2 harg2 arg4 harg4 arg7 arg8 x0 x2 =
    q_r_476 x0 x2 := by
  simp only [sl.r_476, e_r_470, q_r_476]

theorem s_91 : Good arg8 (sl.HS1_w364 c arg2 harg2 arg4 harg4 arg7 arg8 x0 x2) ∧
    View.readAt (Elt Bits) arg8.view (Rect.unit (s := S8x6x128x256) ![2, 2, 0, 0] S1x1x128x256.size inb_S8x6x128x256_S1x1x128x256_2_2_0_0).toLoadRect
      (sl.HS1_w364 c arg2 harg2 arg4 harg4 arg7 arg8 x0 x2) = words (q_r_470 x0 x2) := by
  unfold sl.HS1_w364 sl.HS1_w363 sl.HS1_w362 sl.HS1_w361
  exact bd4 arg8 _ (s_90 c arg2 harg2 arg4 harg4 arg7 arg8 x0 x2).1 2 2 (q_r_470 x0 x2) _ _ _ _ _ _ _ _ _ _ _ _ _
    (by first | (simp only [e_r_470] <;> rfl))
    (by first | (simp only [e_r_476] <;> rfl))
    (by first | (simp only [e_r_470] <;> rfl))
    (by first | (simp only [e_r_470] <;> rfl))
    (mem_lt _) (mem_ge _) (mem_lt _) (mem_ge _)

theorem e_r_478 : sl.r_478 c arg2 harg2 arg4 harg4 arg7 arg8 x0 x2 =
    q_r_478 x0 x2 := by
  unfold sl.r_478
  rw [(s_91 c arg2 harg2 arg4 harg4 arg7 arg8 x0 x2).2]
  simp only [e_r_450, e_r_470, qpay1244_eq, q_r_478]

theorem e_r_479 : sl.r_479 c arg2 harg2 arg4 harg4 arg7 arg8 x0 x2 =
    q_r_479 x0 x2 := by
  simp only [sl.r_479, e_r_471, q_r_479]

theorem e_r_48 : sl.r_48 c arg2 harg2 x0 =
    q_r_48 x0 := by
  simp only [sl.r_48, e_r_4, q_r_48]

theorem s_92 : Good arg8 (sl.HS1_w368 c arg2 harg2 arg4 harg4 arg7 arg8 x0 x2) ∧
    View.readAt (Elt Bits) arg8.view (Rect.unit (s := S8x6x128x256) ![3, 2, 0, 0] S1x1x128x256.size inb_S8x6x128x256_S1x1x128x256_3_2_0_0).toLoadRect
      (sl.HS1_w368 c arg2 harg2 arg4 harg4 arg7 arg8 x0 x2) = words (q_r_471 x0 x2) := by
  unfold sl.HS1_w368 sl.HS1_w367 sl.HS1_w366 sl.HS1_w365
  exact bd4 arg8 _ (s_91 c arg2 harg2 arg4 harg4 arg7 arg8 x0 x2).1 3 2 (q_r_471 x0 x2) _ _ _ _ _ _ _ _ _ _ _ _ _
    (by first | (simp only [e_r_471] <;> rfl))
    (by first | (simp only [e_r_471] <;> rfl))
    (by first | (simp only [e_r_479] <;> rfl))
    (by first | (simp only [e_r_471] <;> rfl))
    (mem_lt _) (mem_ge _) (mem_lt _) (mem_ge _)

theorem e_r_480 : sl.r_480 c arg2 harg2 arg4 harg4 arg7 arg8 x0 x2 =
    q_r_480 x0 x2 := by
  unfold sl.r_480
  rw [(s_92 c arg2 harg2 arg4 harg4 arg7 arg8 x0 x2).2]
  simp only [e_r_451, e_r_471, qpay1254_eq, q_r_480]

theorem e_r_481 : sl.r_481 c arg2 harg2 arg4 harg4 arg7 arg8 x0 x2 =
    q_r_481 x0 x2 := by
  simp only [sl.r_481, e_r_238, e_r_464, q_r_481]

theorem e_r_482 : sl.r_482 c arg2 harg2 arg4 harg4 arg7 arg8 x0 x2 =
    q_r_482 x0 x2 := by
  simp only [sl.r_482, e_r_473, q_r_482]

theorem s_93 : Good arg8 (sl.HS1_w372 c arg2 harg2 arg4 harg4 arg7 arg8 x0 x2) ∧
    View.readAt (Elt Bits) arg8.view (Rect.unit (s := S8x6x128x256) ![0, 5, 0, 0] S1x1x128x256.size inb_S8x6x128x256_S1x1x128x256_0_5_0_0).toLoadRect
      (sl.HS1_w372 c arg2 harg2 arg4 harg4 arg7 arg8 x0 x2) = words (q_r_473 x0 x2) := by
  unfold sl.HS1_w372 sl.HS1_w371 sl.HS1_w370 sl.HS1_w369
  exact bd4 arg8 _ (s_92 c arg2 harg2 arg4 harg4 arg7 arg8 x0 x2).1 0 5 (q_r_473 x0 x2) _ _ _ _ _ _ _ _ _ _ _ _ _
    (by first | (simp only [e_r_473] <;> rfl))
    (by first | (simp only [e_r_473] <;> rfl))
    (by first | (simp only [e_r_482] <;> rfl))
    (by first | (simp only [e_r_473] <;> rfl))
    (mem_lt _) (mem_ge _) (mem_lt _) (mem_ge _)

theorem e_r_483 : sl.r_483 c arg2 harg2 arg4 harg4 arg7 arg8 x0 x2 =
    q_r_483 x0 x2 := by
  unfold sl.r_483
  rw [(s_93 c arg2 harg2 arg4 harg4 arg7 arg8 x0 x2).2]
  simp only [e_r_171, e_r_473, e_r_481, qpay1265_eq, q_r_483]

theorem e_r_484 : sl.r_484 c arg2 harg2 arg4 harg4 arg7 arg8 x0 x2 =
    q_r_484 x0 x2 := by
  simp only [sl.r_484, e_r_239, e_r_465, q_r_484]

theorem e_r_485 : sl.r_485 c arg2 harg2 arg4 harg4 arg7 arg8 x0 x2 =
    q_r_485 x0 x2 := by
  simp only [sl.r_485, e_r_475, q_r_485]

theorem s_94 : Good arg8 (sl.HS1_w376 c arg2 harg2 arg4 harg4 arg7 arg8 x0 x2) ∧
    View.readAt (Elt Bits) arg8.view (Rect.unit (s := S8x6x128x256) ![1, 5, 0, 0] S1x1x128x256.size inb_S8x6x128x256_S1x1x128x256_1_5_0_0).toLoadRect
      (sl.HS1_w376 c arg2 harg2 arg4 harg4 arg7 arg8 x0 x2) = words (q_r_475 x0 x2) := by
  unfold sl.HS1_w376 sl.HS1_w375 sl.HS1_w374 sl.HS1_w373
  exact bd4 arg8 _ (s_93 c arg2 harg2 arg4 harg4 arg7 arg8 x0 x2).1 1 5 (q_r_475 x0 x2) _ _ _ _ _ _ _ _ _ _ _ _ _
    (by first | (simp only [e_r_475] <;> rfl))
    (by first | (simp only [e_r_475] <;> rfl))
    (by first | (simp only [e_r_485] <;> rfl))
    (by first | (simp only [e_r_475] <;> rfl))
    (mem_lt _) (mem_ge _) (mem_lt _) (mem_ge _)

theorem e_r_486 : sl.r_486 c arg2 harg2 arg4 harg4 arg7 arg8 x0 x2 =
    q_r_486 x0 x2 := by
  unfold sl.r_486
  rw [(s_94 c arg2 harg2 arg4 harg4 arg7 arg8 x0 x2).2]
  simp only [e_r_172, e_r_475, e_r_484, qpay1275_eq, q_r_486]

theorem e_r_487 : sl.r_487 c arg2 harg2 arg4 harg4 arg7 arg8 x0 x2 =
    q_r_487 x0 x2 := by
  simp only [sl.r_487, e_r_240, e_r_466, q_r_487]

theorem e_r_488 : sl.r_488 c arg2 harg2 arg4 harg4 arg7 arg8 x0 x2 =
    q_r_488 x0 x2 := by
  simp only [sl.r_488, e_r_478, q_r_488]

theorem s_95 : Good arg8 (sl.HS1_w380 c arg2 harg2 arg4 harg4 arg7 arg8 x0 x2) ∧
    View.readAt (Elt Bits) arg8.view (Rect.unit (s := S8x6x128x256) ![2, 5, 0, 0] S1x1x128x256.size inb_S8x6x128x256_S1x1x128x256_2_5_0_0).toLoadRect
      (sl.HS1_w380 c arg2 harg2 arg4 harg4 arg7 arg8 x0 x2) = words (q_r_478 x0 x2) := by
  unfold sl.HS1_w380 sl.HS1_w379 sl.HS1_w378 sl.HS1_w377
  exact bd4 arg8 _ (s_94 c arg2 harg2 arg4 harg4 arg7 arg8 x0 x2).1 2 5 (q_r_478 x0 x2) _ _ _ _ _ _ _ _ _ _ _ _ _
    (by first | (simp only [e_r_478] <;> rfl))
    (by first | (simp only [e_r_478] <;> rfl))
    (by first | (simp only [e_r_478] <;> rfl))
    (by first | (simp only [e_r_488] <;> rfl))
    (mem_lt _) (mem_ge _) (mem_lt _) (mem_ge _)

theorem e_r_489 : sl.r_489 c arg2 harg2 arg4 harg4 arg7 arg8 x0 x2 =
    q_r_489 x0 x2 := by
  unfold sl.r_489
  rw [(s_95 c arg2 harg2 arg4 harg4 arg7 arg8 x0 x2).2]
  simp only [e_r_174, e_r_478, e_r_487, qpay1286_eq, q_r_489]

theorem e_r_49 : sl.r_49 c arg2 harg2 x0 =
    q_r_49 x0 := by
  simp only [sl.r_49, e_r_5, q_r_49]

theorem e_r_490 : sl.r_490 c arg2 harg2 arg4 harg4 arg7 arg8 x0 x2 =
    q_r_490 x0 x2 := by
  simp only [sl.r_490, e_r_241, e_r_467, q_r_490]

theorem e_r_491 : sl.r_491 c arg2 harg2 arg4 harg4 arg7 arg8 x0 x2 =
    q_r_491 x0 x2 := by
  simp only [sl.r_491, e_r_480, q_r_491]

theorem s_96 : Good arg8 (sl.HS1_w384 c arg2 harg2 arg4 harg4 arg7 arg8 x0 x2) ∧
    View.readAt (Elt Bits) arg8.view (Rect.unit (s := S8x6x128x256) ![3, 5, 0, 0] S1x1x128x256.size inb_S8x6x128x256_S1x1x128x256_3_5_0_0).toLoadRect
      (sl.HS1_w384 c arg2 harg2 arg4 harg4 arg7 arg8 x0 x2) = words (q_r_480 x0 x2) := by
  unfold sl.HS1_w384 sl.HS1_w383 sl.HS1_w382 sl.HS1_w381
  exact bd4 arg8 _ (s_95 c arg2 harg2 arg4 harg4 arg7 arg8 x0 x2).1 3 5 (q_r_480 x0 x2) _ _ _ _ _ _ _ _ _ _ _ _ _
    (by first | (simp only [e_r_480] <;> rfl))
    (by first | (simp only [e_r_480] <;> rfl))
    (by first | (simp only [e_r_480] <;> rfl))
    (by first | (simp only [e_r_491] <;> rfl))
    (mem_lt _) (mem_ge _) (mem_lt _) (mem_ge _)

theorem e_r_493 : sl.r_493 c arg2 harg2 arg4 harg4 arg7 arg8 x0 x2 =
    q_r_493 x0 x2 := by
  unfold sl.r_493
  rw [(s_96 c arg2 harg2 arg4 harg4 arg7 arg8 x0 x2).2]
  simp only [e_r_175, e_r_480, e_r_490, qpay1297_eq, q_r_493]

theorem e_r_494 : sl.r_494 c arg2 harg2 arg4 harg4 arg7 arg8 x0 x2 =
    q_r_494 x0 x2 := by
  simp only [sl.r_494, e_r_200, e_r_208, e_r_480, q_r_494]

theorem e_r_495 : sl.r_495 c arg2 harg2 arg4 harg4 arg7 arg8 x0 x2 =
    q_r_495 x0 x2 := by
  simp only [sl.r_495, e_r_199, e_r_207, e_r_462, e_r_478, e_r_48, q_r_495]

theorem e_r_496 : sl.r_496 c arg2 harg2 arg4 harg4 arg7 arg8 x0 x2 =
    q_r_496 x0 x2 := by
  simp only [sl.r_496, e_r_483, e_r_486, e_r_489, e_r_493, q_r_496]

theorem e_r_497 : sl.r_497 c arg2 harg2 arg4 harg4 arg7 arg8 x0 x2 =
    q_r_497 x0 x2 := by
  simp only [sl.r_497, e_r_483, e_r_486, e_r_489, e_r_493, q_r_497]

theorem e_r_498 : sl.r_498 c arg2 harg2 arg4 harg4 arg7 arg8 x0 x2 =
    q_r_498 x0 x2 := by
  simp only [sl.r_498, e_r_483, e_r_486, e_r_489, e_r_493, q_r_498]

theorem e_r_499 : sl.r_499 c arg2 harg2 arg4 harg4 arg7 arg8 x0 x2 =
    q_r_499 x0 x2 := by
  simp only [sl.r_499, e_r_483, e_r_486, e_r_489, e_r_493, q_r_499]

theorem e_r_50 : sl.r_50 c arg2 harg2 x0 =
    q_r_50 x0 := by
  simp only [sl.r_50, e_r_6, q_r_50]

theorem e_r_500 : sl.r_500 c arg2 harg2 arg3 harg3 arg4 harg4 arg7 arg8 x0 x1 x2 =
    q_r_500 x0 x1 x2 := by
  simp only [sl.r_500, rd, e_r_496, e_r_497, q_r_500]

theorem e_v4298 : sl.v4298 c arg2 harg2 arg4 harg4 arg7 arg8 x0 x2 =
    shapeCast S1x256x256 (q_v4298 x0 x2) shapeCasts_S256x256_S1x256x256 := by
  unfold sl.v4298 sl.HS0_5
  rw [read_other _ 0 3 (by decide), read_other _ 0 2 (by decide), read_other _ 0 1 (by decide), View.readCov_cons_toLoadRect]
  simp only [e_r_197, e_r_205, e_r_46, e_r_460, e_r_473, qpay1299s_eq, q_v4298]

theorem e_r_501 : sl.r_501 c arg2 harg2 arg4 harg4 arg7 arg8 x0 x2 =
    q_r_501 x0 x2 := by
  simp only [sl.r_501, e_v4298, q_r_501]
  apply qpay1312_eq

theorem e_v4300 : sl.v4300 c arg2 harg2 arg4 harg4 arg7 arg8 x0 x2 =
    shapeCast S1x256x256 (q_v4300 x0 x2) shapeCasts_S256x256_S1x256x256 := by
  unfold sl.v4300 sl.HS0_5
  rw [read_other _ 1 3 (by decide), read_other _ 1 2 (by decide), View.readCov_cons_toLoadRect]
  simp only [e_r_198, e_r_206, e_r_461, e_r_47, e_r_475, qpay1300s_eq, q_v4300]

theorem e_r_502 : sl.r_502 c arg2 harg2 arg4 harg4 arg7 arg8 x0 x2 =
    q_r_502 x0 x2 := by
  simp only [sl.r_502, e_v4300, q_r_502]
  apply qpay1313_eq

theorem e_v4302 : sl.v4302 c arg2 harg2 arg4 harg4 arg7 arg8 x0 x2 =
    shapeCast S1x256x256 (q_v4302 x0 x2) shapeCasts_S256x256_S1x256x256 := by
  unfold sl.v4302 sl.HS0_5
  rw [read_other _ 2 3 (by decide), View.readCov_cons_toLoadRect]
  simp only [e_r_495, qpay1302s_eq, q_v4302]

theorem e_r_503 : sl.r_503 c arg2 harg2 arg4 harg4 arg7 arg8 x0 x2 =
    q_r_503 x0 x2 := by
  simp only [sl.r_503, e_v4302, q_r_503]
  apply qpay1314_eq

theorem e_v4304 : sl.v4304 c arg2 harg2 arg4 harg4 arg7 arg8 x0 x2 =
    shapeCast S1x256x256 (q_v4304 x0 x2) shapeCasts_S256x256_S1x256x256 := by
  unfold sl.v4304 sl.HS0_5
  rw [View.readCov_cons_toLoadRect]
  simp only [e_r_463, e_r_49, e_r_494, qpay1303s_eq, q_v4304]

theorem e_r_504 : sl.r_504 c arg2 harg2 arg4 harg4 arg7 arg8 x0 x2 =
    q_r_504 x0 x2 := by
  simp only [sl.r_504, e_v4304, q_r_504]
  apply qpay1315_eq

theorem e_r_505 : sl.r_505 c arg2 harg2 arg4 harg4 arg7 arg8 x0 x2 =
    q_r_505 x0 x2 := by
  simp only [sl.r_505, e_r_456, e_v4298, q_r_505]
  apply qpay1316_eq

theorem e_r_506 : sl.r_506 c arg2 harg2 arg4 harg4 arg7 arg8 x0 x2 =
    q_r_506 x0 x2 := by
  simp only [sl.r_506, e_r_457, e_v4300, q_r_506]
  apply qpay1317_eq

theorem e_r_507 : sl.r_507 c arg2 harg2 arg4 harg4 arg7 arg8 x0 x2 =
    q_r_507 x0 x2 := by
  simp only [sl.r_507, e_r_458, e_v4302, q_r_507]
  apply qpay1318_eq

theorem e_r_508 : sl.r_508 c arg2 harg2 arg4 harg4 arg7 arg8 x0 x2 =
    q_r_508 x0 x2 := by
  simp only [sl.r_508, e_r_459, e_v4304, q_r_508]
  apply qpay1319_eq

theorem e_r_509 : sl.r_509 c arg2 harg2 arg4 harg4 arg7 arg8 x0 x2 =
    q_r_509 x0 x2 := by
  simp only [sl.r_509, e_r_234, e_r_456, e_v4298, q_r_509]
  apply qpay1320_eq

theorem e_r_51 : sl.r_51 c arg2 harg2 x0 =
    q_r_51 x0 := by
  simp only [sl.r_51, e_r_7, q_r_51]

theorem e_r_510 : sl.r_510 c arg2 harg2 arg4 harg4 arg7 arg8 x0 x2 =
    q_r_510 x0 x2 := by
  simp only [sl.r_510, e_r_235, e_r_457, e_v4300, q_r_510]
  apply qpay1321_eq

theorem e_r_511 : sl.r_511 c arg2 harg2 arg4 harg4 arg7 arg8 x0 x2 =
    q_r_511 x0 x2 := by
  simp only [sl.r_511, e_r_236, e_r_458, e_v4302, q_r_511]
  apply qpay1322_eq

theorem e_r_512 : sl.r_512 c arg2 harg2 arg4 harg4 arg7 arg8 x0 x2 =
    q_r_512 x0 x2 := by
  simp only [sl.r_512, e_r_237, e_r_459, e_v4304, q_r_512]
  apply qpay1323_eq

end Cert.Mirror
-- ==== Proof.Run2.lean ====
module

public import proofs.«01_k».proof.Proof.Run1

/-!
The values of the kernel's run are the mirrors: one equation for each value, each from those before it, and one
for each block diagonal stored and loaded.
-/

@[expose] public noncomputable section

open Idealize.ShloMosaic Cert.Kernel Cert.Kernel.Gen Cert.Kernel.Gen.kernelRun0_A Cert.Heads

namespace Cert.Mirror

variable (c : Dev nD) (arg2 : Memref Cert.Kernel.sig Kind.tc Space.vmem S128x7168 .bf16) (harg2 : arg2.IsWhole)
  (arg3 : Memref Cert.Kernel.sig Kind.tc Space.vmem S128x2048 .bf16) (harg3 : arg3.IsWhole)
  (arg4 : Memref Cert.Kernel.sig Kind.tc Space.vmem S4x256x256 .f32) (harg4 : arg4.IsWhole)
  (arg7 : Memref Cert.Kernel.sig Kind.tc Space.vmem S4x256x256 .f32)
  (arg8 : Memref Cert.Kernel.sig Kind.tc Space.vmem S8x6x128x256 .i32)
  (x0 : Vec Bits S128x7168 .bf16) (x1 : Vec Bits S128x2048 .bf16) (x2 : Vec Bits S4x256x256 .f32)

theorem e_r_513 : sl.r_513 c arg2 harg2 arg4 harg4 arg7 arg8 x0 x2 =
    q_r_513 x0 x2 := by
  simp only [sl.r_513, e_r_234, e_r_456, e_v4298, q_r_513]
  apply qpay1326_eq

theorem s_97 : Good arg8 (sl.HS1_w388 c arg2 harg2 arg4 harg4 arg7 arg8 x0 x2) ∧
    View.readAt (Elt Bits) arg8.view (Rect.unit (s := S8x6x128x256) ![4, 2, 0, 0] S1x1x128x256.size inb_S8x6x128x256_S1x1x128x256_4_2_0_0).toLoadRect
      (sl.HS1_w388 c arg2 harg2 arg4 harg4 arg7 arg8 x0 x2) = words (q_r_509 x0 x2) := by
  unfold sl.HS1_w388 sl.HS1_w387 sl.HS1_w386 sl.HS1_w385
  exact bd4 arg8 _ (s_96 c arg2 harg2 arg4 harg4 arg7 arg8 x0 x2).1 4 2 (q_r_509 x0 x2) _ _ _ _ _ _ _ _ _ _ _ _ _
    (by simp only [e_r_234, e_r_456, e_v4298]; exact (qpay1324_eq _ _ _).trans rfl)
    (by first | (simp only [e_r_513] <;> rfl))
    (by first | (simp only [e_r_509] <;> rfl))
    (by first | (simp only [e_r_509] <;> rfl))
    (mem_lt _) (mem_ge _) (mem_lt _) (mem_ge _)

theorem e_r_514 : sl.r_514 c arg2 harg2 arg4 harg4 arg7 arg8 x0 x2 =
    q_r_514 x0 x2 := by
  unfold sl.r_514
  rw [(s_97 c arg2 harg2 arg4 harg4 arg7 arg8 x0 x2).2]
  simp only [e_r_452, e_r_509, qpay1333_eq, q_r_514]

theorem e_r_515 : sl.r_515 c arg2 harg2 arg4 harg4 arg7 arg8 x0 x2 =
    q_r_515 x0 x2 := by
  simp only [sl.r_515, e_r_510, q_r_515]

theorem s_98 : Good arg8 (sl.HS1_w392 c arg2 harg2 arg4 harg4 arg7 arg8 x0 x2) ∧
    View.readAt (Elt Bits) arg8.view (Rect.unit (s := S8x6x128x256) ![5, 2, 0, 0] S1x1x128x256.size inb_S8x6x128x256_S1x1x128x256_5_2_0_0).toLoadRect
      (sl.HS1_w392 c arg2 harg2 arg4 harg4 arg7 arg8 x0 x2) = words (q_r_510 x0 x2) := by
  unfold sl.HS1_w392 sl.HS1_w391 sl.HS1_w390 sl.HS1_w389
  exact bd4 arg8 _ (s_97 c arg2 harg2 arg4 harg4 arg7 arg8 x0 x2).1 5 2 (q_r_510 x0 x2) _ _ _ _ _ _ _ _ _ _ _ _ _
    (by first | (simp only [e_r_510] <;> rfl))
    (by first | (simp only [e_r_515] <;> rfl))
    (by first | (simp only [e_r_510] <;> rfl))
    (by first | (simp only [e_r_510] <;> rfl))
    (mem_lt _) (mem_ge _) (mem_lt _) (mem_ge _)

theorem e_r_516 : sl.r_516 c arg2 harg2 arg4 harg4 arg7 arg8 x0 x2 =
    q_r_516 x0 x2 := by
  unfold sl.r_516
  rw [(s_98 c arg2 harg2 arg4 harg4 arg7 arg8 x0 x2).2]
  simp only [e_r_453, e_r_510, qpay1342_eq, q_r_516]

theorem e_r_517 : sl.r_517 c arg2 harg2 arg4 harg4 arg7 arg8 x0 x2 =
    q_r_517 x0 x2 := by
  simp only [sl.r_517, e_r_511, q_r_517]

theorem s_99 : Good arg8 (sl.HS1_w396 c arg2 harg2 arg4 harg4 arg7 arg8 x0 x2) ∧
    View.readAt (Elt Bits) arg8.view (Rect.unit (s := S8x6x128x256) ![6, 2, 0, 0] S1x1x128x256.size inb_S8x6x128x256_S1x1x128x256_6_2_0_0).toLoadRect
      (sl.HS1_w396 c arg2 harg2 arg4 harg4 arg7 arg8 x0 x2) = words (q_r_511 x0 x2) := by
  unfold sl.HS1_w396 sl.HS1_w395 sl.HS1_w394 sl.HS1_w393
  exact bd4 arg8 _ (s_98 c arg2 harg2 arg4 harg4 arg7 arg8 x0 x2).1 6 2 (q_r_511 x0 x2) _ _ _ _ _ _ _ _ _ _ _ _ _
    (by first | (simp only [e_r_511] <;> rfl))
    (by first | (simp only [e_r_511] <;> rfl))
    (by first | (simp only [e_r_517] <;> rfl))
    (by first | (simp only [e_r_511] <;> rfl))
    (mem_lt _) (mem_ge _) (mem_lt _) (mem_ge _)

theorem e_r_518 : sl.r_518 c arg2 harg2 arg4 harg4 arg7 arg8 x0 x2 =
    q_r_518 x0 x2 := by
  unfold sl.r_518
  rw [(s_99 c arg2 harg2 arg4 harg4 arg7 arg8 x0 x2).2]
  simp only [e_r_454, e_r_511, qpay1352_eq, q_r_518]

theorem s_100 : Good arg8 (sl.HS1_w400 c arg2 harg2 arg4 harg4 arg7 arg8 x0 x2) ∧
    View.readAt (Elt Bits) arg8.view (Rect.unit (s := S8x6x128x256) ![7, 2, 0, 0] S1x1x128x256.size inb_S8x6x128x256_S1x1x128x256_7_2_0_0).toLoadRect
      (sl.HS1_w400 c arg2 harg2 arg4 harg4 arg7 arg8 x0 x2) = words (q_r_512 x0 x2) := by
  unfold sl.HS1_w400 sl.HS1_w399 sl.HS1_w398 sl.HS1_w397
  exact bd4 arg8 _ (s_99 c arg2 harg2 arg4 harg4 arg7 arg8 x0 x2).1 7 2 (q_r_512 x0 x2) _ _ _ _ _ _ _ _ _ _ _ _ _
    (by first | (simp only [e_r_512] <;> rfl))
    (by first | (simp only [e_r_512] <;> rfl))
    (by first | (simp only [e_r_512] <;> rfl))
    (by first | (simp only [e_r_512] <;> rfl))
    (mem_lt _) (mem_ge _) (mem_lt _) (mem_ge _)

theorem e_r_519 : sl.r_519 c arg2 harg2 arg4 harg4 arg7 arg8 x0 x2 =
    q_r_519 x0 x2 := by
  unfold sl.r_519
  rw [(s_100 c arg2 harg2 arg4 harg4 arg7 arg8 x0 x2).2]
  simp only [e_r_455, e_r_512, qpay1361_eq, q_r_519]

theorem e_r_52 : sl.r_52 c arg2 harg2 x0 =
    q_r_52 x0 := by
  simp only [sl.r_52, e_r_8, q_r_52]

theorem e_r_520 : sl.r_520 c arg2 harg2 arg4 harg4 arg7 arg8 x0 x2 =
    q_r_520 x0 x2 := by
  simp only [sl.r_520, e_r_242, e_r_505, q_r_520]

theorem e_r_521 : sl.r_521 c arg2 harg2 arg4 harg4 arg7 arg8 x0 x2 =
    q_r_521 x0 x2 := by
  simp only [sl.r_521, e_r_514, q_r_521]

theorem s_101 : Good arg8 (sl.HS1_w404 c arg2 harg2 arg4 harg4 arg7 arg8 x0 x2) ∧
    View.readAt (Elt Bits) arg8.view (Rect.unit (s := S8x6x128x256) ![4, 5, 0, 0] S1x1x128x256.size inb_S8x6x128x256_S1x1x128x256_4_5_0_0).toLoadRect
      (sl.HS1_w404 c arg2 harg2 arg4 harg4 arg7 arg8 x0 x2) = words (q_r_514 x0 x2) := by
  unfold sl.HS1_w404 sl.HS1_w403 sl.HS1_w402 sl.HS1_w401
  exact bd4 arg8 _ (s_100 c arg2 harg2 arg4 harg4 arg7 arg8 x0 x2).1 4 5 (q_r_514 x0 x2) _ _ _ _ _ _ _ _ _ _ _ _ _
    (by first | (simp only [e_r_514] <;> rfl))
    (by first | (simp only [e_r_514] <;> rfl))
    (by first | (simp only [e_r_514] <;> rfl))
    (by first | (simp only [e_r_521] <;> rfl))
    (mem_lt _) (mem_ge _) (mem_lt _) (mem_ge _)

theorem e_r_522 : sl.r_522 c arg2 harg2 arg4 harg4 arg7 arg8 x0 x2 =
    q_r_522 x0 x2 := by
  unfold sl.r_522
  rw [(s_101 c arg2 harg2 arg4 harg4 arg7 arg8 x0 x2).2]
  simp only [e_r_176, e_r_514, e_r_520, qpay1372_eq, q_r_522]

theorem e_r_523 : sl.r_523 c arg2 harg2 arg4 harg4 arg7 arg8 x0 x2 =
    q_r_523 x0 x2 := by
  simp only [sl.r_523, e_r_243, e_r_506, q_r_523]

theorem e_r_524 : sl.r_524 c arg2 harg2 arg4 harg4 arg7 arg8 x0 x2 =
    q_r_524 x0 x2 := by
  simp only [sl.r_524, e_r_516, q_r_524]

theorem s_102 : Good arg8 (sl.HS1_w408 c arg2 harg2 arg4 harg4 arg7 arg8 x0 x2) ∧
    View.readAt (Elt Bits) arg8.view (Rect.unit (s := S8x6x128x256) ![5, 5, 0, 0] S1x1x128x256.size inb_S8x6x128x256_S1x1x128x256_5_5_0_0).toLoadRect
      (sl.HS1_w408 c arg2 harg2 arg4 harg4 arg7 arg8 x0 x2) = words (q_r_516 x0 x2) := by
  unfold sl.HS1_w408 sl.HS1_w407 sl.HS1_w406 sl.HS1_w405
  exact bd4 arg8 _ (s_101 c arg2 harg2 arg4 harg4 arg7 arg8 x0 x2).1 5 5 (q_r_516 x0 x2) _ _ _ _ _ _ _ _ _ _ _ _ _
    (by first | (simp only [e_r_516] <;> rfl))
    (by first | (simp only [e_r_516] <;> rfl))
    (by first | (simp only [e_r_516] <;> rfl))
    (by first | (simp only [e_r_524] <;> rfl))
    (mem_lt _) (mem_ge _) (mem_lt _) (mem_ge _)

theorem e_r_525 : sl.r_525 c arg2 harg2 arg4 harg4 arg7 arg8 x0 x2 =
    q_r_525 x0 x2 := by
  unfold sl.r_525
  rw [(s_102 c arg2 harg2 arg4 harg4 arg7 arg8 x0 x2).2]
  simp only [e_r_177, e_r_516, e_r_523, qpay1383_eq, q_r_525]

theorem e_r_526 : sl.r_526 c arg2 harg2 arg4 harg4 arg7 arg8 x0 x2 =
    q_r_526 x0 x2 := by
  simp only [sl.r_526, e_r_244, e_r_507, q_r_526]

theorem s_103 : Good arg8 (sl.HS1_w412 c arg2 harg2 arg4 harg4 arg7 arg8 x0 x2) ∧
    View.readAt (Elt Bits) arg8.view (Rect.unit (s := S8x6x128x256) ![6, 5, 0, 0] S1x1x128x256.size inb_S8x6x128x256_S1x1x128x256_6_5_0_0).toLoadRect
      (sl.HS1_w412 c arg2 harg2 arg4 harg4 arg7 arg8 x0 x2) = words (q_r_518 x0 x2) := by
  unfold sl.HS1_w412 sl.HS1_w411 sl.HS1_w410 sl.HS1_w409
  exact bd4 arg8 _ (s_102 c arg2 harg2 arg4 harg4 arg7 arg8 x0 x2).1 6 5 (q_r_518 x0 x2) _ _ _ _ _ _ _ _ _ _ _ _ _
    (by first | (simp only [e_r_518] <;> rfl))
    (by first | (simp only [e_r_518] <;> rfl))
    (by first | (simp only [e_r_518] <;> rfl))
    (by first | (simp only [e_r_518] <;> rfl))
    (mem_lt _) (mem_ge _) (mem_lt _) (mem_ge _)

theorem e_r_527 : sl.r_527 c arg2 harg2 arg4 harg4 arg7 arg8 x0 x2 =
    q_r_527 x0 x2 := by
  unfold sl.r_527
  rw [(s_103 c arg2 harg2 arg4 harg4 arg7 arg8 x0 x2).2]
  simp only [e_r_178, e_r_518, e_r_526, qpay1393_eq, q_r_527]

theorem e_r_528 : sl.r_528 c arg2 harg2 arg4 harg4 arg7 arg8 x0 x2 =
    q_r_528 x0 x2 := by
  simp only [sl.r_528, e_r_245, e_r_508, q_r_528]

theorem s_104 : Good arg8 (sl.HS1_w416 c arg2 harg2 arg4 harg4 arg7 arg8 x0 x2) ∧
    View.readAt (Elt Bits) arg8.view (Rect.unit (s := S8x6x128x256) ![7, 5, 0, 0] S1x1x128x256.size inb_S8x6x128x256_S1x1x128x256_7_5_0_0).toLoadRect
      (sl.HS1_w416 c arg2 harg2 arg4 harg4 arg7 arg8 x0 x2) = words (q_r_519 x0 x2) := by
  unfold sl.HS1_w416 sl.HS1_w415 sl.HS1_w414 sl.HS1_w413
  exact bd4 arg8 _ (s_103 c arg2 harg2 arg4 harg4 arg7 arg8 x0 x2).1 7 5 (q_r_519 x0 x2) _ _ _ _ _ _ _ _ _ _ _ _ _
    (by first | (simp only [e_r_519] <;> rfl))
    (by first | (simp only [e_r_519] <;> rfl))
    (by first | (simp only [e_r_519] <;> rfl))
    (by first | (simp only [e_r_519] <;> rfl))
    (mem_lt _) (mem_ge _) (mem_lt _) (mem_ge _)

theorem e_r_529 : sl.r_529 c arg2 harg2 arg4 harg4 arg7 arg8 x0 x2 =
    words (q_r_519 x0 x2) := by
  unfold sl.r_529
  rw [(s_104 c arg2 harg2 arg4 harg4 arg7 arg8 x0 x2).2]

theorem e_r_53 : sl.r_53 c arg2 harg2 x0 =
    q_r_53 x0 := by
  simp only [sl.r_53, e_r_9, q_r_53]

theorem e_r_530 : sl.r_530 c arg2 harg2 arg4 harg4 arg7 arg8 x0 x2 =
    q_r_530 x0 x2 := by
  unfold sl.r_530
  simp only [e_r_179, e_r_519, e_r_528, e_r_529, qpay1403_eq, q_r_530]

theorem e_r_531 : sl.r_531 c arg2 harg2 arg4 harg4 arg7 arg8 x0 x2 =
    q_r_531 x0 x2 := by
  simp only [sl.r_531, e_r_204, e_r_212, e_r_519, q_r_531]

theorem e_r_532 : sl.r_532 c arg2 harg2 arg4 harg4 arg7 arg8 x0 x2 =
    q_r_532 x0 x2 := by
  simp only [sl.r_532, e_r_504, e_r_53, q_r_532]

theorem e_r_533 : sl.r_533 c arg2 harg2 arg4 harg4 arg7 arg8 x0 x2 =
    q_r_533 x0 x2 := by
  simp only [sl.r_533, e_r_522, e_r_525, e_r_527, e_r_530, q_r_533]

theorem e_r_534 : sl.r_534 c arg2 harg2 arg4 harg4 arg7 arg8 x0 x2 =
    q_r_534 x0 x2 := by
  simp only [sl.r_534, e_r_522, e_r_525, e_r_527, e_r_530, q_r_534]

theorem e_r_535 : sl.r_535 c arg2 harg2 arg3 harg3 arg4 harg4 arg7 arg8 x0 x1 x2 =
    q_r_535 x0 x1 x2 := by
  simp only [sl.r_535, rd, e_r_522, e_r_525, e_r_527, e_r_530, q_r_535]

theorem e_r_536 : sl.r_536 c arg2 harg2 arg3 harg3 arg4 harg4 arg7 arg8 x0 x1 x2 =
    q_r_536 x0 x1 x2 := by
  simp only [sl.r_536, rd, e_r_533, e_r_534, q_r_536]

end Cert.Mirror
-- ==== Proof.Blocks.lean ====
module

public import proofs.«01_k».proof.Proof.Gen.Kernel.Value
public import proofs.«01_k».proof.Proof.Gen.Reference.Value
public import Idealize.ShloMosaic.Lib.ValueIdxCore
public import Idealize.ShloMosaic.Lib.ValueLayout
public import Idealize.ShloMosaic.Lib.Bf16Pair

/-!
The states' array as four blocks, one a group: the kernel stores block `g` of a `4 x 256 x 256` array and copies it out
under a leading unit axis, the reference stores block `g` of the `1 x 4 x 256 x 256` result. Both are the same array.
-/

@[expose] public noncomputable section

open Idealize.ShloMosaic Idealize.ShloMosaic.ValueIdx Cert.Kernel Cert.Kernel.Gen

namespace Cert.Blocks

theorem hit3 (g : Nat) (hg : g < 4) {i : ∀ a, ![g, 0, 0] a + S1x256x256.size a ≤ S4x256x256.size a}
    (s : FVec Bits S256x256 .f32) (h : S256x256.ShapeCasts S1x256x256)
    (L : List (View.Piece (Elt Bits) S4x256x256 .f32)) (a b : Fin 256) :
    View.canon (⟨Rect.unit (s := S4x256x256) ![g, 0, 0] S1x256x256.size i, shapeCast S1x256x256 s h⟩ :: L)
      (ix3 (⟨g, hg⟩ : Fin 4) a b) = s (ix2 a b) := by
  have e : (ix3 (⟨g, hg⟩ : Fin 4) a b : S4x256x256.Idx)
      = (Rect.unit (s := S4x256x256) ![g, 0, 0] S1x256x256.size i).emb (ix3 (0 : Fin 1) a b) := by
    funext c
    apply Fin.ext
    match c with
    | ⟨0, _⟩ => show g = g + 1 * 0; omega
    | ⟨1, _⟩ => show a.val = 0 + 1 * a.val; omega
    | ⟨2, _⟩ => show b.val = 0 + 1 * b.val; omega
  rw [e, View.canon_cons_emb]
  exact shapeCast_ab_1ab_apply s h 0 a b

theorem miss3 (g k : Nat) (ne : g ≠ k) (hg : g < 4) {i : ∀ a, ![k, 0, 0] a + S1x256x256.size a ≤ S4x256x256.size a}
    (w : FVec Bits S1x256x256 .f32)
    (L : List (View.Piece (Elt Bits) S4x256x256 .f32)) (a b : Fin 256) :
    View.canon (⟨Rect.unit (s := S4x256x256) ![k, 0, 0] S1x256x256.size i, w⟩ :: L)
      (ix3 (⟨g, hg⟩ : Fin 4) a b) = View.canon L (ix3 (⟨g, hg⟩ : Fin 4) a b) := by
  refine View.canon_cons_of_not_mem _ _ fun m => ?_
  have := (Rect.mem_set_unit (inb := i)).mp m (0 : Fin 3)
  have h : k ≤ g ∧ g < k + 1 := this
  omega

theorem hit4 (g : Nat) (hg : g < 4) {i : ∀ a, ![0, g, 0, 0] a + Cert.Reference.S1x1x256x256.size a ≤ S1x4x256x256.size a}
    (s : FVec Bits S256x256 .f32) (h : S256x256.ShapeCasts Cert.Reference.S1x1x256x256)
    (L : List (View.Piece (Elt Bits) S1x4x256x256 .f32)) (a b : Fin 256) :
    View.canon (⟨Rect.unit (s := S1x4x256x256) ![0, g, 0, 0] Cert.Reference.S1x1x256x256.size i,
        shapeCast Cert.Reference.S1x1x256x256 s h⟩ :: L)
      (ix4 (0 : Fin 1) (⟨g, hg⟩ : Fin 4) a b) = s (ix2 a b) := by
  have e : (ix4 (0 : Fin 1) (⟨g, hg⟩ : Fin 4) a b : S1x4x256x256.Idx)
      = (Rect.unit (s := S1x4x256x256) ![0, g, 0, 0] Cert.Reference.S1x1x256x256.size i).emb
          (ix4 (0 : Fin 1) (0 : Fin 1) a b) := by
    funext c
    apply Fin.ext
    match c with
    | ⟨0, _⟩ => rfl
    | ⟨1, _⟩ => show g = g + 1 * 0; omega
    | ⟨2, _⟩ => show a.val = 0 + 1 * a.val; omega
    | ⟨3, _⟩ => show b.val = 0 + 1 * b.val; omega
  rw [e, View.canon_cons_emb]
  exact shapeCast_apply s h _ (ix2 a b) (by
    rw [Shape.rowMajor_val_two, Shape.rowMajor_val_four]
    show a.val * 256 + b.val = ((0 * 1 + 0) * 256 + a.val) * 256 + b.val
    omega)

theorem miss4 (g k : Nat) (ne : g ≠ k) (hg : g < 4)
    {i : ∀ a, ![0, k, 0, 0] a + Cert.Reference.S1x1x256x256.size a ≤ S1x4x256x256.size a}
    (w : FVec Bits Cert.Reference.S1x1x256x256 .f32)
    (L : List (View.Piece (Elt Bits) S1x4x256x256 .f32)) (a b : Fin 256) :
    View.canon (⟨Rect.unit (s := S1x4x256x256) ![0, k, 0, 0] Cert.Reference.S1x1x256x256.size i, w⟩ :: L)
      (ix4 (0 : Fin 1) (⟨g, hg⟩ : Fin 4) a b) = View.canon L (ix4 (0 : Fin 1) (⟨g, hg⟩ : Fin 4) a b) := by
  refine View.canon_cons_of_not_mem _ _ fun m => ?_
  have := (Rect.mem_set_unit (inb := i)).mp m (1 : Fin 4)
  have h : k ≤ g ∧ g < k + 1 := this
  omega

/-- The array of four groups, copied out, is the result stored group by group. -/
theorem groups (s0 s1 s2 s3 : FVec Bits S256x256 .f32) (h : S256x256.ShapeCasts S1x256x256)
    (h' : S256x256.ShapeCasts Cert.Reference.S1x1x256x256) (hc : S4x256x256.ShapeCasts S1x4x256x256)
    {i0 i1 i2 i3 j0 j1 j2 j3} (L : List (View.Piece (Elt Bits) S4x256x256 .f32)) :
    shapeCast S1x4x256x256 (View.canon
      (⟨Rect.unit (s := S4x256x256) ![3, 0, 0] S1x256x256.size i3, shapeCast S1x256x256 s3 h⟩ ::
        ⟨Rect.unit (s := S4x256x256) ![2, 0, 0] S1x256x256.size i2, shapeCast S1x256x256 s2 h⟩ ::
        ⟨Rect.unit (s := S4x256x256) ![1, 0, 0] S1x256x256.size i1, shapeCast S1x256x256 s1 h⟩ ::
        ⟨Rect.unit (s := S4x256x256) ![0, 0, 0] S1x256x256.size i0, shapeCast S1x256x256 s0 h⟩ :: L)) hc
    = View.canon (Val := Elt Bits) (e := .f32)
      [⟨Rect.unit (s := S1x4x256x256) ![0, 3, 0, 0] Cert.Reference.S1x1x256x256.size j3,
          shapeCast Cert.Reference.S1x1x256x256 s3 h'⟩,
        ⟨Rect.unit (s := S1x4x256x256) ![0, 2, 0, 0] Cert.Reference.S1x1x256x256.size j2,
          shapeCast Cert.Reference.S1x1x256x256 s2 h'⟩,
        ⟨Rect.unit (s := S1x4x256x256) ![0, 1, 0, 0] Cert.Reference.S1x1x256x256.size j1,
          shapeCast Cert.Reference.S1x1x256x256 s1 h'⟩,
        ⟨Rect.unit (s := S1x4x256x256) ![0, 0, 0, 0] Cert.Reference.S1x1x256x256.size j0,
          shapeCast Cert.Reference.S1x1x256x256 s0 h'⟩] := by
  funext y
  have e : y = ix4 (0 : Fin 1) (y 1) (y 2) (y 3) := by
    funext c
    match c with
    | ⟨0, _⟩ => exact Subsingleton.elim (α := Fin 1) _ _
    | ⟨1, _⟩ => rfl
    | ⟨2, _⟩ => rfl
    | ⟨3, _⟩ => rfl
  have key : ∀ (g : Fin 4) (a b : Fin 256), View.canon (Val := Elt Bits) (e := .f32)
      (⟨Rect.unit (s := S4x256x256) ![3, 0, 0] S1x256x256.size i3, shapeCast S1x256x256 s3 h⟩ ::
        ⟨Rect.unit (s := S4x256x256) ![2, 0, 0] S1x256x256.size i2, shapeCast S1x256x256 s2 h⟩ ::
        ⟨Rect.unit (s := S4x256x256) ![1, 0, 0] S1x256x256.size i1, shapeCast S1x256x256 s1 h⟩ ::
        ⟨Rect.unit (s := S4x256x256) ![0, 0, 0] S1x256x256.size i0, shapeCast S1x256x256 s0 h⟩ :: L) (ix3 g a b)
    = View.canon (Val := Elt Bits) (e := .f32)
      [⟨Rect.unit (s := S1x4x256x256) ![0, 3, 0, 0] Cert.Reference.S1x1x256x256.size j3,
          shapeCast Cert.Reference.S1x1x256x256 s3 h'⟩,
        ⟨Rect.unit (s := S1x4x256x256) ![0, 2, 0, 0] Cert.Reference.S1x1x256x256.size j2,
          shapeCast Cert.Reference.S1x1x256x256 s2 h'⟩,
        ⟨Rect.unit (s := S1x4x256x256) ![0, 1, 0, 0] Cert.Reference.S1x1x256x256.size j1,
          shapeCast Cert.Reference.S1x1x256x256 s1 h'⟩,
        ⟨Rect.unit (s := S1x4x256x256) ![0, 0, 0, 0] Cert.Reference.S1x1x256x256.size j0,
          shapeCast Cert.Reference.S1x1x256x256 s0 h'⟩] (ix4 (0 : Fin 1) g a b) := by
    intro g a b
    match g with
    | ⟨0, hg⟩ =>
      exact ((miss3 0 3 (by decide) hg _ _ a b).trans ((miss3 0 2 (by decide) hg _ _ a b).trans
        ((miss3 0 1 (by decide) hg _ _ a b).trans (hit3 0 hg s0 h _ a b)))).trans
        ((miss4 0 3 (by decide) hg _ _ a b).trans ((miss4 0 2 (by decide) hg _ _ a b).trans
        ((miss4 0 1 (by decide) hg _ _ a b).trans (hit4 0 hg s0 h' _ a b)))).symm
    | ⟨1, hg⟩ =>
      exact ((miss3 1 3 (by decide) hg _ _ a b).trans ((miss3 1 2 (by decide) hg _ _ a b).trans
        (hit3 1 hg s1 h _ a b))).trans
        ((miss4 1 3 (by decide) hg _ _ a b).trans ((miss4 1 2 (by decide) hg _ _ a b).trans
        (hit4 1 hg s1 h' _ a b))).symm
    | ⟨2, hg⟩ =>
      exact ((miss3 2 3 (by decide) hg _ _ a b).trans (hit3 2 hg s2 h _ a b)).trans
        ((miss4 2 3 (by decide) hg _ _ a b).trans (hit4 2 hg s2 h' _ a b)).symm
    | ⟨3, hg⟩ => exact (hit3 3 hg s3 h _ a b).trans (hit4 3 hg s3 h' _ a b).symm
  rw [e]
  exact (shapeCast_abc_1abc_apply _ hc 0 (y 1) (y 2) (y 3)).trans (key (y 1) (y 2) (y 3))

end Cert.Blocks
-- ==== Proof.Outs.lean ====
module

public import proofs.«01_k».proof.Proof.Run2
public import proofs.«01_k».proof.Proof.Blocks

/-!
What the kernel's run leaves in its two results, at the reference's values: each final state is the reference's, each block of
the output is the reference's, so both results are.
-/

@[expose] public noncomputable section

open Idealize.ShloMosaic Cert.Kernel Cert.Kernel.Gen Cert.Kernel.Gen.kernelRun0_A Cert.Heads

namespace Cert.Mirror

/-- Group 0's state at the end. -/
theorem state0 (x0 : Vec Bits S128x7168 .bf16) (x1 : Vec Bits S128x2048 .bf16) (x2 : Vec Bits S4x256x256 .f32) :
    q_sf0 x0 x2 = (Cert.Reference.Gen.k0_pay337 (F := Bits) (Cert.Reference.Gen.k0_pay545 (F := Bits) x0 x1 x2) (Cert.Reference.Gen.k0_pay570 (F := Bits) x0 x1 x2) (View.ld x0 Cert.Reference.Gen.r0_40) (Cert.Reference.Gen.k0_pay627 (F := Bits) x0 x1 x2) (Cert.Reference.Gen.k0_pay628 (F := Bits) x0 x1 x2) (Cert.Reference.Gen.k0_pay629 (F := Bits) x0 x1 x2) (Cert.Reference.Gen.k0_pay286 (F := Bits) (Cert.Reference.Gen.k0_pay625 (F := Bits) x0 x1 x2) (Cert.Reference.Gen.k0_pay627 (F := Bits) x0 x1 x2)) (Cert.Reference.Gen.k0_pay635 (F := Bits) x0 x1 x2) (Cert.Reference.Gen.k0_pay639 (F := Bits) x0 x1 x2) (Cert.Reference.Gen.k0_pay640 (F := Bits) x0 x1 x2)) := by
  sl_kernel_rfl

/-- Group 1's state at the end. -/
theorem state1 (x0 : Vec Bits S128x7168 .bf16) (x1 : Vec Bits S128x2048 .bf16) (x2 : Vec Bits S4x256x256 .f32) :
    q_sf1 x0 x2 = (Cert.Reference.Gen.k0_pay404 (F := Bits) (Cert.Reference.Gen.k0_pay545 (F := Bits) x0 x1 x2) (Cert.Reference.Gen.k0_pay587 (F := Bits) x0 x1 x2) (View.ld x0 Cert.Reference.Gen.r0_45) (Cert.Reference.Gen.k0_pay643 (F := Bits) x0 x1 x2) (Cert.Reference.Gen.k0_pay644 (F := Bits) x0 x1 x2) (Cert.Reference.Gen.k0_pay645 (F := Bits) x0 x1 x2) (Cert.Reference.Gen.k0_pay346 (F := Bits) (Cert.Reference.Gen.k0_pay642 (F := Bits) x0 x1 x2) (Cert.Reference.Gen.k0_pay643 (F := Bits) x0 x1 x2)) (Cert.Reference.Gen.k0_pay656 (F := Bits) x0 x1 x2) (Cert.Reference.Gen.k0_pay657 (F := Bits) x0 x1 x2) (Cert.Reference.Gen.k0_pay658 (F := Bits) x0 x1 x2)) := by
  sl_kernel_rfl

/-- Group 2's state at the end. -/
theorem state2 (x0 : Vec Bits S128x7168 .bf16) (x1 : Vec Bits S128x2048 .bf16) (x2 : Vec Bits S4x256x256 .f32) :
    q_sf2 x0 x2 = (Cert.Reference.Gen.k0_pay467 (F := Bits) (Cert.Reference.Gen.k0_pay545 (F := Bits) x0 x1 x2) (Cert.Reference.Gen.k0_pay602 (F := Bits) x0 x1 x2) (View.ld x0 Cert.Reference.Gen.r0_50) (Cert.Reference.Gen.k0_pay661 (F := Bits) x0 x1 x2) (Cert.Reference.Gen.k0_pay662 (F := Bits) x0 x1 x2) (Cert.Reference.Gen.k0_pay663 (F := Bits) x0 x1 x2) (Cert.Reference.Gen.k0_pay413 (F := Bits) (Cert.Reference.Gen.k0_pay660 (F := Bits) x0 x1 x2) (Cert.Reference.Gen.k0_pay661 (F := Bits) x0 x1 x2)) (Cert.Reference.Gen.k0_pay672 (F := Bits) x0 x1 x2)) := by
  sl_kernel_rfl

/-- Group 3's state at the end. -/
theorem state3 (x0 : Vec Bits S128x7168 .bf16) (x1 : Vec Bits S128x2048 .bf16) (x2 : Vec Bits S4x256x256 .f32) :
    q_sf3 x0 x2 = (Cert.Reference.Gen.k0_pay532 (F := Bits) (Cert.Reference.Gen.k0_pay545 (F := Bits) x0 x1 x2) (Cert.Reference.Gen.k0_pay620 (F := Bits) x0 x1 x2) (View.ld x0 Cert.Reference.Gen.r0_55) (Cert.Reference.Gen.k0_pay469 (F := Bits) (Cert.Reference.Gen.k0_pay547 (F := Bits) x0 x1 x2)) (Cert.Reference.Gen.k0_pay674 (F := Bits) x0 x1 x2) (Cert.Reference.Gen.k0_pay675 (F := Bits) x0 x1 x2) (Cert.Reference.Gen.k0_pay475 (F := Bits) (Cert.Reference.Gen.k0_pay547 (F := Bits) x0 x1 x2)) (Cert.Reference.Gen.k0_pay528 (F := Bits) (Cert.Reference.Gen.k0_pay540 (F := Bits) x0 x1 x2) (Cert.Reference.Gen.k0_pay545 (F := Bits) x0 x1 x2) (Cert.Reference.Gen.k0_pay679 (F := Bits) x0 x1 x2) (Cert.Reference.Gen.k0_pay681 (F := Bits) x0 x1 x2) (Cert.Reference.Gen.k0_pay686 (F := Bits) x0 x1 x2) (Cert.Reference.Gen.k0_pay687 (F := Bits) x0 x1 x2) (Cert.Reference.Gen.k0_pay688 (F := Bits) x0 x1 x2) 32#32 (Cert.Reference.Gen.k0_pay689 (F := Bits) x0 x1 x2) (Cert.Reference.Gen.k0_pay690 (F := Bits) x0 x1 x2) (Cert.Reference.Gen.k0_pay691 (F := Bits) x0 x1 x2))) := by
  sl_kernel_rfl

/-- The output's blocks. -/
theorem out3 (c : Dev nD) (i : grid0.Coords) (arg2 : Memref Cert.Kernel.sig .tc .vmem S128x7168 .bf16) (harg2 : arg2.IsWhole) (arg3 : Memref Cert.Kernel.sig .tc .vmem S128x2048 .bf16) (harg3 : arg3.IsWhole) (arg4 : Memref Cert.Kernel.sig .tc .vmem S4x256x256 .f32) (harg4 : arg4.IsWhole) (arg5 : Memref Cert.Kernel.sig .tc .vmem S128x1024 .bf16) (harg5 : arg5.IsWhole) (arg6 : Memref Cert.Kernel.sig .tc .vmem S1x4x256x256 .f32) (harg6 : arg6.IsWhole) (arg7 : Memref Cert.Kernel.sig .tc .vmem S4x256x256 .f32) (harg7 : arg7.IsWhole) (arg8 : Memref Cert.Kernel.sig .tc .vmem S8x6x128x256 .i32) (harg8 : arg8.IsWhole) (hc0 : cond0_0 i) (hc1 : cond0_1 i) (hc2 : cond0_2 i)
    (x0 : Vec Bits S128x7168 .bf16) (x1 : Vec Bits S128x2048 .bf16) (x2 : Vec Bits S4x256x256 .f32) :
    out0_A_3 c i arg2 harg2 arg3 harg3 arg4 harg4 arg5 harg5 arg6 harg6 arg7 harg7 arg8 harg8 hc0 hc1 hc2 x0 x1 x2 = Cert.Reference.Gen.out0_3 x0 x1 x2 := by
  unfold out0_A_3
  rw [View.read_writes_junk_eq_canon]
  unfold kernelRun0_A
  simp only [rd, e_r_483, e_r_486, e_r_489, e_r_493, e_r_496, e_r_497, e_r_498, e_r_499, e_r_500, e_r_522, e_r_525, e_r_527, e_r_530, e_r_533, e_r_534, e_r_535, e_r_536]
  sl_kernel_rfl

/-- The states' blocks. -/
theorem out4 (c : Dev nD) (i : grid0.Coords) (arg2 : Memref Cert.Kernel.sig .tc .vmem S128x7168 .bf16) (harg2 : arg2.IsWhole) (arg3 : Memref Cert.Kernel.sig .tc .vmem S128x2048 .bf16) (harg3 : arg3.IsWhole) (arg4 : Memref Cert.Kernel.sig .tc .vmem S4x256x256 .f32) (harg4 : arg4.IsWhole) (arg5 : Memref Cert.Kernel.sig .tc .vmem S128x1024 .bf16) (harg5 : arg5.IsWhole) (arg6 : Memref Cert.Kernel.sig .tc .vmem S1x4x256x256 .f32) (harg6 : arg6.IsWhole) (arg7 : Memref Cert.Kernel.sig .tc .vmem S4x256x256 .f32) (harg7 : arg7.IsWhole) (arg8 : Memref Cert.Kernel.sig .tc .vmem S8x6x128x256 .i32) (harg8 : arg8.IsWhole) (hc0 : cond0_0 i) (hc1 : cond0_1 i) (hc2 : cond0_2 i)
    (x0 : Vec Bits S128x7168 .bf16) (x1 : Vec Bits S128x2048 .bf16) (x2 : Vec Bits S4x256x256 .f32) :
    out0_A_4 c i arg2 harg2 arg3 harg3 arg4 harg4 arg5 harg5 arg6 harg6 arg7 harg7 arg8 harg8 hc0 hc1 hc2 x0 x1 x2 = Cert.Reference.Gen.out0_4 x0 x1 x2 := by
  have hs : sl.v4676_1 c arg2 harg2 arg4 harg4 arg7 arg8 x0 x2 = View.canon
      (⟨Rect.unit (s := S4x256x256) ![3, 0, 0] S1x256x256.size inb_S4x256x256_S1x256x256_3_0_0, shapeCast S1x256x256 (q_sf3 x0 x2) shapeCasts_S256x256_S1x256x256⟩ ::
        ⟨Rect.unit (s := S4x256x256) ![2, 0, 0] S1x256x256.size inb_S4x256x256_S1x256x256_2_0_0, shapeCast S1x256x256 (q_sf2 x0 x2) shapeCasts_S256x256_S1x256x256⟩ ::
        ⟨Rect.unit (s := S4x256x256) ![1, 0, 0] S1x256x256.size inb_S4x256x256_S1x256x256_1_0_0, shapeCast S1x256x256 (q_sf1 x0 x2) shapeCasts_S256x256_S1x256x256⟩ ::
        ⟨Rect.unit (s := S4x256x256) ![0, 0, 0] S1x256x256.size inb_S4x256x256_S1x256x256_0_0_0, shapeCast S1x256x256 (q_sf0 x0 x2) shapeCasts_S256x256_S1x256x256⟩ ::
        sl.HS0_5 c arg2 harg2 arg4 harg4 arg7 arg8 x0 x2) := by
    unfold sl.v4676_1
    rw [View.readCov_eq_canon']
    refine (View.ld_unit_zero (show ![0, 0, 0] = fun _ => 0 from by decide) _ _).trans ?_
    unfold sl.HS0_9
    simp only [e_r_201, e_r_202, e_r_203, e_r_209, e_r_210, e_r_211, e_r_50, e_r_501, e_r_502, e_r_503, e_r_51, e_r_514, e_r_516, e_r_518, e_r_52, e_r_531, e_r_532, qpay1405s_eq, qpay1406s_eq, qpay1407s_eq, qpay1410s_eq, q_sf0, q_sf1, q_sf2, q_sf3]
  unfold out0_A_4
  rw [View.read_writes_junk_eq_canon]
  unfold kernelRun0_A
  refine (View.canon_unit_zero (show ![0, 0, 0, 0] = fun _ => 0 from by decide) _ _).trans ?_
  rw [hs]
  refine (Cert.Blocks.groups (j0 := Cert.Reference.Gen.inb_S1x4x256x256_S1x1x256x256_0_0_0_0) (j1 := Cert.Reference.Gen.inb_S1x4x256x256_S1x1x256x256_0_1_0_0) (j2 := Cert.Reference.Gen.inb_S1x4x256x256_S1x1x256x256_0_2_0_0) (j3 := Cert.Reference.Gen.inb_S1x4x256x256_S1x1x256x256_0_3_0_0) _ _ _ _ _ (by decide) _ _).trans ?_
  rw [state0 x0 x1 x2, state1 x0 x1 x2, state2 x0 x1 x2, state3 x0 x1 x2]
  rfl

end Cert.Mirror
-- ==== Proof.Ffn.lean ====
module

public import proofs.«01_k».proof.Proof.Gen.Kernel3Ideal.Value
public import proofs.«01_k».proof.Proof.Gen.Reference3Ideal
public import proofs.«01_k».proof.Defs
public import Idealize.ShloMosaic.Lib.Pipeline.ValueKit

/-!
The first feed-forward layer, row by row: the version's call computes the hidden units in two halves of 1408 at each block of
512 rows, the reference all 2816 at once; at the ideal instance both leave the row plus half the layer's row.
-/

@[expose] public noncomputable section

set_option maxRecDepth 16384

open Idealize.ShloMosaic Idealize.ShloMosaic.TcCoe Idealize.SL.Sem
open Idealize.ShloMosaic.Pipeline (Dat)

namespace Cert.Rows
/-- A row divided by its root mean square, times the gains. -/
def rms (x g : Fin 1024 → EReal) (k : Fin 1024) : EReal :=
  x k * Ideal.rsqrt (Ideal.div (∑ j, x j * x j) (Ideal.ofBits .f32 1149239296#32) + Ideal.ofBits .f32 897988541#32) * g k
/-- Column `f` of a row times a matrix. -/
def col (u : Fin 1024 → EReal) (w : Fin 1024 → Fin 5632 → EReal) (f : Fin 5632) : EReal := ∑ k, u k * w k f
/-- The gated unit `f`: the first 2816 columns are gates, the others the values gated. -/
def unit (u : Fin 1024 → EReal) (w : Fin 1024 → Fin 5632 → EReal) (f : Fin 2816) : EReal :=
  col u w ⟨f, by omega⟩ * Ideal.logistic (col u w ⟨f, by omega⟩) * col u w ⟨2816 + f, by omega⟩
/-- A row plus half the feed-forward layer of the normalised row. -/
def ffn (x g : Fin 1024 → EReal) (w : Fin 1024 → Fin 5632 → EReal) (o : Fin 2816 → Fin 1024 → EReal) (c : Fin 1024) : EReal :=
  x c + Ideal.ofBits .f32 1056964608#32 * ∑ f, unit (rms x g) w f * o f c
theorem halves (F : Fin 2816 → EReal) :
    (∑ f : Fin 2816, F f) = (∑ f : Fin 1408, F ⟨f, by omega⟩) + ∑ f : Fin 1408, F ⟨1408 + f, by omega⟩ :=
  Fin.sum_univ_two_halves 1408 1408 rfl F
end Cert.Rows
namespace Cert.Kernel3Ideal.Value
open Cert.Kernel3Ideal Cert.Kernel3Ideal.Gen Cert.Rows
variable (m : (ℓ : Loc nD τ sig) → Buf (Elt Ideal) ℓ)
theorem idx : ∀ t : Fin cfg0.N, win0_0.index t = ![t.val, 0] ∧ win0_1.index t = ![0, 0] ∧ win0_2.index t = ![0, 0] ∧ win0_3.index t = ![0, 0] ∧ win0_4.index t = ![t.val, 0] :=
  (by decide +kernel : ∀ t : Fin grid0.N, _)
theorem pay (x : Vec Ideal S512x1024 .f32) (g : Vec Ideal S1x1024 .f32) (w : Vec Ideal S1024x5632 .bf16) (o : Vec Ideal S2816x1024 .bf16) (a : Fin 512) (b : Fin 1024) :
    k0_pay1 (k0_pay2 x) (k0_pay3 x g) (k0_pay4 x g (View.ld w r0_2) (View.ld w r0_3) (View.ld o r0_4))
      (k0_pay5 x g (View.ld w r0_5)) (k0_pay6 (View.ld w r0_6)) (View.ld o r0_7) (ix2 a b)
    = ffn (fun k => x (ix2 a k)) (fun k => g (ix2 0 k)) (fun k f => w (ix2 k f)) (fun f c => o (ix2 f c)) b := by
  unfold ffn
  rw [halves]
  pointwise [k0_pay1, k0_pay2, k0_pay3, k0_pay4, k0_pay5, k0_pay6, unit, col, rms]
  simp only [← Nat.add_assoc, Nat.reduceAdd]
/-- What every row of the result is, of the arguments. -/
def G (X : FVec Ideal S16x2048x1024 .f32) (g : FVec Ideal S1x1024 .f32) (w : FVec Ideal S1x1024x5632 .f32) (o : FVec Ideal S1x2816x1024 .f32)
    (a : Fin 32768) (b : Fin 1024) : EReal :=
  ffn (fun k => X (ix3 ⟨a.val / 2048, by omega⟩ ⟨a.val % 2048, by omega⟩ k)) (fun k => g (ix2 0 k)) (fun k f => w (ix3 0 k f)) (fun f k => o (ix3 0 f k)) b
theorem b0 (c : Dev nD) (t : Fin cfg0.N) (a : Fin 512) (k : Fin 1024) (ht : 512 * t.val + a.val < 32768) :
    iblk m c 0 t (ix2 a k) = (m ((c : Thread nD τ).loc main_arg0) : FVec Ideal S16x2048x1024 .f32)
      (ix3 ⟨(512 * t.val + a.val) / 2048, by omega⟩ ⟨(512 * t.val + a.val) % 2048, by omega⟩ k) := by
  blk_point [iblk, V, idx t]
theorem b1 (c : Dev nD) (t : Fin cfg0.N) (k : Fin 1024) :
    iblk m c 1 t (ix2 0 k) = (m ((c : Thread nD τ).loc main_arg1) : FVec Ideal S1x1024 .f32) (ix2 0 k) := by
  blk_point [iblk, V, idx t]
theorem b2 (c : Dev nD) (t : Fin cfg0.N) (k : Fin 1024) (f : Fin 5632) :
    iblk m c 2 t (ix2 k f) = (m ((c : Thread nD τ).loc main_arg2) : FVec Ideal S1x1024x5632 .f32) (ix3 0 k f) := by
  blk_point [iblk, V, idx t]
theorem b3 (c : Dev nD) (t : Fin cfg0.N) (k : Fin 1024) (f : Fin 2816) :
    iblk m c 3 t (ix2 f k) = (m ((c : Thread nD τ).loc main_arg3) : FVec Ideal S1x2816x1024 .f32) (ix3 0 f k) := by
  blk_point [iblk, V, idx t]
theorem final (c : Dev nD) (R : FVec Ideal S32768x1024 .f32) (hR : ∀ a b, R (ix2 a b) = G (m ((c : Thread nD τ).loc main_arg0)) (m ((c : Thread nD τ).loc main_arg1)) (m ((c : Thread nD τ).loc main_arg2)) (m ((c : Thread nD τ).loc main_arg3)) a b) :
    (dats m 0 c).arrAt 4 (cfgs 0).N = R := by
  refine (dats m 0 c).arrAt_eq_of_covers 4 _ (by decide +kernel) fun t _ y => ?_   -- the blocks tile the array: DECIDED
  blk_simp
  rw [after0_4]; frame_out
  obtain ⟨a, b, rfl⟩ : ∃ (a : Fin 512) (b : Fin 1024), y = ix2 a b := ⟨y 0, y 1, eq_ix2 y⟩
  have ht : 512 * t.val + a.val < 32768 := by have := t.isLt; have h : cfg0.grid.N = 64 := rfl; omega
  refine (pay _ _ _ _ a b).trans (Eq.trans ?_ ((congrArg R (?_ : _ = ix2 ⟨512 * t.val + a.val, ht⟩ b)).trans (hR _ b)).symm)
  · unfold G
    simp only [b0 m c t a _ ht, b1, b2, b3]
  · blk_ext [idx t]
end Cert.Kernel3Ideal.Value
namespace Cert.Reference3Ideal.Value
open Cert.Reference3Ideal Cert.Reference3Ideal.Gen Cert.Rows
/-- The gate times its sigmoid, as the reference writes it. -/
def silu (x : FVec Ideal S32768x2816 .f32) : FVec Ideal S32768x2816 .f32 :=
  mulf x (Host.divf (broadcastInDim S32768x2816 ![] bcast_S_S32768x2816 (constant S_ .f32 1065353216#32))
    (addf (broadcastInDim S32768x2816 ![] bcast_S_S32768x2816 (constant S_ .f32 1065353216#32)) (Host.exp (Host.negf x))))
/-- The reference's row-wise normalisation. -/
def norm (x : FVec Ideal S32768x1024 .f32) (g : FVec Ideal S1024 .f32) : FVec Ideal S32768x1024 .f32 :=
  mulf (mulf x (broadcastInDim S32768x1024 ![0, 1] bcast_S32768x1_S32768x1024_0_1 (Host.rsqrt (addf (Host.divf
      (broadcastInDim S32768x1 ![0] bcast_S32768_S32768x1_0 (Host.reduceAdd (mulf x x) (constant S_ .f32 0#32) reducesTo_S32768x1024_S32768_d1 h_S_))
      (broadcastInDim S32768x1 ![] bcast_S_S32768x1 (constant S_ .f32 1149239296#32)))
      (broadcastInDim S32768x1 ![] bcast_S_S32768x1 (constant S_ .f32 897988541#32))))))
    (broadcastInDim S32768x1024 ![0, 1] bcast_S1x1024_S32768x1024_0_1 (broadcastInDim S1x1024 ![1] bcast_S1024_S1x1024_1 g))
def prod (x : FVec Ideal S32768x1024 .f32) (w : FVec Ideal S1024x5632 .f32) : FVec Ideal S32768x5632 .f32 :=
  Host.dotGeneral dot_S32768x1024_S1024x5632_S32768x5632_1_0_0_1_n_n none x w
/-- The reference's result, of its arguments. -/
def REF (X : FVec Ideal S16x2048x1024 .f32) (G : FVec Ideal S1x1024 .f32) (W : FVec Ideal S1x1024x5632 .f32) (O : FVec Ideal S1x2816x1024 .f32) :
    FVec Ideal S32768x1024 .f32 :=
  addf (shapeCast S32768x1024 X shapeCasts_S16x2048x1024_S32768x1024)
    (mulf (broadcastInDim S32768x1024 ![] bcast_S_S32768x1024 (constant S_ .f32 1056964608#32))
      (Host.dotGeneral dot_S32768x2816_S2816x1024_S32768x1024_1_0_0_1_n_n none
        (mulf (silu (extractStridedSlice S32768x2816 ![0, 0]
            (prod (norm (shapeCast S32768x1024 X shapeCasts_S16x2048x1024_S32768x1024) (shapeCast S1024 G shapeCasts_S1x1024_S1024))
              (shapeCast S1024x5632 W shapeCasts_S1x1024x5632_S1024x5632)) slices_S32768x5632_S32768x2816_0_0))
          (extractStridedSlice S32768x2816 ![0, 2816]
            (prod (norm (shapeCast S32768x1024 X shapeCasts_S16x2048x1024_S32768x1024) (shapeCast S1024 G shapeCasts_S1x1024_S1024))
              (shapeCast S1024x5632 W shapeCasts_S1x1024x5632_S1024x5632)) slices_S32768x5632_S32768x2816_0_2816))
        (shapeCast S2816x1024 O shapeCasts_S1x2816x1024_S2816x1024)))

theorem ref_at (X : FVec Ideal S16x2048x1024 .f32) (G : FVec Ideal S1x1024 .f32) (W : FVec Ideal S1x1024x5632 .f32) (O : FVec Ideal S1x2816x1024 .f32)
    (a : Fin 32768) (b : Fin 1024) : REF X G W O (ix2 a b) = Cert.Kernel3Ideal.Value.G X G W O a b := by
  pointwise [REF, silu, norm, prod, Cert.Kernel3Ideal.Value.G, ffn, unit, col, rms, Ideal.logistic]
end Cert.Reference3Ideal.Value
namespace Cert.Proof
attribute [local instance] Cert.Kernel3Ideal.Gen.facts Cert.Reference3Ideal.Gen.facts

theorem alg3 : algebraic_Kernel3Ideal_Reference3Ideal := by
  pair_intro
  · run_from Cert.Kernel3Ideal.Gen.run_main m g
  · hlo_run
    exact (Cert.Kernel3Ideal.Value.final m c (Cert.Reference3Ideal.Value.REF (m (c.tc.loc Cert.Kernel3Ideal.main_arg0)) (m (c.tc.loc Cert.Kernel3Ideal.main_arg1)) (m (c.tc.loc Cert.Kernel3Ideal.main_arg2)) (m (c.tc.loc Cert.Kernel3Ideal.main_arg3)))
      fun a b => Cert.Reference3Ideal.Value.ref_at _ _ _ _ a b).symm

theorem fr3 : quiescent_Reference3Ideal := by
  intro m g _
  refine (θ_run Cert.Reference3Ideal.defs _ _).mono (fun r h => ⟨h, Idealize.ShloMosaic.sem_eq_zero_of_no_sems (by decide) r.2⟩) ?_
  hlo_run
end Cert.Proof
-- ==== Proof.Mixffn.lean ====
module

public import proofs.«01_k».proof.Proof.Ffn
public import proofs.«01_k».proof.Proof.Gen.Kernel2Ideal.Value
public import proofs.«01_k».proof.Proof.Gen.Reference2Ideal

/-!
The version's last call, row by row: the two gated branches mixed and projected onto the residual, the second feed-forward layer
(its hidden units in two halves, as in the first layer's call), and the final normalisation. The version's sigmoid is by the
hyperbolic tangent, the reference's by the exponential: one function at the ideal instance.
-/

@[expose] public noncomputable section

set_option maxRecDepth 16384

open Idealize.ShloMosaic Idealize.ShloMosaic.TcCoe Idealize.SL.Sem
open Idealize.ShloMosaic.Pipeline (Dat)

namespace Cert.Rows

theorem half_eq : Ideal.ofBits .f32 1056964608#32 = ((1 / 2 : ℝ) : EReal) := by
  simp [Ideal.ofBits, Ideal.ieee, -EReal.coe_mul]; norm_num

/-- The version's sigmoid, by the hyperbolic tangent, is the logistic function. -/
theorem sigmoid (x : EReal) :
    Ideal.ofBits .f32 1056964608#32 * Ideal.tanh (Ideal.ofBits .f32 1056964608#32 * x) + Ideal.ofBits .f32 1056964608#32
      = Ideal.logistic x := by
  rw [half_eq]
  induction x with
  | bot =>
    rw [EReal.coe_mul_bot_of_pos (by norm_num), Ideal.tanh_bot, Ideal.logistic_bot]
    rw [show (-1 : EReal) = ((-1 : ℝ) : EReal) by norm_num, ← EReal.coe_mul, ← EReal.coe_add]
    norm_num
  | coe r =>
    rw [← EReal.coe_mul, Ideal.tanh_coe, Ideal.logistic_coe, ← EReal.coe_mul, ← EReal.coe_add]
    congr 1
    rw [Real.tanh_eq_sinh_div_cosh, Real.sinh_eq, Real.cosh_eq]
    have h : Real.exp (-r) = Real.exp (-(1 / 2 * r)) * Real.exp (-(1 / 2 * r)) := by rw [← Real.exp_add]; ring_nf
    have e : Real.exp (1 / 2 * r) * Real.exp (-(1 / 2 * r)) = 1 := by rw [← Real.exp_add]; simp
    have p := Real.exp_pos (1 / 2 * r)
    have q := Real.exp_pos (-(1 / 2 * r))
    rw [h]
    generalize Real.exp (1 / 2 * r) = x at *
    generalize Real.exp (-(1 / 2 * r)) = y at *
    field_simp
    linear_combination 2 * y * e
  | top =>
    rw [EReal.coe_mul_top_of_pos (by norm_num), Ideal.tanh_top, Ideal.logistic_top, mul_one, ← EReal.coe_add]
    norm_num

/-- A row times a square matrix. -/
def lin (u : Fin 1024 → EReal) (w : Fin 1024 → Fin 1024 → EReal) (c : Fin 1024) : EReal := ∑ k, u k * w k c

/-- The residual row plus the two gated branches' mixture, projected. -/
def mix (h att rwo ga gr : Fin 1024 → EReal) (wa wr wo : Fin 1024 → Fin 1024 → EReal) (c : Fin 1024) : EReal :=
  h c + lin (fun j => Ideal.logistic (ga j) * lin att wa j + Ideal.logistic (gr j) * lin rwo wr j) wo c

end Cert.Rows

namespace Cert.Kernel2Ideal.Value
open Cert.Kernel2Ideal Cert.Kernel2Ideal.Gen Cert.Rows
variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![t.val, 0] :=
  (by decide +kernel : ∀ t : Fin grid0.N, _)

theorem mix_at (h : Vec Ideal S512x1024 .f32) (att rwo ga gr : Vec Ideal S512x1024 .bf16) (wa wr wo : Vec Ideal S1024x1024 .bf16)
    (a : Fin 512) (b : Fin 1024) :
    k0_pay3 h (k0_pay2 (View.ld att r0_0) (View.ld wa r0_1) (View.ld rwo r0_0) (View.ld wr r0_1) (View.ld ga r0_0) (View.ld gr r0_0)
        (View.ld wo r0_1)) (ix2 a b)
      = mix (fun k => h (ix2 a k)) (fun k => att (ix2 a k)) (fun k => rwo (ix2 a k)) (fun k => ga (ix2 a k)) (fun k => gr (ix2 a k))
          (fun k j => wa (ix2 k j)) (fun k j => wr (ix2 k j)) (fun k j => wo (ix2 k j)) b := by
  pointwise [k0_pay2, k0_pay3, mix, lin, ← sigmoid]

theorem ffn_at (h v : Vec Ideal S512x1024 .f32) (g gf : Vec Ideal S1x1024 .f32) (w : Vec Ideal S1024x5632 .bf16) (o : Vec Ideal S2816x1024 .bf16)
    (a : Fin 512) (b : Fin 1024) :
    k0_pay1 (k0_pay3 h v) (k0_pay5 h v g (View.ld w r0_3) (View.ld w r0_4) (View.ld o r0_5)) (k0_pay6 h v g (View.ld w r0_7))
      (k0_pay7 h v g (View.ld w r0_6)) (View.ld o r0_8) gf (ix2 a b)
    = rms (ffn (fun k => k0_pay3 h v (ix2 a k)) (fun k => g (ix2 0 k)) (fun k f => w (ix2 k f)) (fun f c => o (ix2 f c)))
        (fun k => gf (ix2 0 k)) b := by
  have e : ffn (fun k => k0_pay3 h v (ix2 a k)) (fun k => g (ix2 0 k)) (fun k f => w (ix2 k f)) (fun f c => o (ix2 f c))
      = fun c => k0_pay3 h v (ix2 a c) + Ideal.ofBits .f32 1056964608#32 *
        ((∑ f : Fin 1408, unit (rms (fun k => k0_pay3 h v (ix2 a k)) (fun k => g (ix2 0 k))) (fun k f => w (ix2 k f)) ⟨f, by omega⟩ * o (ix2 ⟨f, by omega⟩ c))
          + ∑ f : Fin 1408, unit (rms (fun k => k0_pay3 h v (ix2 a k)) (fun k => g (ix2 0 k))) (fun k f => w (ix2 k f)) ⟨1408 + f, by omega⟩ * o (ix2 ⟨1408 + f, by omega⟩ c)) := by
    funext c; unfold ffn; rw [halves]
  rw [e]
  clear e
  unfold k0_pay5 k0_pay6 k0_pay7 k0_pay4
  generalize k0_pay3 h v = z
  pointwise [k0_pay1, unit, col, rms]
  simp only [← Nat.add_assoc, Nat.reduceAdd]

/-- What every row of the result is, of the arguments. -/
def G (h : FVec Ideal S32768x1024 .f32) (att : FVec Ideal S32768x1024 .bf16) (rwo : FVec Ideal S32768x1024 .bf16) (ga : FVec Ideal S32768x1024 .bf16) (gr : FVec Ideal S32768x1024 .bf16) (wa : FVec Ideal S1x1024x1024 .f32) (wr : FVec Ideal S1x1024x1024 .f32) (wo : FVec Ideal S1x1024x1024 .f32) (g : FVec Ideal S1x1024 .f32) (w : FVec Ideal S1x1024x5632 .f32) (o : FVec Ideal S1x2816x1024 .f32) (gf : FVec Ideal S1024 .f32)
    (a : Fin 32768) (b : Fin 1024) : EReal :=
  rms (ffn (mix (fun k => h (ix2 a k)) (fun k => att (ix2 a k)) (fun k => rwo (ix2 a k)) (fun k => ga (ix2 a k)) (fun k => gr (ix2 a k))
      (fun k j => wa (ix3 0 k j)) (fun k j => wr (ix3 0 k j)) (fun k j => wo (ix3 0 k j)))
    (fun k => g (ix2 0 k)) (fun k f => w (ix3 0 k f)) (fun f k => o (ix3 0 f k))) (fun k => gf (ix1 k)) b

theorem b0 (c : Dev nD) (t : Fin cfg0.N) (a : Fin 512) (k : Fin 1024) (ht : 512 * t.val + a.val < 32768) :
    iblk m c 0 t (ix2 a k) = (m ((c : Thread nD τ).loc main_arg0) : FVec Ideal S32768x1024 .f32) (ix2 ⟨512 * t.val + a.val, ht⟩ k) := by
  blk_point [iblk, V, idx t]

theorem b1 (c : Dev nD) (t : Fin cfg0.N) (a : Fin 512) (k : Fin 1024) (ht : 512 * t.val + a.val < 32768) :
    iblk m c 1 t (ix2 a k) = (m ((c : Thread nD τ).loc main_arg1) : FVec Ideal S32768x1024 .bf16) (ix2 ⟨512 * t.val + a.val, ht⟩ k) := by
  blk_point [iblk, V, idx t]

theorem b2 (c : Dev nD) (t : Fin cfg0.N) (a : Fin 512) (k : Fin 1024) (ht : 512 * t.val + a.val < 32768) :
    iblk m c 2 t (ix2 a k) = (m ((c : Thread nD τ).loc main_arg2) : FVec Ideal S32768x1024 .bf16) (ix2 ⟨512 * t.val + a.val, ht⟩ k) := by
  blk_point [iblk, V, idx t]

theorem b3 (c : Dev nD) (t : Fin cfg0.N) (a : Fin 512) (k : Fin 1024) (ht : 512 * t.val + a.val < 32768) :
    iblk m c 3 t (ix2 a k) = (m ((c : Thread nD τ).loc main_arg3) : FVec Ideal S32768x1024 .bf16) (ix2 ⟨512 * t.val + a.val, ht⟩ k) := by
  blk_point [iblk, V, idx t]

theorem b4 (c : Dev nD) (t : Fin cfg0.N) (a : Fin 512) (k : Fin 1024) (ht : 512 * t.val + a.val < 32768) :
    iblk m c 4 t (ix2 a k) = (m ((c : Thread nD τ).loc main_arg4) : FVec Ideal S32768x1024 .bf16) (ix2 ⟨512 * t.val + a.val, ht⟩ k) := by
  blk_point [iblk, V, idx t]

theorem b5 (c : Dev nD) (t : Fin cfg0.N) (k j : Fin 1024) :
    iblk m c 5 t (ix2 k j) = (m ((c : Thread nD τ).loc main_arg5) : FVec Ideal S1x1024x1024 .f32) (ix3 0 k j) := by
  blk_point [iblk, V, idx t]

theorem b6 (c : Dev nD) (t : Fin cfg0.N) (k j : Fin 1024) :
    iblk m c 6 t (ix2 k j) = (m ((c : Thread nD τ).loc main_arg6) : FVec Ideal S1x1024x1024 .f32) (ix3 0 k j) := by
  blk_point [iblk, V, idx t]

theorem b7 (c : Dev nD) (t : Fin cfg0.N) (k j : Fin 1024) :
    iblk m c 7 t (ix2 k j) = (m ((c : Thread nD τ).loc main_arg7) : FVec Ideal S1x1024x1024 .f32) (ix3 0 k j) := by
  blk_point [iblk, V, idx t]

theorem b8 (c : Dev nD) (t : Fin cfg0.N) (k : Fin 1024) :
    iblk m c 8 t (ix2 0 k) = (m ((c : Thread nD τ).loc main_arg8) : FVec Ideal S1x1024 .f32) (ix2 0 k) := by
  blk_point [iblk, V, idx t]

theorem b9 (c : Dev nD) (t : Fin cfg0.N) (k : Fin 1024) (f : Fin 5632) :
    iblk m c 9 t (ix2 k f) = (m ((c : Thread nD τ).loc main_arg9) : FVec Ideal S1x1024x5632 .f32) (ix3 0 k f) := by
  blk_point [iblk, V, idx t]

theorem b10 (c : Dev nD) (t : Fin cfg0.N) (k : Fin 1024) (f : Fin 2816) :
    iblk m c 10 t (ix2 f k) = (m ((c : Thread nD τ).loc main_arg10) : FVec Ideal S1x2816x1024 .f32) (ix3 0 f k) := by
  blk_point [iblk, V, idx t]

theorem b11 (c : Dev nD) (t : Fin cfg0.N) (k : Fin 1024) :
    iblk m c 11 t (ix2 0 k) = (m ((c : Thread nD τ).loc main_arg11) : FVec Ideal S1024 .f32) (ix1 k) := by
  blk_point [iblk, V, idx t]

theorem final (c : Dev nD) (R : FVec Ideal S32768x1024 .f32)
    (hR : ∀ a b, R (ix2 a b) = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) a b) :
    (dats m 0 c).arrAt 12 (cfgs 0).N = R := by
  refine (dats m 0 c).arrAt_eq_of_covers 12 _ (by decide +kernel) fun t _ y => ?_   -- the blocks tile the array: DECIDED
  blk_simp
  rw [after0_12]; frame_out
  obtain ⟨a, b, rfl⟩ : ∃ (a : Fin 512) (b : Fin 1024), y = ix2 a b := ⟨y 0, y 1, eq_ix2 y⟩
  have ht : 512 * t.val + a.val < 32768 := by have := t.isLt; have h : cfg0.grid.N = 64 := rfl; omega
  refine (ffn_at _ _ _ _ _ _ a b).trans (Eq.trans ?_ ((congrArg R (?_ : _ = ix2 ⟨512 * t.val + a.val, ht⟩ b)).trans (hR _ b)).symm)
  · unfold G
    refine Eq.trans (congrArg (fun z => rms (ffn z _ _ _) _ b) (funext fun k => mix_at _ _ _ _ _ _ _ _ a k)) ?_
    simp only [b0 m c t a _ ht, b1 m c t a _ ht, b2 m c t a _ ht, b3 m c t a _ ht, b4 m c t a _ ht, b5, b6, b7, b8, b9, b10, b11]
  · blk_ext [idx t]

end Cert.Kernel2Ideal.Value

namespace Cert.Reference2Ideal.Value
open Cert.Reference2Ideal Cert.Reference2Ideal.Gen Cert.Rows

/-- The gate times its sigmoid, as the reference writes it. -/
def silu (x : FVec Ideal S32768x2816 .f32) : FVec Ideal S32768x2816 .f32 :=
  mulf x (Host.divf (broadcastInDim S32768x2816 ![] bcast_S_S32768x2816 (constant S_ .f32 1065353216#32))
    (addf (broadcastInDim S32768x2816 ![] bcast_S_S32768x2816 (constant S_ .f32 1065353216#32)) (Host.exp (Host.negf x))))
/-- The reference's row-wise normalisation. -/
def norm (x : FVec Ideal S32768x1024 .f32) (g : FVec Ideal S1024 .f32) : FVec Ideal S32768x1024 .f32 :=
  mulf (mulf x (broadcastInDim S32768x1024 ![0, 1] bcast_S32768x1_S32768x1024_0_1 (Host.rsqrt (addf (Host.divf
      (broadcastInDim S32768x1 ![0] bcast_S32768_S32768x1_0 (Host.reduceAdd (mulf x x) (constant S_ .f32 0#32) reducesTo_S32768x1024_S32768_d1 h_S_))
      (broadcastInDim S32768x1 ![] bcast_S_S32768x1 (constant S_ .f32 1149239296#32)))
      (broadcastInDim S32768x1 ![] bcast_S_S32768x1 (constant S_ .f32 897988541#32))))))
    (broadcastInDim S32768x1024 ![0, 1] bcast_S1x1024_S32768x1024_0_1 (broadcastInDim S1x1024 ![1] bcast_S1024_S1x1024_1 g))
def prod (x : FVec Ideal S32768x1024 .f32) (w : FVec Ideal S1024x5632 .f32) : FVec Ideal S32768x5632 .f32 :=
  Host.dotGeneral dot_S32768x1024_S1024x5632_S32768x5632_1_0_0_1_n_n none x w

/-- The logistic function of a gate, as the reference writes it. -/
def gate (x : FVec Ideal S32768x1024 .f32) : FVec Ideal S32768x1024 .f32 :=
  Host.divf (broadcastInDim S32768x1024 ![] bcast_S_S32768x1024 (constant S_ .f32 1065353216#32))
    (addf (broadcastInDim S32768x1024 ![] bcast_S_S32768x1024 (constant S_ .f32 1065353216#32)) (Host.exp (Host.negf x)))

def square (x : FVec Ideal S32768x1024 .f32) (w : FVec Ideal S1x1024x1024 .f32) : FVec Ideal S32768x1024 .f32 :=
  Host.dotGeneral dot_S32768x1024_S1024x1024_S32768x1024_1_0_0_1_n_n none x (shapeCast S1024x1024 w shapeCasts_S1x1024x1024_S1024x1024)

/-- The reference's mixture of the two branches, added to the residual. -/
def MIX (h : FVec Ideal S32768x1024 .f32) (att rwo ga gr : FVec Ideal S32768x1024 .bf16) (wa wr wo : FVec Ideal S1x1024x1024 .f32) :
    FVec Ideal S32768x1024 .f32 :=
  addf h (square (addf (mulf (gate (extf .f32 ga bitsLt_bf16_f32)) (square (extf .f32 att bitsLt_bf16_f32) wa))
    (mulf (gate (extf .f32 gr bitsLt_bf16_f32)) (square (extf .f32 rwo bitsLt_bf16_f32) wr))) wo)

/-- The reference's feed-forward layer, halved and added. -/
def FFN (x : FVec Ideal S32768x1024 .f32) (g : FVec Ideal S1x1024 .f32) (w : FVec Ideal S1x1024x5632 .f32) (o : FVec Ideal S1x2816x1024 .f32) :
    FVec Ideal S32768x1024 .f32 :=
  addf x (mulf (broadcastInDim S32768x1024 ![] bcast_S_S32768x1024 (constant S_ .f32 1056964608#32))
    (Host.dotGeneral dot_S32768x2816_S2816x1024_S32768x1024_1_0_0_1_n_n none
      (mulf (silu (extractStridedSlice S32768x2816 ![0, 0]
          (prod (norm x (shapeCast S1024 g shapeCasts_S1x1024_S1024)) (shapeCast S1024x5632 w shapeCasts_S1x1024x5632_S1024x5632))
          slices_S32768x5632_S32768x2816_0_0))
        (extractStridedSlice S32768x2816 ![0, 2816]
          (prod (norm x (shapeCast S1024 g shapeCasts_S1x1024_S1024)) (shapeCast S1024x5632 w shapeCasts_S1x1024x5632_S1024x5632))
          slices_S32768x5632_S32768x2816_0_2816))
      (shapeCast S2816x1024 o shapeCasts_S1x2816x1024_S2816x1024)))

/-- The reference's result, of its arguments. -/
def REF (h : FVec Ideal S32768x1024 .f32) (att : FVec Ideal S32768x1024 .bf16) (rwo : FVec Ideal S32768x1024 .bf16) (ga : FVec Ideal S32768x1024 .bf16) (gr : FVec Ideal S32768x1024 .bf16) (wa : FVec Ideal S1x1024x1024 .f32) (wr : FVec Ideal S1x1024x1024 .f32) (wo : FVec Ideal S1x1024x1024 .f32) (g : FVec Ideal S1x1024 .f32) (w : FVec Ideal S1x1024x5632 .f32) (o : FVec Ideal S1x2816x1024 .f32) (gf : FVec Ideal S1024 .f32) :
    FVec Ideal S32768x1024 .f32 :=
  norm (FFN (MIX h att rwo ga gr wa wr wo) g w o) gf

theorem mix_at (h : FVec Ideal S32768x1024 .f32) (att rwo ga gr : FVec Ideal S32768x1024 .bf16) (wa wr wo : FVec Ideal S1x1024x1024 .f32)
    (a : Fin 32768) (b : Fin 1024) :
    MIX h att rwo ga gr wa wr wo (ix2 a b)
      = mix (fun k => h (ix2 a k)) (fun k => att (ix2 a k)) (fun k => rwo (ix2 a k)) (fun k => ga (ix2 a k)) (fun k => gr (ix2 a k))
          (fun k j => wa (ix3 0 k j)) (fun k j => wr (ix3 0 k j)) (fun k j => wo (ix3 0 k j)) b := by
  pointwise [MIX, gate, square, mix, lin, Ideal.logistic]

theorem ffn_at (x : FVec Ideal S32768x1024 .f32) (g : FVec Ideal S1x1024 .f32) (w : FVec Ideal S1x1024x5632 .f32) (o : FVec Ideal S1x2816x1024 .f32)
    (a : Fin 32768) (b : Fin 1024) :
    FFN x g w o (ix2 a b) = ffn (fun k => x (ix2 a k)) (fun k => g (ix2 0 k)) (fun k f => w (ix3 0 k f)) (fun f k => o (ix3 0 f k)) b := by
  pointwise [FFN, silu, norm, prod, ffn, unit, col, rms, Ideal.logistic]

theorem norm_at (x : FVec Ideal S32768x1024 .f32) (g : FVec Ideal S1024 .f32) (a : Fin 32768) (b : Fin 1024) :
    norm x g (ix2 a b) = rms (fun k => x (ix2 a k)) (fun k => g (ix1 k)) b := by
  pointwise [norm, rms]

theorem ref_at (h : FVec Ideal S32768x1024 .f32) (att : FVec Ideal S32768x1024 .bf16) (rwo : FVec Ideal S32768x1024 .bf16) (ga : FVec Ideal S32768x1024 .bf16) (gr : FVec Ideal S32768x1024 .bf16) (wa : FVec Ideal S1x1024x1024 .f32) (wr : FVec Ideal S1x1024x1024 .f32) (wo : FVec Ideal S1x1024x1024 .f32) (g : FVec Ideal S1x1024 .f32) (w : FVec Ideal S1x1024x5632 .f32) (o : FVec Ideal S1x2816x1024 .f32) (gf : FVec Ideal S1024 .f32)
    (a : Fin 32768) (b : Fin 1024) : REF h att rwo ga gr wa wr wo g w o gf (ix2 a b) = Cert.Kernel2Ideal.Value.G h att rwo ga gr wa wr wo g w o gf a b := by
  unfold REF Cert.Kernel2Ideal.Value.G
  rw [norm_at]
  simp only [ffn_at, mix_at]

end Cert.Reference2Ideal.Value

namespace Cert.Proof
attribute [local instance] Cert.Kernel2Ideal.Gen.facts Cert.Reference2Ideal.Gen.facts

set_option maxHeartbeats 4000000 in
theorem alg2 : algebraic_Kernel2Ideal_Reference2Ideal := by
  pair_intro
  · run_from Cert.Kernel2Ideal.Gen.run_main m g
  · hlo_run
    exact (Cert.Kernel2Ideal.Value.final m c (Cert.Reference2Ideal.Value.REF (m (c.tc.loc Cert.Kernel2Ideal.main_arg0)) (m (c.tc.loc Cert.Kernel2Ideal.main_arg1)) (m (c.tc.loc Cert.Kernel2Ideal.main_arg2)) (m (c.tc.loc Cert.Kernel2Ideal.main_arg3)) (m (c.tc.loc Cert.Kernel2Ideal.main_arg4)) (m (c.tc.loc Cert.Kernel2Ideal.main_arg5)) (m (c.tc.loc Cert.Kernel2Ideal.main_arg6)) (m (c.tc.loc Cert.Kernel2Ideal.main_arg7)) (m (c.tc.loc Cert.Kernel2Ideal.main_arg8)) (m (c.tc.loc Cert.Kernel2Ideal.main_arg9)) (m (c.tc.loc Cert.Kernel2Ideal.main_arg10)) (m (c.tc.loc Cert.Kernel2Ideal.main_arg11)))
      fun a b => Cert.Reference2Ideal.Value.ref_at _ _ _ _ _ _ _ _ _ _ _ _ a b).symm

theorem fr2 : quiescent_Reference2Ideal := by
  intro m g _
  refine (θ_run Cert.Reference2Ideal.defs _ _).mono (fun r h => ⟨h, Idealize.ShloMosaic.sem_eq_zero_of_no_sems (by decide) r.2⟩) ?_
  hlo_run

end Cert.Proof
-- ==== Proof.ProjRun.lean ====
module

public import proofs.«01_k».proof.Proof.Gen.Kernel4Ideal.Frame.Runs
public import Idealize.ShloMosaic.Lib.Claim

/-!
The projection's body, run once for each of its two cases: at the first tile of a sequence the row carried is the one given, at the
others the one the tile before left.
-/

@[expose] public section

set_option maxRecDepth 16384

noncomputable section

namespace Cert.Kernel4Ideal.Row

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel4Ideal Cert.Kernel4Ideal.Gen

variable {F : FTy → Type} [FloatOps F]

local notation "𝕄" => MT nD τ sig Unit (Elt F) ℕ (UR sig nD τ) ℕ

set_option maxHeartbeats 4000000 in
/-- The body at the first tile of a sequence: what its stores leave in each output and in the carried rows, with the run. -/
noncomputable def runA (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S1024x1024 .bf16) (harg5 : arg5.IsWhole) (arg6 : Memref sig .tc .vmem S1024x256 .bf16) (harg6 : arg6.IsWhole) (arg7 : Memref sig .tc .vmem S1024x3456 .bf16) (harg7 : arg7.IsWhole) (arg8 : Memref sig .tc .vmem S1024x2048 .bf16) (harg8 : arg8.IsWhole) (arg9 : Memref sig .tc .vmem S8x3456 .f32) (harg9 : arg9.IsWhole) (arg10 : Memref sig .tc .vmem S1x3456 .f32) (harg10 : arg10.IsWhole) (arg11 : Memref sig .tc .vmem S8x1024 .f32) (harg11 : arg11.IsWhole) (arg12 : Memref sig .tc .vmem S128x2048 .bf16) (harg12 : arg12.IsWhole) (arg13 : Memref sig .tc .vmem S256x1024 .bf16) (harg13 : arg13.IsWhole) (arg14 : Memref sig .tc .vmem S256x1024 .bf16) (harg14 : arg14.IsWhole) (arg15 : Memref sig .tc .vmem S256x128 .bf16) (harg15 : arg15.IsWhole) (arg16 : Memref sig .tc .vmem S256x128 .bf16) (harg16 : arg16.IsWhole) (arg17 : Memref sig .tc .vmem S256x128 .bf16) (harg17 : arg17.IsWhole) (arg18 : Memref sig .tc .vmem S256x128 .bf16) (harg18 : arg18.IsWhole) (arg19 : Memref sig .tc .vmem S256x1024 .bf16) (harg19 : arg19.IsWhole) (arg20 : Memref sig .tc .vmem S256x1024 .bf16) (harg20 : arg20.IsWhole) (arg21 : Memref sig .tc .vmem S256x7168 .bf16) (harg21 : arg21.IsWhole) (arg22 : Memref sig .tc .vmem S256x2048 .bf16) (harg22 : arg22.IsWhole) (arg23 : Memref sig .tc .vmem S8x3456 .f32) (harg23 : arg23.IsWhole) (arg24 : Memref sig .tc .vmem S8x3456 .f32) (harg24 : arg24.IsWhole) (hc0 : cond0_0 i)
    (x0 : Vec F S256x1024 .f32) (x1 : Vec F S1x1024 .f32) (x2 : Vec F S256x128 .f32) (x3 : Vec F S256x128 .f32) (x4 : Vec F S1024x1024 .bf16) (x5 : Vec F S1024x256 .bf16) (x6 : Vec F S1024x3456 .bf16) (x7 : Vec F S1024x2048 .bf16) (x8 : Vec F S8x3456 .f32) (x9 : Vec F S1x3456 .f32) (x10 : Vec F S8x1024 .f32) (x11 : Vec F S128x2048 .bf16) (x12 : Vec F S256x1024 .bf16) :
    Σ' (L13 : List (View.Piece (Elt F) S256x1024 .bf16)), Σ' (L14 : List (View.Piece (Elt F) S256x128 .bf16)), Σ' (L15 : List (View.Piece (Elt F) S256x128 .bf16)), Σ' (L16 : List (View.Piece (Elt F) S256x128 .bf16)), Σ' (L17 : List (View.Piece (Elt F) S256x128 .bf16)), Σ' (L18 : List (View.Piece (Elt F) S256x1024 .bf16)), Σ' (L19 : List (View.Piece (Elt F) S256x1024 .bf16)), Σ' (L20 : List (View.Piece (Elt F) S256x7168 .bf16)), Σ' (L21 : List (View.Piece (Elt F) S256x2048 .bf16)), Σ' (L22 : List (View.Piece (Elt F) S8x3456 .f32)), { LS0 : List (View.Piece (Elt F) S8x3456 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f LS0)) -∗ K ⟨⟩))
          ⊢ wp frame (wpE (defs₀ (F := F)) Variants.none c none) E (cc0_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, ?_, ?_, ?_, ?_, ?_, ?_, ?_, ?_, ?_, ?_, fun E K => ?run⟩
  case run =>
    simp only [cc0_proj_eq_skeleton]; unfold cc0_proj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    iexists _; iexact HS0

set_option maxHeartbeats 4000000 in
/-- The body at a later tile, the carried rows at `xs0`: what its stores leave, with the run. -/
noncomputable def runB (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S1024x1024 .bf16) (harg5 : arg5.IsWhole) (arg6 : Memref sig .tc .vmem S1024x256 .bf16) (harg6 : arg6.IsWhole) (arg7 : Memref sig .tc .vmem S1024x3456 .bf16) (harg7 : arg7.IsWhole) (arg8 : Memref sig .tc .vmem S1024x2048 .bf16) (harg8 : arg8.IsWhole) (arg9 : Memref sig .tc .vmem S8x3456 .f32) (harg9 : arg9.IsWhole) (arg10 : Memref sig .tc .vmem S1x3456 .f32) (harg10 : arg10.IsWhole) (arg11 : Memref sig .tc .vmem S8x1024 .f32) (harg11 : arg11.IsWhole) (arg12 : Memref sig .tc .vmem S128x2048 .bf16) (harg12 : arg12.IsWhole) (arg13 : Memref sig .tc .vmem S256x1024 .bf16) (harg13 : arg13.IsWhole) (arg14 : Memref sig .tc .vmem S256x1024 .bf16) (harg14 : arg14.IsWhole) (arg15 : Memref sig .tc .vmem S256x128 .bf16) (harg15 : arg15.IsWhole) (arg16 : Memref sig .tc .vmem S256x128 .bf16) (harg16 : arg16.IsWhole) (arg17 : Memref sig .tc .vmem S256x128 .bf16) (harg17 : arg17.IsWhole) (arg18 : Memref sig .tc .vmem S256x128 .bf16) (harg18 : arg18.IsWhole) (arg19 : Memref sig .tc .vmem S256x1024 .bf16) (harg19 : arg19.IsWhole) (arg20 : Memref sig .tc .vmem S256x1024 .bf16) (harg20 : arg20.IsWhole) (arg21 : Memref sig .tc .vmem S256x7168 .bf16) (harg21 : arg21.IsWhole) (arg22 : Memref sig .tc .vmem S256x2048 .bf16) (harg22 : arg22.IsWhole) (arg23 : Memref sig .tc .vmem S8x3456 .f32) (harg23 : arg23.IsWhole) (arg24 : Memref sig .tc .vmem S8x3456 .f32) (harg24 : arg24.IsWhole) (hc0 : ¬cond0_0 i)
    (x0 : Vec F S256x1024 .f32) (x1 : Vec F S1x1024 .f32) (x2 : Vec F S256x128 .f32) (x3 : Vec F S256x128 .f32) (x4 : Vec F S1024x1024 .bf16) (x5 : Vec F S1024x256 .bf16) (x6 : Vec F S1024x3456 .bf16) (x7 : Vec F S1024x2048 .bf16) (x8 : Vec F S8x3456 .f32) (x9 : Vec F S1x3456 .f32) (x10 : Vec F S8x1024 .f32) (x11 : Vec F S128x2048 .bf16) (x12 : Vec F S256x1024 .bf16) (xs0 : Vec F S8x3456 .f32) :
    Σ' (L13 : List (View.Piece (Elt F) S256x1024 .bf16)), Σ' (L14 : List (View.Piece (Elt F) S256x128 .bf16)), Σ' (L15 : List (View.Piece (Elt F) S256x128 .bf16)), Σ' (L16 : List (View.Piece (Elt F) S256x128 .bf16)), Σ' (L17 : List (View.Piece (Elt F) S256x128 .bf16)), Σ' (L18 : List (View.Piece (Elt F) S256x1024 .bf16)), Σ' (L19 : List (View.Piece (Elt F) S256x1024 .bf16)), Σ' (L20 : List (View.Piece (Elt F) S256x7168 .bf16)), Σ' (L21 : List (View.Piece (Elt F) S256x2048 .bf16)), Σ' (L22 : List (View.Piece (Elt F) S8x3456 .f32)), { LS0 : List (View.Piece (Elt F) S8x3456 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ owns (c : Thread nD τ) arg24 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f LS0)) -∗ K ⟨⟩))
          ⊢ wp frame (wpE (defs₀ (F := F)) Variants.none c none) E (cc0_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, ?_, ?_, ?_, ?_, ?_, ?_, ?_, ?_, ?_, ?_, fun E K => ?run⟩
  case run =>
    simp only [cc0_proj_eq_skeleton]; unfold cc0_proj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg24.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    iexists _; iexact HS0

variable (m : (ℓ : Loc nD τ sig) → Buf (Elt F) ℓ)

/-- The body's run at a point, over the point's blocks. -/
abbrev atA (c : Dev nD) (t : Fin cfg0.N) (h0 : t.val % 8 = 0) :=
  runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)

abbrev atB (c : Dev nD) (t : Fin cfg0.N) (h0 : ¬t.val % 8 = 0) (xs : Vec F S8x3456 .f32) :=
  runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) xs

end Cert.Kernel4Ideal.Row

end
-- ==== Proof.ProjFrame.lean ====
module

public import proofs.«01_k».proof.Proof.ProjRun

/-!
The projection's launch: what its outputs and the carried rows hold after each tile, and the run of the whole launch.
-/

@[expose] public section

set_option maxRecDepth 16384

noncomputable section

namespace Cert.Kernel4Ideal.Row

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel4Ideal Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem coverA_13 (c : Dev nD) (t : Fin cfg0.N) (h0 : t.val % 8 = 0) (y : S256x1024.Idx) :
    ∃ pc ∈ (atA m c t h0).1, y ∈ pc.1.set :=
  View.cover_of_tiledL (atA m c t h0).1 S256x1024.size (by sl_kernel_rfl) y
theorem coverA_14 (c : Dev nD) (t : Fin cfg0.N) (h0 : t.val % 8 = 0) (y : S256x128.Idx) :
    ∃ pc ∈ (atA m c t h0).2.1, y ∈ pc.1.set :=
  View.cover_of_tiledL (atA m c t h0).2.1 S256x128.size (by sl_kernel_rfl) y
theorem coverA_15 (c : Dev nD) (t : Fin cfg0.N) (h0 : t.val % 8 = 0) (y : S256x128.Idx) :
    ∃ pc ∈ (atA m c t h0).2.2.1, y ∈ pc.1.set :=
  View.cover_of_tiledL (atA m c t h0).2.2.1 S256x128.size (by sl_kernel_rfl) y
theorem coverA_16 (c : Dev nD) (t : Fin cfg0.N) (h0 : t.val % 8 = 0) (y : S256x128.Idx) :
    ∃ pc ∈ (atA m c t h0).2.2.2.1, y ∈ pc.1.set :=
  View.cover_of_tiledL (atA m c t h0).2.2.2.1 S256x128.size (by sl_kernel_rfl) y
theorem coverA_17 (c : Dev nD) (t : Fin cfg0.N) (h0 : t.val % 8 = 0) (y : S256x128.Idx) :
    ∃ pc ∈ (atA m c t h0).2.2.2.2.1, y ∈ pc.1.set :=
  View.cover_of_tiledL (atA m c t h0).2.2.2.2.1 S256x128.size (by sl_kernel_rfl) y
theorem coverA_18 (c : Dev nD) (t : Fin cfg0.N) (h0 : t.val % 8 = 0) (y : S256x1024.Idx) :
    ∃ pc ∈ (atA m c t h0).2.2.2.2.2.1, y ∈ pc.1.set :=
  View.cover_of_tiledL (atA m c t h0).2.2.2.2.2.1 S256x1024.size (by sl_kernel_rfl) y
theorem coverA_19 (c : Dev nD) (t : Fin cfg0.N) (h0 : t.val % 8 = 0) (y : S256x1024.Idx) :
    ∃ pc ∈ (atA m c t h0).2.2.2.2.2.2.1, y ∈ pc.1.set :=
  View.cover_of_tiledL (atA m c t h0).2.2.2.2.2.2.1 S256x1024.size (by sl_kernel_rfl) y
theorem coverA_20 (c : Dev nD) (t : Fin cfg0.N) (h0 : t.val % 8 = 0) (y : S256x7168.Idx) :
    ∃ pc ∈ (atA m c t h0).2.2.2.2.2.2.2.1, y ∈ pc.1.set :=
  View.cover_of_tiledL (atA m c t h0).2.2.2.2.2.2.2.1 S256x1024.size (by sl_kernel_rfl) y
theorem coverA_21 (c : Dev nD) (t : Fin cfg0.N) (h0 : t.val % 8 = 0) (y : S256x2048.Idx) :
    ∃ pc ∈ (atA m c t h0).2.2.2.2.2.2.2.2.1, y ∈ pc.1.set :=
  View.cover_of_tiledL (atA m c t h0).2.2.2.2.2.2.2.2.1 S256x1024.size (by sl_kernel_rfl) y
theorem coverA_22 (c : Dev nD) (t : Fin cfg0.N) (h0 : t.val % 8 = 0) (y : S8x3456.Idx) :
    ∃ pc ∈ (atA m c t h0).2.2.2.2.2.2.2.2.2.1, y ∈ pc.1.set :=
  View.cover_of_tiledBy (atA m c t h0).2.2.2.2.2.2.2.2.2.1 ![8, 128] (by sl_kernel_rfl) y
theorem coverA_23 (c : Dev nD) (t : Fin cfg0.N) (h0 : t.val % 8 = 0) (y : S8x3456.Idx) :
    ∃ pc ∈ (atA m c t h0).2.2.2.2.2.2.2.2.2.2.1, y ∈ pc.1.set :=
  View.cover_of_wholeMem (atA m c t h0).2.2.2.2.2.2.2.2.2.2.1 (by sl_whole_mem) y
theorem coverB_13 (c : Dev nD) (t : Fin cfg0.N) (h0 : ¬t.val % 8 = 0) (xs : Vec F S8x3456 .f32) (y : S256x1024.Idx) :
    ∃ pc ∈ (atB m c t h0 xs).1, y ∈ pc.1.set :=
  View.cover_of_tiledL (atB m c t h0 xs).1 S256x1024.size (by sl_kernel_rfl) y
theorem coverB_14 (c : Dev nD) (t : Fin cfg0.N) (h0 : ¬t.val % 8 = 0) (xs : Vec F S8x3456 .f32) (y : S256x128.Idx) :
    ∃ pc ∈ (atB m c t h0 xs).2.1, y ∈ pc.1.set :=
  View.cover_of_tiledL (atB m c t h0 xs).2.1 S256x128.size (by sl_kernel_rfl) y
theorem coverB_15 (c : Dev nD) (t : Fin cfg0.N) (h0 : ¬t.val % 8 = 0) (xs : Vec F S8x3456 .f32) (y : S256x128.Idx) :
    ∃ pc ∈ (atB m c t h0 xs).2.2.1, y ∈ pc.1.set :=
  View.cover_of_tiledL (atB m c t h0 xs).2.2.1 S256x128.size (by sl_kernel_rfl) y
theorem coverB_16 (c : Dev nD) (t : Fin cfg0.N) (h0 : ¬t.val % 8 = 0) (xs : Vec F S8x3456 .f32) (y : S256x128.Idx) :
    ∃ pc ∈ (atB m c t h0 xs).2.2.2.1, y ∈ pc.1.set :=
  View.cover_of_tiledL (atB m c t h0 xs).2.2.2.1 S256x128.size (by sl_kernel_rfl) y
theorem coverB_17 (c : Dev nD) (t : Fin cfg0.N) (h0 : ¬t.val % 8 = 0) (xs : Vec F S8x3456 .f32) (y : S256x128.Idx) :
    ∃ pc ∈ (atB m c t h0 xs).2.2.2.2.1, y ∈ pc.1.set :=
  View.cover_of_tiledL (atB m c t h0 xs).2.2.2.2.1 S256x128.size (by sl_kernel_rfl) y
theorem coverB_18 (c : Dev nD) (t : Fin cfg0.N) (h0 : ¬t.val % 8 = 0) (xs : Vec F S8x3456 .f32) (y : S256x1024.Idx) :
    ∃ pc ∈ (atB m c t h0 xs).2.2.2.2.2.1, y ∈ pc.1.set :=
  View.cover_of_tiledL (atB m c t h0 xs).2.2.2.2.2.1 S256x1024.size (by sl_kernel_rfl) y
theorem coverB_19 (c : Dev nD) (t : Fin cfg0.N) (h0 : ¬t.val % 8 = 0) (xs : Vec F S8x3456 .f32) (y : S256x1024.Idx) :
    ∃ pc ∈ (atB m c t h0 xs).2.2.2.2.2.2.1, y ∈ pc.1.set :=
  View.cover_of_tiledL (atB m c t h0 xs).2.2.2.2.2.2.1 S256x1024.size (by sl_kernel_rfl) y
theorem coverB_20 (c : Dev nD) (t : Fin cfg0.N) (h0 : ¬t.val % 8 = 0) (xs : Vec F S8x3456 .f32) (y : S256x7168.Idx) :
    ∃ pc ∈ (atB m c t h0 xs).2.2.2.2.2.2.2.1, y ∈ pc.1.set :=
  View.cover_of_tiledL (atB m c t h0 xs).2.2.2.2.2.2.2.1 S256x1024.size (by sl_kernel_rfl) y
theorem coverB_21 (c : Dev nD) (t : Fin cfg0.N) (h0 : ¬t.val % 8 = 0) (xs : Vec F S8x3456 .f32) (y : S256x2048.Idx) :
    ∃ pc ∈ (atB m c t h0 xs).2.2.2.2.2.2.2.2.1, y ∈ pc.1.set :=
  View.cover_of_tiledL (atB m c t h0 xs).2.2.2.2.2.2.2.2.1 S256x1024.size (by sl_kernel_rfl) y
theorem coverB_22 (c : Dev nD) (t : Fin cfg0.N) (h0 : ¬t.val % 8 = 0) (xs : Vec F S8x3456 .f32) (y : S8x3456.Idx) :
    ∃ pc ∈ (atB m c t h0 xs).2.2.2.2.2.2.2.2.2.1, y ∈ pc.1.set :=
  View.cover_of_tiledBy (atB m c t h0 xs).2.2.2.2.2.2.2.2.2.1 ![8, 128] (by sl_kernel_rfl) y
theorem coverB_23 (c : Dev nD) (t : Fin cfg0.N) (h0 : ¬t.val % 8 = 0) (xs : Vec F S8x3456 .f32) (y : S8x3456.Idx) :
    ∃ pc ∈ (atB m c t h0 xs).2.2.2.2.2.2.2.2.2.2.1, y ∈ pc.1.set :=
  View.cover_of_tiledBy (atB m c t h0 xs).2.2.2.2.2.2.2.2.2.2.1 ![8, 128] (by sl_kernel_rfl) y

/-- What a tile leaves: the nine results, the tail, and the rows carried. -/
abbrev Outs (F : FTy → Type) [FloatOps F] : Type := Vec F S256x1024 .bf16 × Vec F S256x128 .bf16 × Vec F S256x128 .bf16 × Vec F S256x128 .bf16 × Vec F S256x128 .bf16 × Vec F S256x1024 .bf16 × Vec F S256x1024 .bf16 × Vec F S256x7168 .bf16 × Vec F S256x2048 .bf16 × Vec F S8x3456 .f32 × Vec F S8x3456 .f32

def outsA (c : Dev nD) (t : Fin cfg0.N) (h0 : t.val % 8 = 0) : Outs F :=
  (VO0_13.read (Elt F) (VO0_13.writes (Elt F) VO0_13.junk (atA m c t h0).1),
   VO0_14.read (Elt F) (VO0_14.writes (Elt F) VO0_14.junk (atA m c t h0).2.1),
   VO0_15.read (Elt F) (VO0_15.writes (Elt F) VO0_15.junk (atA m c t h0).2.2.1),
   VO0_16.read (Elt F) (VO0_16.writes (Elt F) VO0_16.junk (atA m c t h0).2.2.2.1),
   VO0_17.read (Elt F) (VO0_17.writes (Elt F) VO0_17.junk (atA m c t h0).2.2.2.2.1),
   VO0_18.read (Elt F) (VO0_18.writes (Elt F) VO0_18.junk (atA m c t h0).2.2.2.2.2.1),
   VO0_19.read (Elt F) (VO0_19.writes (Elt F) VO0_19.junk (atA m c t h0).2.2.2.2.2.2.1),
   VO0_20.read (Elt F) (VO0_20.writes (Elt F) VO0_20.junk (atA m c t h0).2.2.2.2.2.2.2.1),
   VO0_21.read (Elt F) (VO0_21.writes (Elt F) VO0_21.junk (atA m c t h0).2.2.2.2.2.2.2.2.1),
   VO0_22.read (Elt F) (VO0_22.writes (Elt F) VO0_22.junk (atA m c t h0).2.2.2.2.2.2.2.2.2.1),
   VS0_0.read (Elt F) (VS0_0.writes (Elt F) VS0_0.junk (atA m c t h0).2.2.2.2.2.2.2.2.2.2.1))

def outsB (c : Dev nD) (t : Fin cfg0.N) (h0 : ¬t.val % 8 = 0) (xs : Vec F S8x3456 .f32) : Outs F :=
  (VO0_13.read (Elt F) (VO0_13.writes (Elt F) VO0_13.junk (atB m c t h0 xs).1),
   VO0_14.read (Elt F) (VO0_14.writes (Elt F) VO0_14.junk (atB m c t h0 xs).2.1),
   VO0_15.read (Elt F) (VO0_15.writes (Elt F) VO0_15.junk (atB m c t h0 xs).2.2.1),
   VO0_16.read (Elt F) (VO0_16.writes (Elt F) VO0_16.junk (atB m c t h0 xs).2.2.2.1),
   VO0_17.read (Elt F) (VO0_17.writes (Elt F) VO0_17.junk (atB m c t h0 xs).2.2.2.2.1),
   VO0_18.read (Elt F) (VO0_18.writes (Elt F) VO0_18.junk (atB m c t h0 xs).2.2.2.2.2.1),
   VO0_19.read (Elt F) (VO0_19.writes (Elt F) VO0_19.junk (atB m c t h0 xs).2.2.2.2.2.2.1),
   VO0_20.read (Elt F) (VO0_20.writes (Elt F) VO0_20.junk (atB m c t h0 xs).2.2.2.2.2.2.2.1),
   VO0_21.read (Elt F) (VO0_21.writes (Elt F) VO0_21.junk (atB m c t h0 xs).2.2.2.2.2.2.2.2.1),
   VO0_22.read (Elt F) (VO0_22.writes (Elt F) VO0_22.junk (atB m c t h0 xs).2.2.2.2.2.2.2.2.2.1),
   VS0_0.read (Elt F) (VS0_0.writes (Elt F) VS0_0.junk (atB m c t h0 xs).2.2.2.2.2.2.2.2.2.2.1))

/-- What the outputs' buffers and the carried rows hold after each point. -/
def outsAt (c : Dev nD) : (n : ℕ) → n < cfg0.N → Outs F
  | 0, hn => outsA m c ⟨0, hn⟩ rfl
  | n + 1, hn =>
    if h0 : (n + 1) % 8 = 0 then outsA m c ⟨n + 1, hn⟩ h0
    else outsB m c ⟨n + 1, hn⟩ h0 (outsAt c n (Nat.lt_of_succ_lt hn)).2.2.2.2.2.2.2.2.2.2

theorem outsAt_A (c : Dev nD) (t : Fin cfg0.N) (h0 : t.val % 8 = 0) : outsAt m c t.val t.isLt = outsA m c t h0 := by
  obtain ⟨n, hn⟩ := t
  cases n with
  | zero => rfl
  | succ n => exact dif_pos h0

theorem outsAt_B (c : Dev nD) (t : Fin cfg0.N) (h0 : ¬t.val % 8 = 0) :
    outsAt m c t.val t.isLt = outsB m c t h0 (outsAt m c (t.val - 1) (Nat.lt_of_le_of_lt (Nat.sub_le _ _) t.isLt)).2.2.2.2.2.2.2.2.2.2 := by
  obtain ⟨n, hn⟩ := t
  cases n with
  | zero => exact absurd rfl h0
  | succ n => exact dif_neg h0

/-- The invariant before a point: the carried rows at what the point before left. -/
def inv (c : Dev nD) : (n : ℕ) → n ≤ cfg0.N → sProp 𝕄
  | 0, _ => Pipeline.ΦA spec0 c
  | n + 1, hn => iprop(iprop(owns (c : Thread nD τ) scM0_0 fullShare ((outsAt m c n hn).2.2.2.2.2.2.2.2.2.2)) ∗ (∃ r, prngReg c r))

theorem inv_zero (c : Dev nD) (n : ℕ) (h : n ≤ cfg0.N) (hz : n = 0) : inv m c n h = Pipeline.ΦA spec0 c := by
  subst hz; rfl

theorem inv_pos (c : Dev nD) (n : ℕ) (h : n ≤ cfg0.N) (hz : n ≠ 0) :
    inv m c n h = iprop(iprop(owns (c : Thread nD τ) scM0_0 fullShare ((outsAt m c (n - 1) (by omega)).2.2.2.2.2.2.2.2.2.2)) ∗ (∃ r, prngReg c r)) := by
  cases n with
  | zero => exact absurd rfl hz
  | succ n => rfl

theorem inv_succ (c : Dev nD) (n : ℕ) (hn : n < cfg0.N) :
    inv m c (n + 1) hn = iprop(iprop(owns (c : Thread nD τ) scM0_0 fullShare ((outsAt m c n hn).2.2.2.2.2.2.2.2.2.2)) ∗ (∃ r, prngReg c r)) := rfl

/-- The launch's data: the inputs' blocks as they are, the outputs' as each point leaves them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => (outsAt m c t.val t.isLt).1
    | ⟨14, _⟩ => (outsAt m c t.val t.isLt).2.1
    | ⟨15, _⟩ => (outsAt m c t.val t.isLt).2.2.1
    | ⟨16, _⟩ => (outsAt m c t.val t.isLt).2.2.2.1
    | ⟨17, _⟩ => (outsAt m c t.val t.isLt).2.2.2.2.1
    | ⟨18, _⟩ => (outsAt m c t.val t.isLt).2.2.2.2.2.1
    | ⟨19, _⟩ => (outsAt m c t.val t.isLt).2.2.2.2.2.2.1
    | ⟨20, _⟩ => (outsAt m c t.val t.isLt).2.2.2.2.2.2.2.1
    | ⟨21, _⟩ => (outsAt m c t.val t.isLt).2.2.2.2.2.2.2.2.1
    | ⟨22, _⟩ => (outsAt m c t.val t.isLt).2.2.2.2.2.2.2.2.2.1
    | ⟨_ + 23, h⟩ => absurd h (Nat.not_lt.2 (Nat.le_add_left _ _))
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_start (c : Dev nD) (t : Fin cfg0.N) : (dats m 0 c).Φ t.castSucc = inv m c t.val (Nat.le_of_lt t.isLt) := by
  dsimp only [dats]; exact Pipeline.Dat.Φ_castSucc (inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = (outsAt m c t.val t.isLt).1 := by dsimp only [dats]
theorem after_14 (c : Dev nD) (t : Fin cfg0.N) : (dats m 0 c).after 14 t = (outsAt m c t.val t.isLt).2.1 := by dsimp only [dats]
theorem after_15 (c : Dev nD) (t : Fin cfg0.N) : (dats m 0 c).after 15 t = (outsAt m c t.val t.isLt).2.2.1 := by dsimp only [dats]
theorem after_16 (c : Dev nD) (t : Fin cfg0.N) : (dats m 0 c).after 16 t = (outsAt m c t.val t.isLt).2.2.2.1 := by dsimp only [dats]
theorem after_17 (c : Dev nD) (t : Fin cfg0.N) : (dats m 0 c).after 17 t = (outsAt m c t.val t.isLt).2.2.2.2.1 := by dsimp only [dats]
theorem after_18 (c : Dev nD) (t : Fin cfg0.N) : (dats m 0 c).after 18 t = (outsAt m c t.val t.isLt).2.2.2.2.2.1 := by dsimp only [dats]
theorem after_19 (c : Dev nD) (t : Fin cfg0.N) : (dats m 0 c).after 19 t = (outsAt m c t.val t.isLt).2.2.2.2.2.2.1 := by dsimp only [dats]
theorem after_20 (c : Dev nD) (t : Fin cfg0.N) : (dats m 0 c).after 20 t = (outsAt m c t.val t.isLt).2.2.2.2.2.2.2.1 := by dsimp only [dats]
theorem after_21 (c : Dev nD) (t : Fin cfg0.N) : (dats m 0 c).after 21 t = (outsAt m c t.val t.isLt).2.2.2.2.2.2.2.2.1 := by dsimp only [dats]
theorem after_22 (c : Dev nD) (t : Fin cfg0.N) : (dats m 0 c).after 22 t = (outsAt m c t.val t.isLt).2.2.2.2.2.2.2.2.2.1 := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d

/-- What the body is given at a point, and what it gives back. -/
def pre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d)))

def post (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t))

set_option maxHeartbeats 20000000 in
theorem body (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3, before_4, before_5, before_6, before_7, before_8, before_9, before_10, before_11, before_12]
  rw [show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_19, after_20, after_21, after_22]
  rw [show (dats m 0 c).Φ t.succ = inv m c (t.val + 1) t.isLt from rfl, inv_succ]
  by_cases h0 : t.val % 8 = 0
  · by_cases hz : t.val = 0
    · rw [inv_start m c t, inv_zero m c _ _ hz, PhiA0_eq]
      rw [outsAt_A m c t h0]
      unfold outsA; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
      iapply ((atA m c t h0).2.2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      isplitl [H22]; · iexists _; iexact H22
      isplitl [HS0]; · iexact HS0
      iintro ⟨H0, H1, H2, H3, H4, H5, H6, H7, H8, H9, H10, H11, H12, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩, ⟨%es0, HS0⟩⟩
      isplitl [HS0 Hg]
      · isplitl [HS0]
        · unfold owns; iexists _; isplitr
          swap; · iexact HS0
          ipureintro; exact View.read_writes_of_cover _ _ _ _ _ (coverA_23 m c t h0)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]
      · unfold owns; iexists _; isplitr
        swap; · iexact H13
        ipureintro; exact View.read_writes_of_cover _ _ _ _ _ (coverA_13 m c t h0)
      isplitl [H14]
      · unfold owns; iexists _; isplitr
        swap; · iexact H14
        ipureintro; exact View.read_writes_of_cover _ _ _ _ _ (coverA_14 m c t h0)
      isplitl [H15]
      · unfold owns; iexists _; isplitr
        swap; · iexact H15
        ipureintro; exact View.read_writes_of_cover _ _ _ _ _ (coverA_15 m c t h0)
      isplitl [H16]
      · unfold owns; iexists _; isplitr
        swap; · iexact H16
        ipureintro; exact View.read_writes_of_cover _ _ _ _ _ (coverA_16 m c t h0)
      isplitl [H17]
      · unfold owns; iexists _; isplitr
        swap; · iexact H17
        ipureintro; exact View.read_writes_of_cover _ _ _ _ _ (coverA_17 m c t h0)
      isplitl [H18]
      · unfold owns; iexists _; isplitr
        swap; · iexact H18
        ipureintro; exact View.read_writes_of_cover _ _ _ _ _ (coverA_18 m c t h0)
      isplitl [H19]
      · unfold owns; iexists _; isplitr
        swap; · iexact H19
        ipureintro; exact View.read_writes_of_cover _ _ _ _ _ (coverA_19 m c t h0)
      isplitl [H20]
      · unfold owns; iexists _; isplitr
        swap; · iexact H20
        ipureintro; exact View.read_writes_of_cover _ _ _ _ _ (coverA_20 m c t h0)
      isplitl [H21]
      · unfold owns; iexists _; isplitr
        swap; · iexact H21
        ipureintro; exact View.read_writes_of_cover _ _ _ _ _ (coverA_21 m c t h0)
      unfold owns; iexists _; isplitr
      swap; · iexact H22
      ipureintro; exact View.read_writes_of_cover _ _ _ _ _ (coverA_22 m c t h0)
    · rw [inv_start m c t, inv_pos m c _ _ hz]
      rw [outsAt_A m c t h0]
      unfold outsA; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
      iapply ((atA m c t h0).2.2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      isplitl [H22]; · iexists _; iexact H22
      isplitl [HS0]; · iexists _; iexact HS0
      iintro ⟨H0, H1, H2, H3, H4, H5, H6, H7, H8, H9, H10, H11, H12, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩, ⟨%es0, HS0⟩⟩
      isplitl [HS0 Hg]
      · isplitl [HS0]
        · unfold owns; iexists _; isplitr
          swap; · iexact HS0
          ipureintro; exact View.read_writes_of_cover _ _ _ _ _ (coverA_23 m c t h0)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]
      · unfold owns; iexists _; isplitr
        swap; · iexact H13
        ipureintro; exact View.read_writes_of_cover _ _ _ _ _ (coverA_13 m c t h0)
      isplitl [H14]
      · unfold owns; iexists _; isplitr
        swap; · iexact H14
        ipureintro; exact View.read_writes_of_cover _ _ _ _ _ (coverA_14 m c t h0)
      isplitl [H15]
      · unfold owns; iexists _; isplitr
        swap; · iexact H15
        ipureintro; exact View.read_writes_of_cover _ _ _ _ _ (coverA_15 m c t h0)
      isplitl [H16]
      · unfold owns; iexists _; isplitr
        swap; · iexact H16
        ipureintro; exact View.read_writes_of_cover _ _ _ _ _ (coverA_16 m c t h0)
      isplitl [H17]
      · unfold owns; iexists _; isplitr
        swap; · iexact H17
        ipureintro; exact View.read_writes_of_cover _ _ _ _ _ (coverA_17 m c t h0)
      isplitl [H18]
      · unfold owns; iexists _; isplitr
        swap; · iexact H18
        ipureintro; exact View.read_writes_of_cover _ _ _ _ _ (coverA_18 m c t h0)
      isplitl [H19]
      · unfold owns; iexists _; isplitr
        swap; · iexact H19
        ipureintro; exact View.read_writes_of_cover _ _ _ _ _ (coverA_19 m c t h0)
      isplitl [H20]
      · unfold owns; iexists _; isplitr
        swap; · iexact H20
        ipureintro; exact View.read_writes_of_cover _ _ _ _ _ (coverA_20 m c t h0)
      isplitl [H21]
      · unfold owns; iexists _; isplitr
        swap; · iexact H21
        ipureintro; exact View.read_writes_of_cover _ _ _ _ _ (coverA_21 m c t h0)
      unfold owns; iexists _; isplitr
      swap; · iexact H22
      ipureintro; exact View.read_writes_of_cover _ _ _ _ _ (coverA_22 m c t h0)
  · by_cases hz : t.val = 0
    · exact absurd (by rw [hz]) h0
    · rw [inv_start m c t, inv_pos m c _ _ hz]
      rw [outsAt_B m c t h0]
      unfold outsB; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
      iapply ((atB m c t h0 (outsAt m c (t.val - 1) (Nat.lt_of_le_of_lt (Nat.sub_le _ _) t.isLt)).2.2.2.2.2.2.2.2.2.2).2.2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      isplitl [H22]; · iexists _; iexact H22
      isplitl [HS0]; · iexact HS0
      iintro ⟨H0, H1, H2, H3, H4, H5, H6, H7, H8, H9, H10, H11, H12, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩, ⟨%es0, HS0⟩⟩
      isplitl [HS0 Hg]
      · isplitl [HS0]
        · unfold owns; iexists _; isplitr
          swap; · iexact HS0
          ipureintro; exact View.read_writes_of_cover _ _ _ _ _ (coverB_23 m c t h0 (outsAt m c (t.val - 1) (Nat.lt_of_le_of_lt (Nat.sub_le _ _) t.isLt)).2.2.2.2.2.2.2.2.2.2)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]
      · unfold owns; iexists _; isplitr
        swap; · iexact H13
        ipureintro; exact View.read_writes_of_cover _ _ _ _ _ (coverB_13 m c t h0 (outsAt m c (t.val - 1) (Nat.lt_of_le_of_lt (Nat.sub_le _ _) t.isLt)).2.2.2.2.2.2.2.2.2.2)
      isplitl [H14]
      · unfold owns; iexists _; isplitr
        swap; · iexact H14
        ipureintro; exact View.read_writes_of_cover _ _ _ _ _ (coverB_14 m c t h0 (outsAt m c (t.val - 1) (Nat.lt_of_le_of_lt (Nat.sub_le _ _) t.isLt)).2.2.2.2.2.2.2.2.2.2)
      isplitl [H15]
      · unfold owns; iexists _; isplitr
        swap; · iexact H15
        ipureintro; exact View.read_writes_of_cover _ _ _ _ _ (coverB_15 m c t h0 (outsAt m c (t.val - 1) (Nat.lt_of_le_of_lt (Nat.sub_le _ _) t.isLt)).2.2.2.2.2.2.2.2.2.2)
      isplitl [H16]
      · unfold owns; iexists _; isplitr
        swap; · iexact H16
        ipureintro; exact View.read_writes_of_cover _ _ _ _ _ (coverB_16 m c t h0 (outsAt m c (t.val - 1) (Nat.lt_of_le_of_lt (Nat.sub_le _ _) t.isLt)).2.2.2.2.2.2.2.2.2.2)
      isplitl [H17]
      · unfold owns; iexists _; isplitr
        swap; · iexact H17
        ipureintro; exact View.read_writes_of_cover _ _ _ _ _ (coverB_17 m c t h0 (outsAt m c (t.val - 1) (Nat.lt_of_le_of_lt (Nat.sub_le _ _) t.isLt)).2.2.2.2.2.2.2.2.2.2)
      isplitl [H18]
      · unfold owns; iexists _; isplitr
        swap; · iexact H18
        ipureintro; exact View.read_writes_of_cover _ _ _ _ _ (coverB_18 m c t h0 (outsAt m c (t.val - 1) (Nat.lt_of_le_of_lt (Nat.sub_le _ _) t.isLt)).2.2.2.2.2.2.2.2.2.2)
      isplitl [H19]
      · unfold owns; iexists _; isplitr
        swap; · iexact H19
        ipureintro; exact View.read_writes_of_cover _ _ _ _ _ (coverB_19 m c t h0 (outsAt m c (t.val - 1) (Nat.lt_of_le_of_lt (Nat.sub_le _ _) t.isLt)).2.2.2.2.2.2.2.2.2.2)
      isplitl [H20]
      · unfold owns; iexists _; isplitr
        swap; · iexact H20
        ipureintro; exact View.read_writes_of_cover _ _ _ _ _ (coverB_20 m c t h0 (outsAt m c (t.val - 1) (Nat.lt_of_le_of_lt (Nat.sub_le _ _) t.isLt)).2.2.2.2.2.2.2.2.2.2)
      isplitl [H21]
      · unfold owns; iexists _; isplitr
        swap; · iexact H21
        ipureintro; exact View.read_writes_of_cover _ _ _ _ _ (coverB_21 m c t h0 (outsAt m c (t.val - 1) (Nat.lt_of_le_of_lt (Nat.sub_le _ _) t.isLt)).2.2.2.2.2.2.2.2.2.2)
      unfold owns; iexists _; isplitr
      swap; · iexact H22
      ipureintro; exact View.read_writes_of_cover _ _ _ _ _ (coverB_22 m c t h0 (outsAt m c (t.val - 1) (Nat.lt_of_le_of_lt (Nat.sub_le _ _) t.isLt)).2.2.2.2.2.2.2.2.2.2)

theorem row (t : Fin cfg0.N) : defs₀ (F := F) .tc cfg0.body (cfg0.bodyArgs t (cfg0.slots t)) = bodyAt0 t := by
  unfold defs₀; rw [Defs.onTc_tc]

set_option maxHeartbeats 4000000 in
theorem obligation (c : Dev nD) : BodyObligation (dats (F := F) m 0 c) (defs₀ (F := F)) Variants.none () Set.univ := fun t => by
  rw [bigSep_W0, bigSep_W0, row]
  exact triple_restated (body m c t) rfl .rfl fun _ => .rfl

theorem enter (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

theorem leave (c : Dev nD) : (dats m 0 c).Φ (Fin.last cfg0.N) ⊢ Pipeline.ΦA spec0 c := by
  rw [show (dats m 0 c).Φ (Fin.last cfg0.N) = inv m c (Fin.last cfg0.N).val (Nat.le_of_lt_succ (Fin.last cfg0.N).isLt) from rfl,
    inv_pos m c _ _ (by rw [Fin.val_last]; have : cfg0.N = 128 := N_0; omega), PhiA0_eq]
  iintro ⟨HS0, Hg⟩
  isplitl [HS0]
  · iexists _; iexact HS0
  iexact Hg

set_option backward.isDefEq.respectTransparency.types false in
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := enter m) (hout := leave m)

theorem run_main : θ_run defs (onTc (τ := τ) (main (F := F))) (s₀ m ρ) (Pipeline.FramePost cfgs (dats m) 0 (V m)) :=
  (θ_run defs _ _).mono (fun _ h => h.1) (run_quiescent m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (frame_of m ρ (dats m) (A_eq m) (run_main m ρ)) ((θ_run defs _ _).mono (fun _ h => h.2) (run_quiescent m ρ))

end Cert.Kernel4Ideal.Row

end
-- ==== Proof.ProjBits.lean ====
module

public import proofs.«01_k».proof.Proof.ProjFrame
public import proofs.«01_k».proof.Proof.Gen.Kernel4
public import proofs.«01_k».proof.Defs

/-!
The projection's frame at the machine's numbers: its text is the ideal program's, so the ideal program's run, made for any numbers,
is its run.
-/

@[expose] public section

noncomputable section

open Idealize.ShloMosaic Idealize.ShloMosaic.TcCoe Idealize.ShloMosaic.Tactic Idealize.SL.Sem

set_option maxHeartbeats 4000000 in
theorem Cert.Proof.fr4 : @Cert.quiescent_Kernel4 Cert.Kernel4.Gen.facts := by
  have h := fun m ρ (_ : True) => Cert.Kernel4Ideal.Row.frame (F := Bits) m ρ
  exact Eq.mp (by sl_kernel_rfl) h

end
-- ==== Proof.ProjSpec.lean ====
module

public import proofs.«01_k».proof.Proof.Ffn
public import Idealize.ShloMosaic.Lib.Pipeline.ValueKit
public import Idealize.ShloMosaic.Lib.Pointwise

/-!
The projection of one row: its normed entries times a column, the rotary turn of a head's two halves, the mixture with the row before,
and the gates made of it.
-/

@[expose] public noncomputable section

open Idealize.ShloMosaic

namespace Cert.Rows

/-- The row's root-mean-square normed entries times a column. -/
def pr (x g w : Fin 1024 → EReal) : EReal := ∑ k, rms x g k * w k

/-- The angle of position `s` and lane `l`: the position, 16 on, times a power of ten thousand. -/
def angle (s : ℕ) (l : Fin 32) : EReal :=
  FloatOps.sitofp (F := Ideal) .f32 (BitVec.ofNat 32 s + 16#32)
    * FloatOps.hostPowf (F := Ideal) (φ := .f32) (Ideal.ofBits .f32 1176256512#32) (Ideal.div (-FloatOps.sitofp (F := Ideal) .f32 (BitVec.ofNat 32 l.val)) (Ideal.ofBits .f32 1107296256#32))

/-- A row whose heads are 64 wide, each head's halves turned by the angles of the row's place. -/
def rot {n : ℕ} (hn : 64 ∣ n) (x : Fin n → EReal) (s : ℕ) (b : Fin n) : EReal :=
  if h : b.val % 64 < 32 then
    x b * Ideal.cos (angle s ⟨b.val % 32, by omega⟩) - x ⟨b.val + 32, by omega⟩ * Ideal.sin (angle s ⟨b.val % 32, by omega⟩)
  else x b * Ideal.cos (angle s ⟨b.val % 32, by omega⟩) + x ⟨b.val - 32, by omega⟩ * Ideal.sin (angle s ⟨b.val % 32, by omega⟩)

/-- Entry `c` of a row mixed with the row before it. -/
def mixed (mu : Fin 3360 → EReal) (p q : Fin 3360 → EReal) (c : Fin 3360) : EReal := p c + (q c - p c) * mu c

/-- The place across from `b` in the two heads of a key row. -/
def across (b : Fin 128) : Fin 128 := ⟨if b.val < 64 then b.val + 64 else b.val - 64, by split <;> omega⟩

/-- The layer's row parameters: the mixing weights, the decay's and the learning rate's offsets and second factors, the gate's
second factor, the key's two scales, the bonus's weights and the group norm's scale and shift. -/
structure Par where
  mu : Fin 3360 → EReal
  w0 : Fin 1024 → EReal
  w2 : Fin 64 → Fin 1024 → EReal
  a0 : Fin 1024 → EReal
  a2 : Fin 64 → Fin 1024 → EReal
  g2 : Fin 160 → Fin 1024 → EReal
  kk : Fin 1024 → EReal
  ka : Fin 1024 → EReal
  rk : Fin 1024 → EReal
  gw : Fin 1024 → EReal
  gb : Fin 1024 → EReal

variable (P : Par) (X : Fin 3360 → EReal)

/-- The logarithm of the decay. -/
def decay (c : Fin 1024) : EReal :=
  Ideal.ofBits .f32 3206235544#32 * Ideal.logistic (P.w0 c + ∑ j : Fin 64, Ideal.tanh (X ⟨3072 + j, by omega⟩) * P.w2 j c)

/-- The learning rate. -/
def alpha (c : Fin 1024) : EReal := Ideal.logistic (P.a0 c + ∑ j : Fin 64, X ⟨3136 + j, by omega⟩ * P.a2 j c)

/-- The output gate. -/
def gated (c : Fin 1024) : EReal := ∑ j : Fin 160, Ideal.logistic (X ⟨3200 + j, by omega⟩) * P.g2 j c

/-- A head's place `d` in the head of entry `c`. -/
def place (c : Fin 1024) (d : Fin 64) : Fin 1024 := ⟨c.val / 64 * 64 + d, by omega⟩

/-- The key times its first scale. -/
def keyed (c : Fin 1024) : EReal := X ⟨1024 + c, by omega⟩ * P.kk c

/-- The scaled key, each head of it at norm one. -/
def kn (c : Fin 1024) : EReal :=
  keyed P X c * Ideal.rsqrt (max (∑ d, keyed P X (place c d) * keyed P X (place c d)) (Ideal.ofBits .f32 396017173#32))

/-- The key under the learning rate. -/
def keyAt (c : Fin 1024) : EReal := X ⟨1024 + c, by omega⟩ * (1 + (alpha P X c - 1) * P.ka c)

/-- The gated scale of the group norm. -/
def scaled (c : Fin 1024) : EReal := gated P X c * P.gw c

/-- The gated shift of the group norm and bonus. -/
def bonus (c : Fin 1024) : EReal :=
  (P.gb c + (∑ d, X ⟨place c d, by omega⟩ * keyAt P X (place c d) * P.rk (place c d)) * X ⟨2048 + c, by omega⟩) * gated P X c

end Cert.Rows
end
-- ==== Proof.ProjTile.lean ====
module

public import proofs.«01_k».proof.Proof.Mixffn
public import proofs.«01_k».proof.Proof.ProjSpec
public import proofs.«01_k».proof.Proof.Gen.Kernel4Ideal.Skeleton

/-!
The projection's tile at an index: what each of the call's values is of the blocks it reads.
-/

@[expose] public noncomputable section

set_option maxRecDepth 16384

open Idealize.ShloMosaic Idealize.ShloMosaic.TcCoe

namespace Cert.Kernel4Ideal.Tile
open Cert.Kernel4Ideal Cert.Kernel4Ideal.Gen

/-! ### Words of the lane tests -/

theorem select_ite {α : Type} (p : Prop) [Decidable p] (x y : α) : Scalar.select (if p then 1#1 else 0#1) x y = if p then x else y := by
  by_cases h : p <;> simp [h, Scalar.select]

theorem first_word : ∀ a : Fin 256, IntOp.cmpi .eq (BitVec.ofNat 32 a.val) 0#32 = if a.val = 0 then 1#1 else 0#1 := by decide +kernel

/-- The test that a lane lies in the first half of its head. -/
def low (b : ℕ) : BitVec 1 :=
  IntOp.cmpi CmpIPredicate.slt
    (Scalar.select
      (IntOp.andi
        (IntOp.xori
          (IntOp.cmpi CmpIPredicate.slt (IntOp.remsi ArithUnit.vector (BitVec.ofNat 32 b) (Scalar.select (Scalar.cmpi CmpIPredicate.eq 64#32 0#32) 1#32 64#32)) 0#32)
          (Scalar.cmpi CmpIPredicate.slt (Scalar.select (Scalar.cmpi CmpIPredicate.eq 64#32 0#32) 1#32 64#32) 0#32))
        (IntOp.cmpi CmpIPredicate.ne (IntOp.remsi ArithUnit.vector (BitVec.ofNat 32 b) (Scalar.select (Scalar.cmpi CmpIPredicate.eq 64#32 0#32) 1#32 64#32)) 0#32))
      (IntOp.addi (IntOp.remsi ArithUnit.vector (BitVec.ofNat 32 b) (Scalar.select (Scalar.cmpi CmpIPredicate.eq 64#32 0#32) 1#32 64#32))
        (Scalar.select (Scalar.cmpi CmpIPredicate.eq 64#32 0#32) 1#32 64#32))
      (IntOp.remsi ArithUnit.vector (BitVec.ofNat 32 b) (Scalar.select (Scalar.cmpi CmpIPredicate.eq 64#32 0#32) 1#32 64#32)))
    32#32

theorem low_eq : ∀ b : Fin 1024, low b.val = if b.val % 64 < 32 then 1#1 else 0#1 := by decide +kernel

theorem tanh_word : ∀ j : Fin 128, IntOp.cmpi CmpIPredicate.slt (BitVec.ofNat 32 j.val) 64#32 = if j.val < 64 then 1#1 else 0#1 := by decide +kernel

/-! ### The row before -/

theorem prior_at (f : Fin 256 → EReal) (P : EReal) (a : Fin 256) :
    (if h : a.val < 8 then Scalar.select (IntOp.cmpi .eq (BitVec.ofNat 32 a.val) 0#32) P (f ⟨(a.val + 256 - 1) % 256, by omega⟩)
      else f ⟨(8 + (a.val - 8) + 256 - 1) % 256, by omega⟩) = if h : a.val = 0 then P else f ⟨a.val - 1, by omega⟩ := by
  rw [first_word, select_ite]
  by_cases h0 : a.val = 0
  · simp [h0]
  · rw [dif_neg h0, if_neg h0]
    split_ifs
    · exact congrArg f (Fin.ext (by simp only []; omega))
    · exact congrArg f (Fin.ext (by simp only []; omega))

theorem mixK_at (K : FVec Ideal S256x1024 .f32) (p mu : Vec Ideal S1x1024 .f32) (a : Fin 256) (b : Fin 1024) :
    k0_pay24 K p mu (ix2 a b)
      = K (ix2 a b) + ((if h : a.val = 0 then p (ix2 0 b) else K (ix2 ⟨a.val - 1, by omega⟩ b)) - K (ix2 a b)) * mu (ix2 0 b) := by
  rw [← prior_at (fun i => K (ix2 i b))]
  pointwise [k0_pay24, k0_pay22]

theorem mixL_at (K : FVec Ideal S256x384 .f32) (p mu : Vec Ideal S1x384 .f32) (a : Fin 256) (b : Fin 384) :
    k0_pay28 K (k0_pay25 K p) mu (ix2 a b)
      = K (ix2 a b) + ((if h : a.val = 0 then p (ix2 0 b) else K (ix2 ⟨a.val - 1, by omega⟩ b)) - K (ix2 a b)) * mu (ix2 0 b) := by
  rw [← prior_at (fun i => K (ix2 i b))]
  pointwise [k0_pay28, k0_pay25]

theorem mixR_at (K : FVec Ideal S256x1024 .f32) (p mu : Vec Ideal S1x1024 .f32) (a : Fin 256) (b : Fin 1024) :
    k0_pay43 K p mu (ix2 a b)
      = K (ix2 a b) + ((if h : a.val = 0 then p (ix2 0 b) else K (ix2 ⟨a.val - 1, by omega⟩ b)) - K (ix2 a b)) * mu (ix2 0 b) := by
  rw [← prior_at (fun i => K (ix2 i b))]
  pointwise [k0_pay43, k0_pay41]

theorem mixV_at (K : FVec Ideal S256x1024 .f32) (p mu : Vec Ideal S1x1024 .f32) (a : Fin 256) (b : Fin 1024) :
    k0_pay50 K (k0_pay44 K) k0_pay45 (k0_pay46 K) (k0_pay47 p) mu (ix2 a b)
      = K (ix2 a b) + ((if h : a.val = 0 then p (ix2 0 b) else K (ix2 ⟨a.val - 1, by omega⟩ b)) - K (ix2 a b)) * mu (ix2 0 b) := by
  rw [← prior_at (fun i => K (ix2 i b))]
  pointwise [k0_pay50, k0_pay44, k0_pay45, k0_pay46, k0_pay47]

/-! ### Sums over a head -/

theorem block_sum (G : Fin 256 → EReal) (e : Fin 256) :
    (∑ x : Fin 256, G x * (if x.val / 64 = e.val / 64 then (1 : EReal) else 0)) = ∑ d : Fin 64, G ⟨e.val / 64 * 64 + d, by omega⟩ := by
  simp only [mul_ite, mul_one, mul_zero]
  rw [← Finset.sum_filter]
  symm
  refine Finset.sum_nbij' (fun d : Fin 64 => (⟨e.val / 64 * 64 + d, by omega⟩ : Fin 256)) (fun x => ⟨x.val % 64, by omega⟩) ?_ ?_ ?_ ?_ ?_
  · intro d _
    simp only [Finset.mem_filter, Finset.mem_univ, true_and]
    omega
  · intro x _
    exact Finset.mem_univ _
  · intro d _
    exact Fin.ext (by simp only []; omega)
  · intro x hx
    simp only [Finset.mem_filter, Finset.mem_univ, true_and] at hx
    exact Fin.ext (by simp only []; omega)
  · intro d _
    rfl

theorem blocks_at (F : Fin 1024 → EReal) (O : FVec Ideal S256x256 .bf16)
    (hO : ∀ x y : Fin 256, O (ix2 x y) = if x.val / 64 = y.val / 64 then (1 : EReal) else 0) (b : Fin 1024) :
    (if h : b.val < 256 then ∑ x : Fin 256, F ⟨x.val, by omega⟩ * O (ix2 x ⟨b.val, by omega⟩) else if h : b.val - 256 < 256 then ∑ x : Fin 256, F ⟨256 + x.val, by omega⟩ * O (ix2 x ⟨b.val - 256, by omega⟩) else if h : b.val - 256 - 256 < 256 then ∑ x : Fin 256, F ⟨512 + x.val, by omega⟩ * O (ix2 x ⟨b.val - 256 - 256, by omega⟩) else ∑ x : Fin 256, F ⟨768 + x.val, by omega⟩ * O (ix2 x ⟨b.val - 256 - 256 - 256, by omega⟩))
      = ∑ d, F (Rows.place b d) := by
  have key : ∀ (o : ℕ) (ho : o + 256 ≤ 1024) (e : Fin 256), b.val = o + e.val → 64 ∣ o →
      (∑ x : Fin 256, F ⟨o + x.val, by omega⟩ * O (ix2 x e)) = ∑ d, F (Rows.place b d) := by
    intro o ho e hb hd
    simp only [hO]
    rw [block_sum (fun x => F ⟨o + x.val, by omega⟩) e]
    refine Finset.sum_congr rfl fun d _ => congrArg F (Fin.ext ?_)
    simp only [Rows.place]
    omega
  split_ifs with h1 h2 h3
  · rw [← key 0 (by omega) ⟨b.val, h1⟩ (by simp) (by omega)]
    exact Finset.sum_congr rfl fun x _ => by congr 2; exact Fin.ext (by simp)
  · exact key 256 (by omega) ⟨b.val - 256, h2⟩ (by simp only []; omega) (by omega)
  · exact key 512 (by omega) ⟨b.val - 256 - 256, h3⟩ (by simp only []; omega) (by omega)
  · exact key 768 (by omega) ⟨b.val - 256 - 256 - 256, by omega⟩ (by simp only []; omega) (by omega)

/-- The matrix of ones within a head. -/
abbrev Ones : FVec Ideal S256x256 .bf16 :=
  k0_pay14 k0_pay11 (iota Kind.tc S256x256 32 [1] iota_S256x256_d1_w32) 64#32 k0_pay12 k0_pay13 0#32

theorem row_word : ∀ a : Fin 256, k0_pay11 (ix2 a (0 : Fin 256)) = BitVec.ofNat 32 (a.val / 64) := by decide +kernel

theorem column_word : ∀ b : Fin 256,
    Scalar.select
      (IntOp.andi
        (IntOp.cmpi CmpIPredicate.ne (k0_pay13 (ix2 (0 : Fin 256) b))
          (Scalar.subi (Scalar.extui (Scalar.cmpi CmpIPredicate.sgt 64#32 0#32)) (Scalar.extui (Scalar.cmpi CmpIPredicate.slt 64#32 0#32))))
        (IntOp.cmpi CmpIPredicate.ne (IntOp.remsi ArithUnit.vector (BitVec.ofNat 32 b.val) 64#32) 0#32))
      (IntOp.subi (k0_pay12 (ix2 (0 : Fin 256) b)) 1#32) (k0_pay12 (ix2 (0 : Fin 256) b)) = BitVec.ofNat 32 (b.val / 64) := by decide +kernel

theorem four_words (a b : Fin 256) : IntOp.cmpi .eq (BitVec.ofNat 32 (a.val / 64)) (BitVec.ofNat 32 (b.val / 64))
    = if a.val / 64 = b.val / 64 then 1#1 else 0#1 := by
  have h : ∀ i j : Fin 4, IntOp.cmpi .eq (BitVec.ofNat 32 i.val) (BitVec.ofNat 32 j.val) = if i.val = j.val then 1#1 else 0#1 := by decide +kernel
  exact h ⟨a.val / 64, by omega⟩ ⟨b.val / 64, by omega⟩

theorem ones_at (a b : Fin 256) : Ones (ix2 a b) = if a.val / 64 = b.val / 64 then (1 : EReal) else 0 := by
  pointwise [Ones, k0_pay14]
  rw [show k0_pay11 (ix2 a b) = k0_pay11 (ix2 a (0 : Fin 256)) from rfl, row_word]
  rw [show k0_pay13 (ix2 a b) = k0_pay13 (ix2 (0 : Fin 256) b) from rfl, show k0_pay12 (ix2 a b) = k0_pay12 (ix2 (0 : Fin 256) b) from rfl,
    column_word, four_words]
  by_cases h : a.val / 64 = b.val / 64
  · rw [if_pos h, if_pos h]
    simp [FloatOps.sitofp]
  · rw [if_neg h, if_neg h]
    simp [FloatOps.sitofp]

/-! ### The values -/

/-- The tile's log decay at row `a`, column `b`, is the row's. -/
theorem decay_at (P : Rows.Par) (X : Fin 3360 → EReal) (w : Vec Ideal S1x1024 .f32) (L : FVec Ideal S256x384 .f32) (p mu : Vec Ideal S1x384 .f32)
    (w2a : Vec Ideal S128x2048 .bf16) (a : Fin 256) (b : Fin 1024)
    (hL : ∀ j : Fin 128, k0_pay28 L (k0_pay25 L p) mu (ix2 a ⟨j.val, by omega⟩) = X ⟨3072 + j, by omega⟩)
    (hw : w (ix2 0 b) = P.w0 b)
    (h2 : ∀ j : Fin 64, w2a (ix2 ⟨j.val, by omega⟩ ⟨b.val, by omega⟩) = P.w2 j b)
    (hz : ∀ j : Fin 64, w2a (ix2 ⟨64 + j.val, by omega⟩ ⟨b.val, by omega⟩) = (0 : EReal)) :
    k0_pay30 (k0_pay4 w) L (k0_pay25 L p) mu w2a (ix2 a b) = Rows.decay P X b := by
  pointwise [k0_pay30, k0_pay29, k0_pay4]
  rw [Rows.sigmoid, hw]
  refine congrArg (fun z => _ * Ideal.logistic (_ + z)) ?_
  refine (Fin.sum_univ_add (a := 64) (b := 64) _).trans ?_
  refine (congrArg₂ (· + ·) (Finset.sum_congr rfl fun j _ => ?_) (Finset.sum_eq_zero fun j _ => ?_)).trans (add_zero _)
  · have hj := (tanh_word (Fin.castAdd 64 j)).trans (if_pos j.isLt)
    refine (congrArg₂ (· * ·) (congrArg₂ (fun c z => Scalar.select c (Ideal.tanh z) z) hj (hL (Fin.castAdd 64 j))) (h2 j)).trans ?_
    rfl
  · exact (congrArg (fun y => _ * y) (hz j)).trans (mul_zero _)

theorem alpha_at (P : Rows.Par) (X : Fin 3360 → EReal) (w : Vec Ideal S1x1024 .f32) (L : FVec Ideal S256x384 .f32) (p mu : Vec Ideal S1x384 .f32)
    (w2a : Vec Ideal S128x2048 .bf16) (a : Fin 256) (b : Fin 1024)
    (hL : ∀ j : Fin 128, k0_pay28 L (k0_pay25 L p) mu (ix2 a ⟨j.val, by omega⟩) = X ⟨3072 + j, by omega⟩)
    (hw : w (ix2 0 b) = P.a0 b)
    (h2 : ∀ j : Fin 64, w2a (ix2 ⟨64 + j.val, by omega⟩ ⟨1024 + b.val, by omega⟩) = P.a2 j b)
    (hz : ∀ j : Fin 64, w2a (ix2 ⟨j.val, by omega⟩ ⟨1024 + b.val, by omega⟩) = (0 : EReal)) :
    k0_pay31 (k0_pay5 w) L (k0_pay25 L p) mu w2a (ix2 a b) = Rows.alpha P X b := by
  pointwise [k0_pay31, k0_pay29, k0_pay5]
  rw [Rows.sigmoid, hw]
  refine congrArg (fun z => Ideal.logistic (_ + z)) ?_
  refine (Fin.sum_univ_add (a := 64) (b := 64) _).trans ?_
  refine (congrArg₂ (· + ·) (Finset.sum_eq_zero fun j _ => ?_) (Finset.sum_congr rfl fun j _ => ?_)).trans (zero_add _)
  · exact (congrArg (fun y => _ * y) (hz j)).trans (mul_zero _)
  · have hj := (tanh_word (Fin.natAdd 64 j)).trans (if_neg (by simp only [Fin.val_natAdd]; omega))
    refine (congrArg₂ (· * ·) (congrArg₂ (fun c z => Scalar.select c (Ideal.tanh z) z) hj (hL (Fin.natAdd 64 j))) (h2 j)).trans ?_
    exact congrArg (fun i => X i * _) (Fin.ext (by simp only [Fin.val_natAdd]; omega))

theorem gate_at (P : Rows.Par) (X : Fin 3360 → EReal) (L : FVec Ideal S256x384 .f32) (p mu : Vec Ideal S1x384 .f32)
    (g2 : Vec Ideal S256x1024 .bf16) (a : Fin 256) (b : Fin 1024)
    (hL : ∀ j : Fin 160, k0_pay28 L (k0_pay25 L p) mu (ix2 a ⟨128 + j.val, by omega⟩) = X ⟨3200 + j, by omega⟩)
    (h2 : ∀ j : Fin 160, g2 (ix2 ⟨j.val, by omega⟩ b) = P.g2 j b)
    (hz : ∀ j : Fin 96, g2 (ix2 ⟨160 + j.val, by omega⟩ b) = (0 : EReal)) :
    k0_pay33 (k0_pay32 L (k0_pay25 L p) mu) g2 (ix2 a b) = Rows.gated P X b := by
  pointwise [k0_pay33, k0_pay32]
  simp only [Rows.sigmoid]
  refine (Fin.sum_univ_add (a := 160) (b := 96) _).trans ?_
  refine (congrArg₂ (· + ·) (Finset.sum_congr rfl fun j _ => ?_) (Finset.sum_eq_zero fun j _ => ?_)).trans (add_zero _)
  · exact congrArg₂ (fun x y => Ideal.logistic x * y) (hL j) (h2 j)
  · exact (congrArg (fun y => _ * y) (hz j)).trans (mul_zero _)

theorem unit_at (P : Rows.Par) (X : Fin 3360 → EReal) (kk : Vec Ideal S1x1024 .f32) (K : FVec Ideal S256x1024 .f32) (a : Fin 256) (b : Fin 1024)
    (hK : ∀ c : Fin 1024, K (ix2 a c) = X ⟨1024 + c, by omega⟩) (hk : ∀ c : Fin 1024, kk (ix2 0 c) = P.kk c) :
    k0_pay34 (k0_pay6 kk) Ones K (ix2 a b) = Rows.kn P X b := by
  have hb := blocks_at (fun c => K (ix2 a c) * kk (ix2 0 c) * (K (ix2 a c) * kk (ix2 0 c))) Ones ones_at b
  refine Eq.trans (b := K (ix2 a b) * kk (ix2 0 b) * Ideal.rsqrt (max (∑ d, (fun c => K (ix2 a c) * kk (ix2 0 c) * (K (ix2 a c) * kk (ix2 0 c))) (Rows.place b d)) (Ideal.ofBits .f32 396017173#32))) ?_ ?_
  · rw [← hb]
    generalize Ones = O
    pointwise [k0_pay34, k0_pay6]
  · simp only [hK, hk]
    rfl

theorem key_at (P : Rows.Par) (X : Fin 3360 → EReal) (ka : Vec Ideal S1x1024 .f32) (K A : FVec Ideal S256x1024 .f32) (a : Fin 256) (b : Fin 1024)
    (hK : ∀ c : Fin 1024, K (ix2 a c) = X ⟨1024 + c, by omega⟩) (hk : ka (ix2 0 b) = P.ka b) (hA : A (ix2 a b) = Rows.alpha P X b) :
    k0_pay35 (k0_pay7 ka) K A (ix2 a b) = Rows.keyAt P X b := by
  pointwise [k0_pay35, k0_pay7]
  rw [hK, hk, hA]
  rfl

theorem key16_at (ka : FVec Ideal S1x1024 .f32) (K A : FVec Ideal S256x1024 .f32) (a : Fin 256) (b : Fin 1024) :
    k0_pay37 ka K A (ix2 a b) = k0_pay35 ka K A (ix2 a b) := by
  pointwise [k0_pay37]

theorem away_at (kk : FVec Ideal S1x1024 .f32) (O : FVec Ideal S256x256 .bf16) (K : FVec Ideal S256x1024 .f32) (a : Fin 256) (b : Fin 1024) :
    k0_pay38 kk O K (ix2 a b) = -(show EReal from k0_pay34 kk O K (ix2 a b)) := by
  pointwise [k0_pay38]
  exact zero_sub _

theorem toward_at (kk : FVec Ideal S1x1024 .f32) (O : FVec Ideal S256x256 .bf16) (K A : FVec Ideal S256x1024 .f32) (a : Fin 256) (b : Fin 1024) :
    k0_pay39 kk O K A (ix2 a b) = (k0_pay34 kk O K (ix2 a b) * A (ix2 a b) : EReal) := by
  pointwise [k0_pay39]

theorem rest_at (W : FVec Ideal S256x1024 .f32) (a : Fin 256) (b : Fin 1024) :
    k0_pay40 W (k0_pay36 W) (ix2 a b) = (W (ix2 a b) - W (ix2 a b) : EReal) := by
  pointwise [k0_pay40, k0_pay36]

theorem scaled_at (w : Vec Ideal S1x1024 .f32) (G : FVec Ideal S256x1024 .f32) (a : Fin 256) (b : Fin 1024) :
    k0_pay53 (k0_pay9 w) G (ix2 a b) = (G (ix2 a b) * w (ix2 0 b) : EReal) := by
  pointwise [k0_pay53, k0_pay9]

theorem bonus_at (P : Rows.Par) (X : Fin 3360 → EReal) (rk lb : Vec Ideal S1x1024 .f32) (V kp r G : FVec Ideal S256x1024 .f32)
    (p mu : Vec Ideal S1x1024 .f32) (a : Fin 256) (b : Fin 1024)
    (hr : ∀ c : Fin 1024, r (ix2 a c) = X ⟨c, by omega⟩) (hkp : ∀ c : Fin 1024, kp (ix2 a c) = Rows.keyAt P X c)
    (hV : k0_pay50 V (k0_pay44 V) k0_pay45 (k0_pay46 V) (k0_pay47 p) mu (ix2 a b) = X ⟨2048 + b, by omega⟩)
    (hG : G (ix2 a b) = Rows.gated P X b) (hrk : ∀ c : Fin 1024, rk (ix2 0 c) = P.rk c) (hlb : lb (ix2 0 b) = P.gb b) :
    k0_pay55 G (k0_pay54 (k0_pay8 rk) (k0_pay10 lb) Ones V kp r (k0_pay44 V) k0_pay45 (k0_pay46 V) (k0_pay47 p) mu) (ix2 a b)
      = Rows.bonus P X b := by
  have hb := blocks_at (fun c => r (ix2 a c) * kp (ix2 a c) * rk (ix2 0 c)) Ones ones_at b
  refine Eq.trans (b := (lb (ix2 0 b) + (∑ d, (fun c => r (ix2 a c) * kp (ix2 a c) * rk (ix2 0 c)) (Rows.place b d))
    * k0_pay50 V (k0_pay44 V) k0_pay45 (k0_pay46 V) (k0_pay47 p) mu (ix2 a b)) * G (ix2 a b)) ?_ ?_
  · rw [← hb]
    generalize Ones = O
    generalize k0_pay44 V = v1
    generalize k0_pay45 = v2
    generalize k0_pay46 V = v3
    generalize k0_pay47 p = v4
    pointwise [k0_pay55, k0_pay54, k0_pay8, k0_pay10]
  · simp only [hr, hkp, hV, hG, hrk, hlb]
    rfl

/-! ### The rotary turn -/

theorem tile8 (f : Fin 128 → EReal) (b : Fin 1024) :
    (if h : b.val < 128 then f ⟨b.val, by omega⟩ else if h : b.val - 128 < 128 then f ⟨b.val - 128, by omega⟩ else if h : b.val - 128 - 128 < 128 then f ⟨b.val - 128 - 128, by omega⟩ else if h : b.val - 128 - 128 - 128 < 128 then f ⟨b.val - 128 - 128 - 128, by omega⟩ else if h : b.val - 128 - 128 - 128 - 128 < 128 then f ⟨b.val - 128 - 128 - 128 - 128, by omega⟩ else if h : b.val - 128 - 128 - 128 - 128 - 128 < 128 then f ⟨b.val - 128 - 128 - 128 - 128 - 128, by omega⟩ else if h : b.val - 128 - 128 - 128 - 128 - 128 - 128 < 128 then f ⟨b.val - 128 - 128 - 128 - 128 - 128 - 128, by omega⟩ else f ⟨b.val - 128 - 128 - 128 - 128 - 128 - 128 - 128, by omega⟩) = f ⟨b.val % 128, by omega⟩ := by
  split_ifs <;> exact congrArg f (Fin.ext (by simp only []; omega))

theorem q_at (X : FVec Ideal S256x1024 .f32) (cs sn : Vec Ideal S256x128 .f32) (a : Fin 256) (b : Fin 1024) (s : ℕ)
    (hc : ∀ j : Fin 128, cs (ix2 a j) = Ideal.cos (Rows.angle s ⟨j.val % 32, by omega⟩))
    (hs : ∀ j : Fin 128, sn (ix2 a j) = if j.val % 64 < 32 then -Ideal.sin (Rows.angle s ⟨j.val % 32, by omega⟩) else Ideal.sin (Rows.angle s ⟨j.val % 32, by omega⟩)) :
    k0_pay58 X cs sn (ix2 a b) = Rows.rot (n := 1024) (by omega) (fun k => X (ix2 a k)) s b * Ideal.ofBits FTy.f32 1040187392#32 := by
  have e1 := tile8 (fun j => cs (ix2 a j)) b
  have e2 := tile8 (fun j => sn (ix2 a j)) b
  have hl := low_eq b
  refine Eq.trans (b := (X (ix2 a b) * cs (ix2 a ⟨b.val % 128, by omega⟩) + Scalar.select (low b.val) (X (ix2 a ⟨(b.val + 1024 - 992) % 1024, by omega⟩))
    (X (ix2 a ⟨(b.val + 1024 - 32) % 1024, by omega⟩)) * sn (ix2 a ⟨b.val % 128, by omega⟩)) * Ideal.ofBits FTy.f32 1040187392#32) ?_ ?_
  · rw [← e1, ← e2]
    pointwise [k0_pay58, k0_pay56, k0_pay57, low]
  · rw [hl, select_ite, hc, hs]
    refine congrArg (· * _) ?_
    unfold Rows.rot
    have h32 : b.val % 128 % 32 = b.val % 32 := by omega
    have h64 : b.val % 128 % 64 = b.val % 64 := by omega
    simp only [h32, h64]
    by_cases h : b.val % 64 < 32
    · rw [if_pos h, if_pos h, dif_pos h, mul_neg, ← sub_eq_add_neg]
      congr 4
      exact Fin.ext (by simp only []; omega)
    · rw [if_neg h, if_neg h, dif_neg h]
      congr 4
      exact Fin.ext (by simp only []; omega)

theorem k_at (X : FVec Ideal S256x128 .f32) (cs sn : FVec Ideal S256x128 .f32) (a : Fin 256) (b : Fin 128) (s : ℕ)
    (hc : ∀ j : Fin 128, cs (ix2 a j) = Ideal.cos (Rows.angle s ⟨j.val % 32, by omega⟩))
    (hs : ∀ j : Fin 128, sn (ix2 a j) = if j.val % 64 < 32 then -Ideal.sin (Rows.angle s ⟨j.val % 32, by omega⟩) else Ideal.sin (Rows.angle s ⟨j.val % 32, by omega⟩)) :
    k0_pay61 cs sn X (ix2 a b) = Rows.rot (n := 128) (by omega) (fun k => X (ix2 a k)) s b := by
  have hl := low_eq ⟨b.val, by omega⟩
  refine Eq.trans (b := (X (ix2 a b) * cs (ix2 a b) + Scalar.select (low b.val) (X (ix2 a ⟨(b.val + 128 - 96) % 128, by omega⟩))
    (X (ix2 a ⟨(b.val + 128 - 32) % 128, by omega⟩)) * sn (ix2 a b))) ?_ ?_
  · pointwise [k0_pay61, low]
  · rw [hl, select_ite, hc, hs]
    unfold Rows.rot
    by_cases h : b.val % 64 < 32
    · rw [if_pos h, if_pos h, dif_pos h, mul_neg, ← sub_eq_add_neg]
      congr 4
      exact Fin.ext (by simp only []; omega)
    · rw [if_neg h, if_neg h, dif_neg h]
      congr 4
      exact Fin.ext (by simp only []; omega)

theorem across_eq (b : Fin 128) : (⟨(b.val + 128 - 64) % 128, by omega⟩ : Fin 128) = Rows.across b := by
  apply Fin.ext
  simp only [Rows.across]
  split <;> omega

theorem ka_at (X : FVec Ideal S256x128 .f32) (cs sn : Vec Ideal S256x128 .f32) (a : Fin 256) (b : Fin 128) :
    k0_pay62 (k0_pay56 cs) (k0_pay57 sn) X (ix2 a b) = k0_pay61 cs sn X (ix2 a b) := by
  pointwise [k0_pay62, k0_pay56, k0_pay57]

theorem kb_at (X : FVec Ideal S256x128 .f32) (cs sn : FVec Ideal S256x128 .f32) (a : Fin 256) (b : Fin 128) :
    k0_pay69 (k0_pay63 cs sn X) (k0_pay64 cs sn X) 128#32 k0_pay65 k0_pay66 k0_pay67 k0_pay68 (ix2 a b) = k0_pay61 cs sn X (ix2 a (Rows.across b)) := by
  rw [← across_eq]
  pointwise [k0_pay69, k0_pay63, k0_pay64, k0_pay65, k0_pay66, k0_pay67, k0_pay68]

theorem vb_at (X : FVec Ideal S256x128 .f32) (a : Fin 256) (b : Fin 128) : k0_pay71 X (ix2 a b) = X (ix2 a (Rows.across b)) := by
  rw [← across_eq]
  pointwise [k0_pay71]

end Cert.Kernel4Ideal.Tile
end
-- ==== Proof.ProjRef.lean ====
module

public import proofs.«01_k».proof.Proof.ProjSpec
public import proofs.«01_k».proof.Proof.Gen.Reference4Ideal
public import Idealize.ShloMosaic.Lib.Pipeline.ValueKit
public import Idealize.ShloMosaic.Lib.Pointwise

/-!
The projection's reference: each array its host lines make, and what it is at an index.
-/

@[expose] public noncomputable section

set_option maxRecDepth 65536

open Idealize.ShloMosaic Idealize.ShloMosaic.TcCoe

namespace Cert.Reference4Ideal.Value
open Cert.Reference4Ideal Cert.Reference4Ideal.Gen

def y13 (a0 : FVec Ideal S32768x1024 .f32) (a1 : FVec Ideal S1x1024 .f32) : FVec Ideal S32768x1024 .f32 :=
  (mulf (mulf a0 ((broadcastInDim S32768x1024 ![0, 1] bcast_S32768x1_S32768x1024_0_1) (Host.rsqrt (addf (Host.divf ((broadcastInDim S32768x1 ![0] bcast_S32768_S32768x1_0) (((fun x v => Host.reduceAdd x v reducesTo_S32768x1024_S32768_d1 h_S_)) (mulf a0 a0) ((constant S_ .f32 0x00000000#32)))) ((broadcastInDim S32768x1 ![] bcast_S_S32768x1) ((constant S_ .f32 0x44800000#32)))) ((broadcastInDim S32768x1 ![] bcast_S_S32768x1) ((constant S_ .f32 0x358637BD#32))))))) ((broadcastInDim S32768x1024 ![0, 1] bcast_S1x1024_S32768x1024_0_1) ((broadcastInDim S1x1024 ![1] bcast_S1024_S1x1024_1) (shapeCast S1024 a1 shapeCasts_S1x1024_S1024))))

def y15 (a0 : FVec Ideal S32768x1024 .f32) (a1 : FVec Ideal S1x1024 .f32) (a2 : FVec Ideal S1x1024x6688 .f32) : FVec Ideal S32768x6688 .f32 :=
  (((fun l r => Host.dotGeneral dot_S32768x1024_S1024x6688_S32768x6688_1_0_0_1_n_n none l r)) (y13 a0 a1) (shapeCast S1024x6688 a2 shapeCasts_S1x1024x6688_S1024x6688))

def y18 (a0 : FVec Ideal S32768x1024 .f32) (a1 : FVec Ideal S1x1024 .f32) (a2 : FVec Ideal S1x1024x6688 .f32) : FVec Ideal S32768x128 .f32 :=
  (((extractStridedSlice S32768x128 ![0, 1152] · slices_S32768x6688_S32768x128_0_1152)) (y15 a0 a1 a2))

def y24 : IVec S2048 32 :=
  (addi ((iotaInDim S2048 32 0)) ((broadcastInDim S2048 ![] bcast_S_S2048) ((constantI S_ 32 16#32))))

def y25 (a0 : FVec Ideal S32768x1024 .f32) (a1 : FVec Ideal S1x1024 .f32) (a2 : FVec Ideal S1x1024x6688 .f32) : FVec Ideal S16x2048x16x64 .f32 :=
  (shapeCast S16x2048x16x64 (((extractStridedSlice S32768x1024 ![0, 0] · slices_S32768x6688_S32768x1024_0_0)) (y15 a0 a1 a2)) shapeCasts_S32768x1024_S16x2048x16x64)

def y37 : FVec Ideal S2048x32 .f32 :=
  (mulf ((broadcastInDim S2048x32 ![0, 1] bcast_S2048x1_S2048x32_0_1) ((broadcastInDim S2048x1 ![0] bcast_S2048_S2048x1_0) ((sitofp .f32) y24))) ((broadcastInDim S2048x32 ![0, 1] bcast_S1x32_S2048x32_0_1) ((broadcastInDim S1x32 ![1] bcast_S32_S1x32_1) (Host.powf ((broadcastInDim S32 ![] bcast_S_S32) ((constant S_ .f32 0x461C4000#32))) (Host.divf (Host.negf ((sitofp .f32 (iotaInDim S32 32 0)))) ((broadcastInDim S32 ![] bcast_S_S32) ((constant S_ .f32 0x42000000#32))))))))

def y38 : FVec Ideal S2048x32 .f32 :=
  (Host.cos y37)

def y39 : FVec Ideal S1x2048x1x32 .f32 :=
  ((broadcastInDim S1x2048x1x32 ![1, 3] bcast_S2048x32_S1x2048x1x32_1_3) y38)

def y41 : FVec Ideal S1x2048x1x32 .f32 :=
  ((broadcastInDim S1x2048x1x32 ![1, 3] bcast_S2048x32_S1x2048x1x32_1_3) (Host.sin y37))

def y42 (a0 : FVec Ideal S32768x1024 .f32) (a1 : FVec Ideal S1x1024 .f32) (a2 : FVec Ideal S1x1024x6688 .f32) : FVec Ideal S16x2048x16x32 .f32 :=
  (((extractStridedSlice S16x2048x16x32 ![0, 0, 0, 0] · slices_S16x2048x16x64_S16x2048x16x32_0_0_0_0)) (y25 a0 a1 a2))

def y43 (a0 : FVec Ideal S32768x1024 .f32) (a1 : FVec Ideal S1x1024 .f32) (a2 : FVec Ideal S1x1024x6688 .f32) : FVec Ideal S16x2048x16x32 .f32 :=
  (((extractStridedSlice S16x2048x16x32 ![0, 0, 0, 32] · slices_S16x2048x16x64_S16x2048x16x32_0_0_0_32)) (y25 a0 a1 a2))

def y57 (a0 : FVec Ideal S32768x1024 .f32) (a1 : FVec Ideal S1x1024 .f32) (a2 : FVec Ideal S1x1024x6688 .f32) : FVec Ideal S32768x1024 .f32 :=
  (shapeCast S32768x1024 (mulf (((fun a b => concatenate S16x2048x16x64 3 [⟨S16x2048x16x32, a⟩, ⟨S16x2048x16x32, b⟩] concatenates_S16x2048x16x32_S16x2048x16x32_S16x2048x16x64_d3)) (subf (mulf (y42 a0 a1 a2) ((broadcastInDim S16x2048x16x32 ![0, 1, 2, 3] bcast_S1x2048x1x32_S16x2048x16x32_0_1_2_3) y39)) (mulf (y43 a0 a1 a2) ((broadcastInDim S16x2048x16x32 ![0, 1, 2, 3] bcast_S1x2048x1x32_S16x2048x16x32_0_1_2_3) y41))) (addf (mulf (y43 a0 a1 a2) ((broadcastInDim S16x2048x16x32 ![0, 1, 2, 3] bcast_S1x2048x1x32_S16x2048x16x32_0_1_2_3) y39)) (mulf (y42 a0 a1 a2) ((broadcastInDim S16x2048x16x32 ![0, 1, 2, 3] bcast_S1x2048x1x32_S16x2048x16x32_0_1_2_3) y41)))) ((broadcastInDim S16x2048x16x64 ![] bcast_S_S16x2048x16x64) ((constant S_ .f32 0x3E000000#32)))) shapeCasts_S16x2048x16x64_S32768x1024)

def y58 (a0 : FVec Ideal S32768x1024 .f32) (a1 : FVec Ideal S1x1024 .f32) (a2 : FVec Ideal S1x1024x6688 .f32) : FVec Ideal S16x2048x2x64 .f32 :=
  (shapeCast S16x2048x2x64 (((extractStridedSlice S32768x128 ![0, 1024] · slices_S32768x6688_S32768x128_0_1024)) (y15 a0 a1 a2)) shapeCasts_S32768x128_S16x2048x2x64)

def y70 : FVec Ideal S2048x32 .f32 :=
  (mulf ((broadcastInDim S2048x32 ![0, 1] bcast_S2048x1_S2048x32_0_1) ((broadcastInDim S2048x1 ![0] bcast_S2048_S2048x1_0) ((sitofp .f32) y24))) ((broadcastInDim S2048x32 ![0, 1] bcast_S1x32_S2048x32_0_1) ((broadcastInDim S1x32 ![1] bcast_S32_S1x32_1) (Host.powf ((broadcastInDim S32 ![] bcast_S_S32) ((constant S_ .f32 0x461C4000#32))) (Host.divf (Host.negf ((sitofp .f32 (iotaInDim S32 32 0)))) ((broadcastInDim S32 ![] bcast_S_S32) ((constant S_ .f32 0x42000000#32))))))))

def y72 : FVec Ideal S1x2048x1x32 .f32 :=
  ((broadcastInDim S1x2048x1x32 ![1, 3] bcast_S2048x32_S1x2048x1x32_1_3) (Host.cos y70))

def y74 : FVec Ideal S1x2048x1x32 .f32 :=
  ((broadcastInDim S1x2048x1x32 ![1, 3] bcast_S2048x32_S1x2048x1x32_1_3) (Host.sin y70))

def y75 (a0 : FVec Ideal S32768x1024 .f32) (a1 : FVec Ideal S1x1024 .f32) (a2 : FVec Ideal S1x1024x6688 .f32) : FVec Ideal S16x2048x2x32 .f32 :=
  (((extractStridedSlice S16x2048x2x32 ![0, 0, 0, 0] · slices_S16x2048x2x64_S16x2048x2x32_0_0_0_0)) (y58 a0 a1 a2))

def y76 (a0 : FVec Ideal S32768x1024 .f32) (a1 : FVec Ideal S1x1024 .f32) (a2 : FVec Ideal S1x1024x6688 .f32) : FVec Ideal S16x2048x2x32 .f32 :=
  (((extractStridedSlice S16x2048x2x32 ![0, 0, 0, 32] · slices_S16x2048x2x64_S16x2048x2x32_0_0_0_32)) (y58 a0 a1 a2))

def y88 (a0 : FVec Ideal S32768x1024 .f32) (a1 : FVec Ideal S1x1024 .f32) (a2 : FVec Ideal S1x1024x6688 .f32) : FVec Ideal S32768x128 .f32 :=
  (shapeCast S32768x128 (((fun a b => concatenate S16x2048x2x64 3 [⟨S16x2048x2x32, a⟩, ⟨S16x2048x2x32, b⟩] concatenates_S16x2048x2x32_S16x2048x2x32_S16x2048x2x64_d3)) (subf (mulf (y75 a0 a1 a2) ((broadcastInDim S16x2048x2x32 ![0, 1, 2, 3] bcast_S1x2048x1x32_S16x2048x2x32_0_1_2_3) y72)) (mulf (y76 a0 a1 a2) ((broadcastInDim S16x2048x2x32 ![0, 1, 2, 3] bcast_S1x2048x1x32_S16x2048x2x32_0_1_2_3) y74))) (addf (mulf (y76 a0 a1 a2) ((broadcastInDim S16x2048x2x32 ![0, 1, 2, 3] bcast_S1x2048x1x32_S16x2048x2x32_0_1_2_3) y72)) (mulf (y75 a0 a1 a2) ((broadcastInDim S16x2048x2x32 ![0, 1, 2, 3] bcast_S1x2048x1x32_S16x2048x2x32_0_1_2_3) y74)))) shapeCasts_S16x2048x2x64_S32768x128)

def y89 (a0 : FVec Ideal S32768x1024 .f32) (a1 : FVec Ideal S1x1024 .f32) (a2 : FVec Ideal S1x1024x6688 .f32) : FVec Ideal S16x2048x3360 .f32 :=
  (shapeCast S16x2048x3360 (((extractStridedSlice S32768x3360 ![0, 1280] · slices_S32768x6688_S32768x3360_0_1280)) (y15 a0 a1 a2)) shapeCasts_S32768x3360_S16x2048x3360)

def y101 (a0 : FVec Ideal S32768x1024 .f32) (a1 : FVec Ideal S1x1024 .f32) (a2 : FVec Ideal S1x1024x6688 .f32) (a3 : FVec Ideal S1x3360 .f32) (a14 : FVec Ideal S8x3456 .f32) : FVec Ideal S32768x3360 .f32 :=
  (shapeCast S32768x3360 (addf (y89 a0 a1 a2) (mulf (subf (((fun a b => concatenate S16x2048x3360 1 [⟨S16x1x3360, a⟩, ⟨S16x2047x3360, b⟩] concatenates_S16x1x3360_S16x2047x3360_S16x2048x3360_d1)) ((broadcastInDim S16x1x3360 ![2] bcast_S3360_S16x1x3360_2) (shapeCast S3360 (((extractStridedSlice S1x3360 ![7, 0] · slices_S8x3456_S1x3360_7_0)) a14) shapeCasts_S1x3360_S3360)) (((extractStridedSlice S16x2047x3360 ![0, 0, 0] · slices_S16x2048x3360_S16x2047x3360_0_0_0)) (y89 a0 a1 a2))) (y89 a0 a1 a2)) ((broadcastInDim S16x2048x3360 ![0, 1, 2] bcast_S1x1x3360_S16x2048x3360_0_1_2) ((broadcastInDim S1x1x3360 ![2] bcast_S3360_S1x1x3360_2) (shapeCast S3360 a3 shapeCasts_S1x3360_S3360))))) shapeCasts_S16x2048x3360_S32768x3360)

def y102 (a0 : FVec Ideal S32768x1024 .f32) (a1 : FVec Ideal S1x1024 .f32) (a2 : FVec Ideal S1x1024x6688 .f32) (a3 : FVec Ideal S1x3360 .f32) (a14 : FVec Ideal S8x3456 .f32) : FVec Ideal S32768x1024 .f32 :=
  (((extractStridedSlice S32768x1024 ![0, 0] · slices_S32768x3360_S32768x1024_0_0)) (y101 a0 a1 a2 a3 a14))

def y103 (a0 : FVec Ideal S32768x1024 .f32) (a1 : FVec Ideal S1x1024 .f32) (a2 : FVec Ideal S1x1024x6688 .f32) (a3 : FVec Ideal S1x3360 .f32) (a14 : FVec Ideal S8x3456 .f32) : FVec Ideal S32768x1024 .f32 :=
  (((extractStridedSlice S32768x1024 ![0, 1024] · slices_S32768x3360_S32768x1024_0_1024)) (y101 a0 a1 a2 a3 a14))

def y104 (a0 : FVec Ideal S32768x1024 .f32) (a1 : FVec Ideal S1x1024 .f32) (a2 : FVec Ideal S1x1024x6688 .f32) (a3 : FVec Ideal S1x3360 .f32) (a14 : FVec Ideal S8x3456 .f32) : FVec Ideal S32768x1024 .f32 :=
  (((extractStridedSlice S32768x1024 ![0, 2048] · slices_S32768x3360_S32768x1024_0_2048)) (y101 a0 a1 a2 a3 a14))

def y122 (a0 : FVec Ideal S32768x1024 .f32) (a1 : FVec Ideal S1x1024 .f32) (a2 : FVec Ideal S1x1024x6688 .f32) (a3 : FVec Ideal S1x3360 .f32) (a4 : FVec Ideal S1x1024 .f32) (a5 : FVec Ideal S1x64x1024 .f32) (a14 : FVec Ideal S8x3456 .f32) : FVec Ideal S32768x1024 .f32 :=
  (mulf ((broadcastInDim S32768x1024 ![] bcast_S_S32768x1024) ((constant S_ .f32 0xBF1B4598#32))) (Host.divf ((broadcastInDim S32768x1024 ![] bcast_S_S32768x1024) ((constant S_ .f32 0x3F800000#32))) (addf ((broadcastInDim S32768x1024 ![] bcast_S_S32768x1024) ((constant S_ .f32 0x3F800000#32))) (Host.exp (Host.negf (addf ((broadcastInDim S32768x1024 ![0, 1] bcast_S1x1024_S32768x1024_0_1) ((broadcastInDim S1x1024 ![1] bcast_S1024_S1x1024_1) (shapeCast S1024 a4 shapeCasts_S1x1024_S1024))) (((fun l r => Host.dotGeneral dot_S32768x64_S64x1024_S32768x1024_1_0_0_1_n_n none l r)) (Host.tanh (((extractStridedSlice S32768x64 ![0, 3072] · slices_S32768x3360_S32768x64_0_3072)) (y101 a0 a1 a2 a3 a14))) (shapeCast S64x1024 a5 shapeCasts_S1x64x1024_S64x1024))))))))

def y134 (a0 : FVec Ideal S32768x1024 .f32) (a1 : FVec Ideal S1x1024 .f32) (a2 : FVec Ideal S1x1024x6688 .f32) (a3 : FVec Ideal S1x3360 .f32) (a6 : FVec Ideal S1x1024 .f32) (a7 : FVec Ideal S1x64x1024 .f32) (a14 : FVec Ideal S8x3456 .f32) : FVec Ideal S32768x1024 .f32 :=
  (Host.divf ((broadcastInDim S32768x1024 ![] bcast_S_S32768x1024) ((constant S_ .f32 0x3F800000#32))) (addf ((broadcastInDim S32768x1024 ![] bcast_S_S32768x1024) ((constant S_ .f32 0x3F800000#32))) (Host.exp (Host.negf (addf ((broadcastInDim S32768x1024 ![0, 1] bcast_S1x1024_S32768x1024_0_1) ((broadcastInDim S1x1024 ![1] bcast_S1024_S1x1024_1) (shapeCast S1024 a6 shapeCasts_S1x1024_S1024))) (((fun l r => Host.dotGeneral dot_S32768x64_S64x1024_S32768x1024_1_0_0_1_n_n none l r)) (((extractStridedSlice S32768x64 ![0, 3136] · slices_S32768x3360_S32768x64_0_3136)) (y101 a0 a1 a2 a3 a14)) (shapeCast S64x1024 a7 shapeCasts_S1x64x1024_S64x1024)))))))

def y142 (a0 : FVec Ideal S32768x1024 .f32) (a1 : FVec Ideal S1x1024 .f32) (a2 : FVec Ideal S1x1024x6688 .f32) (a3 : FVec Ideal S1x3360 .f32) (a8 : FVec Ideal S1x160x1024 .f32) (a14 : FVec Ideal S8x3456 .f32) : FVec Ideal S32768x1024 .f32 :=
  (((fun l r => Host.dotGeneral dot_S32768x160_S160x1024_S32768x1024_1_0_0_1_n_n none l r)) (Host.divf ((broadcastInDim S32768x160 ![] bcast_S_S32768x160) ((constant S_ .f32 0x3F800000#32))) (addf ((broadcastInDim S32768x160 ![] bcast_S_S32768x160) ((constant S_ .f32 0x3F800000#32))) (Host.exp (Host.negf (((extractStridedSlice S32768x160 ![0, 3200] · slices_S32768x3360_S32768x160_0_3200)) (y101 a0 a1 a2 a3 a14)))))) (shapeCast S160x1024 a8 shapeCasts_S1x160x1024_S160x1024))

def y147 (a0 : FVec Ideal S32768x1024 .f32) (a1 : FVec Ideal S1x1024 .f32) (a2 : FVec Ideal S1x1024x6688 .f32) (a3 : FVec Ideal S1x3360 .f32) (a9 : FVec Ideal S1x1024 .f32) (a14 : FVec Ideal S8x3456 .f32) : FVec Ideal S32768x16x64 .f32 :=
  (shapeCast S32768x16x64 (mulf (y103 a0 a1 a2 a3 a14) ((broadcastInDim S32768x1024 ![0, 1] bcast_S1x1024_S32768x1024_0_1) ((broadcastInDim S1x1024 ![1] bcast_S1024_S1x1024_1) (shapeCast S1024 a9 shapeCasts_S1x1024_S1024)))) shapeCasts_S32768x1024_S32768x16x64)

def y156 (a0 : FVec Ideal S32768x1024 .f32) (a1 : FVec Ideal S1x1024 .f32) (a2 : FVec Ideal S1x1024x6688 .f32) (a3 : FVec Ideal S1x3360 .f32) (a9 : FVec Ideal S1x1024 .f32) (a14 : FVec Ideal S8x3456 .f32) : FVec Ideal S32768x1024 .f32 :=
  (shapeCast S32768x1024 (mulf (y147 a0 a1 a2 a3 a9 a14) ((broadcastInDim S32768x16x64 ![0, 1, 2] bcast_S32768x16x1_S32768x16x64_0_1_2) (Host.rsqrt (maximumf ((broadcastInDim S32768x16x1 ![0, 1] bcast_S32768x16_S32768x16x1_0_1) (((fun x v => Host.reduceAdd x v reducesTo_S32768x16x64_S32768x16_d2 h_S_)) (mulf (y147 a0 a1 a2 a3 a9 a14) (y147 a0 a1 a2 a3 a9 a14)) ((constant S_ .f32 0x00000000#32)))) ((broadcastInDim S32768x16x1 ![] bcast_S_S32768x16x1) ((constant S_ .f32 0x179ABE15#32))))))) shapeCasts_S32768x16x64_S32768x1024)

def y165 (a0 : FVec Ideal S32768x1024 .f32) (a1 : FVec Ideal S1x1024 .f32) (a2 : FVec Ideal S1x1024x6688 .f32) (a3 : FVec Ideal S1x3360 .f32) (a6 : FVec Ideal S1x1024 .f32) (a7 : FVec Ideal S1x64x1024 .f32) (a10 : FVec Ideal S1x1024 .f32) (a14 : FVec Ideal S8x3456 .f32) : FVec Ideal S32768x1024 .f32 :=
  (mulf (y103 a0 a1 a2 a3 a14) (addf ((broadcastInDim S32768x1024 ![] bcast_S_S32768x1024) ((constant S_ .f32 0x3F800000#32))) (mulf (subf (y134 a0 a1 a2 a3 a6 a7 a14) ((broadcastInDim S32768x1024 ![] bcast_S_S32768x1024) ((constant S_ .f32 0x3F800000#32)))) ((broadcastInDim S32768x1024 ![0, 1] bcast_S1x1024_S32768x1024_0_1) ((broadcastInDim S1x1024 ![1] bcast_S1024_S1x1024_1) (shapeCast S1024 a10 shapeCasts_S1x1024_S1024))))))

def y179 (a0 : FVec Ideal S32768x1024 .f32) (a1 : FVec Ideal S1x1024 .f32) (a2 : FVec Ideal S1x1024x6688 .f32) (a3 : FVec Ideal S1x3360 .f32) (a4 : FVec Ideal S1x1024 .f32) (a5 : FVec Ideal S1x64x1024 .f32) (a14 : FVec Ideal S8x3456 .f32) : FVec Ideal S32768x1024 .bf16 :=
  (((truncf .bf16 · bitsLt_bf16_f32)) (y122 a0 a1 a2 a3 a4 a5 a14))

def y190 (a0 : FVec Ideal S32768x1024 .f32) (a1 : FVec Ideal S1x1024 .f32) (a2 : FVec Ideal S1x1024x6688 .f32) (a3 : FVec Ideal S1x3360 .f32) (a4 : FVec Ideal S1x1024 .f32) (a5 : FVec Ideal S1x64x1024 .f32) (a6 : FVec Ideal S1x1024 .f32) (a7 : FVec Ideal S1x64x1024 .f32) (a9 : FVec Ideal S1x1024 .f32) (a10 : FVec Ideal S1x1024 .f32) (a14 : FVec Ideal S8x3456 .f32) : FVec Ideal S32768x7168 .bf16 :=
  concatenate S32768x7168 1 [⟨S32768x1024, (((truncf .bf16 · bitsLt_bf16_f32)) (y102 a0 a1 a2 a3 a14))⟩, ⟨S32768x1024, (((truncf .bf16 · bitsLt_bf16_f32)) (y165 a0 a1 a2 a3 a6 a7 a10 a14))⟩, ⟨S32768x1024, (((truncf .bf16 · bitsLt_bf16_f32)) (y104 a0 a1 a2 a3 a14))⟩, ⟨S32768x1024, (((truncf .bf16 · bitsLt_bf16_f32)) (Host.negf (y156 a0 a1 a2 a3 a9 a14)))⟩, ⟨S32768x1024, (((truncf .bf16 · bitsLt_bf16_f32)) (mulf (y156 a0 a1 a2 a3 a9 a14) (y134 a0 a1 a2 a3 a6 a7 a14)))⟩, ⟨S32768x1024, (y179 a0 a1 a2 a3 a4 a5 a14)⟩, ⟨S32768x1024, (((truncf .bf16 · bitsLt_bf16_f32)) (subf (y122 a0 a1 a2 a3 a4 a5 a14) (((extf .f32 · bitsLt_bf16_f32)) (y179 a0 a1 a2 a3 a4 a5 a14))))⟩] concatenates_S32768x1024_S32768x1024_S32768x1024_S32768x1024_S32768x1024_S32768x1024_S32768x1024_S32768x7168_d1

def y202 (a0 : FVec Ideal S32768x1024 .f32) (a1 : FVec Ideal S1x1024 .f32) (a2 : FVec Ideal S1x1024x6688 .f32) (a3 : FVec Ideal S1x3360 .f32) (a6 : FVec Ideal S1x1024 .f32) (a7 : FVec Ideal S1x64x1024 .f32) (a8 : FVec Ideal S1x160x1024 .f32) (a10 : FVec Ideal S1x1024 .f32) (a11 : FVec Ideal S1x16x64 .f32) (a12 : FVec Ideal S1x1024 .f32) (a13 : FVec Ideal S1x1024 .f32) (a14 : FVec Ideal S8x3456 .f32) : FVec Ideal S32768x2048 .bf16 :=
  (((fun a b => concatenate S32768x2048 1 [⟨S32768x1024, a⟩, ⟨S32768x1024, b⟩] concatenates_S32768x1024_S32768x1024_S32768x2048_d1)) (((truncf .bf16 · bitsLt_bf16_f32)) (mulf (y142 a0 a1 a2 a3 a8 a14) ((broadcastInDim S32768x1024 ![0, 1] bcast_S1x1024_S32768x1024_0_1) ((broadcastInDim S1x1024 ![1] bcast_S1024_S1x1024_1) (shapeCast S1024 a12 shapeCasts_S1x1024_S1024))))) (((truncf .bf16 · bitsLt_bf16_f32)) (mulf (addf ((broadcastInDim S32768x1024 ![0, 1] bcast_S1x1024_S32768x1024_0_1) ((broadcastInDim S1x1024 ![1] bcast_S1024_S1x1024_1) (shapeCast S1024 a13 shapeCasts_S1x1024_S1024))) (shapeCast S32768x1024 (mulf ((broadcastInDim S32768x16x64 ![0, 1, 2] bcast_S32768x16x1_S32768x16x64_0_1_2) ((broadcastInDim S32768x16x1 ![0, 1] bcast_S32768x16_S32768x16x1_0_1) (((fun x v => Host.reduceAdd x v reducesTo_S32768x16x64_S32768x16_d2 h_S_)) (mulf (mulf (shapeCast S32768x16x64 (y102 a0 a1 a2 a3 a14) shapeCasts_S32768x1024_S32768x16x64) (shapeCast S32768x16x64 (y165 a0 a1 a2 a3 a6 a7 a10 a14) shapeCasts_S32768x1024_S32768x16x64)) ((broadcastInDim S32768x16x64 ![0, 1, 2] bcast_S1x16x64_S32768x16x64_0_1_2) ((broadcastInDim S1x16x64 ![1, 2] bcast_S16x64_S1x16x64_1_2) (shapeCast S16x64 a11 shapeCasts_S1x16x64_S16x64)))) ((constant S_ .f32 0x00000000#32))))) (shapeCast S32768x16x64 (y104 a0 a1 a2 a3 a14) shapeCasts_S32768x1024_S32768x16x64)) shapeCasts_S32768x16x64_S32768x1024)) (y142 a0 a1 a2 a3 a8 a14))))

def y209 (a0 : FVec Ideal S32768x1024 .f32) (a1 : FVec Ideal S1x1024 .f32) (a2 : FVec Ideal S1x1024x6688 .f32) : FVec Ideal S32768x1024 .bf16 :=
  (((truncf .bf16 · bitsLt_bf16_f32)) (y57 a0 a1 a2))

def y210 (a0 : FVec Ideal S32768x1024 .f32) (a1 : FVec Ideal S1x1024 .f32) (a2 : FVec Ideal S1x1024x6688 .f32) : FVec Ideal S32768x128 .bf16 :=
  (((truncf .bf16 · bitsLt_bf16_f32)) (y88 a0 a1 a2))

def y211 (a0 : FVec Ideal S32768x1024 .f32) (a1 : FVec Ideal S1x1024 .f32) (a2 : FVec Ideal S1x1024x6688 .f32) : FVec Ideal S32768x128 .bf16 :=
  (((truncf .bf16 · bitsLt_bf16_f32)) (((fun a b => concatenate S32768x128 1 [⟨S32768x64, a⟩, ⟨S32768x64, b⟩] concatenates_S32768x64_S32768x64_S32768x128_d1)) (((extractStridedSlice S32768x64 ![0, 64] · slices_S32768x128_S32768x64_0_64)) (y88 a0 a1 a2)) (((extractStridedSlice S32768x64 ![0, 0] · slices_S32768x128_S32768x64_0_0)) (y88 a0 a1 a2))))

def y212 (a0 : FVec Ideal S32768x1024 .f32) (a1 : FVec Ideal S1x1024 .f32) (a2 : FVec Ideal S1x1024x6688 .f32) : FVec Ideal S32768x128 .bf16 :=
  (((truncf .bf16 · bitsLt_bf16_f32)) (y18 a0 a1 a2))

def y213 (a0 : FVec Ideal S32768x1024 .f32) (a1 : FVec Ideal S1x1024 .f32) (a2 : FVec Ideal S1x1024x6688 .f32) : FVec Ideal S32768x128 .bf16 :=
  (((truncf .bf16 · bitsLt_bf16_f32)) (((fun a b => concatenate S32768x128 1 [⟨S32768x64, a⟩, ⟨S32768x64, b⟩] concatenates_S32768x64_S32768x64_S32768x128_d1)) (((extractStridedSlice S32768x64 ![0, 64] · slices_S32768x128_S32768x64_0_64)) (y18 a0 a1 a2)) (((extractStridedSlice S32768x64 ![0, 0] · slices_S32768x128_S32768x64_0_0)) (y18 a0 a1 a2))))

def y214 (a0 : FVec Ideal S32768x1024 .f32) (a1 : FVec Ideal S1x1024 .f32) (a2 : FVec Ideal S1x1024x6688 .f32) : FVec Ideal S32768x1024 .bf16 :=
  (((truncf .bf16 · bitsLt_bf16_f32)) (((extractStridedSlice S32768x1024 ![0, 4640] · slices_S32768x6688_S32768x1024_0_4640)) (y15 a0 a1 a2)))

def y215 (a0 : FVec Ideal S32768x1024 .f32) (a1 : FVec Ideal S1x1024 .f32) (a2 : FVec Ideal S1x1024x6688 .f32) : FVec Ideal S32768x1024 .bf16 :=
  (((truncf .bf16 · bitsLt_bf16_f32)) (((extractStridedSlice S32768x1024 ![0, 5664] · slices_S32768x6688_S32768x1024_0_5664)) (y15 a0 a1 a2)))
/-! ### The spec's arrays -/

/-- The projection at row `r`, column `c`. -/
def pj (a0 : FVec Ideal S32768x1024 .f32) (a1 : FVec Ideal S1x1024 .f32) (a2 : FVec Ideal S1x1024x6688 .f32) (r : Fin 32768) (c : Fin 6688) : EReal :=
  Rows.pr (fun k => a0 (ix2 r k)) (fun k => a1 (ix2 0 k)) (fun k => a2 (ix3 0 k c))

/-- Row `r` of the mixed projections: the row before it is the given one at a sequence's start. -/
def mrow (a0 : FVec Ideal S32768x1024 .f32) (a1 : FVec Ideal S1x1024 .f32) (a2 : FVec Ideal S1x1024x6688 .f32) (a3 : FVec Ideal S1x3360 .f32)
    (a14 : FVec Ideal S8x3456 .f32) (r : Fin 32768) : Fin 3360 → EReal :=
  Rows.mixed (fun c => a3 (ix2 0 c)) (fun c => pj a0 a1 a2 r ⟨1280 + c, by omega⟩)
    (fun c => if r.val % 2048 = 0 then a14 (ix2 7 ⟨c.val, by omega⟩) else pj a0 a1 a2 ⟨r.val - 1, by omega⟩ ⟨1280 + c, by omega⟩)

/-- The layer's row parameters of the arrays. -/
def par (a3 : FVec Ideal S1x3360 .f32) (a4 : FVec Ideal S1x1024 .f32) (a5 : FVec Ideal S1x64x1024 .f32) (a6 : FVec Ideal S1x1024 .f32)
    (a7 : FVec Ideal S1x64x1024 .f32) (a8 : FVec Ideal S1x160x1024 .f32) (a9 a10 : FVec Ideal S1x1024 .f32) (a11 : FVec Ideal S1x16x64 .f32)
    (a12 a13 : FVec Ideal S1x1024 .f32) : Rows.Par where
  mu c := a3 (ix2 0 c)
  w0 c := a4 (ix2 0 c)
  w2 j c := a5 (ix3 0 j c)
  a0 c := a6 (ix2 0 c)
  a2 j c := a7 (ix3 0 j c)
  g2 j c := a8 (ix3 0 j c)
  kk c := a9 (ix2 0 c)
  ka c := a10 (ix2 0 c)
  rk c := a11 (ix3 0 ⟨c.val / 64, by omega⟩ ⟨c.val % 64, by omega⟩)
  gw c := a12 (ix2 0 c)
  gb c := a13 (ix2 0 c)

variable (a0 : FVec Ideal S32768x1024 .f32) (a1 : FVec Ideal S1x1024 .f32) (a2 : FVec Ideal S1x1024x6688 .f32) (a3 : FVec Ideal S1x3360 .f32)
  (a4 : FVec Ideal S1x1024 .f32) (a5 : FVec Ideal S1x64x1024 .f32) (a6 : FVec Ideal S1x1024 .f32)
  (a7 : FVec Ideal S1x64x1024 .f32) (a8 : FVec Ideal S1x160x1024 .f32) (a9 a10 : FVec Ideal S1x1024 .f32) (a11 : FVec Ideal S1x16x64 .f32)
  (a12 a13 : FVec Ideal S1x1024 .f32) (a14 : FVec Ideal S8x3456 .f32) (r : Fin 32768)

/-! ### The reference's values -/

theorem y15_at (c : Fin 6688) : y15 a0 a1 a2 (ix2 r c) = pj a0 a1 a2 r c := by
  pointwise [y15, y13, pj, Rows.pr, Rows.rms]

theorem y37_at (s : Fin 2048) (l : Fin 32) : y37 (ix2 s l) = Rows.angle s l := by
  pointwise [y37, y24]
  rfl

theorem y70_at (s : Fin 2048) (l : Fin 32) : y70 (ix2 s l) = Rows.angle s l := by
  pointwise [y70, y24]
  rfl

theorem rot_shape {n : ℕ} (hn : 64 ∣ n) (x : Fin n → EReal) (s : ℕ) (g : Fin 32 → EReal) (hg : ∀ l, g l = Rows.angle s l) (c : Fin n) :
    (if h : c.val % 64 < 32 then
        x c * Ideal.cos (g ⟨c.val % 64, h⟩) - x ⟨c.val / 64 * 64 + (32 + c.val % 64), by omega⟩ * Ideal.sin (g ⟨c.val % 64, h⟩)
      else x ⟨c.val / 64 * 64 + (32 + (c.val % 64 - 32)), by omega⟩ * Ideal.cos (g ⟨c.val % 64 - 32, by omega⟩)
        + x ⟨c.val / 64 * 64 + (c.val % 64 - 32), by omega⟩ * Ideal.sin (g ⟨c.val % 64 - 32, by omega⟩)) = Rows.rot hn x s c := by
  unfold Rows.rot
  simp only [hg]
  split_ifs with h
  · have e1 : (⟨c.val % 64, h⟩ : Fin 32) = ⟨c.val % 32, by omega⟩ := Fin.ext (by simp only []; omega)
    have e2 : (⟨c.val / 64 * 64 + (32 + c.val % 64), by omega⟩ : Fin n) = ⟨c.val + 32, by omega⟩ := Fin.ext (by simp only []; omega)
    rw [e1, e2]
  · have e1 : (⟨c.val % 64 - 32, by omega⟩ : Fin 32) = ⟨c.val % 32, by omega⟩ := Fin.ext (by simp only []; omega)
    have e2 : (⟨c.val / 64 * 64 + (32 + (c.val % 64 - 32)), by omega⟩ : Fin n) = c := Fin.ext (by simp only []; omega)
    have e3 : (⟨c.val / 64 * 64 + (c.val % 64 - 32), by omega⟩ : Fin n) = ⟨c.val - 32, by omega⟩ := Fin.ext (by simp only []; omega)
    rw [e1, e2, e3]

theorem y209_at (c : Fin 1024) : y209 a0 a1 a2 (ix2 r c)
    = Rows.rot (n := 1024) (by omega) (fun b => pj a0 a1 a2 r ⟨b.val, by omega⟩) (r.val % 2048) c * Ideal.ofBits FTy.f32 1040187392#32 := by
  rw [← rot_shape (by omega) (fun b : Fin 1024 => pj a0 a1 a2 r ⟨b.val, by omega⟩) (r.val % 2048) (fun l => y37 (ix2 ⟨r.val % 2048, by omega⟩ l)) (fun l => y37_at _ l) c]
  simp only [← y15_at]
  pointwise [y209, y57, y42, y43, y41, y39, y38, y25]

theorem y88_at (c : Fin 128) : y88 a0 a1 a2 (ix2 r c)
    = Rows.rot (n := 128) (by omega) (fun b => pj a0 a1 a2 r ⟨1024 + b.val, by omega⟩) (r.val % 2048) c := by
  rw [← rot_shape (by omega) (fun b : Fin 128 => pj a0 a1 a2 r ⟨1024 + b.val, by omega⟩) (r.val % 2048) (fun l => y70 (ix2 ⟨r.val % 2048, by omega⟩ l)) (fun l => y70_at _ l) c]
  simp only [← y15_at]
  pointwise [y88, y75, y76, y72, y74, y58]

theorem across_shape (f : Fin 128 → EReal) (c : Fin 128) :
    (if h : c.val < 64 then f ⟨64 + c.val, by omega⟩ else f ⟨c.val - 64, by omega⟩) = f (Rows.across c) := by
  split_ifs with h
  · exact congrArg f (Fin.ext (by simp only [Rows.across, if_pos h]; omega))
  · exact congrArg f (Fin.ext (by simp only [Rows.across, if_neg h]))

theorem y210_at (c : Fin 128) : y210 a0 a1 a2 (ix2 r c) = y88 a0 a1 a2 (ix2 r c) := by
  pointwise [y210]

theorem y211_at (c : Fin 128) : y211 a0 a1 a2 (ix2 r c) = y88 a0 a1 a2 (ix2 r (Rows.across c)) := by
  rw [← across_shape (fun b => y88 a0 a1 a2 (ix2 r b))]
  pointwise [y211]

theorem y212_at (c : Fin 128) : y212 a0 a1 a2 (ix2 r c) = pj a0 a1 a2 r ⟨1152 + c, by omega⟩ := by
  rw [← y15_at]
  pointwise [y212, y18]

theorem y213_at (c : Fin 128) : y213 a0 a1 a2 (ix2 r c) = pj a0 a1 a2 r ⟨1152 + Rows.across c, by omega⟩ := by
  rw [← across_shape (fun b => pj a0 a1 a2 r ⟨1152 + b, by omega⟩)]
  simp only [← y15_at]
  pointwise [y213, y18]

theorem y214_at (c : Fin 1024) : y214 a0 a1 a2 (ix2 r c) = pj a0 a1 a2 r ⟨4640 + c, by omega⟩ := by
  rw [← y15_at]
  pointwise [y214]

theorem y215_at (c : Fin 1024) : y215 a0 a1 a2 (ix2 r c) = pj a0 a1 a2 r ⟨5664 + c, by omega⟩ := by
  rw [← y15_at]
  pointwise [y215]

theorem y101_at (c : Fin 3360) : y101 a0 a1 a2 a3 a14 (ix2 r c) = mrow a0 a1 a2 a3 a14 r c := by
  have e : (if r.val % 2048 = 0 then (a14 (ix2 7 ⟨c.val, by omega⟩) : EReal) else pj a0 a1 a2 ⟨r.val - 1, by omega⟩ ⟨1280 + c, by omega⟩)
      = if h : r.val % 2048 < 1 then (a14 (ix2 7 ⟨c.val, by omega⟩) : EReal)
        else y15 a0 a1 a2 (ix2 ⟨r.val / 2048 * 2048 + (r.val % 2048 - 1), by omega⟩ ⟨1280 + c, by omega⟩) := by
    simp only [y15_at]
    split_ifs with h1 h2 h2
    · rfl
    · omega
    · omega
    · exact congrArg (fun i => pj a0 a1 a2 i _) (Fin.ext (by simp only []; omega))
  simp only [mrow, Rows.mixed]
  rw [e, ← y15_at]
  pointwise [y101, y89]

theorem y122_at (c : Fin 1024) : y122 a0 a1 a2 a3 a4 a5 a14 (ix2 r c)
    = Rows.decay (par a3 a4 a5 a6 a7 a8 a9 a10 a11 a12 a13) (mrow a0 a1 a2 a3 a14 r) c := by
  simp only [Rows.decay, par, ← y101_at]
  pointwise [y122, Ideal.logistic]

theorem y134_at (c : Fin 1024) : y134 a0 a1 a2 a3 a6 a7 a14 (ix2 r c)
    = Rows.alpha (par a3 a4 a5 a6 a7 a8 a9 a10 a11 a12 a13) (mrow a0 a1 a2 a3 a14 r) c := by
  simp only [Rows.alpha, par, ← y101_at]
  pointwise [y134, Ideal.logistic]

theorem y142_at (c : Fin 1024) : y142 a0 a1 a2 a3 a8 a14 (ix2 r c)
    = Rows.gated (par a3 a4 a5 a6 a7 a8 a9 a10 a11 a12 a13) (mrow a0 a1 a2 a3 a14 r) c := by
  simp only [Rows.gated, par, ← y101_at]
  pointwise [y142, Ideal.logistic]

theorem y156_at (c : Fin 1024) : y156 a0 a1 a2 a3 a9 a14 (ix2 r c)
    = Rows.kn (par a3 a4 a5 a6 a7 a8 a9 a10 a11 a12 a13) (mrow a0 a1 a2 a3 a14 r) c := by
  simp only [Rows.kn, Rows.keyed, Rows.place, par, ← y101_at]
  pointwise [y156, y147, y103]

theorem y165_at (c : Fin 1024) : y165 a0 a1 a2 a3 a6 a7 a10 a14 (ix2 r c)
    = Rows.keyAt (par a3 a4 a5 a6 a7 a8 a9 a10 a11 a12 a13) (mrow a0 a1 a2 a3 a14 r) c := by
  simp only [Rows.keyAt, ← y134_at, ← y101_at]
  simp only [par]
  pointwise [y165, y103]

theorem y202_left (c : Fin 1024) : y202 a0 a1 a2 a3 a6 a7 a8 a10 a11 a12 a13 a14 (ix2 r ⟨c.val, by omega⟩)
    = Rows.scaled (par a3 a4 a5 a6 a7 a8 a9 a10 a11 a12 a13) (mrow a0 a1 a2 a3 a14 r) c := by
  have hc := c.isLt
  simp only [Rows.scaled, ← y142_at]
  simp only [par]
  pointwise [y202]

theorem y202_right (c : Fin 1024) : y202 a0 a1 a2 a3 a6 a7 a8 a10 a11 a12 a13 a14 (ix2 r ⟨1024 + c.val, by omega⟩)
    = Rows.bonus (par a3 a4 a5 a6 a7 a8 a9 a10 a11 a12 a13) (mrow a0 a1 a2 a3 a14 r) c := by
  have hc := c.isLt
  simp only [Rows.bonus, Rows.place, ← y142_at, ← y165_at, ← y101_at]
  simp only [par]
  pointwise [y202, y102, y104]
  refine congrArg (fun z : EReal => ((a13 (ix2 0 c) : EReal) + z * y101 a0 a1 a2 a3 a14 (ix2 r ⟨2048 + c.val, by omega⟩)) * y142 a0 a1 a2 a3 a8 a14 (ix2 r c)) (Finset.sum_congr rfl fun d _ => congrArg (fun z : EReal => (y101 a0 a1 a2 a3 a14 (ix2 r ⟨c.val / 64 * 64 + d.val, by omega⟩) * y165 a0 a1 a2 a3 a6 a7 a10 a14 (ix2 r ⟨c.val / 64 * 64 + d.val, by omega⟩) : EReal) * z) ?_)
  have e1 : (⟨c.val / 64, by omega⟩ : Fin 16) = ⟨(c.val / 64 * 64 + d.val) / 64, by omega⟩ := Fin.ext (by simp only []; omega)
  have e2 : d = (⟨(c.val / 64 * 64 + d.val) % 64, by omega⟩ : Fin 64) := Fin.ext (by simp only []; omega)
  exact congrArg₂ (fun i j => a11 (ix3 0 i j)) e1 e2

theorem y190_0 (c : Fin 1024) : y190 a0 a1 a2 a3 a4 a5 a6 a7 a9 a10 a14 (ix2 r ⟨c.val, by omega⟩)
    = y101 a0 a1 a2 a3 a14 (ix2 r ⟨c.val, by omega⟩) := by
  have hc := c.isLt
  pointwise [y190, y102, y104, y179]

theorem y190_1 (c : Fin 1024) : y190 a0 a1 a2 a3 a4 a5 a6 a7 a9 a10 a14 (ix2 r ⟨1024 + c.val, by omega⟩)
    = y165 a0 a1 a2 a3 a6 a7 a10 a14 (ix2 r c) := by
  have hc := c.isLt
  pointwise [y190, y102, y104, y179]

theorem y190_2 (c : Fin 1024) : y190 a0 a1 a2 a3 a4 a5 a6 a7 a9 a10 a14 (ix2 r ⟨2048 + c.val, by omega⟩)
    = y101 a0 a1 a2 a3 a14 (ix2 r ⟨2048 + c.val, by omega⟩) := by
  have hc := c.isLt
  pointwise [y190, y102, y104, y179]
  refine (dif_neg (by omega)).trans ?_
  refine (dif_neg (by omega)).trans ?_
  refine (dif_pos (by omega)).trans ?_
  exact congrArg (fun i => y101 a0 a1 a2 a3 a14 (ix2 r i)) (Fin.ext (by simp only []; omega))

theorem y190_3 (c : Fin 1024) : y190 a0 a1 a2 a3 a4 a5 a6 a7 a9 a10 a14 (ix2 r ⟨3072 + c.val, by omega⟩)
    = -(y156 a0 a1 a2 a3 a9 a14 (ix2 r c) : EReal) := by
  have hc := c.isLt
  pointwise [y190, y102, y104, y179]
  refine (dif_neg (by omega)).trans ?_
  refine (dif_neg (by omega)).trans ?_
  refine (dif_neg (by omega)).trans ?_
  refine (dif_pos (by omega)).trans ?_
  rw [show (⟨3072 + c.val - 1024 - 1024 - 1024, by omega⟩ : Fin 1024) = c from Fin.ext (by simp only []; omega)]

theorem y190_4 (c : Fin 1024) : y190 a0 a1 a2 a3 a4 a5 a6 a7 a9 a10 a14 (ix2 r ⟨4096 + c.val, by omega⟩)
    = (y156 a0 a1 a2 a3 a9 a14 (ix2 r c) * y134 a0 a1 a2 a3 a6 a7 a14 (ix2 r c) : EReal) := by
  have hc := c.isLt
  pointwise [y190, y102, y104, y179]
  refine (dif_neg (by omega)).trans ?_
  refine (dif_neg (by omega)).trans ?_
  refine (dif_neg (by omega)).trans ?_
  refine (dif_neg (by omega)).trans ?_
  refine (dif_pos (by omega)).trans ?_
  rw [show (⟨4096 + c.val - 1024 - 1024 - 1024 - 1024, by omega⟩ : Fin 1024) = c from Fin.ext (by simp only []; omega)]

theorem y190_5 (c : Fin 1024) : y190 a0 a1 a2 a3 a4 a5 a6 a7 a9 a10 a14 (ix2 r ⟨5120 + c.val, by omega⟩)
    = y122 a0 a1 a2 a3 a4 a5 a14 (ix2 r c) := by
  have hc := c.isLt
  pointwise [y190, y102, y104, y179]
  refine (dif_neg (by omega)).trans ?_
  refine (dif_neg (by omega)).trans ?_
  refine (dif_neg (by omega)).trans ?_
  refine (dif_neg (by omega)).trans ?_
  refine (dif_neg (by omega)).trans ?_
  refine (dif_pos (by omega)).trans ?_
  rw [show (⟨5120 + c.val - 1024 - 1024 - 1024 - 1024 - 1024, by omega⟩ : Fin 1024) = c from Fin.ext (by simp only []; omega)]

theorem y190_6 (c : Fin 1024) : y190 a0 a1 a2 a3 a4 a5 a6 a7 a9 a10 a14 (ix2 r ⟨6144 + c.val, by omega⟩)
    = (y122 a0 a1 a2 a3 a4 a5 a14 (ix2 r c) - y122 a0 a1 a2 a3 a4 a5 a14 (ix2 r c) : EReal) := by
  have hc := c.isLt
  pointwise [y190, y102, y104, y179]
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  rw [show (⟨6144 + c.val - 1024 - 1024 - 1024 - 1024 - 1024 - 1024, by omega⟩ : Fin 1024) = c from Fin.ext (by simp only []; omega)]

end Cert.Reference4Ideal.Value
end
-- ==== Proof.ProjHost.lean ====
module

public import proofs.«01_k».proof.Proof.ProjRun
public import Idealize.ShloMosaic.Lib.Pipeline.ValueKit
public import Idealize.ShloMosaic.Lib.Routing.OpsSet
public import Idealize.ShloMosaic.Lib.Routing.OpsPair
public import Idealize.ShloMosaic.Lib.StableHlo.ReadAt
public import proofs.«01_k».proof.Proof.ProjSpec

/-!
What the host lines before the projection's call hand it: the matrix's pieces, the padded ones, the two low-rank matrices stacked, the
parameters' rows, and the rotary tables, each read at an index.
-/

@[expose] public noncomputable section

set_option maxRecDepth 65536

open Idealize.ShloMosaic Idealize.ShloMosaic.TcCoe Idealize.SL.Sem
open Idealize.ShloMosaic.Pipeline (Dat)

namespace Cert.Kernel4Ideal.Value
open Cert.Kernel4Ideal Cert.Kernel4Ideal.Gen
variable (m : (ℓ : Loc nD τ sig) → Buf (Elt Ideal) ℓ)

/-- Where an update of the stacked matrix's two pieces lands. -/
theorem lands (r0 c0 : ℕ) (idx : IVec S2 32) (h0 : (idx (ix1 0)).toInt = r0) (h1 : (idx (ix1 1)).toInt = c0) (u : S64x1024.Idx)
    (k : Fin 128) (j : Fin 2048) :
    scatter_S128x2048_S2_S64x1024_01_n_01_0.resultIdx? u idx = some (ix2 k j)
      ↔ r0 + (u 0).val = k.val ∧ c0 + (u 1).val = j.val := by
  have s0 : scatter_S128x2048_S2_S64x1024_01_n_01_0.start u idx 0 = (idx (ix1 0)).toInt := by
    refine congrArg (fun q => (idx q).toInt) ?_
    funext b
    match b with
    | ⟨0, _⟩ => rfl
  have s1 : scatter_S128x2048_S2_S64x1024_01_n_01_0.start u idx 1 = (idx (ix1 1)).toInt := by
    refine congrArg (fun q => (idx q).toInt) ?_
    funext b
    match b with
    | ⟨0, _⟩ => rfl
  have w0 : scatter_S128x2048_S2_S64x1024_01_n_01_0.window u 0 = (u 0).val := rfl
  have w1 : scatter_S128x2048_S2_S64x1024_01_n_01_0.window u 1 = (u 1).val := rfl
  refine (Routing.resultIdx?_ix2 scatter_S128x2048_S2_S64x1024_01_n_01_0 u idx k j).trans ?_
  rw [s0, s1, w0, w1, h0, h1]
  omega

/-- A piece of 64 rows and 1024 columns put at a corner: the piece inside, what was there outside. -/
theorem scat_at (r0 c0 : ℕ) (idx : IVec S2 32) (h0 : (idx (ix1 0)).toInt = r0) (h1 : (idx (ix1 1)).toInt = c0)
    (x0 : S128x2048.Idx → EReal) (upd : S64x1024.Idx → EReal) (k : Fin 128) (j : Fin 2048) :
    Host.scatter scatter_S128x2048_S2_S64x1024_01_n_01_0 (fun _ b => b) x0 idx upd (ix2 k j)
      = if h : (r0 ≤ k.val ∧ k.val < r0 + 64) ∧ c0 ≤ j.val ∧ j.val < c0 + 1024 then
          upd (ix2 ⟨k.val - r0, by omega⟩ ⟨j.val - c0, by omega⟩) else x0 (ix2 k j) := by
  by_cases h : (r0 ≤ k.val ∧ k.val < r0 + 64) ∧ c0 ≤ j.val ∧ j.val < c0 + 1024
  · rw [dif_pos h]
    refine Routing.scatter_set_hit _ x0 idx upd (ix2 k j) _ (fun u hu => ?_) (ix2 ⟨k.val - r0, by omega⟩ ⟨j.val - c0, by omega⟩) ?_
    · obtain ⟨hu0, hu1⟩ := (lands r0 c0 idx h0 h1 u k j).1 hu
      obtain ⟨a, b, rfl⟩ : ∃ a b, u = ix2 a b := ⟨_, _, eq_ix2 u⟩
      have e0 : r0 + a.val = k.val := hu0
      have e1 : c0 + b.val = j.val := hu1
      congr 2 <;> (apply Fin.ext; show _ = _ - _; omega)
    · refine (lands r0 c0 idx h0 h1 _ k j).2 ⟨?_, ?_⟩
      · show r0 + (k.val - r0) = k.val; omega
      · show c0 + (j.val - c0) = j.val; omega
  · rw [dif_neg h]
    refine Routing.scatter_set_miss _ x0 idx upd (ix2 k j) fun u hu => h ?_
    obtain ⟨hu0, hu1⟩ := (lands r0 c0 idx h0 h1 u k j).1 hu
    have := (u 0).isLt
    have := (u 1).isLt
    have e0 : (u 0).val < 64 := (u 0).isLt
    have e1 : (u 1).val < 1024 := (u 1).isLt
    omega

set_option maxHeartbeats 8000000 in
theorem v2 (c : Dev nD) (k j : Fin 1024) :
    (V m c main_v2 : FVec Ideal S1024x1024 .bf16) (ix2 k j)
      = (m ((c : Thread nD τ).loc main_arg2) : FVec Ideal S1x1024x6688 .f32) (ix3 0 k ⟨j, by omega⟩) := by
  simp only [V, hostOps0, hostOps0_1, hostOps0_2, hostOps0_3, hostOps0_4, hostOps0_5, hostOps0_6, List.flatten_cons, List.flatten_nil, List.append_nil, List.cons_append, List.nil_append]
  entry_read
  pointwise

set_option maxHeartbeats 8000000 in
theorem v4 (c : Dev nD) (k : Fin 1024) (j : Fin 256) :
    (V m c main_v4 : FVec Ideal S1024x256 .bf16) (ix2 k j)
      = (m ((c : Thread nD τ).loc main_arg2) : FVec Ideal S1x1024x6688 .f32) (ix3 0 k ⟨1024 + j, by omega⟩) := by
  simp only [V, hostOps0, hostOps0_1, hostOps0_2, hostOps0_3, hostOps0_4, hostOps0_5, hostOps0_6, List.flatten_cons, List.flatten_nil, List.append_nil, List.cons_append, List.nil_append]
  entry_read
  pointwise

set_option maxHeartbeats 8000000 in
theorem v9 (c : Dev nD) (k : Fin 1024) (j : Fin 2048) :
    (V m c main_v9 : FVec Ideal S1024x2048 .bf16) (ix2 k j)
      = (m ((c : Thread nD τ).loc main_arg2) : FVec Ideal S1x1024x6688 .f32) (ix3 0 k ⟨4640 + j, by omega⟩) := by
  simp only [V, hostOps0, hostOps0_1, hostOps0_2, hostOps0_3, hostOps0_4, hostOps0_5, hostOps0_6, List.flatten_cons, List.flatten_nil, List.append_nil, List.cons_append, List.nil_append]
  entry_read
  pointwise

set_option maxHeartbeats 8000000 in
theorem v7 (c : Dev nD) (k : Fin 1024) (j : Fin 3456) :
    (V m c main_v7 : FVec Ideal S1024x3456 .bf16) (ix2 k j)
      = if h : j.val < 3360 then (m ((c : Thread nD τ).loc main_arg2) : FVec Ideal S1x1024x6688 .f32) (ix3 0 k ⟨1280 + j, by omega⟩) else (0 : EReal) := by
  simp only [V, hostOps0, hostOps0_1, hostOps0_2, hostOps0_3, hostOps0_4, hostOps0_5, hostOps0_6, List.flatten_cons, List.flatten_nil, List.append_nil, List.cons_append, List.nil_append]
  entry_read
  simp -implicitDefEqProofs only [StableHlo.TRef.toBuf, StableHlo.TRef.ofBuf, cast_cast, cast_eq]
  pointwise
  exact dite_congr rfl (fun _ => rfl) (fun _ => by simp [FloatOps.sitofp])

set_option maxHeartbeats 8000000 in
theorem v24 (c : Dev nD) (k : Fin 256) (j : Fin 1024) :
    (V m c main_v24 : FVec Ideal S256x1024 .bf16) (ix2 k j)
      = if h : k.val < 160 then (m ((c : Thread nD τ).loc main_arg8) : FVec Ideal S1x160x1024 .f32) (ix3 0 ⟨k, h⟩ j) else (0 : EReal) := by
  simp only [V, hostOps0, hostOps0_1, hostOps0_2, hostOps0_3, hostOps0_4, hostOps0_5, hostOps0_6, List.flatten_cons, List.flatten_nil, List.append_nil, List.cons_append, List.nil_append]
  entry_read
  simp -implicitDefEqProofs only [StableHlo.TRef.toBuf, StableHlo.TRef.ofBuf, cast_cast, cast_eq]
  pointwise
  exact dite_congr rfl (fun _ => rfl) (fun _ => by simp [FloatOps.sitofp])

set_option maxHeartbeats 8000000 in
theorem v27 (c : Dev nD) (j : Fin 3456) :
    (V m c main_v27 : FVec Ideal S1x3456 .f32) (ix2 0 j)
      = if h : j.val < 3360 then (m ((c : Thread nD τ).loc main_arg3) : FVec Ideal S1x3360 .f32) (ix2 0 ⟨j, h⟩) else (0 : EReal) := by
  simp only [V, hostOps0, hostOps0_1, hostOps0_2, hostOps0_3, hostOps0_4, hostOps0_5, hostOps0_6, List.flatten_cons, List.flatten_nil, List.append_nil, List.cons_append, List.nil_append]
  entry_read
  simp -implicitDefEqProofs only [StableHlo.TRef.toBuf, StableHlo.TRef.ofBuf, cast_cast, cast_eq]
  pointwise
  exact dite_congr rfl (fun _ => rfl) (fun _ => by simp [FloatOps.sitofp])

set_option maxHeartbeats 8000000 in
theorem v21 (c : Dev nD) (k : Fin 128) (j : Fin 2048) :
    (V m c main_v21 : FVec Ideal S128x2048 .bf16) (ix2 k j)
      = if h : (64 ≤ k.val ∧ k.val < 64 + 64) ∧ 1024 ≤ j.val ∧ j.val < 1024 + 1024 then
          (m ((c : Thread nD τ).loc main_arg7) : FVec Ideal S1x64x1024 .f32) (ix3 0 ⟨k.val - 64, by omega⟩ ⟨j.val - 1024, by omega⟩)
        else if h : (0 ≤ k.val ∧ k.val < 0 + 64) ∧ 0 ≤ j.val ∧ j.val < 0 + 1024 then
          (m ((c : Thread nD τ).loc main_arg5) : FVec Ideal S1x64x1024 .f32) (ix3 0 ⟨k.val - 0, by omega⟩ ⟨j.val - 0, by omega⟩)
        else (0 : EReal) := by
  simp only [V, hostOps0, hostOps0_1, hostOps0_2, hostOps0_3, hostOps0_4, hostOps0_5, hostOps0_6, List.flatten_cons, List.flatten_nil, List.append_nil, List.cons_append, List.nil_append]
  entry_read
  generalize hs : Host.scatter scatter_S128x2048_S2_S64x1024_01_n_01_0 (fun _ b => b) (Host.scatter _ _ _ _ _) _ _ = S
  refine Eq.trans (b := S (ix2 k j)) ?_ ?_
  · pointwise
  subst hs
  refine (scat_at 64 1024 _ rfl rfl _ _ k j).trans ?_
  refine dite_congr rfl (fun h => ?_) (fun h => ?_)
  · pointwise
  · refine (scat_at 0 0 _ rfl rfl _ _ k j).trans ?_
    refine dite_congr rfl (fun h => ?_) (fun h => ?_)
    · pointwise
    · pointwise

set_option maxHeartbeats 8000000 in
theorem v45 (c : Dev nD) (j : Fin 1024) :
    (V m c main_v45 : FVec Ideal S8x1024 .f32) (ix2 0 j) = (m ((c : Thread nD τ).loc main_arg4) : FVec Ideal S1x1024 .f32) (ix2 0 j)
    ∧ (V m c main_v45 : FVec Ideal S8x1024 .f32) (ix2 1 j) = (m ((c : Thread nD τ).loc main_arg6) : FVec Ideal S1x1024 .f32) (ix2 0 j)
    ∧ (V m c main_v45 : FVec Ideal S8x1024 .f32) (ix2 2 j) = (m ((c : Thread nD τ).loc main_arg9) : FVec Ideal S1x1024 .f32) (ix2 0 j)
    ∧ (V m c main_v45 : FVec Ideal S8x1024 .f32) (ix2 3 j) = (m ((c : Thread nD τ).loc main_arg10) : FVec Ideal S1x1024 .f32) (ix2 0 j)
    ∧ (V m c main_v45 : FVec Ideal S8x1024 .f32) (ix2 4 j) = (m ((c : Thread nD τ).loc main_arg11) : FVec Ideal S1x16x64 .f32) (ix3 0 ⟨j.val / 64, by omega⟩ ⟨j.val % 64, by omega⟩)
    ∧ (V m c main_v45 : FVec Ideal S8x1024 .f32) (ix2 5 j) = (m ((c : Thread nD τ).loc main_arg12) : FVec Ideal S1x1024 .f32) (ix2 0 j)
    ∧ (V m c main_v45 : FVec Ideal S8x1024 .f32) (ix2 6 j) = (m ((c : Thread nD τ).loc main_arg13) : FVec Ideal S1x1024 .f32) (ix2 0 j) := by
  simp only [V, hostOps0, hostOps0_1, hostOps0_2, hostOps0_3, hostOps0_4, hostOps0_5, hostOps0_6, List.flatten_cons, List.flatten_nil, List.append_nil, List.cons_append, List.nil_append]
  refine ⟨?_, ?_, ?_, ?_, ?_, ?_, ?_⟩ <;> (after_reads_at; after_reads_at)

set_option maxHeartbeats 8000000 in
theorem v47 (c : Dev nD) (j : Fin 1024) :
    (V m c main_v47 : FVec Ideal S1x1024 .f32) (ix2 0 j)
      = (m ((c : Thread nD τ).loc main_arg1) : FVec Ideal S1x1024 .f32) (ix2 0 j) := by
  simp only [V, hostOps0, hostOps0_1, hostOps0_2, hostOps0_3, hostOps0_4, hostOps0_5, hostOps0_6, List.flatten_cons, List.flatten_nil, List.append_nil, List.cons_append, List.nil_append]
  entry_read
  pointwise

theorem four (g f : Fin 32 → EReal) (j : Fin 128) :
    (if h : j.val < 32 then g ⟨j.val, h⟩ else if h : j.val - 32 < 32 then f ⟨j.val - 32, h⟩ else if h : j.val - 32 - 32 < 32 then g ⟨j.val - 32 - 32, h⟩
      else f ⟨j.val - 32 - 32 - 32, by omega⟩) = if j.val % 64 < 32 then g ⟨j.val % 32, by omega⟩ else f ⟨j.val % 32, by omega⟩ := by
  split_ifs with h1 h2 h3 h4 h5 h6
  all_goals first
    | omega
    | exact congrArg _ (Fin.ext (by simp only []; omega))

set_option maxHeartbeats 8000000 in
theorem v65 (c : Dev nD) (a : Fin 2048) (j : Fin 128) :
    (V m c main_v65 : FVec Ideal S2048x128 .f32) (ix2 a j)
      = Ideal.cos (Rows.angle a ⟨j.val % 32, by omega⟩) := by
  simp only [V, hostOps0, hostOps0_1, hostOps0_2, hostOps0_3, hostOps0_4, hostOps0_5, hostOps0_6, List.flatten_cons, List.flatten_nil, List.append_nil, List.cons_append, List.nil_append]
  after_reads_at
  after_reads_at
  refine (four (fun l => Ideal.cos (Rows.angle a l)) (fun l => Ideal.cos (Rows.angle a l)) j).trans ?_
  split_ifs <;> rfl

set_option maxHeartbeats 8000000 in
theorem v67 (c : Dev nD) (a : Fin 2048) (j : Fin 128) :
    (V m c main_v67 : FVec Ideal S2048x128 .f32) (ix2 a j)
      = if j.val % 64 < 32 then -Ideal.sin (Rows.angle a ⟨j.val % 32, by omega⟩) else Ideal.sin (Rows.angle a ⟨j.val % 32, by omega⟩) := by
  simp only [V, hostOps0, hostOps0_1, hostOps0_2, hostOps0_3, hostOps0_4, hostOps0_5, hostOps0_6, List.flatten_cons, List.flatten_nil, List.append_nil, List.cons_append, List.nil_append]
  after_reads_at
  after_reads_at
  exact four (fun l => -Ideal.sin (Rows.angle a l)) (fun l => Ideal.sin (Rows.angle a l)) j

end Cert.Kernel4Ideal.Value
end
-- ==== Proof.ProjBlk.lean ====
module

public import proofs.«01_k».proof.Proof.ProjFrame
public import Idealize.ShloMosaic.Lib.Pipeline.ValueKit
public import Idealize.ShloMosaic.Lib.Pointwise

/-!
The projection's blocks at an index, of the arrays the call is handed.
-/

@[expose] public noncomputable section

set_option maxRecDepth 65536

open Idealize.ShloMosaic Idealize.ShloMosaic.TcCoe Idealize.SL.Sem
open Idealize.ShloMosaic.Pipeline (Dat)

namespace Cert.Kernel4Ideal.Value
open Cert.Kernel4Ideal Cert.Kernel4Ideal.Gen
variable (m : (ℓ : Loc nD τ sig) → Buf (Elt Ideal) ℓ)

theorem idx : ∀ t : Fin cfg0.N, win0_0.index t = ![t.val, 0] ∧ win0_1.index t = ![0, 0] ∧ win0_2.index t = ![t.val % 8, 0]
    ∧ win0_3.index t = ![t.val % 8, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![t.val, 0] ∧ win0_14.index t = ![t.val, 0]
    ∧ win0_15.index t = ![t.val, 0] ∧ win0_16.index t = ![t.val, 0] ∧ win0_17.index t = ![t.val, 0] ∧ win0_18.index t = ![t.val, 0]
    ∧ win0_19.index t = ![t.val, 0] ∧ win0_20.index t = ![t.val, 0] ∧ win0_21.index t = ![t.val, 0] :=
  (by decide +kernel : ∀ t : Fin grid0.N, _)

theorem b0 (c : Dev nD) (t : Fin cfg0.N) (a : Fin 256) (k : Fin 1024) (ht : 256 * t.val + a.val < 32768) :
    iblk m c 0 t (ix2 a k) = (V m c main_arg0 : FVec Ideal S32768x1024 .f32) (ix2 ⟨256 * t.val + a.val, ht⟩ k) := by
  blk_point [iblk, idx t]

theorem b1 (c : Dev nD) (t : Fin cfg0.N) (k : Fin 1) (j : Fin 1024) :
    iblk m c 1 t (ix2 k j) = (V m c main_v47 : FVec Ideal S1x1024 .f32) (ix2 k j) := by
  blk_point [iblk, idx t]

theorem b4 (c : Dev nD) (t : Fin cfg0.N) (k : Fin 1024) (j : Fin 1024) :
    iblk m c 4 t (ix2 k j) = (V m c main_v2 : FVec Ideal S1024x1024 .bf16) (ix2 k j) := by
  blk_point [iblk, idx t]

theorem b5 (c : Dev nD) (t : Fin cfg0.N) (k : Fin 1024) (j : Fin 256) :
    iblk m c 5 t (ix2 k j) = (V m c main_v4 : FVec Ideal S1024x256 .bf16) (ix2 k j) := by
  blk_point [iblk, idx t]

theorem b6 (c : Dev nD) (t : Fin cfg0.N) (k : Fin 1024) (j : Fin 3456) :
    iblk m c 6 t (ix2 k j) = (V m c main_v7 : FVec Ideal S1024x3456 .bf16) (ix2 k j) := by
  blk_point [iblk, idx t]

theorem b7 (c : Dev nD) (t : Fin cfg0.N) (k : Fin 1024) (j : Fin 2048) :
    iblk m c 7 t (ix2 k j) = (V m c main_v9 : FVec Ideal S1024x2048 .bf16) (ix2 k j) := by
  blk_point [iblk, idx t]

theorem b8 (c : Dev nD) (t : Fin cfg0.N) (k : Fin 8) (j : Fin 3456) :
    iblk m c 8 t (ix2 k j) = (V m c main_arg14 : FVec Ideal S8x3456 .f32) (ix2 k j) := by
  blk_point [iblk, idx t]

theorem b9 (c : Dev nD) (t : Fin cfg0.N) (k : Fin 1) (j : Fin 3456) :
    iblk m c 9 t (ix2 k j) = (V m c main_v27 : FVec Ideal S1x3456 .f32) (ix2 k j) := by
  blk_point [iblk, idx t]

theorem b10 (c : Dev nD) (t : Fin cfg0.N) (k : Fin 8) (j : Fin 1024) :
    iblk m c 10 t (ix2 k j) = (V m c main_v45 : FVec Ideal S8x1024 .f32) (ix2 k j) := by
  blk_point [iblk, idx t]

theorem b12 (c : Dev nD) (t : Fin cfg0.N) (k : Fin 256) (j : Fin 1024) :
    iblk m c 12 t (ix2 k j) = (V m c main_v24 : FVec Ideal S256x1024 .bf16) (ix2 k j) := by
  blk_point [iblk, idx t]

theorem b2 (c : Dev nD) (t : Fin cfg0.N) (a : Fin 256) (j : Fin 128) :
    iblk m c 2 t (ix2 a j) = (V m c main_v65 : FVec Ideal S2048x128 .f32) (ix2 ⟨256 * (t.val % 8) + a.val, by omega⟩ j) := by
  blk_point [iblk, idx t]

theorem b3 (c : Dev nD) (t : Fin cfg0.N) (a : Fin 256) (j : Fin 128) :
    iblk m c 3 t (ix2 a j) = (V m c main_v67 : FVec Ideal S2048x128 .f32) (ix2 ⟨256 * (t.val % 8) + a.val, by omega⟩ j) := by
  blk_point [iblk, idx t]

theorem b11 (c : Dev nD) (t : Fin cfg0.N) (k : Fin 128) (j : Fin 2048) :
    iblk m c 11 t (ix2 k j) = (V m c main_v21 : FVec Ideal S128x2048 .bf16) (ix2 k j) := by
  have key : ∀ A : FVec Ideal S128x2048 .bf16, (((cfg0.win 11).blk t).view.read (Elt Ideal) A) (ix2 k j) = A (ix2 k j) := by
    intro A
    blk_ext [idx t]
  exact key _

end Cert.Kernel4Ideal.Value
end
-- ==== Proof.ProjRows.lean ====
module

public import proofs.«01_k».proof.Proof.ProjTile
public import proofs.«01_k».proof.Proof.ProjRef
public import proofs.«01_k».proof.Proof.ProjHost
public import proofs.«01_k».proof.Proof.ProjBlk

/-!
The projection's products at an index: every column a tile computes, of the arrays the call is handed.
-/

@[expose] public noncomputable section

set_option maxRecDepth 65536

open Idealize.ShloMosaic Idealize.ShloMosaic.TcCoe Idealize.SL.Sem

namespace Cert.Kernel4Ideal.Tile
open Cert.Kernel4Ideal Cert.Kernel4Ideal.Gen

theorem dotK (x : Vec Ideal S256x1024 .f32) (g : Vec Ideal S1x1024 .f32) (W : Vec Ideal S1024x3456 .bf16) (a : Fin 256) (b : Fin 1024) :
    k0_pay15 (k0_pay3 x g) (View.ld W (Rect.unit ![0, 1024] ![1024, 1024] inb_S1024x3456_S1024x1024_0_1024)) (ix2 a b)
      = Rows.pr (fun k => x (ix2 a k)) (fun k => g (ix2 0 k)) (fun k => W (ix2 k ⟨1024 + b.val, by omega⟩)) := by
  pointwise [k0_pay15, k0_pay3, Rows.pr, Rows.rms]

theorem dotL (x : Vec Ideal S256x1024 .f32) (g : Vec Ideal S1x1024 .f32) (W : Vec Ideal S1024x3456 .bf16) (a : Fin 256) (b : Fin 384) :
    k0_pay16 (k0_pay3 x g) (View.ld W (Rect.unit ![0, 3072] ![1024, 384] inb_S1024x3456_S1024x384_0_3072)) (ix2 a b)
      = Rows.pr (fun k => x (ix2 a k)) (fun k => g (ix2 0 k)) (fun k => W (ix2 k ⟨3072 + b.val, by omega⟩)) := by
  pointwise [k0_pay16, k0_pay3, Rows.pr, Rows.rms]

theorem dotR (x : Vec Ideal S256x1024 .f32) (g : Vec Ideal S1x1024 .f32) (W : Vec Ideal S1024x3456 .bf16) (a : Fin 256) (b : Fin 1024) :
    k0_pay17 (k0_pay3 x g) (View.ld W (Rect.unit ![0, 0] ![1024, 1024] inb_S1024x3456_S1024x1024_0_0)) (ix2 a b)
      = Rows.pr (fun k => x (ix2 a k)) (fun k => g (ix2 0 k)) (fun k => W (ix2 k ⟨b.val, by omega⟩)) := by
  pointwise [k0_pay17, k0_pay3, Rows.pr, Rows.rms]

theorem dotV (x : Vec Ideal S256x1024 .f32) (g : Vec Ideal S1x1024 .f32) (W : Vec Ideal S1024x3456 .bf16) (a : Fin 256) (b : Fin 1024) :
    k0_pay18 (k0_pay3 x g) (View.ld W (Rect.unit ![0, 2048] ![1024, 1024] inb_S1024x3456_S1024x1024_0_2048)) (ix2 a b)
      = Rows.pr (fun k => x (ix2 a k)) (fun k => g (ix2 0 k)) (fun k => W (ix2 k ⟨2048 + b.val, by omega⟩)) := by
  pointwise [k0_pay18, k0_pay3, Rows.pr, Rows.rms]

theorem dotQ (x : Vec Ideal S256x1024 .f32) (g : Vec Ideal S1x1024 .f32) (W : Vec Ideal S1024x1024 .bf16) (a : Fin 256) (b : Fin 1024) :
    k0_pay19 (k0_pay3 x g) W (ix2 a b) = Rows.pr (fun k => x (ix2 a k)) (fun k => g (ix2 0 k)) (fun k => W (ix2 k b)) := by
  pointwise [k0_pay19, k0_pay3, Rows.pr, Rows.rms]

theorem dotKV (x : Vec Ideal S256x1024 .f32) (g : Vec Ideal S1x1024 .f32) (W : Vec Ideal S1024x256 .bf16) (a : Fin 256) (b : Fin 256) :
    k0_pay20 (k0_pay3 x g) W (ix2 a b) = Rows.pr (fun k => x (ix2 a k)) (fun k => g (ix2 0 k)) (fun k => W (ix2 k b)) := by
  pointwise [k0_pay20, k0_pay3, Rows.pr, Rows.rms]

theorem dotG (x : Vec Ideal S256x1024 .f32) (g : Vec Ideal S1x1024 .f32) (W : Vec Ideal S1024x2048 .bf16) (a : Fin 256) (b : Fin 2048) :
    k0_pay21 (k0_pay3 x g) W (ix2 a b) = Rows.pr (fun k => x (ix2 a k)) (fun k => g (ix2 0 k)) (fun k => W (ix2 k b)) := by
  pointwise [k0_pay21, k0_pay3, Rows.pr, Rows.rms]

theorem va_at (X : FVec Ideal S256x256 .f32) (a : Fin 256) (b : Fin 128) : k0_pay70 (k0_pay60 X) (ix2 a b) = X (ix2 a ⟨128 + b.val, by omega⟩) := by
  pointwise [k0_pay70, k0_pay60]

theorem half_at (X : FVec Ideal S256x256 .f32) (a : Fin 256) (b : Fin 128) : k0_pay60 X (ix2 a b) = X (ix2 a ⟨128 + b.val, by omega⟩) := by
  pointwise [k0_pay60]

theorem kin_at (X : FVec Ideal S256x256 .f32) (a : Fin 256) (b : Fin 128) : k0_pay59 X (ix2 a b) = X (ix2 a ⟨b.val, by omega⟩) := by
  pointwise [k0_pay59]

theorem ga_at (X : FVec Ideal S256x2048 .f32) (a : Fin 256) (b : Fin 1024) : k0_pay72 X (ix2 a b) = X (ix2 a ⟨b.val, by omega⟩) := by
  pointwise [k0_pay72]

theorem gr_at (X : FVec Ideal S256x2048 .f32) (a : Fin 256) (b : Fin 1024) : k0_pay1 X (ix2 a b) = X (ix2 a ⟨1024 + b.val, by omega⟩) := by
  pointwise [k0_pay1]

theorem cos_at (X : Vec Ideal S256x128 .f32) (a : Fin 256) (b : Fin 128) : k0_pay56 X (ix2 a b) = X (ix2 a b) := by
  pointwise [k0_pay56]

theorem sin_at (X : Vec Ideal S256x128 .f32) (a : Fin 256) (b : Fin 128) : k0_pay57 X (ix2 a b) = X (ix2 a b) := by
  pointwise [k0_pay57]

theorem carried_at (X : Vec Ideal S8x3456 .f32) (a : Fin 8) (b : Fin 3456) : k0_pay2 X (ix2 a b) = X (ix2 a b) := by
  pointwise [k0_pay2]

theorem lastK_at (X : FVec Ideal S256x1024 .f32) (b : Fin 1024) : k0_pay23 X (ix2 7 b) = X (ix2 255 b) := by
  pointwise [k0_pay23, k0_pay22]

theorem lastL_at (X : FVec Ideal S256x384 .f32) (b : Fin 384) : k0_pay27 X (ix2 7 b) = X (ix2 255 b) := by
  pointwise [k0_pay27, k0_pay26]

theorem lastR_at (X : FVec Ideal S256x1024 .f32) (b : Fin 1024) : k0_pay42 X (ix2 7 b) = X (ix2 255 b) := by
  pointwise [k0_pay42, k0_pay41]

theorem lastV_at (X : FVec Ideal S256x1024 .f32) (b : Fin 1024) : k0_pay49 X (ix2 7 b) = X (ix2 255 b) := by
  pointwise [k0_pay49, k0_pay48]

theorem same_at (X : FVec Ideal S256x1024 .f32) (a : Fin 256) (b : Fin 1024) : k0_pay51 X (ix2 a b) = X (ix2 a b) := by
  pointwise [k0_pay51]

theorem decay16_at (X : FVec Ideal S256x1024 .f32) (a : Fin 256) (b : Fin 1024) : k0_pay36 X (ix2 a b) = X (ix2 a b) := by
  pointwise [k0_pay36]

theorem val16_at (K : FVec Ideal S256x1024 .f32) (p mu : Vec Ideal S1x1024 .f32) (a : Fin 256) (b : Fin 1024) :
    k0_pay52 K (k0_pay44 K) k0_pay45 (k0_pay46 K) (k0_pay47 p) mu (ix2 a b) = k0_pay50 K (k0_pay44 K) k0_pay45 (k0_pay46 K) (k0_pay47 p) mu (ix2 a b) := by
  pointwise [k0_pay52]

end Cert.Kernel4Ideal.Tile

namespace Cert.Kernel4Ideal.Value
open Cert.Kernel4Ideal Cert.Kernel4Ideal.Gen Cert.Kernel4Ideal.Tile
variable (m : (ℓ : Loc nD τ sig) → Buf (Elt Ideal) ℓ)

/-- The projection of row `r` at column `j`, of the arrays the call is handed. -/
def P (c : Dev nD) (r : Fin 32768) (j : Fin 6688) : EReal :=
  Cert.Reference4Ideal.Value.pj (m ((c : Thread nD τ).loc main_arg0)) (m ((c : Thread nD τ).loc main_arg1)) (m ((c : Thread nD τ).loc main_arg2)) r j

theorem pr_at (c : Dev nD) (t : Fin cfg0.N) (a : Fin 256) (ht : 256 * t.val + a.val < 32768) (w : Fin 1024 → EReal) (j : Fin 6688)
    (hw : ∀ k, w k = (m ((c : Thread nD τ).loc main_arg2) : FVec Ideal S1x1024x6688 .f32) (ix3 0 k j)) :
    Rows.pr (fun k => iblk m c 0 t (ix2 a k)) (fun k => iblk m c 1 t (ix2 0 k)) w = P m c ⟨256 * t.val + a.val, ht⟩ j := by
  have e0 : (fun k => iblk m c 0 t (ix2 a k)) = fun k => (m ((c : Thread nD τ).loc main_arg0) : FVec Ideal S32768x1024 .f32) (ix2 ⟨256 * t.val + a.val, ht⟩ k) :=
    funext fun k => by rw [b0 m c t a k ht, V_main_arg0]
  have e1 : (fun k => iblk m c 1 t (ix2 0 k)) = fun k => (m ((c : Thread nD τ).loc main_arg1) : FVec Ideal S1x1024 .f32) (ix2 0 k) :=
    funext fun k => by rw [b1, v47]
  rw [e0, e1, show w = _ from funext hw]
  rfl

variable (c : Dev nD) (t : Fin cfg0.N) (a : Fin 256) (ht : 256 * t.val + a.val < 32768)

theorem rowK (b : Fin 1024) :
    k0_pay15 (k0_pay3 (iblk m c 0 t) (iblk m c 1 t)) (View.ld (iblk m c 6 t) (Rect.unit ![0, 1024] ![1024, 1024] inb_S1024x3456_S1024x1024_0_1024)) (ix2 a b)
      = P m c ⟨256 * t.val + a.val, ht⟩ ⟨1280 + (1024 + b.val), by omega⟩ := by
  refine (dotK ..).trans (pr_at m c t a ht _ _ fun k => ?_)
  rw [b6, v7]
  exact dif_pos (show 1024 + b.val < 3360 by omega)

theorem rowR (b : Fin 1024) :
    k0_pay17 (k0_pay3 (iblk m c 0 t) (iblk m c 1 t)) (View.ld (iblk m c 6 t) (Rect.unit ![0, 0] ![1024, 1024] inb_S1024x3456_S1024x1024_0_0)) (ix2 a b)
      = P m c ⟨256 * t.val + a.val, ht⟩ ⟨1280 + b.val, by omega⟩ := by
  refine (dotR ..).trans (pr_at m c t a ht _ _ fun k => ?_)
  rw [b6, v7]
  exact dif_pos (show b.val < 3360 by omega)

theorem rowV (b : Fin 1024) :
    k0_pay18 (k0_pay3 (iblk m c 0 t) (iblk m c 1 t)) (View.ld (iblk m c 6 t) (Rect.unit ![0, 2048] ![1024, 1024] inb_S1024x3456_S1024x1024_0_2048)) (ix2 a b)
      = P m c ⟨256 * t.val + a.val, ht⟩ ⟨1280 + (2048 + b.val), by omega⟩ := by
  refine (dotV ..).trans (pr_at m c t a ht _ _ fun k => ?_)
  rw [b6, v7]
  exact dif_pos (show 2048 + b.val < 3360 by omega)

theorem rowL (b : Fin 384) (hb : b.val < 288) :
    k0_pay16 (k0_pay3 (iblk m c 0 t) (iblk m c 1 t)) (View.ld (iblk m c 6 t) (Rect.unit ![0, 3072] ![1024, 384] inb_S1024x3456_S1024x384_0_3072)) (ix2 a b)
      = P m c ⟨256 * t.val + a.val, ht⟩ ⟨1280 + (3072 + b.val), by omega⟩ := by
  refine (dotL ..).trans (pr_at m c t a ht _ _ fun k => ?_)
  rw [b6, v7]
  exact dif_pos (show 3072 + b.val < 3360 by omega)

theorem rowQ (b : Fin 1024) :
    k0_pay19 (k0_pay3 (iblk m c 0 t) (iblk m c 1 t)) (iblk m c 4 t) (ix2 a b) = P m c ⟨256 * t.val + a.val, ht⟩ ⟨b.val, by omega⟩ := by
  refine (dotQ ..).trans (pr_at m c t a ht _ _ fun k => ?_)
  rw [b4, v2]

theorem rowKV (b : Fin 256) :
    k0_pay20 (k0_pay3 (iblk m c 0 t) (iblk m c 1 t)) (iblk m c 5 t) (ix2 a b) = P m c ⟨256 * t.val + a.val, ht⟩ ⟨1024 + b.val, by omega⟩ := by
  refine (dotKV ..).trans (pr_at m c t a ht _ _ fun k => ?_)
  rw [b5, v4]

theorem rowG (b : Fin 2048) :
    k0_pay21 (k0_pay3 (iblk m c 0 t) (iblk m c 1 t)) (iblk m c 7 t) (ix2 a b) = P m c ⟨256 * t.val + a.val, ht⟩ ⟨4640 + b.val, by omega⟩ := by
  refine (dotG ..).trans (pr_at m c t a ht _ _ fun k => ?_)
  rw [b7, v9]

theorem angles_sin (j : Fin 128) : iblk m c 3 t (ix2 a j) = if j.val % 64 < 32 then -Ideal.sin (Rows.angle (256 * (t.val % 8) + a.val) ⟨j.val % 32, by omega⟩)
    else Ideal.sin (Rows.angle (256 * (t.val % 8) + a.val) ⟨j.val % 32, by omega⟩) := by
  rw [b3, v67]

theorem angles_cos (j : Fin 128) : iblk m c 2 t (ix2 a j) = Ideal.cos (Rows.angle (256 * (t.val % 8) + a.val) ⟨j.val % 32, by omega⟩) := by
  rw [b2, v65]

end Cert.Kernel4Ideal.Value
end
-- ==== Proof.ProjOut.lean ====
module

public import proofs.«01_k».proof.Proof.ProjRows

/-!
What a tile of the projection leaves in each result, by the values of its blocks, and the seven results that read one row alone.
-/

@[expose] public noncomputable section

set_option maxRecDepth 65536

open Idealize.ShloMosaic Idealize.ShloMosaic.TcCoe Idealize.SL.Sem
open Idealize.ShloMosaic.Pipeline (Dat)

namespace Cert.Kernel4Ideal.Value
open Cert.Kernel4Ideal Cert.Kernel4Ideal.Gen Cert.Kernel4Ideal.Tile Cert.Kernel4Ideal.Row
variable (m : (ℓ : Loc nD τ sig) → Buf (Elt Ideal) ℓ) (c : Dev nD) (t : Fin cfg0.N)

/-- The tile's normalised rows. -/
abbrev U : FVec Ideal S256x1024 .bf16 := k0_pay3 (iblk m c 0 t) (iblk m c 1 t)

theorem out_q : (outsAt m c t.val t.isLt).1 = k0_pay58 (k0_pay19 (U m c t) (iblk m c 4 t)) (iblk m c 2 t) (iblk m c 3 t) := by
  by_cases h0 : t.val % 8 = 0
  · rw [outsAt_A m c t h0]
    unfold outsA; dsimp only [atA]; unfold runA; dsimp only; frame_out
  · rw [outsAt_B m c t h0]
    unfold outsB; dsimp only [atB]; unfold runB; dsimp only; frame_out

theorem out_ka : (outsAt m c t.val t.isLt).2.1 = k0_pay62 (k0_pay56 (iblk m c 2 t)) (k0_pay57 (iblk m c 3 t)) (k0_pay59 (k0_pay20 (U m c t) (iblk m c 5 t))) := by
  by_cases h0 : t.val % 8 = 0
  · rw [outsAt_A m c t h0]
    unfold outsA; dsimp only [atA]; unfold runA; dsimp only; frame_out
  · rw [outsAt_B m c t h0]
    unfold outsB; dsimp only [atB]; unfold runB; dsimp only; frame_out

theorem out_kb : (outsAt m c t.val t.isLt).2.2.1 = k0_pay69 (k0_pay63 (k0_pay56 (iblk m c 2 t)) (k0_pay57 (iblk m c 3 t)) (k0_pay59 (k0_pay20 (U m c t) (iblk m c 5 t))))
      (k0_pay64 (k0_pay56 (iblk m c 2 t)) (k0_pay57 (iblk m c 3 t)) (k0_pay59 (k0_pay20 (U m c t) (iblk m c 5 t)))) 128#32 k0_pay65 k0_pay66 k0_pay67 k0_pay68 := by
  by_cases h0 : t.val % 8 = 0
  · rw [outsAt_A m c t h0]
    unfold outsA; dsimp only [atA]; unfold runA; dsimp only; frame_out
  · rw [outsAt_B m c t h0]
    unfold outsB; dsimp only [atB]; unfold runB; dsimp only; frame_out

theorem out_va : (outsAt m c t.val t.isLt).2.2.2.1 = k0_pay70 (k0_pay60 (k0_pay20 (U m c t) (iblk m c 5 t))) := by
  by_cases h0 : t.val % 8 = 0
  · rw [outsAt_A m c t h0]
    unfold outsA; dsimp only [atA]; unfold runA; dsimp only; frame_out
  · rw [outsAt_B m c t h0]
    unfold outsB; dsimp only [atB]; unfold runB; dsimp only; frame_out

theorem out_vb : (outsAt m c t.val t.isLt).2.2.2.2.1 = k0_pay71 (k0_pay60 (k0_pay20 (U m c t) (iblk m c 5 t))) := by
  by_cases h0 : t.val % 8 = 0
  · rw [outsAt_A m c t h0]
    unfold outsA; dsimp only [atA]; unfold runA; dsimp only; frame_out
  · rw [outsAt_B m c t h0]
    unfold outsB; dsimp only [atB]; unfold runB; dsimp only; frame_out

theorem out_ga : (outsAt m c t.val t.isLt).2.2.2.2.2.1 = k0_pay72 (k0_pay21 (U m c t) (iblk m c 7 t)) := by
  by_cases h0 : t.val % 8 = 0
  · rw [outsAt_A m c t h0]
    unfold outsA; dsimp only [atA]; unfold runA; dsimp only; frame_out
  · rw [outsAt_B m c t h0]
    unfold outsB; dsimp only [atB]; unfold runB; dsimp only; frame_out

theorem out_gr : (outsAt m c t.val t.isLt).2.2.2.2.2.2.1 = k0_pay1 (k0_pay21 (U m c t) (iblk m c 7 t)) := by
  by_cases h0 : t.val % 8 = 0
  · rw [outsAt_A m c t h0]
    unfold outsA; dsimp only [atA]; unfold runA; dsimp only; frame_out
  · rw [outsAt_B m c t h0]
    unfold outsB; dsimp only [atB]; unfold runB; dsimp only; frame_out

theorem row_lt (a : Fin 256) : 256 * t.val + a.val < 32768 := by
  have := t.isLt; have h : cfg0.N = 128 := rfl; omega

variable (a : Fin 256)

/-- The row of the whole that a tile's row `a` is. -/
abbrev rw_ : Fin 32768 := ⟨256 * t.val + a.val, row_lt t a⟩

theorem at_q (b : Fin 1024) : (outsAt m c t.val t.isLt).1 (ix2 a b)
    = Rows.rot (n := 1024) (by omega) (fun k => P m c (rw_ t a) ⟨k.val, by omega⟩) (256 * (t.val % 8) + a.val) b * Ideal.ofBits FTy.f32 1040187392#32 := by
  rw [out_q, q_at _ _ _ a b _ (angles_cos m c t a) (angles_sin m c t a)]
  simp only [rowQ m c t a (row_lt t a)]

theorem rotk (b : Fin 128) : k0_pay61 (iblk m c 2 t) (iblk m c 3 t) (k0_pay59 (k0_pay20 (U m c t) (iblk m c 5 t))) (ix2 a b)
    = Rows.rot (n := 128) (by omega) (fun k => P m c (rw_ t a) ⟨1024 + k.val, by omega⟩) (256 * (t.val % 8) + a.val) b := by
  rw [k_at _ _ _ a b _ (angles_cos m c t a) (angles_sin m c t a)]
  simp only [kin_at, rowKV m c t a (row_lt t a)]

theorem at_ka (b : Fin 128) : (outsAt m c t.val t.isLt).2.1 (ix2 a b)
    = Rows.rot (n := 128) (by omega) (fun k => P m c (rw_ t a) ⟨1024 + k.val, by omega⟩) (256 * (t.val % 8) + a.val) b := by
  rw [out_ka, ka_at, rotk]

theorem at_kb (b : Fin 128) : (outsAt m c t.val t.isLt).2.2.1 (ix2 a b)
    = Rows.rot (n := 128) (by omega) (fun k => P m c (rw_ t a) ⟨1024 + k.val, by omega⟩) (256 * (t.val % 8) + a.val) (Rows.across b) := by
  rw [out_kb, kb_at, show k0_pay56 (iblk m c 2 t) = iblk m c 2 t from funext fun y => (eq_ix2 y).symm ▸ cos_at _ _ _,
    show k0_pay57 (iblk m c 3 t) = iblk m c 3 t from funext fun y => (eq_ix2 y).symm ▸ sin_at _ _ _, rotk]

theorem at_va (b : Fin 128) : (outsAt m c t.val t.isLt).2.2.2.1 (ix2 a b) = P m c (rw_ t a) ⟨1152 + b, by omega⟩ := by
  rw [out_va, va_at, rowKV m c t a (row_lt t a)]
  exact congrArg (P m c _) (Fin.ext (show 1024 + (128 + b.val) = 1152 + b.val by omega))

theorem at_vb (b : Fin 128) : (outsAt m c t.val t.isLt).2.2.2.2.1 (ix2 a b) = P m c (rw_ t a) ⟨1152 + Rows.across b, by omega⟩ := by
  rw [out_vb, vb_at, half_at, rowKV m c t a (row_lt t a)]
  exact congrArg (P m c _) (Fin.ext (show 1024 + (128 + (Rows.across b).val) = 1152 + (Rows.across b).val by omega))

theorem at_ga (b : Fin 1024) : (outsAt m c t.val t.isLt).2.2.2.2.2.1 (ix2 a b) = P m c (rw_ t a) ⟨4640 + b, by omega⟩ := by
  rw [out_ga, ga_at, rowG m c t a (row_lt t a)]

theorem at_gr (b : Fin 1024) : (outsAt m c t.val t.isLt).2.2.2.2.2.2.1 (ix2 a b) = P m c (rw_ t a) ⟨5664 + b, by omega⟩ := by
  rw [out_gr, gr_at, rowG m c t a (row_lt t a)]
  exact congrArg (P m c _) (Fin.ext (show 4640 + (1024 + b.val) = 5664 + b.val by omega))

/-- A row's place in its block of 2048. -/
theorem place_mod : (256 * t.val + a.val) % 2048 = 256 * (t.val % 8) + a.val := by omega

theorem final_q (R : FVec Ideal S32768x1024 .bf16) (hR : ∀ (r : Fin 32768) (b : Fin 1024), R (ix2 r b) = Rows.rot (n := 1024) (by omega) (fun k => P m c r ⟨k.val, by omega⟩) (r.val % 2048) b * Ideal.ofBits FTy.f32 1040187392#32) :
    (dats m 0 c).arrAt 13 (cfgs 0).N = R := by
  refine (dats m 0 c).arrAt_eq_of_covers 13 _ (by decide +kernel) fun t _ y => ?_
  blk_simp
  rw [after_13]
  obtain ⟨a, b, rfl⟩ : ∃ (a : Fin 256) (b : Fin 1024), y = ix2 a b := ⟨y 0, y 1, eq_ix2 y⟩
  refine (at_q m c t a b).trans (Eq.trans ?_ ((congrArg R (?_ : _ = ix2 (rw_ t a) b)).trans (hR _ b)).symm)
  · rw [show (rw_ t a).val % 2048 = _ from place_mod t a]
  · blk_ext [idx t]

theorem final_ka (R : FVec Ideal S32768x128 .bf16) (hR : ∀ (r : Fin 32768) (b : Fin 128), R (ix2 r b) = Rows.rot (n := 128) (by omega) (fun k => P m c r ⟨1024 + k.val, by omega⟩) (r.val % 2048) b) :
    (dats m 0 c).arrAt 14 (cfgs 0).N = R := by
  refine (dats m 0 c).arrAt_eq_of_covers 14 _ (by decide +kernel) fun t _ y => ?_
  blk_simp
  rw [after_14]
  obtain ⟨a, b, rfl⟩ : ∃ (a : Fin 256) (b : Fin 128), y = ix2 a b := ⟨y 0, y 1, eq_ix2 y⟩
  refine (at_ka m c t a b).trans (Eq.trans ?_ ((congrArg R (?_ : _ = ix2 (rw_ t a) b)).trans (hR _ b)).symm)
  · rw [show (rw_ t a).val % 2048 = _ from place_mod t a]
  · blk_ext [idx t]

theorem final_kb (R : FVec Ideal S32768x128 .bf16) (hR : ∀ (r : Fin 32768) (b : Fin 128), R (ix2 r b) = Rows.rot (n := 128) (by omega) (fun k => P m c r ⟨1024 + k.val, by omega⟩) (r.val % 2048) (Rows.across b)) :
    (dats m 0 c).arrAt 15 (cfgs 0).N = R := by
  refine (dats m 0 c).arrAt_eq_of_covers 15 _ (by decide +kernel) fun t _ y => ?_
  blk_simp
  rw [after_15]
  obtain ⟨a, b, rfl⟩ : ∃ (a : Fin 256) (b : Fin 128), y = ix2 a b := ⟨y 0, y 1, eq_ix2 y⟩
  refine (at_kb m c t a b).trans (Eq.trans ?_ ((congrArg R (?_ : _ = ix2 (rw_ t a) b)).trans (hR _ b)).symm)
  · rw [show (rw_ t a).val % 2048 = _ from place_mod t a]
  · blk_ext [idx t]

theorem final_va (R : FVec Ideal S32768x128 .bf16) (hR : ∀ (r : Fin 32768) (b : Fin 128), R (ix2 r b) = P m c r ⟨1152 + b, by omega⟩) :
    (dats m 0 c).arrAt 16 (cfgs 0).N = R := by
  refine (dats m 0 c).arrAt_eq_of_covers 16 _ (by decide +kernel) fun t _ y => ?_
  blk_simp
  rw [after_16]
  obtain ⟨a, b, rfl⟩ : ∃ (a : Fin 256) (b : Fin 128), y = ix2 a b := ⟨y 0, y 1, eq_ix2 y⟩
  refine (at_va m c t a b).trans (Eq.trans ?_ ((congrArg R (?_ : _ = ix2 (rw_ t a) b)).trans (hR _ b)).symm)
  · rfl
  · blk_ext [idx t]

theorem final_vb (R : FVec Ideal S32768x128 .bf16) (hR : ∀ (r : Fin 32768) (b : Fin 128), R (ix2 r b) = P m c r ⟨1152 + Rows.across b, by omega⟩) :
    (dats m 0 c).arrAt 17 (cfgs 0).N = R := by
  refine (dats m 0 c).arrAt_eq_of_covers 17 _ (by decide +kernel) fun t _ y => ?_
  blk_simp
  rw [after_17]
  obtain ⟨a, b, rfl⟩ : ∃ (a : Fin 256) (b : Fin 128), y = ix2 a b := ⟨y 0, y 1, eq_ix2 y⟩
  refine (at_vb m c t a b).trans (Eq.trans ?_ ((congrArg R (?_ : _ = ix2 (rw_ t a) b)).trans (hR _ b)).symm)
  · rfl
  · blk_ext [idx t]

theorem final_ga (R : FVec Ideal S32768x1024 .bf16) (hR : ∀ (r : Fin 32768) (b : Fin 1024), R (ix2 r b) = P m c r ⟨4640 + b, by omega⟩) :
    (dats m 0 c).arrAt 18 (cfgs 0).N = R := by
  refine (dats m 0 c).arrAt_eq_of_covers 18 _ (by decide +kernel) fun t _ y => ?_
  blk_simp
  rw [after_18]
  obtain ⟨a, b, rfl⟩ : ∃ (a : Fin 256) (b : Fin 1024), y = ix2 a b := ⟨y 0, y 1, eq_ix2 y⟩
  refine (at_ga m c t a b).trans (Eq.trans ?_ ((congrArg R (?_ : _ = ix2 (rw_ t a) b)).trans (hR _ b)).symm)
  · rfl
  · blk_ext [idx t]

theorem final_gr (R : FVec Ideal S32768x1024 .bf16) (hR : ∀ (r : Fin 32768) (b : Fin 1024), R (ix2 r b) = P m c r ⟨5664 + b, by omega⟩) :
    (dats m 0 c).arrAt 19 (cfgs 0).N = R := by
  refine (dats m 0 c).arrAt_eq_of_covers 19 _ (by decide +kernel) fun t _ y => ?_
  blk_simp
  rw [after_19]
  obtain ⟨a, b, rfl⟩ : ∃ (a : Fin 256) (b : Fin 1024), y = ix2 a b := ⟨y 0, y 1, eq_ix2 y⟩
  refine (at_gr m c t a b).trans (Eq.trans ?_ ((congrArg R (?_ : _ = ix2 (rw_ t a) b)).trans (hR _ b)).symm)
  · rfl
  · blk_ext [idx t]

end Cert.Kernel4Ideal.Value
end
-- ==== Proof.ProjPrev.lean ====
module

public import proofs.«01_k».proof.Proof.ProjOut

/-!
The rows a tile of the projection carries to the next, and the row before a tile's first.
-/

@[expose] public noncomputable section

set_option maxRecDepth 65536

open Idealize.ShloMosaic Idealize.ShloMosaic.TcCoe Idealize.SL.Sem
open Idealize.ShloMosaic.Pipeline (Dat)

namespace Cert.Kernel4Ideal.Value
open Cert.Kernel4Ideal Cert.Kernel4Ideal.Gen Cert.Kernel4Ideal.Tile Cert.Kernel4Ideal.Row

/-- A piece that does not hold an index is passed over. -/
theorem over {Val : EltTy → Type} {S : Shape} {e : EltTy} [∀ e, Nonempty (Val e)] {off size : Fin S.rank → ℕ} {inb : ∀ a, off a + size a ≤ S.size a}
    {w : (Rect.unit off size inb).shape.Idx → Val e} {L : List (View.Piece Val S e)} {y : S.Idx} (a : Fin S.rank)
    (h : ¬(off a ≤ (y a).val ∧ (y a).val < off a + size a)) :
    View.canon ((⟨Rect.unit off size inb, w⟩ : View.Piece Val S e) :: L) y = View.canon L y :=
  View.canon_cons_of_not_mem _ _ fun hm => h ((Rect.mem_set_unit (inb := inb)).mp hm a)

/-- The first piece holding an index has its value. -/
theorem hit {Val : EltTy → Type} {S : Shape} {e : EltTy} [∀ e, Nonempty (Val e)] {off size : Fin S.rank → ℕ} {inb : ∀ a, off a + size a ≤ S.size a}
    {w : (Rect.unit off size inb).shape.Idx → Val e} {L : List (View.Piece Val S e)} {y : S.Idx} (x : (Rect.unit off size inb).shape.Idx)
    (h : ∀ a, (y a).val = off a + (x a).val) :
    View.canon ((⟨Rect.unit off size inb, w⟩ : View.Piece Val S e) :: L) y = w x := by
  obtain rfl : y = (Rect.unit off size inb).emb x := funext fun a => Fin.ext ((h a).trans (Rect.idx_unit_val off size inb x a).symm)
  exact View.canon_cons_emb ..

variable (m : (ℓ : Loc nD τ sig) → Buf (Elt Ideal) ℓ) (c : Dev nD) (t : Fin cfg0.N)

/-- The rows a tile leaves in the scratch. -/
abbrev kept : Vec Ideal S8x3456 .f32 := (outsAt m c t.val t.isLt).2.2.2.2.2.2.2.2.2.2

/-- A tile's product with the columns from 2048. -/
abbrev pV : FVec Ideal S256x1024 .f32 := k0_pay18 (U m c t) (View.ld (iblk m c 6 t) (Rect.unit ![0, 2048] ![1024, 1024] inb_S1024x3456_S1024x1024_0_2048))

/-- A tile's product with the columns from 0. -/
abbrev pR : FVec Ideal S256x1024 .f32 := k0_pay17 (U m c t) (View.ld (iblk m c 6 t) (Rect.unit ![0, 0] ![1024, 1024] inb_S1024x3456_S1024x1024_0_0))

/-- A tile's product with the columns from 3072. -/
abbrev pL : FVec Ideal S256x384 .f32 := k0_pay16 (U m c t) (View.ld (iblk m c 6 t) (Rect.unit ![0, 3072] ![1024, 384] inb_S1024x3456_S1024x384_0_3072))

/-- A tile's product with the columns from 1024. -/
abbrev pK : FVec Ideal S256x1024 .f32 := k0_pay15 (U m c t) (View.ld (iblk m c 6 t) (Rect.unit ![0, 1024] ![1024, 1024] inb_S1024x3456_S1024x1024_0_1024))

theorem kept_V (b : Fin 1024) : kept m c t (ix2 7 ⟨2048 + b.val, by omega⟩) = P m c (rw_ t 255) ⟨1280 + (2048 + b.val), by omega⟩ := by
  by_cases h0 : t.val % 8 = 0
  · unfold kept
    rw [outsAt_A m c t h0]
    unfold outsA; dsimp only [atA]; unfold runA; dsimp only; frame_out
    refine (hit (ix2 7 b) (by intro a; fin_cases a <;> [rfl; rfl])).trans ?_
    exact (lastV_at _ b).trans (rowV m c t 255 (row_lt t 255) b )
  · unfold kept
    rw [outsAt_B m c t h0]
    unfold outsB; dsimp only [atB]; unfold runB; dsimp only; frame_out
    refine (hit (ix2 7 b) (by intro a; fin_cases a <;> [rfl; rfl])).trans ?_
    exact (lastV_at _ b).trans (rowV m c t 255 (row_lt t 255) b )

theorem kept_R (b : Fin 1024) : kept m c t (ix2 7 ⟨b.val, by omega⟩) = P m c (rw_ t 255) ⟨1280 + b.val, by omega⟩ := by
  by_cases h0 : t.val % 8 = 0
  · unfold kept
    rw [outsAt_A m c t h0]
    unfold outsA; dsimp only [atA]; unfold runA; dsimp only; frame_out
    refine (over 1 (show ¬(2048 ≤ b.val ∧ b.val < 2048 + 1024) by omega)).trans ?_
    refine (hit (ix2 7 b) (by intro a; fin_cases a <;> [rfl; (show b.val = 0 + b.val; omega)])).trans ?_
    exact (lastR_at _ b).trans (rowR m c t 255 (row_lt t 255) b )
  · unfold kept
    rw [outsAt_B m c t h0]
    unfold outsB; dsimp only [atB]; unfold runB; dsimp only; frame_out
    refine (over 1 (show ¬(2048 ≤ b.val ∧ b.val < 2048 + 1024) by omega)).trans ?_
    refine (hit (ix2 7 b) (by intro a; fin_cases a <;> [rfl; (show b.val = 0 + b.val; omega)])).trans ?_
    exact (lastR_at _ b).trans (rowR m c t 255 (row_lt t 255) b )

theorem kept_L (b : Fin 384) (hb : b.val < 288) : kept m c t (ix2 7 ⟨3072 + b.val, by omega⟩) = P m c (rw_ t 255) ⟨1280 + (3072 + b.val), by omega⟩ := by
  by_cases h0 : t.val % 8 = 0
  · unfold kept
    rw [outsAt_A m c t h0]
    unfold outsA; dsimp only [atA]; unfold runA; dsimp only; frame_out
    refine (over 1 (show ¬(2048 ≤ 3072 + b.val ∧ 3072 + b.val < 2048 + 1024) by omega)).trans ?_
    refine (over 1 (show ¬(0 ≤ 3072 + b.val ∧ 3072 + b.val < 0 + 1024) by omega)).trans ?_
    refine (hit (ix2 7 b) (by intro a; fin_cases a <;> [rfl; rfl])).trans ?_
    exact (lastL_at _ b).trans (rowL m c t 255 (row_lt t 255) b hb)
  · unfold kept
    rw [outsAt_B m c t h0]
    unfold outsB; dsimp only [atB]; unfold runB; dsimp only; frame_out
    refine (over 1 (show ¬(2048 ≤ 3072 + b.val ∧ 3072 + b.val < 2048 + 1024) by omega)).trans ?_
    refine (over 1 (show ¬(0 ≤ 3072 + b.val ∧ 3072 + b.val < 0 + 1024) by omega)).trans ?_
    refine (hit (ix2 7 b) (by intro a; fin_cases a <;> [rfl; rfl])).trans ?_
    exact (lastL_at _ b).trans (rowL m c t 255 (row_lt t 255) b hb)

theorem kept_K (b : Fin 1024) : kept m c t (ix2 7 ⟨1024 + b.val, by omega⟩) = P m c (rw_ t 255) ⟨1280 + (1024 + b.val), by omega⟩ := by
  by_cases h0 : t.val % 8 = 0
  · unfold kept
    rw [outsAt_A m c t h0]
    unfold outsA; dsimp only [atA]; unfold runA; dsimp only; frame_out
    refine (over 1 (show ¬(2048 ≤ 1024 + b.val ∧ 1024 + b.val < 2048 + 1024) by omega)).trans ?_
    refine (over 1 (show ¬(0 ≤ 1024 + b.val ∧ 1024 + b.val < 0 + 1024) by omega)).trans ?_
    refine (over 1 (show ¬(3072 ≤ 1024 + b.val ∧ 1024 + b.val < 3072 + 384) by omega)).trans ?_
    refine (hit (ix2 7 b) (by intro a; fin_cases a <;> [rfl; rfl])).trans ?_
    exact (lastK_at _ b).trans (rowK m c t 255 (row_lt t 255) b )
  · unfold kept
    rw [outsAt_B m c t h0]
    unfold outsB; dsimp only [atB]; unfold runB; dsimp only; frame_out
    refine (over 1 (show ¬(2048 ≤ 1024 + b.val ∧ 1024 + b.val < 2048 + 1024) by omega)).trans ?_
    refine (over 1 (show ¬(0 ≤ 1024 + b.val ∧ 1024 + b.val < 0 + 1024) by omega)).trans ?_
    refine (over 1 (show ¬(3072 ≤ 1024 + b.val ∧ 1024 + b.val < 3072 + 384) by omega)).trans ?_
    refine (hit (ix2 7 b) (by intro a; fin_cases a <;> [rfl; rfl])).trans ?_
    exact (lastK_at _ b).trans (rowK m c t 255 (row_lt t 255) b )

end Cert.Kernel4Ideal.Value
end
-- ==== Proof.ProjOpen.lean ====
module

public import proofs.«01_k».proof.Proof.ProjPrev
public import Idealize.ShloMosaic.Lib.Pipeline.ReadBack

/-!
The two packed results of a tile of the projection as the pieces stored, with the row before the tile's first named.
-/

@[expose] public noncomputable section

set_option maxRecDepth 65536

open Idealize.ShloMosaic Idealize.ShloMosaic.TcCoe Idealize.SL.Sem
open Idealize.ShloMosaic.Pipeline (Dat)

namespace Cert.Kernel4Ideal.Value
open Cert.Kernel4Ideal Cert.Kernel4Ideal.Gen Cert.Kernel4Ideal.Tile Cert.Kernel4Ideal.Row
variable (m : (ℓ : Loc nD τ sig) → Buf (Elt Ideal) ℓ) (c : Dev nD) (t : Fin cfg0.N)

/-- The row before a tile's first: the carried row for the first tile of a block, the projection of the row before otherwise. -/
def prior (j : Fin 3360) : EReal :=
  if t.val % 8 = 0 then (m ((c : Thread nD τ).loc main_arg14) : FVec Ideal S8x3456 .f32) (ix2 7 ⟨j.val, by omega⟩)
  else P m c ⟨256 * t.val - 1, by have := row_lt t 0; simp only [Fin.val_zero] at this; omega⟩ ⟨1280 + j.val, by omega⟩

theorem all_mem (y : S8x3456.Idx) : y ∈ (Rect.unit ![0, 0] ![8, 3456] inb_S8x3456_S8x3456_0_0).set := by
  refine Rect.mem_set_unit.mpr fun a => ?_
  fin_cases a
  · exact ⟨Nat.zero_le _, show (y 0).val < 0 + 8 from (Nat.zero_add 8).symm ▸ (y 0).isLt⟩
  · exact ⟨Nat.zero_le _, show (y 1).val < 0 + 3456 from (Nat.zero_add 3456).symm ▸ (y 1).isLt⟩

theorem cov {w : S8x3456.Idx → Ideal .f32} {L : List (View.Piece (Elt Ideal) S8x3456 .f32)}
    (h : (⟨Rect.unit ![0, 0] ![8, 3456] inb_S8x3456_S8x3456_0_0, w⟩ : View.Piece (Elt Ideal) S8x3456 .f32) ∈ L) (y : S8x3456.Idx) :
    ∃ p ∈ L, y ∈ p.1.set := ⟨_, h, all_mem y⟩

theorem carried_in (j : Fin 3456) : k0_pay2 (iblk m c 8 t) (ix2 7 j) = (m ((c : Thread nD τ).loc main_arg14) : FVec Ideal S8x3456 .f32) (ix2 7 j) := by
  rw [carried_at, b8, V_main_arg14]

/-- The tile before. -/
abbrev tb (h0 : ¬t.val % 8 = 0) : Fin cfg0.N := ⟨t.val - 1, Nat.lt_of_le_of_lt (Nat.sub_le _ _) t.isLt⟩

theorem tb_row (h0 : ¬t.val % 8 = 0) (j : Fin 6688) (h) : P m c (rw_ (tb t h0) 255) j = P m c ⟨256 * t.val - 1, h⟩ j :=
  congrArg (fun r => P m c r j) (Fin.ext (show 256 * (t.val - 1) + 255 = 256 * t.val - 1 by omega))

/-- The row before, at the columns from 1024, in the first tile of a block. -/
abbrev leadK : Vec Ideal S1x1024 .f32 := (View.whole cc0_scratch0).readCov (Val := Elt Ideal)
  ([⟨Rect.unit ![0, 0] ![8, 3456] inb_S8x3456_S8x3456_0_0, k0_pay2 (iblk m c 8 t)⟩] : List (View.Piece (Elt Ideal) S8x3456 .f32))
  (Rect.unit (s := S8x3456) ![7, 1024] ![1, 1024] inb_S8x3456_S1x1024_7_1024).toLoadRect

theorem first_K (h0 : t.val % 8 = 0) (b : Fin 1024) : leadK m c t (ix2 0 b) = prior m c t ⟨1024 + b.val, by omega⟩ := by
  unfold leadK
  rw [View.readCov_eq_canon_ld _ _ _ (cov (w := k0_pay2 (iblk m c 8 t)) (List.mem_cons_self))]
  refine (View.ld_unit_apply_of _ _ _ _ _ (ix2 7 ⟨1024 + b.val, by omega⟩) (by intro a; fin_cases a <;> [rfl; rfl])).trans ?_

  refine (hit (ix2 7 ⟨1024 + b.val, by omega⟩) (by intro a; fin_cases a <;> exact (Nat.zero_add _).symm)).trans ?_
  unfold prior
  rw [if_pos h0]
  exact carried_in m c t _

/-- The row before, at the columns from 1024, in a later tile of a block. -/
abbrev followK (h0 : ¬t.val % 8 = 0) : Vec Ideal S1x1024 .f32 :=
  View.ld (View.read (Elt Ideal) (View.whole cc0_scratch0) ((Memref.isWhole_whole cc0_scratch0).unread (kept m c (tb t h0)))) (Rect.unit ![7, 1024] ![1, 1024] inb_S8x3456_S1x1024_7_1024)

theorem later_K (h0 : ¬t.val % 8 = 0) (b : Fin 1024) : followK m c t h0 (ix2 0 b) = prior m c t ⟨1024 + b.val, by omega⟩ := by
  unfold followK
  rw [read_unread_whole]
  refine (View.ld_unit_apply_of _ _ _ _ _ (ix2 7 ⟨1024 + b.val, by omega⟩) (by intro a; fin_cases a <;> [rfl; rfl])).trans ?_
  unfold prior
  rw [if_neg h0]
  exact (kept_K m c (tb t h0) b ).trans (tb_row m c t h0 _ _)

/-- The row before, at the columns from 3072, in the first tile of a block. -/
abbrev leadL : Vec Ideal S1x384 .f32 := (View.whole cc0_scratch0).readCov (Val := Elt Ideal)
  ([⟨Rect.unit ![0, 1024] ![8, 1024] inb_S8x3456_S8x1024_0_1024, k0_pay23 (pK m c t)⟩, ⟨Rect.unit ![0, 0] ![8, 3456] inb_S8x3456_S8x3456_0_0, k0_pay2 (iblk m c 8 t)⟩] : List (View.Piece (Elt Ideal) S8x3456 .f32))
  (Rect.unit (s := S8x3456) ![7, 3072] ![1, 384] inb_S8x3456_S1x384_7_3072).toLoadRect

theorem first_L (h0 : t.val % 8 = 0) (b : Fin 384) (hb : b.val < 288) : leadL m c t (ix2 0 b) = prior m c t ⟨3072 + b.val, by omega⟩ := by
  unfold leadL
  rw [View.readCov_eq_canon_ld _ _ _ (cov (w := k0_pay2 (iblk m c 8 t)) (List.mem_cons_of_mem _ (List.mem_cons_self)))]
  refine (View.ld_unit_apply_of _ _ _ _ _ (ix2 7 ⟨3072 + b.val, by omega⟩) (by intro a; fin_cases a <;> [rfl; rfl])).trans ?_
  refine (over 1 (show ¬(1024 ≤ 3072 + b.val ∧ 3072 + b.val < 1024 + 1024) by omega)).trans ?_
  refine (hit (ix2 7 ⟨3072 + b.val, by omega⟩) (by intro a; fin_cases a <;> exact (Nat.zero_add _).symm)).trans ?_
  unfold prior
  rw [if_pos h0]
  exact carried_in m c t _

/-- The row before, at the columns from 3072, in a later tile of a block. -/
abbrev followL (h0 : ¬t.val % 8 = 0) : Vec Ideal S1x384 .f32 :=
  View.ld (View.read (Elt Ideal) (View.whole cc0_scratch0) ((Memref.isWhole_whole cc0_scratch0).unread (kept m c (tb t h0)))) (Rect.unit ![7, 3072] ![1, 384] inb_S8x3456_S1x384_7_3072)

theorem later_L (h0 : ¬t.val % 8 = 0) (b : Fin 384) (hb : b.val < 288) : followL m c t h0 (ix2 0 b) = prior m c t ⟨3072 + b.val, by omega⟩ := by
  unfold followL
  rw [read_unread_whole]
  refine (View.ld_unit_apply_of _ _ _ _ _ (ix2 7 ⟨3072 + b.val, by omega⟩) (by intro a; fin_cases a <;> [rfl; rfl])).trans ?_
  unfold prior
  rw [if_neg h0]
  exact (kept_L m c (tb t h0) b hb).trans (tb_row m c t h0 _ _)

/-- The row before, at the columns from 0, in the first tile of a block. -/
abbrev leadR : Vec Ideal S1x1024 .f32 := (View.whole cc0_scratch0).readCov (Val := Elt Ideal)
  ([⟨Rect.unit ![0, 3072] ![8, 384] inb_S8x3456_S8x384_0_3072, k0_pay27 (pL m c t)⟩, ⟨Rect.unit ![0, 1024] ![8, 1024] inb_S8x3456_S8x1024_0_1024, k0_pay23 (pK m c t)⟩, ⟨Rect.unit ![0, 0] ![8, 3456] inb_S8x3456_S8x3456_0_0, k0_pay2 (iblk m c 8 t)⟩] : List (View.Piece (Elt Ideal) S8x3456 .f32))
  (Rect.unit (s := S8x3456) ![7, 0] ![1, 1024] inb_S8x3456_S1x1024_7_0).toLoadRect

theorem first_R (h0 : t.val % 8 = 0) (b : Fin 1024) : leadR m c t (ix2 0 b) = prior m c t ⟨b.val, by omega⟩ := by
  unfold leadR
  rw [View.readCov_eq_canon_ld _ _ _ (cov (w := k0_pay2 (iblk m c 8 t)) (List.mem_cons_of_mem _ (List.mem_cons_of_mem _ (List.mem_cons_self))))]
  refine (View.ld_unit_apply_of _ _ _ _ _ (ix2 7 ⟨b.val, by omega⟩) (by intro a; fin_cases a <;> [rfl; (show b.val = 0 + b.val; omega)])).trans ?_
  refine (over 1 (show ¬(3072 ≤ b.val ∧ b.val < 3072 + 384) by omega)).trans ?_
  refine (over 1 (show ¬(1024 ≤ b.val ∧ b.val < 1024 + 1024) by omega)).trans ?_
  refine (hit (ix2 7 ⟨b.val, by omega⟩) (by intro a; fin_cases a <;> exact (Nat.zero_add _).symm)).trans ?_
  unfold prior
  rw [if_pos h0]
  exact carried_in m c t _

/-- The row before, at the columns from 0, in a later tile of a block. -/
abbrev followR (h0 : ¬t.val % 8 = 0) : Vec Ideal S1x1024 .f32 :=
  View.ld (View.read (Elt Ideal) (View.whole cc0_scratch0) ((Memref.isWhole_whole cc0_scratch0).unread (kept m c (tb t h0)))) (Rect.unit ![7, 0] ![1, 1024] inb_S8x3456_S1x1024_7_0)

theorem later_R (h0 : ¬t.val % 8 = 0) (b : Fin 1024) : followR m c t h0 (ix2 0 b) = prior m c t ⟨b.val, by omega⟩ := by
  unfold followR
  rw [read_unread_whole]
  refine (View.ld_unit_apply_of _ _ _ _ _ (ix2 7 ⟨b.val, by omega⟩) (by intro a; fin_cases a <;> [rfl; (show b.val = 0 + b.val; omega)])).trans ?_
  unfold prior
  rw [if_neg h0]
  exact (kept_R m c (tb t h0) b ).trans (tb_row m c t h0 _ _)

/-- The row before, at the columns from 2048, in the first tile of a block. -/
abbrev leadV : Vec Ideal S1x1024 .f32 := (View.whole cc0_scratch0).readCov (Val := Elt Ideal)
  ([⟨Rect.unit ![0, 0] ![8, 1024] inb_S8x3456_S8x1024_0_0, k0_pay42 (pR m c t)⟩, ⟨Rect.unit ![0, 3072] ![8, 384] inb_S8x3456_S8x384_0_3072, k0_pay27 (pL m c t)⟩, ⟨Rect.unit ![0, 1024] ![8, 1024] inb_S8x3456_S8x1024_0_1024, k0_pay23 (pK m c t)⟩, ⟨Rect.unit ![0, 0] ![8, 3456] inb_S8x3456_S8x3456_0_0, k0_pay2 (iblk m c 8 t)⟩] : List (View.Piece (Elt Ideal) S8x3456 .f32))
  (Rect.unit (s := S8x3456) ![7, 2048] ![1, 1024] inb_S8x3456_S1x1024_7_2048).toLoadRect

theorem first_V (h0 : t.val % 8 = 0) (b : Fin 1024) : leadV m c t (ix2 0 b) = prior m c t ⟨2048 + b.val, by omega⟩ := by
  unfold leadV
  rw [View.readCov_eq_canon_ld _ _ _ (cov (w := k0_pay2 (iblk m c 8 t)) (List.mem_cons_of_mem _ (List.mem_cons_of_mem _ (List.mem_cons_of_mem _ (List.mem_cons_self)))))]
  refine (View.ld_unit_apply_of _ _ _ _ _ (ix2 7 ⟨2048 + b.val, by omega⟩) (by intro a; fin_cases a <;> [rfl; rfl])).trans ?_
  refine (over 1 (show ¬(0 ≤ 2048 + b.val ∧ 2048 + b.val < 0 + 1024) by omega)).trans ?_
  refine (over 1 (show ¬(3072 ≤ 2048 + b.val ∧ 2048 + b.val < 3072 + 384) by omega)).trans ?_
  refine (over 1 (show ¬(1024 ≤ 2048 + b.val ∧ 2048 + b.val < 1024 + 1024) by omega)).trans ?_
  refine (hit (ix2 7 ⟨2048 + b.val, by omega⟩) (by intro a; fin_cases a <;> exact (Nat.zero_add _).symm)).trans ?_
  unfold prior
  rw [if_pos h0]
  exact carried_in m c t _

/-- The row before, at the columns from 2048, in a later tile of a block. -/
abbrev followV (h0 : ¬t.val % 8 = 0) : Vec Ideal S1x1024 .f32 :=
  View.ld (View.read (Elt Ideal) (View.whole cc0_scratch0) ((Memref.isWhole_whole cc0_scratch0).unread (kept m c (tb t h0)))) (Rect.unit ![7, 2048] ![1, 1024] inb_S8x3456_S1x1024_7_2048)

theorem later_V (h0 : ¬t.val % 8 = 0) (b : Fin 1024) : followV m c t h0 (ix2 0 b) = prior m c t ⟨2048 + b.val, by omega⟩ := by
  unfold followV
  rw [read_unread_whole]
  refine (View.ld_unit_apply_of _ _ _ _ _ (ix2 7 ⟨2048 + b.val, by omega⟩) (by intro a; fin_cases a <;> [rfl; rfl])).trans ?_
  unfold prior
  rw [if_neg h0]
  exact (kept_V m c (tb t h0) b ).trans (tb_row m c t h0 _ _)

/-- The mixing weights of the columns from 1024. -/
abbrev muK : Vec Ideal S1x1024 .f32 := View.ld (iblk m c 9 t) (Rect.unit ![0, 1024] ![1, 1024] inb_S1x3456_S1x1024_0_1024)

/-- The mixing weights of the columns from 3072. -/
abbrev muL : Vec Ideal S1x384 .f32 := View.ld (iblk m c 9 t) (Rect.unit ![0, 3072] ![1, 384] inb_S1x3456_S1x384_0_3072)

/-- The mixing weights of the columns from 0. -/
abbrev muR : Vec Ideal S1x1024 .f32 := View.ld (iblk m c 9 t) (Rect.unit ![0, 0] ![1, 1024] inb_S1x3456_S1x1024_0_0)

/-- The mixing weights of the columns from 2048. -/
abbrev muV : Vec Ideal S1x1024 .f32 := View.ld (iblk m c 9 t) (Rect.unit ![0, 2048] ![1, 1024] inb_S1x3456_S1x1024_0_2048)

/-- Row 0 of the tile's table of vectors. -/
abbrev vec0 : Vec Ideal S1x1024 .f32 := View.ld (iblk m c 10 t) (Rect.unit ![0, 0] ![1, 1024] inb_S8x1024_S1x1024_0_0)

/-- Row 1 of the tile's table of vectors. -/
abbrev vec1 : Vec Ideal S1x1024 .f32 := View.ld (iblk m c 10 t) (Rect.unit ![1, 0] ![1, 1024] inb_S8x1024_S1x1024_1_0)

/-- Row 2 of the tile's table of vectors. -/
abbrev vec2 : Vec Ideal S1x1024 .f32 := View.ld (iblk m c 10 t) (Rect.unit ![2, 0] ![1, 1024] inb_S8x1024_S1x1024_2_0)

/-- Row 3 of the tile's table of vectors. -/
abbrev vec3 : Vec Ideal S1x1024 .f32 := View.ld (iblk m c 10 t) (Rect.unit ![3, 0] ![1, 1024] inb_S8x1024_S1x1024_3_0)

/-- Row 4 of the tile's table of vectors. -/
abbrev vec4 : Vec Ideal S1x1024 .f32 := View.ld (iblk m c 10 t) (Rect.unit ![4, 0] ![1, 1024] inb_S8x1024_S1x1024_4_0)

/-- Row 5 of the tile's table of vectors. -/
abbrev vec5 : Vec Ideal S1x1024 .f32 := View.ld (iblk m c 10 t) (Rect.unit ![5, 0] ![1, 1024] inb_S8x1024_S1x1024_5_0)

/-- Row 6 of the tile's table of vectors. -/
abbrev vec6 : Vec Ideal S1x1024 .f32 := View.ld (iblk m c 10 t) (Rect.unit ![6, 0] ![1, 1024] inb_S8x1024_S1x1024_6_0)

variable (qK : Vec Ideal S1x1024 .f32) (qL : Vec Ideal S1x384 .f32) (qR qV : Vec Ideal S1x1024 .f32)

/-- The mixed keys. -/
abbrev mixK : FVec Ideal S256x1024 .f32 := k0_pay24 (pK m c t) qK (muK m c t)

/-- The mixed receptances. -/
abbrev mixR : FVec Ideal S256x1024 .f32 := k0_pay43 (pR m c t) qR (muR m c t)

/-- The decay. -/
abbrev dec : FVec Ideal S256x1024 .f32 := k0_pay30 (k0_pay4 (vec0 m c t)) (pL m c t) (k0_pay25 (pL m c t) qL) (muL m c t) (iblk m c 11 t)

/-- The rate. -/
abbrev alp : FVec Ideal S256x1024 .f32 := k0_pay31 (k0_pay5 (vec1 m c t)) (pL m c t) (k0_pay25 (pL m c t) qL) (muL m c t) (iblk m c 11 t)

/-- The gate. -/
abbrev gat : FVec Ideal S256x1024 .f32 := k0_pay33 (k0_pay32 (pL m c t) (k0_pay25 (pL m c t) qL) (muL m c t)) (iblk m c 12 t)

/-- The seven parts of the first packed result, the last stored first. -/
abbrev partsA : List (View.Piece (Elt Ideal) S256x7168 .bf16) :=
  [⟨Rect.unit ![0, 2048] ![256, 1024] inb_S256x7168_S256x1024_0_2048, k0_pay52 (pV m c t) (k0_pay44 (pV m c t)) k0_pay45 (k0_pay46 (pV m c t)) (k0_pay47 qV) (muV m c t)⟩,
    ⟨Rect.unit ![0, 0] ![256, 1024] inb_S256x7168_S256x1024_0_0, k0_pay51 (mixR m c t qR)⟩,
    ⟨Rect.unit ![0, 6144] ![256, 1024] inb_S256x7168_S256x1024_0_6144, k0_pay40 (dec m c t qL) (k0_pay36 (dec m c t qL))⟩,
    ⟨Rect.unit ![0, 5120] ![256, 1024] inb_S256x7168_S256x1024_0_5120, k0_pay36 (dec m c t qL)⟩,
    ⟨Rect.unit ![0, 4096] ![256, 1024] inb_S256x7168_S256x1024_0_4096, k0_pay39 (k0_pay6 (vec2 m c t)) Ones (mixK m c t qK) (alp m c t qL)⟩,
    ⟨Rect.unit ![0, 3072] ![256, 1024] inb_S256x7168_S256x1024_0_3072, k0_pay38 (k0_pay6 (vec2 m c t)) Ones (mixK m c t qK)⟩,
    ⟨Rect.unit ![0, 1024] ![256, 1024] inb_S256x7168_S256x1024_0_1024, k0_pay37 (k0_pay7 (vec3 m c t)) (mixK m c t qK) (alp m c t qL)⟩]

/-- The two parts of the second packed result. -/
abbrev partsB : List (View.Piece (Elt Ideal) S256x2048 .bf16) :=
  [⟨Rect.unit ![0, 1024] ![256, 1024] inb_S256x2048_S256x1024_0_1024, k0_pay55 (gat m c t qL)
      (k0_pay54 (k0_pay8 (vec4 m c t)) (k0_pay10 (vec6 m c t)) Ones (pV m c t) (k0_pay35 (k0_pay7 (vec3 m c t)) (mixK m c t qK) (alp m c t qL)) (mixR m c t qR)
        (k0_pay44 (pV m c t)) k0_pay45 (k0_pay46 (pV m c t)) (k0_pay47 qV) (muV m c t))⟩,
    ⟨Rect.unit ![0, 0] ![256, 1024] inb_S256x2048_S256x1024_0_0, k0_pay53 (k0_pay9 (vec5 m c t)) (gat m c t qL)⟩]

set_option maxHeartbeats 1000000 in
theorem open_partsA_A (h0 : t.val % 8 = 0) : (outsAt m c t.val t.isLt).2.2.2.2.2.2.2.1 = View.canon (partsA m c t (leadK m c t) (leadL m c t) (leadR m c t) (leadV m c t)) := by
  rw [outsAt_A m c t h0]
  unfold outsA; dsimp only [atA]; unfold runA; dsimp only; frame_out
  rfl

set_option maxHeartbeats 1000000 in
theorem open_partsB_A (h0 : t.val % 8 = 0) : (outsAt m c t.val t.isLt).2.2.2.2.2.2.2.2.1 = View.canon (partsB m c t (leadK m c t) (leadL m c t) (leadR m c t) (leadV m c t)) := by
  rw [outsAt_A m c t h0]
  unfold outsA; dsimp only [atA]; unfold runA; dsimp only; frame_out
  rfl

set_option maxHeartbeats 1000000 in
theorem open_partsA_B (h0 : ¬t.val % 8 = 0) : (outsAt m c t.val t.isLt).2.2.2.2.2.2.2.1 = View.canon (partsA m c t (followK m c t h0) (followL m c t h0) (followR m c t h0) (followV m c t h0)) := by
  rw [outsAt_B m c t h0]
  unfold outsB; dsimp only [atB]; unfold runB; dsimp only; frame_out
  rfl

set_option maxHeartbeats 1000000 in
theorem open_partsB_B (h0 : ¬t.val % 8 = 0) : (outsAt m c t.val t.isLt).2.2.2.2.2.2.2.2.1 = View.canon (partsB m c t (followK m c t h0) (followL m c t h0) (followR m c t h0) (followV m c t h0)) := by
  rw [outsAt_B m c t h0]
  unfold outsB; dsimp only [atB]; unfold runB; dsimp only; frame_out
  rfl

theorem opened : ∃ (qK : Vec Ideal S1x1024 .f32) (qL : Vec Ideal S1x384 .f32) (qR qV : Vec Ideal S1x1024 .f32),
    (outsAt m c t.val t.isLt).2.2.2.2.2.2.2.1 = View.canon (partsA m c t qK qL qR qV)
    ∧ (outsAt m c t.val t.isLt).2.2.2.2.2.2.2.2.1 = View.canon (partsB m c t qK qL qR qV)
    ∧ (∀ b : Fin 1024, qK (ix2 0 b) = prior m c t ⟨1024 + b.val, by omega⟩)
    ∧ (∀ b : Fin 384, ∀ hb : b.val < 288, qL (ix2 0 b) = prior m c t ⟨3072 + b.val, by omega⟩)
    ∧ (∀ b : Fin 1024, qR (ix2 0 b) = prior m c t ⟨b.val, by omega⟩)
    ∧ (∀ b : Fin 1024, qV (ix2 0 b) = prior m c t ⟨2048 + b.val, by omega⟩) := by
  by_cases h0 : t.val % 8 = 0
  · exact ⟨leadK m c t, leadL m c t, leadR m c t, leadV m c t, open_partsA_A m c t h0, open_partsB_A m c t h0, first_K m c t h0, first_L m c t h0, first_R m c t h0, first_V m c t h0⟩
  · exact ⟨followK m c t h0, followL m c t h0, followR m c t h0, followV m c t h0, open_partsA_B m c t h0, open_partsB_B m c t h0, later_K m c t h0, later_L m c t h0, later_R m c t h0, later_V m c t h0⟩

end Cert.Kernel4Ideal.Value
end
-- ==== Proof.ProjMix.lean ====
module

public import proofs.«01_k».proof.Proof.ProjOpen

/-!
The two packed results of the projection at an index: the mixed row, the decay, the rate, the gate, the keys and the bonus.
-/

@[expose] public noncomputable section

set_option maxRecDepth 65536

open Idealize.ShloMosaic Idealize.ShloMosaic.TcCoe Idealize.SL.Sem
open Idealize.ShloMosaic.Pipeline (Dat)

namespace Cert.Kernel4Ideal.Value
open Cert.Kernel4Ideal Cert.Kernel4Ideal.Gen Cert.Kernel4Ideal.Tile Cert.Kernel4Ideal.Row
variable (m : (ℓ : Loc nD τ sig) → Buf (Elt Ideal) ℓ) (c : Dev nD)

/-- The mixed row `r` of the arrays the call is handed. -/
def X (r : Fin 32768) : Fin 3360 → EReal :=
  Cert.Reference4Ideal.Value.mrow (m ((c : Thread nD τ).loc main_arg0)) (m ((c : Thread nD τ).loc main_arg1)) (m ((c : Thread nD τ).loc main_arg2)) (m ((c : Thread nD τ).loc main_arg3)) (m ((c : Thread nD τ).loc main_arg14)) r

/-- The layer's row parameters of the arrays the call is handed. -/
def Q : Rows.Par := Cert.Reference4Ideal.Value.par (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

variable (t : Fin cfg0.N)

theorem mix_row (a : Fin 256) (j : Fin 3360) (q : EReal)
    (hq : q = if h : a.val = 0 then prior m c t j else P m c (rw_ t ⟨a.val - 1, by omega⟩) ⟨1280 + j.val, by omega⟩) :
    P m c (rw_ t a) ⟨1280 + j.val, by omega⟩ + (q - P m c (rw_ t a) ⟨1280 + j.val, by omega⟩) * (m ((c : Thread nD τ).loc main_arg3) : FVec Ideal S1x3360 .f32) (ix2 0 j)
      = X m c (rw_ t a) j := by
  unfold X Cert.Reference4Ideal.Value.mrow Rows.mixed
  have e : q = if (rw_ t a).val % 2048 = 0 then (m ((c : Thread nD τ).loc main_arg14) : FVec Ideal S8x3456 .f32) (ix2 7 ⟨j.val, by omega⟩)
      else P m c ⟨(rw_ t a).val - 1, by omega⟩ ⟨1280 + j.val, by omega⟩ := by
    rw [hq]
    by_cases ha : a.val = 0
    · rw [dif_pos ha]
      unfold prior
      by_cases ht : t.val % 8 = 0
      · rw [if_pos ht, if_pos (show (256 * t.val + a.val) % 2048 = 0 by omega)]
      · rw [if_neg ht, if_neg (show ¬(256 * t.val + a.val) % 2048 = 0 by omega)]
        exact congrArg (fun r => P m c r _) (Fin.ext (show 256 * t.val - 1 = 256 * t.val + a.val - 1 by omega))
    · rw [dif_neg ha, if_neg (show ¬(256 * t.val + a.val) % 2048 = 0 by omega)]
      exact congrArg (fun r => P m c r _) (Fin.ext (show 256 * t.val + (a.val - 1) = 256 * t.val + a.val - 1 by omega))
  rw [e]
  rfl

theorem muK_at (b : Fin 1024) : muK m c t (ix2 0 b) = (m ((c : Thread nD τ).loc main_arg3) : FVec Ideal S1x3360 .f32) (ix2 0 ⟨1024 + b.val, by omega⟩) := by
  refine (View.ld_unit_apply_of _ _ _ _ _ (ix2 0 ⟨1024 + b.val, by omega⟩) (by intro a; fin_cases a <;> [rfl; rfl])).trans ?_
  rw [b9, v27]
  exact dif_pos (show 1024 + b.val < 3360 by omega)

theorem muL_at (b : Fin 384) (hb : b.val < 288) : muL m c t (ix2 0 b) = (m ((c : Thread nD τ).loc main_arg3) : FVec Ideal S1x3360 .f32) (ix2 0 ⟨3072 + b.val, by omega⟩) := by
  refine (View.ld_unit_apply_of _ _ _ _ _ (ix2 0 ⟨3072 + b.val, by omega⟩) (by intro a; fin_cases a <;> [rfl; rfl])).trans ?_
  rw [b9, v27]
  exact dif_pos (show 3072 + b.val < 3360 by omega)

theorem muR_at (b : Fin 1024) : muR m c t (ix2 0 b) = (m ((c : Thread nD τ).loc main_arg3) : FVec Ideal S1x3360 .f32) (ix2 0 ⟨b.val, by omega⟩) := by
  refine (View.ld_unit_apply_of _ _ _ _ _ (ix2 0 ⟨b.val, by omega⟩) (by intro a; fin_cases a <;> [rfl; (show b.val = 0 + b.val; omega)])).trans ?_
  rw [b9, v27]
  exact dif_pos (show b.val < 3360 by omega)

theorem muV_at (b : Fin 1024) : muV m c t (ix2 0 b) = (m ((c : Thread nD τ).loc main_arg3) : FVec Ideal S1x3360 .f32) (ix2 0 ⟨2048 + b.val, by omega⟩) := by
  refine (View.ld_unit_apply_of _ _ _ _ _ (ix2 0 ⟨2048 + b.val, by omega⟩) (by intro a; fin_cases a <;> [rfl; rfl])).trans ?_
  rw [b9, v27]
  exact dif_pos (show 2048 + b.val < 3360 by omega)

theorem vec_at (r : Fin 8) (x : Vec Ideal S1x1024 .f32) (b : Fin 1024) (hx : x (ix2 0 b) = iblk m c 10 t (ix2 r b)) :
    x (ix2 0 b) = (V m c main_v45 : FVec Ideal S8x1024 .f32) (ix2 r b) := hx.trans (b10 m c t r b)

theorem vec0_at (b : Fin 1024) : vec0 m c t (ix2 0 b) = (Q m c).w0 b :=
  (vec_at m c t 0 _ b (View.ld_unit_apply_of _ _ _ _ _ (ix2 0 b) (by intro a; fin_cases a <;> [rfl; (show b.val = 0 + b.val; omega)]))).trans (v45 m c b).1

theorem vec1_at (b : Fin 1024) : vec1 m c t (ix2 0 b) = (Q m c).a0 b :=
  (vec_at m c t 1 _ b (View.ld_unit_apply_of _ _ _ _ _ (ix2 1 b) (by intro a; fin_cases a <;> [rfl; (show b.val = 0 + b.val; omega)]))).trans (v45 m c b).2.1

theorem vec2_at (b : Fin 1024) : vec2 m c t (ix2 0 b) = (Q m c).kk b :=
  (vec_at m c t 2 _ b (View.ld_unit_apply_of _ _ _ _ _ (ix2 2 b) (by intro a; fin_cases a <;> [rfl; (show b.val = 0 + b.val; omega)]))).trans (v45 m c b).2.2.1

theorem vec3_at (b : Fin 1024) : vec3 m c t (ix2 0 b) = (Q m c).ka b :=
  (vec_at m c t 3 _ b (View.ld_unit_apply_of _ _ _ _ _ (ix2 3 b) (by intro a; fin_cases a <;> [rfl; (show b.val = 0 + b.val; omega)]))).trans (v45 m c b).2.2.2.1

theorem vec4_at (b : Fin 1024) : vec4 m c t (ix2 0 b) = (Q m c).rk b :=
  (vec_at m c t 4 _ b (View.ld_unit_apply_of _ _ _ _ _ (ix2 4 b) (by intro a; fin_cases a <;> [rfl; (show b.val = 0 + b.val; omega)]))).trans (v45 m c b).2.2.2.2.1

theorem vec5_at (b : Fin 1024) : vec5 m c t (ix2 0 b) = (Q m c).gw b :=
  (vec_at m c t 5 _ b (View.ld_unit_apply_of _ _ _ _ _ (ix2 5 b) (by intro a; fin_cases a <;> [rfl; (show b.val = 0 + b.val; omega)]))).trans (v45 m c b).2.2.2.2.2.1

theorem vec6_at (b : Fin 1024) : vec6 m c t (ix2 0 b) = (Q m c).gb b :=
  (vec_at m c t 6 _ b (View.ld_unit_apply_of _ _ _ _ _ (ix2 6 b) (by intro a; fin_cases a <;> [rfl; (show b.val = 0 + b.val; omega)]))).trans (v45 m c b).2.2.2.2.2.2

theorem w2_at (j : Fin 64) (b : Fin 1024) : iblk m c 11 t (ix2 ⟨j.val, by omega⟩ ⟨b.val, by omega⟩) = (Q m c).w2 j b := by
  rw [b11, v21, dif_neg (by dsimp only; omega), dif_pos (by dsimp only; omega)]
  rfl

theorem w2_zero (j : Fin 64) (b : Fin 1024) : iblk m c 11 t (ix2 ⟨64 + j.val, by omega⟩ ⟨b.val, by omega⟩) = (0 : EReal) := by
  rw [b11, v21, dif_neg (by dsimp only; omega), dif_neg (by dsimp only; omega)]

theorem a2_at (j : Fin 64) (b : Fin 1024) : iblk m c 11 t (ix2 ⟨64 + j.val, by omega⟩ ⟨1024 + b.val, by omega⟩) = (Q m c).a2 j b := by
  rw [b11, v21, dif_pos (by dsimp only; omega)]
  exact congrArg₂ (fun (k : Fin 64) (i : Fin 1024) => (m ((c : Thread nD τ).loc main_arg7) : FVec Ideal S1x64x1024 .f32) (ix3 0 k i))
    (Fin.ext (show 64 + j.val - 64 = j.val by omega)) (Fin.ext (show 1024 + b.val - 1024 = b.val by omega))

theorem a2_zero (j : Fin 64) (b : Fin 1024) : iblk m c 11 t (ix2 ⟨j.val, by omega⟩ ⟨1024 + b.val, by omega⟩) = (0 : EReal) := by
  rw [b11, v21, dif_neg (by dsimp only; omega), dif_neg (by dsimp only; omega)]

theorem g2_at (j : Fin 160) (b : Fin 1024) : iblk m c 12 t (ix2 ⟨j.val, by omega⟩ b) = (Q m c).g2 j b := by
  rw [b12, v24, dif_pos (by dsimp only; omega)]
  rfl

theorem g2_zero (j : Fin 96) (b : Fin 1024) : iblk m c 12 t (ix2 ⟨160 + j.val, by omega⟩ b) = (0 : EReal) := by
  rw [b12, v24, dif_neg (by dsimp only; omega)]

variable (qK : Vec Ideal S1x1024 .f32) (qL : Vec Ideal S1x384 .f32) (qR qV : Vec Ideal S1x1024 .f32)
  (hqK : ∀ b : Fin 1024, qK (ix2 0 b) = prior m c t ⟨1024 + b.val, by omega⟩)
  (hqL : ∀ b : Fin 384, ∀ hb : b.val < 288, qL (ix2 0 b) = prior m c t ⟨3072 + b.val, by omega⟩)
  (hqR : ∀ b : Fin 1024, qR (ix2 0 b) = prior m c t ⟨b.val, by omega⟩)
  (hqV : ∀ b : Fin 1024, qV (ix2 0 b) = prior m c t ⟨2048 + b.val, by omega⟩)
  (a : Fin 256)

include hqK in
theorem xK (b : Fin 1024) : mixK m c t qK (ix2 a b) = X m c (rw_ t a) ⟨1024 + b.val, by omega⟩ := by
  refine (mixK_at ..).trans ?_
  have e : pK m c t (ix2 a b) = _ := rowK m c t a (row_lt t a) b
  rw [muK_at m c t b, e]
  exact mix_row m c t a ⟨1024 + b.val, by omega⟩ _ (dite_congr rfl (fun _ => hqK b) (fun _ => rowK m c t ⟨a.val - 1, by omega⟩ (row_lt t _) b))

include hqR in
theorem xR (b : Fin 1024) : mixR m c t qR (ix2 a b) = X m c (rw_ t a) ⟨b.val, by omega⟩ := by
  refine (mixR_at ..).trans ?_
  have e : pR m c t (ix2 a b) = _ := rowR m c t a (row_lt t a) b
  rw [muR_at m c t b, e]
  exact mix_row m c t a ⟨b.val, by omega⟩ _ (dite_congr rfl (fun _ => hqR b) (fun _ => rowR m c t ⟨a.val - 1, by omega⟩ (row_lt t _) b))

include hqV in
theorem xV (b : Fin 1024) : k0_pay50 (pV m c t) (k0_pay44 (pV m c t)) k0_pay45 (k0_pay46 (pV m c t)) (k0_pay47 qV) (muV m c t) (ix2 a b) = X m c (rw_ t a) ⟨2048 + b.val, by omega⟩ := by
  refine (mixV_at ..).trans ?_
  have e : pV m c t (ix2 a b) = _ := rowV m c t a (row_lt t a) b
  rw [muV_at m c t b, e]
  exact mix_row m c t a ⟨2048 + b.val, by omega⟩ _ (dite_congr rfl (fun _ => hqV b) (fun _ => rowV m c t ⟨a.val - 1, by omega⟩ (row_lt t _) b))

include hqL in
theorem xL (b : Fin 384) (hb : b.val < 288) : k0_pay28 (pL m c t) (k0_pay25 (pL m c t) qL) (muL m c t) (ix2 a b) = X m c (rw_ t a) ⟨3072 + b.val, by omega⟩ := by
  refine (mixL_at ..).trans ?_
  have e : pL m c t (ix2 a b) = _ := rowL m c t a (row_lt t a) b hb
  rw [muL_at m c t b hb, e]
  exact mix_row m c t a ⟨3072 + b.val, by omega⟩ _ (dite_congr rfl (fun _ => hqL b hb) (fun _ => rowL m c t ⟨a.val - 1, by omega⟩ (row_lt t _) b hb))

include hqL in
theorem at_dec (b : Fin 1024) : dec m c t qL (ix2 a b) = Rows.decay (Q m c) (X m c (rw_ t a)) b :=
  decay_at _ _ _ _ _ _ _ a b (fun j => xL m c t qL hqL a ⟨j.val, by omega⟩ (show j.val < 288 by omega)) (vec0_at m c t b) (fun j => w2_at m c t j b) (fun j => w2_zero m c t j b)

include hqL in
theorem at_alp (b : Fin 1024) : alp m c t qL (ix2 a b) = Rows.alpha (Q m c) (X m c (rw_ t a)) b :=
  alpha_at _ _ _ _ _ _ _ a b (fun j => xL m c t qL hqL a ⟨j.val, by omega⟩ (show j.val < 288 by omega)) (vec1_at m c t b) (fun j => a2_at m c t j b) (fun j => a2_zero m c t j b)

include hqL in
theorem at_gat (b : Fin 1024) : gat m c t qL (ix2 a b) = Rows.gated (Q m c) (X m c (rw_ t a)) b :=
  gate_at _ _ _ _ _ _ a b (fun j => (xL m c t qL hqL a ⟨128 + j.val, by omega⟩ (show 128 + j.val < 288 by omega)).trans
    (congrArg (X m c _) (Fin.ext (show 3072 + (128 + j.val) = 3200 + j.val by omega)))) (fun j => g2_at m c t j b) (fun j => g2_zero m c t j b)

include hqK in
theorem at_kn (b : Fin 1024) : k0_pay34 (k0_pay6 (vec2 m c t)) Ones (mixK m c t qK) (ix2 a b) = Rows.kn (Q m c) (X m c (rw_ t a)) b :=
  unit_at _ _ _ _ a b (fun i => xK m c t qK hqK a i) (fun i => vec2_at m c t i)

include hqK hqL in
theorem at_key (b : Fin 1024) : k0_pay35 (k0_pay7 (vec3 m c t)) (mixK m c t qK) (alp m c t qL) (ix2 a b) = Rows.keyAt (Q m c) (X m c (rw_ t a)) b :=
  key_at _ _ _ _ _ a b (fun i => xK m c t qK hqK a i) (vec3_at m c t b) (at_alp m c t qL hqL a b)

theorem pka_0 (b : Fin 1024) : (outsAt m c t.val t.isLt).2.2.2.2.2.2.2.1 (ix2 a ⟨b.val, by omega⟩) = (X m c (rw_ t a) ⟨b.val, by omega⟩ : EReal) := by
  obtain ⟨qK, qL, qR, qV, e, -, hqK, hqL, hqR, hqV⟩ := opened m c t
  rw [e]
  refine (over 1 (show ¬(2048 ≤ b.val ∧ b.val < 2048 + 1024) by omega)).trans ?_
  refine (hit (ix2 a b) (by intro i; fin_cases i <;> [(show a.val = 0 + a.val; omega); (show b.val = 0 + b.val; omega)])).trans ?_
  exact (same_at _ a b).trans (xR m c t qR hqR a b)

theorem pka_1 (b : Fin 1024) : (outsAt m c t.val t.isLt).2.2.2.2.2.2.2.1 (ix2 a ⟨1024 + b.val, by omega⟩) = (Rows.keyAt (Q m c) (X m c (rw_ t a)) b : EReal) := by
  obtain ⟨qK, qL, qR, qV, e, -, hqK, hqL, hqR, hqV⟩ := opened m c t
  rw [e]
  refine (over 1 (show ¬(2048 ≤ 1024 + b.val ∧ 1024 + b.val < 2048 + 1024) by omega)).trans ?_
  refine (over 1 (show ¬(0 ≤ 1024 + b.val ∧ 1024 + b.val < 0 + 1024) by omega)).trans ?_
  refine (over 1 (show ¬(6144 ≤ 1024 + b.val ∧ 1024 + b.val < 6144 + 1024) by omega)).trans ?_
  refine (over 1 (show ¬(5120 ≤ 1024 + b.val ∧ 1024 + b.val < 5120 + 1024) by omega)).trans ?_
  refine (over 1 (show ¬(4096 ≤ 1024 + b.val ∧ 1024 + b.val < 4096 + 1024) by omega)).trans ?_
  refine (over 1 (show ¬(3072 ≤ 1024 + b.val ∧ 1024 + b.val < 3072 + 1024) by omega)).trans ?_
  refine (hit (ix2 a b) (by intro i; fin_cases i <;> [(show a.val = 0 + a.val; omega); rfl])).trans ?_
  exact (key16_at _ _ _ a b).trans (at_key m c t qK qL hqK hqL a b)

theorem pka_2 (b : Fin 1024) : (outsAt m c t.val t.isLt).2.2.2.2.2.2.2.1 (ix2 a ⟨2048 + b.val, by omega⟩) = (X m c (rw_ t a) ⟨2048 + b.val, by omega⟩ : EReal) := by
  obtain ⟨qK, qL, qR, qV, e, -, hqK, hqL, hqR, hqV⟩ := opened m c t
  rw [e]
  refine (hit (ix2 a b) (by intro i; fin_cases i <;> [(show a.val = 0 + a.val; omega); rfl])).trans ?_
  exact (val16_at _ _ _ a b).trans (xV m c t qV hqV a b)

theorem pka_3 (b : Fin 1024) : (outsAt m c t.val t.isLt).2.2.2.2.2.2.2.1 (ix2 a ⟨3072 + b.val, by omega⟩) = (-Rows.kn (Q m c) (X m c (rw_ t a)) b : EReal) := by
  obtain ⟨qK, qL, qR, qV, e, -, hqK, hqL, hqR, hqV⟩ := opened m c t
  rw [e]
  refine (over 1 (show ¬(2048 ≤ 3072 + b.val ∧ 3072 + b.val < 2048 + 1024) by omega)).trans ?_
  refine (over 1 (show ¬(0 ≤ 3072 + b.val ∧ 3072 + b.val < 0 + 1024) by omega)).trans ?_
  refine (over 1 (show ¬(6144 ≤ 3072 + b.val ∧ 3072 + b.val < 6144 + 1024) by omega)).trans ?_
  refine (over 1 (show ¬(5120 ≤ 3072 + b.val ∧ 3072 + b.val < 5120 + 1024) by omega)).trans ?_
  refine (over 1 (show ¬(4096 ≤ 3072 + b.val ∧ 3072 + b.val < 4096 + 1024) by omega)).trans ?_
  refine (hit (ix2 a b) (by intro i; fin_cases i <;> [(show a.val = 0 + a.val; omega); rfl])).trans ?_
  exact (away_at _ _ _ a b).trans (congrArg (fun z : EReal => -z) (at_kn m c t qK hqK a b))

theorem pka_4 (b : Fin 1024) : (outsAt m c t.val t.isLt).2.2.2.2.2.2.2.1 (ix2 a ⟨4096 + b.val, by omega⟩) = (Rows.kn (Q m c) (X m c (rw_ t a)) b * Rows.alpha (Q m c) (X m c (rw_ t a)) b : EReal) := by
  obtain ⟨qK, qL, qR, qV, e, -, hqK, hqL, hqR, hqV⟩ := opened m c t
  rw [e]
  refine (over 1 (show ¬(2048 ≤ 4096 + b.val ∧ 4096 + b.val < 2048 + 1024) by omega)).trans ?_
  refine (over 1 (show ¬(0 ≤ 4096 + b.val ∧ 4096 + b.val < 0 + 1024) by omega)).trans ?_
  refine (over 1 (show ¬(6144 ≤ 4096 + b.val ∧ 4096 + b.val < 6144 + 1024) by omega)).trans ?_
  refine (over 1 (show ¬(5120 ≤ 4096 + b.val ∧ 4096 + b.val < 5120 + 1024) by omega)).trans ?_
  refine (hit (ix2 a b) (by intro i; fin_cases i <;> [(show a.val = 0 + a.val; omega); rfl])).trans ?_
  exact (toward_at _ _ _ _ a b).trans (congrArg₂ (fun y z : EReal => y * z) (at_kn m c t qK hqK a b) (at_alp m c t qL hqL a b))

theorem pka_5 (b : Fin 1024) : (outsAt m c t.val t.isLt).2.2.2.2.2.2.2.1 (ix2 a ⟨5120 + b.val, by omega⟩) = (Rows.decay (Q m c) (X m c (rw_ t a)) b : EReal) := by
  obtain ⟨qK, qL, qR, qV, e, -, hqK, hqL, hqR, hqV⟩ := opened m c t
  rw [e]
  refine (over 1 (show ¬(2048 ≤ 5120 + b.val ∧ 5120 + b.val < 2048 + 1024) by omega)).trans ?_
  refine (over 1 (show ¬(0 ≤ 5120 + b.val ∧ 5120 + b.val < 0 + 1024) by omega)).trans ?_
  refine (over 1 (show ¬(6144 ≤ 5120 + b.val ∧ 5120 + b.val < 6144 + 1024) by omega)).trans ?_
  refine (hit (ix2 a b) (by intro i; fin_cases i <;> [(show a.val = 0 + a.val; omega); rfl])).trans ?_
  exact (decay16_at _ a b).trans (at_dec m c t qL hqL a b)

theorem pka_6 (b : Fin 1024) : (outsAt m c t.val t.isLt).2.2.2.2.2.2.2.1 (ix2 a ⟨6144 + b.val, by omega⟩) = (Rows.decay (Q m c) (X m c (rw_ t a)) b - Rows.decay (Q m c) (X m c (rw_ t a)) b : EReal) := by
  obtain ⟨qK, qL, qR, qV, e, -, hqK, hqL, hqR, hqV⟩ := opened m c t
  rw [e]
  refine (over 1 (show ¬(2048 ≤ 6144 + b.val ∧ 6144 + b.val < 2048 + 1024) by omega)).trans ?_
  refine (over 1 (show ¬(0 ≤ 6144 + b.val ∧ 6144 + b.val < 0 + 1024) by omega)).trans ?_
  refine (hit (ix2 a b) (by intro i; fin_cases i <;> [(show a.val = 0 + a.val; omega); rfl])).trans ?_
  exact (rest_at _ a b).trans (congrArg₂ (fun y z : EReal => y - z) (at_dec m c t qL hqL a b) (at_dec m c t qL hqL a b))

theorem pkb_0 (b : Fin 1024) : (outsAt m c t.val t.isLt).2.2.2.2.2.2.2.2.1 (ix2 a ⟨b.val, by omega⟩) = (Rows.scaled (Q m c) (X m c (rw_ t a)) b : EReal) := by
  obtain ⟨qK, qL, qR, qV, -, e, hqK, hqL, hqR, hqV⟩ := opened m c t
  rw [e]
  refine (over 1 (show ¬(1024 ≤ b.val ∧ b.val < 1024 + 1024) by omega)).trans ?_
  refine (hit (ix2 a b) (by intro i; fin_cases i <;> [(show a.val = 0 + a.val; omega); (show b.val = 0 + b.val; omega)])).trans ?_
  exact (scaled_at _ _ a b).trans (congrArg₂ (fun y z : EReal => y * z) (at_gat m c t qL hqL a b) (vec5_at m c t b))

theorem pkb_1 (b : Fin 1024) : (outsAt m c t.val t.isLt).2.2.2.2.2.2.2.2.1 (ix2 a ⟨1024 + b.val, by omega⟩) = (Rows.bonus (Q m c) (X m c (rw_ t a)) b : EReal) := by
  obtain ⟨qK, qL, qR, qV, -, e, hqK, hqL, hqR, hqV⟩ := opened m c t
  rw [e]
  refine (hit (ix2 a b) (by intro i; fin_cases i <;> [(show a.val = 0 + a.val; omega); rfl])).trans ?_
  exact bonus_at _ _ _ _ _ _ _ _ _ _ a b (fun i => xR m c t qR hqR a i) (fun i => at_key m c t qK qL hqK hqL a i) (xV m c t qV hqV a b) (at_gat m c t qL hqL a b)
    (fun i => vec4_at m c t i) (vec6_at m c t b)

theorem final_pka (R : FVec Ideal S32768x7168 .bf16)
    (h0 : ∀ (r : Fin 32768) (b : Fin 1024), R (ix2 r ⟨b.val, by omega⟩) = (X m c r ⟨b.val, by omega⟩ : EReal))
    (h1 : ∀ (r : Fin 32768) (b : Fin 1024), R (ix2 r ⟨1024 + b.val, by omega⟩) = (Rows.keyAt (Q m c) (X m c r) b : EReal))
    (h2 : ∀ (r : Fin 32768) (b : Fin 1024), R (ix2 r ⟨2048 + b.val, by omega⟩) = (X m c r ⟨2048 + b.val, by omega⟩ : EReal))
    (h3 : ∀ (r : Fin 32768) (b : Fin 1024), R (ix2 r ⟨3072 + b.val, by omega⟩) = (-Rows.kn (Q m c) (X m c r) b : EReal))
    (h4 : ∀ (r : Fin 32768) (b : Fin 1024), R (ix2 r ⟨4096 + b.val, by omega⟩) = (Rows.kn (Q m c) (X m c r) b * Rows.alpha (Q m c) (X m c r) b : EReal))
    (h5 : ∀ (r : Fin 32768) (b : Fin 1024), R (ix2 r ⟨5120 + b.val, by omega⟩) = (Rows.decay (Q m c) (X m c r) b : EReal))
    (h6 : ∀ (r : Fin 32768) (b : Fin 1024), R (ix2 r ⟨6144 + b.val, by omega⟩) = (Rows.decay (Q m c) (X m c r) b - Rows.decay (Q m c) (X m c r) b : EReal)) :
    (dats m 0 c).arrAt 20 (cfgs 0).N = R := by
  refine (dats m 0 c).arrAt_eq_of_covers 20 _ (by decide +kernel) fun t _ y => ?_
  blk_simp
  rw [after_20]
  obtain ⟨a, j, rfl⟩ : ∃ (a : Fin 256) (j : Fin 7168), y = ix2 a j := ⟨y 0, y 1, eq_ix2 y⟩
  have key : (outsAt m c t.val t.isLt).2.2.2.2.2.2.2.1 (ix2 a j) = R (ix2 (rw_ t a) j) := by
    obtain ⟨b, hb⟩ : ∃ b : Fin 1024, j.val = b.val ∨ j.val = 1024 + b.val ∨ j.val = 2048 + b.val ∨ j.val = 3072 + b.val ∨ j.val = 4096 + b.val ∨ j.val = 5120 + b.val ∨ j.val = 6144 + b.val := ⟨⟨j.val % 1024, by omega⟩, by simp only []; omega⟩
    rcases hb with hj | hj | hj | hj | hj | hj | hj
    · rw [show j = ⟨b.val, by clear hj; omega⟩ from Fin.ext hj]
      exact (pka_0 m c t a b).trans (h0 _ b).symm
    · rw [show j = ⟨1024 + b.val, by clear hj; omega⟩ from Fin.ext hj]
      exact (pka_1 m c t a b).trans (h1 _ b).symm
    · rw [show j = ⟨2048 + b.val, by clear hj; omega⟩ from Fin.ext hj]
      exact (pka_2 m c t a b).trans (h2 _ b).symm
    · rw [show j = ⟨3072 + b.val, by clear hj; omega⟩ from Fin.ext hj]
      exact (pka_3 m c t a b).trans (h3 _ b).symm
    · rw [show j = ⟨4096 + b.val, by clear hj; omega⟩ from Fin.ext hj]
      exact (pka_4 m c t a b).trans (h4 _ b).symm
    · rw [show j = ⟨5120 + b.val, by clear hj; omega⟩ from Fin.ext hj]
      exact (pka_5 m c t a b).trans (h5 _ b).symm
    · rw [show j = ⟨6144 + b.val, by clear hj; omega⟩ from Fin.ext hj]
      exact (pka_6 m c t a b).trans (h6 _ b).symm
  refine key.trans (congrArg R (?_ : _ = ix2 (rw_ t a) j)).symm
  blk_ext [idx t]

theorem final_pkb (R : FVec Ideal S32768x2048 .bf16)
    (h0 : ∀ (r : Fin 32768) (b : Fin 1024), R (ix2 r ⟨b.val, by omega⟩) = (Rows.scaled (Q m c) (X m c r) b : EReal))
    (h1 : ∀ (r : Fin 32768) (b : Fin 1024), R (ix2 r ⟨1024 + b.val, by omega⟩) = (Rows.bonus (Q m c) (X m c r) b : EReal)) :
    (dats m 0 c).arrAt 21 (cfgs 0).N = R := by
  refine (dats m 0 c).arrAt_eq_of_covers 21 _ (by decide +kernel) fun t _ y => ?_
  blk_simp
  rw [after_21]
  obtain ⟨a, j, rfl⟩ : ∃ (a : Fin 256) (j : Fin 2048), y = ix2 a j := ⟨y 0, y 1, eq_ix2 y⟩
  have key : (outsAt m c t.val t.isLt).2.2.2.2.2.2.2.2.1 (ix2 a j) = R (ix2 (rw_ t a) j) := by
    obtain ⟨b, hb⟩ : ∃ b : Fin 1024, j.val = b.val ∨ j.val = 1024 + b.val := ⟨⟨j.val % 1024, by omega⟩, by simp only []; omega⟩
    rcases hb with hj | hj
    · rw [show j = ⟨b.val, by clear hj; omega⟩ from Fin.ext hj]
      exact (pkb_0 m c t a b).trans (h0 _ b).symm
    · rw [show j = ⟨1024 + b.val, by clear hj; omega⟩ from Fin.ext hj]
      exact (pkb_1 m c t a b).trans (h1 _ b).symm
  refine key.trans (congrArg R (?_ : _ = ix2 (rw_ t a) j)).symm
  blk_ext [idx t]

end Cert.Kernel4Ideal.Value
end
-- ==== Proof.ProjVal.lean ====
module

public import proofs.«01_k».proof.Proof.ProjMix
public import proofs.«01_k».proof.Proof.ProjRef

/-!
Each of the projection's nine result arrays at the ideal instance is the reference's term of the call's arguments.
-/

@[expose] public noncomputable section

set_option maxRecDepth 16384

open Idealize.ShloMosaic Idealize.ShloMosaic.TcCoe Idealize.SL.Sem
open Cert.Reference4Ideal.Value (y209_at y210_at y211_at y212_at y213_at y214_at y215_at y88_at y101_at y122_at y134_at y156_at y165_at
  y190_0 y190_1 y190_2 y190_3 y190_4 y190_5 y190_6 y202_left y202_right)

namespace Cert.Kernel4Ideal.Value
open Cert.Kernel4Ideal Cert.Kernel4Ideal.Gen Cert.Kernel4Ideal.Row

variable (m : (ℓ : Loc nD τ sig) → Buf (Elt Ideal) ℓ) (c : Dev nD)

theorem val_q : (dats m 0 c).arrAt 13 (cfgs 0).N = Cert.Reference4Ideal.Value.y209 (m ((c : Thread nD τ).loc main_arg0)) (m ((c : Thread nD τ).loc main_arg1)) (m ((c : Thread nD τ).loc main_arg2)) :=
  final_q m c _ (fun r b => y209_at ..)

theorem val_ka : (dats m 0 c).arrAt 14 (cfgs 0).N = Cert.Reference4Ideal.Value.y210 (m ((c : Thread nD τ).loc main_arg0)) (m ((c : Thread nD τ).loc main_arg1)) (m ((c : Thread nD τ).loc main_arg2)) :=
  final_ka m c _ (fun r b => (y210_at ..).trans (y88_at ..))

theorem val_kb : (dats m 0 c).arrAt 15 (cfgs 0).N = Cert.Reference4Ideal.Value.y211 (m ((c : Thread nD τ).loc main_arg0)) (m ((c : Thread nD τ).loc main_arg1)) (m ((c : Thread nD τ).loc main_arg2)) :=
  final_kb m c _ (fun r b => (y211_at ..).trans (y88_at ..))

theorem val_va : (dats m 0 c).arrAt 16 (cfgs 0).N = Cert.Reference4Ideal.Value.y212 (m ((c : Thread nD τ).loc main_arg0)) (m ((c : Thread nD τ).loc main_arg1)) (m ((c : Thread nD τ).loc main_arg2)) :=
  final_va m c _ (fun r b => y212_at ..)

theorem val_vb : (dats m 0 c).arrAt 17 (cfgs 0).N = Cert.Reference4Ideal.Value.y213 (m ((c : Thread nD τ).loc main_arg0)) (m ((c : Thread nD τ).loc main_arg1)) (m ((c : Thread nD τ).loc main_arg2)) :=
  final_vb m c _ (fun r b => y213_at ..)

theorem val_ga : (dats m 0 c).arrAt 18 (cfgs 0).N = Cert.Reference4Ideal.Value.y214 (m ((c : Thread nD τ).loc main_arg0)) (m ((c : Thread nD τ).loc main_arg1)) (m ((c : Thread nD τ).loc main_arg2)) :=
  final_ga m c _ (fun r b => y214_at ..)

theorem val_gr : (dats m 0 c).arrAt 19 (cfgs 0).N = Cert.Reference4Ideal.Value.y215 (m ((c : Thread nD τ).loc main_arg0)) (m ((c : Thread nD τ).loc main_arg1)) (m ((c : Thread nD τ).loc main_arg2)) :=
  final_gr m c _ (fun r b => y215_at ..)

theorem val_pka : (dats m 0 c).arrAt 20 (cfgs 0).N = Cert.Reference4Ideal.Value.y190 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) (m ((c : Thread nD τ).loc main_arg14)) :=
  final_pka m c _ (fun r b => (y190_0 ..).trans (y101_at ..)) (fun r b => (y190_1 ..).trans (y165_at ..)) (fun r b => (y190_2 ..).trans (y101_at ..))
    (fun r b => (y190_3 ..).trans (congrArg (fun z : EReal => -z) (y156_at ..)))
    (fun r b => (y190_4 ..).trans (congrArg₂ (fun z w : EReal => z * w) (y156_at ..) (y134_at ..)))
    (fun r b => (y190_5 ..).trans (y122_at ..)) fun r b => (y190_6 ..).trans (congrArg₂ (fun z w : EReal => z - w) (y122_at ..) (y122_at ..))

theorem val_pkb : (dats m 0 c).arrAt 21 (cfgs 0).N = Cert.Reference4Ideal.Value.y202 (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg10)) (m ((c : Thread nD τ).loc main_arg11)) (m ((c : Thread nD τ).loc main_arg12)) (m ((c : Thread nD τ).loc main_arg13)) (m ((c : Thread nD τ).loc main_arg14)) :=
  final_pkb m c _ (fun r b => y202_left ..) fun r b => y202_right ..

end Cert.Kernel4Ideal.Value
end
-- ==== Proof.ProjRes.lean ====
module

public import proofs.«01_k».proof.Proof.ProjRef
public import proofs.«01_k».proof.Proof.Gen.Reference4Ideal

/-!
What the projection's reference ends holding in its first seven results.
-/

@[expose] public noncomputable section

set_option maxRecDepth 65536

open Idealize.ShloMosaic Idealize.ShloMosaic.TcCoe Idealize.SL.Sem Idealize.ShloMosaic.Tactic
open Cert

namespace Cert.Reference4Ideal.Value
attribute [local instance] Cert.Reference4Ideal.Gen.facts

variable (m : (ℓ : Loc nD τ sig) → Buf (Elt Ideal) ℓ) (g : Dev nD → PrngReg)

set_option maxHeartbeats 4000000 in
theorem res_209 : θ_run (defs (F := Ideal)) (onTc (τ := τ) (main (F := Ideal))) ⟨m, fun _ => 0, g⟩ (fun r => ∀ c : Dev nD,
    r.2.mem ((c.tc : Thread nD τ).loc main_v209) = y209 (m (c.tc.loc main_arg0)) (m (c.tc.loc main_arg1)) (m (c.tc.loc main_arg2))) := by
  hlo_run
  rfl

set_option maxHeartbeats 4000000 in
theorem res_210 : θ_run (defs (F := Ideal)) (onTc (τ := τ) (main (F := Ideal))) ⟨m, fun _ => 0, g⟩ (fun r => ∀ c : Dev nD,
    r.2.mem ((c.tc : Thread nD τ).loc main_v210) = y210 (m (c.tc.loc main_arg0)) (m (c.tc.loc main_arg1)) (m (c.tc.loc main_arg2))) := by
  hlo_run
  rfl

set_option maxHeartbeats 4000000 in
theorem res_211 : θ_run (defs (F := Ideal)) (onTc (τ := τ) (main (F := Ideal))) ⟨m, fun _ => 0, g⟩ (fun r => ∀ c : Dev nD,
    r.2.mem ((c.tc : Thread nD τ).loc main_v211) = y211 (m (c.tc.loc main_arg0)) (m (c.tc.loc main_arg1)) (m (c.tc.loc main_arg2))) := by
  hlo_run
  rfl

set_option maxHeartbeats 4000000 in
theorem res_212 : θ_run (defs (F := Ideal)) (onTc (τ := τ) (main (F := Ideal))) ⟨m, fun _ => 0, g⟩ (fun r => ∀ c : Dev nD,
    r.2.mem ((c.tc : Thread nD τ).loc main_v212) = y212 (m (c.tc.loc main_arg0)) (m (c.tc.loc main_arg1)) (m (c.tc.loc main_arg2))) := by
  hlo_run
  rfl

set_option maxHeartbeats 4000000 in
theorem res_213 : θ_run (defs (F := Ideal)) (onTc (τ := τ) (main (F := Ideal))) ⟨m, fun _ => 0, g⟩ (fun r => ∀ c : Dev nD,
    r.2.mem ((c.tc : Thread nD τ).loc main_v213) = y213 (m (c.tc.loc main_arg0)) (m (c.tc.loc main_arg1)) (m (c.tc.loc main_arg2))) := by
  hlo_run
  rfl

set_option maxHeartbeats 4000000 in
theorem res_214 : θ_run (defs (F := Ideal)) (onTc (τ := τ) (main (F := Ideal))) ⟨m, fun _ => 0, g⟩ (fun r => ∀ c : Dev nD,
    r.2.mem ((c.tc : Thread nD τ).loc main_v214) = y214 (m (c.tc.loc main_arg0)) (m (c.tc.loc main_arg1)) (m (c.tc.loc main_arg2))) := by
  hlo_run
  rfl

set_option maxHeartbeats 4000000 in
theorem res_215 : θ_run (defs (F := Ideal)) (onTc (τ := τ) (main (F := Ideal))) ⟨m, fun _ => 0, g⟩ (fun r => ∀ c : Dev nD,
    r.2.mem ((c.tc : Thread nD τ).loc main_v215) = y215 (m (c.tc.loc main_arg0)) (m (c.tc.loc main_arg1)) (m (c.tc.loc main_arg2))) := by
  hlo_run
  rfl

end Cert.Reference4Ideal.Value
end
-- ==== Proof.ProjResA.lean ====
module

public import proofs.«01_k».proof.Proof.ProjRef
public import proofs.«01_k».proof.Proof.Gen.Reference4Ideal

/-!
What it ends holding in the first packed result: its seven columns of blocks, and their concatenation.
-/

@[expose] public noncomputable section

set_option maxRecDepth 65536

open Idealize.ShloMosaic Idealize.ShloMosaic.TcCoe Idealize.SL.Sem Idealize.ShloMosaic.Tactic
open Cert

namespace Cert.Reference4Ideal.Value
attribute [local instance] Cert.Reference4Ideal.Gen.facts
open Cert.Reference4Ideal.Gen

variable (m : (ℓ : Loc nD τ sig) → Buf (Elt Ideal) ℓ) (g : Dev nD → PrngReg)

/-- Seven blocks of 1024 columns side by side. -/
def seven (a b c d e f g : FVec Ideal S32768x1024 .bf16) : FVec Ideal S32768x7168 .bf16 :=
  concatenate S32768x7168 1 [⟨S32768x1024, a⟩, ⟨S32768x1024, b⟩, ⟨S32768x1024, c⟩, ⟨S32768x1024, d⟩, ⟨S32768x1024, e⟩, ⟨S32768x1024, f⟩, ⟨S32768x1024, g⟩] concatenates_S32768x1024_S32768x1024_S32768x1024_S32768x1024_S32768x1024_S32768x1024_S32768x1024_S32768x7168_d1

theorem after_from (n : ℕ) (ops : List (HloOp τ sig (Elt Ideal))) (V : Valuation τ sig (Elt Ideal)) :
    StableHlo.after ops V = StableHlo.after (ops.drop n) (StableHlo.after (ops.take n) V) := by
  induction n generalizing ops V with
  | zero => rfl
  | succ n ih => cases ops with
    | nil => rfl
    | cons op l => exact ih l _

set_option maxHeartbeats 4000000 in
theorem res_184 : θ_run (defs (F := Ideal)) (onTc (τ := τ) (main (F := Ideal))) ⟨m, fun _ => 0, g⟩ (fun r => ∀ c : Dev nD,
    r.2.mem ((c.tc : Thread nD τ).loc main_v184) = truncf .bf16 ((y102 (m (c.tc.loc main_arg0)) (m (c.tc.loc main_arg1)) (m (c.tc.loc main_arg2)) (m (c.tc.loc main_arg3)) (m (c.tc.loc main_arg14)))) bitsLt_bf16_f32) := by
  hlo_run
  rfl

set_option maxHeartbeats 4000000 in
theorem res_185 : θ_run (defs (F := Ideal)) (onTc (τ := τ) (main (F := Ideal))) ⟨m, fun _ => 0, g⟩ (fun r => ∀ c : Dev nD,
    r.2.mem ((c.tc : Thread nD τ).loc main_v185) = truncf .bf16 ((y165 (m (c.tc.loc main_arg0)) (m (c.tc.loc main_arg1)) (m (c.tc.loc main_arg2)) (m (c.tc.loc main_arg3)) (m (c.tc.loc main_arg6)) (m (c.tc.loc main_arg7)) (m (c.tc.loc main_arg10)) (m (c.tc.loc main_arg14)))) bitsLt_bf16_f32) := by
  hlo_run
  rfl

set_option maxHeartbeats 4000000 in
theorem res_186 : θ_run (defs (F := Ideal)) (onTc (τ := τ) (main (F := Ideal))) ⟨m, fun _ => 0, g⟩ (fun r => ∀ c : Dev nD,
    r.2.mem ((c.tc : Thread nD τ).loc main_v186) = truncf .bf16 ((y104 (m (c.tc.loc main_arg0)) (m (c.tc.loc main_arg1)) (m (c.tc.loc main_arg2)) (m (c.tc.loc main_arg3)) (m (c.tc.loc main_arg14)))) bitsLt_bf16_f32) := by
  hlo_run
  rfl

set_option maxHeartbeats 4000000 in
theorem res_187 : θ_run (defs (F := Ideal)) (onTc (τ := τ) (main (F := Ideal))) ⟨m, fun _ => 0, g⟩ (fun r => ∀ c : Dev nD,
    r.2.mem ((c.tc : Thread nD τ).loc main_v187) = truncf .bf16 (Host.negf (y156 (m (c.tc.loc main_arg0)) (m (c.tc.loc main_arg1)) (m (c.tc.loc main_arg2)) (m (c.tc.loc main_arg3)) (m (c.tc.loc main_arg9)) (m (c.tc.loc main_arg14)))) bitsLt_bf16_f32) := by
  hlo_run
  rfl

set_option maxHeartbeats 4000000 in
theorem res_188 : θ_run (defs (F := Ideal)) (onTc (τ := τ) (main (F := Ideal))) ⟨m, fun _ => 0, g⟩ (fun r => ∀ c : Dev nD,
    r.2.mem ((c.tc : Thread nD τ).loc main_v188) = truncf .bf16 (mulf (y156 (m (c.tc.loc main_arg0)) (m (c.tc.loc main_arg1)) (m (c.tc.loc main_arg2)) (m (c.tc.loc main_arg3)) (m (c.tc.loc main_arg9)) (m (c.tc.loc main_arg14))) (y134 (m (c.tc.loc main_arg0)) (m (c.tc.loc main_arg1)) (m (c.tc.loc main_arg2)) (m (c.tc.loc main_arg3)) (m (c.tc.loc main_arg6)) (m (c.tc.loc main_arg7)) (m (c.tc.loc main_arg14)))) bitsLt_bf16_f32) := by
  hlo_run
  rfl

set_option maxHeartbeats 4000000 in
theorem res_179 : θ_run (defs (F := Ideal)) (onTc (τ := τ) (main (F := Ideal))) ⟨m, fun _ => 0, g⟩ (fun r => ∀ c : Dev nD,
    r.2.mem ((c.tc : Thread nD τ).loc main_v179) = (y179 (m (c.tc.loc main_arg0)) (m (c.tc.loc main_arg1)) (m (c.tc.loc main_arg2)) (m (c.tc.loc main_arg3)) (m (c.tc.loc main_arg4)) (m (c.tc.loc main_arg5)) (m (c.tc.loc main_arg14)))) := by
  hlo_run
  rfl

set_option maxHeartbeats 4000000 in
theorem res_189 : θ_run (defs (F := Ideal)) (onTc (τ := τ) (main (F := Ideal))) ⟨m, fun _ => 0, g⟩ (fun r => ∀ c : Dev nD,
    r.2.mem ((c.tc : Thread nD τ).loc main_v189) = truncf .bf16 (subf (y122 (m (c.tc.loc main_arg0)) (m (c.tc.loc main_arg1)) (m (c.tc.loc main_arg2)) (m (c.tc.loc main_arg3)) (m (c.tc.loc main_arg4)) (m (c.tc.loc main_arg5)) (m (c.tc.loc main_arg14))) (extf .f32 (y179 (m (c.tc.loc main_arg0)) (m (c.tc.loc main_arg1)) (m (c.tc.loc main_arg2)) (m (c.tc.loc main_arg3)) (m (c.tc.loc main_arg4)) (m (c.tc.loc main_arg5)) (m (c.tc.loc main_arg14))) bitsLt_bf16_f32)) bitsLt_bf16_f32) := by
  hlo_run
  rfl

set_option maxHeartbeats 4000000 in
theorem res_join : θ_run (defs (F := Ideal)) (onTc (τ := τ) (main (F := Ideal))) ⟨m, fun _ => 0, g⟩ (fun r => ∀ c : Dev nD,
    r.2.mem ((c.tc : Thread nD τ).loc main_v190) = seven (r.2.mem ((c.tc : Thread nD τ).loc main_v184)) (r.2.mem ((c.tc : Thread nD τ).loc main_v185)) (r.2.mem ((c.tc : Thread nD τ).loc main_v186)) (r.2.mem ((c.tc : Thread nD τ).loc main_v187)) (r.2.mem ((c.tc : Thread nD τ).loc main_v188)) (r.2.mem ((c.tc : Thread nD τ).loc main_v179)) (r.2.mem ((c.tc : Thread nD τ).loc main_v189))) := by
  refine θ_run_mono (StableHlo.run_hlo _ _ (by hlo_seq) (by decide) (by decide) (by simp)
      (by intro _ h; (repeat (cases h with | head => rfl | tail _ h => ?_)); exact nomatch h) _ _) ?_
  intro r hr c
  refine (hr c main_v190).trans (Eq.trans ?_ (congr (congr (congr (congr (congr (congr (congrArg seven (hr c main_v184)) (hr c main_v185)) (hr c main_v186)) (hr c main_v187)) (hr c main_v188)) (hr c main_v179)) (hr c main_v189)).symm)
  have key : ∀ (ops : List (HloOp τ sig (Elt Ideal))) (V : Valuation τ sig (Elt Ideal)),
      StableHlo.after ops V = StableHlo.after (ops.drop 198) (StableHlo.after (ops.take 198) V) := after_from 198
  generalize StableHlo.launchContents m c = V
  rw [key _ V]
  generalize StableHlo.after (List.take 198 _) V = W
  simp only [List.drop_succ_cons, List.drop_zero]
  rfl

set_option maxHeartbeats 4000000 in
theorem res_190 : θ_run (defs (F := Ideal)) (onTc (τ := τ) (main (F := Ideal))) ⟨m, fun _ => 0, g⟩ (fun r => ∀ c : Dev nD,
    r.2.mem ((c.tc : Thread nD τ).loc main_v190) = y190 (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg9)) (m (c.tc.loc main_arg10)) (m (c.tc.loc main_arg14))) := by
  refine θ_run_mono (θ_run_and (res_join m g) (θ_run_and (res_184 m g) (θ_run_and (res_185 m g) (θ_run_and (res_186 m g) (θ_run_and (res_187 m g) (θ_run_and (res_188 m g) (θ_run_and (res_179 m g) (res_189 m g)))))))) ?_
  intro r hr c
  obtain ⟨hj, h0, h1, h2, h3, h4, h5, h6⟩ := hr
  refine (hj c).trans ?_
  rw [h0 c, h1 c, h2 c, h3 c, h4 c, h5 c, h6 c]
  rfl

end Cert.Reference4Ideal.Value
end
-- ==== Proof.ProjResB.lean ====
module

public import proofs.«01_k».proof.Proof.ProjRef
public import proofs.«01_k».proof.Proof.Gen.Reference4Ideal

/-!
What it ends holding in the second packed result.
-/

@[expose] public noncomputable section

set_option maxRecDepth 65536

open Idealize.ShloMosaic Idealize.ShloMosaic.TcCoe Idealize.SL.Sem Idealize.ShloMosaic.Tactic
open Cert

namespace Cert.Reference4Ideal.Value
attribute [local instance] Cert.Reference4Ideal.Gen.facts

variable (m : (ℓ : Loc nD τ sig) → Buf (Elt Ideal) ℓ) (g : Dev nD → PrngReg)

set_option maxHeartbeats 4000000 in
theorem res_202 : θ_run (defs (F := Ideal)) (onTc (τ := τ) (main (F := Ideal))) ⟨m, fun _ => 0, g⟩ (fun r => ∀ c : Dev nD,
    r.2.mem ((c.tc : Thread nD τ).loc main_v202) = y202 (m (c.tc.loc main_arg0)) (m (c.tc.loc main_arg1)) (m (c.tc.loc main_arg2)) (m (c.tc.loc main_arg3)) (m (c.tc.loc main_arg6)) (m (c.tc.loc main_arg7)) (m (c.tc.loc main_arg8)) (m (c.tc.loc main_arg10)) (m (c.tc.loc main_arg11)) (m (c.tc.loc main_arg12)) (m (c.tc.loc main_arg13)) (m (c.tc.loc main_arg14))) := by
  hlo_run
  rfl

end Cert.Reference4Ideal.Value
end
-- ==== Proof.Proj.lean ====
module

public import proofs.«01_k».proof.Proof.ProjVal
public import proofs.«01_k».proof.Proof.ProjRes
public import proofs.«01_k».proof.Proof.ProjResA
public import proofs.«01_k».proof.Proof.ProjResB

/-!
The projection: its reference's frame, and the two programs' results equal at the ideal instance.
-/

@[expose] public noncomputable section

set_option maxRecDepth 65536

open Idealize.ShloMosaic Idealize.ShloMosaic.TcCoe Idealize.SL.Sem Idealize.ShloMosaic.Tactic
open Cert

namespace Cert.Proof
attribute [local instance] Cert.Kernel4Ideal.Gen.facts Cert.Reference4Ideal.Gen.facts

set_option maxHeartbeats 4000000 in
theorem fr4ref : quiescent_Reference4Ideal := by
  intro m g _
  refine (θ_run Cert.Reference4Ideal.defs _ _).mono (fun r h => ⟨h, Idealize.ShloMosaic.sem_eq_zero_of_no_sems (by decide) r.2⟩) ?_
  hlo_run

set_option maxHeartbeats 4000000 in
theorem alg4 : algebraic_Kernel4Ideal_Reference4Ideal := by
  intro m g m' g' hpre hagree
  refine ⟨fun c => Cert.Reference4Ideal.Value.y209 (m (c.tc.loc Cert.Kernel4Ideal.main_arg0)) (m (c.tc.loc Cert.Kernel4Ideal.main_arg1)) (m (c.tc.loc Cert.Kernel4Ideal.main_arg2)),
    fun c => Cert.Reference4Ideal.Value.y210 (m (c.tc.loc Cert.Kernel4Ideal.main_arg0)) (m (c.tc.loc Cert.Kernel4Ideal.main_arg1)) (m (c.tc.loc Cert.Kernel4Ideal.main_arg2)),
    fun c => Cert.Reference4Ideal.Value.y211 (m (c.tc.loc Cert.Kernel4Ideal.main_arg0)) (m (c.tc.loc Cert.Kernel4Ideal.main_arg1)) (m (c.tc.loc Cert.Kernel4Ideal.main_arg2)),
    fun c => Cert.Reference4Ideal.Value.y212 (m (c.tc.loc Cert.Kernel4Ideal.main_arg0)) (m (c.tc.loc Cert.Kernel4Ideal.main_arg1)) (m (c.tc.loc Cert.Kernel4Ideal.main_arg2)),
    fun c => Cert.Reference4Ideal.Value.y213 (m (c.tc.loc Cert.Kernel4Ideal.main_arg0)) (m (c.tc.loc Cert.Kernel4Ideal.main_arg1)) (m (c.tc.loc Cert.Kernel4Ideal.main_arg2)),
    fun c => Cert.Reference4Ideal.Value.y214 (m (c.tc.loc Cert.Kernel4Ideal.main_arg0)) (m (c.tc.loc Cert.Kernel4Ideal.main_arg1)) (m (c.tc.loc Cert.Kernel4Ideal.main_arg2)),
    fun c => Cert.Reference4Ideal.Value.y215 (m (c.tc.loc Cert.Kernel4Ideal.main_arg0)) (m (c.tc.loc Cert.Kernel4Ideal.main_arg1)) (m (c.tc.loc Cert.Kernel4Ideal.main_arg2)),
    fun c => Cert.Reference4Ideal.Value.y190 (m (c.tc.loc Cert.Kernel4Ideal.main_arg0)) (m (c.tc.loc Cert.Kernel4Ideal.main_arg1)) (m (c.tc.loc Cert.Kernel4Ideal.main_arg2)) (m (c.tc.loc Cert.Kernel4Ideal.main_arg3)) (m (c.tc.loc Cert.Kernel4Ideal.main_arg4)) (m (c.tc.loc Cert.Kernel4Ideal.main_arg5)) (m (c.tc.loc Cert.Kernel4Ideal.main_arg6)) (m (c.tc.loc Cert.Kernel4Ideal.main_arg7)) (m (c.tc.loc Cert.Kernel4Ideal.main_arg9)) (m (c.tc.loc Cert.Kernel4Ideal.main_arg10)) (m (c.tc.loc Cert.Kernel4Ideal.main_arg14)),
    fun c => Cert.Reference4Ideal.Value.y202 (m (c.tc.loc Cert.Kernel4Ideal.main_arg0)) (m (c.tc.loc Cert.Kernel4Ideal.main_arg1)) (m (c.tc.loc Cert.Kernel4Ideal.main_arg2)) (m (c.tc.loc Cert.Kernel4Ideal.main_arg3)) (m (c.tc.loc Cert.Kernel4Ideal.main_arg6)) (m (c.tc.loc Cert.Kernel4Ideal.main_arg7)) (m (c.tc.loc Cert.Kernel4Ideal.main_arg8)) (m (c.tc.loc Cert.Kernel4Ideal.main_arg10)) (m (c.tc.loc Cert.Kernel4Ideal.main_arg11)) (m (c.tc.loc Cert.Kernel4Ideal.main_arg12)) (m (c.tc.loc Cert.Kernel4Ideal.main_arg13)) (m (c.tc.loc Cert.Kernel4Ideal.main_arg14)), ?_, ?_⟩
  · refine θ_run_mono (θ_run_and (Cert.Kernel4Ideal.Row.run_main m g) (Cert.Kernel4Ideal.Row.frame m g)) ?_
    intro r hr c
    exact ⟨((hr.1 c).1 13).trans (Cert.Kernel4Ideal.Value.val_q m c), ((hr.1 c).1 14).trans (Cert.Kernel4Ideal.Value.val_ka m c), ((hr.1 c).1 15).trans (Cert.Kernel4Ideal.Value.val_kb m c), ((hr.1 c).1 16).trans (Cert.Kernel4Ideal.Value.val_va m c), ((hr.1 c).1 17).trans (Cert.Kernel4Ideal.Value.val_vb m c), ((hr.1 c).1 18).trans (Cert.Kernel4Ideal.Value.val_ga m c), ((hr.1 c).1 19).trans (Cert.Kernel4Ideal.Value.val_gr m c), ((hr.1 c).1 20).trans (Cert.Kernel4Ideal.Value.val_pka m c), ((hr.1 c).1 21).trans (Cert.Kernel4Ideal.Value.val_pkb m c), hr.2.1 c⟩
  · refine θ_run_mono (θ_run_and (Cert.Reference4Ideal.Value.res_209 m' g') (θ_run_and (Cert.Reference4Ideal.Value.res_210 m' g') (θ_run_and (Cert.Reference4Ideal.Value.res_211 m' g') (θ_run_and (Cert.Reference4Ideal.Value.res_212 m' g') (θ_run_and (Cert.Reference4Ideal.Value.res_213 m' g') (θ_run_and (Cert.Reference4Ideal.Value.res_214 m' g') (θ_run_and (Cert.Reference4Ideal.Value.res_215 m' g') (θ_run_and (Cert.Reference4Ideal.Value.res_190 m' g') (θ_run_and (Cert.Reference4Ideal.Value.res_202 m' g') (fr4ref m' g' trivial)))))))))) ?_
    intro r hr c
    obtain ⟨h0, h1, h2, h3, h4, h5, h6, h7, h8, hf⟩ := hr
    obtain ⟨e0, e1, e2, e3, e4, e5, e6, e7, e8, e9, e10, e11, e12, e13, e14⟩ := hagree c
    exact ⟨(h0 c).trans (by rw [e0, e1, e2]),
      (h1 c).trans (by rw [e0, e1, e2]),
      (h2 c).trans (by rw [e0, e1, e2]),
      (h3 c).trans (by rw [e0, e1, e2]),
      (h4 c).trans (by rw [e0, e1, e2]),
      (h5 c).trans (by rw [e0, e1, e2]),
      (h6 c).trans (by rw [e0, e1, e2]),
      (h7 c).trans (by rw [e0, e1, e2, e3, e4, e5, e6, e7, e9, e10, e14]),
      (h8 c).trans (by rw [e0, e1, e2, e3, e6, e7, e8, e10, e11, e12, e13, e14]), hf.1 c⟩

end Cert.Proof
end
-- ==== Proof.lean ====
module

public import proofs.«01_k».proof.Defs
public import proofs.«01_k».proof.Proof.Outs
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference4Ideal
public import proofs.«01_k».proof.Proof.Mixffn
public import proofs.«01_k».proof.Proof.ProjBits
public import proofs.«01_k».proof.Proof.Proj

@[expose] public section

open Idealize.ShloMosaic Idealize.ShloMosaic.TcCoe Idealize.SL.Sem

namespace Cert.Kernel.OnePoint

open Cert.Kernel Cert.Kernel.Gen Cert.Kernel.Value

variable (m : (ℓ : Loc nD τ sig) → Buf (Elt Bits) ℓ) (ρ : Dev nD → PrngReg)

/-- Window 0's block at the one grid point is its whole array. -/
theorem at0 : ∀ t : Fin cfg0.N, win0_0.index t (0 : Fin 2) = 0 ∧ win0_0.index t (1 : Fin 2) = 0 :=
  (by decide +kernel : ∀ t : Fin grid0.N, _)

theorem emb0 (t : Fin cfg0.N) (j : S128x7168.Idx) : ((cfg0.win 0).blk t).view.emb j = j := by
  obtain ⟨e0, e1⟩ := at0 t
  funext a; apply Fin.ext
  match a with
  | ⟨0, _⟩ => show win0_0.index t (0 : Fin 2) * 128 + 1 * (j 0).val = (j 0).val; omega
  | ⟨1, _⟩ => show win0_0.index t (1 : Fin 2) * 7168 + 1 * (j 1).val = (j 1).val; omega

theorem block0 (c : Dev nD) (t : Fin cfg0.N) : iblk m c 0 t = V m c main_arg0 := by
  funext j; show V m c main_arg0 (((cfg0.win 0).blk t).view.emb j) = V m c main_arg0 j; rw [emb0]

/-- Window 1's block at the one grid point is its whole array. -/
theorem at1 : ∀ t : Fin cfg0.N, win0_1.index t (0 : Fin 2) = 0 ∧ win0_1.index t (1 : Fin 2) = 0 :=
  (by decide +kernel : ∀ t : Fin grid0.N, _)

theorem emb1 (t : Fin cfg0.N) (j : S128x2048.Idx) : ((cfg0.win 1).blk t).view.emb j = j := by
  obtain ⟨e0, e1⟩ := at1 t
  funext a; apply Fin.ext
  match a with
  | ⟨0, _⟩ => show win0_1.index t (0 : Fin 2) * 128 + 1 * (j 0).val = (j 0).val; omega
  | ⟨1, _⟩ => show win0_1.index t (1 : Fin 2) * 2048 + 1 * (j 1).val = (j 1).val; omega

theorem block1 (c : Dev nD) (t : Fin cfg0.N) : iblk m c 1 t = V m c main_arg1 := by
  funext j; show V m c main_arg1 (((cfg0.win 1).blk t).view.emb j) = V m c main_arg1 j; rw [emb1]

/-- Window 2's block at the one grid point is its whole array. -/
theorem at2 : ∀ t : Fin cfg0.N, win0_2.index t (0 : Fin 3) = 0 ∧ win0_2.index t (1 : Fin 3) = 0 ∧ win0_2.index t (2 : Fin 3) = 0 :=
  (by decide +kernel : ∀ t : Fin grid0.N, _)

theorem emb2 (t : Fin cfg0.N) (j : S4x256x256.Idx) : ((cfg0.win 2).blk t).view.emb j = j := by
  obtain ⟨e0, e1, e2⟩ := at2 t
  funext a; apply Fin.ext
  match a with
  | ⟨0, _⟩ => show win0_2.index t (0 : Fin 3) * 4 + 1 * (j 0).val = (j 0).val; omega
  | ⟨1, _⟩ => show win0_2.index t (1 : Fin 3) * 256 + 1 * (j 1).val = (j 1).val; omega
  | ⟨2, _⟩ => show win0_2.index t (2 : Fin 3) * 256 + 1 * (j 2).val = (j 2).val; omega

theorem block2 (c : Dev nD) (t : Fin cfg0.N) : iblk m c 2 t = V m c main_arg2 := by
  funext j; show V m c main_arg2 (((cfg0.win 2).blk t).view.emb j) = V m c main_arg2 j; rw [emb2]

/-- Window 3's block at the one grid point is its whole array. -/
theorem at3 : ∀ t : Fin cfg0.N, win0_3.index t (0 : Fin 2) = 0 ∧ win0_3.index t (1 : Fin 2) = 0 :=
  (by decide +kernel : ∀ t : Fin grid0.N, _)

theorem emb3 (t : Fin cfg0.N) (j : S128x1024.Idx) : ((cfg0.win 3).blk t).view.emb j = j := by
  obtain ⟨e0, e1⟩ := at3 t
  funext a; apply Fin.ext
  match a with
  | ⟨0, _⟩ => show win0_3.index t (0 : Fin 2) * 128 + 1 * (j 0).val = (j 0).val; omega
  | ⟨1, _⟩ => show win0_3.index t (1 : Fin 2) * 1024 + 1 * (j 1).val = (j 1).val; omega

/-- Window 4's block at the one grid point is its whole array. -/
theorem at4 : ∀ t : Fin cfg0.N, win0_4.index t (0 : Fin 4) = 0 ∧ win0_4.index t (1 : Fin 4) = 0 ∧ win0_4.index t (2 : Fin 4) = 0 ∧ win0_4.index t (3 : Fin 4) = 0 :=
  (by decide +kernel : ∀ t : Fin grid0.N, _)

theorem emb4 (t : Fin cfg0.N) (j : S1x4x256x256.Idx) : ((cfg0.win 4).blk t).view.emb j = j := by
  obtain ⟨e0, e1, e2, e3⟩ := at4 t
  funext a; apply Fin.ext
  match a with
  | ⟨0, _⟩ => show win0_4.index t (0 : Fin 4) * 1 + 1 * (j 0).val = (j 0).val; omega
  | ⟨1, _⟩ => show win0_4.index t (1 : Fin 4) * 4 + 1 * (j 1).val = (j 1).val; omega
  | ⟨2, _⟩ => show win0_4.index t (2 : Fin 4) * 256 + 1 * (j 2).val = (j 2).val; omega
  | ⟨3, _⟩ => show win0_4.index t (3 : Fin 4) * 256 + 1 * (j 3).val = (j 3).val; omega

/-- The result of window 3 is the reference's, of the arguments. -/
theorem final3 (c : Dev nD) : (dats m 0 c).arrAt 3 cfg0.N = Cert.Reference.Gen.out0_3 (m ((c : Thread nD τ).loc main_arg0)) (m ((c : Thread nD τ).loc main_arg1)) (m ((c : Thread nD τ).loc main_arg2)) := by
  have cut : ∀ (t : Fin cfg0.N) (X : Vec Bits S128x1024 .bf16),
      (cfg0.win 3).cut (grid0.coords t) X = ((cfg0.win 3).blk t).view.read (Elt Bits) X := by
    intro t X
    funext j
    show X j = X (((cfg0.win 3).blk t).view.emb j)
    rw [emb3]
  have flushed : ∀ t : Fin cfg0.N, (cfg0.win 3).flush t = true → (dats m 0 c).flushed 3 t
      = ((cfg0.win 3).blk t).view.read (Elt Bits) (Cert.Reference.Gen.out0_3 (V m c main_arg0) (V m c main_arg1) (V m c main_arg2)) := by
    intro t _
    rw [flushed3_A, Cert.Mirror.out3, block0, block1, block2]
    exact cut t _
  have covered : ∀ i : S128x1024.Idx, ∃ t : Fin cfg0.N, (cfg0.win 3).flush t = true ∧ i ∈ ((cfg0.win 3).blk t).view.set :=
    fun i => ⟨(⟨0, by decide⟩ : Fin cfg0.N), flush0_3 _, by
      have h := ((cfg0.win 3).blk (⟨0, by decide⟩ : Fin cfg0.N)).view.emb_mem_set i
      rwa [emb3] at h⟩
  exact ((dats m 0 c).arrAt_eq_of_cover 3 (Cert.Reference.Gen.out0_3 (V m c main_arg0) (V m c main_arg1) (V m c main_arg2)) flushed covered).trans
    (by rw [V_main_arg0, V_main_arg1, V_main_arg2])

/-- The result of window 4 is the reference's, of the arguments. -/
theorem final4 (c : Dev nD) : (dats m 0 c).arrAt 4 cfg0.N = Cert.Reference.Gen.out0_4 (m ((c : Thread nD τ).loc main_arg0)) (m ((c : Thread nD τ).loc main_arg1)) (m ((c : Thread nD τ).loc main_arg2)) := by
  have cut : ∀ (t : Fin cfg0.N) (X : Vec Bits S1x4x256x256 .f32),
      (cfg0.win 4).cut (grid0.coords t) X = ((cfg0.win 4).blk t).view.read (Elt Bits) X := by
    intro t X
    funext j
    show X j = X (((cfg0.win 4).blk t).view.emb j)
    rw [emb4]
  have flushed : ∀ t : Fin cfg0.N, (cfg0.win 4).flush t = true → (dats m 0 c).flushed 4 t
      = ((cfg0.win 4).blk t).view.read (Elt Bits) (Cert.Reference.Gen.out0_4 (V m c main_arg0) (V m c main_arg1) (V m c main_arg2)) := by
    intro t _
    rw [flushed4_A, Cert.Mirror.out4, block0, block1, block2]
    exact cut t _
  have covered : ∀ i : S1x4x256x256.Idx, ∃ t : Fin cfg0.N, (cfg0.win 4).flush t = true ∧ i ∈ ((cfg0.win 4).blk t).view.set :=
    fun i => ⟨(⟨0, by decide⟩ : Fin cfg0.N), flush0_4 _, by
      have h := ((cfg0.win 4).blk (⟨0, by decide⟩ : Fin cfg0.N)).view.emb_mem_set i
      rwa [emb4] at h⟩
  exact ((dats m 0 c).arrAt_eq_of_cover 4 (Cert.Reference.Gen.out0_4 (V m c main_arg0) (V m c main_arg1) (V m c main_arg2)) flushed covered).trans
    (by rw [V_main_arg0, V_main_arg1, V_main_arg2])

end Cert.Kernel.OnePoint

theorem Cert.Proof.bitexact : @Cert.bitexact_Kernel_Reference Cert.Kernel.Gen.facts Cert.Reference.Gen.facts := by
  intro m g m' g' _ ha
  refine ⟨fun c => Cert.Reference.Gen.out0_3 (m ((c.tc : Thread Cert.Kernel.nD Cert.Kernel.τ).loc Cert.Kernel.main_arg0))
      (m ((c.tc : Thread Cert.Kernel.nD Cert.Kernel.τ).loc Cert.Kernel.main_arg1)) (m ((c.tc : Thread Cert.Kernel.nD Cert.Kernel.τ).loc Cert.Kernel.main_arg2)),
    fun c => Cert.Reference.Gen.out0_4 (m ((c.tc : Thread Cert.Kernel.nD Cert.Kernel.τ).loc Cert.Kernel.main_arg0))
      (m ((c.tc : Thread Cert.Kernel.nD Cert.Kernel.τ).loc Cert.Kernel.main_arg1)) (m ((c.tc : Thread Cert.Kernel.nD Cert.Kernel.τ).loc Cert.Kernel.main_arg2)),
    ?_, ?_⟩
  · refine (θ_run _ _ _).mono (fun r h c => ?_) (Cert.Kernel.Value.run_blocks m g)
    obtain ⟨h3, h4, h⟩ := h c
    exact ⟨h3.trans (Cert.Kernel.OnePoint.final3 m c), h4.trans (Cert.Kernel.OnePoint.final4 m c), h⟩
  · refine (θ_run _ _ _).mono (fun r h c => ?_) (Cert.Reference.Value.run m' g')
    obtain ⟨h3, h4, h⟩ := h c
    obtain ⟨a0, a1, a2⟩ := ha c
    refine ⟨h3.trans ?_, h4.trans ?_, h⟩
    · rw [← Cert.Reference.Value.out3_eq]
      exact congr (congrArg₂ Cert.Reference.Gen.out0_3 a0 a1) a2
    · rw [← Cert.Reference.Value.out4_eq]
      exact congr (congrArg₂ Cert.Reference.Gen.out0_4 a0 a1) a2

theorem Cert.Proof.claim : Cert.Claim :=
  ⟨Cert.Kernel.Gen.facts, Cert.Reference.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    fun m ρ _ => Cert.Kernel.Gen.frame m ρ, fun m ρ _ => Cert.Reference.Gen.frame m ρ,
    fun m ρ _ => Cert.Kernel2.Gen.frame m ρ, fun m ρ _ => Cert.Kernel2Ideal.Gen.frame m ρ, Cert.Proof.fr2,
    fun m ρ _ => Cert.Kernel3.Gen.frame m ρ, fun m ρ _ => Cert.Kernel3Ideal.Gen.frame m ρ, Cert.Proof.fr3,
    Cert.Proof.fr4, fun m ρ _ => Cert.Kernel4Ideal.Row.frame m ρ, Cert.Proof.fr4ref,
    Cert.Proof.bitexact, trivial, Cert.Proof.alg2, trivial, Cert.Proof.alg3, trivial,
    Cert.Proof.alg4⟩
